-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_InCRefIdeal (m : (ℓ : Loc Cert.InCRefIdeal.nD Cert.InCRefIdeal.τ Cert.InCRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def Pre_MemKV (m : (ℓ : Loc Cert.MemKV.nD Cert.MemKV.τ Cert.MemKV.sig) → Buf (Elt Bits) ℓ) : Prop :=
  True

def Pre_MemKVIdeal (m : (ℓ : Loc Cert.MemKVIdeal.nD Cert.MemKVIdeal.τ Cert.MemKVIdeal.sig) → Buf (Elt Ideal) ℓ) : Prop :=
  True

def Pre_MemKVRefIdeal (m : (ℓ : Loc Cert.MemKVRefIdeal.nD Cert.MemKVRefIdeal.τ Cert.MemKVRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCRefIdeal (m : (ℓ : Loc Cert.OutCRefIdeal.nD Cert.OutCRefIdeal.τ Cert.OutCRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_SmpA (m : (ℓ : Loc Cert.SmpA.nD Cert.SmpA.τ Cert.SmpA.sig) → Buf (Elt Bits) ℓ) : Prop :=
  True

def Pre_SmpAIdeal (m : (ℓ : Loc Cert.SmpAIdeal.nD Cert.SmpAIdeal.τ Cert.SmpAIdeal.sig) → Buf (Elt Ideal) ℓ) : Prop :=
  True

def Pre_SmpARefIdeal (m : (ℓ : Loc Cert.SmpARefIdeal.nD Cert.SmpARefIdeal.τ Cert.SmpARefIdeal.sig) → Buf (Elt Ideal) ℓ) : Prop :=
  True

def Pre_SmpS (m : (ℓ : Loc Cert.SmpS.nD Cert.SmpS.τ Cert.SmpS.sig) → Buf (Elt Bits) ℓ) : Prop :=
  True

def Pre_SmpSIdeal (m : (ℓ : Loc Cert.SmpSIdeal.nD Cert.SmpSIdeal.τ Cert.SmpSIdeal.sig) → Buf (Elt Ideal) ℓ) : Prop :=
  True

def Pre_SmpSRefIdeal (m : (ℓ : Loc Cert.SmpSRefIdeal.nD Cert.SmpSRefIdeal.τ Cert.SmpSRefIdeal.sig) → Buf (Elt Ideal) ℓ) : Prop :=
  True

def Pre_SmpF (m : (ℓ : Loc Cert.SmpF.nD Cert.SmpF.τ Cert.SmpF.sig) → Buf (Elt Bits) ℓ) : Prop :=
  True

def Pre_SmpFIdeal (m : (ℓ : Loc Cert.SmpFIdeal.nD Cert.SmpFIdeal.τ Cert.SmpFIdeal.sig) → Buf (Elt Ideal) ℓ) : Prop :=
  True

def Pre_SmpFRefIdeal (m : (ℓ : Loc Cert.SmpFRefIdeal.nD Cert.SmpFRefIdeal.τ Cert.SmpFRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1)
      ∧ r.2.mem ((c.tc : Thread Cert.InC.nD Cert.InC.τ).loc Cert.InC.main_arg2) = m ((c.tc : Thread Cert.InC.nD Cert.InC.τ).loc Cert.InC.main_arg2))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
      ∧ r.2.mem ((c.tc : Thread Cert.InCIdeal.nD Cert.InCIdeal.τ).loc Cert.InCIdeal.main_arg2) = m ((c.tc : Thread Cert.InCIdeal.nD Cert.InCIdeal.τ).loc Cert.InCIdeal.main_arg2))
      ∧ r.2.sem = fun _ => 0)

def quiescent_InCRefIdeal [hInCRefIdeal : Cert.InCRefIdeal.Facts] : Prop :=
  ∀ (m : (ℓ : Loc Cert.InCRefIdeal.nD Cert.InCRefIdeal.τ Cert.InCRefIdeal.sig) → Buf (Elt Ideal) ℓ) (g : Dev Cert.InCRefIdeal.nD → PrngReg), Pre_InCRefIdeal m →
    θ_run (Cert.InCRefIdeal.defs (F := Ideal)) (onTc (τ := Cert.InCRefIdeal.τ) (Cert.InCRefIdeal.main (F := Ideal))) ⟨m, fun _ => 0, g⟩ (fun r => (∀ c : Dev Cert.InCRefIdeal.nD,
      r.2.mem ((c.tc : Thread Cert.InCRefIdeal.nD Cert.InCRefIdeal.τ).loc Cert.InCRefIdeal.main_arg0) = m ((c.tc : Thread Cert.InCRefIdeal.nD Cert.InCRefIdeal.τ).loc Cert.InCRefIdeal.main_arg0)
      ∧ r.2.mem ((c.tc : Thread Cert.InCRefIdeal.nD Cert.InCRefIdeal.τ).loc Cert.InCRefIdeal.main_arg1) = m ((c.tc : Thread Cert.InCRefIdeal.nD Cert.InCRefIdeal.τ).loc Cert.InCRefIdeal.main_arg1)
      ∧ r.2.mem ((c.tc : Thread Cert.InCRefIdeal.nD Cert.InCRefIdeal.τ).loc Cert.InCRefIdeal.main_arg2) = m ((c.tc : Thread Cert.InCRefIdeal.nD Cert.InCRefIdeal.τ).loc Cert.InCRefIdeal.main_arg2))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
      ∧ r.2.mem ((c.tc : Thread Cert.InSIdeal.nD Cert.InSIdeal.τ).loc Cert.InSIdeal.main_arg2) = m ((c.tc : Thread Cert.InSIdeal.nD Cert.InSIdeal.τ).loc Cert.InSIdeal.main_arg2))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2))
      ∧ r.2.sem = fun _ => 0)

def quiescent_MemKV [hMemKV : Cert.MemKV.Facts] : Prop :=
  ∀ (m : (ℓ : Loc Cert.MemKV.nD Cert.MemKV.τ Cert.MemKV.sig) → Buf (Elt Bits) ℓ) (g : Dev Cert.MemKV.nD → PrngReg), Pre_MemKV m →
    θ_run (Cert.MemKV.defs (F := Bits)) (onTc (τ := Cert.MemKV.τ) (Cert.MemKV.main (F := Bits))) ⟨m, fun _ => 0, g⟩ (fun r => (∀ c : Dev Cert.MemKV.nD,
      r.2.mem ((c.tc : Thread Cert.MemKV.nD Cert.MemKV.τ).loc Cert.MemKV.main_arg0) = m ((c.tc : Thread Cert.MemKV.nD Cert.MemKV.τ).loc Cert.MemKV.main_arg0)
      ∧ r.2.mem ((c.tc : Thread Cert.MemKV.nD Cert.MemKV.τ).loc Cert.MemKV.main_arg1) = m ((c.tc : Thread Cert.MemKV.nD Cert.MemKV.τ).loc Cert.MemKV.main_arg1)
      ∧ r.2.mem ((c.tc : Thread Cert.MemKV.nD Cert.MemKV.τ).loc Cert.MemKV.main_arg2) = m ((c.tc : Thread Cert.MemKV.nD Cert.MemKV.τ).loc Cert.MemKV.main_arg2)
      ∧ r.2.mem ((c.tc : Thread Cert.MemKV.nD Cert.MemKV.τ).loc Cert.MemKV.main_arg3) = m ((c.tc : Thread Cert.MemKV.nD Cert.MemKV.τ).loc Cert.MemKV.main_arg3))
      ∧ r.2.sem = fun _ => 0)

def quiescent_MemKVIdeal [hMemKVIdeal : Cert.MemKVIdeal.Facts] : Prop :=
  ∀ (m : (ℓ : Loc Cert.MemKVIdeal.nD Cert.MemKVIdeal.τ Cert.MemKVIdeal.sig) → Buf (Elt Ideal) ℓ) (g : Dev Cert.MemKVIdeal.nD → PrngReg), Pre_MemKVIdeal m →
    θ_run (Cert.MemKVIdeal.defs (F := Ideal)) (onTc (τ := Cert.MemKVIdeal.τ) (Cert.MemKVIdeal.main (F := Ideal))) ⟨m, fun _ => 0, g⟩ (fun r => (∀ c : Dev Cert.MemKVIdeal.nD,
      r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
      ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
      ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2)
      ∧ r.2.mem ((c.tc : Thread Cert.MemKVIdeal.nD Cert.MemKVIdeal.τ).loc Cert.MemKVIdeal.main_arg3) = m ((c.tc : Thread Cert.MemKVIdeal.nD Cert.MemKVIdeal.τ).loc Cert.MemKVIdeal.main_arg3))
      ∧ r.2.sem = fun _ => 0)

def quiescent_MemKVRefIdeal [hMemKVRefIdeal : Cert.MemKVRefIdeal.Facts] : Prop :=
  ∀ (m : (ℓ : Loc Cert.MemKVRefIdeal.nD Cert.MemKVRefIdeal.τ Cert.MemKVRefIdeal.sig) → Buf (Elt Ideal) ℓ) (g : Dev Cert.MemKVRefIdeal.nD → PrngReg), Pre_MemKVRefIdeal m →
    θ_run (Cert.MemKVRefIdeal.defs (F := Ideal)) (onTc (τ := Cert.MemKVRefIdeal.τ) (Cert.MemKVRefIdeal.main (F := Ideal))) ⟨m, fun _ => 0, g⟩ (fun r => (∀ c : Dev Cert.MemKVRefIdeal.nD,
      r.2.mem ((c.tc : Thread Cert.MemKVRefIdeal.nD Cert.MemKVRefIdeal.τ).loc Cert.MemKVRefIdeal.main_arg0) = m ((c.tc : Thread Cert.MemKVRefIdeal.nD Cert.MemKVRefIdeal.τ).loc Cert.MemKVRefIdeal.main_arg0)
      ∧ r.2.mem ((c.tc : Thread Cert.MemKVRefIdeal.nD Cert.MemKVRefIdeal.τ).loc Cert.MemKVRefIdeal.main_arg1) = m ((c.tc : Thread Cert.MemKVRefIdeal.nD Cert.MemKVRefIdeal.τ).loc Cert.MemKVRefIdeal.main_arg1)
      ∧ r.2.mem ((c.tc : Thread Cert.MemKVRefIdeal.nD Cert.MemKVRefIdeal.τ).loc Cert.MemKVRefIdeal.main_arg2) = m ((c.tc : Thread Cert.MemKVRefIdeal.nD Cert.MemKVRefIdeal.τ).loc Cert.MemKVRefIdeal.main_arg2)
      ∧ r.2.mem ((c.tc : Thread Cert.MemKVRefIdeal.nD Cert.MemKVRefIdeal.τ).loc Cert.MemKVRefIdeal.main_arg3) = m ((c.tc : Thread Cert.MemKVRefIdeal.nD Cert.MemKVRefIdeal.τ).loc Cert.MemKVRefIdeal.main_arg3))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2)
      ∧ r.2.mem ((c.tc : Thread Cert.OutA.nD Cert.OutA.τ).loc Cert.OutA.main_arg3) = m ((c.tc : Thread Cert.OutA.nD Cert.OutA.τ).loc Cert.OutA.main_arg3)
      ∧ r.2.mem ((c.tc : Thread Cert.OutA.nD Cert.OutA.τ).loc Cert.OutA.main_arg4) = m ((c.tc : Thread Cert.OutA.nD Cert.OutA.τ).loc Cert.OutA.main_arg4)
      ∧ r.2.mem ((c.tc : Thread Cert.OutA.nD Cert.OutA.τ).loc Cert.OutA.main_arg5) = m ((c.tc : Thread Cert.OutA.nD Cert.OutA.τ).loc Cert.OutA.main_arg5))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
      ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
      ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
      ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2)
      ∧ r.2.mem ((c.tc : Thread Cert.OutARefIdeal.nD Cert.OutARefIdeal.τ).loc Cert.OutARefIdeal.main_arg3) = m ((c.tc : Thread Cert.OutARefIdeal.nD Cert.OutARefIdeal.τ).loc Cert.OutARefIdeal.main_arg3)
      ∧ r.2.mem ((c.tc : Thread Cert.OutARefIdeal.nD Cert.OutARefIdeal.τ).loc Cert.OutARefIdeal.main_arg4) = m ((c.tc : Thread Cert.OutARefIdeal.nD Cert.OutARefIdeal.τ).loc Cert.OutARefIdeal.main_arg4)
      ∧ r.2.mem ((c.tc : Thread Cert.OutARefIdeal.nD Cert.OutARefIdeal.τ).loc Cert.OutARefIdeal.main_arg5) = m ((c.tc : Thread Cert.OutARefIdeal.nD Cert.OutARefIdeal.τ).loc Cert.OutARefIdeal.main_arg5))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2)
      ∧ r.2.mem ((c.tc : Thread Cert.OutC.nD Cert.OutC.τ).loc Cert.OutC.main_arg3) = m ((c.tc : Thread Cert.OutC.nD Cert.OutC.τ).loc Cert.OutC.main_arg3)
      ∧ r.2.mem ((c.tc : Thread Cert.OutC.nD Cert.OutC.τ).loc Cert.OutC.main_arg4) = m ((c.tc : Thread Cert.OutC.nD Cert.OutC.τ).loc Cert.OutC.main_arg4))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
      ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
      ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4))
      ∧ r.2.sem = fun _ => 0)

def quiescent_OutCRefIdeal [hOutCRefIdeal : Cert.OutCRefIdeal.Facts] : Prop :=
  ∀ (m : (ℓ : Loc Cert.OutCRefIdeal.nD Cert.OutCRefIdeal.τ Cert.OutCRefIdeal.sig) → Buf (Elt Ideal) ℓ) (g : Dev Cert.OutCRefIdeal.nD → PrngReg), Pre_OutCRefIdeal m →
    θ_run (Cert.OutCRefIdeal.defs (F := Ideal)) (onTc (τ := Cert.OutCRefIdeal.τ) (Cert.OutCRefIdeal.main (F := Ideal))) ⟨m, fun _ => 0, g⟩ (fun r => (∀ c : Dev Cert.OutCRefIdeal.nD,
      r.2.mem ((c.tc : Thread Cert.OutCRefIdeal.nD Cert.OutCRefIdeal.τ).loc Cert.OutCRefIdeal.main_arg0) = m ((c.tc : Thread Cert.OutCRefIdeal.nD Cert.OutCRefIdeal.τ).loc Cert.OutCRefIdeal.main_arg0)
      ∧ r.2.mem ((c.tc : Thread Cert.OutCRefIdeal.nD Cert.OutCRefIdeal.τ).loc Cert.OutCRefIdeal.main_arg1) = m ((c.tc : Thread Cert.OutCRefIdeal.nD Cert.OutCRefIdeal.τ).loc Cert.OutCRefIdeal.main_arg1)
      ∧ r.2.mem ((c.tc : Thread Cert.OutCRefIdeal.nD Cert.OutCRefIdeal.τ).loc Cert.OutCRefIdeal.main_arg2) = m ((c.tc : Thread Cert.OutCRefIdeal.nD Cert.OutCRefIdeal.τ).loc Cert.OutCRefIdeal.main_arg2)
      ∧ r.2.mem ((c.tc : Thread Cert.OutCRefIdeal.nD Cert.OutCRefIdeal.τ).loc Cert.OutCRefIdeal.main_arg3) = m ((c.tc : Thread Cert.OutCRefIdeal.nD Cert.OutCRefIdeal.τ).loc Cert.OutCRefIdeal.main_arg3)
      ∧ r.2.mem ((c.tc : Thread Cert.OutCRefIdeal.nD Cert.OutCRefIdeal.τ).loc Cert.OutCRefIdeal.main_arg4) = m ((c.tc : Thread Cert.OutCRefIdeal.nD Cert.OutCRefIdeal.τ).loc Cert.OutCRefIdeal.main_arg4))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2)
      ∧ r.2.mem ((c.tc : Thread Cert.OutF.nD Cert.OutF.τ).loc Cert.OutF.main_arg3) = m ((c.tc : Thread Cert.OutF.nD Cert.OutF.τ).loc Cert.OutF.main_arg3)
      ∧ r.2.mem ((c.tc : Thread Cert.OutF.nD Cert.OutF.τ).loc Cert.OutF.main_arg4) = m ((c.tc : Thread Cert.OutF.nD Cert.OutF.τ).loc Cert.OutF.main_arg4))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
      ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
      ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2)
      ∧ r.2.mem ((c.tc : Thread Cert.OutFRefIdeal.nD Cert.OutFRefIdeal.τ).loc Cert.OutFRefIdeal.main_arg3) = m ((c.tc : Thread Cert.OutFRefIdeal.nD Cert.OutFRefIdeal.τ).loc Cert.OutFRefIdeal.main_arg3)
      ∧ r.2.mem ((c.tc : Thread Cert.OutFRefIdeal.nD Cert.OutFRefIdeal.τ).loc Cert.OutFRefIdeal.main_arg4) = m ((c.tc : Thread Cert.OutFRefIdeal.nD Cert.OutFRefIdeal.τ).loc Cert.OutFRefIdeal.main_arg4))
      ∧ r.2.sem = fun _ => 0)

def quiescent_SmpA [hSmpA : Cert.SmpA.Facts] : Prop :=
  ∀ (m : (ℓ : Loc Cert.SmpA.nD Cert.SmpA.τ Cert.SmpA.sig) → Buf (Elt Bits) ℓ) (g : Dev Cert.SmpA.nD → PrngReg), Pre_SmpA m →
    θ_run (Cert.SmpA.defs (F := Bits)) (onTc (τ := Cert.SmpA.τ) (Cert.SmpA.main (F := Bits))) ⟨m, fun _ => 0, g⟩ (fun r => (∀ c : Dev Cert.SmpA.nD,
      r.2.mem ((c.tc : Thread Cert.SmpA.nD Cert.SmpA.τ).loc Cert.SmpA.main_arg0) = m ((c.tc : Thread Cert.SmpA.nD Cert.SmpA.τ).loc Cert.SmpA.main_arg0)
      ∧ r.2.mem ((c.tc : Thread Cert.SmpA.nD Cert.SmpA.τ).loc Cert.SmpA.main_arg1) = m ((c.tc : Thread Cert.SmpA.nD Cert.SmpA.τ).loc Cert.SmpA.main_arg1)
      ∧ r.2.mem ((c.tc : Thread Cert.SmpA.nD Cert.SmpA.τ).loc Cert.SmpA.main_arg2) = m ((c.tc : Thread Cert.SmpA.nD Cert.SmpA.τ).loc Cert.SmpA.main_arg2))
      ∧ r.2.sem = fun _ => 0)

def quiescent_SmpAIdeal [hSmpAIdeal : Cert.SmpAIdeal.Facts] : Prop :=
  ∀ (m : (ℓ : Loc Cert.SmpAIdeal.nD Cert.SmpAIdeal.τ Cert.SmpAIdeal.sig) → Buf (Elt Ideal) ℓ) (g : Dev Cert.SmpAIdeal.nD → PrngReg), Pre_SmpAIdeal m →
    θ_run (Cert.SmpAIdeal.defs (F := Ideal)) (onTc (τ := Cert.SmpAIdeal.τ) (Cert.SmpAIdeal.main (F := Ideal))) ⟨m, fun _ => 0, g⟩ (fun r => (∀ c : Dev Cert.SmpAIdeal.nD,
      r.2.mem ((c.tc : Thread Cert.SmpAIdeal.nD Cert.SmpAIdeal.τ).loc Cert.SmpAIdeal.main_arg0) = m ((c.tc : Thread Cert.SmpAIdeal.nD Cert.SmpAIdeal.τ).loc Cert.SmpAIdeal.main_arg0)
      ∧ r.2.mem ((c.tc : Thread Cert.SmpAIdeal.nD Cert.SmpAIdeal.τ).loc Cert.SmpAIdeal.main_arg1) = m ((c.tc : Thread Cert.SmpAIdeal.nD Cert.SmpAIdeal.τ).loc Cert.SmpAIdeal.main_arg1)
      ∧ r.2.mem ((c.tc : Thread Cert.SmpAIdeal.nD Cert.SmpAIdeal.τ).loc Cert.SmpAIdeal.main_arg2) = m ((c.tc : Thread Cert.SmpAIdeal.nD Cert.SmpAIdeal.τ).loc Cert.SmpAIdeal.main_arg2))
      ∧ r.2.sem = fun _ => 0)

def quiescent_SmpARefIdeal [hSmpARefIdeal : Cert.SmpARefIdeal.Facts] : Prop :=
  ∀ (m : (ℓ : Loc Cert.SmpARefIdeal.nD Cert.SmpARefIdeal.τ Cert.SmpARefIdeal.sig) → Buf (Elt Ideal) ℓ) (g : Dev Cert.SmpARefIdeal.nD → PrngReg), Pre_SmpARefIdeal m →
    θ_run (Cert.SmpARefIdeal.defs (F := Ideal)) (onTc (τ := Cert.SmpARefIdeal.τ) (Cert.SmpARefIdeal.main (F := Ideal))) ⟨m, fun _ => 0, g⟩ (fun r => (∀ c : Dev Cert.SmpARefIdeal.nD,
      r.2.mem ((c.tc : Thread Cert.SmpARefIdeal.nD Cert.SmpARefIdeal.τ).loc Cert.SmpARefIdeal.main_arg0) = m ((c.tc : Thread Cert.SmpARefIdeal.nD Cert.SmpARefIdeal.τ).loc Cert.SmpARefIdeal.main_arg0)
      ∧ r.2.mem ((c.tc : Thread Cert.SmpARefIdeal.nD Cert.SmpARefIdeal.τ).loc Cert.SmpARefIdeal.main_arg1) = m ((c.tc : Thread Cert.SmpARefIdeal.nD Cert.SmpARefIdeal.τ).loc Cert.SmpARefIdeal.main_arg1)
      ∧ r.2.mem ((c.tc : Thread Cert.SmpARefIdeal.nD Cert.SmpARefIdeal.τ).loc Cert.SmpARefIdeal.main_arg2) = m ((c.tc : Thread Cert.SmpARefIdeal.nD Cert.SmpARefIdeal.τ).loc Cert.SmpARefIdeal.main_arg2))
      ∧ r.2.sem = fun _ => 0)

def quiescent_SmpS [hSmpS : Cert.SmpS.Facts] : Prop :=
  ∀ (m : (ℓ : Loc Cert.SmpS.nD Cert.SmpS.τ Cert.SmpS.sig) → Buf (Elt Bits) ℓ) (g : Dev Cert.SmpS.nD → PrngReg), Pre_SmpS m →
    θ_run (Cert.SmpS.defs (F := Bits)) (onTc (τ := Cert.SmpS.τ) (Cert.SmpS.main (F := Bits))) ⟨m, fun _ => 0, g⟩ (fun r => (∀ c : Dev Cert.SmpS.nD,
      r.2.mem ((c.tc : Thread Cert.SmpS.nD Cert.SmpS.τ).loc Cert.SmpS.main_arg0) = m ((c.tc : Thread Cert.SmpS.nD Cert.SmpS.τ).loc Cert.SmpS.main_arg0)
      ∧ r.2.mem ((c.tc : Thread Cert.SmpS.nD Cert.SmpS.τ).loc Cert.SmpS.main_arg1) = m ((c.tc : Thread Cert.SmpS.nD Cert.SmpS.τ).loc Cert.SmpS.main_arg1)
      ∧ r.2.mem ((c.tc : Thread Cert.SmpS.nD Cert.SmpS.τ).loc Cert.SmpS.main_arg2) = m ((c.tc : Thread Cert.SmpS.nD Cert.SmpS.τ).loc Cert.SmpS.main_arg2))
      ∧ r.2.sem = fun _ => 0)

def quiescent_SmpSIdeal [hSmpSIdeal : Cert.SmpSIdeal.Facts] : Prop :=
  ∀ (m : (ℓ : Loc Cert.SmpSIdeal.nD Cert.SmpSIdeal.τ Cert.SmpSIdeal.sig) → Buf (Elt Ideal) ℓ) (g : Dev Cert.SmpSIdeal.nD → PrngReg), Pre_SmpSIdeal m →
    θ_run (Cert.SmpSIdeal.defs (F := Ideal)) (onTc (τ := Cert.SmpSIdeal.τ) (Cert.SmpSIdeal.main (F := Ideal))) ⟨m, fun _ => 0, g⟩ (fun r => (∀ c : Dev Cert.SmpSIdeal.nD,
      r.2.mem ((c.tc : Thread Cert.SmpSIdeal.nD Cert.SmpSIdeal.τ).loc Cert.SmpSIdeal.main_arg0) = m ((c.tc : Thread Cert.SmpSIdeal.nD Cert.SmpSIdeal.τ).loc Cert.SmpSIdeal.main_arg0)
      ∧ r.2.mem ((c.tc : Thread Cert.SmpSIdeal.nD Cert.SmpSIdeal.τ).loc Cert.SmpSIdeal.main_arg1) = m ((c.tc : Thread Cert.SmpSIdeal.nD Cert.SmpSIdeal.τ).loc Cert.SmpSIdeal.main_arg1)
      ∧ r.2.mem ((c.tc : Thread Cert.SmpSIdeal.nD Cert.SmpSIdeal.τ).loc Cert.SmpSIdeal.main_arg2) = m ((c.tc : Thread Cert.SmpSIdeal.nD Cert.SmpSIdeal.τ).loc Cert.SmpSIdeal.main_arg2))
      ∧ r.2.sem = fun _ => 0)

def quiescent_SmpSRefIdeal [hSmpSRefIdeal : Cert.SmpSRefIdeal.Facts] : Prop :=
  ∀ (m : (ℓ : Loc Cert.SmpSRefIdeal.nD Cert.SmpSRefIdeal.τ Cert.SmpSRefIdeal.sig) → Buf (Elt Ideal) ℓ) (g : Dev Cert.SmpSRefIdeal.nD → PrngReg), Pre_SmpSRefIdeal m →
    θ_run (Cert.SmpSRefIdeal.defs (F := Ideal)) (onTc (τ := Cert.SmpSRefIdeal.τ) (Cert.SmpSRefIdeal.main (F := Ideal))) ⟨m, fun _ => 0, g⟩ (fun r => (∀ c : Dev Cert.SmpSRefIdeal.nD,
      r.2.mem ((c.tc : Thread Cert.SmpSRefIdeal.nD Cert.SmpSRefIdeal.τ).loc Cert.SmpSRefIdeal.main_arg0) = m ((c.tc : Thread Cert.SmpSRefIdeal.nD Cert.SmpSRefIdeal.τ).loc Cert.SmpSRefIdeal.main_arg0)
      ∧ r.2.mem ((c.tc : Thread Cert.SmpSRefIdeal.nD Cert.SmpSRefIdeal.τ).loc Cert.SmpSRefIdeal.main_arg1) = m ((c.tc : Thread Cert.SmpSRefIdeal.nD Cert.SmpSRefIdeal.τ).loc Cert.SmpSRefIdeal.main_arg1)
      ∧ r.2.mem ((c.tc : Thread Cert.SmpSRefIdeal.nD Cert.SmpSRefIdeal.τ).loc Cert.SmpSRefIdeal.main_arg2) = m ((c.tc : Thread Cert.SmpSRefIdeal.nD Cert.SmpSRefIdeal.τ).loc Cert.SmpSRefIdeal.main_arg2))
      ∧ r.2.sem = fun _ => 0)

def quiescent_SmpF [hSmpF : Cert.SmpF.Facts] : Prop :=
  ∀ (m : (ℓ : Loc Cert.SmpF.nD Cert.SmpF.τ Cert.SmpF.sig) → Buf (Elt Bits) ℓ) (g : Dev Cert.SmpF.nD → PrngReg), Pre_SmpF m →
    θ_run (Cert.SmpF.defs (F := Bits)) (onTc (τ := Cert.SmpF.τ) (Cert.SmpF.main (F := Bits))) ⟨m, fun _ => 0, g⟩ (fun r => (∀ c : Dev Cert.SmpF.nD,
      r.2.mem ((c.tc : Thread Cert.SmpF.nD Cert.SmpF.τ).loc Cert.SmpF.main_arg0) = m ((c.tc : Thread Cert.SmpF.nD Cert.SmpF.τ).loc Cert.SmpF.main_arg0)
      ∧ r.2.mem ((c.tc : Thread Cert.SmpF.nD Cert.SmpF.τ).loc Cert.SmpF.main_arg1) = m ((c.tc : Thread Cert.SmpF.nD Cert.SmpF.τ).loc Cert.SmpF.main_arg1)
      ∧ r.2.mem ((c.tc : Thread Cert.SmpF.nD Cert.SmpF.τ).loc Cert.SmpF.main_arg2) = m ((c.tc : Thread Cert.SmpF.nD Cert.SmpF.τ).loc Cert.SmpF.main_arg2)
      ∧ r.2.mem ((c.tc : Thread Cert.SmpF.nD Cert.SmpF.τ).loc Cert.SmpF.main_arg3) = m ((c.tc : Thread Cert.SmpF.nD Cert.SmpF.τ).loc Cert.SmpF.main_arg3)
      ∧ r.2.mem ((c.tc : Thread Cert.SmpF.nD Cert.SmpF.τ).loc Cert.SmpF.main_arg4) = m ((c.tc : Thread Cert.SmpF.nD Cert.SmpF.τ).loc Cert.SmpF.main_arg4))
      ∧ r.2.sem = fun _ => 0)

def quiescent_SmpFIdeal [hSmpFIdeal : Cert.SmpFIdeal.Facts] : Prop :=
  ∀ (m : (ℓ : Loc Cert.SmpFIdeal.nD Cert.SmpFIdeal.τ Cert.SmpFIdeal.sig) → Buf (Elt Ideal) ℓ) (g : Dev Cert.SmpFIdeal.nD → PrngReg), Pre_SmpFIdeal m →
    θ_run (Cert.SmpFIdeal.defs (F := Ideal)) (onTc (τ := Cert.SmpFIdeal.τ) (Cert.SmpFIdeal.main (F := Ideal))) ⟨m, fun _ => 0, g⟩ (fun r => (∀ c : Dev Cert.SmpFIdeal.nD,
      r.2.mem ((c.tc : Thread Cert.SmpFIdeal.nD Cert.SmpFIdeal.τ).loc Cert.SmpFIdeal.main_arg0) = m ((c.tc : Thread Cert.SmpFIdeal.nD Cert.SmpFIdeal.τ).loc Cert.SmpFIdeal.main_arg0)
      ∧ r.2.mem ((c.tc : Thread Cert.SmpFIdeal.nD Cert.SmpFIdeal.τ).loc Cert.SmpFIdeal.main_arg1) = m ((c.tc : Thread Cert.SmpFIdeal.nD Cert.SmpFIdeal.τ).loc Cert.SmpFIdeal.main_arg1)
      ∧ r.2.mem ((c.tc : Thread Cert.SmpFIdeal.nD Cert.SmpFIdeal.τ).loc Cert.SmpFIdeal.main_arg2) = m ((c.tc : Thread Cert.SmpFIdeal.nD Cert.SmpFIdeal.τ).loc Cert.SmpFIdeal.main_arg2)
      ∧ r.2.mem ((c.tc : Thread Cert.SmpFIdeal.nD Cert.SmpFIdeal.τ).loc Cert.SmpFIdeal.main_arg3) = m ((c.tc : Thread Cert.SmpFIdeal.nD Cert.SmpFIdeal.τ).loc Cert.SmpFIdeal.main_arg3)
      ∧ r.2.mem ((c.tc : Thread Cert.SmpFIdeal.nD Cert.SmpFIdeal.τ).loc Cert.SmpFIdeal.main_arg4) = m ((c.tc : Thread Cert.SmpFIdeal.nD Cert.SmpFIdeal.τ).loc Cert.SmpFIdeal.main_arg4))
      ∧ r.2.sem = fun _ => 0)

def quiescent_SmpFRefIdeal [hSmpFRefIdeal : Cert.SmpFRefIdeal.Facts] : Prop :=
  ∀ (m : (ℓ : Loc Cert.SmpFRefIdeal.nD Cert.SmpFRefIdeal.τ Cert.SmpFRefIdeal.sig) → Buf (Elt Ideal) ℓ) (g : Dev Cert.SmpFRefIdeal.nD → PrngReg), Pre_SmpFRefIdeal m →
    θ_run (Cert.SmpFRefIdeal.defs (F := Ideal)) (onTc (τ := Cert.SmpFRefIdeal.τ) (Cert.SmpFRefIdeal.main (F := Ideal))) ⟨m, fun _ => 0, g⟩ (fun r => (∀ c : Dev Cert.SmpFRefIdeal.nD,
      r.2.mem ((c.tc : Thread Cert.SmpFRefIdeal.nD Cert.SmpFRefIdeal.τ).loc Cert.SmpFRefIdeal.main_arg0) = m ((c.tc : Thread Cert.SmpFRefIdeal.nD Cert.SmpFRefIdeal.τ).loc Cert.SmpFRefIdeal.main_arg0)
      ∧ r.2.mem ((c.tc : Thread Cert.SmpFRefIdeal.nD Cert.SmpFRefIdeal.τ).loc Cert.SmpFRefIdeal.main_arg1) = m ((c.tc : Thread Cert.SmpFRefIdeal.nD Cert.SmpFRefIdeal.τ).loc Cert.SmpFRefIdeal.main_arg1)
      ∧ r.2.mem ((c.tc : Thread Cert.SmpFRefIdeal.nD Cert.SmpFRefIdeal.τ).loc Cert.SmpFRefIdeal.main_arg2) = m ((c.tc : Thread Cert.SmpFRefIdeal.nD Cert.SmpFRefIdeal.τ).loc Cert.SmpFRefIdeal.main_arg2)
      ∧ r.2.mem ((c.tc : Thread Cert.SmpFRefIdeal.nD Cert.SmpFRefIdeal.τ).loc Cert.SmpFRefIdeal.main_arg3) = m ((c.tc : Thread Cert.SmpFRefIdeal.nD Cert.SmpFRefIdeal.τ).loc Cert.SmpFRefIdeal.main_arg3)
      ∧ r.2.mem ((c.tc : Thread Cert.SmpFRefIdeal.nD Cert.SmpFRefIdeal.τ).loc Cert.SmpFRefIdeal.main_arg4) = m ((c.tc : Thread Cert.SmpFRefIdeal.nD Cert.SmpFRefIdeal.τ).loc Cert.SmpFRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InC_InCIdeal : Prop :=
  True

def algebraic_InCIdeal_InCRefIdeal [hInCIdeal : Cert.InCIdeal.Facts] [hInCRefIdeal : Cert.InCRefIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.InCRefIdeal.nD Cert.InCRefIdeal.τ Cert.InCRefIdeal.sig) → Buf (Elt Ideal) ℓ) (g' : Dev Cert.InCRefIdeal.nD → PrngReg), Pre_InCIdeal m →
    (∀ c : Dev Cert.InCIdeal.nD,
      m' ((c.tc : Thread Cert.InCRefIdeal.nD Cert.InCRefIdeal.τ).loc Cert.InCRefIdeal.main_arg0) = m ((c.tc : Thread Cert.InCIdeal.nD Cert.InCIdeal.τ).loc Cert.InCIdeal.main_arg0)
      ∧ m' ((c.tc : Thread Cert.InCRefIdeal.nD Cert.InCRefIdeal.τ).loc Cert.InCRefIdeal.main_arg1) = m ((c.tc : Thread Cert.InCIdeal.nD Cert.InCIdeal.τ).loc Cert.InCIdeal.main_arg1)
      ∧ m' ((c.tc : Thread Cert.InCRefIdeal.nD Cert.InCRefIdeal.τ).loc Cert.InCRefIdeal.main_arg2) = m ((c.tc : Thread Cert.InCIdeal.nD Cert.InCIdeal.τ).loc Cert.InCIdeal.main_arg2)) →
    ∃ (v0 : (c : Dev Cert.InCIdeal.nD) → Buf (Elt Ideal) ((c.tc : Thread Cert.InCIdeal.nD Cert.InCIdeal.τ).loc Cert.InCIdeal.main_v2)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v2) = v0 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
          ∧ r.2.mem ((c.tc : Thread Cert.InCIdeal.nD Cert.InCIdeal.τ).loc Cert.InCIdeal.main_arg2) = m ((c.tc : Thread Cert.InCIdeal.nD Cert.InCIdeal.τ).loc Cert.InCIdeal.main_arg2))
      ∧ θ_run (Cert.InCRefIdeal.defs (F := Ideal)) (onTc (τ := Cert.InCRefIdeal.τ) (Cert.InCRefIdeal.main (F := Ideal))) ⟨m', fun _ => 0, g'⟩ (fun r => ∀ c : Dev Cert.InCRefIdeal.nD,
          r.2.mem ((c.tc : Thread Cert.InCRefIdeal.nD Cert.InCRefIdeal.τ).loc Cert.InCRefIdeal.main_v13) = v0 c
          ∧ r.2.mem ((c.tc : Thread Cert.InCRefIdeal.nD Cert.InCRefIdeal.τ).loc Cert.InCRefIdeal.main_arg0) = m' ((c.tc : Thread Cert.InCRefIdeal.nD Cert.InCRefIdeal.τ).loc Cert.InCRefIdeal.main_arg0)
          ∧ r.2.mem ((c.tc : Thread Cert.InCRefIdeal.nD Cert.InCRefIdeal.τ).loc Cert.InCRefIdeal.main_arg1) = m' ((c.tc : Thread Cert.InCRefIdeal.nD Cert.InCRefIdeal.τ).loc Cert.InCRefIdeal.main_arg1)
          ∧ r.2.mem ((c.tc : Thread Cert.InCRefIdeal.nD Cert.InCRefIdeal.τ).loc Cert.InCRefIdeal.main_arg2) = m' ((c.tc : Thread Cert.InCRefIdeal.nD Cert.InCRefIdeal.τ).loc Cert.InCRefIdeal.main_arg2))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)
      ∧ m' ((c.tc : Thread Cert.InARefIdeal.nD Cert.InARefIdeal.τ).loc Cert.InARefIdeal.main_arg2) = m ((c.tc : Thread Cert.InAIdeal.nD Cert.InAIdeal.τ).loc Cert.InAIdeal.main_arg2)) →
    ∃ (v0 : (c : Dev Cert.InAIdeal.nD) → Buf (Elt Ideal) ((c.tc : Thread Cert.InAIdeal.nD Cert.InAIdeal.τ).loc Cert.InAIdeal.main_v10)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v10) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v16) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1)
          ∧ r.2.mem ((c.tc : Thread Cert.InARefIdeal.nD Cert.InARefIdeal.τ).loc Cert.InARefIdeal.main_arg2) = m' ((c.tc : Thread Cert.InARefIdeal.nD Cert.InARefIdeal.τ).loc Cert.InARefIdeal.main_arg2))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)
      ∧ m' ((c.tc : Thread Cert.InSRefIdeal.nD Cert.InSRefIdeal.τ).loc Cert.InSRefIdeal.main_arg2) = m ((c.tc : Thread Cert.InSIdeal.nD Cert.InSIdeal.τ).loc Cert.InSIdeal.main_arg2)) →
    ∃ (v0 : (c : Dev Cert.InSIdeal.nD) → Buf (Elt Ideal) ((c.tc : Thread Cert.InSIdeal.nD Cert.InSIdeal.τ).loc Cert.InSIdeal.main_v10)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v10) = v0 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
          ∧ r.2.mem ((c.tc : Thread Cert.InSIdeal.nD Cert.InSIdeal.τ).loc Cert.InSIdeal.main_arg2) = m ((c.tc : Thread Cert.InSIdeal.nD Cert.InSIdeal.τ).loc Cert.InSIdeal.main_arg2))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v16) = v0 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)
          ∧ r.2.mem ((c.tc : Thread Cert.InSRefIdeal.nD Cert.InSRefIdeal.τ).loc Cert.InSRefIdeal.main_arg2) = m' ((c.tc : Thread Cert.InSRefIdeal.nD Cert.InSRefIdeal.τ).loc Cert.InSRefIdeal.main_arg2))

def preserves_MemKV_MemKVIdeal : Prop :=
  True

def algebraic_MemKVIdeal_MemKVRefIdeal [hMemKVIdeal : Cert.MemKVIdeal.Facts] [hMemKVRefIdeal : Cert.MemKVRefIdeal.Facts] : Prop :=
  ∀ (m : (ℓ : Loc Cert.MemKVIdeal.nD Cert.MemKVIdeal.τ Cert.MemKVIdeal.sig) → Buf (Elt Ideal) ℓ) (g : Dev Cert.MemKVIdeal.nD → PrngReg)
    (m' : (ℓ : Loc Cert.MemKVRefIdeal.nD Cert.MemKVRefIdeal.τ Cert.MemKVRefIdeal.sig) → Buf (Elt Ideal) ℓ) (g' : Dev Cert.MemKVRefIdeal.nD → PrngReg), Pre_MemKVIdeal m →
    (∀ c : Dev Cert.MemKVIdeal.nD,
      m' ((c.tc : Thread Cert.MemKVRefIdeal.nD Cert.MemKVRefIdeal.τ).loc Cert.MemKVRefIdeal.main_arg0) = m ((c.tc : Thread Cert.MemKVIdeal.nD Cert.MemKVIdeal.τ).loc Cert.MemKVIdeal.main_arg0)
      ∧ m' ((c.tc : Thread Cert.MemKVRefIdeal.nD Cert.MemKVRefIdeal.τ).loc Cert.MemKVRefIdeal.main_arg1) = m ((c.tc : Thread Cert.MemKVIdeal.nD Cert.MemKVIdeal.τ).loc Cert.MemKVIdeal.main_arg1)
      ∧ m' ((c.tc : Thread Cert.MemKVRefIdeal.nD Cert.MemKVRefIdeal.τ).loc Cert.MemKVRefIdeal.main_arg2) = m ((c.tc : Thread Cert.MemKVIdeal.nD Cert.MemKVIdeal.τ).loc Cert.MemKVIdeal.main_arg2)
      ∧ m' ((c.tc : Thread Cert.MemKVRefIdeal.nD Cert.MemKVRefIdeal.τ).loc Cert.MemKVRefIdeal.main_arg3) = m ((c.tc : Thread Cert.MemKVIdeal.nD Cert.MemKVIdeal.τ).loc Cert.MemKVIdeal.main_arg3)) →
    ∃ (v0 : (c : Dev Cert.MemKVIdeal.nD) → Buf (Elt Ideal) ((c.tc : Thread Cert.MemKVIdeal.nD Cert.MemKVIdeal.τ).loc Cert.MemKVIdeal.main_v24)),
      θ_run (Cert.MemKVIdeal.defs (F := Ideal)) (onTc (τ := Cert.MemKVIdeal.τ) (Cert.MemKVIdeal.main (F := Ideal))) ⟨m, fun _ => 0, g⟩ (fun r => ∀ c : Dev Cert.MemKVIdeal.nD,
          r.2.mem ((c.tc : Thread Cert.MemKVIdeal.nD Cert.MemKVIdeal.τ).loc Cert.MemKVIdeal.main_v24) = v0 c
          ∧ r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
          ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
          ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2)
          ∧ r.2.mem ((c.tc : Thread Cert.MemKVIdeal.nD Cert.MemKVIdeal.τ).loc Cert.MemKVIdeal.main_arg3) = m ((c.tc : Thread Cert.MemKVIdeal.nD Cert.MemKVIdeal.τ).loc Cert.MemKVIdeal.main_arg3))
      ∧ θ_run (Cert.MemKVRefIdeal.defs (F := Ideal)) (onTc (τ := Cert.MemKVRefIdeal.τ) (Cert.MemKVRefIdeal.main (F := Ideal))) ⟨m', fun _ => 0, g'⟩ (fun r => ∀ c : Dev Cert.MemKVRefIdeal.nD,
          r.2.mem ((c.tc : Thread Cert.MemKVRefIdeal.nD Cert.MemKVRefIdeal.τ).loc Cert.MemKVRefIdeal.main_v18) = v0 c
          ∧ r.2.mem ((c.tc : Thread Cert.MemKVRefIdeal.nD Cert.MemKVRefIdeal.τ).loc Cert.MemKVRefIdeal.main_arg0) = m' ((c.tc : Thread Cert.MemKVRefIdeal.nD Cert.MemKVRefIdeal.τ).loc Cert.MemKVRefIdeal.main_arg0)
          ∧ r.2.mem ((c.tc : Thread Cert.MemKVRefIdeal.nD Cert.MemKVRefIdeal.τ).loc Cert.MemKVRefIdeal.main_arg1) = m' ((c.tc : Thread Cert.MemKVRefIdeal.nD Cert.MemKVRefIdeal.τ).loc Cert.MemKVRefIdeal.main_arg1)
          ∧ r.2.mem ((c.tc : Thread Cert.MemKVRefIdeal.nD Cert.MemKVRefIdeal.τ).loc Cert.MemKVRefIdeal.main_arg2) = m' ((c.tc : Thread Cert.MemKVRefIdeal.nD Cert.MemKVRefIdeal.τ).loc Cert.MemKVRefIdeal.main_arg2)
          ∧ r.2.mem ((c.tc : Thread Cert.MemKVRefIdeal.nD Cert.MemKVRefIdeal.τ).loc Cert.MemKVRefIdeal.main_arg3) = m' ((c.tc : Thread Cert.MemKVRefIdeal.nD Cert.MemKVRefIdeal.τ).loc Cert.MemKVRefIdeal.main_arg3))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)
      ∧ m' ((c.tc : Thread Cert.OutARefIdeal.nD Cert.OutARefIdeal.τ).loc Cert.OutARefIdeal.main_arg3) = m ((c.tc : Thread Cert.OutAIdeal.nD Cert.OutAIdeal.τ).loc Cert.OutAIdeal.main_arg3)
      ∧ m' ((c.tc : Thread Cert.OutARefIdeal.nD Cert.OutARefIdeal.τ).loc Cert.OutARefIdeal.main_arg4) = m ((c.tc : Thread Cert.OutAIdeal.nD Cert.OutAIdeal.τ).loc Cert.OutAIdeal.main_arg4)
      ∧ m' ((c.tc : Thread Cert.OutARefIdeal.nD Cert.OutARefIdeal.τ).loc Cert.OutARefIdeal.main_arg5) = m ((c.tc : Thread Cert.OutAIdeal.nD Cert.OutAIdeal.τ).loc Cert.OutAIdeal.main_arg5)) →
    ∃ (v0 : (c : Dev Cert.OutAIdeal.nD) → Buf (Elt Ideal) ((c.tc : Thread Cert.OutAIdeal.nD Cert.OutAIdeal.τ).loc Cert.OutAIdeal.main_v5)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v5) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
          ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
          ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
          ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v3) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2)
          ∧ r.2.mem ((c.tc : Thread Cert.OutARefIdeal.nD Cert.OutARefIdeal.τ).loc Cert.OutARefIdeal.main_arg3) = m' ((c.tc : Thread Cert.OutARefIdeal.nD Cert.OutARefIdeal.τ).loc Cert.OutARefIdeal.main_arg3)
          ∧ r.2.mem ((c.tc : Thread Cert.OutARefIdeal.nD Cert.OutARefIdeal.τ).loc Cert.OutARefIdeal.main_arg4) = m' ((c.tc : Thread Cert.OutARefIdeal.nD Cert.OutARefIdeal.τ).loc Cert.OutARefIdeal.main_arg4)
          ∧ r.2.mem ((c.tc : Thread Cert.OutARefIdeal.nD Cert.OutARefIdeal.τ).loc Cert.OutARefIdeal.main_arg5) = m' ((c.tc : Thread Cert.OutARefIdeal.nD Cert.OutARefIdeal.τ).loc Cert.OutARefIdeal.main_arg5))

def preserves_OutC_OutCIdeal : Prop :=
  True

def algebraic_OutCIdeal_OutCRefIdeal [hOutCIdeal : Cert.OutCIdeal.Facts] [hOutCRefIdeal : Cert.OutCRefIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCRefIdeal.nD Cert.OutCRefIdeal.τ Cert.OutCRefIdeal.sig) → Buf (Elt Ideal) ℓ) (g' : Dev Cert.OutCRefIdeal.nD → PrngReg), Pre_OutCIdeal m →
    (∀ c : Dev Cert.OutCIdeal.nD,
      m' ((c.tc : Thread Cert.OutCRefIdeal.nD Cert.OutCRefIdeal.τ).loc Cert.OutCRefIdeal.main_arg0) = m ((c.tc : Thread Cert.OutCIdeal.nD Cert.OutCIdeal.τ).loc Cert.OutCIdeal.main_arg0)
      ∧ m' ((c.tc : Thread Cert.OutCRefIdeal.nD Cert.OutCRefIdeal.τ).loc Cert.OutCRefIdeal.main_arg1) = m ((c.tc : Thread Cert.OutCIdeal.nD Cert.OutCIdeal.τ).loc Cert.OutCIdeal.main_arg1)
      ∧ m' ((c.tc : Thread Cert.OutCRefIdeal.nD Cert.OutCRefIdeal.τ).loc Cert.OutCRefIdeal.main_arg2) = m ((c.tc : Thread Cert.OutCIdeal.nD Cert.OutCIdeal.τ).loc Cert.OutCIdeal.main_arg2)
      ∧ m' ((c.tc : Thread Cert.OutCRefIdeal.nD Cert.OutCRefIdeal.τ).loc Cert.OutCRefIdeal.main_arg3) = m ((c.tc : Thread Cert.OutCIdeal.nD Cert.OutCIdeal.τ).loc Cert.OutCIdeal.main_arg3)
      ∧ m' ((c.tc : Thread Cert.OutCRefIdeal.nD Cert.OutCRefIdeal.τ).loc Cert.OutCRefIdeal.main_arg4) = m ((c.tc : Thread Cert.OutCIdeal.nD Cert.OutCIdeal.τ).loc Cert.OutCIdeal.main_arg4)) →
    ∃ (v0 : (c : Dev Cert.OutCIdeal.nD) → Buf (Elt Ideal) ((c.tc : Thread Cert.OutCIdeal.nD Cert.OutCIdeal.τ).loc Cert.OutCIdeal.main_v4)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v4) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
          ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
          ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4))
      ∧ θ_run (Cert.OutCRefIdeal.defs (F := Ideal)) (onTc (τ := Cert.OutCRefIdeal.τ) (Cert.OutCRefIdeal.main (F := Ideal))) ⟨m', fun _ => 0, g'⟩ (fun r => ∀ c : Dev Cert.OutCRefIdeal.nD,
          r.2.mem ((c.tc : Thread Cert.OutCRefIdeal.nD Cert.OutCRefIdeal.τ).loc Cert.OutCRefIdeal.main_v3) = v0 c
          ∧ r.2.mem ((c.tc : Thread Cert.OutCRefIdeal.nD Cert.OutCRefIdeal.τ).loc Cert.OutCRefIdeal.main_arg0) = m' ((c.tc : Thread Cert.OutCRefIdeal.nD Cert.OutCRefIdeal.τ).loc Cert.OutCRefIdeal.main_arg0)
          ∧ r.2.mem ((c.tc : Thread Cert.OutCRefIdeal.nD Cert.OutCRefIdeal.τ).loc Cert.OutCRefIdeal.main_arg1) = m' ((c.tc : Thread Cert.OutCRefIdeal.nD Cert.OutCRefIdeal.τ).loc Cert.OutCRefIdeal.main_arg1)
          ∧ r.2.mem ((c.tc : Thread Cert.OutCRefIdeal.nD Cert.OutCRefIdeal.τ).loc Cert.OutCRefIdeal.main_arg2) = m' ((c.tc : Thread Cert.OutCRefIdeal.nD Cert.OutCRefIdeal.τ).loc Cert.OutCRefIdeal.main_arg2)
          ∧ r.2.mem ((c.tc : Thread Cert.OutCRefIdeal.nD Cert.OutCRefIdeal.τ).loc Cert.OutCRefIdeal.main_arg3) = m' ((c.tc : Thread Cert.OutCRefIdeal.nD Cert.OutCRefIdeal.τ).loc Cert.OutCRefIdeal.main_arg3)
          ∧ r.2.mem ((c.tc : Thread Cert.OutCRefIdeal.nD Cert.OutCRefIdeal.τ).loc Cert.OutCRefIdeal.main_arg4) = m' ((c.tc : Thread Cert.OutCRefIdeal.nD Cert.OutCRefIdeal.τ).loc Cert.OutCRefIdeal.main_arg4))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)
      ∧ m' ((c.tc : Thread Cert.OutFRefIdeal.nD Cert.OutFRefIdeal.τ).loc Cert.OutFRefIdeal.main_arg3) = m ((c.tc : Thread Cert.OutFIdeal.nD Cert.OutFIdeal.τ).loc Cert.OutFIdeal.main_arg3)
      ∧ m' ((c.tc : Thread Cert.OutFRefIdeal.nD Cert.OutFRefIdeal.τ).loc Cert.OutFRefIdeal.main_arg4) = m ((c.tc : Thread Cert.OutFIdeal.nD Cert.OutFIdeal.τ).loc Cert.OutFIdeal.main_arg4)) →
    ∃ (v0 : (c : Dev Cert.OutFIdeal.nD) → Buf (Elt Ideal) ((c.tc : Thread Cert.OutFIdeal.nD Cert.OutFIdeal.τ).loc Cert.OutFIdeal.main_v4)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v4) = v0 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
          ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
          ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v16) = v0 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2)
          ∧ r.2.mem ((c.tc : Thread Cert.OutFRefIdeal.nD Cert.OutFRefIdeal.τ).loc Cert.OutFRefIdeal.main_arg3) = m' ((c.tc : Thread Cert.OutFRefIdeal.nD Cert.OutFRefIdeal.τ).loc Cert.OutFRefIdeal.main_arg3)
          ∧ r.2.mem ((c.tc : Thread Cert.OutFRefIdeal.nD Cert.OutFRefIdeal.τ).loc Cert.OutFRefIdeal.main_arg4) = m' ((c.tc : Thread Cert.OutFRefIdeal.nD Cert.OutFRefIdeal.τ).loc Cert.OutFRefIdeal.main_arg4))

def preserves_SmpA_SmpAIdeal : Prop :=
  True

def algebraic_SmpAIdeal_SmpARefIdeal [hSmpAIdeal : Cert.SmpAIdeal.Facts] [hSmpARefIdeal : Cert.SmpARefIdeal.Facts] : Prop :=
  ∀ (m : (ℓ : Loc Cert.SmpAIdeal.nD Cert.SmpAIdeal.τ Cert.SmpAIdeal.sig) → Buf (Elt Ideal) ℓ) (g : Dev Cert.SmpAIdeal.nD → PrngReg)
    (m' : (ℓ : Loc Cert.SmpARefIdeal.nD Cert.SmpARefIdeal.τ Cert.SmpARefIdeal.sig) → Buf (Elt Ideal) ℓ) (g' : Dev Cert.SmpARefIdeal.nD → PrngReg), Pre_SmpAIdeal m →
    (∀ c : Dev Cert.SmpAIdeal.nD,
      m' ((c.tc : Thread Cert.SmpARefIdeal.nD Cert.SmpARefIdeal.τ).loc Cert.SmpARefIdeal.main_arg0) = m ((c.tc : Thread Cert.SmpAIdeal.nD Cert.SmpAIdeal.τ).loc Cert.SmpAIdeal.main_arg0)
      ∧ m' ((c.tc : Thread Cert.SmpARefIdeal.nD Cert.SmpARefIdeal.τ).loc Cert.SmpARefIdeal.main_arg1) = m ((c.tc : Thread Cert.SmpAIdeal.nD Cert.SmpAIdeal.τ).loc Cert.SmpAIdeal.main_arg1)
      ∧ m' ((c.tc : Thread Cert.SmpARefIdeal.nD Cert.SmpARefIdeal.τ).loc Cert.SmpARefIdeal.main_arg2) = m ((c.tc : Thread Cert.SmpAIdeal.nD Cert.SmpAIdeal.τ).loc Cert.SmpAIdeal.main_arg2)) →
    ∃ (v0 : (c : Dev Cert.SmpAIdeal.nD) → Buf (Elt Ideal) ((c.tc : Thread Cert.SmpAIdeal.nD Cert.SmpAIdeal.τ).loc Cert.SmpAIdeal.main_v10)),
      θ_run (Cert.SmpAIdeal.defs (F := Ideal)) (onTc (τ := Cert.SmpAIdeal.τ) (Cert.SmpAIdeal.main (F := Ideal))) ⟨m, fun _ => 0, g⟩ (fun r => ∀ c : Dev Cert.SmpAIdeal.nD,
          r.2.mem ((c.tc : Thread Cert.SmpAIdeal.nD Cert.SmpAIdeal.τ).loc Cert.SmpAIdeal.main_v10) = v0 c
          ∧ r.2.mem ((c.tc : Thread Cert.SmpAIdeal.nD Cert.SmpAIdeal.τ).loc Cert.SmpAIdeal.main_arg0) = m ((c.tc : Thread Cert.SmpAIdeal.nD Cert.SmpAIdeal.τ).loc Cert.SmpAIdeal.main_arg0)
          ∧ r.2.mem ((c.tc : Thread Cert.SmpAIdeal.nD Cert.SmpAIdeal.τ).loc Cert.SmpAIdeal.main_arg1) = m ((c.tc : Thread Cert.SmpAIdeal.nD Cert.SmpAIdeal.τ).loc Cert.SmpAIdeal.main_arg1)
          ∧ r.2.mem ((c.tc : Thread Cert.SmpAIdeal.nD Cert.SmpAIdeal.τ).loc Cert.SmpAIdeal.main_arg2) = m ((c.tc : Thread Cert.SmpAIdeal.nD Cert.SmpAIdeal.τ).loc Cert.SmpAIdeal.main_arg2))
      ∧ θ_run (Cert.SmpARefIdeal.defs (F := Ideal)) (onTc (τ := Cert.SmpARefIdeal.τ) (Cert.SmpARefIdeal.main (F := Ideal))) ⟨m', fun _ => 0, g'⟩ (fun r => ∀ c : Dev Cert.SmpARefIdeal.nD,
          r.2.mem ((c.tc : Thread Cert.SmpARefIdeal.nD Cert.SmpARefIdeal.τ).loc Cert.SmpARefIdeal.main_v16) = v0 c
          ∧ r.2.mem ((c.tc : Thread Cert.SmpARefIdeal.nD Cert.SmpARefIdeal.τ).loc Cert.SmpARefIdeal.main_arg0) = m' ((c.tc : Thread Cert.SmpARefIdeal.nD Cert.SmpARefIdeal.τ).loc Cert.SmpARefIdeal.main_arg0)
          ∧ r.2.mem ((c.tc : Thread Cert.SmpARefIdeal.nD Cert.SmpARefIdeal.τ).loc Cert.SmpARefIdeal.main_arg1) = m' ((c.tc : Thread Cert.SmpARefIdeal.nD Cert.SmpARefIdeal.τ).loc Cert.SmpARefIdeal.main_arg1)
          ∧ r.2.mem ((c.tc : Thread Cert.SmpARefIdeal.nD Cert.SmpARefIdeal.τ).loc Cert.SmpARefIdeal.main_arg2) = m' ((c.tc : Thread Cert.SmpARefIdeal.nD Cert.SmpARefIdeal.τ).loc Cert.SmpARefIdeal.main_arg2))

def preserves_SmpS_SmpSIdeal : Prop :=
  True

def algebraic_SmpSIdeal_SmpSRefIdeal [hSmpSIdeal : Cert.SmpSIdeal.Facts] [hSmpSRefIdeal : Cert.SmpSRefIdeal.Facts] : Prop :=
  ∀ (m : (ℓ : Loc Cert.SmpSIdeal.nD Cert.SmpSIdeal.τ Cert.SmpSIdeal.sig) → Buf (Elt Ideal) ℓ) (g : Dev Cert.SmpSIdeal.nD → PrngReg)
    (m' : (ℓ : Loc Cert.SmpSRefIdeal.nD Cert.SmpSRefIdeal.τ Cert.SmpSRefIdeal.sig) → Buf (Elt Ideal) ℓ) (g' : Dev Cert.SmpSRefIdeal.nD → PrngReg), Pre_SmpSIdeal m →
    (∀ c : Dev Cert.SmpSIdeal.nD,
      m' ((c.tc : Thread Cert.SmpSRefIdeal.nD Cert.SmpSRefIdeal.τ).loc Cert.SmpSRefIdeal.main_arg0) = m ((c.tc : Thread Cert.SmpSIdeal.nD Cert.SmpSIdeal.τ).loc Cert.SmpSIdeal.main_arg0)
      ∧ m' ((c.tc : Thread Cert.SmpSRefIdeal.nD Cert.SmpSRefIdeal.τ).loc Cert.SmpSRefIdeal.main_arg1) = m ((c.tc : Thread Cert.SmpSIdeal.nD Cert.SmpSIdeal.τ).loc Cert.SmpSIdeal.main_arg1)
      ∧ m' ((c.tc : Thread Cert.SmpSRefIdeal.nD Cert.SmpSRefIdeal.τ).loc Cert.SmpSRefIdeal.main_arg2) = m ((c.tc : Thread Cert.SmpSIdeal.nD Cert.SmpSIdeal.τ).loc Cert.SmpSIdeal.main_arg2)) →
    ∃ (v0 : (c : Dev Cert.SmpSIdeal.nD) → Buf (Elt Ideal) ((c.tc : Thread Cert.SmpSIdeal.nD Cert.SmpSIdeal.τ).loc Cert.SmpSIdeal.main_v10)),
      θ_run (Cert.SmpSIdeal.defs (F := Ideal)) (onTc (τ := Cert.SmpSIdeal.τ) (Cert.SmpSIdeal.main (F := Ideal))) ⟨m, fun _ => 0, g⟩ (fun r => ∀ c : Dev Cert.SmpSIdeal.nD,
          r.2.mem ((c.tc : Thread Cert.SmpSIdeal.nD Cert.SmpSIdeal.τ).loc Cert.SmpSIdeal.main_v10) = v0 c
          ∧ r.2.mem ((c.tc : Thread Cert.SmpSIdeal.nD Cert.SmpSIdeal.τ).loc Cert.SmpSIdeal.main_arg0) = m ((c.tc : Thread Cert.SmpSIdeal.nD Cert.SmpSIdeal.τ).loc Cert.SmpSIdeal.main_arg0)
          ∧ r.2.mem ((c.tc : Thread Cert.SmpSIdeal.nD Cert.SmpSIdeal.τ).loc Cert.SmpSIdeal.main_arg1) = m ((c.tc : Thread Cert.SmpSIdeal.nD Cert.SmpSIdeal.τ).loc Cert.SmpSIdeal.main_arg1)
          ∧ r.2.mem ((c.tc : Thread Cert.SmpSIdeal.nD Cert.SmpSIdeal.τ).loc Cert.SmpSIdeal.main_arg2) = m ((c.tc : Thread Cert.SmpSIdeal.nD Cert.SmpSIdeal.τ).loc Cert.SmpSIdeal.main_arg2))
      ∧ θ_run (Cert.SmpSRefIdeal.defs (F := Ideal)) (onTc (τ := Cert.SmpSRefIdeal.τ) (Cert.SmpSRefIdeal.main (F := Ideal))) ⟨m', fun _ => 0, g'⟩ (fun r => ∀ c : Dev Cert.SmpSRefIdeal.nD,
          r.2.mem ((c.tc : Thread Cert.SmpSRefIdeal.nD Cert.SmpSRefIdeal.τ).loc Cert.SmpSRefIdeal.main_v16) = v0 c
          ∧ r.2.mem ((c.tc : Thread Cert.SmpSRefIdeal.nD Cert.SmpSRefIdeal.τ).loc Cert.SmpSRefIdeal.main_arg0) = m' ((c.tc : Thread Cert.SmpSRefIdeal.nD Cert.SmpSRefIdeal.τ).loc Cert.SmpSRefIdeal.main_arg0)
          ∧ r.2.mem ((c.tc : Thread Cert.SmpSRefIdeal.nD Cert.SmpSRefIdeal.τ).loc Cert.SmpSRefIdeal.main_arg1) = m' ((c.tc : Thread Cert.SmpSRefIdeal.nD Cert.SmpSRefIdeal.τ).loc Cert.SmpSRefIdeal.main_arg1)
          ∧ r.2.mem ((c.tc : Thread Cert.SmpSRefIdeal.nD Cert.SmpSRefIdeal.τ).loc Cert.SmpSRefIdeal.main_arg2) = m' ((c.tc : Thread Cert.SmpSRefIdeal.nD Cert.SmpSRefIdeal.τ).loc Cert.SmpSRefIdeal.main_arg2))

def preserves_SmpF_SmpFIdeal : Prop :=
  True

def algebraic_SmpFIdeal_SmpFRefIdeal [hSmpFIdeal : Cert.SmpFIdeal.Facts] [hSmpFRefIdeal : Cert.SmpFRefIdeal.Facts] : Prop :=
  ∀ (m : (ℓ : Loc Cert.SmpFIdeal.nD Cert.SmpFIdeal.τ Cert.SmpFIdeal.sig) → Buf (Elt Ideal) ℓ) (g : Dev Cert.SmpFIdeal.nD → PrngReg)
    (m' : (ℓ : Loc Cert.SmpFRefIdeal.nD Cert.SmpFRefIdeal.τ Cert.SmpFRefIdeal.sig) → Buf (Elt Ideal) ℓ) (g' : Dev Cert.SmpFRefIdeal.nD → PrngReg), Pre_SmpFIdeal m →
    (∀ c : Dev Cert.SmpFIdeal.nD,
      m' ((c.tc : Thread Cert.SmpFRefIdeal.nD Cert.SmpFRefIdeal.τ).loc Cert.SmpFRefIdeal.main_arg0) = m ((c.tc : Thread Cert.SmpFIdeal.nD Cert.SmpFIdeal.τ).loc Cert.SmpFIdeal.main_arg0)
      ∧ m' ((c.tc : Thread Cert.SmpFRefIdeal.nD Cert.SmpFRefIdeal.τ).loc Cert.SmpFRefIdeal.main_arg1) = m ((c.tc : Thread Cert.SmpFIdeal.nD Cert.SmpFIdeal.τ).loc Cert.SmpFIdeal.main_arg1)
      ∧ m' ((c.tc : Thread Cert.SmpFRefIdeal.nD Cert.SmpFRefIdeal.τ).loc Cert.SmpFRefIdeal.main_arg2) = m ((c.tc : Thread Cert.SmpFIdeal.nD Cert.SmpFIdeal.τ).loc Cert.SmpFIdeal.main_arg2)
      ∧ m' ((c.tc : Thread Cert.SmpFRefIdeal.nD Cert.SmpFRefIdeal.τ).loc Cert.SmpFRefIdeal.main_arg3) = m ((c.tc : Thread Cert.SmpFIdeal.nD Cert.SmpFIdeal.τ).loc Cert.SmpFIdeal.main_arg3)
      ∧ m' ((c.tc : Thread Cert.SmpFRefIdeal.nD Cert.SmpFRefIdeal.τ).loc Cert.SmpFRefIdeal.main_arg4) = m ((c.tc : Thread Cert.SmpFIdeal.nD Cert.SmpFIdeal.τ).loc Cert.SmpFIdeal.main_arg4)) →
    ∃ (v0 : (c : Dev Cert.SmpFIdeal.nD) → Buf (Elt Ideal) ((c.tc : Thread Cert.SmpFIdeal.nD Cert.SmpFIdeal.τ).loc Cert.SmpFIdeal.main_v4)),
      θ_run (Cert.SmpFIdeal.defs (F := Ideal)) (onTc (τ := Cert.SmpFIdeal.τ) (Cert.SmpFIdeal.main (F := Ideal))) ⟨m, fun _ => 0, g⟩ (fun r => ∀ c : Dev Cert.SmpFIdeal.nD,
          r.2.mem ((c.tc : Thread Cert.SmpFIdeal.nD Cert.SmpFIdeal.τ).loc Cert.SmpFIdeal.main_v4) = v0 c
          ∧ r.2.mem ((c.tc : Thread Cert.SmpFIdeal.nD Cert.SmpFIdeal.τ).loc Cert.SmpFIdeal.main_arg0) = m ((c.tc : Thread Cert.SmpFIdeal.nD Cert.SmpFIdeal.τ).loc Cert.SmpFIdeal.main_arg0)
          ∧ r.2.mem ((c.tc : Thread Cert.SmpFIdeal.nD Cert.SmpFIdeal.τ).loc Cert.SmpFIdeal.main_arg1) = m ((c.tc : Thread Cert.SmpFIdeal.nD Cert.SmpFIdeal.τ).loc Cert.SmpFIdeal.main_arg1)
          ∧ r.2.mem ((c.tc : Thread Cert.SmpFIdeal.nD Cert.SmpFIdeal.τ).loc Cert.SmpFIdeal.main_arg2) = m ((c.tc : Thread Cert.SmpFIdeal.nD Cert.SmpFIdeal.τ).loc Cert.SmpFIdeal.main_arg2)
          ∧ r.2.mem ((c.tc : Thread Cert.SmpFIdeal.nD Cert.SmpFIdeal.τ).loc Cert.SmpFIdeal.main_arg3) = m ((c.tc : Thread Cert.SmpFIdeal.nD Cert.SmpFIdeal.τ).loc Cert.SmpFIdeal.main_arg3)
          ∧ r.2.mem ((c.tc : Thread Cert.SmpFIdeal.nD Cert.SmpFIdeal.τ).loc Cert.SmpFIdeal.main_arg4) = m ((c.tc : Thread Cert.SmpFIdeal.nD Cert.SmpFIdeal.τ).loc Cert.SmpFIdeal.main_arg4))
      ∧ θ_run (Cert.SmpFRefIdeal.defs (F := Ideal)) (onTc (τ := Cert.SmpFRefIdeal.τ) (Cert.SmpFRefIdeal.main (F := Ideal))) ⟨m', fun _ => 0, g'⟩ (fun r => ∀ c : Dev Cert.SmpFRefIdeal.nD,
          r.2.mem ((c.tc : Thread Cert.SmpFRefIdeal.nD Cert.SmpFRefIdeal.τ).loc Cert.SmpFRefIdeal.main_v16) = v0 c
          ∧ r.2.mem ((c.tc : Thread Cert.SmpFRefIdeal.nD Cert.SmpFRefIdeal.τ).loc Cert.SmpFRefIdeal.main_arg0) = m' ((c.tc : Thread Cert.SmpFRefIdeal.nD Cert.SmpFRefIdeal.τ).loc Cert.SmpFRefIdeal.main_arg0)
          ∧ r.2.mem ((c.tc : Thread Cert.SmpFRefIdeal.nD Cert.SmpFRefIdeal.τ).loc Cert.SmpFRefIdeal.main_arg1) = m' ((c.tc : Thread Cert.SmpFRefIdeal.nD Cert.SmpFRefIdeal.τ).loc Cert.SmpFRefIdeal.main_arg1)
          ∧ r.2.mem ((c.tc : Thread Cert.SmpFRefIdeal.nD Cert.SmpFRefIdeal.τ).loc Cert.SmpFRefIdeal.main_arg2) = m' ((c.tc : Thread Cert.SmpFRefIdeal.nD Cert.SmpFRefIdeal.τ).loc Cert.SmpFRefIdeal.main_arg2)
          ∧ r.2.mem ((c.tc : Thread Cert.SmpFRefIdeal.nD Cert.SmpFRefIdeal.τ).loc Cert.SmpFRefIdeal.main_arg3) = m' ((c.tc : Thread Cert.SmpFRefIdeal.nD Cert.SmpFRefIdeal.τ).loc Cert.SmpFRefIdeal.main_arg3)
          ∧ r.2.mem ((c.tc : Thread Cert.SmpFRefIdeal.nD Cert.SmpFRefIdeal.τ).loc Cert.SmpFRefIdeal.main_arg4) = m' ((c.tc : Thread Cert.SmpFRefIdeal.nD Cert.SmpFRefIdeal.τ).loc Cert.SmpFRefIdeal.main_arg4))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v30_0)) (v1 : (c : Dev Cert.RopeIdeal.nD) → Buf (Elt Ideal) ((c.tc : Thread Cert.RopeIdeal.nD Cert.RopeIdeal.τ).loc Cert.RopeIdeal.main_v30_1)) (v2 : (c : Dev Cert.RopeIdeal.nD) → Buf (Elt Ideal) ((c.tc : Thread Cert.RopeIdeal.nD Cert.RopeIdeal.τ).loc Cert.RopeIdeal.main_v30_2)) (v3 : (c : Dev Cert.RopeIdeal.nD) → Buf (Elt Ideal) ((c.tc : Thread Cert.RopeIdeal.nD Cert.RopeIdeal.τ).loc Cert.RopeIdeal.main_v30_3)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v30_0) = v0 c
          ∧ r.2.mem ((c.tc : Thread Cert.RopeIdeal.nD Cert.RopeIdeal.τ).loc Cert.RopeIdeal.main_v30_1) = v1 c
          ∧ r.2.mem ((c.tc : Thread Cert.RopeIdeal.nD Cert.RopeIdeal.τ).loc Cert.RopeIdeal.main_v30_2) = v2 c
          ∧ r.2.mem ((c.tc : Thread Cert.RopeIdeal.nD Cert.RopeIdeal.τ).loc Cert.RopeIdeal.main_v30_3) = v3 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v60) = v0 c
          ∧ r.2.mem ((c.tc : Thread Cert.RopeRefIdeal.nD Cert.RopeRefIdeal.τ).loc Cert.RopeRefIdeal.main_v62) = v1 c
          ∧ r.2.mem ((c.tc : Thread Cert.RopeRefIdeal.nD Cert.RopeRefIdeal.τ).loc Cert.RopeRefIdeal.main_v63) = v2 c
          ∧ r.2.mem ((c.tc : Thread Cert.RopeRefIdeal.nD Cert.RopeRefIdeal.τ).loc Cert.RopeRefIdeal.main_v65) = v3 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hKernel : Cert.Kernel.Facts) (hKernelIdeal : Cert.KernelIdeal.Facts) (hReferenceIdeal : Cert.ReferenceIdeal.Facts) (hInC : Cert.InC.Facts) (hInCIdeal : Cert.InCIdeal.Facts) (hInCRefIdeal : Cert.InCRefIdeal.Facts) (hInA : Cert.InA.Facts) (hInAIdeal : Cert.InAIdeal.Facts) (hInARefIdeal : Cert.InARefIdeal.Facts) (hInS : Cert.InS.Facts) (hInSIdeal : Cert.InSIdeal.Facts) (hInSRefIdeal : Cert.InSRefIdeal.Facts) (hMemKV : Cert.MemKV.Facts) (hMemKVIdeal : Cert.MemKVIdeal.Facts) (hMemKVRefIdeal : Cert.MemKVRefIdeal.Facts) (hOutA : Cert.OutA.Facts) (hOutAIdeal : Cert.OutAIdeal.Facts) (hOutARefIdeal : Cert.OutARefIdeal.Facts) (hOutC : Cert.OutC.Facts) (hOutCIdeal : Cert.OutCIdeal.Facts) (hOutCRefIdeal : Cert.OutCRefIdeal.Facts) (hOutF : Cert.OutF.Facts) (hOutFIdeal : Cert.OutFIdeal.Facts) (hOutFRefIdeal : Cert.OutFRefIdeal.Facts) (hSmpA : Cert.SmpA.Facts) (hSmpAIdeal : Cert.SmpAIdeal.Facts) (hSmpARefIdeal : Cert.SmpARefIdeal.Facts) (hSmpS : Cert.SmpS.Facts) (hSmpSIdeal : Cert.SmpSIdeal.Facts) (hSmpSRefIdeal : Cert.SmpSRefIdeal.Facts) (hSmpF : Cert.SmpF.Facts) (hSmpFIdeal : Cert.SmpFIdeal.Facts) (hSmpFRefIdeal : Cert.SmpFRefIdeal.Facts) (hRope : Cert.Rope.Facts) (hRopeIdeal : Cert.RopeIdeal.Facts) (hRopeRefIdeal : Cert.RopeRefIdeal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_InC (hInC := hInC)
    ∧ quiescent_InCIdeal (hInCIdeal := hInCIdeal)
    ∧ quiescent_InCRefIdeal (hInCRefIdeal := hInCRefIdeal)
    ∧ quiescent_InA (hInA := hInA)
    ∧ quiescent_InAIdeal (hInAIdeal := hInAIdeal)
    ∧ quiescent_InARefIdeal (hInARefIdeal := hInARefIdeal)
    ∧ quiescent_InS (hInS := hInS)
    ∧ quiescent_InSIdeal (hInSIdeal := hInSIdeal)
    ∧ quiescent_InSRefIdeal (hInSRefIdeal := hInSRefIdeal)
    ∧ quiescent_MemKV (hMemKV := hMemKV)
    ∧ quiescent_MemKVIdeal (hMemKVIdeal := hMemKVIdeal)
    ∧ quiescent_MemKVRefIdeal (hMemKVRefIdeal := hMemKVRefIdeal)
    ∧ quiescent_OutA (hOutA := hOutA)
    ∧ quiescent_OutAIdeal (hOutAIdeal := hOutAIdeal)
    ∧ quiescent_OutARefIdeal (hOutARefIdeal := hOutARefIdeal)
    ∧ quiescent_OutC (hOutC := hOutC)
    ∧ quiescent_OutCIdeal (hOutCIdeal := hOutCIdeal)
    ∧ quiescent_OutCRefIdeal (hOutCRefIdeal := hOutCRefIdeal)
    ∧ quiescent_OutF (hOutF := hOutF)
    ∧ quiescent_OutFIdeal (hOutFIdeal := hOutFIdeal)
    ∧ quiescent_OutFRefIdeal (hOutFRefIdeal := hOutFRefIdeal)
    ∧ quiescent_SmpA (hSmpA := hSmpA)
    ∧ quiescent_SmpAIdeal (hSmpAIdeal := hSmpAIdeal)
    ∧ quiescent_SmpARefIdeal (hSmpARefIdeal := hSmpARefIdeal)
    ∧ quiescent_SmpS (hSmpS := hSmpS)
    ∧ quiescent_SmpSIdeal (hSmpSIdeal := hSmpSIdeal)
    ∧ quiescent_SmpSRefIdeal (hSmpSRefIdeal := hSmpSRefIdeal)
    ∧ quiescent_SmpF (hSmpF := hSmpF)
    ∧ quiescent_SmpFIdeal (hSmpFIdeal := hSmpFIdeal)
    ∧ quiescent_SmpFRefIdeal (hSmpFRefIdeal := hSmpFRefIdeal)
    ∧ quiescent_Rope (hRope := hRope)
    ∧ quiescent_RopeIdeal (hRopeIdeal := hRopeIdeal)
    ∧ quiescent_RopeRefIdeal (hRopeRefIdeal := hRopeRefIdeal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_InC_InCIdeal
    ∧ algebraic_InCIdeal_InCRefIdeal (hInCIdeal := hInCIdeal) (hInCRefIdeal := hInCRefIdeal)
    ∧ preserves_InA_InAIdeal
    ∧ algebraic_InAIdeal_InARefIdeal (hInAIdeal := hInAIdeal) (hInARefIdeal := hInARefIdeal)
    ∧ preserves_InS_InSIdeal
    ∧ algebraic_InSIdeal_InSRefIdeal (hInSIdeal := hInSIdeal) (hInSRefIdeal := hInSRefIdeal)
    ∧ preserves_MemKV_MemKVIdeal
    ∧ algebraic_MemKVIdeal_MemKVRefIdeal (hMemKVIdeal := hMemKVIdeal) (hMemKVRefIdeal := hMemKVRefIdeal)
    ∧ preserves_OutA_OutAIdeal
    ∧ algebraic_OutAIdeal_OutARefIdeal (hOutAIdeal := hOutAIdeal) (hOutARefIdeal := hOutARefIdeal)
    ∧ preserves_OutC_OutCIdeal
    ∧ algebraic_OutCIdeal_OutCRefIdeal (hOutCIdeal := hOutCIdeal) (hOutCRefIdeal := hOutCRefIdeal)
    ∧ preserves_OutF_OutFIdeal
    ∧ algebraic_OutFIdeal_OutFRefIdeal (hOutFIdeal := hOutFIdeal) (hOutFRefIdeal := hOutFRefIdeal)
    ∧ preserves_SmpA_SmpAIdeal
    ∧ algebraic_SmpAIdeal_SmpARefIdeal (hSmpAIdeal := hSmpAIdeal) (hSmpARefIdeal := hSmpARefIdeal)
    ∧ preserves_SmpS_SmpSIdeal
    ∧ algebraic_SmpSIdeal_SmpSRefIdeal (hSmpSIdeal := hSmpSIdeal) (hSmpSRefIdeal := hSmpSRefIdeal)
    ∧ preserves_SmpF_SmpFIdeal
    ∧ algebraic_SmpFIdeal_SmpFRefIdeal (hSmpFIdeal := hSmpFIdeal) (hSmpFRefIdeal := hSmpFRefIdeal)
    ∧ preserves_Rope_RopeIdeal
    ∧ algebraic_RopeIdeal_RopeRefIdeal (hRopeIdeal := hRopeIdeal) (hRopeRefIdeal := hRopeRefIdeal)
-- ==== Pre_finite_values.lean ====
abbrev S1024x16384 : Shape := ⟨2, ![1024, 16384]⟩
abbrev S16384x1024 : Shape := ⟨2, ![16384, 1024]⟩
abbrev S16384x6144 : Shape := ⟨2, ![16384, 6144]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S1024x16384 .bf16) (main_arg1 : FVec F S16384x1024 .bf16) (main_arg2 : FVec F S1024x16384 .bf16) (main_arg3 : FVec F S16384x6144 .f32) (main_arg4 : FVec F S4x64 .f32) (main_arg5 : FVec F S128 .f32) : IVec S_ 1 :=
  let main_v0 : FVec F S1024x16384 .f32 := (extf .f32 · bitsLt_bf16_f32) main_arg2
  let main_v1 : FVec F S1024x16384 .f32 := Host.absf main_v0
  let main_cst : FVec F S_ .f32 := constant S_ .f32 0x7F800000#32
  let main_v2 : FVec F S1024x16384 .f32 := broadcastInDim S1024x16384 ![] bcast_S_S1024x16384 main_cst
  let main_v3 : IVec S1024x16384 1 := cmpf .olt main_v1 main_v2
  let main_c : IVec S_ 1 := constantI S_ 1 1#1
  let main_v4 : IVec S_ 1 := (fun x v => Host.reduce IntOp.andi x v reducesTo_S1024x16384_S_d0_1 h_S_) main_v3 main_c
  let main_v5 : FVec F S4x64 .f32 := Host.absf main_arg4
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  main_v9
-- ==== Kernel.lean ====
abbrev S1024x16384 : Shape := ⟨2, ![1024, 16384]⟩
abbrev S16384x1024 : Shape := ⟨2, ![16384, 1024]⟩
abbrev S16384x6144 : Shape := ⟨2, ![16384, 6144]⟩
abbrev S4x64 : Shape := ⟨2, ![4, 64]⟩
abbrev S128 : Shape := ⟨1, ![128]⟩
abbrev S36 : Shape := ⟨1, ![36]⟩
abbrev S1x128 : Shape := ⟨2, ![1, 128]⟩
abbrev S1024x1024 : Shape := ⟨2, ![1024, 1024]⟩
abbrev S1 : Shape := ⟨1, ![1]⟩
abbrev S8x2x8x1024 : Shape := ⟨4, ![8, 2, 8, 1024]⟩
abbrev S8x2x128x1024 : Shape := ⟨4, ![8, 2, 128, 1024]⟩
abbrev S128x1024 : Shape := ⟨2, ![128, 1024]⟩
abbrev S1024x128 : Shape := ⟨2, ![1024, 128]⟩
abbrev S16x1024 : Shape := ⟨2, ![16, 1024]⟩
abbrev S144x1024 : Shape := ⟨2, ![144, 1024]⟩
abbrev S128x8x1024 : Shape := ⟨3, ![128, 8, 1024]⟩
abbrev S1x1x8x1024 : Shape := ⟨4, ![1, 1, 8, 1024]⟩
abbrev S8x1024 : Shape := ⟨2, ![8, 1024]⟩
abbrev S1x8x1024 : Shape := ⟨3, ![1, 8, 1024]⟩
abbrev S1x1x128x1024 : Shape := ⟨4, ![1, 1, 128, 1024]⟩
abbrev S16x8x1024 : Shape := ⟨3, ![16, 8, 1024]⟩
abbrev S1x64 : Shape := ⟨2, ![1, 64]⟩
abbrev S1x1 : Shape := ⟨2, ![1, 1]⟩
abbrev S1x1x1 : Shape := ⟨3, ![1, 1, 1]⟩
abbrev S1024 : Shape := ⟨1, ![1024]⟩
abbrev S1024x1 : Shape := ⟨2, ![1024, 1]⟩

abbrev nBuf : Space → Nat
  | .hbm => 8
  | .vmem => 15
  | .smem => 2
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S1024x16384, .bf16⟩
  | .hbm, ⟨3, _⟩ => ⟨S16384x6144, .f32⟩
  | .hbm, ⟨4, _⟩ => ⟨S4x64, .f32⟩
  | .hbm, ⟨5, _⟩ => ⟨S128, .f32⟩
  | .hbm, ⟨6, _⟩ => ⟨S1x128, .f32⟩
  | .hbm, ⟨7, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S4x64, .f32⟩
  | .local _ .vmem, ⟨9, _⟩ => ⟨S1x128, .f32⟩
  | .local _ .vmem, ⟨10, _⟩ => ⟨S1024x1024, .bf16⟩
  | .local _ .vmem, ⟨11, _⟩ => ⟨S1024x1024, .bf16⟩
  | .local _ .vmem, ⟨12, _⟩ => ⟨S8x2x8x1024, .f32⟩
  | .local _ .vmem, ⟨13, _⟩ => ⟨S8x2x8x1024, .f32⟩
  | .local _ .vmem, ⟨14, _⟩ => ⟨S8x2x128x1024, .f32⟩
  | .local _ .smem, ⟨0, _⟩ => ⟨S36, .i32⟩
  | .local _ .smem, ⟨1, _⟩ => ⟨S36, .i32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
@[reducible] def k0_t1_loop : Scf.Loop 32 :=
  let c0_i32_3 : BitVec 32 := 0#32
  let c8_i32 : BitVec 32 := 8#32
  let v13 : BitVec 32 := Scalar.addi c0_i32_3 c8_i32
  let c1_i32 : BitVec 32 := 1#32
  ⟨c0_i32_3, v13, c1_i32⟩
def k0_mult1 (k0_t1 : Fin k0_t1_loop.trips) : BitVec 32 :=
  let c0_i32_3 : BitVec 32 := 0#32
  let c1_i32 : BitVec 32 := 1#32
  let arg14 : BitVec 32 := Scf.iv c0_i32_3 c1_i32 k0_t1
  let c128_i32 : BitVec 32 := 128#32
  let v14 : BitVec 32 := Scalar.muli arg14 c128_i32
  v14
def k0_off2 (k0_t1 : Fin k0_t1_loop.trips) : Fin 2 → Nat :=
  let c0_i32_3 : BitVec 32 := 0#32
  let c1_i32 : BitVec 32 := 1#32
  let arg14 : BitVec 32 := Scf.iv c0_i32_3 c1_i32 k0_t1
  let c128_i32 : BitVec 32 := 128#32
  let v14 : BitVec 32 := Scalar.muli arg14 c128_i32
  let v15 : BitVec 32 := v14
  let v16 : Index := Scalar.indexCast v15
  let c0 : Index := 0#32
  ![v16.toNat, 0]
def k0_off3 (k0_t1 : Fin k0_t1_loop.trips) : Fin 2 → Nat :=
  let c0_5 : Index := 0#32
  let c0_i32_3 : BitVec 32 := 0#32
  let c1_i32 : BitVec 32 := 1#32
  let arg14 : BitVec 32 := Scf.iv c0_i32_3 c1_i32 k0_t1
  let c128_i32 : BitVec 32 := 128#32
  let v14 : BitVec 32 := Scalar.muli arg14 c128_i32
  let v15 : BitVec 32 := v14
  let v18 : Index := Scalar.indexCast v15
  ![0, v18.toNat]
def k0_off4 (k0_t1 : Fin k0_t1_loop.trips) : Fin 4 → Nat :=
  let c0_i32_3 : BitVec 32 := 0#32
  let c1_i32 : BitVec 32 := 1#32
  let arg14 : BitVec 32 := Scf.iv c0_i32_3 c1_i32 k0_t1
  let v35 : Index := Scalar.indexCast arg14
  let c0_11 : Index := 0#32
  let c0_12 : Index := 0#32
  let c0_13 : Index := 0#32
  ![v35.toNat, 0, 0, 0]
def k0_off5 (k0_t1 : Fin k0_t1_loop.trips) : Fin 4 → Nat :=
  let c0_i32_3 : BitVec 32 := 0#32
  let c1_i32 : BitVec 32 := 1#32
  let arg14 : BitVec 32 := Scf.iv c0_i32_3 c1_i32 k0_t1
  let v65 : Index := Scalar.indexCast arg14
  let c0_23 : Index := 0#32
  let c0_24 : Index := 0#32
  let c0_25 : Index := 0#32
  ![v65.toNat, 0, 0, 0]
def k0_off6 (k0_t1 : Fin k0_t1_loop.trips) : Fin 4 → Nat :=
  let c0_i32_3 : BitVec 32 := 0#32
  let c1_i32 : BitVec 32 := 1#32
  let arg14 : BitVec 32 := Scf.iv c0_i32_3 c1_i32 k0_t1
  let v84 : Index := Scalar.indexCast arg14
  let c1 : Index := 1#32
  let c0_32 : Index := 0#32
  let c0_33 : Index := 0#32
  ![v84.toNat, 1, 0, 0]
def k0_off7 (k0_t1 : Fin k0_t1_loop.trips) : Fin 4 → Nat :=
  let c0_i32_3 : BitVec 32 := 0#32
  let c1_i32 : BitVec 32 := 1#32
  let arg14 : BitVec 32 := Scf.iv c0_i32_3 c1_i32 k0_t1
  let v114 : Index := Scalar.indexCast arg14
  let c1_45 : Index := 1#32
  let c0_46 : Index := 0#32
  let c0_47 : Index := 0#32
  ![v114.toNat, 1, 0, 0]
@[reducible] def k0_t2_loop : Scf.Loop 32 :=
  let c0_i32_3 : BitVec 32 := 0#32
  let c8_i32 : BitVec 32 := 8#32
  let v13 : BitVec 32 := Scalar.addi c0_i32_3 c8_i32
  let c1_i32 : BitVec 32 := 1#32
  ⟨c0_i32_3, v13, c1_i32⟩
def k0_mult2 (k0_t2 : Fin k0_t2_loop.trips) : BitVec 32 :=
  let c0_i32_3 : BitVec 32 := 0#32
  let c1_i32 : BitVec 32 := 1#32
  let arg14 : BitVec 32 := Scf.iv c0_i32_3 c1_i32 k0_t2
  let c128_i32 : BitVec 32 := 128#32
  let v14 : BitVec 32 := Scalar.muli arg14 c128_i32
  v14
def k0_off8 (k0_t2 : Fin k0_t2_loop.trips) : Fin 2 → Nat :=
  let c0_i32_3 : BitVec 32 := 0#32
  let c1_i32 : BitVec 32 := 1#32
  let arg14 : BitVec 32 := Scf.iv c0_i32_3 c1_i32 k0_t2
  let c128_i32 : BitVec 32 := 128#32
  let v14 : BitVec 32 := Scalar.muli arg14 c128_i32
  let v15 : BitVec 32 := v14
  let v16 : Index := Scalar.indexCast v15
  let c0 : Index := 0#32
  ![v16.toNat, 0]
def k0_off9 (k0_t2 : Fin k0_t2_loop.trips) : Fin 2 → Nat :=
  let c0_5 : Index := 0#32
  let c0_i32_3 : BitVec 32 := 0#32
  let c1_i32 : BitVec 32 := 1#32
  let arg14 : BitVec 32 := Scf.iv c0_i32_3 c1_i32 k0_t2
  let c128_i32 : BitVec 32 := 128#32
  let v14 : BitVec 32 := Scalar.muli arg14 c128_i32
  let v15 : BitVec 32 := v14
  let v18 : Index := Scalar.indexCast v15
  ![0, v18.toNat]
def k0_off10 (k0_t2 : Fin k0_t2_loop.trips) : Fin 4 → Nat :=
  let c0_i32_3 : BitVec 32 := 0#32
  let c1_i32 : BitVec 32 := 1#32
  let arg14 : BitVec 32 := Scf.iv c0_i32_3 c1_i32 k0_t2
  let v40 : Index := Scalar.indexCast arg14
  let c0_12 : Index := 0#32
  let c0_13 : Index := 0#32
  let c0_14 : Index := 0#32
  ![v40.toNat, 0, 0, 0]
def k0_off11 (k0_t2 : Fin k0_t2_loop.trips) : Fin 4 → Nat :=
  let c0_i32_3 : BitVec 32 := 0#32
  let c1_i32 : BitVec 32 := 1#32
  let arg14 : BitVec 32 := Scf.iv c0_i32_3 c1_i32 k0_t2
  let v70 : Index := Scalar.indexCast arg14
  let c0_24 : Index := 0#32
  let c0_25 : Index := 0#32
  let c0_26 : Index := 0#32
  ![v70.toNat, 0, 0, 0]
def k0_off12 (k0_t2 : Fin k0_t2_loop.trips) : Fin 4 → Nat :=
  let c0_i32_3 : BitVec 32 := 0#32
  let c1_i32 : BitVec 32 := 1#32
  let arg14 : BitVec 32 := Scf.iv c0_i32_3 c1_i32 k0_t2
  let v94 : Index := Scalar.indexCast arg14
  let c1 : Index := 1#32
  let c0_34 : Index := 0#32
  let c0_35 : Index := 0#32
  ![v94.toNat, 1, 0, 0]
def k0_off13 (k0_t2 : Fin k0_t2_loop.trips) : Fin 4 → Nat :=
  let c0_i32_3 : BitVec 32 := 0#32
  let c1_i32 : BitVec 32 := 1#32
  let arg14 : BitVec 32 := Scf.iv c0_i32_3 c1_i32 k0_t2
  let v124 : Index := Scalar.indexCast arg14
  let c1_47 : Index := 1#32
  let c0_48 : Index := 0#32
  let c0_49 : Index := 0#32
  ![v124.toNat, 1, 0, 0]
def k0_mult3 (k0_t2 : Fin k0_t2_loop.trips) : BitVec 32 :=
  let c0_i32_3 : BitVec 32 := 0#32
  let c1_i32 : BitVec 32 := 1#32
  let arg14 : BitVec 32 := Scf.iv c0_i32_3 c1_i32 k0_t2
  let c128_i32_56 : BitVec 32 := 128#32
  let v142 : BitVec 32 := Scalar.muli arg14 c128_i32_56
  v142
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S36) ![v1.toNat] S1.size (k0_off1_inb i)) numel1_S1
  let v3 : BitVec 32 := Scalar.addi v0 v2
  let c0_i32 : BitVec 32 := 0#32
  let c0_i32_0 : BitVec 32 := 0#32
  ![c0_i32.toNat, v3.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S36) ![v1.toNat] S1.size (k0_off1_inb i)) numel1_S1
  let v3 : BitVec 32 := Scalar.addi v0 v2
  let c0_i32 : BitVec 32 := 0#32
  let c0_i32_0 : BitVec 32 := 0#32
  ![c0_i32.toNat, v3.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S36) ![v1.toNat] S1.size (k0_off1_inb i)) numel1_S1
  let v3 : BitVec 32 := Scalar.addi v0 v2
  let c4_i32 : BitVec 32 := 4#32
  let c0_i32 : BitVec 32 := 0#32
  ![v3.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1024x16384 : Shape := ⟨2, ![1024, 16384]⟩
abbrev S16384x1024 : Shape := ⟨2, ![16384, 1024]⟩
abbrev S16384x6144 : Shape := ⟨2, ![16384, 6144]⟩
abbrev S4x64 : Shape := ⟨2, ![4, 64]⟩
abbrev S128 : Shape := ⟨1, ![128]⟩
abbrev S2x8192x8x2x64 : Shape := ⟨5, ![2, 8192, 8, 2, 64]⟩
abbrev S2x8192x8x128 : Shape := ⟨4, ![2, 8192, 8, 128]⟩
abbrev S1x64 : Shape := ⟨2, ![1, 64]⟩
abbrev S64 : Shape := ⟨1, ![64]⟩
abbrev S_ : Shape := ⟨0, ![]⟩
abbrev S2x8x2x8192x8192 : Shape := ⟨5, ![2, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 100
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S1024x16384, .bf16⟩
  | .hbm, ⟨3, _⟩ => ⟨S16384x6144, .f32⟩
  | .hbm, ⟨4, _⟩ => ⟨S4x64, .f32⟩
  | .hbm, ⟨5, _⟩ => ⟨S128, .f32⟩
  | .hbm, ⟨6, _⟩ => ⟨S1024x16384, .f32⟩
  | .hbm, ⟨7, _⟩ => ⟨S16384x1024, .f32⟩
  | .hbm, ⟨8, _⟩ => ⟨S2x8192x8x2x64, .f32⟩
  | .hbm, ⟨9, _⟩ => ⟨S16384x1024, .f32⟩
  | .hbm, ⟨10, _⟩ => ⟨S2x8192x8x2x64, .f32⟩
  | .hbm, ⟨11, _⟩ => ⟨S1024x16384, .f32⟩
  | .hbm, ⟨12, _⟩ => ⟨S16384x1024, .f32⟩
  | .hbm, ⟨13, _⟩ => ⟨S2x8192x8x128, .f32⟩
  | .hbm, ⟨14, _⟩ => ⟨S16384x1024, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x8x2x8192x8192, .f32⟩
  | .hbm, ⟨35, _⟩ => ⟨S8192, .i32⟩
  | .hbm, ⟨36, _⟩ => ⟨S1x8192, .i32⟩
  | .hbm, ⟨37, _⟩ => ⟨S8192x1, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S_, .f32⟩
  | .hbm, ⟨42, _⟩ => ⟨S_, .f32⟩
  | .hbm, ⟨43, _⟩ => ⟨S2x8x2x8192x8192, .i1⟩
  | .hbm, ⟨44, _⟩ => ⟨S2x8x2x8192x8192, .f32⟩
  | .hbm, ⟨45, _⟩ => ⟨S2x8x2x8192x8192, .f32⟩
  | .hbm, ⟨46, _⟩ => ⟨S_, .f32⟩
  | .hbm, ⟨47, _⟩ => ⟨S2x8x2x8192, .f32⟩
  | .hbm, ⟨48, _⟩ => ⟨S_, .f32⟩
  | .hbm, ⟨49, _⟩ => ⟨S2x8x2x8192, .f32⟩
  | .hbm, ⟨50, _⟩ => ⟨S2x8x2x8192, .f32⟩
  | .hbm, ⟨51, _⟩ => ⟨S2x8x2x8192x1, .f32⟩
  | .hbm, ⟨52, _⟩ => ⟨S2x8x2x8192x8192, .f32⟩
  | .hbm, ⟨53, _⟩ => ⟨S2x8x2x8192x8192, .f32⟩
  | .hbm, ⟨54, _⟩ => ⟨S2x8x2x8192x8192, .f32⟩
  | .hbm, ⟨55, _⟩ => ⟨S_, .f32⟩
  | .hbm, ⟨56, _⟩ => ⟨S2x8x2x8192, .f32⟩
  | .hbm, ⟨57, _⟩ => ⟨S2x8x2x8192x1, .f32⟩
  | .hbm, ⟨58, _⟩ => ⟨S2x8x2x8192x8192, .f32⟩
  | .hbm, ⟨59, _⟩ => ⟨S2x8x2x8192x8192, .f32⟩
  | .hbm, ⟨60, _⟩ => ⟨S2x8x1x8192x8192, .f32⟩
  | .hbm, ⟨61, _⟩ => ⟨S2x8x8192x8192, .f32⟩
  | .hbm, ⟨62, _⟩ => ⟨S2x8x1x8192x8192, .f32⟩
  | .hbm, ⟨63, _⟩ => ⟨S2x8x8192x8192, .f32⟩
  | .hbm, ⟨64, _⟩ => ⟨S2x8x8192x8192, .f32⟩
  | .hbm, ⟨65, _⟩ => ⟨S2x8x8192x8192, .f32⟩
  | .hbm, ⟨66, _⟩ => ⟨S2x8x8192x8192, .f32⟩
  | .hbm, ⟨67, _⟩ => ⟨S2x8x128x8192, .f32⟩
  | .hbm, ⟨68, _⟩ => ⟨S2x8192x8x128, .f32⟩
  | .hbm, ⟨69, _⟩ => ⟨S2x8192x8x128, .f32⟩
  | .hbm, ⟨70, _⟩ => ⟨S_, .f32⟩
  | .hbm, ⟨71, _⟩ => ⟨S2x8192x8, .f32⟩
  | .hbm, ⟨72, _⟩ => ⟨S2x8192x8x1, .f32⟩
  | .hbm, ⟨73, _⟩ => ⟨S_, .f32⟩
  | .hbm, ⟨74, _⟩ => ⟨S2x8192x8x1, .f32⟩
  | .hbm, ⟨75, _⟩ => ⟨S2x8192x8x1, .f32⟩
  | .hbm, ⟨76, _⟩ => ⟨S_, .f32⟩
  | .hbm, ⟨77, _⟩ => ⟨S2x8192x8x1, .f32⟩
  | .hbm, ⟨78, _⟩ => ⟨S2x8192x8x1, .f32⟩
  | .hbm, ⟨79, _⟩ => ⟨S2x8192x8x1, .f32⟩
  | .hbm, ⟨80, _⟩ => ⟨S2x8192x8x128, .f32⟩
  | .hbm, ⟨81, _⟩ => ⟨S2x8192x8x128, .f32⟩
  | .hbm, ⟨82, _⟩ => ⟨S1x1x1x128, .f32⟩
  | .hbm, ⟨83, _⟩ => ⟨S2x8192x8x128, .f32⟩
  | .hbm, ⟨84, _⟩ => ⟨S2x8192x8x128, .f32⟩
  | .hbm, ⟨85, _⟩ => ⟨S_, .f32⟩
  | .hbm, ⟨86, _⟩ => ⟨S2x8192x8x128, .f32⟩
  | .hbm, ⟨87, _⟩ => ⟨S2x8192x8x128, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S_, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== InC.lean ====
abbrev S16384x1024 : Shape := ⟨2, ![16384, 1024]⟩
abbrev S1024 : Shape := ⟨1, ![1024]⟩
abbrev S1024x7168 : Shape := ⟨2, ![1024, 7168]⟩
abbrev S1x1024 : Shape := ⟨2, ![1, 1024]⟩
abbrev S16384x7168 : Shape := ⟨2, ![16384, 7168]⟩
abbrev S1024x1024 : Shape := ⟨2, ![1024, 1024]⟩
abbrev S1024x1792 : Shape := ⟨2, ![1024, 1792]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7168, .f32⟩
  | .hbm, ⟨3, _⟩ => ⟨S1024x7168, .bf16⟩
  | .hbm, ⟨4, _⟩ => ⟨S1x1024, .f32⟩
  | .hbm, ⟨5, _⟩ => ⟨S16384x7168, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1792, .bf16⟩
  | .local _ .vmem, ⟨5, _⟩ => ⟨S1024x1792, .f32⟩
  | .local _ .vmem, ⟨6, _⟩ => ⟨S1024x1792, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InCRefIdeal.lean ====
abbrev S16384x1024 : Shape := ⟨2, ![16384, 1024]⟩
abbrev S1024 : Shape := ⟨1, ![1024]⟩
abbrev S1024x7168 : Shape := ⟨2, ![1024, 7168]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7168 : Shape := ⟨2, ![16384, 7168]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7168, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x7168, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== InA.lean ====
abbrev S16384x1024 : Shape := ⟨2, ![16384, 1024]⟩
abbrev S1024 : Shape := ⟨1, ![1024]⟩
abbrev S1024x7696 : Shape := ⟨2, ![1024, 7696]⟩
abbrev S1024x1024 : Shape := ⟨2, ![1024, 1024]⟩
abbrev S1024x1536 : Shape := ⟨2, ![1024, 1536]⟩
abbrev S1024x16 : Shape := ⟨2, ![1024, 16]⟩
abbrev S1024x5120 : Shape := ⟨2, ![1024, 5120]⟩
abbrev S1024x6144 : Shape := ⟨2, ![1024, 6144]⟩
abbrev S_ : Shape := ⟨0, ![]⟩
abbrev S1024x112 : Shape := ⟨2, ![1024, 112]⟩
abbrev S1024x1664 : Shape := ⟨2, ![1024, 1664]⟩
abbrev S1x1024 : Shape := ⟨2, ![1, 1024]⟩
abbrev S16384x6144 : Shape := ⟨2, ![16384, 6144]⟩
abbrev S1024x3072 : Shape := ⟨2, ![1024, 3072]⟩
abbrev S1024x1 : Shape := ⟨2, ![1024, 1]⟩

abbrev nBuf : Space → Nat
  | .hbm => 15
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7696, .f32⟩
  | .hbm, ⟨3, _⟩ => ⟨S1024x1024, .f32⟩
  | .hbm, ⟨4, _⟩ => ⟨S1024x1536, .f32⟩
  | .hbm, ⟨5, _⟩ => ⟨S1024x16, .f32⟩
  | .hbm, ⟨6, _⟩ => ⟨S1024x5120, .f32⟩
  | .hbm, ⟨7, _⟩ => ⟨S1024x6144, .f32⟩
  | .hbm, ⟨8, _⟩ => ⟨S1024x6144, .bf16⟩
  | .hbm, ⟨9, _⟩ => ⟨S_, .f32⟩
  | .hbm, ⟨10, _⟩ => ⟨S1024x112, .f32⟩
  | .hbm, ⟨11, _⟩ => ⟨S1024x1664, .f32⟩
  | .hbm, ⟨12, _⟩ => ⟨S1024x1664, .bf16⟩
  | .hbm, ⟨13, _⟩ => ⟨S1x1024, .f32⟩
  | .hbm, ⟨14, _⟩ => ⟨S16384x6144, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S1024x3072, .f32⟩
  | .local _ .vmem, ⟨6, _⟩ => ⟨S1024x3072, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InARefIdeal.lean ====
abbrev S16384x1024 : Shape := ⟨2, ![16384, 1024]⟩
abbrev S1024 : Shape := ⟨1, ![1024]⟩
abbrev S1024x7696 : Shape := ⟨2, ![1024, 7696]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7696 : Shape := ⟨2, ![16384, 7696]⟩
abbrev S16384x5120 : Shape := ⟨2, ![16384, 5120]⟩
abbrev S16384x6144 : Shape := ⟨2, ![16384, 6144]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7696, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x7696, .f32⟩
  | .hbm, ⟨20, _⟩ => ⟨S16384x1024, .f32⟩
  | .hbm, ⟨21, _⟩ => ⟨S16384x5120, .f32⟩
  | .hbm, ⟨22, _⟩ => ⟨S16384x6144, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== InS.lean ====
abbrev S16384x1024 : Shape := ⟨2, ![16384, 1024]⟩
abbrev S1024 : Shape := ⟨1, ![1024]⟩
abbrev S1024x7696 : Shape := ⟨2, ![1024, 7696]⟩
abbrev S1024x1024 : Shape := ⟨2, ![1024, 1024]⟩
abbrev S1024x1536 : Shape := ⟨2, ![1024, 1536]⟩
abbrev S1024x16 : Shape := ⟨2, ![1024, 16]⟩
abbrev S1024x5120 : Shape := ⟨2, ![1024, 5120]⟩
abbrev S1024x6144 : Shape := ⟨2, ![1024, 6144]⟩
abbrev S_ : Shape := ⟨0, ![]⟩
abbrev S1024x112 : Shape := ⟨2, ![1024, 112]⟩
abbrev S1024x1664 : Shape := ⟨2, ![1024, 1664]⟩
abbrev S1x1024 : Shape := ⟨2, ![1, 1024]⟩
abbrev S16384x1664 : Shape := ⟨2, ![16384, 1664]⟩
abbrev S1024x1 : Shape := ⟨2, ![1024, 1]⟩

abbrev nBuf : Space → Nat
  | .hbm => 15
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7696, .f32⟩
  | .hbm, ⟨3, _⟩ => ⟨S1024x1024, .f32⟩
  | .hbm, ⟨4, _⟩ => ⟨S1024x1536, .f32⟩
  | .hbm, ⟨5, _⟩ => ⟨S1024x16, .f32⟩
  | .hbm, ⟨6, _⟩ => ⟨S1024x5120, .f32⟩
  | .hbm, ⟨7, _⟩ => ⟨S1024x6144, .f32⟩
  | .hbm, ⟨8, _⟩ => ⟨S1024x6144, .bf16⟩
  | .hbm, ⟨9, _⟩ => ⟨S_, .f32⟩
  | .hbm, ⟨10, _⟩ => ⟨S1024x112, .f32⟩
  | .hbm, ⟨11, _⟩ => ⟨S1024x1664, .f32⟩
  | .hbm, ⟨12, _⟩ => ⟨S1024x1664, .bf16⟩
  | .hbm, ⟨13, _⟩ => ⟨S1x1024, .f32⟩
  | .hbm, ⟨14, _⟩ => ⟨S16384x1664, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InSRefIdeal.lean ====
abbrev S16384x1024 : Shape := ⟨2, ![16384, 1024]⟩
abbrev S1024 : Shape := ⟨1, ![1024]⟩
abbrev S1024x7696 : Shape := ⟨2, ![1024, 7696]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7696 : Shape := ⟨2, ![16384, 7696]⟩
abbrev S16384x1552 : Shape := ⟨2, ![16384, 1552]⟩
abbrev S16384x112 : Shape := ⟨2, ![16384, 112]⟩
abbrev S16384x1664 : Shape := ⟨2, ![16384, 1664]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7696, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x7696, .f32⟩
  | .hbm, ⟨20, _⟩ => ⟨S16384x1552, .f32⟩
  | .hbm, ⟨21, _⟩ => ⟨S_, .f32⟩
  | .hbm, ⟨22, _⟩ => ⟨S16384x112, .f32⟩
  | .hbm, ⟨23, _⟩ => ⟨S16384x1664, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MemKV.lean ====
abbrev S2x256x1024 : Shape := ⟨3, ![2, 256, 1024]⟩
abbrev S1024 : Shape := ⟨1, ![1024]⟩
abbrev S4x1024x512 : Shape := ⟨3, ![4, 1024, 512]⟩
abbrev S1x1024x512 : Shape := ⟨3, ![1, 1024, 512]⟩
abbrev S1024x512 : Shape := ⟨2, ![1024, 512]⟩
abbrev S1024x1024 : Shape := ⟨2, ![1024, 1024]⟩
abbrev S1024x4096 : Shape := ⟨2, ![1024, 4096]⟩
abbrev S512x1024 : Shape := ⟨2, ![512, 1024]⟩
abbrev S1x1024 : Shape := ⟨2, ![1, 1024]⟩
abbrev S512x4096 : Shape := ⟨2, ![512, 4096]⟩
abbrev S256x1024 : Shape := ⟨2, ![256, 1024]⟩
abbrev S256 : Shape := ⟨1, ![256]⟩
abbrev S256x1 : Shape := ⟨2, ![256, 1]⟩

abbrev nBuf : Space → Nat
  | .hbm => 29
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S4x1024x512, .f32⟩
  | .hbm, ⟨3, _⟩ => ⟨S4x1024x512, .f32⟩
  | .hbm, ⟨4, _⟩ => ⟨S1x1024x512, .f32⟩
  | .hbm, ⟨5, _⟩ => ⟨S1024x512, .f32⟩
  | .hbm, ⟨6, _⟩ => ⟨S1x1024x512, .f32⟩
  | .hbm, ⟨7, _⟩ => ⟨S1024x512, .f32⟩
  | .hbm, ⟨8, _⟩ => ⟨S1024x1024, .f32⟩
  | .hbm, ⟨9, _⟩ => ⟨S1x1024x512, .f32⟩
  | .hbm, ⟨10, _⟩ => ⟨S1024x512, .f32⟩
  | .hbm, ⟨11, _⟩ => ⟨S1x1024x512, .f32⟩
  | .hbm, ⟨12, _⟩ => ⟨S1024x512, .f32⟩
  | .hbm, ⟨13, _⟩ => ⟨S1024x1024, .f32⟩
  | .hbm, ⟨14, _⟩ => ⟨S1x1024x512, .f32⟩
  | .hbm, ⟨15, _⟩ => ⟨S1024x512, .f32⟩
  | .hbm, ⟨16, _⟩ => ⟨S1x1024x512, .f32⟩
  | .hbm, ⟨17, _⟩ => ⟨S1024x512, .f32⟩
  | .hbm, ⟨18, _⟩ => ⟨S1024x1024, .f32⟩
  | .hbm, ⟨19, _⟩ => ⟨S1x1024x512, .f32⟩
  | .hbm, ⟨20, _⟩ => ⟨S1024x512, .f32⟩
  | .hbm, ⟨21, _⟩ => ⟨S1x1024x512, .f32⟩
  | .hbm, ⟨22, _⟩ => ⟨S1024x512, .f32⟩
  | .hbm, ⟨23, _⟩ => ⟨S1024x1024, .f32⟩
  | .hbm, ⟨24, _⟩ => ⟨S1024x4096, .f32⟩
  | .hbm, ⟨25, _⟩ => ⟨S1024x4096, .bf16⟩
  | .hbm, ⟨26, _⟩ => ⟨S512x1024, .f32⟩
  | .hbm, ⟨27, _⟩ => ⟨S1x1024, .f32⟩
  | .hbm, ⟨28, _⟩ => ⟨S512x4096, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKVRefIdeal.lean ====
abbrev S2x256x1024 : Shape := ⟨3, ![2, 256, 1024]⟩
abbrev S1024 : Shape := ⟨1, ![1024]⟩
abbrev S4x1024x512 : Shape := ⟨3, ![4, 1024, 512]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x4x512 : Shape := ⟨4, ![2, 256, 4, 512]⟩
abbrev S2x256x4x1x512 : Shape := ⟨5, ![2, 256, 4, 1, 512]⟩
abbrev S2x256x4x2x512 : Shape := ⟨5, ![2, 256, 4, 2, 512]⟩
abbrev S512x4096 : Shape := ⟨2, ![512, 4096]⟩

abbrev nBuf : Space → Nat
  | .hbm => 26
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S4x1024x512, .f32⟩
  | .hbm, ⟨3, _⟩ => ⟨S4x1024x512, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x4x512, .f32⟩
  | .hbm, ⟨21, _⟩ => ⟨S2x256x4x512, .f32⟩
  | .hbm, ⟨22, _⟩ => ⟨S2x256x4x1x512, .f32⟩
  | .hbm, ⟨23, _⟩ => ⟨S2x256x4x1x512, .f32⟩
  | .hbm, ⟨24, _⟩ => ⟨S2x256x4x2x512, .f32⟩
  | .hbm, ⟨25, _⟩ => ⟨S512x4096, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutA.lean ====
abbrev S16384x1024 : Shape := ⟨2, ![16384, 1024]⟩
abbrev S16384x512 : Shape := ⟨2, ![16384, 512]⟩
abbrev S2560x1024 : Shape := ⟨2, ![2560, 1024]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S2560x1024, .f32⟩
  | .hbm, ⟨4, _⟩ => ⟨S16384x1024, .f32⟩
  | .hbm, ⟨5, _⟩ => ⟨S1024, .f32⟩
  | .hbm, ⟨6, _⟩ => ⟨S2560x1024, .bf16⟩
  | .hbm, ⟨7, _⟩ => ⟨S1024x1024, .bf16⟩
  | .hbm, ⟨8, _⟩ => ⟨S1024x1024, .bf16⟩
  | .hbm, ⟨9, _⟩ => ⟨S512x1024, .bf16⟩
  | .hbm, ⟨10, _⟩ => ⟨S1x1024, .f32⟩
  | .hbm, ⟨11, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutARefIdeal.lean ====
abbrev S16384x1024 : Shape := ⟨2, ![16384, 1024]⟩
abbrev S16384x512 : Shape := ⟨2, ![16384, 512]⟩
abbrev S2560x1024 : Shape := ⟨2, ![2560, 1024]⟩
abbrev S1024 : Shape := ⟨1, ![1024]⟩
abbrev S16384x2560 : Shape := ⟨2, ![16384, 2560]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S2560x1024, .f32⟩
  | .hbm, ⟨4, _⟩ => ⟨S16384x1024, .f32⟩
  | .hbm, ⟨5, _⟩ => ⟨S1024, .f32⟩
  | .hbm, ⟨6, _⟩ => ⟨S16384x2560, .bf16⟩
  | .hbm, ⟨7, _⟩ => ⟨S16384x2560, .f32⟩
  | .hbm, ⟨8, _⟩ => ⟨S16384x1024, .f32⟩
  | .hbm, ⟨9, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== OutC.lean ====
abbrev S16384x2048 : Shape := ⟨2, ![16384, 2048]⟩
abbrev S16384x512 : Shape := ⟨2, ![16384, 512]⟩
abbrev S2560x1024 : Shape := ⟨2, ![2560, 1024]⟩
abbrev S16384x1024 : Shape := ⟨2, ![16384, 1024]⟩
abbrev S1024 : Shape := ⟨1, ![1024]⟩
abbrev S2048x1024 : Shape := ⟨2, ![2048, 1024]⟩
abbrev S512x1024 : Shape := ⟨2, ![512, 1024]⟩
abbrev S1x1024 : Shape := ⟨2, ![1, 1024]⟩
abbrev S512x2048 : Shape := ⟨2, ![512, 2048]⟩
abbrev S512x512 : Shape := ⟨2, ![512, 512]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S2560x1024, .f32⟩
  | .hbm, ⟨3, _⟩ => ⟨S16384x1024, .f32⟩
  | .hbm, ⟨4, _⟩ => ⟨S1024, .f32⟩
  | .hbm, ⟨5, _⟩ => ⟨S2560x1024, .bf16⟩
  | .hbm, ⟨6, _⟩ => ⟨S2048x1024, .bf16⟩
  | .hbm, ⟨7, _⟩ => ⟨S512x1024, .bf16⟩
  | .hbm, ⟨8, _⟩ => ⟨S1x1024, .f32⟩
  | .hbm, ⟨9, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutCRefIdeal.lean ====
abbrev S16384x2048 : Shape := ⟨2, ![16384, 2048]⟩
abbrev S16384x512 : Shape := ⟨2, ![16384, 512]⟩
abbrev S2560x1024 : Shape := ⟨2, ![2560, 1024]⟩
abbrev S16384x1024 : Shape := ⟨2, ![16384, 1024]⟩
abbrev S1024 : Shape := ⟨1, ![1024]⟩
abbrev S16384x2560 : Shape := ⟨2, ![16384, 2560]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S2560x1024, .f32⟩
  | .hbm, ⟨3, _⟩ => ⟨S16384x1024, .f32⟩
  | .hbm, ⟨4, _⟩ => ⟨S1024, .f32⟩
  | .hbm, ⟨5, _⟩ => ⟨S16384x2560, .bf16⟩
  | .hbm, ⟨6, _⟩ => ⟨S16384x2560, .f32⟩
  | .hbm, ⟨7, _⟩ => ⟨S16384x1024, .f32⟩
  | .hbm, ⟨8, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== OutF.lean ====
abbrev S16384x2048 : Shape := ⟨2, ![16384, 2048]⟩
abbrev S16384x512 : Shape := ⟨2, ![16384, 512]⟩
abbrev S2560x1024 : Shape := ⟨2, ![2560, 1024]⟩
abbrev S16384x1024 : Shape := ⟨2, ![16384, 1024]⟩
abbrev S1024 : Shape := ⟨1, ![1024]⟩
abbrev S2048x1024 : Shape := ⟨2, ![2048, 1024]⟩
abbrev S512x1024 : Shape := ⟨2, ![512, 1024]⟩
abbrev S1x1024 : Shape := ⟨2, ![1, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S2560x1024, .f32⟩
  | .hbm, ⟨3, _⟩ => ⟨S16384x1024, .f32⟩
  | .hbm, ⟨4, _⟩ => ⟨S1024, .f32⟩
  | .hbm, ⟨5, _⟩ => ⟨S2560x1024, .bf16⟩
  | .hbm, ⟨6, _⟩ => ⟨S2048x1024, .bf16⟩
  | .hbm, ⟨7, _⟩ => ⟨S512x1024, .bf16⟩
  | .hbm, ⟨8, _⟩ => ⟨S1x1024, .f32⟩
  | .hbm, ⟨9, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutFRefIdeal.lean ====
abbrev S16384x2048 : Shape := ⟨2, ![16384, 2048]⟩
abbrev S16384x512 : Shape := ⟨2, ![16384, 512]⟩
abbrev S2560x1024 : Shape := ⟨2, ![2560, 1024]⟩
abbrev S16384x1024 : Shape := ⟨2, ![16384, 1024]⟩
abbrev S1024 : Shape := ⟨1, ![1024]⟩
abbrev S16384x2560 : Shape := ⟨2, ![16384, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S2560x1024, .f32⟩
  | .hbm, ⟨3, _⟩ => ⟨S16384x1024, .f32⟩
  | .hbm, ⟨4, _⟩ => ⟨S1024, .f32⟩
  | .hbm, ⟨5, _⟩ => ⟨S16384x2560, .bf16⟩
  | .hbm, ⟨6, _⟩ => ⟨S16384x2560, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== SmpA.lean ====
abbrev S128x1024 : Shape := ⟨2, ![128, 1024]⟩
abbrev S1024 : Shape := ⟨1, ![1024]⟩
abbrev S1024x7696 : Shape := ⟨2, ![1024, 7696]⟩
abbrev S1024x1024 : Shape := ⟨2, ![1024, 1024]⟩
abbrev S1024x1536 : Shape := ⟨2, ![1024, 1536]⟩
abbrev S1024x16 : Shape := ⟨2, ![1024, 16]⟩
abbrev S1024x5120 : Shape := ⟨2, ![1024, 5120]⟩
abbrev S1024x6144 : Shape := ⟨2, ![1024, 6144]⟩
abbrev S_ : Shape := ⟨0, ![]⟩
abbrev S1024x112 : Shape := ⟨2, ![1024, 112]⟩
abbrev S1024x1664 : Shape := ⟨2, ![1024, 1664]⟩
abbrev S1x1024 : Shape := ⟨2, ![1, 1024]⟩
abbrev S128x6144 : Shape := ⟨2, ![128, 6144]⟩
abbrev S128 : Shape := ⟨1, ![128]⟩
abbrev S128x1 : Shape := ⟨2, ![128, 1]⟩

abbrev nBuf : Space → Nat
  | .hbm => 15
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x7696, .f32⟩
  | .hbm, ⟨3, _⟩ => ⟨S1024x1024, .f32⟩
  | .hbm, ⟨4, _⟩ => ⟨S1024x1536, .f32⟩
  | .hbm, ⟨5, _⟩ => ⟨S1024x16, .f32⟩
  | .hbm, ⟨6, _⟩ => ⟨S1024x5120, .f32⟩
  | .hbm, ⟨7, _⟩ => ⟨S1024x6144, .f32⟩
  | .hbm, ⟨8, _⟩ => ⟨S1024x6144, .bf16⟩
  | .hbm, ⟨9, _⟩ => ⟨S_, .f32⟩
  | .hbm, ⟨10, _⟩ => ⟨S1024x112, .f32⟩
  | .hbm, ⟨11, _⟩ => ⟨S1024x1664, .f32⟩
  | .hbm, ⟨12, _⟩ => ⟨S1024x1664, .bf16⟩
  | .hbm, ⟨13, _⟩ => ⟨S1x1024, .f32⟩
  | .hbm, ⟨14, _⟩ => ⟨S128x6144, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SmpARefIdeal.lean ====
abbrev S128x1024 : Shape := ⟨2, ![128, 1024]⟩
abbrev S1024 : Shape := ⟨1, ![1024]⟩
abbrev S1024x7696 : Shape := ⟨2, ![1024, 7696]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x7696 : Shape := ⟨2, ![128, 7696]⟩
abbrev S128x5120 : Shape := ⟨2, ![128, 5120]⟩
abbrev S128x6144 : Shape := ⟨2, ![128, 6144]⟩

abbrev nBuf : Space → Nat
  | .hbm => 23
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x7696, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x7696, .f32⟩
  | .hbm, ⟨20, _⟩ => ⟨S128x1024, .f32⟩
  | .hbm, ⟨21, _⟩ => ⟨S128x5120, .f32⟩
  | .hbm, ⟨22, _⟩ => ⟨S128x6144, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== SmpS.lean ====
abbrev S128x1024 : Shape := ⟨2, ![128, 1024]⟩
abbrev S1024 : Shape := ⟨1, ![1024]⟩
abbrev S1024x7696 : Shape := ⟨2, ![1024, 7696]⟩
abbrev S1024x1024 : Shape := ⟨2, ![1024, 1024]⟩
abbrev S1024x1536 : Shape := ⟨2, ![1024, 1536]⟩
abbrev S1024x16 : Shape := ⟨2, ![1024, 16]⟩
abbrev S1024x5120 : Shape := ⟨2, ![1024, 5120]⟩
abbrev S1024x6144 : Shape := ⟨2, ![1024, 6144]⟩
abbrev S_ : Shape := ⟨0, ![]⟩
abbrev S1024x112 : Shape := ⟨2, ![1024, 112]⟩
abbrev S1024x1664 : Shape := ⟨2, ![1024, 1664]⟩
abbrev S1x1024 : Shape := ⟨2, ![1, 1024]⟩
abbrev S128x1664 : Shape := ⟨2, ![128, 1664]⟩
abbrev S128 : Shape := ⟨1, ![128]⟩
abbrev S128x1 : Shape := ⟨2, ![128, 1]⟩

abbrev nBuf : Space → Nat
  | .hbm => 15
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x7696, .f32⟩
  | .hbm, ⟨3, _⟩ => ⟨S1024x1024, .f32⟩
  | .hbm, ⟨4, _⟩ => ⟨S1024x1536, .f32⟩
  | .hbm, ⟨5, _⟩ => ⟨S1024x16, .f32⟩
  | .hbm, ⟨6, _⟩ => ⟨S1024x5120, .f32⟩
  | .hbm, ⟨7, _⟩ => ⟨S1024x6144, .f32⟩
  | .hbm, ⟨8, _⟩ => ⟨S1024x6144, .bf16⟩
  | .hbm, ⟨9, _⟩ => ⟨S_, .f32⟩
  | .hbm, ⟨10, _⟩ => ⟨S1024x112, .f32⟩
  | .hbm, ⟨11, _⟩ => ⟨S1024x1664, .f32⟩
  | .hbm, ⟨12, _⟩ => ⟨S1024x1664, .bf16⟩
  | .hbm, ⟨13, _⟩ => ⟨S1x1024, .f32⟩
  | .hbm, ⟨14, _⟩ => ⟨S128x1664, .f32⟩
  | .local _ .vmem, ⟨0, _⟩ => ⟨S128x1024, .f32⟩
  | .local _ .vmem, ⟨1, _⟩ => ⟨S1x1024, .f32⟩
  | .local _ .vmem, ⟨2, _⟩ => ⟨S1024x1664, .bf16⟩
  | .local _ .vmem, ⟨3, _⟩ => ⟨S128x1664, .f32⟩
  | .local _ .vmem, ⟨4, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== SmpSRefIdeal.lean ====
abbrev S128x1024 : Shape := ⟨2, ![128, 1024]⟩
abbrev S1024 : Shape := ⟨1, ![1024]⟩
abbrev S1024x7696 : Shape := ⟨2, ![1024, 7696]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x7696 : Shape := ⟨2, ![128, 7696]⟩
abbrev S128x1552 : Shape := ⟨2, ![128, 1552]⟩
abbrev S128x112 : Shape := ⟨2, ![128, 112]⟩
abbrev S128x1664 : Shape := ⟨2, ![128, 1664]⟩

abbrev nBuf : Space → Nat
  | .hbm => 24
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x7696, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x7696, .f32⟩
  | .hbm, ⟨20, _⟩ => ⟨S128x1552, .f32⟩
  | .hbm, ⟨21, _⟩ => ⟨S_, .f32⟩
  | .hbm, ⟨22, _⟩ => ⟨S128x112, .f32⟩
  | .hbm, ⟨23, _⟩ => ⟨S128x1664, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== SmpF.lean ====
abbrev S128x2048 : Shape := ⟨2, ![128, 2048]⟩
abbrev S128x512 : Shape := ⟨2, ![128, 512]⟩
abbrev S2560x1024 : Shape := ⟨2, ![2560, 1024]⟩
abbrev S128x1024 : Shape := ⟨2, ![128, 1024]⟩
abbrev S1024 : Shape := ⟨1, ![1024]⟩
abbrev S2048x1024 : Shape := ⟨2, ![2048, 1024]⟩
abbrev S512x1024 : Shape := ⟨2, ![512, 1024]⟩
abbrev S1x1024 : Shape := ⟨2, ![1, 1024]⟩
abbrev S128 : Shape := ⟨1, ![128]⟩
abbrev S128x1 : Shape := ⟨2, ![128, 1]⟩

abbrev nBuf : Space → Nat
  | .hbm => 10
  | .vmem => 7
  | .smem => 0
  | _ => 0

abbrev bufTy : (tb : Table) → Fin (tcTables nBuf tb) → BufTy
  | .hbm, ⟨0, _⟩ => ⟨S128x2048, .bf16⟩
  | .hbm, ⟨1, _⟩ => ⟨S128x512, .bf16⟩
  | .hbm, ⟨2, _⟩ => ⟨S2560x1024, .f32⟩
  | .hbm, ⟨3, _⟩ => ⟨S128x1024, .f32⟩
  | .hbm, ⟨4, _⟩ => ⟨S1024, .f32⟩
  | .hbm, ⟨5, _⟩ => ⟨S2560x1024, .bf16⟩
  | .hbm, ⟨6, _⟩ => ⟨S2048x1024, .bf16⟩
  | .hbm, ⟨7, _⟩ => ⟨S512x1024, .bf16⟩
  | .hbm, ⟨8, _⟩ => ⟨S1x1024, .f32⟩
  | .hbm, ⟨9, _⟩ => ⟨S128x1024, .f32⟩
  | .local _ .vmem, ⟨0, _⟩ => ⟨S128x2048, .bf16⟩
  | .local _ .vmem, ⟨1, _⟩ => ⟨S128x512, .bf16⟩
  | .local _ .vmem, ⟨2, _⟩ => ⟨S2048x1024, .bf16⟩
  | .local _ .vmem, ⟨3, _⟩ => ⟨S512x1024, .bf16⟩
  | .local _ .vmem, ⟨4, _⟩ => ⟨S128x1024, .f32⟩
  | .local _ .vmem, ⟨5, _⟩ => ⟨S1x1024, .f32⟩
  | .local _ .vmem, ⟨6, _⟩ => ⟨S128x1024, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== SmpFRefIdeal.lean ====
abbrev S128x2048 : Shape := ⟨2, ![128, 2048]⟩
abbrev S128x512 : Shape := ⟨2, ![128, 512]⟩
abbrev S2560x1024 : Shape := ⟨2, ![2560, 1024]⟩
abbrev S128x1024 : Shape := ⟨2, ![128, 1024]⟩
abbrev S1024 : Shape := ⟨1, ![1024]⟩
abbrev S128x2560 : Shape := ⟨2, ![128, 2560]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S128x512, .bf16⟩
  | .hbm, ⟨2, _⟩ => ⟨S2560x1024, .f32⟩
  | .hbm, ⟨3, _⟩ => ⟨S128x1024, .f32⟩
  | .hbm, ⟨4, _⟩ => ⟨S1024, .f32⟩
  | .hbm, ⟨5, _⟩ => ⟨S128x2560, .bf16⟩
  | .hbm, ⟨6, _⟩ => ⟨S128x2560, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x1024, .f32⟩
  | .hbm, ⟨21, _⟩ => ⟨S128x1024, .f32⟩
  | .hbm, ⟨22, _⟩ => ⟨S1x1024, .f32⟩
  | .hbm, ⟨23, _⟩ => ⟨S128x1024, .f32⟩
  | .hbm, ⟨24, _⟩ => ⟨S128x1024, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Rope.lean ====
abbrev S16384x6144 : Shape := ⟨2, ![16384, 6144]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S1024x16384 : Shape := ⟨2, ![1024, 16384]⟩
abbrev S16384x1024 : Shape := ⟨2, ![16384, 1024]⟩
abbrev S2x1024x8192 : Shape := ⟨3, ![2, 1024, 8192]⟩
abbrev S512x1024 : Shape := ⟨2, ![512, 1024]⟩
abbrev S512x128 : Shape := ⟨2, ![512, 128]⟩
abbrev S1024x512 : Shape := ⟨2, ![1024, 512]⟩
abbrev S1x1024x512 : Shape := ⟨3, ![1, 1024, 512]⟩
abbrev S128x512 : Shape := ⟨2, ![128, 512]⟩
abbrev S1x128x512 : Shape := ⟨3, ![1, 128, 512]⟩

abbrev nBuf : Space → Nat
  | .hbm => 42
  | .vmem => 20
  | .smem => 0
  | _ => 0

abbrev bufTy : (tb : Table) → Fin (tcTables nBuf tb) → BufTy
  | .hbm, ⟨0, _⟩ => ⟨S16384x6144, .f32⟩
  | .hbm, ⟨1, _⟩ => ⟨S8192, .i32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8192, .f32⟩
  | .hbm, ⟨17, _⟩ => ⟨S8192x1, .f32⟩
  | .hbm, ⟨18, _⟩ => ⟨S1x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S_, .f32⟩
  | .hbm, ⟨25, _⟩ => ⟨S8192x48, .f32⟩
  | .hbm, ⟨26, _⟩ => ⟨S_, .f32⟩
  | .hbm, ⟨27, _⟩ => ⟨S8192x8, .f32⟩
  | .hbm, ⟨28, _⟩ => ⟨S_, .f32⟩
  | .hbm, ⟨29, _⟩ => ⟨S8192x48, .f32⟩
  | .hbm, ⟨30, _⟩ => ⟨S8192x48, .f32⟩
  | .hbm, ⟨31, _⟩ => ⟨S8192x64, .f32⟩
  | .hbm, ⟨32, _⟩ => ⟨S8192x8, .f32⟩
  | .hbm, ⟨33, _⟩ => ⟨S8192x64, .f32⟩
  | .hbm, ⟨34, _⟩ => ⟨S8192x64, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S1024x16384, .bf16⟩
  | .hbm, ⟨39, _⟩ => ⟨S16384x1024, .bf16⟩
  | .hbm, ⟨40, _⟩ => ⟨S2x1024x8192, .f32⟩
  | .hbm, ⟨41, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1024x512, .bf16⟩
  | .local _ .vmem, ⟨13, _⟩ => ⟨S1024x512, .bf16⟩
  | .local _ .vmem, ⟨14, _⟩ => ⟨S512x1024, .bf16⟩
  | .local _ .vmem, ⟨15, _⟩ => ⟨S512x1024, .bf16⟩
  | .local _ .vmem, ⟨16, _⟩ => ⟨S1x1024x512, .f32⟩
  | .local _ .vmem, ⟨17, _⟩ => ⟨S1x1024x512, .f32⟩
  | .local _ .vmem, ⟨18, _⟩ => ⟨S1024x512, .bf16⟩
  | .local _ .vmem, ⟨19, _⟩ => ⟨S1024x512, .bf16⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev main_v30_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RopeRefIdeal.lean ====
abbrev S16384x6144 : Shape := ⟨2, ![16384, 6144]⟩
abbrev S8192 : Shape := ⟨1, ![8192]⟩
abbrev S8192x1 : Shape := ⟨2, ![8192, 1]⟩
abbrev S8 : Shape := ⟨1, ![8]⟩
abbrev S_ : Shape := ⟨0, ![]⟩
abbrev S1x8 : Shape := ⟨2, ![1, 8]⟩
abbrev S8192x8 : Shape := ⟨2, ![8192, 8]⟩
abbrev S1x8192x1x8 : Shape := ⟨4, ![1, 8192, 1, 8]⟩
abbrev S16384x1024 : Shape := ⟨2, ![16384, 1024]⟩
abbrev S2x8192x16x64 : Shape := ⟨4, ![2, 8192, 16, 64]⟩
abbrev S2x8192x16x8 : Shape := ⟨4, ![2, 8192, 16, 8]⟩
abbrev S2x8192x16x48 : Shape := ⟨4, ![2, 8192, 16, 48]⟩
abbrev S2x8192x1024 : Shape := ⟨3, ![2, 8192, 1024]⟩
abbrev S1024x16384 : Shape := ⟨2, ![1024, 16384]⟩
abbrev S2x1024x8192 : Shape := ⟨3, ![2, 1024, 8192]⟩

abbrev nBuf : Space → Nat
  | .hbm => 72
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S8192, .i32⟩
  | .hbm, ⟨2, _⟩ => ⟨S8192, .f32⟩
  | .hbm, ⟨3, _⟩ => ⟨S8192x1, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S1x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S1x8192x1x8, .f32⟩
  | .hbm, ⟨24, _⟩ => ⟨S8192x8, .f32⟩
  | .hbm, ⟨25, _⟩ => ⟨S1x8192x1x8, .f32⟩
  | .hbm, ⟨26, _⟩ => ⟨S16384x1024, .f32⟩
  | .hbm, ⟨27, _⟩ => ⟨S2x8192x16x64, .f32⟩
  | .hbm, ⟨28, _⟩ => ⟨S2x8192x16x8, .f32⟩
  | .hbm, ⟨29, _⟩ => ⟨S2x8192x16x8, .f32⟩
  | .hbm, ⟨30, _⟩ => ⟨S2x8192x16x8, .f32⟩
  | .hbm, ⟨31, _⟩ => ⟨S2x8192x16x8, .f32⟩
  | .hbm, ⟨32, _⟩ => ⟨S2x8192x16x8, .f32⟩
  | .hbm, ⟨33, _⟩ => ⟨S2x8192x16x8, .f32⟩
  | .hbm, ⟨34, _⟩ => ⟨S2x8192x16x8, .f32⟩
  | .hbm, ⟨35, _⟩ => ⟨S2x8192x16x8, .f32⟩
  | .hbm, ⟨36, _⟩ => ⟨S2x8192x16x8, .f32⟩
  | .hbm, ⟨37, _⟩ => ⟨S2x8192x16x8, .f32⟩
  | .hbm, ⟨38, _⟩ => ⟨S2x8192x16x8, .f32⟩
  | .hbm, ⟨39, _⟩ => ⟨S2x8192x16x8, .f32⟩
  | .hbm, ⟨40, _⟩ => ⟨S2x8192x16x48, .f32⟩
  | .hbm, ⟨41, _⟩ => ⟨S2x8192x16x64, .f32⟩
  | .hbm, ⟨42, _⟩ => ⟨S2x8192x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S2x8192x16x64, .f32⟩
  | .hbm, ⟨49, _⟩ => ⟨S2x8192x16x8, .f32⟩
  | .hbm, ⟨50, _⟩ => ⟨S2x8192x16x8, .f32⟩
  | .hbm, ⟨51, _⟩ => ⟨S2x8192x16x8, .f32⟩
  | .hbm, ⟨52, _⟩ => ⟨S2x8192x16x8, .f32⟩
  | .hbm, ⟨53, _⟩ => ⟨S2x8192x16x8, .f32⟩
  | .hbm, ⟨54, _⟩ => ⟨S2x8192x16x8, .f32⟩
  | .hbm, ⟨55, _⟩ => ⟨S2x8192x16x8, .f32⟩
  | .hbm, ⟨56, _⟩ => ⟨S2x8192x16x8, .f32⟩
  | .hbm, ⟨57, _⟩ => ⟨S2x8192x16x8, .f32⟩
  | .hbm, ⟨58, _⟩ => ⟨S2x8192x16x8, .f32⟩
  | .hbm, ⟨59, _⟩ => ⟨S2x8192x16x8, .f32⟩
  | .hbm, ⟨60, _⟩ => ⟨S2x8192x16x8, .f32⟩
  | .hbm, ⟨61, _⟩ => ⟨S2x8192x16x48, .f32⟩
  | .hbm, ⟨62, _⟩ => ⟨S2x8192x16x64, .f32⟩
  | .hbm, ⟨63, _⟩ => ⟨S2x8192x1024, .f32⟩
  | .hbm, ⟨64, _⟩ => ⟨S16384x1024, .f32⟩
  | .hbm, ⟨65, _⟩ => ⟨S1024x16384, .f32⟩
  | .hbm, ⟨66, _⟩ => ⟨S1024x16384, .bf16⟩
  | .hbm, ⟨67, _⟩ => ⟨S16384x1024, .f32⟩
  | .hbm, ⟨68, _⟩ => ⟨S16384x1024, .bf16⟩
  | .hbm, ⟨69, _⟩ => ⟨S2x1024x8192, .f32⟩
  | .hbm, ⟨70, _⟩ => ⟨S1024x16384, .f32⟩
  | .hbm, ⟨71, _⟩ => ⟨S1024x16384, .bf16⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_3 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩

abbrev nD : Nat := 1
abbrev τ : Topo := Topo.v7x

variable {F : FTy → Type} [FloatOps F]
-- ==== Proof.Attn.Kernel.Sched.lean ====
/-
The schedule of the attention call: the two tables that enumerate the pairs of a query block and a key block at or
below the diagonal, the pipeline at these tables, and what is decided of its 72 points.
-/
module

public import proofs.«01_k».proof.Defs
public import proofs.«01_k».proof.Proof.Gen.Kernel.Launch
public import proofs.«01_k».proof.Proof.Attn.Kernel.Step
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the proof is about. -/
local notation "𝕄" => MT nD τ sig Unit (Elt Bits) ℕ (UR sig nD τ) ℕ

/-- The tables and the scratches, whole. -/
abbrev tbM0 : Memref sig .tc .smem S36 .i32 := Memref.whole main_c
abbrev tbM1 : Memref sig .tc .smem S36 .i32 := Memref.whole main_c_0
abbrev scM0 : Memref sig .tc .vmem S8x2x8x1024 .f32 := Memref.whole cc0_scratch0
abbrev scM1 : Memref sig .tc .vmem S8x2x8x1024 .f32 := Memref.whole cc0_scratch1
abbrev scM2 : Memref sig .tc .vmem S8x2x128x1024 .f32 := Memref.whole cc0_scratch2

/-- The query block and the key block of each of the 36 pairs. -/
def tab0 : S36.Idx → BitVec 32 := fun x => lit0 (S36.rowMajor x)
def tab1 : S36.Idx → BitVec 32 := fun x => lit1 (S36.rowMajor x)

set_option backward.proofsInPublic true in
/-- The tables' contents. -/
def pfN : pre0.Contents (Elt Bits) := fun | ⟨0, _⟩ => tab0 | ⟨1, _⟩ => tab1 | ⟨_ + 2, h⟩ => absurd h (by simp)

theorem inb_0 : ∀ i : grid0.Coords, ∀ a, (cc0_transform_0 k0_off1_inb numel1_S1 pfN i a + 1) * S1024x1024.size a ≤ S1024x16384.size a := by decide +kernel
theorem inb_1 : ∀ i : grid0.Coords, ∀ a, (cc0_transform_1 k0_off1_inb numel1_S1 pfN i a + 1) * S1024x1024.size a ≤ S16384x1024.size a := by decide +kernel
theorem inb_2 : ∀ i : grid0.Coords, ∀ a, (cc0_transform_2 k0_off1_inb numel1_S1 pfN i a + 1) * S1024x1024.size a ≤ S1024x16384.size a := by decide +kernel
theorem inb_3 : ∀ i : grid0.Coords, ∀ a, (cc0_transform_3 k0_off1_inb numel1_S1 pfN i a + 1) * S1024x1024.size a ≤ S16384x6144.size a := by decide +kernel
theorem inb_6 : ∀ i : grid0.Coords, ∀ a, (cc0_transform_6 k0_off1_inb numel1_S1 pfN i a + 1) * S1024x1024.size a ≤ S16384x1024.size a := by decide +kernel

/-- Every block lies inside its array. -/
theorem ok_pfN : ok0 (F := Bits) pfN :=
  ⟨fun i => ⟨inb_0 i, .inr (Affine.block_words_dvd (by decide) (by decide))⟩,
   fun i => ⟨inb_1 i, .inr (Affine.block_words_dvd (by decide) (by decide))⟩,
   fun i => ⟨inb_2 i, .inr (Affine.block_words_dvd (by decide) (by decide))⟩,
   fun i => ⟨inb_3 i, .inl rfl⟩,
   fun i => ⟨inb_6 i, .inr (Affine.block_words_dvd (by decide) (by decide))⟩⟩

/-- The pipeline at the tables. -/
def adm : (pcfg0 (F := Bits)).Adm := ⟨pfN, ok_pfN⟩
abbrev cfgA : Pipeline.Cfg sig Λ₀ := cfg0 (F := Bits) adm
abbrev pcs : Fin 1 → Pipeline.Cfg sig Λ₀ := Pipeline.pin (pcfgs (F := Bits)) fun _ => adm

variable (m : (ℓ : Loc nD τ sig) → Buf (Elt Bits) ℓ)

/-- The coordinates of a point. -/
abbrev crd (t : Fin cfgA.N) : cfgA.grid.Coords := cfgA.grid.coords t

abbrev ms0 (t : Fin cfgA.N) : Memref sig .tc .vmem S1024x1024 .bf16 := spec0_0.stage (cfgA.slots t (0 : Fin 7))
abbrev hs0 (t : Fin cfgA.N) : (ms0 t).IsWhole := hstage0_0 ((cfgA.slots t (0 : Fin 7)).cast nbuf0_0)
abbrev ms1 (t : Fin cfgA.N) : Memref sig .tc .vmem S1024x1024 .bf16 := spec0_1.stage (cfgA.slots t (1 : Fin 7))
abbrev hs1 (t : Fin cfgA.N) : (ms1 t).IsWhole := hstage0_1 ((cfgA.slots t (1 : Fin 7)).cast nbuf0_1)
abbrev ms2 (t : Fin cfgA.N) : Memref sig .tc .vmem S1024x1024 .bf16 := spec0_2.stage (cfgA.slots t (2 : Fin 7))
abbrev hs2 (t : Fin cfgA.N) : (ms2 t).IsWhole := hstage0_2 ((cfgA.slots t (2 : Fin 7)).cast nbuf0_2)
abbrev ms3 (t : Fin cfgA.N) : Memref sig .tc .vmem S1024x1024 .f32 := spec0_3.stage (cfgA.slots t (3 : Fin 7))
abbrev hs3 (t : Fin cfgA.N) : (ms3 t).IsWhole := hstage0_3 ((cfgA.slots t (3 : Fin 7)).cast nbuf0_3)
abbrev ms4 (t : Fin cfgA.N) : Memref sig .tc .vmem S4x64 .f32 := spec0_4.stage (cfgA.slots t (4 : Fin 7))
abbrev hs4 (t : Fin cfgA.N) : (ms4 t).IsWhole := hstage0_4 ((cfgA.slots t (4 : Fin 7)).cast nbuf0_4)
abbrev ms5 (t : Fin cfgA.N) : Memref sig .tc .vmem S1x128 .f32 := spec0_5.stage (cfgA.slots t (5 : Fin 7))
abbrev hs5 (t : Fin cfgA.N) : (ms5 t).IsWhole := hstage0_5 ((cfgA.slots t (5 : Fin 7)).cast nbuf0_5)
abbrev ms6 (t : Fin cfgA.N) : Memref sig .tc .vmem S1024x1024 .bf16 := spec0_6.stage (cfgA.slots t (6 : Fin 7))
abbrev hs6 (t : Fin cfgA.N) : (ms6 t).IsWhole := hstage0_6 ((cfgA.slots t (6 : Fin 7)).cast nbuf0_6)

/-- What the arrays hold when the call begins: the tables written, the weight of the norm reshaped. -/
def Vat (c : Dev nD) (b : Ref sig .tc) : Buf (Elt Bits) ((c : Thread nD τ).loc b) :=
  StableHlo.after (hostOps0 (F := Bits)) (fun b => m (c, b)) b

/-- The block of window `w` at point `t`. -/
def iblk (c : Dev nD) (w : Fin cfgA.W) (t : Fin cfgA.N) : ((cfgA.win w).xblock (crd t)).Idx → Elt Bits (cfgA.win w).elt :=
  ((cfgA.win w).blk t).view.read (Elt Bits) (Vat m c (Pipeline.arrRef spec0 w))

/-- Whether point `t` is the first of its query block. -/
abbrev P0 (t : Fin cfgA.N) : Prop := (Scalar.cmpi .ne (Scalar.extui (Scalar.cmpi .eq (View.readAt (Elt Bits) (tbM1).view (Rect.unit (s := S36) (k0_off1 (crd t)) S1.size (k0_off1_inb (crd t))).toLoadRect tab1 (Shape.Idx.first (numel1_S1.symm ▸ Nat.one_pos))) 0#32)) 0#32) = 1#1
/-- Whether the key block of point `t` lies below the diagonal. -/
abbrev P1 (t : Fin cfgA.N) : Prop := (Scalar.cmpi .ne (Scalar.extui (Scalar.cmpi .slt (View.readAt (Elt Bits) (tbM1).view (Rect.unit (s := S36) (k0_off1 (crd t)) S1.size (k0_off1_inb (crd t))).toLoadRect tab1 (Shape.Idx.first (numel1_S1.symm ▸ Nat.one_pos))) (View.readAt (Elt Bits) (tbM0).view (Rect.unit (s := S36) (k0_off1 (crd t)) S1.size (k0_off1_inb (crd t))).toLoadRect tab0 (Shape.Idx.first (numel1_S1.symm ▸ Nat.one_pos))))) 0#32) = 1#1
/-- The kernel's own test for the last key block of a query block. -/
abbrev P3 (t : Fin cfgA.N) : Prop := k0_cond3 (View.readAt (Elt Bits) (tbM0).view (Rect.unit (s := S36) (k0_off1 (crd t)) S1.size (k0_off1_inb (crd t))).toLoadRect tab0 (Shape.Idx.first (numel1_S1.symm ▸ Nat.one_pos))) (View.readAt (Elt Bits) (tbM1).view (Rect.unit (s := S36) (k0_off1 (crd t)) S1.size (k0_off1_inb (crd t))).toLoadRect tab1 (Shape.Idx.first (numel1_S1.symm ▸ Nat.one_pos))) = 1#1

/-- What is decided at each point. -/
abbrev FactsAt (t : Fin cfgA.N) : Prop :=
  (¬P1 t → P3 t ∧ cfgA.idle (6 : Fin 7) (cfgA.grid.coords t) = false ∧ (cfgA.win (6 : Fin 7)).flush t = true)
  ∧ (P1 t → ¬P3 t ∧ cfgA.idle (6 : Fin 7) (cfgA.grid.coords t) = true ∧ (cfgA.win (6 : Fin 7)).flush t = false)
  ∧ (¬P0 t → t.val ≠ 0)

theorem facts_0 : ∀ t : Fin cfgA.N, 0 ≤ t.val → t.val < 9 → FactsAt t := by decide +kernel
theorem facts_1 : ∀ t : Fin cfgA.N, 9 ≤ t.val → t.val < 18 → FactsAt t := by decide +kernel
theorem facts_2 : ∀ t : Fin cfgA.N, 18 ≤ t.val → t.val < 27 → FactsAt t := by decide +kernel
theorem facts_3 : ∀ t : Fin cfgA.N, 27 ≤ t.val → t.val < 36 → FactsAt t := by decide +kernel
theorem facts_4 : ∀ t : Fin cfgA.N, 36 ≤ t.val → t.val < 45 → FactsAt t := by decide +kernel
theorem facts_5 : ∀ t : Fin cfgA.N, 45 ≤ t.val → t.val < 54 → FactsAt t := by decide +kernel
theorem facts_6 : ∀ t : Fin cfgA.N, 54 ≤ t.val → t.val < 63 → FactsAt t := by decide +kernel
theorem facts_7 : ∀ t : Fin cfgA.N, 63 ≤ t.val → t.val < 72 → FactsAt t := by decide +kernel
theorem allFacts : ∀ t : Fin cfgA.N, FactsAt t := fun t => by
  have h0 : 0 ≤ t.val := Nat.zero_le _
  rcases Nat.lt_or_ge t.val 9 with h1 | h1; · exact facts_0 t h0 h1
  rcases Nat.lt_or_ge t.val 18 with h2 | h2; · exact facts_1 t h1 h2
  rcases Nat.lt_or_ge t.val 27 with h3 | h3; · exact facts_2 t h2 h3
  rcases Nat.lt_or_ge t.val 36 with h4 | h4; · exact facts_3 t h3 h4
  rcases Nat.lt_or_ge t.val 45 with h5 | h5; · exact facts_4 t h4 h5
  rcases Nat.lt_or_ge t.val 54 with h6 | h6; · exact facts_5 t h5 h6
  rcases Nat.lt_or_ge t.val 63 with h7 | h7; · exact facts_6 t h6 h7
  exact facts_7 t h7 t.isLt

/-- Before every point the result's buffer holds nothing that is still to be written back. -/
theorem fresh6 (t : Fin cfgA.N) : cfgA.fresh (6 : Fin 7) t.val = true :=
  Pipeline.Cfg.fresh_tab cfgA (6 : Fin 7) (fun _ => true) rfl (fun t => by
    by_cases h : P1 t
    · rw [((allFacts t).2.1 h).2.1, ((allFacts t).2.1 h).2.2]; rfl
    · rw [((allFacts t).1 h).2.1, ((allFacts t).1 h).2.2]; rfl) t.val (Nat.le_of_lt t.isLt)

end Cert.Kernel.Attn

end
-- ==== Proof.Attn.Kernel.Runs.lean ====
/-
What the body of the attention call does at a point, for each of its four courses: with or without starting the
running values afresh, on the diagonal (and then writing the result) or below it.
-/
module

public import proofs.«01_k».proof.Proof.Attn.Kernel.Sched

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the proof is about. -/
local notation "𝕄" => MT nD τ sig Unit (Elt Bits) ℕ (UR sig nD τ) ℕ

/-- The head a column of the result block belongs to. -/
def hd (y : S1024x1024.Idx) : Fin k0_t2_loop.trips :=
  ⟨(y 1).val / 128, by have h : (y 1).val < 1024 := (y 1).isLt; rw [show k0_t2_loop.trips = 8 from by decide]; omega⟩

theorem hd_mem (y : S1024x1024.Idx) : ∀ a, k0_off9 (hd y) a ≤ (y a).val ∧ (y a).val < k0_off9 (hd y) a + S1024x128.size a := by
  rw [k0_off9_eq]
  have h0 : (y 0).val < 1024 := (y 0).isLt
  have h1 : (hd y).val = (y 1).val / 128 := rfl
  intro a
  match a with
  | ⟨0, _⟩ => exact ⟨Nat.zero_le _, by show (y 0).val < 0 + 1024; omega⟩
  | ⟨1, _⟩ => exact ⟨by show 128 * (hd y).val ≤ (y 1).val; omega, by show (y 1).val < 128 * (hd y).val + 128; omega⟩

section
variable {F : FTy → Type} [FloatOps F]

/-- The result block a point on the diagonal writes, head by head. -/
def outFin (q kk v : Vec F S1024x1024 .bf16) (pj : Vec F S1024x1024 .f32) (lam : Vec F S4x64 .f32) (sg : Vec F S1x128 .f32) (s : St F) :
    Vec F S1024x1024 .bf16 := fun y =>
  finish pj lam sg (hd y) (runM q kk v s ((hd y).val + 1))
    (Rect.unitLocal (s := S1024x1024) (off := k0_off9 (hd y)) (size := S1024x128.size) y (hd_mem y))

theorem outM_apply (q kk v : Vec F S1024x1024 .bf16) (pj : Vec F S1024x1024 .f32) (lam : Vec F S4x64 .f32) (sg : Vec F S1x128 .f32) (s : St F)
    (o : Vec F S1024x1024 .bf16) (n : ℕ) (hn : n ≤ k0_t2_loop.trips) (y : S1024x1024.Idx) :
    outM q kk v pj lam sg s o n y = if (hd y).val < n then outFin q kk v pj lam sg s y else o y := by
  induction n with
  | zero => rfl
  | succ n ih =>
    have h : n < k0_t2_loop.trips := hn
    rw [outM, dif_pos h]
    by_cases e : (hd y).val = n
    · have e' : (⟨n, h⟩ : Fin k0_t2_loop.trips) = hd y := Fin.ext e.symm
      rw [if_pos (by omega), e', show n = (hd y).val from e.symm]
      exact dif_pos (hd_mem y)
    · have hno : ¬ ∀ a, k0_off9 ⟨n, h⟩ a ≤ (y a).val ∧ (y a).val < k0_off9 ⟨n, h⟩ a + S1024x128.size a := fun hall => by
        have := hall 1
        rw [k0_off9_eq] at this
        have h1 : (hd y).val = (y 1).val / 128 := rfl
        have ha : 128 * n ≤ (y 1).val := this.1
        have hb : (y 1).val < 128 * n + 128 := this.2
        omega
      refine (dif_neg hno).trans ?_
      rw [ih (by omega)]
      by_cases hlt : (hd y).val < n
      · rw [if_pos hlt, if_pos (by omega)]
      · rw [if_neg hlt, if_neg (by omega)]

/-- All eight heads written, nothing is left of what the block held before. -/
theorem outM_all (q kk v : Vec F S1024x1024 .bf16) (pj : Vec F S1024x1024 .f32) (lam : Vec F S4x64 .f32) (sg : Vec F S1x128 .f32) (s : St F)
    (o : Vec F S1024x1024 .bf16) : outM q kk v pj lam sg s o k0_t2_loop.trips = outFin q kk v pj lam sg s :=
  funext fun y => by rw [outM_apply _ _ _ _ _ _ _ _ _ (Nat.le_refl _), if_pos (hd y).isLt]
end

set_option backward.proofsInPublic true in
set_option maxHeartbeats 8000000 in
/-- The first point of a query block, on the diagonal. -/
theorem runA (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x1024 .bf16) (harg10 : arg10.IsWhole)
    (T0 T1 : S36.Idx → Elt Bits .i32) (x0 : Vec Bits S1024x1024 .bf16) (x1 : Vec Bits S1024x1024 .bf16) (x2 : Vec Bits S1024x1024 .bf16) (x3 : Vec Bits S1024x1024 .f32) (x4 : Vec Bits S4x64 .f32) (x5 : Vec Bits S1x128 .f32)
    (hc0 : ((Scalar.cmpi .ne (Scalar.extui (Scalar.cmpi .eq (View.readAt (Elt Bits) (tbM1).view (Rect.unit (s := S36) (k0_off1 i) S1.size (k0_off1_inb i)).toLoadRect T1 (Shape.Idx.first (numel1_S1.symm ▸ Nat.one_pos))) 0#32)) 0#32) = 1#1))
    (hc1 : ¬((Scalar.cmpi .ne (Scalar.extui (Scalar.cmpi .slt (View.readAt (Elt Bits) (tbM1).view (Rect.unit (s := S36) (k0_off1 i) S1.size (k0_off1_inb i)).toLoadRect T1 (Shape.Idx.first (numel1_S1.symm ▸ Nat.one_pos))) (View.readAt (Elt Bits) (tbM0).view (Rect.unit (s := S36) (k0_off1 i) S1.size (k0_off1_inb i)).toLoadRect T0 (Shape.Idx.first (numel1_S1.symm ▸ Nat.one_pos))))) 0#32) = 1#1))
    (k0_h3 : (k0_cond3 (View.readAt (Elt Bits) (tbM0).view (Rect.unit (s := S36) (k0_off1 i) S1.size (k0_off1_inb i)).toLoadRect T0 (Shape.Idx.first (numel1_S1.symm ▸ Nat.one_pos))) (View.readAt (Elt Bits) (tbM1).view (Rect.unit (s := S36) (k0_off1 i) S1.size (k0_off1_inb i)).toLoadRect T1 (Shape.Idx.first (numel1_S1.symm ▸ Nat.one_pos))) = 1#1))
    (xa0 : Buf (Elt Bits) ((c : Thread nD τ).loc cc0_scratch0)) (xa1 : Buf (Elt Bits) ((c : Thread nD τ).loc cc0_scratch1))
    (xa2 : Buf (Elt Bits) ((c : Thread nD τ).loc cc0_scratch2)) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (arg8.view.loc (c : Thread nD τ) ↦[arg8.view.set]{fullShare} arg8.view.rep x4)
      ∗ (arg9.view.loc (c : Thread nD τ) ↦[arg9.view.set]{fullShare} arg9.view.rep x5)
      ∗ (tbM0.view.loc (c : Thread nD τ) ↦{fullShare.right} T0) ∗ (tbM1.view.loc (c : Thread nD τ) ↦{fullShare.right} T1)
      ∗ (∃ d, owns (c : Thread nD τ) arg10 fullShare d)
      ∗ (scM0.view.loc (c : Thread nD τ) ↦[scM0.view.set]{fullShare} xa0) ∗ (scM1.view.loc (c : Thread nD τ) ↦[scM1.view.set]{fullShare} xa1) ∗ (scM2.view.loc (c : Thread nD τ) ↦[scM2.view.set]{fullShare} xa2)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0.view.loc (c : Thread nD τ) ↦{fullShare.right} T0) ∗ (tbM1.view.loc (c : Thread nD τ) ↦{fullShare.right} T1)
          ∗ owns (c : Thread nD τ) arg10 fullShare (outFin x0 x1 x2 x3 x4 x5 St.init)
          ∗ (∃ f0 f1 f2, ⌜(⟨scM0.view.read (Elt Bits) f0, scM1.view.read (Elt Bits) f1, scM2.view.read (Elt Bits) f2⟩ : St Bits) = runM x0 x1 x2 St.init k0_t2_loop.trips⌝
            ∗ (scM0.view.loc (c : Thread nD τ) ↦[scM0.view.set]{fullShare} f0) ∗ (scM1.view.loc (c : Thread nD τ) ↦[scM1.view.set]{fullShare} f1) ∗ (scM2.view.loc (c : Thread nD τ) ↦[scM2.view.set]{fullShare} f2))) -∗ K ⟨⟩))
      ⊢ wp frame (wpE (defs₀ (F := Bits)) Variants.none c none) Set.univ (cc0_diff_attn_prompt i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _)) K := by
  unfold owns
  rw [cc0_diff_attn_prompt_eq_skeleton]; unfold cc0_diff_attn_prompt_skel
  iintro ⟨H0, H1, H2, H3, H4, H5, HT0, HT1, ⟨%d6, %f6, -, HO6⟩, HS0, HS1, HS2, Hk⟩
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = Scalar.cmpi = _; exact hc0) | (guard_target = ¬(Scalar.cmpi = _); exact hc1) | (guard_target = k0_cond3 _ _ = _; exact k0_h3))
  have e0 : scM0.view.read (Elt Bits) (scM0.view.writes (Elt Bits) scM0.view.junk runA.sl.HS0_1) = k0_pay1 (F := Bits) := by
    delta runA.sl.HS0_1
    exact View.read_writes_full _ _ _ _ _
  have e1 : scM1.view.read (Elt Bits) (scM1.view.writes (Elt Bits) scM1.view.junk runA.sl.HS1_1) = k0_pay2 (F := Bits) := by
    delta runA.sl.HS1_1
    exact View.read_writes_full _ _ _ _ _
  have e2 : scM2.view.read (Elt Bits) (scM2.view.writes (Elt Bits) scM2.view.junk runA.sl.HS2_1) = k0_pay3 (F := Bits) := by
    delta runA.sl.HS2_1
    exact View.read_writes_full _ _ _ _ _
  have key := read_t2 (F := Bits) Variants.none c none i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _) (X_arg4 := arg4.view.rep x0) (X_arg5 := arg5.view.rep x1) (X_arg6 := arg6.view.rep x2)
    (arg7.view.rep x3) (arg8.view.rep x4) (arg9.view.rep x5) f6 (scM0.view.writes (Elt Bits) scM0.view.junk runA.sl.HS0_1) (scM1.view.writes (Elt Bits) scM1.view.junk runA.sl.HS1_1) (scM2.view.writes (Elt Bits) scM2.view.junk runA.sl.HS2_1) _ (Nat.le_refl _)
  simp only [View.read_rep, e0, e1, e2] at key
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _; isplitr; swap
    · iexact HO6
    · ipureintro; exact key.2.trans (outM_all ..)
  iexists _, _, _; isplitr; swap
  · isplitl [HS0]; · iexact HS0
    isplitl [HS1]; · iexact HS1
    iexact HS2
  · ipureintro; simp only [View.writes_append]; exact key.1

set_option backward.proofsInPublic true in
set_option maxHeartbeats 8000000 in
/-- The first point of a query block, below the diagonal. -/
theorem runB (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x1024 .bf16) (harg10 : arg10.IsWhole)
    (T0 T1 : S36.Idx → Elt Bits .i32) (x0 : Vec Bits S1024x1024 .bf16) (x1 : Vec Bits S1024x1024 .bf16) (x2 : Vec Bits S1024x1024 .bf16) (x3 : Vec Bits S1024x1024 .f32) (x4 : Vec Bits S4x64 .f32) (x5 : Vec Bits S1x128 .f32)
    (hc0 : ((Scalar.cmpi .ne (Scalar.extui (Scalar.cmpi .eq (View.readAt (Elt Bits) (tbM1).view (Rect.unit (s := S36) (k0_off1 i) S1.size (k0_off1_inb i)).toLoadRect T1 (Shape.Idx.first (numel1_S1.symm ▸ Nat.one_pos))) 0#32)) 0#32) = 1#1))
    (hc1 : ((Scalar.cmpi .ne (Scalar.extui (Scalar.cmpi .slt (View.readAt (Elt Bits) (tbM1).view (Rect.unit (s := S36) (k0_off1 i) S1.size (k0_off1_inb i)).toLoadRect T1 (Shape.Idx.first (numel1_S1.symm ▸ Nat.one_pos))) (View.readAt (Elt Bits) (tbM0).view (Rect.unit (s := S36) (k0_off1 i) S1.size (k0_off1_inb i)).toLoadRect T0 (Shape.Idx.first (numel1_S1.symm ▸ Nat.one_pos))))) 0#32) = 1#1))
    (k0_h3 : ¬(k0_cond3 (View.readAt (Elt Bits) (tbM0).view (Rect.unit (s := S36) (k0_off1 i) S1.size (k0_off1_inb i)).toLoadRect T0 (Shape.Idx.first (numel1_S1.symm ▸ Nat.one_pos))) (View.readAt (Elt Bits) (tbM1).view (Rect.unit (s := S36) (k0_off1 i) S1.size (k0_off1_inb i)).toLoadRect T1 (Shape.Idx.first (numel1_S1.symm ▸ Nat.one_pos))) = 1#1))
    (y6 : Vec Bits S1024x1024 .bf16) (xa0 : Buf (Elt Bits) ((c : Thread nD τ).loc cc0_scratch0)) (xa1 : Buf (Elt Bits) ((c : Thread nD τ).loc cc0_scratch1))
    (xa2 : Buf (Elt Bits) ((c : Thread nD τ).loc cc0_scratch2)) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (arg8.view.loc (c : Thread nD τ) ↦[arg8.view.set]{fullShare} arg8.view.rep x4)
      ∗ (arg9.view.loc (c : Thread nD τ) ↦[arg9.view.set]{fullShare} arg9.view.rep x5)
      ∗ (tbM0.view.loc (c : Thread nD τ) ↦{fullShare.right} T0) ∗ (tbM1.view.loc (c : Thread nD τ) ↦{fullShare.right} T1)
      ∗ owns (c : Thread nD τ) arg10 fullShare y6
      ∗ (scM0.view.loc (c : Thread nD τ) ↦[scM0.view.set]{fullShare} xa0) ∗ (scM1.view.loc (c : Thread nD τ) ↦[scM1.view.set]{fullShare} xa1) ∗ (scM2.view.loc (c : Thread nD τ) ↦[scM2.view.set]{fullShare} xa2)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0.view.loc (c : Thread nD τ) ↦{fullShare.right} T0) ∗ (tbM1.view.loc (c : Thread nD τ) ↦{fullShare.right} T1)
          ∗ owns (c : Thread nD τ) arg10 fullShare y6
          ∗ (∃ f0 f1 f2, ⌜(⟨scM0.view.read (Elt Bits) f0, scM1.view.read (Elt Bits) f1, scM2.view.read (Elt Bits) f2⟩ : St Bits) = runU x0 x1 x2 St.init k0_t1_loop.trips⌝
            ∗ (scM0.view.loc (c : Thread nD τ) ↦[scM0.view.set]{fullShare} f0) ∗ (scM1.view.loc (c : Thread nD τ) ↦[scM1.view.set]{fullShare} f1) ∗ (scM2.view.loc (c : Thread nD τ) ↦[scM2.view.set]{fullShare} f2))) -∗ K ⟨⟩))
      ⊢ wp frame (wpE (defs₀ (F := Bits)) Variants.none c none) Set.univ (cc0_diff_attn_prompt i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _)) K := by
  unfold owns
  rw [cc0_diff_attn_prompt_eq_skeleton]; unfold cc0_diff_attn_prompt_skel
  iintro ⟨H0, H1, H2, H3, H4, H5, HT0, HT1, ⟨%f6, %hf6, HO6⟩, HS0, HS1, HS2, Hk⟩
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = Scalar.cmpi = _; exact hc0) | (guard_target = Scalar.cmpi = _; exact hc1) | (guard_target = ¬(k0_cond3 _ _ = _); exact k0_h3))
  have e0 : scM0.view.read (Elt Bits) (scM0.view.writes (Elt Bits) scM0.view.junk runB.sl.HS0_1) = k0_pay1 (F := Bits) := by
    delta runB.sl.HS0_1
    exact View.read_writes_full _ _ _ _ _
  have e1 : scM1.view.read (Elt Bits) (scM1.view.writes (Elt Bits) scM1.view.junk runB.sl.HS1_1) = k0_pay2 (F := Bits) := by
    delta runB.sl.HS1_1
    exact View.read_writes_full _ _ _ _ _
  have e2 : scM2.view.read (Elt Bits) (scM2.view.writes (Elt Bits) scM2.view.junk runB.sl.HS2_1) = k0_pay3 (F := Bits) := by
    delta runB.sl.HS2_1
    exact View.read_writes_full _ _ _ _ _
  have key := read_t1 (F := Bits) Variants.none c none i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _) (X_arg4 := arg4.view.rep x0) (X_arg5 := arg5.view.rep x1) (X_arg6 := arg6.view.rep x2)
    (scM0.view.writes (Elt Bits) scM0.view.junk runB.sl.HS0_1) (scM1.view.writes (Elt Bits) scM1.view.junk runB.sl.HS1_1) (scM2.view.writes (Elt Bits) scM2.view.junk runB.sl.HS2_1) _ (Nat.le_refl _)
  simp only [View.read_rep, e0, e1, e2] at key
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _; isplitr; swap
    · iexact HO6
    · ipureintro; exact hf6
  iexists _, _, _; isplitr; swap
  · isplitl [HS0]; · iexact HS0
    isplitl [HS1]; · iexact HS1
    iexact HS2
  · ipureintro; simp only [View.writes_append]; exact key

set_option backward.proofsInPublic true in
set_option maxHeartbeats 8000000 in
/-- A later point of a query block, on the diagonal. -/
theorem runC (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x1024 .bf16) (harg10 : arg10.IsWhole)
    (T0 T1 : S36.Idx → Elt Bits .i32) (x0 : Vec Bits S1024x1024 .bf16) (x1 : Vec Bits S1024x1024 .bf16) (x2 : Vec Bits S1024x1024 .bf16) (x3 : Vec Bits S1024x1024 .f32) (x4 : Vec Bits S4x64 .f32) (x5 : Vec Bits S1x128 .f32)
    (hc0 : ¬((Scalar.cmpi .ne (Scalar.extui (Scalar.cmpi .eq (View.readAt (Elt Bits) (tbM1).view (Rect.unit (s := S36) (k0_off1 i) S1.size (k0_off1_inb i)).toLoadRect T1 (Shape.Idx.first (numel1_S1.symm ▸ Nat.one_pos))) 0#32)) 0#32) = 1#1))
    (hc1 : ¬((Scalar.cmpi .ne (Scalar.extui (Scalar.cmpi .slt (View.readAt (Elt Bits) (tbM1).view (Rect.unit (s := S36) (k0_off1 i) S1.size (k0_off1_inb i)).toLoadRect T1 (Shape.Idx.first (numel1_S1.symm ▸ Nat.one_pos))) (View.readAt (Elt Bits) (tbM0).view (Rect.unit (s := S36) (k0_off1 i) S1.size (k0_off1_inb i)).toLoadRect T0 (Shape.Idx.first (numel1_S1.symm ▸ Nat.one_pos))))) 0#32) = 1#1))
    (k0_h3 : (k0_cond3 (View.readAt (Elt Bits) (tbM0).view (Rect.unit (s := S36) (k0_off1 i) S1.size (k0_off1_inb i)).toLoadRect T0 (Shape.Idx.first (numel1_S1.symm ▸ Nat.one_pos))) (View.readAt (Elt Bits) (tbM1).view (Rect.unit (s := S36) (k0_off1 i) S1.size (k0_off1_inb i)).toLoadRect T1 (Shape.Idx.first (numel1_S1.symm ▸ Nat.one_pos))) = 1#1))
    (xa0 : Buf (Elt Bits) ((c : Thread nD τ).loc cc0_scratch0)) (xa1 : Buf (Elt Bits) ((c : Thread nD τ).loc cc0_scratch1))
    (xa2 : Buf (Elt Bits) ((c : Thread nD τ).loc cc0_scratch2)) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (arg8.view.loc (c : Thread nD τ) ↦[arg8.view.set]{fullShare} arg8.view.rep x4)
      ∗ (arg9.view.loc (c : Thread nD τ) ↦[arg9.view.set]{fullShare} arg9.view.rep x5)
      ∗ (tbM0.view.loc (c : Thread nD τ) ↦{fullShare.right} T0) ∗ (tbM1.view.loc (c : Thread nD τ) ↦{fullShare.right} T1)
      ∗ (∃ d, owns (c : Thread nD τ) arg10 fullShare d)
      ∗ (scM0.view.loc (c : Thread nD τ) ↦[scM0.view.set]{fullShare} xa0) ∗ (scM1.view.loc (c : Thread nD τ) ↦[scM1.view.set]{fullShare} xa1) ∗ (scM2.view.loc (c : Thread nD τ) ↦[scM2.view.set]{fullShare} xa2)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0.view.loc (c : Thread nD τ) ↦{fullShare.right} T0) ∗ (tbM1.view.loc (c : Thread nD τ) ↦{fullShare.right} T1)
          ∗ owns (c : Thread nD τ) arg10 fullShare (outFin x0 x1 x2 x3 x4 x5 ⟨scM0.view.read (Elt Bits) xa0, scM1.view.read (Elt Bits) xa1, scM2.view.read (Elt Bits) xa2⟩)
          ∗ (∃ f0 f1 f2, ⌜(⟨scM0.view.read (Elt Bits) f0, scM1.view.read (Elt Bits) f1, scM2.view.read (Elt Bits) f2⟩ : St Bits) = runM x0 x1 x2 ⟨scM0.view.read (Elt Bits) xa0, scM1.view.read (Elt Bits) xa1, scM2.view.read (Elt Bits) xa2⟩ k0_t2_loop.trips⌝
            ∗ (scM0.view.loc (c : Thread nD τ) ↦[scM0.view.set]{fullShare} f0) ∗ (scM1.view.loc (c : Thread nD τ) ↦[scM1.view.set]{fullShare} f1) ∗ (scM2.view.loc (c : Thread nD τ) ↦[scM2.view.set]{fullShare} f2))) -∗ K ⟨⟩))
      ⊢ wp frame (wpE (defs₀ (F := Bits)) Variants.none c none) Set.univ (cc0_diff_attn_prompt i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _)) K := by
  unfold owns
  rw [cc0_diff_attn_prompt_eq_skeleton]; unfold cc0_diff_attn_prompt_skel
  iintro ⟨H0, H1, H2, H3, H4, H5, HT0, HT1, ⟨%d6, %f6, -, HO6⟩, HS0, HS1, HS2, Hk⟩
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = ¬(Scalar.cmpi = _); exact hc0) | (guard_target = ¬(Scalar.cmpi = _); exact hc1) | (guard_target = k0_cond3 _ _ = _; exact k0_h3))
  have key := read_t2 (F := Bits) Variants.none c none i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _) (X_arg4 := arg4.view.rep x0) (X_arg5 := arg5.view.rep x1) (X_arg6 := arg6.view.rep x2)
    (arg7.view.rep x3) (arg8.view.rep x4) (arg9.view.rep x5) f6 xa0 xa1 xa2 _ (Nat.le_refl _)
  simp only [View.read_rep] at key
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _; isplitr; swap
    · iexact HO6
    · ipureintro; exact key.2.trans (outM_all ..)
  iexists _, _, _; isplitr; swap
  · isplitl [HS0]; · iexact HS0
    isplitl [HS1]; · iexact HS1
    iexact HS2
  · ipureintro; exact key.1

set_option backward.proofsInPublic true in
set_option maxHeartbeats 8000000 in
/-- A later point of a query block, below the diagonal. -/
theorem runD (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x1024 .bf16) (harg10 : arg10.IsWhole)
    (T0 T1 : S36.Idx → Elt Bits .i32) (x0 : Vec Bits S1024x1024 .bf16) (x1 : Vec Bits S1024x1024 .bf16) (x2 : Vec Bits S1024x1024 .bf16) (x3 : Vec Bits S1024x1024 .f32) (x4 : Vec Bits S4x64 .f32) (x5 : Vec Bits S1x128 .f32)
    (hc0 : ¬((Scalar.cmpi .ne (Scalar.extui (Scalar.cmpi .eq (View.readAt (Elt Bits) (tbM1).view (Rect.unit (s := S36) (k0_off1 i) S1.size (k0_off1_inb i)).toLoadRect T1 (Shape.Idx.first (numel1_S1.symm ▸ Nat.one_pos))) 0#32)) 0#32) = 1#1))
    (hc1 : ((Scalar.cmpi .ne (Scalar.extui (Scalar.cmpi .slt (View.readAt (Elt Bits) (tbM1).view (Rect.unit (s := S36) (k0_off1 i) S1.size (k0_off1_inb i)).toLoadRect T1 (Shape.Idx.first (numel1_S1.symm ▸ Nat.one_pos))) (View.readAt (Elt Bits) (tbM0).view (Rect.unit (s := S36) (k0_off1 i) S1.size (k0_off1_inb i)).toLoadRect T0 (Shape.Idx.first (numel1_S1.symm ▸ Nat.one_pos))))) 0#32) = 1#1))
    (k0_h3 : ¬(k0_cond3 (View.readAt (Elt Bits) (tbM0).view (Rect.unit (s := S36) (k0_off1 i) S1.size (k0_off1_inb i)).toLoadRect T0 (Shape.Idx.first (numel1_S1.symm ▸ Nat.one_pos))) (View.readAt (Elt Bits) (tbM1).view (Rect.unit (s := S36) (k0_off1 i) S1.size (k0_off1_inb i)).toLoadRect T1 (Shape.Idx.first (numel1_S1.symm ▸ Nat.one_pos))) = 1#1))
    (y6 : Vec Bits S1024x1024 .bf16) (xa0 : Buf (Elt Bits) ((c : Thread nD τ).loc cc0_scratch0)) (xa1 : Buf (Elt Bits) ((c : Thread nD τ).loc cc0_scratch1))
    (xa2 : Buf (Elt Bits) ((c : Thread nD τ).loc cc0_scratch2)) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (arg8.view.loc (c : Thread nD τ) ↦[arg8.view.set]{fullShare} arg8.view.rep x4)
      ∗ (arg9.view.loc (c : Thread nD τ) ↦[arg9.view.set]{fullShare} arg9.view.rep x5)
      ∗ (tbM0.view.loc (c : Thread nD τ) ↦{fullShare.right} T0) ∗ (tbM1.view.loc (c : Thread nD τ) ↦{fullShare.right} T1)
      ∗ owns (c : Thread nD τ) arg10 fullShare y6
      ∗ (scM0.view.loc (c : Thread nD τ) ↦[scM0.view.set]{fullShare} xa0) ∗ (scM1.view.loc (c : Thread nD τ) ↦[scM1.view.set]{fullShare} xa1) ∗ (scM2.view.loc (c : Thread nD τ) ↦[scM2.view.set]{fullShare} xa2)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0.view.loc (c : Thread nD τ) ↦{fullShare.right} T0) ∗ (tbM1.view.loc (c : Thread nD τ) ↦{fullShare.right} T1)
          ∗ owns (c : Thread nD τ) arg10 fullShare y6
          ∗ (∃ f0 f1 f2, ⌜(⟨scM0.view.read (Elt Bits) f0, scM1.view.read (Elt Bits) f1, scM2.view.read (Elt Bits) f2⟩ : St Bits) = runU x0 x1 x2 ⟨scM0.view.read (Elt Bits) xa0, scM1.view.read (Elt Bits) xa1, scM2.view.read (Elt Bits) xa2⟩ k0_t1_loop.trips⌝
            ∗ (scM0.view.loc (c : Thread nD τ) ↦[scM0.view.set]{fullShare} f0) ∗ (scM1.view.loc (c : Thread nD τ) ↦[scM1.view.set]{fullShare} f1) ∗ (scM2.view.loc (c : Thread nD τ) ↦[scM2.view.set]{fullShare} f2))) -∗ K ⟨⟩))
      ⊢ wp frame (wpE (defs₀ (F := Bits)) Variants.none c none) Set.univ (cc0_diff_attn_prompt i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _)) K := by
  unfold owns
  rw [cc0_diff_attn_prompt_eq_skeleton]; unfold cc0_diff_attn_prompt_skel
  iintro ⟨H0, H1, H2, H3, H4, H5, HT0, HT1, ⟨%f6, %hf6, HO6⟩, HS0, HS1, HS2, Hk⟩
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = ¬(Scalar.cmpi = _); exact hc0) | (guard_target = Scalar.cmpi = _; exact hc1) | (guard_target = ¬(k0_cond3 _ _ = _); exact k0_h3))
  have key := read_t1 (F := Bits) Variants.none c none i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _) (X_arg4 := arg4.view.rep x0) (X_arg5 := arg5.view.rep x1) (X_arg6 := arg6.view.rep x2)
    xa0 xa1 xa2 _ (Nat.le_refl _)
  simp only [View.read_rep] at key
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _; isplitr; swap
    · iexact HO6
    · ipureintro; exact hf6
  iexists _, _, _; isplitr; swap
  · isplitl [HS0]; · iexact HS0
    isplitl [HS1]; · iexact HS1
    iexact HS2
  · ipureintro; exact key

end Cert.Kernel.Attn

end
-- ==== Proof.Attn.Kernel.Frame.lean ====
/-
The attention call as a whole: the running values from point to point, the obligation of its body at every point, and
the launch.
-/
module

public import proofs.«01_k».proof.Proof.Attn.Kernel.Runs

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the proof is about. -/
local notation "𝕄" => MT nD τ sig Unit (Elt Bits) ℕ (UR sig nD τ) ℕ

/-- The pipeline library's own resources among them. -/
abbrev EP : Emb (UR sig nD τ) 𝕄 := emb₁

variable (m : (ℓ : Loc nD τ sig) → Buf (Elt Bits) ℓ)

/-- What the running values are when the eight heads of point `t` begin: fresh at the first point of a query block. -/
def startP (t : Fin cfgA.N) (s : St Bits) : St Bits := if P0 t then St.init else s

/-- What they are after the eight heads. -/
def stepP (c : Dev nD) (t : Fin cfgA.N) (s : St Bits) : St Bits :=
  if P1 t then runU (iblk m c (0 : Fin 7) t) (iblk m c (1 : Fin 7) t) (iblk m c (2 : Fin 7) t) s k0_t1_loop.trips
  else runM (iblk m c (0 : Fin 7) t) (iblk m c (1 : Fin 7) t) (iblk m c (2 : Fin 7) t) s k0_t2_loop.trips

/-- The running values before the `n`-th point. -/
def trajN (c : Dev nD) : ℕ → St Bits
  | 0 => St.init
  | n + 1 => if h : n < cfgA.N then stepP m c ⟨n, h⟩ (startP ⟨n, h⟩ (trajN c n)) else trajN c n

theorem trajN_succ (c : Dev nD) (t : Fin cfgA.N) : trajN m c (t.val + 1) = stepP m c t (startP t (trajN m c t.val)) := by
  rw [trajN, dif_pos t.isLt]

/-- The result block a point writes, if it writes one. -/
def outAt (c : Dev nD) (t : Fin cfgA.N) : Vec Bits S1024x1024 .bf16 :=
  outFin (iblk m c (0 : Fin 7) t) (iblk m c (1 : Fin 7) t) (iblk m c (2 : Fin 7) t) (iblk m c (3 : Fin 7) t) (iblk m c (4 : Fin 7) t) (iblk m c (5 : Fin 7) t)
    (startP t (trajN m c t.val))

/-- What holds before each point: the scratches carry the running values, and the tables are at hand. -/
def Phi (c : Dev nD) (t : Fin (cfgA.N + 1)) : sProp 𝕄 :=
  iprop(∃ f0 f1 f2, ⌜t.val ≠ 0 → (⟨scM0.view.read (Elt Bits) f0, scM1.view.read (Elt Bits) f1, scM2.view.read (Elt Bits) f2⟩ : St Bits) = trajN m c t.val⌝
    ∗ (scM0.view.loc (c : Thread nD τ) ↦[scM0.view.set]{fullShare} f0) ∗ (scM1.view.loc (c : Thread nD τ) ↦[scM1.view.set]{fullShare} f1)
    ∗ (scM2.view.loc (c : Thread nD τ) ↦[scM2.view.set]{fullShare} f2)
    ∗ (tbM0.view.loc (c : Thread nD τ) ↦{fullShare.right} tab0) ∗ (tbM1.view.loc (c : Thread nD τ) ↦{fullShare.right} tab1))

/-- The contents of every window at every point. -/
def dats (_ : Fin 1) (c : Dev nD) : Dat τ (Elt Bits) Unit ℕ (UR sig nD τ) ℕ cfgA c where
  A w := Vat m c (Pipeline.arrRef spec0 w)
  after w t := match w with
    | ⟨0, _⟩ => iblk m c (0 : Fin 7) t
    | ⟨1, _⟩ => iblk m c (1 : Fin 7) t
    | ⟨2, _⟩ => iblk m c (2 : Fin 7) t
    | ⟨3, _⟩ => iblk m c (3 : Fin 7) t
    | ⟨4, _⟩ => iblk m c (4 : Fin 7) t
    | ⟨5, _⟩ => iblk m c (5 : Fin 7) t
    | ⟨6, _⟩ => outAt m c t
  Φ t := Phi m c t
  q _ := fullShare
  owed _ := 0

theorem after_0 (c : Dev nD) (t : Fin cfgA.N) : (dats m 0 c).after (0 : Fin 7) t = iblk m c (0 : Fin 7) t := rfl
theorem after_1 (c : Dev nD) (t : Fin cfgA.N) : (dats m 0 c).after (1 : Fin 7) t = iblk m c (1 : Fin 7) t := rfl
theorem after_2 (c : Dev nD) (t : Fin cfgA.N) : (dats m 0 c).after (2 : Fin 7) t = iblk m c (2 : Fin 7) t := rfl
theorem after_3 (c : Dev nD) (t : Fin cfgA.N) : (dats m 0 c).after (3 : Fin 7) t = iblk m c (3 : Fin 7) t := rfl
theorem after_4 (c : Dev nD) (t : Fin cfgA.N) : (dats m 0 c).after (4 : Fin 7) t = iblk m c (4 : Fin 7) t := rfl
theorem after_5 (c : Dev nD) (t : Fin cfgA.N) : (dats m 0 c).after (5 : Fin 7) t = iblk m c (5 : Fin 7) t := rfl
theorem after_6 (c : Dev nD) (t : Fin cfgA.N) : (dats m 0 c).after (6 : Fin 7) t = outAt m c t := rfl
theorem before_0 (c : Dev nD) (t : Fin cfgA.N) (d) : (dats m 0 c).before (0 : Fin 7) t d = iblk m c (0 : Fin 7) t :=
  ((dats m 0 c).before_in_eq_fetched (0 : Fin 7) rfl (fun _ => rfl) (fun _ _ _ => rfl) (fun t => by rw [after_0]; unfold Dat.blockOf iblk; rfl) t d).trans
    (by unfold Dat.fetched Dat.blockOf iblk; rfl)
theorem before_1 (c : Dev nD) (t : Fin cfgA.N) (d) : (dats m 0 c).before (1 : Fin 7) t d = iblk m c (1 : Fin 7) t :=
  ((dats m 0 c).before_in_eq_fetched (1 : Fin 7) rfl (fun _ => rfl) (fun _ _ _ => rfl) (fun t => by rw [after_1]; unfold Dat.blockOf iblk; rfl) t d).trans
    (by unfold Dat.fetched Dat.blockOf iblk; rfl)
theorem before_2 (c : Dev nD) (t : Fin cfgA.N) (d) : (dats m 0 c).before (2 : Fin 7) t d = iblk m c (2 : Fin 7) t :=
  ((dats m 0 c).before_in_eq_fetched (2 : Fin 7) rfl (fun _ => rfl) (fun _ _ _ => rfl) (fun t => by rw [after_2]; unfold Dat.blockOf iblk; rfl) t d).trans
    (by unfold Dat.fetched Dat.blockOf iblk; rfl)
theorem before_3 (c : Dev nD) (t : Fin cfgA.N) (d) : (dats m 0 c).before (3 : Fin 7) t d = iblk m c (3 : Fin 7) t :=
  ((dats m 0 c).before_in_eq_fetched (3 : Fin 7) rfl (fun _ => rfl) (fun _ _ _ => rfl) (fun t => by rw [after_3]; unfold Dat.blockOf iblk; rfl) t d).trans
    (by unfold Dat.fetched Dat.blockOf iblk; rfl)
theorem before_4 (c : Dev nD) (t : Fin cfgA.N) (d) : (dats m 0 c).before (4 : Fin 7) t d = iblk m c (4 : Fin 7) t :=
  ((dats m 0 c).before_in_eq_fetched (4 : Fin 7) rfl (fun _ => rfl) (fun _ _ _ => rfl) (fun t => by rw [after_4]; unfold Dat.blockOf iblk; rfl) t d).trans
    (by unfold Dat.fetched Dat.blockOf iblk; rfl)
theorem before_5 (c : Dev nD) (t : Fin cfgA.N) (d) : (dats m 0 c).before (5 : Fin 7) t d = iblk m c (5 : Fin 7) t :=
  ((dats m 0 c).before_in_eq_fetched (5 : Fin 7) rfl (fun _ => rfl) (fun _ _ _ => rfl) (fun t => by rw [after_5]; unfold Dat.blockOf iblk; rfl) t d).trans
    (by unfold Dat.fetched Dat.blockOf iblk; rfl)
theorem before_6 (c : Dev nD) (t : Fin cfgA.N) (d) : (dats m 0 c).before (6 : Fin 7) t d = d := by
  rw [(dats m 0 c).before_out_traj (6 : Fin 7) rfl (fun _ _ => rfl)
    (fun t _ _ hf => absurd ((fresh6 t).symm.trans hf) (by decide)) t.val t rfl d]
  rw [if_pos (fresh6 t)]

/-- The body at a point, on its staging buffers. -/
abbrev bodyAt (t : Fin cfgA.N) : Prog (TpuEff nD τ sig (Elt Bits) Λ₀ .tc) PUnit :=
  cc0_diff_attn_prompt (crd t) tbM0 (Memref.isWhole_whole _) tbM1 (Memref.isWhole_whole _) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _)

set_option maxHeartbeats 4000000 in
/-- The body does at every point what the contents say. -/
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before (0 : Fin 7) t d))
        ∗ (∃ d, owns (c : Thread nD τ) (ms1 t) fullShare ((dats m 0 c).before (1 : Fin 7) t d))
        ∗ (∃ d, owns (c : Thread nD τ) (ms2 t) fullShare ((dats m 0 c).before (2 : Fin 7) t d))
        ∗ (∃ d, owns (c : Thread nD τ) (ms3 t) fullShare ((dats m 0 c).before (3 : Fin 7) t d))
        ∗ (∃ d, owns (c : Thread nD τ) (ms4 t) fullShare ((dats m 0 c).before (4 : Fin 7) t d))
        ∗ (∃ d, owns (c : Thread nD τ) (ms5 t) fullShare ((dats m 0 c).before (5 : Fin 7) t d))
        ∗ (∃ d, owns (c : Thread nD τ) (ms6 t) fullShare ((dats m 0 c).before (6 : Fin 7) t d)))
      ⊢ wp frame (wpE (defs₀ (F := Bits)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  by_cases q0 : P0 t
  · by_cases q1 : P1 t
    · skip
      obtain ⟨k3, i6, f6⟩ := (allFacts t).2.1 q1
      rewrite [i6]
      simp only [before_0, before_1, before_2, before_3, before_4, before_5, before_6, after_0, after_1, after_2, after_3, after_4, after_5, after_6, f6]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨%f0, %f1, %f2, %hf, HS0, HS1, HS2, HT0, HT1⟩, Ho, ⟨%d0, H0⟩, ⟨%d1, H1⟩, ⟨%d2, H2⟩, ⟨%d3, H3⟩, ⟨%d4, H4⟩, ⟨%d5, H5⟩, ⟨%d6, H6⟩⟩
      have hs : startP t (trajN m c t.val) = St.init := if_pos q0
      have hn := trajN_succ m c t
      rw [hs] at hn
      unfold stepP at hn
      rw [if_pos q1] at hn
      iapply (runB c (crd t) (ms0 t) (hs0 t) (ms1 t) (hs1 t) (ms2 t) (hs2 t) (ms3 t) (hs3 t) (ms4 t) (hs4 t) (ms5 t) (hs5 t) (ms6 t) (hs6 t) tab0 tab1
        (iblk m c (0 : Fin 7) t) (iblk m c (1 : Fin 7) t) (iblk m c (2 : Fin 7) t) (iblk m c (3 : Fin 7) t) (iblk m c (4 : Fin 7) t) (iblk m c (5 : Fin 7) t) q0 q1 k3 d6 f0 f1 f2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      iintro ⟨H0, H1, H2, H3, H4, H5, HT0, HT1, H6, ⟨%g0, %g1, %g2, %hg, HS0, HS1, HS2⟩⟩
      isplitl [HS0 HS1 HS2 HT0 HT1]
      · iexists g0, g1, g2
        isplitr; · ipureintro; intro _; exact hg.trans hn.symm
        isplitl [HS0]; · iexact HS0
        isplitl [HS1]; · iexact HS1
        isplitl [HS2]; · iexact HS2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      iexists d6; iexact H6
    · skip
      obtain ⟨k3, i6, f6⟩ := (allFacts t).1 q1
      rewrite [i6]
      simp only [before_0, before_1, before_2, before_3, before_4, before_5, before_6, after_0, after_1, after_2, after_3, after_4, after_5, after_6, f6]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨%f0, %f1, %f2, %hf, HS0, HS1, HS2, HT0, HT1⟩, Ho, ⟨%d0, H0⟩, ⟨%d1, H1⟩, ⟨%d2, H2⟩, ⟨%d3, H3⟩, ⟨%d4, H4⟩, ⟨%d5, H5⟩, ⟨%d6, H6⟩⟩
      have hs : startP t (trajN m c t.val) = St.init := if_pos q0
      have hn := trajN_succ m c t
      rw [hs] at hn
      unfold stepP at hn
      rw [if_neg q1] at hn
      iapply (runA c (crd t) (ms0 t) (hs0 t) (ms1 t) (hs1 t) (ms2 t) (hs2 t) (ms3 t) (hs3 t) (ms4 t) (hs4 t) (ms5 t) (hs5 t) (ms6 t) (hs6 t) tab0 tab1
        (iblk m c (0 : Fin 7) t) (iblk m c (1 : Fin 7) t) (iblk m c (2 : Fin 7) t) (iblk m c (3 : Fin 7) t) (iblk m c (4 : Fin 7) t) (iblk m c (5 : Fin 7) t) q0 q1 k3 f0 f1 f2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, H6, ⟨%g0, %g1, %g2, %hg, HS0, HS1, HS2⟩⟩
      isplitl [HS0 HS1 HS2 HT0 HT1]
      · iexists g0, g1, g2
        isplitr; · ipureintro; intro _; exact hg.trans hn.symm
        isplitl [HS0]; · iexact HS0
        isplitl [HS1]; · iexact HS1
        isplitl [HS2]; · iexact HS2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold outAt; rw [hs]; iexact H6
  · by_cases q1 : P1 t
    · skip
      obtain ⟨k3, i6, f6⟩ := (allFacts t).2.1 q1
      rewrite [i6]
      simp only [before_0, before_1, before_2, before_3, before_4, before_5, before_6, after_0, after_1, after_2, after_3, after_4, after_5, after_6, f6]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨%f0, %f1, %f2, %hf, HS0, HS1, HS2, HT0, HT1⟩, Ho, ⟨%d0, H0⟩, ⟨%d1, H1⟩, ⟨%d2, H2⟩, ⟨%d3, H3⟩, ⟨%d4, H4⟩, ⟨%d5, H5⟩, ⟨%d6, H6⟩⟩
      have hs : startP t (trajN m c t.val) = (⟨scM0.view.read (Elt Bits) f0, scM1.view.read (Elt Bits) f1, scM2.view.read (Elt Bits) f2⟩ : St Bits) := (if_neg q0).trans (hf ((allFacts t).2.2 q0)).symm
      have hn := trajN_succ m c t
      rw [hs] at hn
      unfold stepP at hn
      rw [if_pos q1] at hn
      iapply (runD c (crd t) (ms0 t) (hs0 t) (ms1 t) (hs1 t) (ms2 t) (hs2 t) (ms3 t) (hs3 t) (ms4 t) (hs4 t) (ms5 t) (hs5 t) (ms6 t) (hs6 t) tab0 tab1
        (iblk m c (0 : Fin 7) t) (iblk m c (1 : Fin 7) t) (iblk m c (2 : Fin 7) t) (iblk m c (3 : Fin 7) t) (iblk m c (4 : Fin 7) t) (iblk m c (5 : Fin 7) t) q0 q1 k3 d6 f0 f1 f2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      iintro ⟨H0, H1, H2, H3, H4, H5, HT0, HT1, H6, ⟨%g0, %g1, %g2, %hg, HS0, HS1, HS2⟩⟩
      isplitl [HS0 HS1 HS2 HT0 HT1]
      · iexists g0, g1, g2
        isplitr; · ipureintro; intro _; exact hg.trans hn.symm
        isplitl [HS0]; · iexact HS0
        isplitl [HS1]; · iexact HS1
        isplitl [HS2]; · iexact HS2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      iexists d6; iexact H6
    · skip
      obtain ⟨k3, i6, f6⟩ := (allFacts t).1 q1
      rewrite [i6]
      simp only [before_0, before_1, before_2, before_3, before_4, before_5, before_6, after_0, after_1, after_2, after_3, after_4, after_5, after_6, f6]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨%f0, %f1, %f2, %hf, HS0, HS1, HS2, HT0, HT1⟩, Ho, ⟨%d0, H0⟩, ⟨%d1, H1⟩, ⟨%d2, H2⟩, ⟨%d3, H3⟩, ⟨%d4, H4⟩, ⟨%d5, H5⟩, ⟨%d6, H6⟩⟩
      have hs : startP t (trajN m c t.val) = (⟨scM0.view.read (Elt Bits) f0, scM1.view.read (Elt Bits) f1, scM2.view.read (Elt Bits) f2⟩ : St Bits) := (if_neg q0).trans (hf ((allFacts t).2.2 q0)).symm
      have hn := trajN_succ m c t
      rw [hs] at hn
      unfold stepP at hn
      rw [if_neg q1] at hn
      iapply (runC c (crd t) (ms0 t) (hs0 t) (ms1 t) (hs1 t) (ms2 t) (hs2 t) (ms3 t) (hs3 t) (ms4 t) (hs4 t) (ms5 t) (hs5 t) (ms6 t) (hs6 t) tab0 tab1
        (iblk m c (0 : Fin 7) t) (iblk m c (1 : Fin 7) t) (iblk m c (2 : Fin 7) t) (iblk m c (3 : Fin 7) t) (iblk m c (4 : Fin 7) t) (iblk m c (5 : Fin 7) t) q0 q1 k3 f0 f1 f2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, H6, ⟨%g0, %g1, %g2, %hg, HS0, HS1, HS2⟩⟩
      isplitl [HS0 HS1 HS2 HT0 HT1]
      · iexists g0, g1, g2
        isplitr; · ipureintro; intro _; exact hg.trans hn.symm
        isplitl [HS0]; · iexact HS0
        isplitl [HS1]; · iexact HS1
        isplitl [HS2]; · iexact HS2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold outAt; rw [hs]; iexact H6

theorem body_obligation (c : Dev nD) : BodyObligation (dats m 0 c) (defs₀ (F := Bits)) Variants.none () Set.univ := fun t => by
  rw [bigSep_W0]
  exact sound_body m c t

/-- What the launch starts from. -/
def u₀ : UR sig nD τ :=
  initOf (Pipeline.cells pcs ((launch0 (F := Bits)).cellOf_inj fun _ => adm)) (Pipeline.launchToks pcs ((launch0 (F := Bits)).cellOf_inj fun _ => adm))

theorem share_eq (c : Dev nD) (w : Fin cfgA.W) : (dats m 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem sc0_set : scM0.view.set = Finset.univ := View.set_whole _
theorem sc1_set : scM1.view.set = Finset.univ := View.set_whole _
theorem sc2_set : scM2.view.set = Finset.univ := View.set_whole _

theorem phi0_intro (c : Dev nD) :
    iprop(BI.emp ∗ Pipeline.prefHeld pre0 c (fun _ => fullShare.right) adm.1 ∗ Pipeline.scopedRest spec0 c) ⊢ (dats m 0 c).Φ 0 := by
  rw [prefHeld_eq, scopedRest0_eq, show (dats m 0 c).Φ 0 = Phi m c 0 from rfl]
  unfold Phi
  rw [sc0_set, sc1_set, sc2_set]
  iintro ⟨-, ⟨HT0, HT1⟩, ⟨%a0, HS0⟩, ⟨%a1, HS1⟩, ⟨%a2, HS2⟩⟩
  iexists a0, a1, a2
  isplitr; · ipureintro; intro h; exact absurd rfl h
  isplitl [HS0]; · iexact HS0
  isplitl [HS1]; · iexact HS1
  isplitl [HS2]; · iexact HS2
  isplitl [HT0]; · iexact HT0
  iexact HT1

theorem phiN_exit (c : Dev nD) : (dats m 0 c).Φ (Fin.last cfgA.N) ⊢ iprop(BI.emp ∗ Pipeline.scopedRest spec0 c) := by
  rw [scopedRest0_eq, show (dats m 0 c).Φ (Fin.last cfgA.N) = Phi m c (Fin.last _) from rfl]
  unfold Phi
  rw [sc0_set, sc1_set, sc2_set]
  iintro ⟨%a0, %a1, %a2, -, HS0, HS1, HS2, -, -⟩
  isplitr; · iempintro
  isplitl [HS0]; · iexists a0; iexact HS0
  isplitl [HS1]; · iexists a1; iexact HS1
  iexists a2; iexact HS2

theorem Vat_arg (c : Dev nD) : Vat m c main_arg0 = m (c, main_arg0) ∧ Vat m c main_arg1 = m (c, main_arg1) ∧ Vat m c main_arg2 = m (c, main_arg2)
    ∧ Vat m c main_arg3 = m (c, main_arg3) ∧ Vat m c main_arg4 = m (c, main_arg4) ∧ Vat m c main_arg5 = m (c, main_arg5) :=
  ⟨rfl, rfl, rfl, rfl, rfl, rfl⟩

theorem Vat_pre (c : Dev nD) (k : Fin 2) : Vat m c (pre0.ref k) = pfN k := by
  fin_cases k
  · rfl
  · rfl

variable (ρ : Dev nD → PrngReg)

/-- Where every execution of the call ends. -/
def Post (r : PUnit × MemSt nD τ sig (Elt Bits)) : Prop :=
  (∀ c : Dev nD, (∀ w : Fin cfgA.W, r.2.mem ((cfgA.win w).arr.view.loc (c : Thread nD τ)) = (dats m 0 c).arrAt w cfgA.N)
    ∧ r.2.mem ((c : Thread nD τ).loc main_arg5) = m ((c : Thread nD τ).loc main_arg5)) ∧ r.2.sem = fun _ => 0

set_option backward.isDefEq.respectTransparency.types false in
set_option maxHeartbeats 4000000 in
/-- Every execution ends, with every array at what the contents say and every counter at zero. -/
theorem run_post : θ_run (defs (F := Bits)) (onTc (τ := τ) (main (F := Bits))) ⟨m, fun _ => 0, ρ⟩ (Post m) :=
  Pipeline.θ_run_region_noSem_pf_quiescent pcfgs (fun _ => adm) (dats m) () ((launch0 (F := Bits)).cellOf_inj fun _ => adm) (0 : Fin 1)
    (launch0 (F := Bits)).win.to₀ (launch0 (F := Bits)).pre EP defs₀ Variants.none m ρ main
    (hbody := fun c => (body_obligation m c).loose) (hne := (launch0 (F := Bits)).block_pos)
    (harr := (launch0 (F := Bits)).arr_whole) (hstage := (launch0 (F := Bits)).stage_whole) (howed := fun _ _ => rfl)
    (u₀ := u₀) (hu₀ := .rfl)
    (V := fun c b => Vat m c b)
    (hmain := Pipeline.hmainP_prefix pcfgs 0 defs₀ Variants.none m main hostOps0 hostOps0_sub ⟨rfl, rfl, rfl⟩ main_chain)
    (hsplit := fun c => Pipeline.arrays_split pcs (dats m) 0 (launch0 (F := Bits)).win.arr_inj c (launch0 (F := Bits)).arr_whole
      (share_eq m c) _ _ fun _ => rfl)
    (hpf := fun c k => Vat_pre m c k)
    (X := fun _ => iprop(emp)) (Y := fun _ => iprop(emp)) (Z := fun c => iprop(((c : Thread nD τ).loc main_arg5) ↦{fullShare} m ((c : Thread nD τ).loc main_arg5)))
    (hX := fun c => by
      rw [unscopedRestP0_eq]; iintro H; isplitr; · iempintro
      iexact H)
    (hin := phi0_intro m)
    (hout := phiN_exit m)
    (QY := fun c s => s.mem ((c : Thread nD τ).loc main_arg5) = m ((c : Thread nD τ).loc main_arg5))
    (hY := fun c s' => by
      have key := pointsTo_read_all (Ix := Unit) (Name := ℕ) (U := UR sig nD τ) (Lvl := ℕ) ({(0 : Fin 1)} : Finset (Fin 1)) (fun _ => (c : Thread nD τ).loc main_arg5)
        (fun _ => m ((c : Thread nD τ).loc main_arg5)) s'
      rw [bigSep_singleton] at key
      iintro ⟨-, HZ, HSI⟩
      ihave H := key $$ [HZ HSI]
      · isplitl [HZ]; · iexact HZ
        iexact HSI
      icases H with ⟨%hr, HSI⟩
      imodintro
      isplitr; · ipureintro; exact hr 0 (Finset.mem_singleton_self _)
      iexact HSI)
    (hQ := fun _ h hz => ⟨fun c => ⟨(h c).1, (h c).2.2⟩, hz⟩)

/-- The arguments end as they began. -/
theorem Post.args {r : PUnit × MemSt nD τ sig (Elt Bits)} (h : Post m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h.1 c).1 (0 : Fin 7)).trans (((dats m 0 c).arrAt_in (0 : Fin 7) rfl _).trans (Vat_arg m c).1),
   ((h.1 c).1 (1 : Fin 7)).trans (((dats m 0 c).arrAt_in (1 : Fin 7) rfl _).trans (Vat_arg m c).2.1),
   ((h.1 c).1 (2 : Fin 7)).trans (((dats m 0 c).arrAt_in (2 : Fin 7) rfl _).trans (Vat_arg m c).2.2.1),
   ((h.1 c).1 (3 : Fin 7)).trans (((dats m 0 c).arrAt_in (3 : Fin 7) rfl _).trans (Vat_arg m c).2.2.2.1),
   ((h.1 c).1 (4 : Fin 7)).trans (((dats m 0 c).arrAt_in (4 : Fin 7) rfl _).trans (Vat_arg m c).2.2.2.2.1),
   (h.1 c).2⟩

end Cert.Kernel.Attn

end
-- ==== Proof.Attn.KernelIdeal.Step.lean ====
/-
What one trip of each of the two loops over the eight heads does to the running maxima, the running sums and the
running products, written as a function of their contents; and that the pieces the generated trips record, read
back, are that function.
-/
module

public import proofs.«01_k».proof.Proof.Gen.KernelIdeal.Loops
public import Idealize.ShloMosaic.Lib.VecWindow

@[expose] public section

set_option maxRecDepth 16384
set_option maxHeartbeats 4000000

noncomputable section

namespace Cert.KernelIdeal.Attn

open Idealize.ShloMosaic Idealize.ShloMosaic.TcCoe Idealize.ShloMosaic.Tactic
open Idealize.ShloMosaic.VecWindow
open Cert.KernelIdeal.Gen

variable {F : FTy → Type} [FloatOps F] [Named F]

/-- The three running values of all heads and both components: per head, component and query the maximum of the
    scores seen (in eight equal rows), the sum of the weights (in eight equal rows), and the weighted values. -/
structure St (F : FTy → Type) where
  m : Vec F S8x2x8x1024 .f32
  l : Vec F S8x2x8x1024 .f32
  a : Vec F S8x2x128x1024 .f32

/-- What the first visit of a query block starts from. -/
def St.init : St F := ⟨k0_pay1, k0_pay2, k0_pay3⟩

/-- One head against one block of keys below the diagonal. -/
def stepU (q kk v : Vec F S1024x1024 .bf16) (k : Fin k0_t1_loop.trips) (s : St F) : St F :=
  let Q := window q (k0_off2 k) S128x1024.size (k0_off2_inb k)
  let K := window kk (k0_off3 k) S1024x128.size (k0_off3_inb k)
  let V := window v (k0_off2 k) S128x1024.size (k0_off2_inb k)
  let M0 := window s.m (k0_off4 k) S1x1x8x1024.size (k0_off4_inb k)
  let L0 := window s.l (k0_off4 k) S1x1x8x1024.size (k0_off4_inb k)
  let A0 := window s.a (k0_off5 k) S1x1x128x1024.size (k0_off5_inb k)
  let M1 := window s.m (k0_off6 k) S1x1x8x1024.size (k0_off6_inb k)
  let L1 := window s.l (k0_off6 k) S1x1x8x1024.size (k0_off6_inb k)
  let A1 := window s.a (k0_off7 k) S1x1x128x1024.size (k0_off7_inb k)
  let S := k0_pay7 Q K
  ⟨put (put s.m (k0_off4 k) S1x1x8x1024.size (k0_pay15 (k0_pay10 Q K M0)))
      (k0_off6 k) S1x1x8x1024.size (k0_pay25 (k0_pay17 M1) (k0_pay18 S) (k0_pay19 S)),
   put (put s.l (k0_off4 k) S1x1x8x1024.size (k0_pay13 (k0_pay11 Q K M0) (k0_pay12 Q K V M0) L0))
      (k0_off6 k) S1x1x8x1024.size (k0_pay23 (k0_pay5 V) (k0_pay16 S) (k0_pay17 M1) (k0_pay18 S) (k0_pay19 S) L1),
   put (put s.a (k0_off5 k) S1x1x128x1024.size (k0_pay14 (k0_pay11 Q K M0) (k0_pay12 Q K V M0) A0))
      (k0_off7 k) S1x1x128x1024.size (k0_pay24 (k0_pay5 V) (k0_pay16 S) (k0_pay17 M1) (k0_pay18 S) (k0_pay19 S) A1)⟩

/-- One head against the block of keys on the diagonal. -/
def stepM (q kk v : Vec F S1024x1024 .bf16) (k : Fin k0_t2_loop.trips) (s : St F) : St F :=
  let Q := window q (k0_off8 k) S128x1024.size (k0_off8_inb k)
  let K := window kk (k0_off9 k) S1024x128.size (k0_off9_inb k)
  let V := window v (k0_off8 k) S128x1024.size (k0_off8_inb k)
  let M0 := window s.m (k0_off10 k) S1x1x8x1024.size (k0_off10_inb k)
  let L0 := window s.l (k0_off10 k) S1x1x8x1024.size (k0_off10_inb k)
  let A0 := window s.a (k0_off11 k) S1x1x128x1024.size (k0_off11_inb k)
  let M1 := window s.m (k0_off12 k) S1x1x8x1024.size (k0_off12_inb k)
  let L1 := window s.l (k0_off12 k) S1x1x8x1024.size (k0_off12_inb k)
  let A1 := window s.a (k0_off13 k) S1x1x128x1024.size (k0_off13_inb k)
  let S1 := k0_pay38 (k0_pay28 Q K)
  ⟨put (put s.m (k0_off10 k) S1x1x8x1024.size (k0_pay37 (k0_pay31 Q K M0)))
      (k0_off12 k) S1x1x8x1024.size (k0_pay46 (k0_pay40 S1 M1)),
   put (put s.l (k0_off10 k) S1x1x8x1024.size (k0_pay35 (k0_pay26 V) (k0_pay29 Q K) (k0_pay32 Q K M0) (k0_pay33 Q K M0) L0))
      (k0_off12 k) S1x1x8x1024.size (k0_pay43 (k0_pay26 V) S1 M1 L1),
   put (put s.a (k0_off11 k) S1x1x128x1024.size (k0_pay36 (k0_pay26 V) (k0_pay29 Q K) (k0_pay32 Q K M0) (k0_pay33 Q K M0) A0))
      (k0_off13 k) S1x1x128x1024.size (k0_pay45 (k0_pay44 (k0_pay26 V) S1 M1 A1))⟩

/-- What a head writes of the result once its last block of keys is in. -/
def finish (pj : Vec F S1024x1024 .f32) (lam : Vec F S4x64 .f32) (sg : Vec F S1x128 .f32) (k : Fin k0_t2_loop.trips)
    (s : St F) : Vec F S1024x128 .bf16 :=
  k0_pay4 (k0_pay47 lam)
    (k0_pay48 (window s.a (k0_off11 k) S1x1x128x1024.size (k0_off11_inb k)) (window s.l (k0_off10 k) S1x1x8x1024.size (k0_off10_inb k)))
    (k0_pay49 (window s.a (k0_off13 k) S1x1x128x1024.size (k0_off13_inb k)))
    (window s.l (k0_off12 k) S1x1x8x1024.size (k0_off12_inb k)) sg
    (window pj (k0_off9 k) S1024x128.size (k0_off9_inb k))

/-- The first `n` heads in turn, below the diagonal. -/
def runU (q kk v : Vec F S1024x1024 .bf16) (s : St F) : ℕ → St F
  | 0 => s
  | n + 1 => if h : n < k0_t1_loop.trips then stepU q kk v ⟨n, h⟩ (runU q kk v s n) else runU q kk v s n

/-- The first `n` heads in turn, on the diagonal. -/
def runM (q kk v : Vec F S1024x1024 .bf16) (s : St F) : ℕ → St F
  | 0 => s
  | n + 1 => if h : n < k0_t2_loop.trips then stepM q kk v ⟨n, h⟩ (runM q kk v s n) else runM q kk v s n

/-- The result block after the first `n` heads on the diagonal, from what it held before. -/
def outM (q kk v : Vec F S1024x1024 .bf16) (pj : Vec F S1024x1024 .f32) (lam : Vec F S4x64 .f32) (sg : Vec F S1x128 .f32)
    (s : St F) (o : Vec F S1024x1024 .bf16) : ℕ → Vec F S1024x1024 .bf16
  | 0 => o
  | n + 1 => if h : n < k0_t2_loop.trips then
      put (outM q kk v pj lam sg s o n) (k0_off9 ⟨n, h⟩) S1024x128.size (finish pj lam sg ⟨n, h⟩ (runM q kk v s (n + 1)))
    else outM q kk v pj lam sg s o n

/-- Reading back a list of writes at a place the last of them does not touch. -/
theorem readCov_put_of_disjoint {s : Shape} {e : EltTy} {κ : Kind} {sp : Space} (v : View sig κ sp s e)
    (off size : Fin s.rank → ℕ) (inb : ∀ a, off a + size a ≤ s.size a) (w : (Rect.unit off size inb).shape.Idx → Elt F e)
    (L : List (View.Piece (Elt F) s e)) (off' : Fin s.rank → ℕ) (inb' : ∀ a, off' a + size a ≤ s.size a)
    (a : Fin s.rank) (ha : off' a + size a ≤ off a ∨ off a + size a ≤ off' a) :
    v.readCov (⟨Rect.unit off size inb, w⟩ :: L) (Rect.unit off' size inb').toLoadRect
      = v.readCov L (Rect.unit off' size inb').toLoadRect := by
  delta View.readCov
  rw [View.readAt_unit _ _ _ rfl inb', View.readAt_unit _ _ _ rfl inb', View.read_writes_cons_put _ _ _ _ _ rfl,
    window_put_of_disjoint _ _ _ _ _ _ _ a ha]

section
variable (𝒱 : Variants) (c : Dev nD) (bd : Option 𝒱.V) (i : grid0.Coords) (arg2 : Memref sig .tc .smem S36 .i32) (harg2 : arg2.IsWhole) (arg3 : Memref sig .tc .smem S36 .i32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S8x2x8x1024 .f32) (harg11 : arg11.IsWhole) (arg12 : Memref sig .tc .vmem S8x2x8x1024 .f32) (harg12 : arg12.IsWhole) (arg13 : Memref sig .tc .vmem S8x2x128x1024 .f32) (harg13 : arg13.IsWhole)
  (X_arg4 : BufTy.Contents (Elt F) arg4.view.ty) (X_arg5 : BufTy.Contents (Elt F) arg5.view.ty) (X_arg6 : BufTy.Contents (Elt F) arg6.view.ty)

theorem trip_t1 (k : Fin k0_t1_loop.trips) (f11 : BufTy.Contents (Elt F) arg11.view.ty) (f12 : BufTy.Contents (Elt F) arg12.view.ty)
    (f13 : BufTy.Contents (Elt F) arg13.view.ty) :
    arg11.view.read (Elt F) (arg11.view.writes (Elt F) f11 (tripL_k0_t1 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 k f11 f12 f13).1)
        = (stepU (arg4.view.read (Elt F) X_arg4) (arg5.view.read (Elt F) X_arg5) (arg6.view.read (Elt F) X_arg6) k
            ⟨arg11.view.read (Elt F) f11, arg12.view.read (Elt F) f12, arg13.view.read (Elt F) f13⟩).m
    ∧ arg12.view.read (Elt F) (arg12.view.writes (Elt F) f12 (tripL_k0_t1 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 k f11 f12 f13).2.1)
        = (stepU (arg4.view.read (Elt F) X_arg4) (arg5.view.read (Elt F) X_arg5) (arg6.view.read (Elt F) X_arg6) k
            ⟨arg11.view.read (Elt F) f11, arg12.view.read (Elt F) f12, arg13.view.read (Elt F) f13⟩).l
    ∧ arg13.view.read (Elt F) (arg13.view.writes (Elt F) f13 (tripL_k0_t1 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 k f11 f12 f13).2.2)
        = (stepU (arg4.view.read (Elt F) X_arg4) (arg5.view.read (Elt F) X_arg5) (arg6.view.read (Elt F) X_arg6) k
            ⟨arg11.view.read (Elt F) f11, arg12.view.read (Elt F) f12, arg13.view.read (Elt F) f13⟩).a := by
  unfold tripL_k0_t1 trip_k0_t1
  dsimp only
  refine ⟨?_, ?_, ?_⟩
  all_goals
    rw [View.read_writes_cons_put _ _ _ _ _ rfl, View.read_writes_cons_put _ _ _ _ _ rfl]
    rfl

theorem trip_t2 (X_arg7 : BufTy.Contents (Elt F) arg7.view.ty) (X_arg8 : BufTy.Contents (Elt F) arg8.view.ty) (X_arg9 : BufTy.Contents (Elt F) arg9.view.ty)
    (k : Fin k0_t2_loop.trips) (f10 : BufTy.Contents (Elt F) arg10.view.ty) (f11 : BufTy.Contents (Elt F) arg11.view.ty) (f12 : BufTy.Contents (Elt F) arg12.view.ty)
    (f13 : BufTy.Contents (Elt F) arg13.view.ty) (s : St F)
    (hs : s = stepM (arg4.view.read (Elt F) X_arg4) (arg5.view.read (Elt F) X_arg5) (arg6.view.read (Elt F) X_arg6) k
            ⟨arg11.view.read (Elt F) f11, arg12.view.read (Elt F) f12, arg13.view.read (Elt F) f13⟩) :
    arg10.view.read (Elt F) (arg10.view.writes (Elt F) f10 (tripL_k0_t2 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 k f10 f11 f12 f13).1)
        = put (arg10.view.read (Elt F) f10) (k0_off9 k) S1024x128.size
            (finish (arg7.view.read (Elt F) X_arg7) (arg8.view.read (Elt F) X_arg8) (arg9.view.read (Elt F) X_arg9) k s)
    ∧ arg11.view.read (Elt F) (arg11.view.writes (Elt F) f11 (tripL_k0_t2 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 k f10 f11 f12 f13).2.1)
        = s.m
    ∧ arg12.view.read (Elt F) (arg12.view.writes (Elt F) f12 (tripL_k0_t2 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 k f10 f11 f12 f13).2.2.1)
        = s.l
    ∧ arg13.view.read (Elt F) (arg13.view.writes (Elt F) f13 (tripL_k0_t2 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 k f10 f11 f12 f13).2.2.2)
        = s.a := by
  unfold tripL_k0_t2 trip_k0_t2
  dsimp only
  refine ⟨?_, ?_, ?_, ?_⟩
  · rw [View.read_writes_cons_put _ _ _ _ _ rfl]
    refine congrArg (put _ _ _) ?_
    have ea0 : arg13.view.readCov (trip_k0_t2.sl.HW_arg13_2 arg4 arg5 arg6 arg11 arg13 X_arg4 X_arg5 X_arg6 k f11 f13)
        (Rect.unit (s := S8x2x128x1024) (k0_off11 k) S1x1x128x1024.size (k0_off11_inb k)).toLoadRect = window s.a (k0_off11 k) S1x1x128x1024.size (k0_off11_inb k) := by
      rw [hs]
      unfold stepM
      dsimp only
      rw [window_put_of_disjoint _ _ _ _ _ _ _ 1 (by rw [k0_off11_eq, k0_off13_eq]; exact .inl (Nat.le_refl 1)), window_put_same]
      delta trip_k0_t2.sl.HW_arg13_2
      rw [readCov_put_of_disjoint _ _ _ _ _ _ _ _ 1 (by rw [k0_off11_eq, k0_off13_eq]; exact .inl (Nat.le_refl 1)), View.readCov_cons_toLoadRect]
      rfl
    have el0 : arg12.view.readCov (trip_k0_t2.sl.HW_arg12_2 arg4 arg5 arg6 arg11 arg12 X_arg4 X_arg5 X_arg6 k f11 f12)
        (Rect.unit (s := S8x2x8x1024) (k0_off10 k) S1x1x8x1024.size (k0_off10_inb k)).toLoadRect = window s.l (k0_off10 k) S1x1x8x1024.size (k0_off10_inb k) := by
      rw [hs]
      unfold stepM
      dsimp only
      rw [window_put_of_disjoint _ _ _ _ _ _ _ 1 (by rw [k0_off10_eq, k0_off12_eq]; exact .inl (Nat.le_refl 1)), window_put_same]
      delta trip_k0_t2.sl.HW_arg12_2
      rw [readCov_put_of_disjoint _ _ _ _ _ _ _ _ 1 (by rw [k0_off10_eq, k0_off12_eq]; exact .inl (Nat.le_refl 1)), View.readCov_cons_toLoadRect]
      rfl
    have ea1 : arg13.view.readCov (trip_k0_t2.sl.HW_arg13_2 arg4 arg5 arg6 arg11 arg13 X_arg4 X_arg5 X_arg6 k f11 f13)
        (Rect.unit (s := S8x2x128x1024) (k0_off13 k) S1x1x128x1024.size (k0_off13_inb k)).toLoadRect = window s.a (k0_off13 k) S1x1x128x1024.size (k0_off13_inb k) := by
      rw [hs]
      unfold stepM
      dsimp only
      rw [window_put_same]
      delta trip_k0_t2.sl.HW_arg13_2
      rw [View.readCov_cons_toLoadRect]
      rfl
    have el1 : arg12.view.readCov (trip_k0_t2.sl.HW_arg12_2 arg4 arg5 arg6 arg11 arg12 X_arg4 X_arg5 X_arg6 k f11 f12)
        (Rect.unit (s := S8x2x8x1024) (k0_off12 k) S1x1x8x1024.size (k0_off12_inb k)).toLoadRect = window s.l (k0_off12 k) S1x1x8x1024.size (k0_off12_inb k) := by
      rw [hs]
      unfold stepM
      dsimp only
      rw [window_put_same]
      delta trip_k0_t2.sl.HW_arg12_2
      rw [View.readCov_cons_toLoadRect]
      rfl
    have e9 : View.readAt (Elt F) arg9.view (Rect.unit ![0, 0] ![1, 128] inb_S1x128_S1x128_0_0).toLoadRect X_arg9 = arg9.view.read (Elt F) X_arg9 :=
      View.readAt_full _ _ _
    have e8 : View.readAt (Elt F) arg8.view (Rect.unit ![0, 0] ![4, 64] inb_S4x64_S4x64_0_0).toLoadRect X_arg8 = arg8.view.read (Elt F) X_arg8 :=
      View.readAt_full _ _ _
    unfold finish
    rw [← ea0, ← el0, ← ea1, ← el1, ← e9, ← e8]
    rfl
  · rw [View.read_writes_cons_put _ _ _ _ _ rfl, View.read_writes_cons_put _ _ _ _ _ rfl, hs]
    rfl
  · delta trip_k0_t2.sl.HW_arg12_2
    rw [View.read_writes_cons_put _ _ _ _ _ rfl, View.read_writes_cons_put _ _ _ _ _ rfl, hs]
    rfl
  · delta trip_k0_t2.sl.HW_arg13_2
    rw [View.read_writes_cons_put _ _ _ _ _ rfl, View.read_writes_cons_put _ _ _ _ _ rfl, hs]
    rfl

/-- The pieces of the first `n` trips below the diagonal, read back. -/
theorem read_t1 (G11 : BufTy.Contents (Elt F) arg11.view.ty) (G12 : BufTy.Contents (Elt F) arg12.view.ty) (G13 : BufTy.Contents (Elt F) arg13.view.ty) (n : ℕ)
    (hn : n ≤ k0_t1_loop.trips) :
    (⟨arg11.view.read (Elt F) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 G11 G12 G13 n).1),
      arg12.view.read (Elt F) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 G11 G12 G13 n).2.1),
      arg13.view.read (Elt F) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 G11 G12 G13 n).2.2)⟩ : St F)
      = runU (arg4.view.read (Elt F) X_arg4) (arg5.view.read (Elt F) X_arg5) (arg6.view.read (Elt F) X_arg6)
          ⟨arg11.view.read (Elt F) G11, arg12.view.read (Elt F) G12, arg13.view.read (Elt F) G13⟩ n := by
  induction n with
  | zero => rfl
  | succ n ih =>
    have h : n < k0_t1_loop.trips := hn
    have ht := trip_t1 𝒱 c bd i arg2 harg2 arg3 harg3 arg4 harg4 arg5 harg5 arg6 harg6 arg7 harg7 arg8 harg8 arg9 harg9 arg10 harg10 arg11 harg11 arg12 harg12 arg13 harg13 X_arg4 X_arg5 X_arg6 ⟨n, h⟩
      (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 G11 G12 G13 n).1)
      (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 G11 G12 G13 n).2.1)
      (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 G11 G12 G13 n).2.2)
    rw [ih (by omega)] at ht
    rw [runU, dif_pos h, pb_k0_t1_succ (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 G11 G12 G13 ⟨n, h⟩, View.writes_append, View.writes_append,
      View.writes_append, ht.1, ht.2.1, ht.2.2]

/-- The pieces of the first `n` trips on the diagonal, read back. -/
theorem read_t2 (X_arg7 : BufTy.Contents (Elt F) arg7.view.ty) (X_arg8 : BufTy.Contents (Elt F) arg8.view.ty) (X_arg9 : BufTy.Contents (Elt F) arg9.view.ty)
    (G10 : BufTy.Contents (Elt F) arg10.view.ty) (G11 : BufTy.Contents (Elt F) arg11.view.ty) (G12 : BufTy.Contents (Elt F) arg12.view.ty)
    (G13 : BufTy.Contents (Elt F) arg13.view.ty) (n : ℕ) (hn : n ≤ k0_t2_loop.trips) :
    (⟨arg11.view.read (Elt F) (arg11.view.writes (Elt F) G11 (pb_k0_t2 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 G10 G11 G12 G13 n).2.1),
      arg12.view.read (Elt F) (arg12.view.writes (Elt F) G12 (pb_k0_t2 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 G10 G11 G12 G13 n).2.2.1),
      arg13.view.read (Elt F) (arg13.view.writes (Elt F) G13 (pb_k0_t2 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 G10 G11 G12 G13 n).2.2.2)⟩ : St F)
      = runM (arg4.view.read (Elt F) X_arg4) (arg5.view.read (Elt F) X_arg5) (arg6.view.read (Elt F) X_arg6)
          ⟨arg11.view.read (Elt F) G11, arg12.view.read (Elt F) G12, arg13.view.read (Elt F) G13⟩ n
    ∧ arg10.view.read (Elt F) (arg10.view.writes (Elt F) G10 (pb_k0_t2 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 G10 G11 G12 G13 n).1)
      = outM (arg4.view.read (Elt F) X_arg4) (arg5.view.read (Elt F) X_arg5) (arg6.view.read (Elt F) X_arg6)
          (arg7.view.read (Elt F) X_arg7) (arg8.view.read (Elt F) X_arg8) (arg9.view.read (Elt F) X_arg9)
          ⟨arg11.view.read (Elt F) G11, arg12.view.read (Elt F) G12, arg13.view.read (Elt F) G13⟩ (arg10.view.read (Elt F) G10) n := by
  induction n with
  | zero => exact ⟨rfl, rfl⟩
  | succ n ih =>
    have h : n < k0_t2_loop.trips := hn
    have ih' := ih (by omega)
    have ht := trip_t2 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 ⟨n, h⟩
      (arg10.view.writes (Elt F) G10 (pb_k0_t2 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 G10 G11 G12 G13 n).1)
      (arg11.view.writes (Elt F) G11 (pb_k0_t2 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 G10 G11 G12 G13 n).2.1)
      (arg12.view.writes (Elt F) G12 (pb_k0_t2 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 G10 G11 G12 G13 n).2.2.1)
      (arg13.view.writes (Elt F) G13 (pb_k0_t2 (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 G10 G11 G12 G13 n).2.2.2) _ rfl
    rw [ih'.1, ih'.2] at ht
    refine ⟨?_, ?_⟩
    · rw [runM, dif_pos h, pb_k0_t2_succ (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 G10 G11 G12 G13 ⟨n, h⟩, View.writes_append,
        View.writes_append, View.writes_append, ht.2.1, ht.2.2.1, ht.2.2.2]
    · rw [outM, dif_pos h, pb_k0_t2_succ (F := F) 𝒱 c bd i arg2 harg2 arg3 harg3 arg4 harg4 arg5 harg5 arg6 harg6 arg7 harg7 arg8 harg8 arg9 harg9 arg10 harg10 arg11 harg11 arg12 harg12 arg13 harg13 X_arg4 X_arg5 X_arg6 X_arg7 X_arg8 X_arg9 G10 G11 G12 G13 ⟨n, h⟩, View.writes_append,
        ht.1, runM, dif_pos h]
end

end Cert.KernelIdeal.Attn

end
-- ==== Proof.Attn.KernelIdeal.Sched.lean ====
/-
The schedule of the attention call: the two tables that enumerate the pairs of a query block and a key block at or
below the diagonal, the pipeline at these tables, and what is decided of its 72 points.
-/
module

public import proofs.«01_k».proof.Defs
public import proofs.«01_k».proof.Proof.Gen.KernelIdeal.Launch
public import proofs.«01_k».proof.Proof.Attn.KernelIdeal.Step
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the proof is about. -/
local notation "𝕄" => MT nD τ sig Unit (Elt Ideal) ℕ (UR sig nD τ) ℕ

/-- The tables and the scratches, whole. -/
abbrev tbM0 : Memref sig .tc .smem S36 .i32 := Memref.whole main_c
abbrev tbM1 : Memref sig .tc .smem S36 .i32 := Memref.whole main_c_0
abbrev scM0 : Memref sig .tc .vmem S8x2x8x1024 .f32 := Memref.whole cc0_scratch0
abbrev scM1 : Memref sig .tc .vmem S8x2x8x1024 .f32 := Memref.whole cc0_scratch1
abbrev scM2 : Memref sig .tc .vmem S8x2x128x1024 .f32 := Memref.whole cc0_scratch2

/-- The query block and the key block of each of the 36 pairs. -/
def tab0 : S36.Idx → BitVec 32 := fun x => lit0 (S36.rowMajor x)
def tab1 : S36.Idx → BitVec 32 := fun x => lit1 (S36.rowMajor x)

set_option backward.proofsInPublic true in
/-- The tables' contents. -/
def pfN : pre0.Contents (Elt Ideal) := fun | ⟨0, _⟩ => tab0 | ⟨1, _⟩ => tab1 | ⟨_ + 2, h⟩ => absurd h (by simp)

theorem inb_0 : ∀ i : grid0.Coords, ∀ a, (cc0_transform_0 k0_off1_inb numel1_S1 pfN i a + 1) * S1024x1024.size a ≤ S1024x16384.size a := by decide +kernel
theorem inb_1 : ∀ i : grid0.Coords, ∀ a, (cc0_transform_1 k0_off1_inb numel1_S1 pfN i a + 1) * S1024x1024.size a ≤ S16384x1024.size a := by decide +kernel
theorem inb_2 : ∀ i : grid0.Coords, ∀ a, (cc0_transform_2 k0_off1_inb numel1_S1 pfN i a + 1) * S1024x1024.size a ≤ S1024x16384.size a := by decide +kernel
theorem inb_3 : ∀ i : grid0.Coords, ∀ a, (cc0_transform_3 k0_off1_inb numel1_S1 pfN i a + 1) * S1024x1024.size a ≤ S16384x6144.size a := by decide +kernel
theorem inb_6 : ∀ i : grid0.Coords, ∀ a, (cc0_transform_6 k0_off1_inb numel1_S1 pfN i a + 1) * S1024x1024.size a ≤ S16384x1024.size a := by decide +kernel

/-- Every block lies inside its array. -/
theorem ok_pfN : ok0 (F := Ideal) pfN :=
  ⟨fun i => ⟨inb_0 i, .inr (Affine.block_words_dvd (by decide) (by decide))⟩,
   fun i => ⟨inb_1 i, .inr (Affine.block_words_dvd (by decide) (by decide))⟩,
   fun i => ⟨inb_2 i, .inr (Affine.block_words_dvd (by decide) (by decide))⟩,
   fun i => ⟨inb_3 i, .inl rfl⟩,
   fun i => ⟨inb_6 i, .inr (Affine.block_words_dvd (by decide) (by decide))⟩⟩

/-- The pipeline at the tables. -/
def adm : (pcfg0 (F := Ideal)).Adm := ⟨pfN, ok_pfN⟩
abbrev cfgA : Pipeline.Cfg sig Λ₀ := cfg0 (F := Ideal) adm
abbrev pcs : Fin 1 → Pipeline.Cfg sig Λ₀ := Pipeline.pin (pcfgs (F := Ideal)) fun _ => adm

variable (m : (ℓ : Loc nD τ sig) → Buf (Elt Ideal) ℓ)

/-- The coordinates of a point. -/
abbrev crd (t : Fin cfgA.N) : cfgA.grid.Coords := cfgA.grid.coords t

abbrev ms0 (t : Fin cfgA.N) : Memref sig .tc .vmem S1024x1024 .bf16 := spec0_0.stage (cfgA.slots t (0 : Fin 7))
abbrev hs0 (t : Fin cfgA.N) : (ms0 t).IsWhole := hstage0_0 ((cfgA.slots t (0 : Fin 7)).cast nbuf0_0)
abbrev ms1 (t : Fin cfgA.N) : Memref sig .tc .vmem S1024x1024 .bf16 := spec0_1.stage (cfgA.slots t (1 : Fin 7))
abbrev hs1 (t : Fin cfgA.N) : (ms1 t).IsWhole := hstage0_1 ((cfgA.slots t (1 : Fin 7)).cast nbuf0_1)
abbrev ms2 (t : Fin cfgA.N) : Memref sig .tc .vmem S1024x1024 .bf16 := spec0_2.stage (cfgA.slots t (2 : Fin 7))
abbrev hs2 (t : Fin cfgA.N) : (ms2 t).IsWhole := hstage0_2 ((cfgA.slots t (2 : Fin 7)).cast nbuf0_2)
abbrev ms3 (t : Fin cfgA.N) : Memref sig .tc .vmem S1024x1024 .f32 := spec0_3.stage (cfgA.slots t (3 : Fin 7))
abbrev hs3 (t : Fin cfgA.N) : (ms3 t).IsWhole := hstage0_3 ((cfgA.slots t (3 : Fin 7)).cast nbuf0_3)
abbrev ms4 (t : Fin cfgA.N) : Memref sig .tc .vmem S4x64 .f32 := spec0_4.stage (cfgA.slots t (4 : Fin 7))
abbrev hs4 (t : Fin cfgA.N) : (ms4 t).IsWhole := hstage0_4 ((cfgA.slots t (4 : Fin 7)).cast nbuf0_4)
abbrev ms5 (t : Fin cfgA.N) : Memref sig .tc .vmem S1x128 .f32 := spec0_5.stage (cfgA.slots t (5 : Fin 7))
abbrev hs5 (t : Fin cfgA.N) : (ms5 t).IsWhole := hstage0_5 ((cfgA.slots t (5 : Fin 7)).cast nbuf0_5)
abbrev ms6 (t : Fin cfgA.N) : Memref sig .tc .vmem S1024x1024 .bf16 := spec0_6.stage (cfgA.slots t (6 : Fin 7))
abbrev hs6 (t : Fin cfgA.N) : (ms6 t).IsWhole := hstage0_6 ((cfgA.slots t (6 : Fin 7)).cast nbuf0_6)

/-- What the arrays hold when the call begins: the tables written, the weight of the norm reshaped. -/
def Vat (c : Dev nD) (b : Ref sig .tc) : Buf (Elt Ideal) ((c : Thread nD τ).loc b) :=
  StableHlo.after (hostOps0 (F := Ideal)) (fun b => m (c, b)) b

/-- The block of window `w` at point `t`. -/
def iblk (c : Dev nD) (w : Fin cfgA.W) (t : Fin cfgA.N) : ((cfgA.win w).xblock (crd t)).Idx → Elt Ideal (cfgA.win w).elt :=
  ((cfgA.win w).blk t).view.read (Elt Ideal) (Vat m c (Pipeline.arrRef spec0 w))

/-- Whether point `t` is the first of its query block. -/
abbrev P0 (t : Fin cfgA.N) : Prop := (Scalar.cmpi .ne (Scalar.extui (Scalar.cmpi .eq (View.readAt (Elt Ideal) (tbM1).view (Rect.unit (s := S36) (k0_off1 (crd t)) S1.size (k0_off1_inb (crd t))).toLoadRect tab1 (Shape.Idx.first (numel1_S1.symm ▸ Nat.one_pos))) 0#32)) 0#32) = 1#1
/-- Whether the key block of point `t` lies below the diagonal. -/
abbrev P1 (t : Fin cfgA.N) : Prop := (Scalar.cmpi .ne (Scalar.extui (Scalar.cmpi .slt (View.readAt (Elt Ideal) (tbM1).view (Rect.unit (s := S36) (k0_off1 (crd t)) S1.size (k0_off1_inb (crd t))).toLoadRect tab1 (Shape.Idx.first (numel1_S1.symm ▸ Nat.one_pos))) (View.readAt (Elt Ideal) (tbM0).view (Rect.unit (s := S36) (k0_off1 (crd t)) S1.size (k0_off1_inb (crd t))).toLoadRect tab0 (Shape.Idx.first (numel1_S1.symm ▸ Nat.one_pos))))) 0#32) = 1#1
/-- The kernel's own test for the last key block of a query block. -/
abbrev P3 (t : Fin cfgA.N) : Prop := k0_cond3 (View.readAt (Elt Ideal) (tbM0).view (Rect.unit (s := S36) (k0_off1 (crd t)) S1.size (k0_off1_inb (crd t))).toLoadRect tab0 (Shape.Idx.first (numel1_S1.symm ▸ Nat.one_pos))) (View.readAt (Elt Ideal) (tbM1).view (Rect.unit (s := S36) (k0_off1 (crd t)) S1.size (k0_off1_inb (crd t))).toLoadRect tab1 (Shape.Idx.first (numel1_S1.symm ▸ Nat.one_pos))) = 1#1

/-- What is decided at each point. -/
abbrev FactsAt (t : Fin cfgA.N) : Prop :=
  (¬P1 t → P3 t ∧ cfgA.idle (6 : Fin 7) (cfgA.grid.coords t) = false ∧ (cfgA.win (6 : Fin 7)).flush t = true)
  ∧ (P1 t → ¬P3 t ∧ cfgA.idle (6 : Fin 7) (cfgA.grid.coords t) = true ∧ (cfgA.win (6 : Fin 7)).flush t = false)
  ∧ (¬P0 t → t.val ≠ 0)

theorem facts_0 : ∀ t : Fin cfgA.N, 0 ≤ t.val → t.val < 9 → FactsAt t := by decide +kernel
theorem facts_1 : ∀ t : Fin cfgA.N, 9 ≤ t.val → t.val < 18 → FactsAt t := by decide +kernel
theorem facts_2 : ∀ t : Fin cfgA.N, 18 ≤ t.val → t.val < 27 → FactsAt t := by decide +kernel
theorem facts_3 : ∀ t : Fin cfgA.N, 27 ≤ t.val → t.val < 36 → FactsAt t := by decide +kernel
theorem facts_4 : ∀ t : Fin cfgA.N, 36 ≤ t.val → t.val < 45 → FactsAt t := by decide +kernel
theorem facts_5 : ∀ t : Fin cfgA.N, 45 ≤ t.val → t.val < 54 → FactsAt t := by decide +kernel
theorem facts_6 : ∀ t : Fin cfgA.N, 54 ≤ t.val → t.val < 63 → FactsAt t := by decide +kernel
theorem facts_7 : ∀ t : Fin cfgA.N, 63 ≤ t.val → t.val < 72 → FactsAt t := by decide +kernel
theorem allFacts : ∀ t : Fin cfgA.N, FactsAt t := fun t => by
  have h0 : 0 ≤ t.val := Nat.zero_le _
  rcases Nat.lt_or_ge t.val 9 with h1 | h1; · exact facts_0 t h0 h1
  rcases Nat.lt_or_ge t.val 18 with h2 | h2; · exact facts_1 t h1 h2
  rcases Nat.lt_or_ge t.val 27 with h3 | h3; · exact facts_2 t h2 h3
  rcases Nat.lt_or_ge t.val 36 with h4 | h4; · exact facts_3 t h3 h4
  rcases Nat.lt_or_ge t.val 45 with h5 | h5; · exact facts_4 t h4 h5
  rcases Nat.lt_or_ge t.val 54 with h6 | h6; · exact facts_5 t h5 h6
  rcases Nat.lt_or_ge t.val 63 with h7 | h7; · exact facts_6 t h6 h7
  exact facts_7 t h7 t.isLt

/-- Before every point the result's buffer holds nothing that is still to be written back. -/
theorem fresh6 (t : Fin cfgA.N) : cfgA.fresh (6 : Fin 7) t.val = true :=
  Pipeline.Cfg.fresh_tab cfgA (6 : Fin 7) (fun _ => true) rfl (fun t => by
    by_cases h : P1 t
    · rw [((allFacts t).2.1 h).2.1, ((allFacts t).2.1 h).2.2]; rfl
    · rw [((allFacts t).1 h).2.1, ((allFacts t).1 h).2.2]; rfl) t.val (Nat.le_of_lt t.isLt)

end Cert.KernelIdeal.Attn

end
-- ==== Proof.Attn.KernelIdeal.Runs.lean ====
/-
What the body of the attention call does at a point, for each of its four courses: with or without starting the
running values afresh, on the diagonal (and then writing the result) or below it.
-/
module

public import proofs.«01_k».proof.Proof.Attn.KernelIdeal.Sched

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the proof is about. -/
local notation "𝕄" => MT nD τ sig Unit (Elt Ideal) ℕ (UR sig nD τ) ℕ

/-- The head a column of the result block belongs to. -/
def hd (y : S1024x1024.Idx) : Fin k0_t2_loop.trips :=
  ⟨(y 1).val / 128, by have h : (y 1).val < 1024 := (y 1).isLt; rw [show k0_t2_loop.trips = 8 from by decide]; omega⟩

theorem hd_mem (y : S1024x1024.Idx) : ∀ a, k0_off9 (hd y) a ≤ (y a).val ∧ (y a).val < k0_off9 (hd y) a + S1024x128.size a := by
  rw [k0_off9_eq]
  have h0 : (y 0).val < 1024 := (y 0).isLt
  have h1 : (hd y).val = (y 1).val / 128 := rfl
  intro a
  match a with
  | ⟨0, _⟩ => exact ⟨Nat.zero_le _, by show (y 0).val < 0 + 1024; omega⟩
  | ⟨1, _⟩ => exact ⟨by show 128 * (hd y).val ≤ (y 1).val; omega, by show (y 1).val < 128 * (hd y).val + 128; omega⟩

section
variable {F : FTy → Type} [FloatOps F] [Named F]

/-- The result block a point on the diagonal writes, head by head. -/
def outFin (q kk v : Vec F S1024x1024 .bf16) (pj : Vec F S1024x1024 .f32) (lam : Vec F S4x64 .f32) (sg : Vec F S1x128 .f32) (s : St F) :
    Vec F S1024x1024 .bf16 := fun y =>
  finish pj lam sg (hd y) (runM q kk v s ((hd y).val + 1))
    (Rect.unitLocal (s := S1024x1024) (off := k0_off9 (hd y)) (size := S1024x128.size) y (hd_mem y))

theorem outM_apply (q kk v : Vec F S1024x1024 .bf16) (pj : Vec F S1024x1024 .f32) (lam : Vec F S4x64 .f32) (sg : Vec F S1x128 .f32) (s : St F)
    (o : Vec F S1024x1024 .bf16) (n : ℕ) (hn : n ≤ k0_t2_loop.trips) (y : S1024x1024.Idx) :
    outM q kk v pj lam sg s o n y = if (hd y).val < n then outFin q kk v pj lam sg s y else o y := by
  induction n with
  | zero => rfl
  | succ n ih =>
    have h : n < k0_t2_loop.trips := hn
    rw [outM, dif_pos h]
    by_cases e : (hd y).val = n
    · have e' : (⟨n, h⟩ : Fin k0_t2_loop.trips) = hd y := Fin.ext e.symm
      rw [if_pos (by omega), e', show n = (hd y).val from e.symm]
      exact dif_pos (hd_mem y)
    · have hno : ¬ ∀ a, k0_off9 ⟨n, h⟩ a ≤ (y a).val ∧ (y a).val < k0_off9 ⟨n, h⟩ a + S1024x128.size a := fun hall => by
        have := hall 1
        rw [k0_off9_eq] at this
        have h1 : (hd y).val = (y 1).val / 128 := rfl
        have ha : 128 * n ≤ (y 1).val := this.1
        have hb : (y 1).val < 128 * n + 128 := this.2
        omega
      refine (dif_neg hno).trans ?_
      rw [ih (by omega)]
      by_cases hlt : (hd y).val < n
      · rw [if_pos hlt, if_pos (by omega)]
      · rw [if_neg hlt, if_neg (by omega)]

/-- All eight heads written, nothing is left of what the block held before. -/
theorem outM_all (q kk v : Vec F S1024x1024 .bf16) (pj : Vec F S1024x1024 .f32) (lam : Vec F S4x64 .f32) (sg : Vec F S1x128 .f32) (s : St F)
    (o : Vec F S1024x1024 .bf16) : outM q kk v pj lam sg s o k0_t2_loop.trips = outFin q kk v pj lam sg s :=
  funext fun y => by rw [outM_apply _ _ _ _ _ _ _ _ _ (Nat.le_refl _), if_pos (hd y).isLt]
end

set_option backward.proofsInPublic true in
set_option maxHeartbeats 8000000 in
/-- The first point of a query block, on the diagonal. -/
theorem runA (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x1024 .bf16) (harg10 : arg10.IsWhole)
    (T0 T1 : S36.Idx → Elt Ideal .i32) (x0 : Vec Ideal S1024x1024 .bf16) (x1 : Vec Ideal S1024x1024 .bf16) (x2 : Vec Ideal S1024x1024 .bf16) (x3 : Vec Ideal S1024x1024 .f32) (x4 : Vec Ideal S4x64 .f32) (x5 : Vec Ideal S1x128 .f32)
    (hc0 : ((Scalar.cmpi .ne (Scalar.extui (Scalar.cmpi .eq (View.readAt (Elt Ideal) (tbM1).view (Rect.unit (s := S36) (k0_off1 i) S1.size (k0_off1_inb i)).toLoadRect T1 (Shape.Idx.first (numel1_S1.symm ▸ Nat.one_pos))) 0#32)) 0#32) = 1#1))
    (hc1 : ¬((Scalar.cmpi .ne (Scalar.extui (Scalar.cmpi .slt (View.readAt (Elt Ideal) (tbM1).view (Rect.unit (s := S36) (k0_off1 i) S1.size (k0_off1_inb i)).toLoadRect T1 (Shape.Idx.first (numel1_S1.symm ▸ Nat.one_pos))) (View.readAt (Elt Ideal) (tbM0).view (Rect.unit (s := S36) (k0_off1 i) S1.size (k0_off1_inb i)).toLoadRect T0 (Shape.Idx.first (numel1_S1.symm ▸ Nat.one_pos))))) 0#32) = 1#1))
    (k0_h3 : (k0_cond3 (View.readAt (Elt Ideal) (tbM0).view (Rect.unit (s := S36) (k0_off1 i) S1.size (k0_off1_inb i)).toLoadRect T0 (Shape.Idx.first (numel1_S1.symm ▸ Nat.one_pos))) (View.readAt (Elt Ideal) (tbM1).view (Rect.unit (s := S36) (k0_off1 i) S1.size (k0_off1_inb i)).toLoadRect T1 (Shape.Idx.first (numel1_S1.symm ▸ Nat.one_pos))) = 1#1))
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (arg8.view.loc (c : Thread nD τ) ↦[arg8.view.set]{fullShare} arg8.view.rep x4)
      ∗ (arg9.view.loc (c : Thread nD τ) ↦[arg9.view.set]{fullShare} arg9.view.rep x5)
      ∗ (tbM0.view.loc (c : Thread nD τ) ↦{fullShare.right} T0) ∗ (tbM1.view.loc (c : Thread nD τ) ↦{fullShare.right} T1)
      ∗ (∃ d, owns (c : Thread nD τ) arg10 fullShare d)
      ∗ (scM0.view.loc (c : Thread nD τ) ↦[scM0.view.set]{fullShare} xa0) ∗ (scM1.view.loc (c : Thread nD τ) ↦[scM1.view.set]{fullShare} xa1) ∗ (scM2.view.loc (c : Thread nD τ) ↦[scM2.view.set]{fullShare} xa2)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0.view.loc (c : Thread nD τ) ↦{fullShare.right} T0) ∗ (tbM1.view.loc (c : Thread nD τ) ↦{fullShare.right} T1)
          ∗ owns (c : Thread nD τ) arg10 fullShare (outFin x0 x1 x2 x3 x4 x5 St.init)
          ∗ (∃ f0 f1 f2, ⌜(⟨scM0.view.read (Elt Ideal) f0, scM1.view.read (Elt Ideal) f1, scM2.view.read (Elt Ideal) f2⟩ : St Ideal) = runM x0 x1 x2 St.init k0_t2_loop.trips⌝
            ∗ (scM0.view.loc (c : Thread nD τ) ↦[scM0.view.set]{fullShare} f0) ∗ (scM1.view.loc (c : Thread nD τ) ↦[scM1.view.set]{fullShare} f1) ∗ (scM2.view.loc (c : Thread nD τ) ↦[scM2.view.set]{fullShare} f2))) -∗ K ⟨⟩))
      ⊢ wp frame (wpE (defs₀ (F := Ideal)) Variants.none c none) Set.univ (cc0_diff_attn_prompt i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _)) K := by
  unfold owns
  rw [cc0_diff_attn_prompt_eq_skeleton]; unfold cc0_diff_attn_prompt_skel
  iintro ⟨H0, H1, H2, H3, H4, H5, HT0, HT1, ⟨%d6, %f6, -, HO6⟩, HS0, HS1, HS2, Hk⟩
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = Scalar.cmpi = _; exact hc0) | (guard_target = ¬(Scalar.cmpi = _); exact hc1) | (guard_target = k0_cond3 _ _ = _; exact k0_h3))
  have e0 : scM0.view.read (Elt Ideal) (scM0.view.writes (Elt Ideal) scM0.view.junk runA.sl.HS0_1) = k0_pay1 (F := Ideal) := by
    delta runA.sl.HS0_1
    exact View.read_writes_full _ _ _ _ _
  have e1 : scM1.view.read (Elt Ideal) (scM1.view.writes (Elt Ideal) scM1.view.junk runA.sl.HS1_1) = k0_pay2 (F := Ideal) := by
    delta runA.sl.HS1_1
    exact View.read_writes_full _ _ _ _ _
  have e2 : scM2.view.read (Elt Ideal) (scM2.view.writes (Elt Ideal) scM2.view.junk runA.sl.HS2_1) = k0_pay3 (F := Ideal) := by
    delta runA.sl.HS2_1
    exact View.read_writes_full _ _ _ _ _
  have key := read_t2 (F := Ideal) Variants.none c none i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _) (X_arg4 := arg4.view.rep x0) (X_arg5 := arg5.view.rep x1) (X_arg6 := arg6.view.rep x2)
    (arg7.view.rep x3) (arg8.view.rep x4) (arg9.view.rep x5) f6 (scM0.view.writes (Elt Ideal) scM0.view.junk runA.sl.HS0_1) (scM1.view.writes (Elt Ideal) scM1.view.junk runA.sl.HS1_1) (scM2.view.writes (Elt Ideal) scM2.view.junk runA.sl.HS2_1) _ (Nat.le_refl _)
  simp only [View.read_rep, e0, e1, e2] at key
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _; isplitr; swap
    · iexact HO6
    · ipureintro; exact key.2.trans (outM_all ..)
  iexists _, _, _; isplitr; swap
  · isplitl [HS0]; · iexact HS0
    isplitl [HS1]; · iexact HS1
    iexact HS2
  · ipureintro; simp only [View.writes_append]; exact key.1

set_option backward.proofsInPublic true in
set_option maxHeartbeats 8000000 in
/-- The first point of a query block, below the diagonal. -/
theorem runB (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x1024 .bf16) (harg10 : arg10.IsWhole)
    (T0 T1 : S36.Idx → Elt Ideal .i32) (x0 : Vec Ideal S1024x1024 .bf16) (x1 : Vec Ideal S1024x1024 .bf16) (x2 : Vec Ideal S1024x1024 .bf16) (x3 : Vec Ideal S1024x1024 .f32) (x4 : Vec Ideal S4x64 .f32) (x5 : Vec Ideal S1x128 .f32)
    (hc0 : ((Scalar.cmpi .ne (Scalar.extui (Scalar.cmpi .eq (View.readAt (Elt Ideal) (tbM1).view (Rect.unit (s := S36) (k0_off1 i) S1.size (k0_off1_inb i)).toLoadRect T1 (Shape.Idx.first (numel1_S1.symm ▸ Nat.one_pos))) 0#32)) 0#32) = 1#1))
    (hc1 : ((Scalar.cmpi .ne (Scalar.extui (Scalar.cmpi .slt (View.readAt (Elt Ideal) (tbM1).view (Rect.unit (s := S36) (k0_off1 i) S1.size (k0_off1_inb i)).toLoadRect T1 (Shape.Idx.first (numel1_S1.symm ▸ Nat.one_pos))) (View.readAt (Elt Ideal) (tbM0).view (Rect.unit (s := S36) (k0_off1 i) S1.size (k0_off1_inb i)).toLoadRect T0 (Shape.Idx.first (numel1_S1.symm ▸ Nat.one_pos))))) 0#32) = 1#1))
    (k0_h3 : ¬(k0_cond3 (View.readAt (Elt Ideal) (tbM0).view (Rect.unit (s := S36) (k0_off1 i) S1.size (k0_off1_inb i)).toLoadRect T0 (Shape.Idx.first (numel1_S1.symm ▸ Nat.one_pos))) (View.readAt (Elt Ideal) (tbM1).view (Rect.unit (s := S36) (k0_off1 i) S1.size (k0_off1_inb i)).toLoadRect T1 (Shape.Idx.first (numel1_S1.symm ▸ Nat.one_pos))) = 1#1))
    (y6 : Vec Ideal S1024x1024 .bf16) (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (arg8.view.loc (c : Thread nD τ) ↦[arg8.view.set]{fullShare} arg8.view.rep x4)
      ∗ (arg9.view.loc (c : Thread nD τ) ↦[arg9.view.set]{fullShare} arg9.view.rep x5)
      ∗ (tbM0.view.loc (c : Thread nD τ) ↦{fullShare.right} T0) ∗ (tbM1.view.loc (c : Thread nD τ) ↦{fullShare.right} T1)
      ∗ owns (c : Thread nD τ) arg10 fullShare y6
      ∗ (scM0.view.loc (c : Thread nD τ) ↦[scM0.view.set]{fullShare} xa0) ∗ (scM1.view.loc (c : Thread nD τ) ↦[scM1.view.set]{fullShare} xa1) ∗ (scM2.view.loc (c : Thread nD τ) ↦[scM2.view.set]{fullShare} xa2)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0.view.loc (c : Thread nD τ) ↦{fullShare.right} T0) ∗ (tbM1.view.loc (c : Thread nD τ) ↦{fullShare.right} T1)
          ∗ owns (c : Thread nD τ) arg10 fullShare y6
          ∗ (∃ f0 f1 f2, ⌜(⟨scM0.view.read (Elt Ideal) f0, scM1.view.read (Elt Ideal) f1, scM2.view.read (Elt Ideal) f2⟩ : St Ideal) = runU x0 x1 x2 St.init k0_t1_loop.trips⌝
            ∗ (scM0.view.loc (c : Thread nD τ) ↦[scM0.view.set]{fullShare} f0) ∗ (scM1.view.loc (c : Thread nD τ) ↦[scM1.view.set]{fullShare} f1) ∗ (scM2.view.loc (c : Thread nD τ) ↦[scM2.view.set]{fullShare} f2))) -∗ K ⟨⟩))
      ⊢ wp frame (wpE (defs₀ (F := Ideal)) Variants.none c none) Set.univ (cc0_diff_attn_prompt i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _)) K := by
  unfold owns
  rw [cc0_diff_attn_prompt_eq_skeleton]; unfold cc0_diff_attn_prompt_skel
  iintro ⟨H0, H1, H2, H3, H4, H5, HT0, HT1, ⟨%f6, %hf6, HO6⟩, HS0, HS1, HS2, Hk⟩
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = Scalar.cmpi = _; exact hc0) | (guard_target = Scalar.cmpi = _; exact hc1) | (guard_target = ¬(k0_cond3 _ _ = _); exact k0_h3))
  have e0 : scM0.view.read (Elt Ideal) (scM0.view.writes (Elt Ideal) scM0.view.junk runB.sl.HS0_1) = k0_pay1 (F := Ideal) := by
    delta runB.sl.HS0_1
    exact View.read_writes_full _ _ _ _ _
  have e1 : scM1.view.read (Elt Ideal) (scM1.view.writes (Elt Ideal) scM1.view.junk runB.sl.HS1_1) = k0_pay2 (F := Ideal) := by
    delta runB.sl.HS1_1
    exact View.read_writes_full _ _ _ _ _
  have e2 : scM2.view.read (Elt Ideal) (scM2.view.writes (Elt Ideal) scM2.view.junk runB.sl.HS2_1) = k0_pay3 (F := Ideal) := by
    delta runB.sl.HS2_1
    exact View.read_writes_full _ _ _ _ _
  have key := read_t1 (F := Ideal) Variants.none c none i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _) (X_arg4 := arg4.view.rep x0) (X_arg5 := arg5.view.rep x1) (X_arg6 := arg6.view.rep x2)
    (scM0.view.writes (Elt Ideal) scM0.view.junk runB.sl.HS0_1) (scM1.view.writes (Elt Ideal) scM1.view.junk runB.sl.HS1_1) (scM2.view.writes (Elt Ideal) scM2.view.junk runB.sl.HS2_1) _ (Nat.le_refl _)
  simp only [View.read_rep, e0, e1, e2] at key
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _; isplitr; swap
    · iexact HO6
    · ipureintro; exact hf6
  iexists _, _, _; isplitr; swap
  · isplitl [HS0]; · iexact HS0
    isplitl [HS1]; · iexact HS1
    iexact HS2
  · ipureintro; simp only [View.writes_append]; exact key

set_option backward.proofsInPublic true in
set_option maxHeartbeats 8000000 in
/-- A later point of a query block, on the diagonal. -/
theorem runC (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x1024 .bf16) (harg10 : arg10.IsWhole)
    (T0 T1 : S36.Idx → Elt Ideal .i32) (x0 : Vec Ideal S1024x1024 .bf16) (x1 : Vec Ideal S1024x1024 .bf16) (x2 : Vec Ideal S1024x1024 .bf16) (x3 : Vec Ideal S1024x1024 .f32) (x4 : Vec Ideal S4x64 .f32) (x5 : Vec Ideal S1x128 .f32)
    (hc0 : ¬((Scalar.cmpi .ne (Scalar.extui (Scalar.cmpi .eq (View.readAt (Elt Ideal) (tbM1).view (Rect.unit (s := S36) (k0_off1 i) S1.size (k0_off1_inb i)).toLoadRect T1 (Shape.Idx.first (numel1_S1.symm ▸ Nat.one_pos))) 0#32)) 0#32) = 1#1))
    (hc1 : ¬((Scalar.cmpi .ne (Scalar.extui (Scalar.cmpi .slt (View.readAt (Elt Ideal) (tbM1).view (Rect.unit (s := S36) (k0_off1 i) S1.size (k0_off1_inb i)).toLoadRect T1 (Shape.Idx.first (numel1_S1.symm ▸ Nat.one_pos))) (View.readAt (Elt Ideal) (tbM0).view (Rect.unit (s := S36) (k0_off1 i) S1.size (k0_off1_inb i)).toLoadRect T0 (Shape.Idx.first (numel1_S1.symm ▸ Nat.one_pos))))) 0#32) = 1#1))
    (k0_h3 : (k0_cond3 (View.readAt (Elt Ideal) (tbM0).view (Rect.unit (s := S36) (k0_off1 i) S1.size (k0_off1_inb i)).toLoadRect T0 (Shape.Idx.first (numel1_S1.symm ▸ Nat.one_pos))) (View.readAt (Elt Ideal) (tbM1).view (Rect.unit (s := S36) (k0_off1 i) S1.size (k0_off1_inb i)).toLoadRect T1 (Shape.Idx.first (numel1_S1.symm ▸ Nat.one_pos))) = 1#1))
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (arg8.view.loc (c : Thread nD τ) ↦[arg8.view.set]{fullShare} arg8.view.rep x4)
      ∗ (arg9.view.loc (c : Thread nD τ) ↦[arg9.view.set]{fullShare} arg9.view.rep x5)
      ∗ (tbM0.view.loc (c : Thread nD τ) ↦{fullShare.right} T0) ∗ (tbM1.view.loc (c : Thread nD τ) ↦{fullShare.right} T1)
      ∗ (∃ d, owns (c : Thread nD τ) arg10 fullShare d)
      ∗ (scM0.view.loc (c : Thread nD τ) ↦[scM0.view.set]{fullShare} xa0) ∗ (scM1.view.loc (c : Thread nD τ) ↦[scM1.view.set]{fullShare} xa1) ∗ (scM2.view.loc (c : Thread nD τ) ↦[scM2.view.set]{fullShare} xa2)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0.view.loc (c : Thread nD τ) ↦{fullShare.right} T0) ∗ (tbM1.view.loc (c : Thread nD τ) ↦{fullShare.right} T1)
          ∗ owns (c : Thread nD τ) arg10 fullShare (outFin x0 x1 x2 x3 x4 x5 ⟨scM0.view.read (Elt Ideal) xa0, scM1.view.read (Elt Ideal) xa1, scM2.view.read (Elt Ideal) xa2⟩)
          ∗ (∃ f0 f1 f2, ⌜(⟨scM0.view.read (Elt Ideal) f0, scM1.view.read (Elt Ideal) f1, scM2.view.read (Elt Ideal) f2⟩ : St Ideal) = runM x0 x1 x2 ⟨scM0.view.read (Elt Ideal) xa0, scM1.view.read (Elt Ideal) xa1, scM2.view.read (Elt Ideal) xa2⟩ k0_t2_loop.trips⌝
            ∗ (scM0.view.loc (c : Thread nD τ) ↦[scM0.view.set]{fullShare} f0) ∗ (scM1.view.loc (c : Thread nD τ) ↦[scM1.view.set]{fullShare} f1) ∗ (scM2.view.loc (c : Thread nD τ) ↦[scM2.view.set]{fullShare} f2))) -∗ K ⟨⟩))
      ⊢ wp frame (wpE (defs₀ (F := Ideal)) Variants.none c none) Set.univ (cc0_diff_attn_prompt i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _)) K := by
  unfold owns
  rw [cc0_diff_attn_prompt_eq_skeleton]; unfold cc0_diff_attn_prompt_skel
  iintro ⟨H0, H1, H2, H3, H4, H5, HT0, HT1, ⟨%d6, %f6, -, HO6⟩, HS0, HS1, HS2, Hk⟩
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = ¬(Scalar.cmpi = _); exact hc0) | (guard_target = ¬(Scalar.cmpi = _); exact hc1) | (guard_target = k0_cond3 _ _ = _; exact k0_h3))
  have key := read_t2 (F := Ideal) Variants.none c none i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _) (X_arg4 := arg4.view.rep x0) (X_arg5 := arg5.view.rep x1) (X_arg6 := arg6.view.rep x2)
    (arg7.view.rep x3) (arg8.view.rep x4) (arg9.view.rep x5) f6 xa0 xa1 xa2 _ (Nat.le_refl _)
  simp only [View.read_rep] at key
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _; isplitr; swap
    · iexact HO6
    · ipureintro; exact key.2.trans (outM_all ..)
  iexists _, _, _; isplitr; swap
  · isplitl [HS0]; · iexact HS0
    isplitl [HS1]; · iexact HS1
    iexact HS2
  · ipureintro; exact key.1

set_option backward.proofsInPublic true in
set_option maxHeartbeats 8000000 in
/-- A later point of a query block, below the diagonal. -/
theorem runD (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x1024 .bf16) (harg10 : arg10.IsWhole)
    (T0 T1 : S36.Idx → Elt Ideal .i32) (x0 : Vec Ideal S1024x1024 .bf16) (x1 : Vec Ideal S1024x1024 .bf16) (x2 : Vec Ideal S1024x1024 .bf16) (x3 : Vec Ideal S1024x1024 .f32) (x4 : Vec Ideal S4x64 .f32) (x5 : Vec Ideal S1x128 .f32)
    (hc0 : ¬((Scalar.cmpi .ne (Scalar.extui (Scalar.cmpi .eq (View.readAt (Elt Ideal) (tbM1).view (Rect.unit (s := S36) (k0_off1 i) S1.size (k0_off1_inb i)).toLoadRect T1 (Shape.Idx.first (numel1_S1.symm ▸ Nat.one_pos))) 0#32)) 0#32) = 1#1))
    (hc1 : ((Scalar.cmpi .ne (Scalar.extui (Scalar.cmpi .slt (View.readAt (Elt Ideal) (tbM1).view (Rect.unit (s := S36) (k0_off1 i) S1.size (k0_off1_inb i)).toLoadRect T1 (Shape.Idx.first (numel1_S1.symm ▸ Nat.one_pos))) (View.readAt (Elt Ideal) (tbM0).view (Rect.unit (s := S36) (k0_off1 i) S1.size (k0_off1_inb i)).toLoadRect T0 (Shape.Idx.first (numel1_S1.symm ▸ Nat.one_pos))))) 0#32) = 1#1))
    (k0_h3 : ¬(k0_cond3 (View.readAt (Elt Ideal) (tbM0).view (Rect.unit (s := S36) (k0_off1 i) S1.size (k0_off1_inb i)).toLoadRect T0 (Shape.Idx.first (numel1_S1.symm ▸ Nat.one_pos))) (View.readAt (Elt Ideal) (tbM1).view (Rect.unit (s := S36) (k0_off1 i) S1.size (k0_off1_inb i)).toLoadRect T1 (Shape.Idx.first (numel1_S1.symm ▸ Nat.one_pos))) = 1#1))
    (y6 : Vec Ideal S1024x1024 .bf16) (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (arg8.view.loc (c : Thread nD τ) ↦[arg8.view.set]{fullShare} arg8.view.rep x4)
      ∗ (arg9.view.loc (c : Thread nD τ) ↦[arg9.view.set]{fullShare} arg9.view.rep x5)
      ∗ (tbM0.view.loc (c : Thread nD τ) ↦{fullShare.right} T0) ∗ (tbM1.view.loc (c : Thread nD τ) ↦{fullShare.right} T1)
      ∗ owns (c : Thread nD τ) arg10 fullShare y6
      ∗ (scM0.view.loc (c : Thread nD τ) ↦[scM0.view.set]{fullShare} xa0) ∗ (scM1.view.loc (c : Thread nD τ) ↦[scM1.view.set]{fullShare} xa1) ∗ (scM2.view.loc (c : Thread nD τ) ↦[scM2.view.set]{fullShare} xa2)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0.view.loc (c : Thread nD τ) ↦{fullShare.right} T0) ∗ (tbM1.view.loc (c : Thread nD τ) ↦{fullShare.right} T1)
          ∗ owns (c : Thread nD τ) arg10 fullShare y6
          ∗ (∃ f0 f1 f2, ⌜(⟨scM0.view.read (Elt Ideal) f0, scM1.view.read (Elt Ideal) f1, scM2.view.read (Elt Ideal) f2⟩ : St Ideal) = runU x0 x1 x2 ⟨scM0.view.read (Elt Ideal) xa0, scM1.view.read (Elt Ideal) xa1, scM2.view.read (Elt Ideal) xa2⟩ k0_t1_loop.trips⌝
            ∗ (scM0.view.loc (c : Thread nD τ) ↦[scM0.view.set]{fullShare} f0) ∗ (scM1.view.loc (c : Thread nD τ) ↦[scM1.view.set]{fullShare} f1) ∗ (scM2.view.loc (c : Thread nD τ) ↦[scM2.view.set]{fullShare} f2))) -∗ K ⟨⟩))
      ⊢ wp frame (wpE (defs₀ (F := Ideal)) Variants.none c none) Set.univ (cc0_diff_attn_prompt i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _)) K := by
  unfold owns
  rw [cc0_diff_attn_prompt_eq_skeleton]; unfold cc0_diff_attn_prompt_skel
  iintro ⟨H0, H1, H2, H3, H4, H5, HT0, HT1, ⟨%f6, %hf6, HO6⟩, HS0, HS1, HS2, Hk⟩
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = ¬(Scalar.cmpi = _); exact hc0) | (guard_target = Scalar.cmpi = _; exact hc1) | (guard_target = ¬(k0_cond3 _ _ = _); exact k0_h3))
  have key := read_t1 (F := Ideal) Variants.none c none i tbM0 (Memref.isWhole_whole _) tbM1 (Memref.isWhole_whole _) arg4 harg4 arg5 harg5 arg6 harg6 arg7 harg7 arg8 harg8 arg9 harg9 arg10 harg10 scM0 (Memref.isWhole_whole _) scM1 (Memref.isWhole_whole _) scM2 (Memref.isWhole_whole _) (X_arg4 := arg4.view.rep x0) (X_arg5 := arg5.view.rep x1) (X_arg6 := arg6.view.rep x2)
    xa0 xa1 xa2 _ (Nat.le_refl _)
  simp only [View.read_rep] at key
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _; isplitr; swap
    · iexact HO6
    · ipureintro; exact hf6
  iexists _, _, _; isplitr; swap
  · isplitl [HS0]; · iexact HS0
    isplitl [HS1]; · iexact HS1
    iexact HS2
  · ipureintro; exact key

end Cert.KernelIdeal.Attn

end
-- ==== Proof.Attn.KernelIdeal.Frame.lean ====
/-
The attention call as a whole: the running values from point to point, the obligation of its body at every point, and
the launch.
-/
module

public import proofs.«01_k».proof.Proof.Attn.KernelIdeal.Runs

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the proof is about. -/
local notation "𝕄" => MT nD τ sig Unit (Elt Ideal) ℕ (UR sig nD τ) ℕ

/-- The pipeline library's own resources among them. -/
abbrev EP : Emb (UR sig nD τ) 𝕄 := emb₁

variable (m : (ℓ : Loc nD τ sig) → Buf (Elt Ideal) ℓ)

/-- What the running values are when the eight heads of point `t` begin: fresh at the first point of a query block. -/
def startP (t : Fin cfgA.N) (s : St Ideal) : St Ideal := if P0 t then St.init else s

/-- What they are after the eight heads. -/
def stepP (c : Dev nD) (t : Fin cfgA.N) (s : St Ideal) : St Ideal :=
  if P1 t then runU (iblk m c (0 : Fin 7) t) (iblk m c (1 : Fin 7) t) (iblk m c (2 : Fin 7) t) s k0_t1_loop.trips
  else runM (iblk m c (0 : Fin 7) t) (iblk m c (1 : Fin 7) t) (iblk m c (2 : Fin 7) t) s k0_t2_loop.trips

/-- The running values before the `n`-th point. -/
def trajN (c : Dev nD) : ℕ → St Ideal
  | 0 => St.init
  | n + 1 => if h : n < cfgA.N then stepP m c ⟨n, h⟩ (startP ⟨n, h⟩ (trajN c n)) else trajN c n

theorem trajN_succ (c : Dev nD) (t : Fin cfgA.N) : trajN m c (t.val + 1) = stepP m c t (startP t (trajN m c t.val)) := by
  rw [trajN, dif_pos t.isLt]

/-- The result block a point writes, if it writes one. -/
def outAt (c : Dev nD) (t : Fin cfgA.N) : Vec Ideal S1024x1024 .bf16 :=
  outFin (iblk m c (0 : Fin 7) t) (iblk m c (1 : Fin 7) t) (iblk m c (2 : Fin 7) t) (iblk m c (3 : Fin 7) t) (iblk m c (4 : Fin 7) t) (iblk m c (5 : Fin 7) t)
    (startP t (trajN m c t.val))

/-- What holds before each point: the scratches carry the running values, and the tables are at hand. -/
def Phi (c : Dev nD) (t : Fin (cfgA.N + 1)) : sProp 𝕄 :=
  iprop(∃ f0 f1 f2, ⌜t.val ≠ 0 → (⟨scM0.view.read (Elt Ideal) f0, scM1.view.read (Elt Ideal) f1, scM2.view.read (Elt Ideal) f2⟩ : St Ideal) = trajN m c t.val⌝
    ∗ (scM0.view.loc (c : Thread nD τ) ↦[scM0.view.set]{fullShare} f0) ∗ (scM1.view.loc (c : Thread nD τ) ↦[scM1.view.set]{fullShare} f1)
    ∗ (scM2.view.loc (c : Thread nD τ) ↦[scM2.view.set]{fullShare} f2)
    ∗ (tbM0.view.loc (c : Thread nD τ) ↦{fullShare.right} tab0) ∗ (tbM1.view.loc (c : Thread nD τ) ↦{fullShare.right} tab1))

/-- The contents of every window at every point. -/
def dats (_ : Fin 1) (c : Dev nD) : Dat τ (Elt Ideal) Unit ℕ (UR sig nD τ) ℕ cfgA c where
  A w := Vat m c (Pipeline.arrRef spec0 w)
  after w t := match w with
    | ⟨0, _⟩ => iblk m c (0 : Fin 7) t
    | ⟨1, _⟩ => iblk m c (1 : Fin 7) t
    | ⟨2, _⟩ => iblk m c (2 : Fin 7) t
    | ⟨3, _⟩ => iblk m c (3 : Fin 7) t
    | ⟨4, _⟩ => iblk m c (4 : Fin 7) t
    | ⟨5, _⟩ => iblk m c (5 : Fin 7) t
    | ⟨6, _⟩ => outAt m c t
  Φ t := Phi m c t
  q _ := fullShare
  owed _ := 0

theorem after_0 (c : Dev nD) (t : Fin cfgA.N) : (dats m 0 c).after (0 : Fin 7) t = iblk m c (0 : Fin 7) t := rfl
theorem after_1 (c : Dev nD) (t : Fin cfgA.N) : (dats m 0 c).after (1 : Fin 7) t = iblk m c (1 : Fin 7) t := rfl
theorem after_2 (c : Dev nD) (t : Fin cfgA.N) : (dats m 0 c).after (2 : Fin 7) t = iblk m c (2 : Fin 7) t := rfl
theorem after_3 (c : Dev nD) (t : Fin cfgA.N) : (dats m 0 c).after (3 : Fin 7) t = iblk m c (3 : Fin 7) t := rfl
theorem after_4 (c : Dev nD) (t : Fin cfgA.N) : (dats m 0 c).after (4 : Fin 7) t = iblk m c (4 : Fin 7) t := rfl
theorem after_5 (c : Dev nD) (t : Fin cfgA.N) : (dats m 0 c).after (5 : Fin 7) t = iblk m c (5 : Fin 7) t := rfl
theorem after_6 (c : Dev nD) (t : Fin cfgA.N) : (dats m 0 c).after (6 : Fin 7) t = outAt m c t := rfl
theorem before_0 (c : Dev nD) (t : Fin cfgA.N) (d) : (dats m 0 c).before (0 : Fin 7) t d = iblk m c (0 : Fin 7) t :=
  ((dats m 0 c).before_in_eq_fetched (0 : Fin 7) rfl (fun _ => rfl) (fun _ _ _ => rfl) (fun t => by rw [after_0]; unfold Dat.blockOf iblk; rfl) t d).trans
    (by unfold Dat.fetched Dat.blockOf iblk; rfl)
theorem before_1 (c : Dev nD) (t : Fin cfgA.N) (d) : (dats m 0 c).before (1 : Fin 7) t d = iblk m c (1 : Fin 7) t :=
  ((dats m 0 c).before_in_eq_fetched (1 : Fin 7) rfl (fun _ => rfl) (fun _ _ _ => rfl) (fun t => by rw [after_1]; unfold Dat.blockOf iblk; rfl) t d).trans
    (by unfold Dat.fetched Dat.blockOf iblk; rfl)
theorem before_2 (c : Dev nD) (t : Fin cfgA.N) (d) : (dats m 0 c).before (2 : Fin 7) t d = iblk m c (2 : Fin 7) t :=
  ((dats m 0 c).before_in_eq_fetched (2 : Fin 7) rfl (fun _ => rfl) (fun _ _ _ => rfl) (fun t => by rw [after_2]; unfold Dat.blockOf iblk; rfl) t d).trans
    (by unfold Dat.fetched Dat.blockOf iblk; rfl)
theorem before_3 (c : Dev nD) (t : Fin cfgA.N) (d) : (dats m 0 c).before (3 : Fin 7) t d = iblk m c (3 : Fin 7) t :=
  ((dats m 0 c).before_in_eq_fetched (3 : Fin 7) rfl (fun _ => rfl) (fun _ _ _ => rfl) (fun t => by rw [after_3]; unfold Dat.blockOf iblk; rfl) t d).trans
    (by unfold Dat.fetched Dat.blockOf iblk; rfl)
theorem before_4 (c : Dev nD) (t : Fin cfgA.N) (d) : (dats m 0 c).before (4 : Fin 7) t d = iblk m c (4 : Fin 7) t :=
  ((dats m 0 c).before_in_eq_fetched (4 : Fin 7) rfl (fun _ => rfl) (fun _ _ _ => rfl) (fun t => by rw [after_4]; unfold Dat.blockOf iblk; rfl) t d).trans
    (by unfold Dat.fetched Dat.blockOf iblk; rfl)
theorem before_5 (c : Dev nD) (t : Fin cfgA.N) (d) : (dats m 0 c).before (5 : Fin 7) t d = iblk m c (5 : Fin 7) t :=
  ((dats m 0 c).before_in_eq_fetched (5 : Fin 7) rfl (fun _ => rfl) (fun _ _ _ => rfl) (fun t => by rw [after_5]; unfold Dat.blockOf iblk; rfl) t d).trans
    (by unfold Dat.fetched Dat.blockOf iblk; rfl)
theorem before_6 (c : Dev nD) (t : Fin cfgA.N) (d) : (dats m 0 c).before (6 : Fin 7) t d = d := by
  rw [(dats m 0 c).before_out_traj (6 : Fin 7) rfl (fun _ _ => rfl)
    (fun t _ _ hf => absurd ((fresh6 t).symm.trans hf) (by decide)) t.val t rfl d]
  rw [if_pos (fresh6 t)]

/-- The body at a point, on its staging buffers. -/
abbrev bodyAt (t : Fin cfgA.N) : Prog (TpuEff nD τ sig (Elt Ideal) Λ₀ .tc) PUnit :=
  cc0_diff_attn_prompt (crd t) tbM0 (Memref.isWhole_whole _) tbM1 (Memref.isWhole_whole _) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _)

set_option maxHeartbeats 4000000 in
/-- The body does at every point what the contents say. -/
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before (0 : Fin 7) t d))
        ∗ (∃ d, owns (c : Thread nD τ) (ms1 t) fullShare ((dats m 0 c).before (1 : Fin 7) t d))
        ∗ (∃ d, owns (c : Thread nD τ) (ms2 t) fullShare ((dats m 0 c).before (2 : Fin 7) t d))
        ∗ (∃ d, owns (c : Thread nD τ) (ms3 t) fullShare ((dats m 0 c).before (3 : Fin 7) t d))
        ∗ (∃ d, owns (c : Thread nD τ) (ms4 t) fullShare ((dats m 0 c).before (4 : Fin 7) t d))
        ∗ (∃ d, owns (c : Thread nD τ) (ms5 t) fullShare ((dats m 0 c).before (5 : Fin 7) t d))
        ∗ (∃ d, owns (c : Thread nD τ) (ms6 t) fullShare ((dats m 0 c).before (6 : Fin 7) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  by_cases q0 : P0 t
  · by_cases q1 : P1 t
    · skip
      obtain ⟨k3, i6, f6⟩ := (allFacts t).2.1 q1
      rewrite [i6]
      simp only [before_0, before_1, before_2, before_3, before_4, before_5, before_6, after_0, after_1, after_2, after_3, after_4, after_5, after_6, f6]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨%f0, %f1, %f2, %hf, HS0, HS1, HS2, HT0, HT1⟩, Ho, ⟨%d0, H0⟩, ⟨%d1, H1⟩, ⟨%d2, H2⟩, ⟨%d3, H3⟩, ⟨%d4, H4⟩, ⟨%d5, H5⟩, ⟨%d6, H6⟩⟩
      have hs : startP t (trajN m c t.val) = St.init := if_pos q0
      have hn := trajN_succ m c t
      rw [hs] at hn
      unfold stepP at hn
      rw [if_pos q1] at hn
      iapply (runB c (crd t) (ms0 t) (hs0 t) (ms1 t) (hs1 t) (ms2 t) (hs2 t) (ms3 t) (hs3 t) (ms4 t) (hs4 t) (ms5 t) (hs5 t) (ms6 t) (hs6 t) tab0 tab1
        (iblk m c (0 : Fin 7) t) (iblk m c (1 : Fin 7) t) (iblk m c (2 : Fin 7) t) (iblk m c (3 : Fin 7) t) (iblk m c (4 : Fin 7) t) (iblk m c (5 : Fin 7) t) q0 q1 k3 d6 f0 f1 f2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      iintro ⟨H0, H1, H2, H3, H4, H5, HT0, HT1, H6, ⟨%g0, %g1, %g2, %hg, HS0, HS1, HS2⟩⟩
      isplitl [HS0 HS1 HS2 HT0 HT1]
      · iexists g0, g1, g2
        isplitr; · ipureintro; intro _; exact hg.trans hn.symm
        isplitl [HS0]; · iexact HS0
        isplitl [HS1]; · iexact HS1
        isplitl [HS2]; · iexact HS2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      iexists d6; iexact H6
    · skip
      obtain ⟨k3, i6, f6⟩ := (allFacts t).1 q1
      rewrite [i6]
      simp only [before_0, before_1, before_2, before_3, before_4, before_5, before_6, after_0, after_1, after_2, after_3, after_4, after_5, after_6, f6]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨%f0, %f1, %f2, %hf, HS0, HS1, HS2, HT0, HT1⟩, Ho, ⟨%d0, H0⟩, ⟨%d1, H1⟩, ⟨%d2, H2⟩, ⟨%d3, H3⟩, ⟨%d4, H4⟩, ⟨%d5, H5⟩, ⟨%d6, H6⟩⟩
      have hs : startP t (trajN m c t.val) = St.init := if_pos q0
      have hn := trajN_succ m c t
      rw [hs] at hn
      unfold stepP at hn
      rw [if_neg q1] at hn
      iapply (runA c (crd t) (ms0 t) (hs0 t) (ms1 t) (hs1 t) (ms2 t) (hs2 t) (ms3 t) (hs3 t) (ms4 t) (hs4 t) (ms5 t) (hs5 t) (ms6 t) (hs6 t) tab0 tab1
        (iblk m c (0 : Fin 7) t) (iblk m c (1 : Fin 7) t) (iblk m c (2 : Fin 7) t) (iblk m c (3 : Fin 7) t) (iblk m c (4 : Fin 7) t) (iblk m c (5 : Fin 7) t) q0 q1 k3 f0 f1 f2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, H6, ⟨%g0, %g1, %g2, %hg, HS0, HS1, HS2⟩⟩
      isplitl [HS0 HS1 HS2 HT0 HT1]
      · iexists g0, g1, g2
        isplitr; · ipureintro; intro _; exact hg.trans hn.symm
        isplitl [HS0]; · iexact HS0
        isplitl [HS1]; · iexact HS1
        isplitl [HS2]; · iexact HS2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold outAt; rw [hs]; iexact H6
  · by_cases q1 : P1 t
    · skip
      obtain ⟨k3, i6, f6⟩ := (allFacts t).2.1 q1
      rewrite [i6]
      simp only [before_0, before_1, before_2, before_3, before_4, before_5, before_6, after_0, after_1, after_2, after_3, after_4, after_5, after_6, f6]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨%f0, %f1, %f2, %hf, HS0, HS1, HS2, HT0, HT1⟩, Ho, ⟨%d0, H0⟩, ⟨%d1, H1⟩, ⟨%d2, H2⟩, ⟨%d3, H3⟩, ⟨%d4, H4⟩, ⟨%d5, H5⟩, ⟨%d6, H6⟩⟩
      have hs : startP t (trajN m c t.val) = (⟨scM0.view.read (Elt Ideal) f0, scM1.view.read (Elt Ideal) f1, scM2.view.read (Elt Ideal) f2⟩ : St Ideal) := (if_neg q0).trans (hf ((allFacts t).2.2 q0)).symm
      have hn := trajN_succ m c t
      rw [hs] at hn
      unfold stepP at hn
      rw [if_pos q1] at hn
      iapply (runD c (crd t) (ms0 t) (hs0 t) (ms1 t) (hs1 t) (ms2 t) (hs2 t) (ms3 t) (hs3 t) (ms4 t) (hs4 t) (ms5 t) (hs5 t) (ms6 t) (hs6 t) tab0 tab1
        (iblk m c (0 : Fin 7) t) (iblk m c (1 : Fin 7) t) (iblk m c (2 : Fin 7) t) (iblk m c (3 : Fin 7) t) (iblk m c (4 : Fin 7) t) (iblk m c (5 : Fin 7) t) q0 q1 k3 d6 f0 f1 f2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      iintro ⟨H0, H1, H2, H3, H4, H5, HT0, HT1, H6, ⟨%g0, %g1, %g2, %hg, HS0, HS1, HS2⟩⟩
      isplitl [HS0 HS1 HS2 HT0 HT1]
      · iexists g0, g1, g2
        isplitr; · ipureintro; intro _; exact hg.trans hn.symm
        isplitl [HS0]; · iexact HS0
        isplitl [HS1]; · iexact HS1
        isplitl [HS2]; · iexact HS2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      iexists d6; iexact H6
    · skip
      obtain ⟨k3, i6, f6⟩ := (allFacts t).1 q1
      rewrite [i6]
      simp only [before_0, before_1, before_2, before_3, before_4, before_5, before_6, after_0, after_1, after_2, after_3, after_4, after_5, after_6, f6]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨%f0, %f1, %f2, %hf, HS0, HS1, HS2, HT0, HT1⟩, Ho, ⟨%d0, H0⟩, ⟨%d1, H1⟩, ⟨%d2, H2⟩, ⟨%d3, H3⟩, ⟨%d4, H4⟩, ⟨%d5, H5⟩, ⟨%d6, H6⟩⟩
      have hs : startP t (trajN m c t.val) = (⟨scM0.view.read (Elt Ideal) f0, scM1.view.read (Elt Ideal) f1, scM2.view.read (Elt Ideal) f2⟩ : St Ideal) := (if_neg q0).trans (hf ((allFacts t).2.2 q0)).symm
      have hn := trajN_succ m c t
      rw [hs] at hn
      unfold stepP at hn
      rw [if_neg q1] at hn
      iapply (runC c (crd t) (ms0 t) (hs0 t) (ms1 t) (hs1 t) (ms2 t) (hs2 t) (ms3 t) (hs3 t) (ms4 t) (hs4 t) (ms5 t) (hs5 t) (ms6 t) (hs6 t) tab0 tab1
        (iblk m c (0 : Fin 7) t) (iblk m c (1 : Fin 7) t) (iblk m c (2 : Fin 7) t) (iblk m c (3 : Fin 7) t) (iblk m c (4 : Fin 7) t) (iblk m c (5 : Fin 7) t) q0 q1 k3 f0 f1 f2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, H6, ⟨%g0, %g1, %g2, %hg, HS0, HS1, HS2⟩⟩
      isplitl [HS0 HS1 HS2 HT0 HT1]
      · iexists g0, g1, g2
        isplitr; · ipureintro; intro _; exact hg.trans hn.symm
        isplitl [HS0]; · iexact HS0
        isplitl [HS1]; · iexact HS1
        isplitl [HS2]; · iexact HS2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold outAt; rw [hs]; iexact H6

theorem body_obligation (c : Dev nD) : BodyObligation (dats m 0 c) (defs₀ (F := Ideal)) Variants.none () Set.univ := fun t => by
  rw [bigSep_W0]
  exact sound_body m c t

/-- What the launch starts from. -/
def u₀ : UR sig nD τ :=
  initOf (Pipeline.cells pcs ((launch0 (F := Ideal)).cellOf_inj fun _ => adm)) (Pipeline.launchToks pcs ((launch0 (F := Ideal)).cellOf_inj fun _ => adm))

theorem share_eq (c : Dev nD) (w : Fin cfgA.W) : (dats m 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem sc0_set : scM0.view.set = Finset.univ := View.set_whole _
theorem sc1_set : scM1.view.set = Finset.univ := View.set_whole _
theorem sc2_set : scM2.view.set = Finset.univ := View.set_whole _

theorem phi0_intro (c : Dev nD) :
    iprop(BI.emp ∗ Pipeline.prefHeld pre0 c (fun _ => fullShare.right) adm.1 ∗ Pipeline.scopedRest spec0 c) ⊢ (dats m 0 c).Φ 0 := by
  rw [prefHeld_eq, scopedRest0_eq, show (dats m 0 c).Φ 0 = Phi m c 0 from rfl]
  unfold Phi
  rw [sc0_set, sc1_set, sc2_set]
  iintro ⟨-, ⟨HT0, HT1⟩, ⟨%a0, HS0⟩, ⟨%a1, HS1⟩, ⟨%a2, HS2⟩⟩
  iexists a0, a1, a2
  isplitr; · ipureintro; intro h; exact absurd rfl h
  isplitl [HS0]; · iexact HS0
  isplitl [HS1]; · iexact HS1
  isplitl [HS2]; · iexact HS2
  isplitl [HT0]; · iexact HT0
  iexact HT1

theorem phiN_exit (c : Dev nD) : (dats m 0 c).Φ (Fin.last cfgA.N) ⊢ iprop(BI.emp ∗ Pipeline.scopedRest spec0 c) := by
  rw [scopedRest0_eq, show (dats m 0 c).Φ (Fin.last cfgA.N) = Phi m c (Fin.last _) from rfl]
  unfold Phi
  rw [sc0_set, sc1_set, sc2_set]
  iintro ⟨%a0, %a1, %a2, -, HS0, HS1, HS2, -, -⟩
  isplitr; · iempintro
  isplitl [HS0]; · iexists a0; iexact HS0
  isplitl [HS1]; · iexists a1; iexact HS1
  iexists a2; iexact HS2

theorem Vat_arg (c : Dev nD) : Vat m c main_arg0 = m (c, main_arg0) ∧ Vat m c main_arg1 = m (c, main_arg1) ∧ Vat m c main_arg2 = m (c, main_arg2)
    ∧ Vat m c main_arg3 = m (c, main_arg3) ∧ Vat m c main_arg4 = m (c, main_arg4) ∧ Vat m c main_arg5 = m (c, main_arg5) :=
  ⟨rfl, rfl, rfl, rfl, rfl, rfl⟩

theorem Vat_pre (c : Dev nD) (k : Fin 2) : Vat m c (pre0.ref k) = pfN k := by
  fin_cases k
  · rfl
  · rfl

variable (ρ : Dev nD → PrngReg)

/-- Where every execution of the call ends. -/
def Post (r : PUnit × MemSt nD τ sig (Elt Ideal)) : Prop :=
  (∀ c : Dev nD, (∀ w : Fin cfgA.W, r.2.mem ((cfgA.win w).arr.view.loc (c : Thread nD τ)) = (dats m 0 c).arrAt w cfgA.N)
    ∧ r.2.mem ((c : Thread nD τ).loc main_arg5) = m ((c : Thread nD τ).loc main_arg5)) ∧ r.2.sem = fun _ => 0

set_option backward.isDefEq.respectTransparency.types false in
set_option maxHeartbeats 4000000 in
/-- Every execution ends, with every array at what the contents say and every counter at zero. -/
theorem run_post : θ_run (defs (F := Ideal)) (onTc (τ := τ) (main (F := Ideal))) ⟨m, fun _ => 0, ρ⟩ (Post m) :=
  Pipeline.θ_run_region_noSem_pf_quiescent pcfgs (fun _ => adm) (dats m) () ((launch0 (F := Ideal)).cellOf_inj fun _ => adm) (0 : Fin 1)
    (launch0 (F := Ideal)).win.to₀ (launch0 (F := Ideal)).pre EP defs₀ Variants.none m ρ main
    (hbody := fun c => (body_obligation m c).loose) (hne := (launch0 (F := Ideal)).block_pos)
    (harr := (launch0 (F := Ideal)).arr_whole) (hstage := (launch0 (F := Ideal)).stage_whole) (howed := fun _ _ => rfl)
    (u₀ := u₀) (hu₀ := .rfl)
    (V := fun c b => Vat m c b)
    (hmain := Pipeline.hmainP_prefix pcfgs 0 defs₀ Variants.none m main hostOps0 hostOps0_sub ⟨rfl, rfl, rfl⟩ main_chain)
    (hsplit := fun c => Pipeline.arrays_split pcs (dats m) 0 (launch0 (F := Ideal)).win.arr_inj c (launch0 (F := Ideal)).arr_whole
      (share_eq m c) _ _ fun _ => rfl)
    (hpf := fun c k => Vat_pre m c k)
    (X := fun _ => iprop(emp)) (Y := fun _ => iprop(emp)) (Z := fun c => iprop(((c : Thread nD τ).loc main_arg5) ↦{fullShare} m ((c : Thread nD τ).loc main_arg5)))
    (hX := fun c => by
      rw [unscopedRestP0_eq]; iintro H; isplitr; · iempintro
      iexact H)
    (hin := phi0_intro m)
    (hout := phiN_exit m)
    (QY := fun c s => s.mem ((c : Thread nD τ).loc main_arg5) = m ((c : Thread nD τ).loc main_arg5))
    (hY := fun c s' => by
      have key := pointsTo_read_all (Ix := Unit) (Name := ℕ) (U := UR sig nD τ) (Lvl := ℕ) ({(0 : Fin 1)} : Finset (Fin 1)) (fun _ => (c : Thread nD τ).loc main_arg5)
        (fun _ => m ((c : Thread nD τ).loc main_arg5)) s'
      rw [bigSep_singleton] at key
      iintro ⟨-, HZ, HSI⟩
      ihave H := key $$ [HZ HSI]
      · isplitl [HZ]; · iexact HZ
        iexact HSI
      icases H with ⟨%hr, HSI⟩
      imodintro
      isplitr; · ipureintro; exact hr 0 (Finset.mem_singleton_self _)
      iexact HSI)
    (hQ := fun _ h hz => ⟨fun c => ⟨(h c).1, (h c).2.2⟩, hz⟩)

/-- The arguments end as they began. -/
theorem Post.args {r : PUnit × MemSt nD τ sig (Elt Ideal)} (h : Post m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h.1 c).1 (0 : Fin 7)).trans (((dats m 0 c).arrAt_in (0 : Fin 7) rfl _).trans (Vat_arg m c).1),
   ((h.1 c).1 (1 : Fin 7)).trans (((dats m 0 c).arrAt_in (1 : Fin 7) rfl _).trans (Vat_arg m c).2.1),
   ((h.1 c).1 (2 : Fin 7)).trans (((dats m 0 c).arrAt_in (2 : Fin 7) rfl _).trans (Vat_arg m c).2.2.1),
   ((h.1 c).1 (3 : Fin 7)).trans (((dats m 0 c).arrAt_in (3 : Fin 7) rfl _).trans (Vat_arg m c).2.2.2.1),
   ((h.1 c).1 (4 : Fin 7)).trans (((dats m 0 c).arrAt_in (4 : Fin 7) rfl _).trans (Vat_arg m c).2.2.2.2.1),
   (h.1 c).2⟩

end Cert.KernelIdeal.Attn

end
-- ==== Proof.Attn.Core.lean ====
/-
What one head does to one component's running values, as one function of the scores of a block of keys.
-/
module

public import proofs.«01_k».proof.Proof.Attn.KernelIdeal.Step
public import Idealize.ShloMosaic.Lib.Pipeline.Value
public import Idealize.ShloMosaic.Lib.ValueIdx
public import Idealize.ShloMosaic.PureOps.Ideal.Laws

@[expose] public section

set_option maxRecDepth 16384
set_option maxHeartbeats 1000000

noncomputable section

namespace Cert.KernelIdeal.Attn

open Idealize.ShloMosaic Idealize.ShloMosaic.ValueIdx
open Cert.KernelIdeal.Gen

/-- Each query's largest score of the block, in all eight rows. -/
def blockMax (S : FVec Ideal S128x8x1024 .f32) : FVec Ideal S8x1024 .f32 :=
  let x := multiReduction .maximumf [0] S8x1024 S 0xFF800000#32 reduces_S128x8x1024_S8x1024 (.inl rfl) rfl
  let y := maximumf x (dynamicRotate 0 1#32 none x rotates_S8x1024_d0)
  let z := maximumf y (dynamicRotate 0 2#32 none y rotates_S8x1024_d0)
  maximumf z (dynamicRotate 0 4#32 none z rotates_S8x1024_d0)

/-- The new maximum. -/
def nextM (S : FVec Ideal S128x8x1024 .f32) (M : Vec Ideal S1x1x8x1024 .f32) : FVec Ideal S8x1024 .f32 :=
  maximumf (shapeCast S8x1024 M shapeCasts_S1x1x8x1024_S8x1024) (blockMax S)

/-- What the old values are scaled by. -/
def scaleM (S : FVec Ideal S128x8x1024 .f32) (M : Vec Ideal S1x1x8x1024 .f32) : FVec Ideal S8x1024 .f32 :=
  exp (subf (shapeCast S8x1024 M shapeCasts_S1x1x8x1024_S8x1024) (nextM S M))

/-- The values and the ones under them. -/
def withOnes (V : Vec Ideal S128x1024 .bf16) : FVec Ideal S144x1024 .bf16 :=
  concatenate S144x1024 0 [⟨S128x1024, V⟩, ⟨S16x1024, broadcast S16x1024 (Scalar.ofBits .bf16 0x3F80#16)⟩] concatenates_S128x1024_S16x1024_S144x1024_d0

/-- The block's weighted values, and its sums of weights under them. -/
def blockPV (V : Vec Ideal S128x1024 .bf16) (S : FVec Ideal S128x8x1024 .f32) (M : Vec Ideal S1x1x8x1024 .f32) : FVec Ideal S144x1024 .f32 :=
  matmul dot_S144x1024_S1024x1024_S144x1024_1_0_0_1_n_n none (withOnes V)
    (exp (truncf .bf16 (shapeCast S1024x1024
      (subf S (broadcastTo S128x8x1024 (shapeCast S1x8x1024 (nextM S M) shapeCasts_S8x1024_S1x8x1024) broadcasts_S1x8x1024_S128x8x1024))
      shapeCasts_S128x8x1024_S1024x1024) bitsLt_bf16_f32))
    (constant S144x1024 .f32 0x00000000#32)

/-- The new maximum as it is stored. -/
def storeM (S : FVec Ideal S128x8x1024 .f32) (M : Vec Ideal S1x1x8x1024 .f32) : FVec Ideal S1x1x8x1024 .f32 :=
  shapeCast S1x1x8x1024 (nextM S M) shapeCasts_S8x1024_S1x1x8x1024

/-- The new sum as it is stored. -/
def storeL (V : Vec Ideal S128x1024 .bf16) (S : FVec Ideal S128x8x1024 .f32) (M L : Vec Ideal S1x1x8x1024 .f32) : FVec Ideal S1x1x8x1024 .f32 :=
  shapeCast S1x1x8x1024 (addf (mulf (scaleM S M) (shapeCast S8x1024 L shapeCasts_S1x1x8x1024_S8x1024))
    (extractStridedSlice S8x1024 ![128, 0] (blockPV V S M) slices_S144x1024_o128_0_S8x1024)) shapeCasts_S8x1024_S1x1x8x1024

/-- The new weighted values as they are stored. -/
def storeA (V : Vec Ideal S128x1024 .bf16) (S : FVec Ideal S128x8x1024 .f32) (M : Vec Ideal S1x1x8x1024 .f32) (A : Vec Ideal S1x1x128x1024 .f32) :
    FVec Ideal S1x1x128x1024 .f32 :=
  shapeCast S1x1x128x1024 (addf
    (shapeCast S128x1024 (mulf (shapeCast S16x8x1024 (shapeCast S128x1024 A shapeCasts_S1x1x128x1024_S128x1024) shapeCasts_S128x1024_S16x8x1024)
      (broadcastTo S16x8x1024 (shapeCast S1x8x1024 (scaleM S M) shapeCasts_S8x1024_S1x8x1024) broadcasts_S1x8x1024_S16x8x1024)) shapeCasts_S16x8x1024_S128x1024)
    (extractStridedSlice S128x1024 ![0, 0] (blockPV V S M) slices_S144x1024_o0_0_S128x1024)) shapeCasts_S128x1024_S1x1x128x1024

/-- The scores of a component's block: the keys against the queries of which only one half of the rows is kept. -/
def scores (hi : Bool) (Q : Vec Ideal S128x1024 .bf16) (K : Vec Ideal S1024x128 .bf16) : FVec Ideal S1024x1024 .f32 :=
  matmul (φ₁ := .bf16) (φ₂ := .bf16) dot_S1024x128_S128x1024_S1024x1024_1_0_0_1_n_n none K
    (select (if hi then cmpi .sge (iota .tc S128x1024 32 [0] iota_S128x1024_d0_w32) (broadcast S128x1024 64#32)
      else cmpi .slt (iota .tc S128x1024 32 [0] iota_S128x1024_d0_w32) (broadcast S128x1024 64#32)) Q
      (broadcast S128x1024 (Scalar.ofBits .bf16 0x0000#16))) (constant S1024x1024 .f32 0x00000000#32)

/-- The diagonal block's scores, the later keys' taken out. -/
def causal (X : FVec Ideal S1024x1024 .f32) : FVec Ideal S1024x1024 .f32 :=
  select (cmpi .sle (iota .tc S1024x1024 32 [0] iota_S1024x1024_d0_w32) (iota .tc S1024x1024 32 [1] iota_S1024x1024_d1_w32)) X
    (broadcast S1024x1024 (Named.named (F := Ideal) κ "mask" 0xF149F2CA#32))

/-- The scores in sublanes. -/
def lanes (X : FVec Ideal S1024x1024 .f32) : FVec Ideal S128x8x1024 .f32 := shapeCast S128x8x1024 X shapeCasts_S1024x1024_S128x8x1024

end Cert.KernelIdeal.Attn

end
-- ==== Proof.Attn.Elem.lean ====
/-
The elements of one head's step over the extended reals.
-/
module

public import proofs.«01_k».proof.Proof.Attn.KernelIdeal.Step
public import proofs.«01_k».proof.Proof.Attn.Core
public import Idealize.ShloMosaic.Lib.Pipeline.Value
public import Idealize.ShloMosaic.Lib.ValueIdx
public import Idealize.ShloMosaic.PureOps.Ideal.Laws

@[expose] public section

set_option maxRecDepth 16384
set_option maxHeartbeats 1000000

noncomputable section

namespace Cert.KernelIdeal.Attn

open Idealize.ShloMosaic Idealize.ShloMosaic.ValueIdx
open Cert.KernelIdeal.Gen

theorem rowMajor2 {n0 n1 : ℕ} (a : Fin n0) (b : Fin n1) : ((⟨2, ![n0, n1]⟩ : Shape).rowMajor (ix2 a b)).val = a.val * n1 + b.val := by
  rw [Shape.rowMajor_val_two]; rfl

theorem rowMajor3 {n0 n1 n2 : ℕ} (a : Fin n0) (b : Fin n1) (c : Fin n2) :
    ((⟨3, ![n0, n1, n2]⟩ : Shape).rowMajor (ix3 a b c)).val = (a.val * n1 + b.val) * n2 + c.val := by
  rw [Shape.rowMajor_val_three]; rfl

theorem rowMajor4 {n0 n1 n2 n3 : ℕ} (a : Fin n0) (b : Fin n1) (c : Fin n2) (d : Fin n3) :
    ((⟨4, ![n0, n1, n2, n3]⟩ : Shape).rowMajor (ix4 a b c d)).val = ((a.val * n1 + b.val) * n2 + c.val) * n3 + d.val := by
  rw [Shape.rowMajor_val_four]; rfl

theorem rot_apply (n : BitVec 32) (x : FVec Ideal S8x1024 .f32) (s : Fin 8) (j : Fin 1024) :
    dynamicRotate 0 n none x rotates_S8x1024_d0 (ix2 s j) = x (ix2 ⟨(s.val + 8 - n.toNat % 8) % 8, Nat.mod_lt _ (by decide)⟩ j) := by
  unfold dynamicRotate
  refine congrArg x (funext fun b => ?_)
  match b with
  | ⟨0, _⟩ => rfl
  | ⟨1, _⟩ => rfl

theorem neg_inf : (FloatOps.ofBits (F := Ideal) .f32 0xFF800000#32 : EReal) = ⊥ := by
  show Ideal.ofBits .f32 0xFF800000#32 = ⊥
  simp [Ideal.ofBits, Ideal.ieee]

theorem colmax_apply (S : FVec Ideal S128x8x1024 .f32) (s : Fin 8) (j : Fin 1024) :
    multiReduction .maximumf [0] S8x1024 S 0xFF800000#32 reduces_S128x8x1024_S8x1024 (.inl rfl) rfl (ix2 s j)
      = (Finset.univ : Finset (Fin 128)).sup fun g => S (ix3 g s j) := by
  refine (Ideal.multiReduction_maximumf_single S _ _ _ _ _).trans ?_
  rw [neg_inf]
  show Finset.sup _ _ = _
  refine Finset.sup_congr rfl fun g _ => ?_
  refine congrArg S (funext fun a => ?_)
  match a with
  | ⟨0, _⟩ => rfl
  | ⟨1, _⟩ => rfl
  | ⟨2, _⟩ => rfl

theorem tree_max (R : Fin 8 → EReal) (y z : Fin 8 → EReal)
    (hy : ∀ s : Fin 8, y s = max (R s) (R ⟨(s.val + 8 - 1) % 8, Nat.mod_lt _ (by decide)⟩))
    (hz : ∀ s : Fin 8, z s = max (y s) (y ⟨(s.val + 8 - 2) % 8, Nat.mod_lt _ (by decide)⟩)) (s : Fin 8) :
    max (z s) (z ⟨(s.val + 8 - 4) % 8, Nat.mod_lt _ (by decide)⟩) = Finset.univ.sup R := by
  apply le_antisymm
  · simp only [hz, hy]
    repeat' apply max_le
    all_goals exact Finset.le_sup (f := R) (Finset.mem_univ _)
  · refine Finset.sup_le fun u _ => ?_
    simp only [hz, hy]
    fin_cases s <;> fin_cases u <;> simp [le_max_iff]

theorem fold_rot (n : BitVec 32) (k : ℕ) (hk : n.toNat % 8 = k) (x : FVec Ideal S8x1024 .f32) (s : Fin 8) (j : Fin 1024) :
    maximumf x (dynamicRotate 0 n none x rotates_S8x1024_d0) (ix2 s j)
      = max (x (ix2 s j)) (x (ix2 ⟨(s.val + 8 - k) % 8, Nat.mod_lt _ (by decide)⟩ j)) := by
  subst hk
  rw [maximumf_apply, rot_apply]

theorem lanes_apply (X : FVec Ideal S1024x1024 .f32) (g : Fin 128) (u : Fin 8) (j : Fin 1024) :
    lanes X (ix3 g u j) = X (ix2 ⟨g.val * 8 + u.val, by omega⟩ j) := by
  unfold lanes
  refine shapeCast_apply _ _ _ _ ?_
  rw [rowMajor2, rowMajor3]

theorem blockMax_lanes (S : FVec Ideal S128x8x1024 .f32) (s : Fin 8) (j : Fin 1024) :
    blockMax S (ix2 s j) = (Finset.univ : Finset (Fin 8)).sup fun u => (Finset.univ : Finset (Fin 128)).sup fun g => S (ix3 g u j) := by
  unfold blockMax
  generalize hx : multiReduction .maximumf [0] S8x1024 S 0xFF800000#32 reduces_S128x8x1024_S8x1024 (.inl rfl) rfl = x
  generalize hy : maximumf x (dynamicRotate 0 1#32 none x rotates_S8x1024_d0) = y
  generalize hz : maximumf y (dynamicRotate 0 2#32 none y rotates_S8x1024_d0) = z
  rw [fold_rot 4#32 4 (by decide)]
  refine (tree_max (fun u => x (ix2 u j)) (fun u => y (ix2 u j)) (fun u => z (ix2 u j)) (fun u => ?_) (fun u => ?_) s).trans ?_
  · rw [← hy]; exact fold_rot 1#32 1 (by decide) x u j
  · rw [← hz]; exact fold_rot 2#32 2 (by decide) y u j
  · refine Finset.sup_congr rfl fun u _ => ?_
    rw [← hx]
    exact colmax_apply S u j

theorem blockMax_apply (X : FVec Ideal S1024x1024 .f32) (s : Fin 8) (j : Fin 1024) :
    blockMax (lanes X) (ix2 s j) = (Finset.univ : Finset (Fin 1024)).sup fun i => X (ix2 i j) := by
  rw [blockMax_lanes]
  apply le_antisymm
  · refine Finset.sup_le fun u _ => Finset.sup_le fun g _ => ?_
    rw [lanes_apply]
    exact Finset.le_sup (f := fun i => X (ix2 i j)) (Finset.mem_univ _)
  · refine Finset.sup_le fun i _ => ?_
    have h1 := Finset.le_sup (f := fun u : Fin 8 => (Finset.univ : Finset (Fin 128)).sup fun g => lanes X (ix3 g u j))
      (Finset.mem_univ ⟨i.val % 8, Nat.mod_lt _ (by decide)⟩)
    have h2 := Finset.le_sup (f := fun g : Fin 128 => lanes X (ix3 g ⟨i.val % 8, Nat.mod_lt _ (by decide)⟩ j))
      (Finset.mem_univ ⟨i.val / 8, by have := i.isLt; omega⟩)
    refine le_trans (le_of_eq ?_) (h2.trans h1)
    show _ = lanes X _
    rw [lanes_apply]
    exact congrArg (fun k => X (ix2 k j)) (Fin.ext (by show i.val = i.val / 8 * 8 + i.val % 8; omega))

theorem exp_apply {s : Shape} {φ : FTy} (x : FVec Ideal s φ) (i : s.Idx) : exp x i = Ideal.exp (x i) := rfl

theorem nextM_apply (X : FVec Ideal S1024x1024 .f32) (M : Vec Ideal S1x1x8x1024 .f32) (s : Fin 8) (j : Fin 1024) :
    nextM (lanes X) M (ix2 s j) = max (M (ix4 0 0 s j)) ((Finset.univ : Finset (Fin 1024)).sup fun i => X (ix2 i j)) := by
  unfold nextM
  rw [maximumf_apply, blockMax_apply]
  refine congrArg (max · _) (shapeCast_apply _ _ _ _ ?_)
  rw [rowMajor4, rowMajor2]
  simp

theorem scaleM_apply (X : FVec Ideal S1024x1024 .f32) (M : Vec Ideal S1x1x8x1024 .f32) (s : Fin 8) (j : Fin 1024) :
    scaleM (lanes X) M (ix2 s j) = Ideal.exp (M (ix4 0 0 s j) - nextM (lanes X) M (ix2 s j)) := by
  unfold scaleM
  show Ideal.exp (shapeCast S8x1024 M shapeCasts_S1x1x8x1024_S8x1024 (ix2 s j) - _) = _
  rw [shapeCast_apply M _ _ (ix4 0 0 s j) (by rw [rowMajor4, rowMajor2]; simp)]

theorem storeM_apply (X : FVec Ideal S1024x1024 .f32) (M : Vec Ideal S1x1x8x1024 .f32) (s : Fin 8) (j : Fin 1024) :
    storeM (lanes X) M (ix4 0 0 s j) = nextM (lanes X) M (ix2 s j) := by
  unfold storeM
  exact shapeCast_apply _ _ _ _ (by rw [rowMajor4, rowMajor2]; simp)

theorem matmul_plain {m k n : ℕ} {φ₁ φ₂ : FTy} (D : DotDims ⟨2, ![m, k]⟩ ⟨2, ![k, n]⟩ ⟨2, ![m, n]⟩) (hr : D.contr.rank = 1)
    (hs : D.contr.size ⟨0, by omega⟩ = k)
    (hl : ∀ (i : Fin m) (j : Fin n) (q : D.contr.Idx), (D.lhsIdx (ix2 i j) q 0).val = i.val ∧ (D.lhsIdx (ix2 i j) q 1).val = (q ⟨0, by omega⟩).val)
    (hR : ∀ (i : Fin m) (j : Fin n) (q : D.contr.Idx), (D.rhsIdx (ix2 i j) q 0).val = (q ⟨0, by omega⟩).val ∧ (D.rhsIdx (ix2 i j) q 1).val = j.val)
    (lhs : FVec Ideal ⟨2, ![m, k]⟩ φ₁) (rhs : FVec Ideal ⟨2, ![k, n]⟩ φ₂) (i : Fin m) (j : Fin n) :
    matmul D none lhs rhs (constant (F := Ideal) ⟨2, ![m, n]⟩ .f32 0x00000000#32) (ix2 i j) = ∑ q : Fin k, lhs (ix2 i q) * rhs (ix2 q j) := by
  simp only [matmul]
  rw [Ideal.matmul_constant_zero_apply, ← Equiv.sum_comp (contrEquiv1 D k hr hs).symm]
  refine Finset.sum_congr rfl fun q _ => ?_
  have hk := contrEquiv1_symm_val D k hr hs q
  have el : D.lhsIdx (ix2 i j) ((contrEquiv1 D k hr hs).symm q) = ix2 i q := funext fun a => Fin.ext (by
    match a with
    | ⟨0, _⟩ => exact (hl _ _ _).1
    | ⟨1, _⟩ => exact ((hl _ _ _).2).trans hk)
  have er : D.rhsIdx (ix2 i j) ((contrEquiv1 D k hr hs).symm q) = ix2 q j := funext fun a => Fin.ext (by
    match a with
    | ⟨0, _⟩ => exact ((hR _ _ _).1).trans hk
    | ⟨1, _⟩ => exact (hR _ _ _).2)
  rw [el, er]

theorem mmPV_apply (lhs : FVec Ideal S144x1024 .bf16) (rhs : FVec Ideal S1024x1024 .bf16) (i : Fin 144) (j : Fin 1024) :
    matmul dot_S144x1024_S1024x1024_S144x1024_1_0_0_1_n_n none lhs rhs (constant (F := Ideal) S144x1024 .f32 0x00000000#32) (ix2 i j)
      = ∑ q : Fin 1024, lhs (ix2 i q) * rhs (ix2 q j) :=
  matmul_plain dot_S144x1024_S1024x1024_S144x1024_1_0_0_1_n_n rfl rfl (fun _ _ _ => ⟨rfl, rfl⟩) (fun _ _ _ => ⟨rfl, rfl⟩) lhs rhs i j

theorem mmKQ_apply (lhs : FVec Ideal S1024x128 .bf16) (rhs : FVec Ideal S128x1024 .bf16) (i : Fin 1024) (j : Fin 1024) :
    matmul dot_S1024x128_S128x1024_S1024x1024_1_0_0_1_n_n none lhs rhs (constant (F := Ideal) S1024x1024 .f32 0x00000000#32) (ix2 i j)
      = ∑ q : Fin 128, lhs (ix2 i q) * rhs (ix2 q j) :=
  matmul_plain dot_S1024x128_S128x1024_S1024x1024_1_0_0_1_n_n rfl rfl (fun _ _ _ => ⟨rfl, rfl⟩) (fun _ _ _ => ⟨rfl, rfl⟩) lhs rhs i j

theorem withOnes_val (V : Vec Ideal S128x1024 .bf16) (d : Fin 128) (i : Fin 1024) :
    withOnes V (ix2 ⟨d.val, by omega⟩ i) = V (ix2 d i) := by
  unfold withOnes
  refine concatenate_pair_apply_left (t := S144x1024) (s₁ := S128x1024) (s₂ := S16x1024) 0 _ _ _ _ rfl (ix2 d i) fun b => ?_
  match b with
  | ⟨0, _⟩ => rfl
  | ⟨1, _⟩ => rfl

theorem one_bf16 : (Scalar.ofBits (F := Ideal) .bf16 0x3F80#16 : EReal) = 1 := by
  show Ideal.ofBits .bf16 0x3F80#16 = 1
  simp [Ideal.ofBits, Ideal.ieee]
  rw [← EReal.coe_mul]
  norm_num

theorem withOnes_one (V : Vec Ideal S128x1024 .bf16) (s : Fin 8) (i : Fin 1024) :
    withOnes V (ix2 ⟨128 + s.val, by omega⟩ i) = (1 : EReal) := by
  unfold withOnes
  refine (concatenate_pair_apply_right (t := S144x1024) (s₁ := S128x1024) (s₂ := S16x1024) 0 _ _ _ _ rfl rfl (ix2 ⟨s.val, by omega⟩ i) (fun b hb => ?_) ?_).trans ?_
  · match b with
    | ⟨0, _⟩ => exact absurd rfl hb
    | ⟨1, _⟩ => rfl
  · exact Nat.add_comm _ _
  · exact one_bf16

theorem blockPV_apply (V : Vec Ideal S128x1024 .bf16) (X : FVec Ideal S1024x1024 .f32) (M : Vec Ideal S1x1x8x1024 .f32) (r : Fin 144) (j : Fin 1024) :
    blockPV V (lanes X) M (ix2 r j)
      = ∑ i : Fin 1024, withOnes V (ix2 r i) * Ideal.exp (X (ix2 i j) - nextM (lanes X) M (ix2 ⟨i.val % 8, Nat.mod_lt _ (by decide)⟩ j)) := by
  unfold blockPV
  rw [mmPV_apply]
  refine Finset.sum_congr rfl fun i _ => congrArg _ ?_
  rw [exp_apply, truncf_apply, shapeCast_apply _ _ _ (ix3 ⟨i.val / 8, by have := i.isLt; omega⟩ ⟨i.val % 8, Nat.mod_lt _ (by decide)⟩ j)
    (by rw [rowMajor3, rowMajor2]; show (i.val / 8 * 8 + i.val % 8) * 1024 + j.val = i.val * 1024 + j.val; omega), subf_apply]
  refine congrArg Ideal.exp (congrArg₂ (· - ·) ?_ ?_)
  · unfold lanes
    refine shapeCast_apply _ _ _ _ ?_
    rw [rowMajor3, rowMajor2]; show i.val * 1024 + j.val = (i.val / 8 * 8 + i.val % 8) * 1024 + j.val; omega
  · rw [broadcastTo_apply _ _ _ (ix3 0 ⟨i.val % 8, Nat.mod_lt _ (by decide)⟩ j)]
    · refine shapeCast_apply _ _ _ _ ?_
      rw [rowMajor3, rowMajor2]; simp
    · intro a
      match a with
      | ⟨0, _⟩ => rfl
      | ⟨1, _⟩ => rfl
      | ⟨2, _⟩ => rfl

theorem storeL_apply (V : Vec Ideal S128x1024 .bf16) (X : FVec Ideal S1024x1024 .f32) (M L : Vec Ideal S1x1x8x1024 .f32) (s : Fin 8) (j : Fin 1024) :
    storeL V (lanes X) M L (ix4 0 0 s j) = Ideal.exp (M (ix4 0 0 s j) - nextM (lanes X) M (ix2 s j)) * L (ix4 0 0 s j)
      + ∑ i : Fin 1024, 1 * Ideal.exp (X (ix2 i j) - nextM (lanes X) M (ix2 ⟨i.val % 8, Nat.mod_lt _ (by decide)⟩ j)) := by
  unfold storeL
  rw [shapeCast_apply _ _ _ (ix2 s j) (by rw [rowMajor4, rowMajor2]; simp), addf_apply, mulf_apply, scaleM_apply,
    shapeCast_apply L _ _ (ix4 0 0 s j) (by rw [rowMajor4, rowMajor2]; simp),
    extractStridedSlice_apply _ _ _ _ (ix2 ⟨128 + s.val, by omega⟩ j) (fun a => by
      match a with
      | ⟨0, _⟩ => rfl
      | ⟨1, _⟩ => exact (Nat.zero_add _).symm), blockPV_apply]
  refine congrArg _ (Finset.sum_congr rfl fun i _ => ?_)
  rw [withOnes_one]

theorem storeA_apply (V : Vec Ideal S128x1024 .bf16) (X : FVec Ideal S1024x1024 .f32) (M : Vec Ideal S1x1x8x1024 .f32) (A : Vec Ideal S1x1x128x1024 .f32)
    (d : Fin 128) (j : Fin 1024) :
    storeA V (lanes X) M A (ix4 0 0 d j)
      = A (ix4 0 0 d j) * Ideal.exp (M (ix4 0 0 ⟨d.val % 8, Nat.mod_lt _ (by decide)⟩ j) - nextM (lanes X) M (ix2 ⟨d.val % 8, Nat.mod_lt _ (by decide)⟩ j))
      + ∑ i : Fin 1024, V (ix2 d i) * Ideal.exp (X (ix2 i j) - nextM (lanes X) M (ix2 ⟨i.val % 8, Nat.mod_lt _ (by decide)⟩ j)) := by
  unfold storeA
  rw [shapeCast_apply _ _ _ (ix2 d j) (by rw [rowMajor4, rowMajor2]; simp), addf_apply,
    shapeCast_apply _ _ _ (ix3 ⟨d.val / 8, by have := d.isLt; omega⟩ ⟨d.val % 8, Nat.mod_lt _ (by decide)⟩ j)
      (by rw [rowMajor3, rowMajor2]; show (d.val / 8 * 8 + d.val % 8) * 1024 + j.val = d.val * 1024 + j.val; omega), mulf_apply,
    shapeCast_apply _ _ _ (ix2 d j) (by rw [rowMajor3, rowMajor2]; show d.val * 1024 + j.val = (d.val / 8 * 8 + d.val % 8) * 1024 + j.val; omega),
    shapeCast_apply A _ _ (ix4 0 0 d j) (by rw [rowMajor4, rowMajor2]; simp),
    broadcastTo_apply _ _ _ (ix3 0 ⟨d.val % 8, Nat.mod_lt _ (by decide)⟩ j) (fun a => by
      match a with
      | ⟨0, _⟩ => rfl
      | ⟨1, _⟩ => rfl
      | ⟨2, _⟩ => rfl),
    shapeCast_apply _ _ _ (ix2 ⟨d.val % 8, Nat.mod_lt _ (by decide)⟩ j) (by rw [rowMajor3, rowMajor2]; simp), scaleM_apply,
    extractStridedSlice_apply _ _ _ _ (ix2 ⟨d.val, by omega⟩ j) (fun a => by
      match a with
      | ⟨0, _⟩ => exact (Nat.zero_add _).symm
      | ⟨1, _⟩ => exact (Nat.zero_add _).symm), blockPV_apply]
  refine congrArg _ (Finset.sum_congr rfl fun i _ => ?_)
  rw [withOnes_val]

/-- A sum over 128 rows of which only one half is kept. -/
theorem half_sum (f g : Fin 128 → EReal) (hi : Bool) (h : ∀ q : Fin 128, f q = if (64 ≤ q.val) = (hi = true) then g q else 0) :
    ∑ q, f q = ∑ k : Fin 64, g ⟨64 * hi.toNat + k.val, by cases hi <;> simp <;> omega⟩ := by
  have e : ∑ q, f q = ∑ k : Fin (64 + 64), f ⟨k.val, by omega⟩ := rfl
  rw [e, Fin.sum_univ_add]
  cases hi
  · rw [Finset.sum_congr rfl (g := fun k : Fin 64 => g ⟨64 * false.toNat + k.val, by simp; omega⟩),
      Finset.sum_eq_zero (f := fun k : Fin 64 => f ⟨(Fin.natAdd 64 k).val, by omega⟩), add_zero]
    · intro k _
      rw [h, if_neg]
      simp
    · intro k _
      rw [h, if_pos]
      · exact congrArg g (Fin.ext (by simp))
      · simp
  · rw [Finset.sum_eq_zero (f := fun k : Fin 64 => f ⟨(Fin.castAdd 64 k).val, by omega⟩), zero_add]
    · refine Finset.sum_congr rfl fun k _ => ?_
      rw [h, if_pos]
      · exact congrArg g (Fin.ext (by simp; omega))
      · simp
    · intro k _
      rw [h, if_neg]
      simp

theorem zero_bf16 : (Scalar.ofBits (F := Ideal) .bf16 0x0000#16 : EReal) = 0 := by
  show Ideal.ofBits .bf16 0x0000#16 = 0
  simp [Ideal.ofBits, Ideal.ieee]

theorem row_lt (q : Fin 128) : IntOp.cmpi .slt (BitVec.ofNat 32 q.val) 64#32 = BitVec.ofBool (decide (q.val < 64)) := by
  revert q; decide

theorem row_ge (q : Fin 128) : IntOp.cmpi .sge (BitVec.ofNat 32 q.val) 64#32 = BitVec.ofBool (decide (64 ≤ q.val)) := by
  revert q; decide

theorem scores_apply (hi : Bool) (Q : Vec Ideal S128x1024 .bf16) (K : Vec Ideal S1024x128 .bf16) (i j : Fin 1024) :
    scores hi Q K (ix2 i j) = ∑ k : Fin 64, K (ix2 i ⟨64 * hi.toNat + k.val, by cases hi <;> simp <;> omega⟩)
      * Q (ix2 ⟨64 * hi.toNat + k.val, by cases hi <;> simp <;> omega⟩ j) := by
  unfold scores
  rw [mmKQ_apply]
  refine half_sum _ (fun q => K (ix2 i q) * Q (ix2 q j)) hi fun q => ?_
  have hio : iota .tc S128x1024 32 [0] iota_S128x1024_d0_w32 (ix2 q j) = BitVec.ofNat 32 q.val := iota_single_apply _ _ _ _ _ _
  rw [select_apply]
  cases hi
  · rw [if_neg (by decide)]
    show K (ix2 i q) * Scalar.select (IntOp.cmpi .slt (iota .tc S128x1024 32 [0] iota_S128x1024_d0_w32 (ix2 q j)) 64#32) (Q (ix2 q j)) (Scalar.ofBits (F := Ideal) .bf16 0x0000#16) = _
    rw [hio, row_lt, zero_bf16]
    by_cases h : q.val < 64
    · rw [decide_eq_true h, if_pos (by simp; omega)]; rfl
    · rw [decide_eq_false h, if_neg (by simp; omega)]; exact mul_zero _
  · rw [if_pos rfl]
    show K (ix2 i q) * Scalar.select (IntOp.cmpi .sge (iota .tc S128x1024 32 [0] iota_S128x1024_d0_w32 (ix2 q j)) 64#32) (Q (ix2 q j)) (Scalar.ofBits (F := Ideal) .bf16 0x0000#16) = _
    rw [hio, row_ge, zero_bf16]
    by_cases h : 64 ≤ q.val
    · rw [decide_eq_true h, if_pos (by simp; omega)]; rfl
    · rw [decide_eq_false h, if_neg (by simp; omega)]; exact mul_zero _

theorem small_sle (a b : ℕ) (ha : a < 8192) (hb : b < 8192) :
    IntOp.cmpi .sle (BitVec.ofNat 32 a) (BitVec.ofNat 32 b) = BitVec.ofBool (decide (a ≤ b)) := by
  refine congrArg BitVec.ofBool ?_
  have e : ∀ n : ℕ, n < 8192 → (BitVec.ofNat 32 n).toInt = n := fun n hn => by
    rw [BitVec.toInt_eq_toNat_of_lt (by rw [BitVec.toNat_ofNat]; omega), BitVec.toNat_ofNat, Nat.mod_eq_of_lt (by omega)]
  show (BitVec.ofNat 32 a).sle (BitVec.ofNat 32 b) = _
  rw [BitVec.sle, e a ha, e b hb]
  simp

theorem causal_apply (X : FVec Ideal S1024x1024 .f32) (i j : Fin 1024) :
    causal X (ix2 i j) = if i.val ≤ j.val then X (ix2 i j) else ⊥ := by
  have h0 : iota .tc S1024x1024 32 [0] iota_S1024x1024_d0_w32 (ix2 i j) = BitVec.ofNat 32 i.val := iota_single_apply _ _ _ _ _ _
  have h1 : iota .tc S1024x1024 32 [1] iota_S1024x1024_d1_w32 (ix2 i j) = BitVec.ofNat 32 j.val := iota_single_apply _ _ _ _ _ _
  unfold causal
  rw [select_apply]
  show Scalar.select (IntOp.cmpi .sle (iota .tc S1024x1024 32 [0] iota_S1024x1024_d0_w32 (ix2 i j)) (iota .tc S1024x1024 32 [1] iota_S1024x1024_d1_w32 (ix2 i j)))
    (X (ix2 i j)) (Named.named (F := Ideal) κ "mask" 0xF149F2CA#32) = _
  rw [h0, h1, small_sle _ _ (by omega) (by omega)]
  by_cases h : i.val ≤ j.val
  · rw [decide_eq_true h, if_pos h]; rfl
  · rw [decide_eq_false h, if_neg h]; rfl

end Cert.KernelIdeal.Attn

end
-- ==== Proof.Attn.Same.lean ====
/-
The kernel's stored values are one head's step.
-/
module

public import proofs.«01_k».proof.Proof.Attn.KernelIdeal.Step
public import proofs.«01_k».proof.Proof.Attn.Core
public import Idealize.ShloMosaic.Lib.Pipeline.Value
public import Idealize.ShloMosaic.Lib.ValueIdx
public import Idealize.ShloMosaic.PureOps.Ideal.Laws

@[expose] public section

set_option maxRecDepth 16384
set_option maxHeartbeats 1000000

noncomputable section

namespace Cert.KernelIdeal.Attn

open Idealize.ShloMosaic Idealize.ShloMosaic.ValueIdx
open Cert.KernelIdeal.Gen

section
variable (Q V : Vec Ideal S128x1024 .bf16) (K : Vec Ideal S1024x128 .bf16) (M L : Vec Ideal S1x1x8x1024 .f32) (A : Vec Ideal S1x1x128x1024 .f32)

theorem um0 : k0_pay15 (k0_pay10 Q K M) = storeM (lanes (scores false Q K)) M := by
  rfl
theorem ul0 : k0_pay13 (k0_pay11 Q K M) (k0_pay12 Q K V M) L = storeL V (lanes (scores false Q K)) M L := by
  rfl
theorem ua0 : k0_pay14 (k0_pay11 Q K M) (k0_pay12 Q K V M) A = storeA V (lanes (scores false Q K)) M A := by
  rfl
theorem um1 : k0_pay25 (k0_pay17 M) (k0_pay18 (k0_pay7 Q K)) (k0_pay19 (k0_pay7 Q K)) = storeM (lanes (scores true Q K)) M := by
  rfl
theorem ul1 : k0_pay23 (k0_pay5 V) (k0_pay16 (k0_pay7 Q K)) (k0_pay17 M) (k0_pay18 (k0_pay7 Q K)) (k0_pay19 (k0_pay7 Q K)) L
    = storeL V (lanes (scores true Q K)) M L := by
  rfl
theorem ua1 : k0_pay24 (k0_pay5 V) (k0_pay16 (k0_pay7 Q K)) (k0_pay17 M) (k0_pay18 (k0_pay7 Q K)) (k0_pay19 (k0_pay7 Q K)) A
    = storeA V (lanes (scores true Q K)) M A := by
  rfl
theorem mm0 : k0_pay37 (k0_pay31 Q K M) = storeM (lanes (causal (scores false Q K))) M := by
  rfl
theorem ml0 : k0_pay35 (k0_pay26 V) (k0_pay29 Q K) (k0_pay32 Q K M) (k0_pay33 Q K M) L = storeL V (lanes (causal (scores false Q K))) M L := by
  rfl
theorem ma0 : k0_pay36 (k0_pay26 V) (k0_pay29 Q K) (k0_pay32 Q K M) (k0_pay33 Q K M) A = storeA V (lanes (causal (scores false Q K))) M A := by
  rfl
theorem mm1 : k0_pay46 (k0_pay40 (k0_pay38 (k0_pay28 Q K)) M) = storeM (lanes (causal (scores true Q K))) M := by
  rfl
theorem ml1 : k0_pay43 (k0_pay26 V) (k0_pay38 (k0_pay28 Q K)) M L = storeL V (lanes (causal (scores true Q K))) M L := by
  rfl
theorem ma1 : k0_pay45 (k0_pay44 (k0_pay26 V) (k0_pay38 (k0_pay28 Q K)) M A) = storeA V (lanes (causal (scores true Q K))) M A := by
  rfl
end

end Cert.KernelIdeal.Attn

end
-- ==== Proof.Attn.Online.lean ====
/-
The online softmax over the extended reals: the maximum, the sum of the weights and the weighted values of the first
`n` scores, how they go on to more scores, and why the differential of two such averages, normalized, is the same
whether the division is done before or after the weighted sum.
-/
module

public import Idealize.ShloMosaic.PureOps.Ideal.Laws

@[expose] public section

noncomputable section

namespace Cert.Online

open Idealize.ShloMosaic

/-- The largest of the first `n` scores. -/
def Mx (sc : ℕ → EReal) (n : ℕ) : EReal := (Finset.range n).sup sc

/-- The sum of the first `n` weights. -/
def Lx (sc : ℕ → EReal) (n : ℕ) : EReal := ∑ p ∈ Finset.range n, Ideal.exp (sc p - Mx sc n)

/-- The weighted values of the first `n` keys. -/
def Ax (sc v : ℕ → EReal) (n : ℕ) : EReal := ∑ p ∈ Finset.range n, v p * Ideal.exp (sc p - Mx sc n)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_bot : Ideal.exp ⊥ = 0 := rfl
theorem exp_top : Ideal.exp ⊤ = ⊤ := rfl
theorem exp_coe (r : ℝ) : Ideal.exp (r : EReal) = (Real.exp r : EReal) := rfl

/-- The weight of a score not above the maximum, as a real number. -/
def ex (s m : EReal) : ℝ := (Ideal.exp (s - m)).toReal

theorem exp_sub {s m : EReal} (h : s ≤ m) : Ideal.exp (s - m) = (ex s m : EReal) := by
  unfold ex
  induction s using EReal.rec <;> induction m using EReal.rec <;>
    simp_all [exp_bot, exp_top, exp_coe, EReal.bot_sub, EReal.sub_top, ← EReal.coe_sub]

theorem ex_nonneg (s m : EReal) : 0 ≤ ex s m := by
  unfold ex
  apply EReal.toReal_nonneg
  generalize s - m = d
  induction d using EReal.rec <;> simp [exp_bot, exp_top, exp_coe, Real.exp_nonneg]

theorem ex_mul {s m m' : EReal} (h : s ≤ m) (h' : m ≤ m') : ex m m' * ex s m = ex s m' := by
  unfold ex
  induction s using EReal.rec <;> induction m using EReal.rec <;> induction m' using EReal.rec <;>
    simp_all [exp_bot, exp_top, exp_coe, EReal.bot_sub, EReal.sub_top, ← EReal.coe_sub, ← Real.exp_add]

theorem le_Mx {sc : ℕ → EReal} {n p : ℕ} (h : p < n) : sc p ≤ Mx sc n :=
  Finset.le_sup (f := sc) (Finset.mem_range.2 h)

theorem Mx_add (sc : ℕ → EReal) (n m : ℕ) :
    Mx sc (n + m) = max (Mx sc n) ((Finset.univ : Finset (Fin m)).sup fun i => sc (n + i.val)) := by
  apply le_antisymm
  · refine Finset.sup_le fun p hp => ?_
    rw [Finset.mem_range] at hp
    by_cases h : p < n
    · exact le_max_of_le_left (le_Mx h)
    · refine le_max_of_le_right ?_
      have := Finset.le_sup (f := fun i : Fin m => sc (n + i.val)) (Finset.mem_univ ⟨p - n, by omega⟩)
      rwa [show n + (p - n) = p by omega] at this
  · refine max_le (Finset.sup_le fun p hp => ?_) (Finset.sup_le fun i _ => ?_)
    · exact le_Mx (by rw [Finset.mem_range] at hp; omega)
    · exact le_Mx (by have := i.isLt; omega)

theorem Mx_mono (sc : ℕ → EReal) (n m : ℕ) : Mx sc n ≤ Mx sc (n + m) := by
  rw [Mx_add]; exact le_max_left _ _

theorem Mx_zero (sc : ℕ → EReal) : Mx sc 0 = ⊥ := by simp [Mx]
theorem Lx_zero (sc : ℕ → EReal) : Lx sc 0 = 0 := by simp [Lx]
theorem Ax_zero (sc v : ℕ → EReal) : Ax sc v 0 = 0 := by simp [Ax]

theorem Lx_coe (sc : ℕ → EReal) (n : ℕ) : Lx sc n = ((∑ p ∈ Finset.range n, ex (sc p) (Mx sc n) : ℝ) : EReal) := by
  unfold Lx
  rw [coe_sum]
  exact Finset.sum_congr rfl fun p hp => exp_sub (le_Mx (Finset.mem_range.1 hp))

theorem Ax_coe (sc : ℕ → EReal) (v : ℕ → ℝ) (n : ℕ) :
    Ax sc (fun p => (v p : EReal)) n = ((∑ p ∈ Finset.range n, v p * ex (sc p) (Mx sc n) : ℝ) : EReal) := by
  unfold Ax
  rw [coe_sum]
  exact Finset.sum_congr rfl fun p hp => by rw [exp_sub (le_Mx (Finset.mem_range.1 hp)), EReal.coe_mul]

theorem Lx_add (sc : ℕ → EReal) (n m : ℕ) :
    Lx sc (n + m) = Ideal.exp (Mx sc n - Mx sc (n + m)) * Lx sc n
      + ∑ i : Fin m, 1 * Ideal.exp (sc (n + i.val) - Mx sc (n + m)) := by
  rw [Lx_coe sc n, exp_sub (Mx_mono sc n m), ← EReal.coe_mul, Finset.mul_sum]
  unfold Lx
  rw [Finset.sum_range_add, ← Fin.sum_univ_eq_sum_range (fun i => Ideal.exp (sc (n + i) - Mx sc (n + m))), coe_sum]
  refine congrArg₂ (· + ·) (Finset.sum_congr rfl fun p hp => ?_) (Finset.sum_congr rfl fun i _ => (one_mul _).symm)
  rw [Finset.mem_range] at hp
  rw [ex_mul (le_Mx hp) (Mx_mono sc n m), exp_sub ((le_Mx hp).trans (Mx_mono sc n m))]

theorem Ax_add (sc : ℕ → EReal) (v : ℕ → EReal) (hv : ∀ p, ∃ r : ℝ, v p = r) (n m : ℕ) :
    Ax sc v (n + m) = Ax sc v n * Ideal.exp (Mx sc n - Mx sc (n + m))
      + ∑ i : Fin m, v (n + i.val) * Ideal.exp (sc (n + i.val) - Mx sc (n + m)) := by
  choose w hw using hv
  obtain rfl : v = fun p => (w p : EReal) := funext hw
  rw [Ax_coe sc w n, exp_sub (Mx_mono sc n m), ← EReal.coe_mul, Finset.sum_mul]
  unfold Ax
  rw [Finset.sum_range_add, ← Fin.sum_univ_eq_sum_range (fun i => (w (n + i) : EReal) * Ideal.exp (sc (n + i) - Mx sc (n + m))), coe_sum]
  refine congrArg₂ (· + ·) (Finset.sum_congr rfl fun p hp => ?_) rfl
  rw [Finset.mem_range] at hp
  rw [mul_assoc, mul_comm (ex _ _) (ex _ _), ex_mul (le_Mx hp) (Mx_mono sc n m), exp_sub ((le_Mx hp).trans (Mx_mono sc n m)), EReal.coe_mul]

/-- Scores that are all the least one leave the maximum as it is. -/
theorem Mx_tail (sc : ℕ → EReal) (n m : ℕ) (h : ∀ p, n ≤ p → sc p = ⊥) : Mx sc (n + m) = Mx sc n := by
  rw [Mx_add]
  refine max_eq_left (Finset.sup_le fun i _ => ?_)
  rw [h _ (Nat.le_add_right _ _)]
  exact bot_le

theorem Lx_tail (sc : ℕ → EReal) (n m : ℕ) (h : ∀ p, n ≤ p → sc p = ⊥) : Lx sc (n + m) = Lx sc n := by
  unfold Lx
  rw [Mx_tail sc n m h, Finset.sum_range_add]
  rw [Finset.sum_eq_zero (s := Finset.range m), add_zero]
  intro i _
  rw [h _ (Nat.le_add_right _ _), EReal.bot_sub]
  rfl

theorem Ax_tail (sc v : ℕ → EReal) (n m : ℕ) (h : ∀ p, n ≤ p → sc p = ⊥) : Ax sc v (n + m) = Ax sc v n := by
  unfold Ax
  rw [Mx_tail sc n m h, Finset.sum_range_add]
  rw [Finset.sum_eq_zero (s := Finset.range m), add_zero]
  intro i _
  rw [h _ (Nat.le_add_right _ _), EReal.bot_sub]
  exact mul_zero _

theorem div_zero_of_nonpos {x : EReal} (h : ¬ 0 < x) : Ideal.div x 0 = ⊥ := by simp [Ideal.div, h]

theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- An extended real that is nothing, or infinite. -/
def Wild (x : EReal) : Prop := x = 0 ∨ x = ⊤ ∨ x = ⊥

theorem wild_add {x y : EReal} (hx : Wild x) (hy : Wild y) : Wild (x + y) ∧ (x + y = 0 → x = 0 ∧ y = 0) := by
  rcases hx with rfl | rfl | rfl <;> rcases hy with rfl | rfl | rfl <;> simp [Wild]

theorem wild_sum {ι : Type*} (s : Finset ι) (f : ι → EReal) (h : ∀ i ∈ s, Wild (f i)) :
    Wild (∑ i ∈ s, f i) ∧ (∑ i ∈ s, f i = 0 → ∀ i ∈ s, f i = 0) := by
  classical
  induction s using Finset.induction_on with
  | empty => exact ⟨.inl (by simp), by simp⟩
  | insert a s ha ih =>
    have i1 := ih fun i hi => h i (Finset.mem_insert_of_mem hi)
    have i2 := wild_add (h a (Finset.mem_insert_self a s)) i1.1
    rw [Finset.sum_insert ha]
    refine ⟨i2.1, fun e i hi => ?_⟩
    have := i2.2 e
    rcases Finset.mem_insert.1 hi with rfl | hi
    · exact this.1
    · exact i1.2 this.2 i hi

/-- A column of 128 numbers scaled by the reciprocal root of their mean square. -/
def nrm (o : Fin 128 → EReal) (d : Fin 128) : EReal :=
  o d * Ideal.rsqrt (Ideal.div (∑ e : Fin 128, o e * o e) (Ideal.ofBits .f32 0x43000000#32) + Ideal.ofBits .f32 0x358637BD#32)

theorem sq_nonneg' (x : EReal) : 0 ≤ x * x := by
  induction x using EReal.rec with
  | bot => simp
  | top => simp
  | coe r => rw [← EReal.coe_mul]; exact_mod_cast mul_self_nonneg r

theorem c128 : Ideal.ofBits .f32 0x43000000#32 = ((128 : ℝ) : EReal) := by
  simp [Ideal.ofBits, Ideal.ieee]
  rw [← EReal.coe_mul]
  norm_num

theorem ceps : Ideal.ofBits .f32 0x358637BD#32 ≠ ⊥ := by
  simp [Ideal.ofBits, Ideal.ieee]
  exact EReal.coe_ne_bot _

theorem nrm_zero_of_wild (o : Fin 128 → EReal) (h : ∀ e, Wild (o e)) (d : Fin 128) : nrm o d = 0 := by
  unfold nrm
  by_cases h0 : o d = 0
  · rw [h0, zero_mul]
  · have hd : o d * o d = ⊤ := by
      rcases h d with e | e | e
      · exact absurd e h0
      · rw [e]; simp
      · rw [e]; simp
    have hs : ∑ e : Fin 128, o e * o e = ⊤ := by
      refine top_le_iff.1 ?_
      rw [← hd]
      exact Finset.single_le_sum (f := fun e => o e * o e) (fun e _ => sq_nonneg' (o e)) (Finset.mem_univ d)
    rw [hs, c128]
    have : Ideal.div ⊤ ((128 : ℝ) : EReal) = ⊤ := by
      unfold Ideal.div
      rw [if_neg (by exact_mod_cast (by norm_num : (128 : ℝ) ≠ 0)), ← EReal.coe_inv]
      exact EReal.top_mul_coe_of_pos (by norm_num)
    rw [this, EReal.top_add_of_ne_bot ceps]
    show o d * 0 = 0
    exact mul_zero _

/-- The two orders of division agree after the normalization. -/
theorem nrm_eq (s0 s1 : ℕ → EReal) (v : Fin 128 → ℕ → EReal) (hv : ∀ d p, ∃ r : ℝ, v d p = r) (lam : EReal)
    (hl : ∃ r : ℝ, lam = r) (N : ℕ) (d : Fin 128) :
    nrm (fun e => Ideal.div (Ax s0 (v e) N) (Lx s0 N) - lam * Ideal.div (Ax s1 (v e) N) (Lx s1 N)) d
      = nrm (fun e => ∑ p ∈ Finset.range N, v e p * (Ideal.div (Ideal.exp (s0 p - Mx s0 N)) (Lx s0 N)
          - lam * Ideal.div (Ideal.exp (s1 p - Mx s1 N)) (Lx s1 N))) d := by
  choose w hw using hv
  obtain rfl : v = fun d p => (w d p : EReal) := funext fun d => funext (hw d)
  obtain ⟨r, rfl⟩ := hl
  set L0 : ℝ := ∑ p ∈ Finset.range N, ex (s0 p) (Mx s0 N) with hL0
  set L1 : ℝ := ∑ p ∈ Finset.range N, ex (s1 p) (Mx s1 N) with hL1
  have e0 : ∀ p ∈ Finset.range N, Ideal.exp (s0 p - Mx s0 N) = (ex (s0 p) (Mx s0 N) : EReal) :=
    fun p hp => exp_sub (le_Mx (Finset.mem_range.1 hp))
  have e1 : ∀ p ∈ Finset.range N, Ideal.exp (s1 p - Mx s1 N) = (ex (s1 p) (Mx s1 N) : EReal) :=
    fun p hp => exp_sub (le_Mx (Finset.mem_range.1 hp))
  have z0 : L0 = 0 → ∀ p ∈ Finset.range N, ex (s0 p) (Mx s0 N) = 0 := fun h =>
    (Finset.sum_eq_zero_iff_of_nonneg fun p _ => ex_nonneg _ _).1 h
  have z1 : L1 = 0 → ∀ p ∈ Finset.range N, ex (s1 p) (Mx s1 N) = 0 := fun h =>
    (Finset.sum_eq_zero_iff_of_nonneg fun p _ => ex_nonneg _ _).1 h
  have hbb : Ideal.div 0 0 = ⊥ := div_zero_of_nonpos (lt_irrefl _)
  -- one infinite difference for every key, and so for both orders
  have wild : ∀ W : EReal, (W = ⊤ ∨ W = ⊥) →
      (∀ e, Ideal.div (Ax s0 (fun p => (w e p : EReal)) N) (L0 : EReal) - (r : EReal) * Ideal.div (Ax s1 (fun p => (w e p : EReal)) N) (L1 : EReal) = W) →
      (∀ p ∈ Finset.range N, Ideal.div (Ideal.exp (s0 p - Mx s0 N)) (L0 : EReal) - (r : EReal) * Ideal.div (Ideal.exp (s1 p - Mx s1 N)) (L1 : EReal) = W) →
      nrm (fun e => Ideal.div (Ax s0 (fun p => (w e p : EReal)) N) (L0 : EReal) - (r : EReal) * Ideal.div (Ax s1 (fun p => (w e p : EReal)) N) (L1 : EReal)) d
      = nrm (fun e => ∑ p ∈ Finset.range N, (w e p : EReal) * (Ideal.div (Ideal.exp (s0 p - Mx s0 N)) (L0 : EReal)
          - (r : EReal) * Ideal.div (Ideal.exp (s1 p - Mx s1 N)) (L1 : EReal))) d := by
    intro W hW h1 h2
    rw [nrm_zero_of_wild, nrm_zero_of_wild]
    · intro e
      refine (wild_sum _ _ fun p hp => ?_).1
      rw [h2 p hp]
      rcases lt_trichotomy (w e p) 0 with h | h | h
      · rcases hW with rfl | rfl
        · exact .inr (.inr (EReal.coe_mul_top_of_neg h))
        · exact .inr (.inl (EReal.coe_mul_bot_of_neg h))
      · rw [h]; exact .inl (by simp)
      · rcases hW with rfl | rfl
        · exact .inr (.inl (EReal.coe_mul_top_of_pos h))
        · exact .inr (.inr (EReal.coe_mul_bot_of_pos h))
    · intro e
      rw [h1 e]
      exact .inr hW
  rw [Lx_coe, Lx_coe, ← hL0, ← hL1]
  have a0 : L0 = 0 → ∀ e, Ax s0 (fun p => (w e p : EReal)) N = 0 := fun h e => by
    rw [Ax_coe, Finset.sum_eq_zero fun p hp => by rw [z0 h p hp, mul_zero]]; rfl
  have a1 : L1 = 0 → ∀ e, Ax s1 (fun p => (w e p : EReal)) N = 0 := fun h e => by
    rw [Ax_coe, Finset.sum_eq_zero fun p hp => by rw [z1 h p hp, mul_zero]]; rfl
  by_cases h0 : L0 = 0
  · refine wild ⊥ (.inr rfl) (fun e => ?_) (fun p hp => ?_)
    · rw [a0 h0 e, h0, EReal.coe_zero, hbb, EReal.bot_sub]
    · rw [e0 p hp, z0 h0 p hp, h0, EReal.coe_zero, hbb, EReal.bot_sub]
  · by_cases h1 : L1 = 0
    · by_cases hr : r = 0
      · subst hr
        congr 1
        funext e
        simp only [EReal.coe_zero, zero_mul, sub_zero]
        rw [Ax_coe, div_coe h0, Finset.sum_div, coe_sum]
        refine Finset.sum_congr rfl fun p hp => ?_
        rw [e0 p hp, div_coe h0, ← EReal.coe_mul, mul_div_assoc]
      · have hW : ∃ W : EReal, (W = ⊤ ∨ W = ⊥) ∧ ∀ x : ℝ, (x : EReal) - (r : EReal) * ⊥ = W := by
          rcases lt_or_gt_of_ne hr with h | h
          · exact ⟨⊥, .inr rfl, fun x => by rw [EReal.coe_mul_bot_of_neg h, EReal.sub_top]⟩
          · exact ⟨⊤, .inl rfl, fun x => by rw [EReal.coe_mul_bot_of_pos h]; exact EReal.coe_sub_bot x⟩
        obtain ⟨W, hW, hx⟩ := hW
        refine wild W hW (fun e => ?_) (fun p hp => ?_)
        · rw [a1 h1 e, h1, EReal.coe_zero, hbb, Ax_coe, div_coe h0, hx]
        · rw [e1 p hp, z1 h1 p hp, h1, EReal.coe_zero, hbb, e0 p hp, div_coe h0, hx]
    · congr 1
      funext e
      rw [Ax_coe, Ax_coe, div_coe h0, div_coe h1, ← EReal.coe_mul, ← EReal.coe_sub]
      have : ∀ p ∈ Finset.range N, (w e p : EReal) * (Ideal.div (Ideal.exp (s0 p - Mx s0 N)) (L0 : EReal)
          - (r : EReal) * Ideal.div (Ideal.exp (s1 p - Mx s1 N)) (L1 : EReal))
          = ((w e p * (ex (s0 p) (Mx s0 N) / L0 - r * (ex (s1 p) (Mx s1 N) / L1)) : ℝ) : EReal) := fun p hp => by
        rw [e0 p hp, e1 p hp, div_coe h0, div_coe h1, ← EReal.coe_mul, ← EReal.coe_sub, ← EReal.coe_mul]
      rw [Finset.sum_congr rfl this, ← coe_sum]
      refine congrArg _ ?_
      rw [Finset.sum_div, Finset.sum_div, Finset.mul_sum, ← Finset.sum_sub_distrib]
      exact Finset.sum_congr rfl fun p _ => by ring

/-- The gate's two spellings. -/
theorem gate (g : EReal) : Ideal.div g (1 + Ideal.exp (0 - g)) = g * Ideal.div 1 (1 + Ideal.exp (-g)) := by
  have h : ∀ x : EReal, 1 + Ideal.exp x ≠ 0 := fun x => by
    have : 0 ≤ Ideal.exp x := by
      induction x using EReal.rec with
      | bot => exact le_refl _
      | top => exact le_top
      | coe r => show (0 : EReal) ≤ ((Real.exp r : ℝ) : EReal); exact_mod_cast Real.exp_nonneg r
    exact ne_of_gt (lt_of_lt_of_le zero_lt_one (le_add_of_nonneg_right this))
  rw [zero_sub]
  unfold Ideal.div
  rw [if_neg (h _), if_neg (h _), one_mul]

end Cert.Online

end
-- ==== Proof.Attn.State.lean ====
/-
The running values after a number of keys are the maximum, the sum of weights and the weighted values of those keys:
one head keeps this, and so do the loops over the heads.
-/
module

public import proofs.«01_k».proof.Proof.Attn.Elem
public import proofs.«01_k».proof.Proof.Attn.Same
public import proofs.«01_k».proof.Proof.Attn.Online

@[expose] public section

set_option maxRecDepth 16384
set_option maxHeartbeats 1000000

noncomputable section

namespace Cert.KernelIdeal.Attn

open Idealize.ShloMosaic Idealize.ShloMosaic.ValueIdx Idealize.ShloMosaic.VecWindow
open Cert.KernelIdeal.Gen Cert.Online

/-- The running values of a head's component stand at the first `n` keys. -/
def Good (s : St Ideal) (h : Fin 8) (c : Fin 2) (sc : Fin 1024 → ℕ → EReal) (v : Fin 128 → ℕ → EReal) (n : ℕ) : Prop :=
  ∀ j : Fin 1024, (∀ u : Fin 8, s.m (ix4 h c u j) = Mx (sc j) n) ∧ (∀ u : Fin 8, s.l (ix4 h c u j) = Lx (sc j) n)
    ∧ ∀ d : Fin 128, s.a (ix4 h c d j) = Ax (sc j) (v d) n

theorem block_good (X : FVec Ideal S1024x1024 .f32) (V : Vec Ideal S128x1024 .bf16) (M L : Vec Ideal S1x1x8x1024 .f32) (A : Vec Ideal S1x1x128x1024 .f32)
    (sc : Fin 1024 → ℕ → EReal) (v : Fin 128 → ℕ → EReal) (n : ℕ) (hv : ∀ d p, ∃ r : ℝ, v d p = (r : EReal))
    (hX : ∀ i j : Fin 1024, X (ix2 i j) = sc j (n + i.val)) (hV : ∀ (d : Fin 128) (i : Fin 1024), V (ix2 d i) = v d (n + i.val))
    (j : Fin 1024) (hM : ∀ u : Fin 8, M (ix4 0 0 u j) = Mx (sc j) n) (hL : ∀ u : Fin 8, L (ix4 0 0 u j) = Lx (sc j) n)
    (hA : ∀ d : Fin 128, A (ix4 0 0 d j) = Ax (sc j) (v d) n) :
    (∀ u : Fin 8, storeM (lanes X) M (ix4 0 0 u j) = Mx (sc j) (n + 1024))
    ∧ (∀ u : Fin 8, storeL V (lanes X) M L (ix4 0 0 u j) = Lx (sc j) (n + 1024))
    ∧ ∀ d : Fin 128, storeA V (lanes X) M A (ix4 0 0 d j) = Ax (sc j) (v d) (n + 1024) := by
  have hN : ∀ u : Fin 8, nextM (lanes X) M (ix2 u j) = Mx (sc j) (n + 1024) := fun u => by
    rw [nextM_apply, hM, Mx_add]
    exact congrArg (max _) (Finset.sup_congr rfl fun i _ => hX i j)
  refine ⟨fun u => ?_, fun u => ?_, fun d => ?_⟩
  · rw [storeM_apply, hN]
  · rw [storeL_apply, hM, hL, hN, Lx_add]
    refine congrArg _ (Finset.sum_congr rfl fun i _ => ?_)
    rw [hN, hX]
  · rw [storeA_apply, hM, hA, hN, Ax_add _ _ (hv d)]
    refine congrArg _ (Finset.sum_congr rfl fun i _ => ?_)
    rw [hN, hX, hV]

theorem put4_same {n : ℕ} (x : (⟨4, ![8, 2, n, 1024]⟩ : Shape).Idx → EReal) (off : Fin 4 → ℕ) (h : Fin 8) (c : Fin 2) (e : off = ![h.val, c.val, 0, 0])
    (w : (⟨4, ![1, 1, n, 1024]⟩ : Shape).Idx → EReal) (u : Fin n) (j : Fin 1024) :
    put (s := ⟨4, ![8, 2, n, 1024]⟩) x off ![1, 1, n, 1024] w (ix4 h c u j) = w (ix4 0 0 u j) := by
  subst e
  unfold put
  rw [dif_pos]
  · refine congrArg w (funext fun a => Fin.ext ?_)
    match a with
    | ⟨0, _⟩ => exact Nat.sub_self _
    | ⟨1, _⟩ => exact Nat.sub_self _
    | ⟨2, _⟩ => rfl
    | ⟨3, _⟩ => rfl
  · intro a
    match a with
    | ⟨0, _⟩ => exact ⟨Nat.le_refl _, Nat.lt_succ_self _⟩
    | ⟨1, _⟩ => exact ⟨Nat.le_refl _, Nat.lt_succ_self _⟩
    | ⟨2, _⟩ => exact ⟨Nat.zero_le _, by show u.val < 0 + n; omega⟩
    | ⟨3, _⟩ => exact ⟨Nat.zero_le _, by show j.val < 0 + 1024; omega⟩

theorem put4_other {n : ℕ} (x : (⟨4, ![8, 2, n, 1024]⟩ : Shape).Idx → EReal) (off : Fin 4 → ℕ) (h : Fin 8) (c : Fin 2) (e : off = ![h.val, c.val, 0, 0])
    (w : (⟨4, ![1, 1, n, 1024]⟩ : Shape).Idx → EReal) (h' : Fin 8) (c' : Fin 2) (hne : h' ≠ h ∨ c' ≠ c) (u : Fin n) (j : Fin 1024) :
    put (s := ⟨4, ![8, 2, n, 1024]⟩) x off ![1, 1, n, 1024] w (ix4 h' c' u j) = x (ix4 h' c' u j) := by
  subst e
  unfold put
  rw [dif_neg]
  intro hall
  have h0 : h.val ≤ h'.val ∧ h'.val < h.val + 1 := hall 0
  have h1 : c.val ≤ c'.val ∧ c'.val < c.val + 1 := hall 1
  rcases hne with hne | hne
  · exact hne (Fin.ext (by omega))
  · exact hne (Fin.ext (by omega))

theorem window4 {n : ℕ} (x : (⟨4, ![8, 2, n, 1024]⟩ : Shape).Idx → EReal) (off : Fin 4 → ℕ) (h : Fin 8) (c : Fin 2) (e : off = ![h.val, c.val, 0, 0])
    (inb : ∀ a, off a + (![1, 1, n, 1024] : Fin 4 → ℕ) a ≤ (![8, 2, n, 1024] : Fin 4 → ℕ) a) (u : Fin n) (j : Fin 1024) :
    window (s := ⟨4, ![8, 2, n, 1024]⟩) x off ![1, 1, n, 1024] inb (ix4 0 0 u j : (⟨4, ![1, 1, n, 1024]⟩ : Shape).Idx) = x (ix4 h c u j) := by
  subst e
  unfold window
  refine congrArg x (funext fun a => Fin.ext ?_)
  match a with
  | ⟨0, _⟩ => rfl
  | ⟨1, _⟩ => rfl
  | ⟨2, _⟩ => show 0 + 1 * u.val = u.val; omega
  | ⟨3, _⟩ => show 0 + 1 * j.val = j.val; omega

/-- One head: its two components go on by a block, the other heads stay. -/
theorem head_good (s s' : St Ideal) (k : Fin 8) (o0 o1 p0 p1 : Fin 4 → ℕ) (eo0 : o0 = ![k.val, 0, 0, 0]) (eo1 : o1 = ![k.val, 1, 0, 0])
    (ep0 : p0 = ![k.val, 0, 0, 0]) (ep1 : p1 = ![k.val, 1, 0, 0])
    (io0 : ∀ a, o0 a + S1x1x8x1024.size a ≤ S8x2x8x1024.size a) (io1 : ∀ a, o1 a + S1x1x8x1024.size a ≤ S8x2x8x1024.size a)
    (ip0 : ∀ a, p0 a + S1x1x128x1024.size a ≤ S8x2x128x1024.size a) (ip1 : ∀ a, p1 a + S1x1x128x1024.size a ≤ S8x2x128x1024.size a)
    (X0 X1 : FVec Ideal S1024x1024 .f32) (V : Vec Ideal S128x1024 .bf16)
    (hs : s' = ⟨put (put s.m o0 S1x1x8x1024.size (storeM (lanes X0) (window s.m o0 S1x1x8x1024.size io0))) o1 S1x1x8x1024.size
        (storeM (lanes X1) (window s.m o1 S1x1x8x1024.size io1)),
      put (put s.l o0 S1x1x8x1024.size (storeL V (lanes X0) (window s.m o0 S1x1x8x1024.size io0) (window s.l o0 S1x1x8x1024.size io0))) o1 S1x1x8x1024.size
        (storeL V (lanes X1) (window s.m o1 S1x1x8x1024.size io1) (window s.l o1 S1x1x8x1024.size io1)),
      put (put s.a p0 S1x1x128x1024.size (storeA V (lanes X0) (window s.m o0 S1x1x8x1024.size io0) (window s.a p0 S1x1x128x1024.size ip0))) p1 S1x1x128x1024.size
        (storeA V (lanes X1) (window s.m o1 S1x1x8x1024.size io1) (window s.a p1 S1x1x128x1024.size ip1))⟩)
    (sc : Fin 2 → Fin 1024 → ℕ → EReal) (v : Fin 128 → ℕ → EReal) (n : ℕ) (hv : ∀ d p, ∃ r : ℝ, v d p = (r : EReal))
    (hX0 : ∀ i j : Fin 1024, X0 (ix2 i j) = sc 0 j (n + i.val)) (hX1 : ∀ i j : Fin 1024, X1 (ix2 i j) = sc 1 j (n + i.val))
    (hV : ∀ (d : Fin 128) (i : Fin 1024), V (ix2 d i) = v d (n + i.val)) (hg : ∀ c, Good s k c (sc c) v n) :
    (∀ c, Good s' k c (sc c) v (n + 1024)) ∧ ∀ (h : Fin 8) (c : Fin 2) sc' v' n', h ≠ k → Good s h c sc' v' n' → Good s' h c sc' v' n' := by
  subst hs
  refine ⟨fun c j => ?_, fun h c sc' v' n' hne hG j => ?_⟩
  · match c with
    | ⟨0, _⟩ =>
      have hb := block_good X0 V (window s.m o0 S1x1x8x1024.size io0) (window s.l o0 S1x1x8x1024.size io0) (window s.a p0 S1x1x128x1024.size ip0) (sc 0) v n hv hX0 hV j
        (fun u => (window4 s.m o0 k 0 eo0 io0 u j).trans ((hg 0 j).1 u)) (fun u => (window4 s.l o0 k 0 eo0 io0 u j).trans ((hg 0 j).2.1 u))
        (fun d => (window4 s.a p0 k 0 ep0 ip0 d j).trans ((hg 0 j).2.2 d))
      refine ⟨fun u => ?_, fun u => ?_, fun d => ?_⟩
      · exact (put4_other _ _ k 1 eo1 _ k 0 (.inr (by decide)) u j).trans ((put4_same _ _ k 0 eo0 _ u j).trans (hb.1 u))
      · exact (put4_other _ _ k 1 eo1 _ k 0 (.inr (by decide)) u j).trans ((put4_same _ _ k 0 eo0 _ u j).trans (hb.2.1 u))
      · exact (put4_other _ _ k 1 ep1 _ k 0 (.inr (by decide)) d j).trans ((put4_same _ _ k 0 ep0 _ d j).trans (hb.2.2 d))
    | ⟨1, _⟩ =>
      have hb := block_good X1 V (window s.m o1 S1x1x8x1024.size io1) (window s.l o1 S1x1x8x1024.size io1) (window s.a p1 S1x1x128x1024.size ip1) (sc 1) v n hv hX1 hV j
        (fun u => (window4 s.m o1 k 1 eo1 io1 u j).trans ((hg 1 j).1 u)) (fun u => (window4 s.l o1 k 1 eo1 io1 u j).trans ((hg 1 j).2.1 u))
        (fun d => (window4 s.a p1 k 1 ep1 ip1 d j).trans ((hg 1 j).2.2 d))
      exact ⟨fun u => (put4_same _ _ k 1 eo1 _ u j).trans (hb.1 u), fun u => (put4_same _ _ k 1 eo1 _ u j).trans (hb.2.1 u),
        fun d => (put4_same _ _ k 1 ep1 _ d j).trans (hb.2.2 d)⟩
  · refine ⟨fun u => ?_, fun u => ?_, fun d => ?_⟩
    · exact (put4_other _ _ k 1 eo1 _ h c (.inl hne) u j).trans ((put4_other _ _ k 0 eo0 _ h c (.inl hne) u j).trans ((hG j).1 u))
    · exact (put4_other _ _ k 1 eo1 _ h c (.inl hne) u j).trans ((put4_other _ _ k 0 eo0 _ h c (.inl hne) u j).trans ((hG j).2.1 u))
    · exact (put4_other _ _ k 1 ep1 _ h c (.inl hne) d j).trans ((put4_other _ _ k 0 ep0 _ h c (.inl hne) d j).trans ((hG j).2.2 d))

/-- Row (or column) `r` of head `h`. -/
def row (h : Fin 8) (r : Fin 128) : Fin 1024 := ⟨128 * h.val + r.val, by omega⟩

/-- Row `r` of the half of a component. -/
def half (c : Fin 2) (r : Fin 64) : Fin 128 := ⟨64 * c.val + r.val, by omega⟩

/-- A head's scores of a component in a block. -/
def bsc (q kk : Vec Ideal S1024x1024 .bf16) (h : Fin 8) (c : Fin 2) (i j : Fin 1024) : EReal :=
  ∑ r : Fin 64, kk (ix2 i (row h (half c r))) * q (ix2 (row h (half c r)) j)

theorem windowQ (x : Vec Ideal S1024x1024 .bf16) (off : Fin 2 → ℕ) (k : Fin 8) (e : off = ![128 * k.val, 0])
    (inb : ∀ a, off a + S128x1024.size a ≤ S1024x1024.size a) (r : Fin 128) (j : Fin 1024) :
    window (s := S1024x1024) x off S128x1024.size inb (ix2 r j : S128x1024.Idx) = x (ix2 (row k r) j) := by
  subst e
  unfold window
  refine congrArg x (funext fun a => Fin.ext ?_)
  match a with
  | ⟨0, _⟩ => show 128 * k.val + 1 * r.val = 128 * k.val + r.val; omega
  | ⟨1, _⟩ => show 0 + 1 * j.val = j.val; omega

theorem windowK {e : EltTy} (x : Vec Ideal S1024x1024 e) (off : Fin 2 → ℕ) (k : Fin 8) (e : off = ![0, 128 * k.val])
    (inb : ∀ a, off a + S1024x128.size a ≤ S1024x1024.size a) (i : Fin 1024) (r : Fin 128) :
    window (s := S1024x1024) x off S1024x128.size inb (ix2 i r : S1024x128.Idx) = x (ix2 i (row k r)) := by
  subst e
  unfold window
  refine congrArg x (funext fun a => Fin.ext ?_)
  match a with
  | ⟨0, _⟩ => show 0 + 1 * i.val = i.val; omega
  | ⟨1, _⟩ => show 128 * k.val + 1 * r.val = 128 * k.val + r.val; omega

theorem scores_bsc (q kk : Vec Ideal S1024x1024 .bf16) (oq ok : Fin 2 → ℕ) (k : Fin 8) (eq : oq = ![128 * k.val, 0]) (ek : ok = ![0, 128 * k.val])
    (iq : ∀ a, oq a + S128x1024.size a ≤ S1024x1024.size a) (ik : ∀ a, ok a + S1024x128.size a ≤ S1024x1024.size a) (hi : Bool) (c : Fin 2)
    (hc : c.val = hi.toNat) (i j : Fin 1024) :
    scores hi (window (s := S1024x1024) q oq S128x1024.size iq) (window (s := S1024x1024) kk ok S1024x128.size ik) (ix2 i j) = bsc q kk k c i j := by
  rw [scores_apply]
  unfold bsc
  refine Finset.sum_congr rfl fun r _ => ?_
  have e : ∀ hh, (⟨64 * hi.toNat + r.val, hh⟩ : Fin 128) = half c r := fun hh => Fin.ext (by show _ = 64 * c.val + r.val; rw [hc])
  rw [e]
  exact congrArg₂ (· * ·) (windowK kk ok k ek ik i _) (windowQ q oq k eq iq _ j)

section
variable (q kk v : Vec Ideal S1024x1024 .bf16) (sc : Fin 8 → Fin 2 → Fin 1024 → ℕ → EReal) (vv : Fin 8 → Fin 128 → ℕ → EReal) (n : ℕ)
  (hv : ∀ h d p, ∃ r : ℝ, vv h d p = (r : EReal)) (hV : ∀ (h : Fin 8) (d : Fin 128) (i : Fin 1024), v (ix2 (row h d) i) = vv h d (n + i.val))
  (s : St Ideal) (hs : ∀ h c, Good s h c (sc h c) (vv h) n)

include hv hV hs

theorem runU_good (hX : ∀ h c (i j : Fin 1024), bsc q kk h c i j = sc h c j (n + i.val)) (m : ℕ) (hm : m ≤ 8) (h : Fin 8) (c : Fin 2) :
    Good (runU q kk v s m) h c (sc h c) (vv h) (if h.val < m then n + 1024 else n) := by
  induction m generalizing h c with
  | zero => exact hs h c
  | succ m ih =>
    have ht : m < k0_t1_loop.trips := by rw [show k0_t1_loop.trips = 8 from by decide]; omega
    rw [runU, dif_pos ht]
    have hk : ∀ c, Good (runU q kk v s m) (⟨m, by omega⟩ : Fin 8) c (sc _ c) (vv _) n := fun c => by
      have := ih (by omega) ⟨m, by omega⟩ c
      rwa [if_neg (Nat.lt_irrefl m)] at this
    have hstep := head_good (runU q kk v s m) (stepU q kk v ⟨m, ht⟩ (runU q kk v s m)) ⟨m, by omega⟩ _ _ _ _
      (k0_off4_eq _) (k0_off6_eq _) (k0_off5_eq _) (k0_off7_eq _) (k0_off4_inb ⟨m, ht⟩) (k0_off6_inb ⟨m, ht⟩) (k0_off5_inb ⟨m, ht⟩) (k0_off7_inb ⟨m, ht⟩)
      (scores false (window q (k0_off2 ⟨m, ht⟩) S128x1024.size (k0_off2_inb ⟨m, ht⟩)) (window kk (k0_off3 ⟨m, ht⟩) S1024x128.size (k0_off3_inb ⟨m, ht⟩)))
      (scores true (window q (k0_off2 ⟨m, ht⟩) S128x1024.size (k0_off2_inb ⟨m, ht⟩)) (window kk (k0_off3 ⟨m, ht⟩) S1024x128.size (k0_off3_inb ⟨m, ht⟩)))
      (window v (k0_off2 ⟨m, ht⟩) S128x1024.size (k0_off2_inb ⟨m, ht⟩))
      (by unfold stepU; dsimp only; rw [um0, ul0, ua0, um1, ul1, ua1]; rfl)
      (sc ⟨m, by omega⟩) (vv ⟨m, by omega⟩) n (hv _)
      (fun i j => (scores_bsc q kk _ _ ⟨m, by omega⟩ (k0_off2_eq _) (k0_off3_eq _) _ _ false 0 rfl i j).trans (hX _ _ i j))
      (fun i j => (scores_bsc q kk _ _ ⟨m, by omega⟩ (k0_off2_eq _) (k0_off3_eq _) _ _ true 1 rfl i j).trans (hX _ _ i j))
      (fun d i => (windowQ v _ ⟨m, by omega⟩ (k0_off2_eq _) _ d i).trans (hV _ d i)) hk
    by_cases e : h.val = m
    · subst e
      rw [if_pos (Nat.lt_succ_self _)]
      exact hstep.1 c
    · have := hstep.2 h c _ _ _ (fun e' => e (congrArg Fin.val e')) (ih (by omega) h c)
      have e2 : (if h.val < m + 1 then n + 1024 else n) = if h.val < m then n + 1024 else n := by
        by_cases hlt : h.val < m
        · rw [if_pos hlt, if_pos (by omega)]
        · rw [if_neg hlt, if_neg (by omega)]
      rwa [e2]

theorem runM_good (hX : ∀ h c (i j : Fin 1024), (if i.val ≤ j.val then bsc q kk h c i j else ⊥) = sc h c j (n + i.val)) (m : ℕ) (hm : m ≤ 8) (h : Fin 8) (c : Fin 2) :
    Good (runM q kk v s m) h c (sc h c) (vv h) (if h.val < m then n + 1024 else n) := by
  induction m generalizing h c with
  | zero => exact hs h c
  | succ m ih =>
    have ht : m < k0_t2_loop.trips := by rw [show k0_t2_loop.trips = 8 from by decide]; omega
    rw [runM, dif_pos ht]
    have hk : ∀ c, Good (runM q kk v s m) (⟨m, by omega⟩ : Fin 8) c (sc _ c) (vv _) n := fun c => by
      have := ih (by omega) ⟨m, by omega⟩ c
      rwa [if_neg (Nat.lt_irrefl m)] at this
    have hstep := head_good (runM q kk v s m) (stepM q kk v ⟨m, ht⟩ (runM q kk v s m)) ⟨m, by omega⟩ _ _ _ _
      (k0_off10_eq _) (k0_off12_eq _) (k0_off11_eq _) (k0_off13_eq _) (k0_off10_inb ⟨m, ht⟩) (k0_off12_inb ⟨m, ht⟩) (k0_off11_inb ⟨m, ht⟩) (k0_off13_inb ⟨m, ht⟩)
      (causal (scores false (window q (k0_off8 ⟨m, ht⟩) S128x1024.size (k0_off8_inb ⟨m, ht⟩)) (window kk (k0_off9 ⟨m, ht⟩) S1024x128.size (k0_off9_inb ⟨m, ht⟩))))
      (causal (scores true (window q (k0_off8 ⟨m, ht⟩) S128x1024.size (k0_off8_inb ⟨m, ht⟩)) (window kk (k0_off9 ⟨m, ht⟩) S1024x128.size (k0_off9_inb ⟨m, ht⟩))))
      (window v (k0_off8 ⟨m, ht⟩) S128x1024.size (k0_off8_inb ⟨m, ht⟩))
      (by unfold stepM; dsimp only; rw [mm0, ml0, ma0, mm1, ml1, ma1]; rfl)
      (sc ⟨m, by omega⟩) (vv ⟨m, by omega⟩) n (hv _)
      (fun i j => (causal_apply _ i j).trans ((congrArg (fun x => if i.val ≤ j.val then x else ⊥)
        (scores_bsc q kk _ _ ⟨m, by omega⟩ (k0_off8_eq _) (k0_off9_eq _) _ _ false 0 rfl i j)).trans (hX _ _ i j)))
      (fun i j => (causal_apply _ i j).trans ((congrArg (fun x => if i.val ≤ j.val then x else ⊥)
        (scores_bsc q kk _ _ ⟨m, by omega⟩ (k0_off8_eq _) (k0_off9_eq _) _ _ true 1 rfl i j)).trans (hX _ _ i j)))
      (fun d i => (windowQ v _ ⟨m, by omega⟩ (k0_off8_eq _) _ d i).trans (hV _ d i)) hk
    by_cases e : h.val = m
    · subst e
      rw [if_pos (Nat.lt_succ_self _)]
      exact hstep.1 c
    · have := hstep.2 h c _ _ _ (fun e' => e (congrArg Fin.val e')) (ih (by omega) h c)
      have e2 : (if h.val < m + 1 then n + 1024 else n) = if h.val < m then n + 1024 else n := by
        by_cases hlt : h.val < m
        · rw [if_pos hlt, if_pos (by omega)]
        · rw [if_neg hlt, if_neg (by omega)]
      rwa [e2]

end

end Cert.KernelIdeal.Attn

end
-- ==== Proof.Attn.Fin.lean ====
/-
The elements of what a head writes once its last block of keys is in: the difference of the two quotients, normalised
over the head's 128 columns, weighted and gated.
-/
module

public import proofs.«01_k».proof.Proof.Attn.State

@[expose] public section

set_option maxRecDepth 16384
set_option maxHeartbeats 1000000

noncomputable section

namespace Cert.KernelIdeal.Attn

open Idealize.ShloMosaic Idealize.ShloMosaic.ValueIdx Idealize.ShloMosaic.VecWindow
open Cert.KernelIdeal.Gen Cert.Online

/-- The difference of the two quotients, columns of queries. -/
def diffT (lam : FVec Ideal S1x1 .f32) (D0 A1 : FVec Ideal S16x8x1024 .f32) (L : Vec Ideal S1x1x8x1024 .f32) : FVec Ideal S128x1024 .f32 :=
  shapeCast S128x1024 (subf D0 (mulf (broadcastTo S16x8x1024 (shapeCast S1x1x1 lam shapeCasts_S1x1_S1x1x1) broadcasts_S1x1x1_S16x8x1024)
    (divf A1 (broadcastTo S16x8x1024 (shapeCast S1x8x1024 (shapeCast S8x1024 L shapeCasts_S1x1x8x1024_S8x1024) shapeCasts_S8x1024_S1x8x1024) broadcasts_S1x8x1024_S16x8x1024))))
    shapeCasts_S16x8x1024_S128x1024

/-- The rest of the way from the difference, rows of queries. -/
def wayOut (o : FVec Ideal S1024x128 .f32) (sg : Vec Ideal S1x128 .f32) (pj : Vec Ideal S1024x128 .f32) : FVec Ideal S1024x128 .bf16 :=
  truncf .bf16 (mulf (mulf (mulf (mulf o (broadcastTo S1024x128 (rsqrt (addf (divf (shapeCast S1024x1
    (multiReduction .add [1] S1024 (mulf o o) 0x00000000#32 reduces_S1024x128_S1024 (.inl rfl) rfl) shapeCasts_S1024_S1024x1)
    (broadcast S1024x1 (Scalar.ofBits .f32 0x43000000#32))) (broadcast S1024x1 (Scalar.ofBits .f32 0x358637BD#32)))) broadcasts_S1024x1_S1024x128))
    (broadcastTo S1024x128 (shapeCast S1x128 sg shapeCasts_S1x128_S1x128) broadcasts_S1x128_S1024x128))
    (broadcast S1024x128 (Scalar.ofBits .f32 0x3F4CCCCD#32)))
    (divf pj (addf (broadcast S1024x128 (Scalar.ofBits .f32 0x3F800000#32)) (exp (subf (broadcast S1024x128 (Scalar.ofBits .f32 0x00000000#32)) pj)))))
    bitsLt_bf16_f32

theorem pay4_eq (lam : FVec Ideal S1x1 .f32) (D0 A1 : FVec Ideal S16x8x1024 .f32) (L : Vec Ideal S1x1x8x1024 .f32) (sg : Vec Ideal S1x128 .f32)
    (pj : Vec Ideal S1024x128 .f32) :
    k0_pay4 lam D0 A1 L sg pj = wayOut (transpose S1024x128 [1, 0] (diffT lam D0 A1 L) transposes_S128x1024_p1_0_S1024x128) sg pj := by
  rfl

theorem rowsum_apply (x : FVec Ideal S1024x128 .f32) (j : Fin 1024) :
    multiReduction .add [1] S1024 x 0x00000000#32 reduces_S1024x128_S1024 (.inl rfl) rfl (ix1 j) = ∑ e : Fin 128, x (ix2 j e) := by
  refine (Ideal.multiReduction_add_single x _ _ _ _ _).trans ?_
  refine Finset.sum_congr rfl fun e _ => congrArg x (funext fun a => ?_)
  match a with
  | ⟨0, _⟩ => rfl
  | ⟨1, _⟩ => rfl

theorem one_f32 : (Scalar.ofBits (F := Ideal) .f32 0x3F800000#32 : EReal) = 1 := by
  show Ideal.ofBits .f32 0x3F800000#32 = 1
  simp [Ideal.ofBits, Ideal.ieee]
  rw [← EReal.coe_mul]
  norm_num

theorem zero_f32 : (Scalar.ofBits (F := Ideal) .f32 0x00000000#32 : EReal) = 0 := by
  show Ideal.ofBits .f32 0x00000000#32 = 0
  simp [Ideal.ofBits, Ideal.ieee]

theorem rsqrt_apply {s : Shape} {φ : FTy} (x : FVec Ideal s φ) (i : s.Idx) : rsqrt x i = Ideal.rsqrt (x i) := rfl

theorem wayOut_apply (o : FVec Ideal S1024x128 .f32) (sg : Vec Ideal S1x128 .f32) (pj : Vec Ideal S1024x128 .f32) (j : Fin 1024) (d : Fin 128) :
    wayOut o sg pj (ix2 j d) = nrm (fun e => o (ix2 j e)) d * sg (ix2 0 d) * Ideal.ofBits .f32 0x3F4CCCCD#32
      * Ideal.div (pj (ix2 j d)) (1 + Ideal.exp (0 - pj (ix2 j d))) := by
  unfold wayOut
  rw [truncf_apply, mulf_apply, mulf_apply, mulf_apply, mulf_apply, divf_apply, addf_apply, exp_apply, subf_apply, broadcast_apply, broadcast_apply,
    broadcast_apply, one_f32, zero_f32,
    broadcastTo_apply _ _ _ (ix2 j 0) (fun a => by
      match a with
      | ⟨0, _⟩ => rfl
      | ⟨1, _⟩ => rfl),
    broadcastTo_apply _ _ _ (ix2 0 d) (fun a => by
      match a with
      | ⟨0, _⟩ => rfl
      | ⟨1, _⟩ => rfl),
    shapeCast_self, rsqrt_apply, addf_apply, divf_apply, broadcast_apply, broadcast_apply,
    shapeCast_apply _ _ _ (ix1 j) (by rw [rowMajor2, Shape.rowMajor_val_one]; simp), rowsum_apply]
  rfl

theorem diffT_apply (lam : FVec Ideal S1x1 .f32) (D0 A1 : FVec Ideal S16x8x1024 .f32) (L : Vec Ideal S1x1x8x1024 .f32) (d : Fin 128) (j : Fin 1024) :
    diffT lam D0 A1 L (ix2 d j) = D0 (ix3 ⟨d.val / 8, by omega⟩ ⟨d.val % 8, Nat.mod_lt _ (by decide)⟩ j)
      - lam (ix2 0 0) * Ideal.div (A1 (ix3 ⟨d.val / 8, by omega⟩ ⟨d.val % 8, Nat.mod_lt _ (by decide)⟩ j))
        (L (ix4 0 0 ⟨d.val % 8, Nat.mod_lt _ (by decide)⟩ j)) := by
  unfold diffT
  rw [shapeCast_apply _ _ _ (ix3 ⟨d.val / 8, by omega⟩ ⟨d.val % 8, Nat.mod_lt _ (by decide)⟩ j)
      (by rw [rowMajor3, rowMajor2]; show (d.val / 8 * 8 + d.val % 8) * 1024 + j.val = d.val * 1024 + j.val; omega), subf_apply, mulf_apply, divf_apply,
    broadcastTo_apply _ _ _ (ix3 0 ⟨d.val % 8, Nat.mod_lt _ (by decide)⟩ j) (fun a => by
      match a with
      | ⟨0, _⟩ => rfl
      | ⟨1, _⟩ => rfl
      | ⟨2, _⟩ => rfl),
    broadcastTo_apply _ _ _ (ix3 0 0 0) (fun a => by
      match a with
      | ⟨0, _⟩ => rfl
      | ⟨1, _⟩ => rfl
      | ⟨2, _⟩ => rfl),
    shapeCast_apply _ _ _ (ix2 ⟨d.val % 8, Nat.mod_lt _ (by decide)⟩ j) (by rw [rowMajor3, rowMajor2]; simp),
    shapeCast_apply L _ _ (ix4 0 0 ⟨d.val % 8, Nat.mod_lt _ (by decide)⟩ j) (by rw [rowMajor4, rowMajor2]; simp),
    shapeCast_apply lam _ _ (ix2 0 0) (by rw [rowMajor3, rowMajor2]; simp)]

theorem pay49_apply (A : Vec Ideal S1x1x128x1024 .f32) (d : Fin 128) (j : Fin 1024) :
    k0_pay49 A (ix3 ⟨d.val / 8, by omega⟩ ⟨d.val % 8, Nat.mod_lt _ (by decide)⟩ j) = A (ix4 0 0 d j) := by
  unfold k0_pay49
  rw [shapeCast_apply _ _ _ (ix2 d j) (by rw [rowMajor3, rowMajor2]; show d.val * 1024 + j.val = (d.val / 8 * 8 + d.val % 8) * 1024 + j.val; omega),
    shapeCast_apply A _ _ (ix4 0 0 d j) (by rw [rowMajor4, rowMajor2]; simp)]

theorem pay48_apply (A : Vec Ideal S1x1x128x1024 .f32) (L : Vec Ideal S1x1x8x1024 .f32) (d : Fin 128) (j : Fin 1024) :
    k0_pay48 A L (ix3 ⟨d.val / 8, by omega⟩ ⟨d.val % 8, Nat.mod_lt _ (by decide)⟩ j)
      = Ideal.div (A (ix4 0 0 d j)) (L (ix4 0 0 ⟨d.val % 8, Nat.mod_lt _ (by decide)⟩ j)) := by
  have h := pay49_apply A d j
  unfold k0_pay48
  rw [divf_apply,
    broadcastTo_apply _ _ _ (ix3 0 ⟨d.val % 8, Nat.mod_lt _ (by decide)⟩ j) (fun a => by
      match a with
      | ⟨0, _⟩ => rfl
      | ⟨1, _⟩ => rfl
      | ⟨2, _⟩ => rfl),
    shapeCast_apply _ _ _ (ix2 ⟨d.val % 8, Nat.mod_lt _ (by decide)⟩ j) (by rw [rowMajor3, rowMajor2]; simp),
    shapeCast_apply L _ _ (ix4 0 0 ⟨d.val % 8, Nat.mod_lt _ (by decide)⟩ j) (by rw [rowMajor4, rowMajor2]; simp)]
  exact congrArg (Ideal.div · _) h

/-- The weight of the second component. -/
def lamV (l : Fin 4 → Fin 64 → EReal) : EReal :=
  Ideal.exp (∑ k, l 0 k * l 1 k) - Ideal.exp (∑ k, l 2 k * l 3 k) + Ideal.ofBits .f32 0x3E4CCCCD#32

theorem lamsum_apply (x : FVec Ideal S1x64 .f32) :
    multiReduction .add [1] S1 x 0x00000000#32 reduces_S1x64_S1 (.inl rfl) rfl (ix1 0) = ∑ e : Fin 64, x (ix2 0 e) := by
  refine (Ideal.multiReduction_add_single x _ _ _ _ _).trans ?_
  refine Finset.sum_congr rfl fun e _ => congrArg x (funext fun a => ?_)
  match a with
  | ⟨0, _⟩ => rfl
  | ⟨1, _⟩ => rfl

theorem pay47_apply (l : Vec Ideal S4x64 .f32) : k0_pay47 l (ix2 0 0) = lamV fun a k => l (ix2 a k) := by
  unfold k0_pay47
  dsimp only
  rw [addf_apply, subf_apply, exp_apply, exp_apply, broadcast_apply, shapeCast_apply _ _ _ (ix1 0) (by rw [rowMajor2, Shape.rowMajor_val_one]; simp),
    shapeCast_apply _ _ _ (ix1 0) (by rw [rowMajor2, Shape.rowMajor_val_one]; simp), lamsum_apply, lamsum_apply]
  unfold lamV
  have hs : ∀ (r : Fin 4) (off : Fin 2 → ℕ) (e : off = ![r.val, 0]) (hx) (k : Fin 64), extractStridedSlice S1x64 off l hx (ix2 0 k) = l (ix2 r k) :=
    fun r off e hx k => by
      subst e
      exact extractStridedSlice_apply _ _ _ _ _ (fun a => by
        match a with
        | ⟨0, _⟩ => rfl
        | ⟨1, _⟩ => exact (Nat.zero_add _).symm)
  refine congrArg₂ (· + ·) (congrArg₂ (· - ·) (congrArg Ideal.exp (Finset.sum_congr rfl fun k _ => ?_)) (congrArg Ideal.exp (Finset.sum_congr rfl fun k _ => ?_))) rfl
  · exact congrArg₂ (· * ·) (hs 0 _ rfl _ k) (hs 1 _ rfl _ k)
  · exact congrArg₂ (· * ·) (hs 2 _ rfl _ k) (hs 3 _ rfl _ k)

/-- What a head writes, when its running values stand at the first `n` keys. -/
theorem finish_good (pj : Vec Ideal S1024x1024 .f32) (lam : Vec Ideal S4x64 .f32) (sg : Vec Ideal S1x128 .f32) (k : Fin k0_t2_loop.trips) (h : Fin 8)
    (hk : k.val = h.val) (s : St Ideal) (sc : Fin 2 → Fin 1024 → ℕ → EReal) (v : Fin 128 → ℕ → EReal) (n : ℕ) (hg : ∀ c, Good s h c (sc c) v n)
    (j : Fin 1024) (d : Fin 128) :
    finish pj lam sg k s (ix2 j d)
      = nrm (fun e => Ideal.div (Ax (sc 0 j) (v e) n) (Lx (sc 0 j) n) - lamV (fun a k => lam (ix2 a k)) * Ideal.div (Ax (sc 1 j) (v e) n) (Lx (sc 1 j) n)) d
        * sg (ix2 0 d) * Ideal.ofBits .f32 0x3F4CCCCD#32
        * Ideal.div (pj (ix2 j (row h d))) (1 + Ideal.exp (0 - pj (ix2 j (row h d)))) := by
  have e11 : k0_off11 k = ![h.val, 0, 0, 0] := by rw [k0_off11_eq, hk]
  have e10 : k0_off10 k = ![h.val, 0, 0, 0] := by rw [k0_off10_eq, hk]
  have e13 : k0_off13 k = ![h.val, 1, 0, 0] := by rw [k0_off13_eq, hk]
  have e12 : k0_off12 k = ![h.val, 1, 0, 0] := by rw [k0_off12_eq, hk]
  have e9 : k0_off9 k = ![0, 128 * h.val] := by rw [k0_off9_eq, hk]
  unfold finish
  rw [pay4_eq, wayOut_apply]
  have hp : window pj (k0_off9 k) S1024x128.size (k0_off9_inb k) (ix2 j d : S1024x128.Idx) = pj (ix2 j (row h d)) := windowK pj _ h e9 _ j d
  rw [hp]
  refine congrArg (fun x => x * _ * _ * _) (congrArg (fun o => nrm o d) (funext fun e => ?_))
  rw [transpose_apply _ _ _ _ (ix2 e j) (fun b => by
    match b with
    | ⟨0, _⟩ => rfl
    | ⟨1, _⟩ => rfl), diffT_apply, pay48_apply, pay49_apply, pay47_apply]
  have hA0 := (window4 s.a _ h 0 e11 (k0_off11_inb k) e j).trans ((hg 0 j).2.2 e)
  have hA1 := (window4 s.a _ h 1 e13 (k0_off13_inb k) e j).trans ((hg 1 j).2.2 e)
  have hL0 := fun u => (window4 s.l _ h 0 e10 (k0_off10_inb k) u j).trans ((hg 0 j).2.1 u)
  have hL1 := fun u => (window4 s.l _ h 1 e12 (k0_off12_inb k) u j).trans ((hg 1 j).2.1 u)
  exact congrArg₂ (· - ·) (congrArg₂ Ideal.div hA0 (hL0 _)) (congrArg _ (congrArg₂ Ideal.div hA1 (hL1 _)))

end Cert.KernelIdeal.Attn

end
-- ==== Proof.Attn.Traj.lean ====
/-
The running values along the points of the call: after a point they stand at the keys of its batch up to the end of
its key block, for the queries of its query block.
-/
module

public import proofs.«01_k».proof.Proof.Attn.Fin
public import proofs.«01_k».proof.Proof.Attn.KernelIdeal.Frame

@[expose] public section

set_option maxRecDepth 16384
set_option maxHeartbeats 1000000
set_option Elab.async false

noncomputable section

namespace Cert.KernelIdeal.Attn

open Idealize.ShloMosaic Idealize.ShloMosaic.ValueIdx Idealize.ShloMosaic.VecWindow Idealize.ShloMosaic.TcCoe
open Cert.KernelIdeal Cert.KernelIdeal.Gen Cert.Online

/-- The query block and the key block of a point, counted over both batches. -/
abbrev qB (t : Fin cfgA.N) : ℕ := (cfgA.win (0 : Fin 7)).index t (1 : Fin 2)
abbrev kB (t : Fin cfgA.N) : ℕ := (cfgA.win (1 : Fin 7)).index t (0 : Fin 2)

/-- The point before. -/
abbrev prevP (t : Fin cfgA.N) : Fin cfgA.N := ⟨t.val - 1, Nat.lt_of_le_of_lt (Nat.sub_le _ _) t.isLt⟩

/-- Where a point's blocks lie. -/
abbrev PlaceAt (t : Fin cfgA.N) : Prop :=
  ((cfgA.win (0 : Fin 7)).index t (0 : Fin 2) = 0 ∧ (cfgA.win (1 : Fin 7)).index t (1 : Fin 2) = 0)
  ∧ ((cfgA.win (2 : Fin 7)).index t (0 : Fin 2) = 0 ∧ (cfgA.win (2 : Fin 7)).index t (1 : Fin 2) = kB t)
  ∧ ((cfgA.win (3 : Fin 7)).index t (0 : Fin 2) = qB t ∧ (cfgA.win (3 : Fin 7)).index t (1 : Fin 2) = 4)
  ∧ ((cfgA.win (6 : Fin 7)).index t (0 : Fin 2) = qB t ∧ (cfgA.win (6 : Fin 7)).index t (1 : Fin 2) = 0)

/-- How a point's blocks go on from the point before. -/
abbrev CourseAt (t : Fin cfgA.N) : Prop :=
  (qB t < 16 ∧ qB t / 8 = kB t / 8)
  ∧ (P0 t → kB t % 8 = 0) ∧ (P1 t → kB t < qB t) ∧ (¬P1 t → kB t = qB t)
  ∧ (¬P0 t → t.val ≠ 0 ∧ qB (prevP t) = qB t ∧ kB (prevP t) + 1 = kB t)

theorem place_0 : ∀ t : Fin cfgA.N, t.val < 18 → PlaceAt t := by decide +kernel
theorem place_1 : ∀ t : Fin cfgA.N, 18 ≤ t.val → t.val < 36 → PlaceAt t := by decide +kernel
theorem place_2 : ∀ t : Fin cfgA.N, 36 ≤ t.val → t.val < 54 → PlaceAt t := by decide +kernel
theorem place_3 : ∀ t : Fin cfgA.N, 54 ≤ t.val → t.val < 72 → PlaceAt t := by decide +kernel
theorem place (t : Fin cfgA.N) : PlaceAt t := by
  rcases Nat.lt_or_ge t.val 18 with h1 | h1; · exact place_0 t h1
  rcases Nat.lt_or_ge t.val 36 with h2 | h2; · exact place_1 t h1 h2
  rcases Nat.lt_or_ge t.val 54 with h3 | h3; · exact place_2 t h2 h3
  exact place_3 t h3 t.isLt

theorem course_0 : ∀ t : Fin cfgA.N, t.val < 18 → CourseAt t := by decide +kernel
theorem course_1 : ∀ t : Fin cfgA.N, 18 ≤ t.val → t.val < 36 → CourseAt t := by decide +kernel
theorem course_2 : ∀ t : Fin cfgA.N, 36 ≤ t.val → t.val < 54 → CourseAt t := by decide +kernel
theorem course_3 : ∀ t : Fin cfgA.N, 54 ≤ t.val → t.val < 72 → CourseAt t := by decide +kernel
theorem course (t : Fin cfgA.N) : CourseAt t := by
  rcases Nat.lt_or_ge t.val 18 with h1 | h1; · exact course_0 t h1
  rcases Nat.lt_or_ge t.val 36 with h2 | h2; · exact course_1 t h1 h2
  rcases Nat.lt_or_ge t.val 54 with h3 | h3; · exact course_2 t h2 h3
  exact course_3 t h3 t.isLt

/-- The point that writes each query block. -/
def lastP (b : Fin 16) : Fin cfgA.N := ⟨36 * (b.val / 8) + ((b.val % 8) * (b.val % 8 + 1) / 2 + b.val % 8), by
  rw [show cfgA.N = 72 from by decide]
  have : ∀ b : Fin 16, 36 * (b.val / 8) + ((b.val % 8) * (b.val % 8 + 1) / 2 + b.val % 8) < 72 := by decide
  exact this b⟩

theorem lastP_spec : ∀ b : Fin 16, ¬P1 (lastP b) ∧ qB (lastP b) = b.val := by decide +kernel

/-- A row of the two batches' positions. -/
def pos (n : ℕ) : Fin 16384 := ⟨n % 16384, Nat.mod_lt _ (by decide)⟩

section
variable (qt : S1024x16384.Idx → EReal) (kb : S16384x1024.Idx → EReal) (vt : S1024x16384.Idx → EReal)

/-- A query's scores of a batch, a head and a component; of the later keys there are none. -/
def gsc (b : ℕ) (h : Fin 8) (c : Fin 2) (qp p : ℕ) : EReal :=
  if p ≤ qp then ∑ r : Fin 64, kb (ix2 (pos (8192 * b + p)) (row h (half c r))) * qt (ix2 (row h (half c r)) (pos (8192 * b + qp))) else ⊥

/-- The values of a batch and a head. -/
def gv (b : ℕ) (h : Fin 8) (d : Fin 128) (p : ℕ) : EReal := vt (ix2 (row h d) (pos (8192 * b + p)))
end

variable (m : (ℓ : Loc nD τ sig) → Buf (Elt Ideal) ℓ) (c : Dev nD)

/-- The arguments as the call finds them. -/
abbrev aQ : S1024x16384.Idx → EReal := m (c, main_arg0)
abbrev aK : S16384x1024.Idx → EReal := m (c, main_arg1)
abbrev aV : S1024x16384.Idx → EReal := m (c, main_arg2)
abbrev aP : S16384x6144.Idx → EReal := m (c, main_arg3)
abbrev aL : S4x64.Idx → EReal := m (c, main_arg4)
abbrev aG : S128.Idx → EReal := m (c, main_arg5)

theorem iblk0 (t : Fin cfgA.N) (r j : Fin 1024) : iblk m c (0 : Fin 7) t (ix2 r j : S1024x1024.Idx) = aQ m c (ix2 r (pos (qB t * 1024 + j.val))) := by
  show aQ m c (((cfgA.win (0 : Fin 7)).rect t).emb (ix2 r j : S1024x1024.Idx)) = _
  refine congrArg (aQ m c) (funext fun a => Fin.ext ?_)
  rw [(cfgA.win (0 : Fin 7)).rect_emb_val t _ a]
  have hq := (course t).1.1
  match a with
  | ⟨0, _⟩ => show (cfgA.win (0 : Fin 7)).index t (0 : Fin 2) * 1024 + r.val = r.val; rw [(place t).1.1]; omega
  | ⟨1, _⟩ => show qB t * 1024 + j.val = (qB t * 1024 + j.val) % 16384; omega

theorem iblk1 (t : Fin cfgA.N) (i r : Fin 1024) : iblk m c (1 : Fin 7) t (ix2 i r : S1024x1024.Idx) = aK m c (ix2 (pos (kB t * 1024 + i.val)) r) := by
  show aK m c (((cfgA.win (1 : Fin 7)).rect t).emb (ix2 i r : S1024x1024.Idx)) = _
  refine congrArg (aK m c) (funext fun a => Fin.ext ?_)
  rw [(cfgA.win (1 : Fin 7)).rect_emb_val t _ a]
  have hq := (course t).1
  match a with
  | ⟨0, _⟩ => show kB t * 1024 + i.val = (kB t * 1024 + i.val) % 16384; omega
  | ⟨1, _⟩ => show (cfgA.win (1 : Fin 7)).index t (1 : Fin 2) * 1024 + r.val = r.val; rw [(place t).1.2]; omega

theorem iblk2 (t : Fin cfgA.N) (r i : Fin 1024) : iblk m c (2 : Fin 7) t (ix2 r i : S1024x1024.Idx) = aV m c (ix2 r (pos (kB t * 1024 + i.val))) := by
  show aV m c (((cfgA.win (2 : Fin 7)).rect t).emb (ix2 r i : S1024x1024.Idx)) = _
  refine congrArg (aV m c) (funext fun a => Fin.ext ?_)
  rw [(cfgA.win (2 : Fin 7)).rect_emb_val t _ a]
  have hq := (course t).1
  match a with
  | ⟨0, _⟩ => show (cfgA.win (2 : Fin 7)).index t (0 : Fin 2) * 1024 + r.val = r.val; rw [(place t).2.1.1]; omega
  | ⟨1, _⟩ => show (cfgA.win (2 : Fin 7)).index t (1 : Fin 2) * 1024 + i.val = (kB t * 1024 + i.val) % 16384; rw [(place t).2.1.2]; omega

/-- The gate's column of a result column. -/
def gcol (k : Fin 1024) : Fin 6144 := ⟨4096 + k.val, by omega⟩

theorem iblk3 (t : Fin cfgA.N) (j k : Fin 1024) :
    iblk m c (3 : Fin 7) t (ix2 j k : S1024x1024.Idx) = aP m c (ix2 (pos (qB t * 1024 + j.val)) (gcol k)) := by
  show aP m c (((cfgA.win (3 : Fin 7)).rect t).emb (ix2 j k : S1024x1024.Idx)) = _
  refine congrArg (aP m c) (funext fun a => Fin.ext ?_)
  rw [(cfgA.win (3 : Fin 7)).rect_emb_val t _ a]
  have hq := (course t).1
  match a with
  | ⟨0, _⟩ => show (cfgA.win (3 : Fin 7)).index t (0 : Fin 2) * 1024 + j.val = (qB t * 1024 + j.val) % 16384; rw [(place t).2.2.1.1]; omega
  | ⟨1, _⟩ => show (cfgA.win (3 : Fin 7)).index t (1 : Fin 2) * 1024 + k.val = 4096 + k.val; rw [(place t).2.2.1.2]

theorem iblk4 (t : Fin cfgA.N) (a : Fin 4) (k : Fin 64) : iblk m c (4 : Fin 7) t (ix2 a k : S4x64.Idx) = aL m c (ix2 a k) := by
  show aL m c (((cfgA.win (4 : Fin 7)).rect t).emb (ix2 a k : S4x64.Idx)) = _
  refine congrArg (aL m c) (funext fun b => Fin.ext ?_)
  rw [(cfgA.win (4 : Fin 7)).rect_emb_val t _ b]
  match b with
  | ⟨0, _⟩ => exact (congrArg (· + a.val) (Nat.zero_mul 4)).trans (Nat.zero_add _)
  | ⟨1, _⟩ => exact (congrArg (· + k.val) (Nat.zero_mul 64)).trans (Nat.zero_add _)

theorem Vat_v0 : Vat m c main_v0 = shapeCast S1x128 (aG m c) shapeCasts_S128_S1x128 := rfl

theorem iblk5 (t : Fin cfgA.N) (d : Fin 128) : iblk m c (5 : Fin 7) t (ix2 0 d : S1x128.Idx) = aG m c (ix1 d) := by
  show Vat m c main_v0 (((cfgA.win (5 : Fin 7)).rect t).emb (ix2 0 d : S1x128.Idx)) = _
  have e : ((cfgA.win (5 : Fin 7)).rect t).emb (ix2 0 d : S1x128.Idx) = (ix2 0 d : S1x128.Idx) := funext fun b => Fin.ext (by
    rw [(cfgA.win (5 : Fin 7)).rect_emb_val t _ b]
    match b with
    | ⟨0, _⟩ => rfl
    | ⟨1, _⟩ => exact (congrArg (· + d.val) (Nat.zero_mul 128)).trans (Nat.zero_add _))
  rw [e, Vat_v0]
  exact shapeCast_apply _ _ _ _ (by rw [rowMajor2, Shape.rowMajor_val_one]; simp)

/-- A point's scores are its batch's. -/
theorem bsc_gsc (t : Fin cfgA.N) (h : Fin 8) (e : Fin 2) (i j : Fin 1024) (hle : kB t % 8 * 1024 + i.val ≤ qB t % 8 * 1024 + j.val) :
    bsc (iblk m c (0 : Fin 7) t) (iblk m c (1 : Fin 7) t) h e i j
      = gsc (aQ m c) (aK m c) (qB t / 8) h e (qB t % 8 * 1024 + j.val) (kB t % 8 * 1024 + i.val) := by
  unfold bsc gsc
  rw [if_pos hle]
  have hq := (course t).1
  refine Finset.sum_congr rfl fun r _ => ?_
  rw [iblk0, iblk1]
  have e1 : 8192 * (qB t / 8) + (kB t % 8 * 1024 + i.val) = kB t * 1024 + i.val := by omega
  have e2 : 8192 * (qB t / 8) + (qB t % 8 * 1024 + j.val) = qB t * 1024 + j.val := by omega
  rw [e1, e2]

theorem init_good (h : Fin 8) (e : Fin 2) (sc : Fin 1024 → ℕ → EReal) (v : Fin 128 → ℕ → EReal) : Good (St.init : St Ideal) h e sc v 0 := fun j => by
  refine ⟨fun u => ?_, fun u => ?_, fun d => ?_⟩
  · rw [Mx_zero]
    exact neg_inf
  · rw [Lx_zero]
    exact zero_f32
  · rw [Ax_zero]
    exact zero_f32

/-- What a point starts from, and what it ends with, stand at its batch's keys. -/
abbrev At (s : St Ideal) (t : Fin cfgA.N) (n : ℕ) : Prop :=
  ∀ (h : Fin 8) (e : Fin 2), Good s h e (fun j => gsc (aQ m c) (aK m c) (qB t / 8) h e (qB t % 8 * 1024 + j.val)) (gv (aV m c) (qB t / 8) h) n

variable (hfin : ∀ i, ∃ r : ℝ, aV m c i = (r : EReal))
include hfin

theorem gv_fin (b : ℕ) (h : Fin 8) (d : Fin 128) (p : ℕ) : ∃ r : ℝ, gv (aV m c) b h d p = (r : EReal) := hfin _

theorem iblk2_gv (t : Fin cfgA.N) (h : Fin 8) (d : Fin 128) (i : Fin 1024) :
    iblk m c (2 : Fin 7) t (ix2 (row h d) i : S1024x1024.Idx) = gv (aV m c) (qB t / 8) h d (kB t % 8 * 1024 + i.val) := by
  rw [iblk2]
  have hq := (course t).1
  have e1 : 8192 * (qB t / 8) + (kB t % 8 * 1024 + i.val) = kB t * 1024 + i.val := by omega
  unfold gv
  rw [e1]

/-- The heads on the diagonal. -/
theorem diag_good (t : Fin cfgA.N) (hp : ¬P1 t) (s : St Ideal) (hs : At m c s t (kB t % 8 * 1024)) (n : ℕ) (hn : n ≤ 8) (h : Fin 8) (e : Fin 2) :
    Good (runM (iblk m c (0 : Fin 7) t) (iblk m c (1 : Fin 7) t) (iblk m c (2 : Fin 7) t) s n) h e
      (fun j => gsc (aQ m c) (aK m c) (qB t / 8) h e (qB t % 8 * 1024 + j.val)) (gv (aV m c) (qB t / 8) h)
      (if h.val < n then kB t % 8 * 1024 + 1024 else kB t % 8 * 1024) := by
  have hk := (course t).2.2.2.1 hp
  refine runM_good _ _ _ (fun h e j => gsc (aQ m c) (aK m c) (qB t / 8) h e (qB t % 8 * 1024 + j.val)) (gv (aV m c) (qB t / 8)) _
    (fun h d p => gv_fin m c hfin _ h d p) (fun h d i => iblk2_gv m c hfin t h d i) s hs (fun h e i j => ?_) n hn h e
  by_cases hij : i.val ≤ j.val
  · rw [if_pos hij, bsc_gsc m c t h e i j (by rw [hk]; omega)]
  · rw [if_neg hij]
    unfold gsc
    rw [if_neg (by rw [hk]; omega)]

theorem step_at (t : Fin cfgA.N) (s : St Ideal) (hs : At m c s t (kB t % 8 * 1024)) : At m c (stepP m c t s) t (kB t % 8 * 1024 + 1024) := by
  intro h e
  unfold stepP
  by_cases hp : P1 t
  · rw [if_pos hp]
    have hk := (course t).2.2.1 hp
    have hq := (course t).1
    have := runU_good (iblk m c (0 : Fin 7) t) (iblk m c (1 : Fin 7) t) (iblk m c (2 : Fin 7) t)
      (fun h e j => gsc (aQ m c) (aK m c) (qB t / 8) h e (qB t % 8 * 1024 + j.val)) (gv (aV m c) (qB t / 8)) _
      (fun h d p => gv_fin m c hfin _ h d p) (fun h d i => iblk2_gv m c hfin t h d i) s hs (fun h e i j => bsc_gsc m c t h e i j (by omega)) 8 (Nat.le_refl _) h e
    rw [if_pos h.isLt] at this
    exact this
  · rw [if_neg hp]
    have := diag_good m c hfin t hp s hs 8 (Nat.le_refl _) h e
    rw [if_pos h.isLt] at this
    exact this

theorem start_at (t : Fin cfgA.N) (hprev : t.val ≠ 0 → At m c (trajN m c t.val) (prevP t) (kB (prevP t) % 8 * 1024 + 1024)) :
    At m c (startP t (trajN m c t.val)) t (kB t % 8 * 1024) := by
  intro h e
  unfold startP
  by_cases hp : P0 t
  · rw [if_pos hp, (course t).2.1 hp]
    exact init_good h e _ _
  · rw [if_neg hp]
    have hc := (course t).2.2.2.2 hp
    have h1 := hprev hc.1 h e
    have hq := (course t).1
    have hq' := (course (prevP t)).1
    have hk : kB (prevP t) < qB (prevP t) ∨ kB (prevP t) = qB (prevP t) := by
      by_cases hp1 : P1 (prevP t)
      · exact .inl ((course _).2.2.1 hp1)
      · exact .inr ((course _).2.2.2.1 hp1)
    rw [hc.2.1] at h1
    have e2 : kB (prevP t) % 8 * 1024 + 1024 = kB t % 8 * 1024 := by
      have := hc.2.1; have := hc.2.2; omega
    rw [e2] at h1
    exact h1

theorem traj_at (n : ℕ) : ∀ t : Fin cfgA.N, t.val = n → At m c (trajN m c (n + 1)) t (kB t % 8 * 1024 + 1024) := by
  induction n with
  | zero =>
    intro t ht
    have := trajN_succ m c t
    rw [ht] at this
    rw [this]
    refine step_at m c hfin t _ ?_
    have h2 := start_at m c hfin t (fun h => absurd ht h)
    rwa [ht] at h2
  | succ n ih =>
    intro t ht
    have := trajN_succ m c t
    rw [ht] at this
    rw [this]
    refine step_at m c hfin t _ ?_
    have h2 := start_at m c hfin t (fun _ => by
      have := ih (prevP t) (by show t.val - 1 = n; omega)
      rwa [← ht] at this)
    rwa [ht] at h2

/-- What every point starts from stands at its batch's keys before its key block. -/
theorem begin_at (t : Fin cfgA.N) : At m c (startP t (trajN m c t.val)) t (kB t % 8 * 1024) :=
  start_at m c hfin t fun h0 => by
    have := traj_at m c hfin (t.val - 1) (prevP t) rfl
    rwa [Nat.sub_add_cancel (Nat.one_le_iff_ne_zero.2 h0)] at this

end Cert.KernelIdeal.Attn

end
-- ==== Proof.Attn.Meaning.lean ====
/-
What the attention means, element by element: the softmax weights of both components of a query over all the keys of
its batch, their difference, the weighted values, normalised over the head, weighted and gated.
-/
module

public import proofs.«01_k».proof.Proof.Attn.Traj

@[expose] public section

noncomputable section

namespace Cert.KernelIdeal.Attn

open Idealize.ShloMosaic Idealize.ShloMosaic.ValueIdx
open Cert.KernelIdeal.Gen Cert.Online

section
variable (qt : S1024x16384.Idx → EReal) (kb : S16384x1024.Idx → EReal) (vt : S1024x16384.Idx → EReal) (pj : S16384x6144.Idx → EReal)
  (lam : S4x64.Idx → EReal) (sg : S128.Idx → EReal)

/-- A query's softmax weight of a key. -/
def wgt (b : ℕ) (h : Fin 8) (e : Fin 2) (qp p : ℕ) : EReal :=
  Ideal.div (Ideal.exp (gsc qt kb b h e qp p - Mx (gsc qt kb b h e qp) 8192)) (Lx (gsc qt kb b h e qp) 8192)

/-- The weighted values of a query. -/
def attO (b : ℕ) (h : Fin 8) (qp : ℕ) (d : Fin 128) : EReal :=
  ∑ p ∈ Finset.range 8192, gv vt b h d p * (wgt qt kb b h 0 qp p - lamV (fun a k => lam (ix2 a k)) * wgt qt kb b h 1 qp p)

/-- The gate of a row and column. -/
def gateOf (b qp : ℕ) (h : Fin 8) (d : Fin 128) : EReal := pj (ix2 (pos (8192 * b + qp)) (gcol (row h d)))

/-- The result of a query, a head and a column. -/
def attR (b qp : ℕ) (h : Fin 8) (d : Fin 128) : EReal :=
  nrm (attO qt kb vt lam b h qp) d * sg (ix1 d) * Ideal.ofBits .f32 0x3F4CCCCD#32
    * (gateOf pj b qp h d * Ideal.div 1 (1 + Ideal.exp (-gateOf pj b qp h d)))

/-- The head of a column, and the column inside it. -/
def headOf (k : Fin 1024) : Fin 8 := ⟨k.val / 128, by omega⟩
def colOf (k : Fin 1024) : Fin 128 := ⟨k.val % 128, by omega⟩

theorem row_headOf (k : Fin 1024) : row (headOf k) (colOf k) = k := Fin.ext (by show 128 * (k.val / 128) + k.val % 128 = k.val; omega)

/-- The whole result. -/
def attAll (i : S16384x1024.Idx) : EReal := attR qt kb vt pj lam sg ((i 0).val / 8192) ((i 0).val % 8192) (headOf (i 1)) (colOf (i 1))
end

end Cert.KernelIdeal.Attn

end
-- ==== Proof.Attn.Result.lean ====
/-
The kernel's result array: each point on the diagonal writes its rows of the attention, and these rows are all.
-/
module

public import proofs.«01_k».proof.Proof.Attn.Meaning

@[expose] public section

set_option maxRecDepth 16384
set_option maxHeartbeats 1000000

noncomputable section

namespace Cert.KernelIdeal.Attn

open Idealize.ShloMosaic Idealize.ShloMosaic.ValueIdx Idealize.ShloMosaic.VecWindow Idealize.ShloMosaic.TcCoe
open Cert.KernelIdeal Cert.KernelIdeal.Gen Cert.Online

variable (m : (ℓ : Loc nD τ sig) → Buf (Elt Ideal) ℓ) (c : Dev nD)
variable (hfin : ∀ i, ∃ r : ℝ, aV m c i = (r : EReal)) (hlam : ∃ r : ℝ, lamV (fun a k => aL m c (ix2 a k)) = (r : EReal))
include hfin hlam

theorem outAt_row (t : Fin cfgA.N) (hp : ¬P1 t) (j : Fin 1024) (h : Fin 8) (d : Fin 128) :
    outAt m c t (ix2 j (row h d) : S1024x1024.Idx)
      = attR (aQ m c) (aK m c) (aV m c) (aP m c) (aL m c) (aG m c) (qB t / 8) (qB t % 8 * 1024 + j.val) h d := by
  have hk : (hd (ix2 j (row h d) : S1024x1024.Idx)).val = h.val := by
    show (128 * h.val + d.val) / 128 = h.val
    omega
  have hu : Rect.unitLocal (s := S1024x1024) (off := k0_off9 (hd (ix2 j (row h d)))) (size := S1024x128.size) (ix2 j (row h d)) (hd_mem (ix2 j (row h d)))
      = (ix2 j d : S1024x128.Idx) := funext fun a => Fin.ext (by
    rw [Rect.unitLocal_val, k0_off9_eq, hk]
    match a with
    | ⟨0, _⟩ => exact Nat.sub_zero _
    | ⟨1, _⟩ => show 128 * h.val + d.val - 128 * h.val = d.val; omega)
  have hkq := (course t).2.2.2.1 hp
  have hq := (course t).1
  unfold outAt outFin
  refine (congrArg (finish _ _ _ _ _) hu).trans ?_
  refine (finish_good _ _ _ _ h hk _ (fun e j => gsc (aQ m c) (aK m c) (qB t / 8) h e (qB t % 8 * 1024 + j.val)) (gv (aV m c) (qB t / 8) h)
    (kB t % 8 * 1024 + 1024) (fun e => ?_) j d).trans ?_
  · have := diag_good m c hfin t hp _ (begin_at m c hfin t) ((hd (ix2 j (row h d) : S1024x1024.Idx)).val + 1) (by rw [hk]; omega) h e
    rw [if_pos (by rw [hk]; omega)] at this
    exact this
  have hn : (kB t % 8 * 1024 + 1024) + (8192 - (kB t % 8 * 1024 + 1024)) = 8192 := by omega
  have htail : ∀ e : Fin 2, ∀ p, kB t % 8 * 1024 + 1024 ≤ p → gsc (aQ m c) (aK m c) (qB t / 8) h e (qB t % 8 * 1024 + j.val) p = ⊥ := fun e p hpn => by
    unfold gsc
    rw [if_neg (by rw [hkq] at hpn; omega)]
  have hA : ∀ (e : Fin 2) (x : Fin 128), Ax (gsc (aQ m c) (aK m c) (qB t / 8) h e (qB t % 8 * 1024 + j.val)) (gv (aV m c) (qB t / 8) h x) (kB t % 8 * 1024 + 1024)
      = Ax (gsc (aQ m c) (aK m c) (qB t / 8) h e (qB t % 8 * 1024 + j.val)) (gv (aV m c) (qB t / 8) h x) 8192 := fun e x => by
    have := Ax_tail _ (gv (aV m c) (qB t / 8) h x) _ (8192 - (kB t % 8 * 1024 + 1024)) (htail e)
    rw [hn] at this
    exact this.symm
  have hL : ∀ (e : Fin 2), Lx (gsc (aQ m c) (aK m c) (qB t / 8) h e (qB t % 8 * 1024 + j.val)) (kB t % 8 * 1024 + 1024)
      = Lx (gsc (aQ m c) (aK m c) (qB t / 8) h e (qB t % 8 * 1024 + j.val)) 8192 := fun e => by
    have := Lx_tail _ _ (8192 - (kB t % 8 * 1024 + 1024)) (htail e)
    rw [hn] at this
    exact this.symm
  have hlv : lamV (fun a k => iblk m c (4 : Fin 7) t (ix2 a k : S4x64.Idx)) = lamV (fun a k => aL m c (ix2 a k)) :=
    congrArg lamV (funext fun a => funext fun k => iblk4 m c t a k)
  have hg : iblk m c (3 : Fin 7) t (ix2 j (row h d) : S1024x1024.Idx) = gateOf (aP m c) (qB t / 8) (qB t % 8 * 1024 + j.val) h d := by
    rw [iblk3]
    unfold gateOf
    rw [show 8192 * (qB t / 8) + (qB t % 8 * 1024 + j.val) = qB t * 1024 + j.val by omega]
  have hs : iblk m c (5 : Fin 7) t (ix2 0 d : S1x128.Idx) = aG m c (ix1 d) := iblk5 m c t d
  have hnrm := nrm_eq (gsc (aQ m c) (aK m c) (qB t / 8) h 0 (qB t % 8 * 1024 + j.val)) (gsc (aQ m c) (aK m c) (qB t / 8) h 1 (qB t % 8 * 1024 + j.val))
    (gv (aV m c) (qB t / 8) h) (fun d p => gv_fin m c hfin _ h d p) _ hlam 8192 d
  unfold attR
  refine congrArg₂ (· * ·) (congrArg₂ (· * ·) (congrArg₂ (· * ·) ?_ hs) rfl) ?_
  · refine (congrArg (fun o => nrm o d) (funext fun x => ?_)).trans hnrm
    exact congrArg₂ (· - ·) (congrArg₂ Ideal.div (hA 0 x) (hL 0)) (congrArg₂ (· * ·) hlv (congrArg₂ Ideal.div (hA 1 x) (hL 1)))
  · refine (congrArg (fun g => Ideal.div g (1 + Ideal.exp (0 - g))) hg).trans (gate _)

theorem flushed_eq (t : Fin cfgA.N) (hf : (cfgA.win (6 : Fin 7)).flush t = true) :
    (dats m 0 c).flushed (6 : Fin 7) t = ((cfgA.win (6 : Fin 7)).blk t).view.read (Elt Ideal) (attAll (aQ m c) (aK m c) (aV m c) (aP m c) (aL m c) (aG m c)) := by
  have hp : ¬P1 t := fun h => by
    have := ((allFacts t).2.1 h).2.2
    rw [hf] at this
    exact absurd this (by decide)
  have hq := (course t).1
  refine funext fun (y : S1024x1024.Idx) => ?_
  have e0 : ((((cfgA.win (6 : Fin 7)).rect t).emb y) 0).val = qB t * 1024 + (y 0).val := by
    rw [(cfgA.win (6 : Fin 7)).rect_emb_val t y 0, (place t).2.2.2.1]
    rfl
  have e1 : ((((cfgA.win (6 : Fin 7)).rect t).emb y) 1).val = (y 1).val := by
    rw [(cfgA.win (6 : Fin 7)).rect_emb_val t y 1, (place t).2.2.2.2]
    exact (congrArg (· + (y 1).val) (Nat.zero_mul 1024)).trans (Nat.zero_add _)
  have hy0 : (y 0).val < 1024 := (y 0).isLt
  show outAt m c t y = attAll (aQ m c) (aK m c) (aV m c) (aP m c) (aL m c) (aG m c) (((cfgA.win (6 : Fin 7)).rect t).emb y)
  have hy : y = ix2 (y 0) (row (headOf (y 1)) (colOf (y 1))) :=
    (eq_ix2 y).trans (congrArg (fun k : Fin 1024 => (ix2 (y 0) k : S1024x1024.Idx)) (row_headOf (y 1)).symm)
  have h1 : ((((cfgA.win (6 : Fin 7)).rect t).emb y) 1 : Fin 1024) = y 1 := Fin.ext e1
  unfold attAll
  rw [e0, show (qB t * 1024 + (y 0).val) / 8192 = qB t / 8 by omega, show (qB t * 1024 + (y 0).val) % 8192 = qB t % 8 * 1024 + (y 0).val by omega]
  refine (congrArg (outAt m c t) hy).trans ((outAt_row m c hfin hlam t hp (y 0) (headOf (y 1)) (colOf (y 1))).trans ?_)
  exact congrArg (fun k => attR (aQ m c) (aK m c) (aV m c) (aP m c) (aL m c) (aG m c) (qB t / 8) (qB t % 8 * 1024 + (y 0).val) (headOf k) (colOf k)) h1.symm

omit hfin hlam in
theorem mem_blk (t : Fin cfgA.N) (i : S16384x1024.Idx) (h : (i 0).val / 1024 = qB t) : i ∈ ((cfgA.win (6 : Fin 7)).blk t).view.set := by
  show i ∈ ((View.whole main_v1).slice ((cfgA.win (6 : Fin 7)).rect t)).set
  rw [View.set_slice_whole, Rect.mem_set_unit]
  have h1 : (i 1).val < 1024 := (i 1).isLt
  intro a
  match a with
  | ⟨0, _⟩ =>
    show (cfgA.win (6 : Fin 7)).index t (0 : Fin 2) * 1024 ≤ (i 0).val ∧ (i 0).val < (cfgA.win (6 : Fin 7)).index t (0 : Fin 2) * 1024 + 1024
    rw [(place t).2.2.2.1]
    omega
  | ⟨1, _⟩ =>
    show (cfgA.win (6 : Fin 7)).index t (1 : Fin 2) * 1024 ≤ (i 1).val ∧ (i 1).val < (cfgA.win (6 : Fin 7)).index t (1 : Fin 2) * 1024 + 1024
    rw [(place t).2.2.2.2]
    omega

/-- The result array ends holding the attention. -/
theorem final_o : (dats m 0 c).arrAt (6 : Fin 7) cfgA.N = attAll (aQ m c) (aK m c) (aV m c) (aP m c) (aL m c) (aG m c) :=
  (dats m 0 c).arrAt_eq_of_cover (6 : Fin 7) _ (fun t hf => flushed_eq m c hfin hlam t hf) fun (i : S16384x1024.Idx) => by
    have h0 : (i 0).val < 16384 := (i 0).isLt
    have hs := lastP_spec ⟨(i 0).val / 1024, by omega⟩
    exact ⟨lastP ⟨(i 0).val / 1024, by omega⟩, ((allFacts _).1 hs.1).2.2, mem_blk _ i hs.2.symm⟩

end Cert.KernelIdeal.Attn

end
-- ==== Proof.Attn.RefRead.lean ====
/-
The reference's result, element by element.
-/
module

public import proofs.«01_k».proof.Proof.Attn.Meaning
public import proofs.«01_k».proof.Proof.Gen.ReferenceIdeal.Read

@[expose] public section

set_option maxRecDepth 16384
set_option maxHeartbeats 1000000

noncomputable section

namespace Cert.ReferenceIdeal.Attn

open Idealize.ShloMosaic Idealize.ShloMosaic.ValueIdx Idealize.ShloMosaic.TcCoe
open Cert.ReferenceIdeal Cert.ReferenceIdeal.Gen Cert.ReferenceIdeal.Read Cert.Online
open Cert.KernelIdeal.Attn (row half pos gsc gv wgt attO attR gateOf gcol lamV headOf colOf attAll row_headOf small_sle neg_inf)

variable (x0 : (⟨S1024x16384, .bf16⟩ : BufTy).Contents (Elt Ideal)) (x1 : (⟨S16384x1024, .bf16⟩ : BufTy).Contents (Elt Ideal))
  (x2 : (⟨S1024x16384, .bf16⟩ : BufTy).Contents (Elt Ideal)) (x3 : (⟨S16384x6144, .f32⟩ : BufTy).Contents (Elt Ideal))
  (x4 : (⟨S4x64, .f32⟩ : BufTy).Contents (Elt Ideal)) (x5 : (⟨S128, .f32⟩ : BufTy).Contents (Elt Ideal))

theorem zero_bits : (FloatOps.ofBits (F := Ideal) .f32 0x00000000#32 : EReal) = 0 := Cert.KernelIdeal.Attn.zero_f32
theorem one_bits : (FloatOps.ofBits (F := Ideal) .f32 0x3F800000#32 : EReal) = 1 := Cert.KernelIdeal.Attn.one_f32

theorem v2_at (b : Fin 2) (q : Fin 8192) (h : Fin 8) (e : Fin 2) (r : Fin 64) :
    val_main_v2 (F := Ideal) x0 (ix5 b q h e r) = x0 (ix2 (row h (half e r)) (pos (8192 * b.val + q.val))) := by
  rw [val_main_v2_apply, val_main_v1_apply]
  show x0 (idx_main_v1 (idx_main_v2 (ix5 b q h e r))) = _
  refine congrArg x0 (funext fun a => Fin.ext ?_)
  match a with
  | ⟨0, _⟩ => show ((((b.val * 8192 + q.val) * 8 + h.val) * 2 + e.val) * 64 + r.val) % 1024 = 128 * h.val + (64 * e.val + r.val); omega
  | ⟨1, _⟩ => show ((((b.val * 8192 + q.val) * 8 + h.val) * 2 + e.val) * 64 + r.val) / 1024 = (8192 * b.val + q.val) % 16384; omega

theorem v4_at (b : Fin 2) (q : Fin 8192) (h : Fin 8) (e : Fin 2) (r : Fin 64) :
    val_main_v4 (F := Ideal) x1 (ix5 b q h e r) = x1 (ix2 (pos (8192 * b.val + q.val)) (row h (half e r))) := by
  rw [val_main_v4_apply]
  show x1 (idx_main_v4 (ix5 b q h e r)) = _
  refine congrArg x1 (funext fun a => Fin.ext ?_)
  match a with
  | ⟨0, _⟩ => show ((((b.val * 8192 + q.val) * 8 + h.val) * 2 + e.val) * 64 + r.val) / 1024 = (8192 * b.val + q.val) % 16384; omega
  | ⟨1, _⟩ => show ((((b.val * 8192 + q.val) * 8 + h.val) * 2 + e.val) * 64 + r.val) % 1024 = 128 * h.val + (64 * e.val + r.val); omega

theorem v7_at (b : Fin 2) (p : Fin 8192) (h : Fin 8) (d : Fin 128) :
    val_main_v7 (F := Ideal) x2 (ix4 b p h d) = gv x2 b.val h d p.val := by
  rw [val_main_v7_apply, val_main_v6_apply]
  show x2 (idx_main_v6 (idx_main_v7 (ix4 b p h d))) = x2 _
  refine congrArg x2 (funext fun a => Fin.ext ?_)
  match a with
  | ⟨0, _⟩ => show (((b.val * 8192 + p.val) * 8 + h.val) * 128 + d.val) % 1024 = 128 * h.val + d.val; omega
  | ⟨1, _⟩ => show (((b.val * 8192 + p.val) * 8 + h.val) * 128 + d.val) / 1024 = (8192 * b.val + p.val) % 16384; omega

theorem v25_at (b : Fin 2) (h : Fin 8) (e : Fin 2) (q p : Fin 8192) :
    val_main_v25 (F := Ideal) x0 x1 (ix5 b h e q p)
      = ∑ r : Fin 64, x1 (ix2 (pos (8192 * b.val + p.val)) (row h (half e r))) * x0 (ix2 (row h (half e r)) (pos (8192 * b.val + q.val))) := by
  rw [val_main_v25_apply]
  refine Finset.sum_congr rfl fun r _ => ?_
  have el : lidx_main_v25 (ix5 b h e q p) r = ix5 b q h e r := eq_ix5 _
  have er : ridx_main_v25 (ix5 b h e q p) r = ix5 b p h e r := eq_ix5 _
  rw [el, er, v2_at, v4_at]
  exact mul_comm _ _

theorem v32_at (b : Fin 2) (h : Fin 8) (e : Fin 2) (q p : Fin 8192) :
    val_main_v32 (F := Ideal) x0 x1 (ix5 b h e q p) = gsc x0 x1 b.val h e q.val p.val := by
  have hm : val_main_call0_v1 (F := Ideal) (ix5 b h e q p) = BitVec.ofBool (decide (p.val ≤ q.val)) := by
    rw [val_main_call0_v1_apply, val_main_v31_apply, val_main_v29_apply, val_main_v27_apply, val_main_v26_apply, val_main_v30_apply,
      val_main_v28_apply, val_main_v26_apply]
    exact small_sle p.val q.val p.isLt q.isLt
  have hn : val_main_call0_v2 (F := Ideal) (ix5 b h e q p) = (⊥ : EReal) := by
    rw [val_main_call0_v2_apply, val_main_call0_v0_apply, val_main_cst_2_apply]
    exact neg_inf
  rw [val_main_v32_apply, hm, hn, v25_at]
  unfold gsc
  by_cases hpq : p.val ≤ q.val
  · rw [decide_eq_true hpq, if_pos hpq]; rfl
  · rw [decide_eq_false hpq, if_neg hpq]; rfl

theorem v33_at (b : Fin 2) (h : Fin 8) (e : Fin 2) (q : Fin 8192) :
    val_main_v33 (F := Ideal) x0 x1 (ix4 b h e q) = Mx (gsc x0 x1 b.val h e q.val) 8192 := by
  have hv : ∀ p : Fin 8192, val_main_v32 (F := Ideal) x0 x1 (ix5 b h e q p) = gsc x0 x1 b.val h e q.val p.val := v32_at x0 x1 b h e q
  unfold val_main_v33
  generalize val_main_v32 (F := Ideal) x0 x1 = y at hv ⊢
  have hr : S2x8x2x8192x8192.Reduces [4] S2x8x2x8192 := by decide
  refine (Host.reduce_eq_fold_single (max : EReal → EReal → EReal) y _ _ hr _ _).trans ?_
  rw [show val_main_cst_3 (F := Ideal) (Shape.Idx.first h_S_) = (⊥ : EReal) from neg_inf]
  show (Finset.univ : Finset (Fin 8192)).sup (fun p => y (hr.lift (ix4 b h e q) p)) = _
  have hl : ∀ p : Fin 8192, y (hr.lift (ix4 b h e q) p) = gsc x0 x1 b.val h e q.val p.val := fun p => by
    rw [← hv p]
    refine congrArg y (funext fun a => ?_)
    match a with
    | ⟨0, _⟩ => rfl
    | ⟨1, _⟩ => rfl
    | ⟨2, _⟩ => rfl
    | ⟨3, _⟩ => rfl
    | ⟨4, _⟩ => rfl
  unfold Mx
  apply le_antisymm
  · refine Finset.sup_le fun p _ => ?_
    rw [hl]
    exact Finset.le_sup (f := gsc x0 x1 b.val h e q.val) (Finset.mem_range.2 p.isLt)
  · refine Finset.sup_le fun p hp => ?_
    have := Finset.le_sup (f := fun p : Fin 8192 => y (hr.lift (ix4 b h e q) p)) (Finset.mem_univ ⟨p, Finset.mem_range.1 hp⟩)
    rwa [hl] at this

theorem v39_at (b : Fin 2) (h : Fin 8) (e : Fin 2) (q p : Fin 8192) :
    val_main_v39 (F := Ideal) x0 x1 (ix5 b h e q p) = Ideal.exp (gsc x0 x1 b.val h e q.val p.val - Mx (gsc x0 x1 b.val h e q.val) 8192) := by
  have e1 : idx_main_v36 (idx_main_v37 (ix5 b h e q p)) = ix4 b h e q := eq_ix4 _
  have hm : val_main_v37 (F := Ideal) x0 x1 (ix5 b h e q p) = Mx (gsc x0 x1 b.val h e q.val) 8192 := by
    rw [val_main_v37_apply, val_main_v36_apply, e1, val_main_v35_apply, val_main_v34_apply, val_main_cst_4_apply, v33_at, neg_inf]
    exact max_eq_right bot_le
  rw [val_main_v39_apply, val_main_v38_apply, hm, v32_at]
  rfl

theorem v40_at (b : Fin 2) (h : Fin 8) (e : Fin 2) (q : Fin 8192) :
    val_main_v40 (F := Ideal) x0 x1 (ix4 b h e q) = Lx (gsc x0 x1 b.val h e q.val) 8192 := by
  rw [val_main_v40_apply, val_main_cst_5_apply, zero_bits, zero_add]
  unfold Lx
  rw [Finset.sum_range]
  refine Finset.sum_congr rfl fun p _ => ?_
  have e1 : idx_main_v40 (ix4 b h e q) p = ix5 b h e q p := eq_ix5 _
  rw [e1, v39_at]

theorem v43_at (b : Fin 2) (h : Fin 8) (e : Fin 2) (q p : Fin 8192) :
    val_main_v43 (F := Ideal) x0 x1 (ix5 b h e q p) = wgt x0 x1 b.val h e q.val p.val := by
  have e1 : idx_main_v41 (idx_main_v42 (ix5 b h e q p)) = ix4 b h e q := eq_ix4 _
  rw [val_main_v43_apply, val_main_v42_apply, val_main_v41_apply, e1, v40_at, v39_at]
  rfl

theorem lamSum (y : S64.Idx → EReal) : ∑ j : S64.Idx, y j = ∑ k : Fin 64, y (ix1 k) :=
  Fintype.sum_equiv ⟨fun j => j 0, fun k => ix1 k, fun j => (eq_ix1 j).symm, fun k => rfl⟩ _ _ fun j => congrArg y (eq_ix1 j)

theorem v24_at (i : S_.Idx) : val_main_v24 (F := Ideal) x4 i = lamV (fun a k => x4 (ix2 a k)) := by
  have h9 : ∀ k : Fin 64, val_main_v10 (F := Ideal) x4 (ix1 k) = x4 (ix2 0 k) := fun k => by
    rw [val_main_v10_apply, val_main_v9_apply]
    refine congrArg x4 (funext fun a => Fin.ext ?_)
    match a with
    | ⟨0, _⟩ => rfl
    | ⟨1, _⟩ => exact Nat.mod_eq_of_lt k.isLt
  have h11 : ∀ k : Fin 64, val_main_v12 (F := Ideal) x4 (ix1 k) = x4 (ix2 1 k) := fun k => by
    rw [val_main_v12_apply, val_main_v11_apply]
    refine congrArg x4 (funext fun a => Fin.ext ?_)
    match a with
    | ⟨0, _⟩ => rfl
    | ⟨1, _⟩ => exact Nat.mod_eq_of_lt k.isLt
  have h16 : ∀ k : Fin 64, val_main_v17 (F := Ideal) x4 (ix1 k) = x4 (ix2 2 k) := fun k => by
    rw [val_main_v17_apply, val_main_v16_apply]
    refine congrArg x4 (funext fun a => Fin.ext ?_)
    match a with
    | ⟨0, _⟩ => rfl
    | ⟨1, _⟩ => exact Nat.mod_eq_of_lt k.isLt
  have h18 : ∀ k : Fin 64, val_main_v19 (F := Ideal) x4 (ix1 k) = x4 (ix2 3 k) := fun k => by
    rw [val_main_v19_apply, val_main_v18_apply]
    refine congrArg x4 (funext fun a => Fin.ext ?_)
    match a with
    | ⟨0, _⟩ => rfl
    | ⟨1, _⟩ => exact Nat.mod_eq_of_lt k.isLt
  rw [val_main_v24_apply, val_main_v23_apply, val_main_v15_apply, val_main_v22_apply, val_main_v14_apply, val_main_v21_apply, val_main_cst_apply,
    val_main_cst_0_apply, val_main_cst_1_apply, zero_bits, zero_add, zero_add, lamSum, lamSum]
  unfold lamV
  refine congrArg₂ (· + ·) (congrArg₂ (· - ·) (congrArg Ideal.exp (Finset.sum_congr rfl fun k _ => ?_)) (congrArg Ideal.exp (Finset.sum_congr rfl fun k _ => ?_))) rfl
  · exact congrArg₂ (· * ·) (h9 k) (h11 k)
  · exact congrArg₂ (· * ·) (h16 k) (h18 k)

theorem v50_at (b : Fin 2) (h : Fin 8) (q p : Fin 8192) :
    val_main_v50 (F := Ideal) x0 x1 x4 (ix4 b h q p)
      = wgt x0 x1 b.val h 0 q.val p.val - lamV (fun a k => x4 (ix2 a k)) * wgt x0 x1 b.val h 1 q.val p.val := by
  have e0 : idx_main_v44 (idx_main_v45 (ix4 b h q p)) = ix5 b h 0 q p := funext fun a => Fin.ext (by
    match a with
    | ⟨0, _⟩ => show (((b.val * 8 + h.val) * 8192 + q.val) * 8192 + p.val) / 536870912 = b.val; omega
    | ⟨1, _⟩ => show (((b.val * 8 + h.val) * 8192 + q.val) * 8192 + p.val) / 67108864 % 8 = h.val; omega
    | ⟨2, _⟩ => rfl
    | ⟨3, _⟩ => show (((b.val * 8 + h.val) * 8192 + q.val) * 8192 + p.val) / 8192 % 8192 = q.val; omega
    | ⟨4, _⟩ => show (((b.val * 8 + h.val) * 8192 + q.val) * 8192 + p.val) % 8192 = p.val; omega)
  have e1 : idx_main_v46 (idx_main_v47 (ix4 b h q p)) = ix5 b h 1 q p := funext fun a => Fin.ext (by
    match a with
    | ⟨0, _⟩ => show (((b.val * 8 + h.val) * 8192 + q.val) * 8192 + p.val) / 536870912 = b.val; omega
    | ⟨1, _⟩ => show (((b.val * 8 + h.val) * 8192 + q.val) * 8192 + p.val) / 67108864 % 8 = h.val; omega
    | ⟨2, _⟩ => rfl
    | ⟨3, _⟩ => show (((b.val * 8 + h.val) * 8192 + q.val) * 8192 + p.val) / 8192 % 8192 = q.val; omega
    | ⟨4, _⟩ => show (((b.val * 8 + h.val) * 8192 + q.val) * 8192 + p.val) % 8192 = p.val; omega)
  rw [val_main_v50_apply, val_main_v49_apply, val_main_v45_apply, val_main_v44_apply, val_main_v47_apply, val_main_v46_apply, val_main_v48_apply, e0, e1,
    v43_at, v43_at, v24_at]
  rfl

theorem v52_at (b : Fin 2) (q : Fin 8192) (h : Fin 8) (d : Fin 128) :
    val_main_v52 (F := Ideal) x0 x1 x2 x4 (ix4 b q h d) = attO x0 x1 x2 x4 b.val h q.val d := by
  have e1 : idx_main_v52 (ix4 b q h d) = ix4 b h d q := eq_ix4 _
  rw [val_main_v52_apply, e1, val_main_v51_apply]
  unfold attO
  rw [Finset.sum_range]
  refine Finset.sum_congr rfl fun p _ => ?_
  have el : lidx_main_v51 (ix4 b h d q) p = ix4 b p h d := eq_ix4 _
  have er : ridx_main_v51 (ix4 b h d q) p = ix4 b h q p := eq_ix4 _
  rw [el, er, v7_at, v50_at]

theorem v62_at (b : Fin 2) (q : Fin 8192) (h : Fin 8) (d : Fin 128) :
    val_main_v62 (F := Ideal) x0 x1 x2 x4 (ix4 b q h d) = nrm (attO x0 x1 x2 x4 b.val h q.val) d := by
  have e1 : idx_main_v55 (idx_main_v61 (ix4 b q h d)) = ix3 b q h := eq_ix3 _
  have hs : val_main_v54 (F := Ideal) x0 x1 x2 x4 (ix3 b q h)
      = ∑ e : Fin 128, attO x0 x1 x2 x4 b.val h q.val e * attO x0 x1 x2 x4 b.val h q.val e := by
    rw [val_main_v54_apply, val_main_cst_6_apply, zero_bits, zero_add]
    refine Finset.sum_congr rfl fun e _ => ?_
    have e2 : idx_main_v54 (ix3 b q h) e = ix4 b q h e := eq_ix4 _
    rw [e2, val_main_v53_apply, v52_at]
    rfl
  rw [val_main_v62_apply, val_main_v61_apply, val_main_v60_apply, val_main_v59_apply, val_main_v57_apply, val_main_v55_apply, val_main_v56_apply,
    val_main_v58_apply, val_main_cst_7_apply, val_main_cst_8_apply, e1, hs, v52_at]
  rfl

theorem v67_at (b : Fin 2) (q : Fin 8192) (h : Fin 8) (d : Fin 128) :
    val_main_v67 (F := Ideal) x0 x1 x2 x4 x5 (ix4 b q h d)
      = nrm (attO x0 x1 x2 x4 b.val h q.val) d * x5 (ix1 d) * Ideal.ofBits .f32 0x3F4CCCCD#32 := by
  have e1 : idx_main_v63 (idx_main_v64 (ix4 b q h d)) = ix1 d := eq_ix1 _
  rw [val_main_v67_apply, val_main_v66_apply, val_main_cst_9_apply, val_main_v65_apply, val_main_v64_apply, val_main_v63_apply, e1, v62_at]
  rfl

theorem v69_at (R : Fin 16384) (k : Fin 1024) (g : EReal) (hg : x3 (ix2 R (gcol k)) = g) :
    val_main_v69 (F := Ideal) x3 (ix2 R k) = g * Ideal.div 1 (1 + Ideal.exp (-g)) := by
  have e1 : idx_main_v8 (ix2 R k) = ix2 R (gcol k) := eq_ix2 _
  rw [val_main_v69_apply, val_main_call1_v5_apply, val_main_call1_v4_apply, val_main_call1_cst_0_apply, val_main_call1_v3_apply, val_main_call1_v2_apply,
    val_main_call1_cst_apply, val_main_call1_v1_apply, val_main_call1_v0_apply, val_main_v8_apply, e1, hg, one_bits]
  rfl

/-- The reference's result is the attention. -/
theorem val_eq : val_main_v71 (F := Ideal) x0 x1 x2 x3 x4 x5 = attAll x0 x1 x2 x3 x4 x5 := by
  refine funext fun (i : S16384x1024.Idx) => ?_
  obtain ⟨R, k, rfl⟩ : ∃ (R : Fin 16384) (k : Fin 1024), i = ix2 R k := ⟨i 0, i 1, eq_ix2 i⟩
  have e1 : idx_main_v68 (ix2 R k) = ix4 (⟨R.val / 8192, by omega⟩ : Fin 2) (⟨R.val % 8192, by omega⟩ : Fin 8192) (headOf k) (colOf k) :=
    funext fun a => Fin.ext (by
      match a with
      | ⟨0, _⟩ => show (R.val * 1024 + k.val) / 8388608 = R.val / 8192; omega
      | ⟨1, _⟩ => show (R.val * 1024 + k.val) / 1024 % 8192 = R.val % 8192; omega
      | ⟨2, _⟩ => show (R.val * 1024 + k.val) / 128 % 8 = k.val / 128; omega
      | ⟨3, _⟩ => show (R.val * 1024 + k.val) % 128 = k.val % 128; omega)
  have hg : x3 (ix2 R (gcol k)) = gateOf x3 (R.val / 8192) (R.val % 8192) (headOf k) (colOf k) := by
    unfold gateOf
    rw [row_headOf, show pos (8192 * (R.val / 8192) + R.val % 8192) = R from Fin.ext (by
      show (8192 * (R.val / 8192) + R.val % 8192) % 16384 = R.val
      omega)]
  rw [val_main_v71_apply, val_main_v70_apply, val_main_v68_apply, e1, v67_at, v69_at x3 R k _ hg]
  rfl

end Cert.ReferenceIdeal.Attn

end
-- ==== Proof.Attn.Pre.lean ====
/-
What the precondition says: the values are real numbers, and so is the weight of the second component.
-/
module

public import proofs.«01_k».proof.Defs
public import proofs.«01_k».proof.Proof.Attn.Meaning
public import Idealize.ShloMosaic.Lib.ReduceAll

@[expose] public section

set_option maxRecDepth 16384

noncomputable section

namespace Cert.Pre_finite_values.Attn

open Idealize.ShloMosaic Idealize.ShloMosaic.ValueIdx
open Cert.Pre_finite_values

/-- The side conditions of the precondition. -/
theorem facts : Facts where
  bitsLt_bf16_f32 := by decide
  bcast_S_S1024x16384 := by decide
  reducesTo_S1024x16384_S_d0_1 := by decide
  h_S_ := by decide
  bcast_S_S4x64 := by decide
  reducesTo_S4x64_S_d0_1 := by decide

theorem inf_bits : Ideal.ofBits .f32 0x7F800000#32 = ⊤ := by
  simp [Ideal.ofBits, Ideal.ieee]

/-- A number whose size is below infinity is a real number. -/
theorem real_of_abs {x : EReal} (h : BitVec.ofBool (decide (max x (-x) < Ideal.ofBits .f32 0x7F800000#32)) = 1#1) : ∃ r : ℝ, x = (r : EReal) := by
  rw [inf_bits] at h
  have hx : max x (-x) < ⊤ := by
    by_contra hn
    rw [decide_eq_false hn] at h
    exact absurd h (by decide)
  induction x using EReal.rec with
  | bot => simp at hx
  | top => simp at hx
  | coe r => exact ⟨r, rfl⟩

theorem finite [Facts] (x0 : FVec Ideal S1024x16384 .bf16) (x1 : FVec Ideal S16384x1024 .bf16) (x2 : FVec Ideal S1024x16384 .bf16) (x3 : FVec Ideal S16384x6144 .f32)
    (x4 : FVec Ideal S4x64 .f32) (x5 : FVec Ideal S128 .f32) (h : fn (F := Ideal) x0 x1 x2 x3 x4 x5 = fun _ => 1#1) :
    (∀ i, ∃ r : ℝ, x2 i = (r : EReal)) ∧ (∀ i, ∃ r : ℝ, x4 i = (r : EReal)) := by
  have h0 := congrFun h (Shape.Idx.first Facts.h_S_)
  unfold fn at h0
  dsimp only at h0
  haveI : Subsingleton S_.Idx := ⟨fun a b => funext fun i => i.elim0⟩
  obtain ⟨ha, hb⟩ := IntOp.andi_eq_one.1 h0
  exact ⟨fun i => real_of_abs (Host.reduce_andi_all _ _ _ _ _ ha i), fun i => real_of_abs (Host.reduce_andi_all _ _ _ _ _ hb i)⟩

theorem sum_real (f g : Fin 64 → EReal) (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  rw [Cert.Online.coe_sum]
  exact Finset.sum_congr rfl fun k _ => by rw [ha, hb, EReal.coe_mul]

theorem lamInit : ∃ r : ℝ, Ideal.ofBits .f32 0x3E4CCCCD#32 = (r : EReal) := by
  simp [Ideal.ofBits, Ideal.ieee]
  exact ⟨_, (EReal.coe_mul _ _).symm⟩

/-- The weight of the second component is a real number. -/
theorem lam_real (l : Fin 4 → Fin 64 → EReal) (h : ∀ a k, ∃ r : ℝ, l a k = (r : EReal)) : ∃ r : ℝ, Cert.KernelIdeal.Attn.lamV l = (r : EReal) := by
  obtain ⟨a, ha⟩ := sum_real (l 0) (l 1) (h 0) (h 1)
  obtain ⟨b, hb⟩ := sum_real (l 2) (l 3) (h 2) (h 3)
  obtain ⟨r, hr⟩ := lamInit
  refine ⟨Real.exp a - Real.exp b + r, ?_⟩
  unfold Cert.KernelIdeal.Attn.lamV
  rw [ha, hb, hr, Cert.Online.exp_coe, Cert.Online.exp_coe, EReal.coe_add, EReal.coe_sub]

end Cert.Pre_finite_values.Attn

end
-- ==== Proof.Proj.Rows.lean ====
/-
A row scaled by the reciprocal root of its mean square, and its product with a column, over the extended reals.
-/
module

public import proofs.«01_k».proof.Proof.Attn.Fin

@[expose] public section

noncomputable section

namespace Cert.Rows

open Idealize.ShloMosaic Idealize.ShloMosaic.ValueIdx

/-- The factor of a row of 1024 entries: one over the root of its mean square plus a small constant. -/
def scl (x : Fin 1024 → EReal) : EReal :=
  Ideal.rsqrt (Ideal.div (∑ k, x k * x k) (Ideal.ofBits .f32 0x44800000#32) + Ideal.ofBits .f32 0x358637BD#32)

/-- The entry `k` of the scaled row. -/
def nrow (x g : Fin 1024 → EReal) (k : Fin 1024) : EReal := x k * scl x * g k

/-- The scaled row times a column. -/
def ndot (x g w : Fin 1024 → EReal) : EReal := ∑ k, nrow x g k * w k

/-- Each row's sum of a block of rows. -/
theorem rowsum {n d : ℕ} (x : FVec Ideal ⟨2, ![n, d]⟩ .f32) (h : (⟨2, ![n, d]⟩ : Shape).Reduces [1] ⟨1, ![n]⟩) (h1) (h2) (j : Fin n) :
    multiReduction .add [1] ⟨1, ![n]⟩ x 0x00000000#32 h h1 h2 (ix1 j) = ∑ e : Fin d, x (ix2 j e) := by
  refine (Ideal.multiReduction_add_single x _ _ _ _ _).trans ?_
  refine Finset.sum_congr rfl fun e _ => congrArg x (funext fun a => ?_)
  match a with
  | ⟨0, _⟩ => rfl
  | ⟨1, _⟩ => rfl

/-- The columns the main projection of the even layers takes: the first 1024, and those from 2576 on. -/
def colA (j : Fin 6144) : Fin 7696 := if j.val < 1024 then ⟨j.val, by omega⟩ else ⟨j.val + 1552, by omega⟩

theorem colA_lo (j : Fin 6144) (h : j.val < 1024) : (colA j).val = j.val := by unfold colA; rw [if_pos h]
theorem colA_hi (j : Fin 6144) (h : ¬j.val < 1024) : (colA j).val = j.val + 1552 := by unfold colA; rw [if_neg h]

/-- The columns the small projection of the even layers takes: 1552 from 1024 on, then zeros. -/
def colS (w : Fin 7696 → EReal) (j : Fin 1664) : EReal := if h : j.val < 1552 then w ⟨1024 + j.val, by omega⟩ else 0

theorem colS_lo (w : Fin 7696 → EReal) (j : Fin 1664) (h : j.val < 1552) : colS w j = w ⟨1024 + j.val, by omega⟩ := dif_pos h
theorem colS_hi (w : Fin 7696 → EReal) (j : Fin 1664) (h : ¬j.val < 1552) : colS w j = 0 := dif_neg h

theorem off0 : (![0, 0] : Fin 2 → Nat) = fun _ => 0 := funext fun a => by fin_cases a <;> rfl

end Cert.Rows

end
-- ==== Proof.Proj.InC.lean ====
/-
The first projection of the odd layers: the kernel's result array and the reference's.
-/
module

public import proofs.«01_k».proof.Proof.Proj.Rows
public import proofs.«01_k».proof.Proof.Gen.InCIdeal.Value
public import proofs.«01_k».proof.Proof.Gen.InCRefIdeal.Read

@[expose] public section

set_option maxRecDepth 16384
set_option maxHeartbeats 1000000

noncomputable section

namespace Cert.InCIdeal.Proj

open Idealize.ShloMosaic Idealize.ShloMosaic.ValueIdx Idealize.ShloMosaic.TcCoe
open Cert.InCIdeal Cert.InCIdeal.Gen Cert.InCIdeal.Value Cert.Rows
open Cert.KernelIdeal.Attn (rowMajor2 rowMajor3 matmul_plain rsqrt_apply)

variable (m : (ℓ : Loc nD τ sig) → Buf (Elt Ideal) ℓ) (c : Dev nD)

/-- A block's scaled rows. -/
theorem rows_apply (x : Vec Ideal S1024x1024 .f32) (g : Vec Ideal S1x1024 .f32) (r : Fin 1024) (k : Fin 1024) :
    k0_pay1 x g (ix2 r k) = nrow (fun k => x (ix2 r k)) (fun k => g (ix2 0 k)) k := by
  unfold k0_pay1
  dsimp only
  rw [shapeCast_self, truncf_apply, mulf_apply, mulf_apply,
    broadcastTo_apply _ _ _ (ix2 r 0) (fun a => by
      match a with
      | ⟨0, _⟩ => rfl
      | ⟨1, _⟩ => rfl),
    broadcastTo_apply _ _ _ (ix2 0 k) (fun a => by
      match a with
      | ⟨0, _⟩ => rfl
      | ⟨1, _⟩ => rfl),
    shapeCast_self, rsqrt_apply, addf_apply, divf_apply, broadcast_apply, broadcast_apply,
    shapeCast_apply _ _ _ (ix1 r) (by rw [rowMajor2, Shape.rowMajor_val_one]; simp)]
  exact congrArg (fun s : EReal => x (ix2 r k) * Ideal.rsqrt (Ideal.div s (Ideal.ofBits .f32 0x44800000#32) + Ideal.ofBits .f32 0x358637BD#32) * g (ix2 0 k))
    (rowsum (mulf x x) _ _ _ r)

/-- A block of scaled rows times a block of columns. -/
theorem prod_apply (h : Vec Ideal S1024x1024 .bf16) (w : Vec Ideal S1024x1792 .bf16) (r : Fin 1024) (j : Fin 1792) :
    k0_pay2 h w (ix2 r j) = ∑ k : Fin 1024, h (ix2 r k) * w (ix2 k j) := by
  unfold k0_pay2
  rw [shapeCast_self]
  exact matmul_plain dot_S1024x1024_S1024x1792_S1024x1792_1_0_0_1_n_n rfl rfl (fun _ _ _ => ⟨rfl, rfl⟩) (fun _ _ _ => ⟨rfl, rfl⟩) h w r j

/-! ## The blocks a point reads -/

/-- The rows of the first argument, the gains and the columns of the weights. -/
abbrev xOf (i : Fin 16384) (k : Fin 1024) : EReal := m ((c : Thread nD τ).loc main_arg0) (ix2 i k)
abbrev gOf (k : Fin 1024) : EReal := m ((c : Thread nD τ).loc main_arg1) (ix1 k)
abbrev wOf (k : Fin 1024) (j : Fin 7168) : EReal := m ((c : Thread nD τ).loc main_arg2) (ix2 k j)

theorem place (t : Fin cfg0.N) : win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4) t

theorem ptlt (t : Fin cfg0.N) : t.val < 64 := lt_of_lt_of_eq t.isLt N_0

theorem iblk0_apply (t : Fin cfg0.N) (r : Fin 1024) (k : Fin 1024) :
    iblk m c 0 t (ix2 r k : S1024x1024.Idx) = xOf m c ⟨t.val / 4 * 1024 + r.val, by have := ptlt t; omega⟩ k := by
  have e : ((cfg0.win 0).blk t).view.emb (ix2 r k : S1024x1024.Idx) = (ix2 ⟨t.val / 4 * 1024 + r.val, by have := ptlt t; omega⟩ k : S16384x1024.Idx) :=
    funext fun b => Fin.ext (by
      match b with
      | ⟨0, _⟩ => show win0_0.index t (0 : Fin 2) * 1024 + 1 * r.val = t.val / 4 * 1024 + r.val; rw [(place t).1]; omega
      | ⟨1, _⟩ => show win0_0.index t (1 : Fin 2) * 1024 + 1 * k.val = k.val; rw [(place t).2.1]; omega)
  show V m c main_arg0 (((cfg0.win 0).blk t).view.emb (ix2 r k : S1024x1024.Idx)) = _
  rw [e, V_main_arg0]

theorem V_g : V m c main_v1 = shapeCast S1x1024 (m ((c : Thread nD τ).loc main_arg1)) shapeCasts_S1024_S1x1024 := rfl

theorem iblk1_apply (t : Fin cfg0.N) (k : Fin 1024) : iblk m c 1 t (ix2 0 k : S1x1024.Idx) = gOf m c k := by
  have e : ((cfg0.win 1).blk t).view.emb (ix2 0 k : S1x1024.Idx) = (ix2 0 k : S1x1024.Idx) := funext fun b => Fin.ext (by
    match b with
    | ⟨0, _⟩ => show win0_1.index t (0 : Fin 2) * 1 + 1 * 0 = 0; rw [(place t).2.2.1]
    | ⟨1, _⟩ => show win0_1.index t (1 : Fin 2) * 1024 + 1 * k.val = k.val; rw [(place t).2.2.2.1]; omega)
  show V m c main_v1 (((cfg0.win 1).blk t).view.emb (ix2 0 k : S1x1024.Idx)) = _
  rw [e, V_g]
  have e3 : (S1024.rowMajor (ix1 k : S1024.Idx)).val = (S1x1024.rowMajor (ix2 0 k : S1x1024.Idx)).val := by
    rw [rowMajor2, Shape.rowMajor_val_one]; simp
  exact shapeCast_apply _ _ _ (ix1 k : S1024.Idx) e3

theorem V_w (k : Fin 1024) (j : Fin 7168) : V m c main_v0 (ix2 k j : S1024x7168.Idx) = wOf m c k j := rfl

theorem iblk2_apply (t : Fin cfg0.N) (k : Fin 1024) (j : Fin 1792) :
    iblk m c 2 t (ix2 k j : S1024x1792.Idx) = wOf m c k ⟨t.val % 4 * 1792 + j.val, by have := ptlt t; omega⟩ := by
  have e : ((cfg0.win 2).blk t).view.emb (ix2 k j : S1024x1792.Idx) = (ix2 k ⟨t.val % 4 * 1792 + j.val, by have := ptlt t; omega⟩ : S1024x7168.Idx) :=
    funext fun b => Fin.ext (by
      match b with
      | ⟨0, _⟩ => show win0_2.index t (0 : Fin 2) * 1024 + 1 * k.val = k.val; rw [(place t).2.2.2.2.1]; omega
      | ⟨1, _⟩ => show win0_2.index t (1 : Fin 2) * 1792 + 1 * j.val = t.val % 4 * 1792 + j.val; rw [(place t).2.2.2.2.2.1]; omega)
  show V m c main_v0 (((cfg0.win 2).blk t).view.emb (ix2 k j : S1024x1792.Idx)) = _
  rw [e]
  exact V_w m c k _

/-- A point that begins a block of rows scales them, and keeps them for the points after it. -/
theorem out_first (i : grid0.Coords) (a2 : Memref sig .tc .vmem S1024x1024 .f32) (h2 : a2.IsWhole) (a3 : Memref sig .tc .vmem S1x1024 .f32) (h3 : a3.IsWhole)
    (a4 : Memref sig .tc .vmem S1024x1792 .bf16) (h4 : a4.IsWhole) (a5 : Memref sig .tc .vmem S1024x1792 .f32) (h5 : a5.IsWhole)
    (a6 : Memref sig .tc .vmem S1024x1024 .bf16) (h6 : a6.IsWhole) (hc : cond0_0 i)
    (x : Vec Ideal S1024x1024 .f32) (g : Vec Ideal S1x1024 .f32) (w : Vec Ideal S1024x1792 .bf16) :
    out0_A_3 c i a2 h2 a3 h3 a4 h4 a5 h5 a6 h6 hc x g w = k0_pay2 (k0_pay1 x g) w := by
  unfold out0_A_3
  rw [View.read_writes_junk_eq_canon]
  unfold kernelRun0_A
  dsimp only
  sl_unfold_words
  rw [View.canon_unit_zero off0, View.readCov_unit_zero (S := S1024x1024) _ off0]
  simp only [View.readAt_eq_ld, h2.read_unread, h3.read_unread, h4.read_unread, View.ld_unit_zero (S := S1024x1024) off0,
    View.ld_unit_zero (S := S1x1024) off0, View.ld_unit_zero (S := S1024x1792) off0]

theorem kept_first (i : grid0.Coords) (a2 : Memref sig .tc .vmem S1024x1024 .f32) (h2 : a2.IsWhole) (a3 : Memref sig .tc .vmem S1x1024 .f32) (h3 : a3.IsWhole)
    (a4 : Memref sig .tc .vmem S1024x1792 .bf16) (h4 : a4.IsWhole) (a5 : Memref sig .tc .vmem S1024x1792 .f32) (h5 : a5.IsWhole)
    (a6 : Memref sig .tc .vmem S1024x1024 .bf16) (h6 : a6.IsWhole) (hc : cond0_0 i)
    (x : Vec Ideal S1024x1024 .f32) (g : Vec Ideal S1x1024 .f32) (w : Vec Ideal S1024x1792 .bf16) :
    sout0_A_0 c i a2 h2 a3 h3 a4 h4 a5 h5 a6 h6 hc x g w = k0_pay1 x g := by
  unfold sout0_A_0
  rw [View.read_writes_junk_eq_canon]
  unfold kernelRun0_A
  dsimp only
  sl_unfold_words
  rw [View.canon_unit_zero off0]
  simp only [View.readAt_eq_ld, h2.read_unread, h3.read_unread, View.ld_unit_zero (S := S1024x1024) off0, View.ld_unit_zero (S := S1x1024) off0]

/-- Any other point multiplies the rows kept. -/
theorem out_next (i : grid0.Coords) (a2 : Memref sig .tc .vmem S1024x1024 .f32) (h2 : a2.IsWhole) (a3 : Memref sig .tc .vmem S1x1024 .f32) (h3 : a3.IsWhole)
    (a4 : Memref sig .tc .vmem S1024x1792 .bf16) (h4 : a4.IsWhole) (a5 : Memref sig .tc .vmem S1024x1792 .f32) (h5 : a5.IsWhole)
    (a6 : Memref sig .tc .vmem S1024x1024 .bf16) (h6 : a6.IsWhole) (hc : ¬cond0_0 i)
    (x : Vec Ideal S1024x1024 .f32) (g : Vec Ideal S1x1024 .f32) (w : Vec Ideal S1024x1792 .bf16) (h : Vec Ideal S1024x1024 .bf16) :
    out0_B_3 c i a2 h2 a3 h3 a4 h4 a5 h5 a6 h6 hc x g w h = k0_pay2 h w := by
  unfold out0_B_3
  rw [View.read_writes_junk_eq_canon]
  unfold kernelRun0_B
  dsimp only
  sl_unfold_words
  rw [View.canon_unit_zero off0]
  simp only [View.readAt_eq_ld, h4.read_unread, h6.read_unread, View.ld_unit_zero (S := S1024x1024) off0, View.ld_unit_zero (S := S1024x1792) off0]

/-- The rows and the gains a point reads are those of the point before, unless it begins a block of rows. -/
theorem same_rows (n : ℕ) (h : n + 1 < cfg0.N) (h0 : ¬(n + 1) % 4 = 0) :
    iblk m c 0 ⟨n + 1, h⟩ = iblk m c 0 ⟨n, Nat.lt_of_succ_lt h⟩ ∧ iblk m c 1 ⟨n + 1, h⟩ = iblk m c 1 ⟨n, Nat.lt_of_succ_lt h⟩ := by
  have e : (n + 1) / 4 = n / 4 := by omega
  have hN : n + 1 < 64 := lt_of_lt_of_eq h N_0
  constructor
  · refine funext fun (y : S1024x1024.Idx) => ?_
    obtain ⟨r, k, rfl⟩ : ∃ r k, y = ix2 r k := ⟨_, _, eq_ix2 y⟩
    refine (iblk0_apply m c ⟨n + 1, h⟩ r k).trans (Eq.trans ?_ (iblk0_apply m c ⟨n, Nat.lt_of_succ_lt h⟩ r k).symm)
    exact congrArg (fun i => xOf m c i k) (Fin.ext (by show (n + 1) / 4 * 1024 + r.val = n / 4 * 1024 + r.val; rw [e]))
  · refine funext fun (y : S1x1024.Idx) => ?_
    obtain ⟨r, k, rfl⟩ : ∃ r k, y = ix2 r k := ⟨_, _, eq_ix2 y⟩
    obtain rfl : r = 0 := Subsingleton.elim _ _
    exact (iblk1_apply m c ⟨n + 1, h⟩ k).trans (iblk1_apply m c ⟨n, Nat.lt_of_succ_lt h⟩ k).symm

/-- What each point leaves: its product, and its scaled rows. -/
theorem left : ∀ (n : ℕ) (h : n < cfg0.N), outsAt0 m c n h
    = (k0_pay2 (k0_pay1 (iblk m c 0 ⟨n, h⟩) (iblk m c 1 ⟨n, h⟩)) (iblk m c 2 ⟨n, h⟩), k0_pay1 (iblk m c 0 ⟨n, h⟩) (iblk m c 1 ⟨n, h⟩))
  | 0, h => (outsAt0_A m c ⟨0, h⟩ (Nat.zero_mod _)).trans (by rw [out_first, kept_first])
  | n + 1, h => by
    by_cases h0 : (n + 1) % 4 = 0
    · exact (outsAt0_A m c ⟨n + 1, h⟩ h0).trans (by rw [out_first, kept_first])
    · refine (outsAt0_B m c ⟨n + 1, h⟩ h0).trans ?_
      have ih : (outsAt0 m c n (Nat.lt_of_succ_lt h)).2 = k0_pay1 (iblk m c 0 ⟨n + 1, h⟩) (iblk m c 1 ⟨n + 1, h⟩) := by
        rw [left n (Nat.lt_of_succ_lt h), (same_rows m c n h h0).1, (same_rows m c n h h0).2]
      rw [out_next]
      exact congrArg (fun q => (k0_pay2 q (iblk m c 2 ⟨n + 1, h⟩), q)) ih

theorem outs (t : Fin cfg0.N) : (outsAt0 m c t.val t.isLt).1 = k0_pay2 (k0_pay1 (iblk m c 0 t) (iblk m c 1 t)) (iblk m c 2 t) := by
  rw [left]

/-- The projection: each row scaled, times each column. -/
def proj : Buf (Elt Ideal) ((c : Thread nD τ).loc main_v2) := fun (i : S16384x7168.Idx) =>
  ndot (xOf m c (i 0)) (gOf m c) (fun k => wOf m c k (i 1))

theorem flushed_eq (t : Fin cfg0.N) :
    (dats m 0 c).flushed 3 t = ((cfg0.win 3).blk t).view.read (Elt Ideal) (proj m c) := by
  rw [flushed3, outs]
  refine funext fun (y : S1024x1792.Idx) => ?_
  have hy0 : (y 0).val < 1024 := (y 0).isLt
  have hy1 : (y 1).val < 1792 := (y 1).isLt
  have e : ((cfg0.win 3).blk t).view.emb y = (ix2 ⟨t.val / 4 * 1024 + (y 0).val, by have := ptlt t; omega⟩
      ⟨t.val % 4 * 1792 + (y 1).val, by have := ptlt t; omega⟩ : S16384x7168.Idx) := funext fun b => Fin.ext (by
    match b with
    | ⟨0, _⟩ => show win0_3.index t (0 : Fin 2) * 1024 + 1 * (y 0).val = t.val / 4 * 1024 + (y 0).val; rw [(place t).2.2.2.2.2.2.1]; omega
    | ⟨1, _⟩ => show win0_3.index t (1 : Fin 2) * 1792 + 1 * (y 1).val = t.val % 4 * 1792 + (y 1).val; rw [(place t).2.2.2.2.2.2.2]; omega)
  show k0_pay2 (k0_pay1 (iblk m c 0 t) (iblk m c 1 t)) (iblk m c 2 t) y = proj m c (((cfg0.win 3).blk t).view.emb y)
  rw [e]
  refine (congrArg (k0_pay2 (k0_pay1 (iblk m c 0 t) (iblk m c 1 t)) (iblk m c 2 t)) (eq_ix2 y)).trans ?_
  refine (prod_apply _ _ (y 0) (y 1)).trans ?_
  refine Finset.sum_congr rfl fun k _ => congrArg₂ (· * ·) ?_ (iblk2_apply m c t k (y 1))
  refine (rows_apply _ _ (y 0) k).trans ?_
  exact congrArg₂ (fun a b => nrow a b k) (funext fun k => iblk0_apply m c t (y 0) k) (funext fun k => iblk1_apply m c t k)

/-- The result array ends holding the projection. -/
theorem final : (dats m 0 c).arrAt 3 cfg0.N = proj m c :=
  (dats m 0 c).arrAt_eq_of_cover 3 _ (fun t _ => flushed_eq m c t) fun (i : S16384x7168.Idx) => (covered_iff3 i).2 (by
    have h0 : (i 0).val < 16384 := (i 0).isLt
    have h1 : (i 1).val < 7168 := (i 1).isLt
    omega)

end Cert.InCIdeal.Proj

namespace Cert.InCRefIdeal.Proj

open Idealize.ShloMosaic Idealize.ShloMosaic.ValueIdx Idealize.ShloMosaic.TcCoe
open Cert.InCRefIdeal Cert.InCRefIdeal.Gen Cert.InCRefIdeal.Read Cert.Rows

variable (x0 : (⟨S16384x1024, .f32⟩ : BufTy).Contents (Elt Ideal)) (x1 : (⟨S1024, .f32⟩ : BufTy).Contents (Elt Ideal)) (x2 : (⟨S1024x7168, .f32⟩ : BufTy).Contents (Elt Ideal))

theorem zero_bits : (FloatOps.ofBits (F := Ideal) .f32 0x00000000#32 : EReal) = 0 := Cert.KernelIdeal.Attn.zero_f32

theorem rows_at (i : Fin 16384) (k : Fin 1024) :
    val_main_v12 (F := Ideal) x0 x1 (ix2 i k) = nrow (fun k => x0 (ix2 i k)) (fun k => x1 (ix1 k)) k := by
  have e1 : idx_main_v2 (idx_main_v8 (ix2 i k)) = ix1 i := eq_ix1 _
  have e2 : idx_main_v10 (idx_main_v11 (ix2 i k)) = ix1 k := eq_ix1 _
  have hs : val_main_v1 (F := Ideal) x0 (ix1 i) = ∑ k : Fin 1024, x0 (ix2 i k) * x0 (ix2 i k) := by
    rw [val_main_v1_apply, val_main_cst_apply]
    refine (congrArg (· + _) zero_bits).trans ((zero_add _).trans ?_)
    refine Finset.sum_congr rfl fun k _ => ?_
    have e : idx_main_v1 (ix1 i) k = ix2 i k := eq_ix2 _
    rw [val_main_v0_apply, e]
    rfl
  rw [val_main_v12_apply, val_main_v9_apply, val_main_v11_apply, val_main_v10_apply, e2, val_main_v8_apply, val_main_v7_apply, val_main_v6_apply,
    val_main_v4_apply, val_main_v2_apply, e1, hs, val_main_v3_apply, val_main_v5_apply, val_main_cst_0_apply, val_main_cst_1_apply]
  rfl

/-- The product of the scaled rows with the weights. -/
theorem prod_at (i : Fin 16384) (j : Fin 7168) :
    val_main_v13 (F := Ideal) x0 x1 x2 (ix2 i j) = ndot (fun k => x0 (ix2 i k)) (fun k => x1 (ix1 k)) (fun k => x2 (ix2 k j)) := by
  rw [val_main_v13_apply]
  refine Finset.sum_congr rfl fun k _ => ?_
  have el : lidx_main_v13 (ix2 i j) k = ix2 i k := eq_ix2 _
  have er : ridx_main_v13 (ix2 i j) k = ix2 k j := eq_ix2 _
  rw [el, er, rows_at]

theorem val_eq : val_main_v13 (F := Ideal) x0 x1 x2 = fun (i : S16384x7168.Idx) =>
    ndot (fun k => x0 (ix2 (i 0) k)) (fun k => x1 (ix1 k)) (fun k => x2 (ix2 k (i 1))) :=
  funext fun (i : S16384x7168.Idx) => (congrArg _ (eq_ix2 i)).trans (prod_at x0 x1 x2 (i 0) (i 1))

end Cert.InCRefIdeal.Proj

end
-- ==== Proof.Proj.InA.lean ====
/-
The main projection of the even layers: the kernel's result array and the reference's.
-/
module

public import proofs.«01_k».proof.Proof.Proj.Rows
public import proofs.«01_k».proof.Proof.Gen.InAIdeal.Value
public import proofs.«01_k».proof.Proof.Gen.InARefIdeal.Read

@[expose] public section

set_option maxRecDepth 16384
set_option maxHeartbeats 1000000

noncomputable section

namespace Cert.InAIdeal.Proj

open Idealize.ShloMosaic Idealize.ShloMosaic.ValueIdx Idealize.ShloMosaic.TcCoe
open Cert.InAIdeal Cert.InAIdeal.Gen Cert.InAIdeal.Value Cert.Rows
open Cert.KernelIdeal.Attn (rowMajor2 rowMajor3 matmul_plain rsqrt_apply)

variable (m : (ℓ : Loc nD τ sig) → Buf (Elt Ideal) ℓ) (c : Dev nD)

/-- A block's scaled rows. -/
theorem rows_apply (x : Vec Ideal S1024x1024 .f32) (g : Vec Ideal S1x1024 .f32) (r : Fin 1024) (k : Fin 1024) :
    k0_pay1 x g (ix2 r k) = nrow (fun k => x (ix2 r k)) (fun k => g (ix2 0 k)) k := by
  unfold k0_pay1
  dsimp only
  rw [shapeCast_self, truncf_apply, mulf_apply, mulf_apply,
    broadcastTo_apply _ _ _ (ix2 r 0) (fun a => by
      match a with
      | ⟨0, _⟩ => rfl
      | ⟨1, _⟩ => rfl),
    broadcastTo_apply _ _ _ (ix2 0 k) (fun a => by
      match a with
      | ⟨0, _⟩ => rfl
      | ⟨1, _⟩ => rfl),
    shapeCast_self, rsqrt_apply, addf_apply, divf_apply, broadcast_apply, broadcast_apply,
    shapeCast_apply _ _ _ (ix1 r) (by rw [rowMajor2, Shape.rowMajor_val_one]; simp)]
  exact congrArg (fun s : EReal => x (ix2 r k) * Ideal.rsqrt (Ideal.div s (Ideal.ofBits .f32 0x44800000#32) + Ideal.ofBits .f32 0x358637BD#32) * g (ix2 0 k))
    (rowsum (mulf x x) _ _ _ r)

/-- A block of scaled rows times a block of columns. -/
theorem prod_apply (h : Vec Ideal S1024x1024 .bf16) (w : Vec Ideal S1024x3072 .bf16) (r : Fin 1024) (j : Fin 3072) :
    k0_pay2 h w (ix2 r j) = ∑ k : Fin 1024, h (ix2 r k) * w (ix2 k j) := by
  unfold k0_pay2
  rw [shapeCast_self]
  exact matmul_plain dot_S1024x1024_S1024x3072_S1024x3072_1_0_0_1_n_n rfl rfl (fun _ _ _ => ⟨rfl, rfl⟩) (fun _ _ _ => ⟨rfl, rfl⟩) h w r j

/-! ## The blocks a point reads -/

/-- The rows of the first argument, the gains and the columns of the weights. -/
abbrev xOf (i : Fin 16384) (k : Fin 1024) : EReal := m ((c : Thread nD τ).loc main_arg0) (ix2 i k)
abbrev gOf (k : Fin 1024) : EReal := m ((c : Thread nD τ).loc main_arg1) (ix1 k)
abbrev wOf (k : Fin 1024) (j : Fin 6144) : EReal := m ((c : Thread nD τ).loc main_arg2) (ix2 k (colA j))

theorem place (t : Fin cfg0.N) : win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 2
    ∧ win0_3.index t (0 : Fin 2) = t.val / 2 ∧ win0_3.index t (1 : Fin 2) = t.val % 2 :=
  (by decide +kernel : ∀ t : Fin grid0.N, win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 2
    ∧ win0_3.index t (0 : Fin 2) = t.val / 2 ∧ win0_3.index t (1 : Fin 2) = t.val % 2) t

theorem ptlt (t : Fin cfg0.N) : t.val < 32 := lt_of_lt_of_eq t.isLt N_0

theorem iblk0_apply (t : Fin cfg0.N) (r : Fin 1024) (k : Fin 1024) :
    iblk m c 0 t (ix2 r k : S1024x1024.Idx) = xOf m c ⟨t.val / 2 * 1024 + r.val, by have := ptlt t; omega⟩ k := by
  have e : ((cfg0.win 0).blk t).view.emb (ix2 r k : S1024x1024.Idx) = (ix2 ⟨t.val / 2 * 1024 + r.val, by have := ptlt t; omega⟩ k : S16384x1024.Idx) :=
    funext fun b => Fin.ext (by
      match b with
      | ⟨0, _⟩ => show win0_0.index t (0 : Fin 2) * 1024 + 1 * r.val = t.val / 2 * 1024 + r.val; rw [(place t).1]; omega
      | ⟨1, _⟩ => show win0_0.index t (1 : Fin 2) * 1024 + 1 * k.val = k.val; rw [(place t).2.1]; omega)
  show V m c main_arg0 (((cfg0.win 0).blk t).view.emb (ix2 r k : S1024x1024.Idx)) = _
  rw [e, V_main_arg0]

theorem V_g : V m c main_v9 = shapeCast S1x1024 (m ((c : Thread nD τ).loc main_arg1)) shapeCasts_S1024_S1x1024 := rfl

theorem iblk1_apply (t : Fin cfg0.N) (k : Fin 1024) : iblk m c 1 t (ix2 0 k : S1x1024.Idx) = gOf m c k := by
  have e : ((cfg0.win 1).blk t).view.emb (ix2 0 k : S1x1024.Idx) = (ix2 0 k : S1x1024.Idx) := funext fun b => Fin.ext (by
    match b with
    | ⟨0, _⟩ => show win0_1.index t (0 : Fin 2) * 1 + 1 * 0 = 0; rw [(place t).2.2.1]
    | ⟨1, _⟩ => show win0_1.index t (1 : Fin 2) * 1024 + 1 * k.val = k.val; rw [(place t).2.2.2.1]; omega)
  show V m c main_v9 (((cfg0.win 1).blk t).view.emb (ix2 0 k : S1x1024.Idx)) = _
  rw [e, V_g]
  have e3 : (S1024.rowMajor (ix1 k : S1024.Idx)).val = (S1x1024.rowMajor (ix2 0 k : S1x1024.Idx)).val := by
    rw [rowMajor2, Shape.rowMajor_val_one]; simp
  exact shapeCast_apply _ _ _ (ix1 k : S1024.Idx) e3

theorem V_w5 : (V m c main_v5 : FVec Ideal S1024x6144 .bf16) = (truncf .bf16 (concatenate S1024x6144 1
    [⟨S1024x1024, extractStridedSlice S1024x1024 ![0, 0] (m ((c : Thread nD τ).loc main_arg2) : FVec Ideal S1024x7696 .f32) slices_S1024x7696_S1024x1024_0_0⟩,
     ⟨S1024x5120, extractStridedSlice S1024x5120 ![0, 2576] (m ((c : Thread nD τ).loc main_arg2) : FVec Ideal S1024x7696 .f32) slices_S1024x7696_S1024x5120_0_2576⟩]
    concatenates_S1024x1024_S1024x5120_S1024x6144_d1 : FVec Ideal S1024x6144 .f32) bitsLt_bf16_f32 : FVec Ideal S1024x6144 .bf16) := rfl

theorem V_w (k : Fin 1024) (j : Fin 6144) : V m c main_v5 (ix2 k j : S1024x6144.Idx) = wOf m c k j := by
  rw [V_w5, truncf_apply]
  by_cases h : j.val < 1024
  · refine (concatenate_pair_apply_left (t := S1024x6144) (s₁ := S1024x1024) (s₂ := S1024x5120) 1 _ _ _ _ rfl (ix2 k ⟨j.val, h⟩) (fun b => by
      match b with
      | ⟨0, _⟩ => rfl
      | ⟨1, _⟩ => rfl)).trans ?_
    refine extractStridedSlice_apply _ _ _ _ (ix2 k (colA j)) fun b => ?_
    match b with
    | ⟨0, _⟩ => exact (Nat.zero_add _).symm
    | ⟨1, _⟩ => exact (colA_lo j h).trans (Nat.zero_add _).symm
  · refine (concatenate_pair_apply_right (t := S1024x6144) (s₁ := S1024x1024) (s₂ := S1024x5120) 1 _ _ _ _ rfl rfl (ix2 k ⟨j.val - 1024, by omega⟩) (fun b hb => by
      match b with
      | ⟨0, _⟩ => rfl
      | ⟨1, _⟩ => exact absurd rfl hb) (by show j.val - 1024 + 1024 = j.val; omega)).trans ?_
    refine extractStridedSlice_apply _ _ _ _ (ix2 k (colA j)) fun b => ?_
    match b with
    | ⟨0, _⟩ => exact (Nat.zero_add _).symm
    | ⟨1, _⟩ => exact (colA_hi j h).trans (by show j.val + 1552 = 2576 + (j.val - 1024); omega)

theorem iblk2_apply (t : Fin cfg0.N) (k : Fin 1024) (j : Fin 3072) :
    iblk m c 2 t (ix2 k j : S1024x3072.Idx) = wOf m c k ⟨t.val % 2 * 3072 + j.val, by have := ptlt t; omega⟩ := by
  have e : ((cfg0.win 2).blk t).view.emb (ix2 k j : S1024x3072.Idx) = (ix2 k ⟨t.val % 2 * 3072 + j.val, by have := ptlt t; omega⟩ : S1024x6144.Idx) :=
    funext fun b => Fin.ext (by
      match b with
      | ⟨0, _⟩ => show win0_2.index t (0 : Fin 2) * 1024 + 1 * k.val = k.val; rw [(place t).2.2.2.2.1]; omega
      | ⟨1, _⟩ => show win0_2.index t (1 : Fin 2) * 3072 + 1 * j.val = t.val % 2 * 3072 + j.val; rw [(place t).2.2.2.2.2.1]; omega)
  show V m c main_v5 (((cfg0.win 2).blk t).view.emb (ix2 k j : S1024x3072.Idx)) = _
  rw [e]
  exact V_w m c k _

/-- A point that begins a block of rows scales them, and keeps them for the points after it. -/
theorem out_first (i : grid0.Coords) (a2 : Memref sig .tc .vmem S1024x1024 .f32) (h2 : a2.IsWhole) (a3 : Memref sig .tc .vmem S1x1024 .f32) (h3 : a3.IsWhole)
    (a4 : Memref sig .tc .vmem S1024x3072 .bf16) (h4 : a4.IsWhole) (a5 : Memref sig .tc .vmem S1024x3072 .f32) (h5 : a5.IsWhole)
    (a6 : Memref sig .tc .vmem S1024x1024 .bf16) (h6 : a6.IsWhole) (hc : cond0_0 i)
    (x : Vec Ideal S1024x1024 .f32) (g : Vec Ideal S1x1024 .f32) (w : Vec Ideal S1024x3072 .bf16) :
    out0_A_3 c i a2 h2 a3 h3 a4 h4 a5 h5 a6 h6 hc x g w = k0_pay2 (k0_pay1 x g) w := by
  unfold out0_A_3
  rw [View.read_writes_junk_eq_canon]
  unfold kernelRun0_A
  dsimp only
  sl_unfold_words
  rw [View.canon_unit_zero off0, View.readCov_unit_zero (S := S1024x1024) _ off0]
  simp only [View.readAt_eq_ld, h2.read_unread, h3.read_unread, h4.read_unread, View.ld_unit_zero (S := S1024x1024) off0,
    View.ld_unit_zero (S := S1x1024) off0, View.ld_unit_zero (S := S1024x3072) off0]

theorem kept_first (i : grid0.Coords) (a2 : Memref sig .tc .vmem S1024x1024 .f32) (h2 : a2.IsWhole) (a3 : Memref sig .tc .vmem S1x1024 .f32) (h3 : a3.IsWhole)
    (a4 : Memref sig .tc .vmem S1024x3072 .bf16) (h4 : a4.IsWhole) (a5 : Memref sig .tc .vmem S1024x3072 .f32) (h5 : a5.IsWhole)
    (a6 : Memref sig .tc .vmem S1024x1024 .bf16) (h6 : a6.IsWhole) (hc : cond0_0 i)
    (x : Vec Ideal S1024x1024 .f32) (g : Vec Ideal S1x1024 .f32) (w : Vec Ideal S1024x3072 .bf16) :
    sout0_A_0 c i a2 h2 a3 h3 a4 h4 a5 h5 a6 h6 hc x g w = k0_pay1 x g := by
  unfold sout0_A_0
  rw [View.read_writes_junk_eq_canon]
  unfold kernelRun0_A
  dsimp only
  sl_unfold_words
  rw [View.canon_unit_zero off0]
  simp only [View.readAt_eq_ld, h2.read_unread, h3.read_unread, View.ld_unit_zero (S := S1024x1024) off0, View.ld_unit_zero (S := S1x1024) off0]

/-- Any other point multiplies the rows kept. -/
theorem out_next (i : grid0.Coords) (a2 : Memref sig .tc .vmem S1024x1024 .f32) (h2 : a2.IsWhole) (a3 : Memref sig .tc .vmem S1x1024 .f32) (h3 : a3.IsWhole)
    (a4 : Memref sig .tc .vmem S1024x3072 .bf16) (h4 : a4.IsWhole) (a5 : Memref sig .tc .vmem S1024x3072 .f32) (h5 : a5.IsWhole)
    (a6 : Memref sig .tc .vmem S1024x1024 .bf16) (h6 : a6.IsWhole) (hc : ¬cond0_0 i)
    (x : Vec Ideal S1024x1024 .f32) (g : Vec Ideal S1x1024 .f32) (w : Vec Ideal S1024x3072 .bf16) (h : Vec Ideal S1024x1024 .bf16) :
    out0_B_3 c i a2 h2 a3 h3 a4 h4 a5 h5 a6 h6 hc x g w h = k0_pay2 h w := by
  unfold out0_B_3
  rw [View.read_writes_junk_eq_canon]
  unfold kernelRun0_B
  dsimp only
  sl_unfold_words
  rw [View.canon_unit_zero off0]
  simp only [View.readAt_eq_ld, h4.read_unread, h6.read_unread, View.ld_unit_zero (S := S1024x1024) off0, View.ld_unit_zero (S := S1024x3072) off0]

/-- The rows and the gains a point reads are those of the point before, unless it begins a block of rows. -/
theorem same_rows (n : ℕ) (h : n + 1 < cfg0.N) (h0 : ¬(n + 1) % 2 = 0) :
    iblk m c 0 ⟨n + 1, h⟩ = iblk m c 0 ⟨n, Nat.lt_of_succ_lt h⟩ ∧ iblk m c 1 ⟨n + 1, h⟩ = iblk m c 1 ⟨n, Nat.lt_of_succ_lt h⟩ := by
  have e : (n + 1) / 2 = n / 2 := by omega
  have hN : n + 1 < 32 := lt_of_lt_of_eq h N_0
  constructor
  · refine funext fun (y : S1024x1024.Idx) => ?_
    obtain ⟨r, k, rfl⟩ : ∃ r k, y = ix2 r k := ⟨_, _, eq_ix2 y⟩
    refine (iblk0_apply m c ⟨n + 1, h⟩ r k).trans (Eq.trans ?_ (iblk0_apply m c ⟨n, Nat.lt_of_succ_lt h⟩ r k).symm)
    exact congrArg (fun i => xOf m c i k) (Fin.ext (by show (n + 1) / 2 * 1024 + r.val = n / 2 * 1024 + r.val; rw [e]))
  · refine funext fun (y : S1x1024.Idx) => ?_
    obtain ⟨r, k, rfl⟩ : ∃ r k, y = ix2 r k := ⟨_, _, eq_ix2 y⟩
    obtain rfl : r = 0 := Subsingleton.elim _ _
    exact (iblk1_apply m c ⟨n + 1, h⟩ k).trans (iblk1_apply m c ⟨n, Nat.lt_of_succ_lt h⟩ k).symm

/-- What each point leaves: its product, and its scaled rows. -/
theorem left : ∀ (n : ℕ) (h : n < cfg0.N), outsAt0 m c n h
    = (k0_pay2 (k0_pay1 (iblk m c 0 ⟨n, h⟩) (iblk m c 1 ⟨n, h⟩)) (iblk m c 2 ⟨n, h⟩), k0_pay1 (iblk m c 0 ⟨n, h⟩) (iblk m c 1 ⟨n, h⟩))
  | 0, h => (outsAt0_A m c ⟨0, h⟩ (Nat.zero_mod _)).trans (by rw [out_first, kept_first])
  | n + 1, h => by
    by_cases h0 : (n + 1) % 2 = 0
    · exact (outsAt0_A m c ⟨n + 1, h⟩ h0).trans (by rw [out_first, kept_first])
    · refine (outsAt0_B m c ⟨n + 1, h⟩ h0).trans ?_
      have ih : (outsAt0 m c n (Nat.lt_of_succ_lt h)).2 = k0_pay1 (iblk m c 0 ⟨n + 1, h⟩) (iblk m c 1 ⟨n + 1, h⟩) := by
        rw [left n (Nat.lt_of_succ_lt h), (same_rows m c n h h0).1, (same_rows m c n h h0).2]
      rw [out_next]
      exact congrArg (fun q => (k0_pay2 q (iblk m c 2 ⟨n + 1, h⟩), q)) ih

theorem outs (t : Fin cfg0.N) : (outsAt0 m c t.val t.isLt).1 = k0_pay2 (k0_pay1 (iblk m c 0 t) (iblk m c 1 t)) (iblk m c 2 t) := by
  rw [left]

/-- The projection: each row scaled, times each column. -/
def proj : Buf (Elt Ideal) ((c : Thread nD τ).loc main_v10) := fun (i : S16384x6144.Idx) =>
  ndot (xOf m c (i 0)) (gOf m c) (fun k => wOf m c k (i 1))

theorem flushed_eq (t : Fin cfg0.N) :
    (dats m 0 c).flushed 3 t = ((cfg0.win 3).blk t).view.read (Elt Ideal) (proj m c) := by
  rw [flushed3, outs]
  refine funext fun (y : S1024x3072.Idx) => ?_
  have hy0 : (y 0).val < 1024 := (y 0).isLt
  have hy1 : (y 1).val < 3072 := (y 1).isLt
  have e : ((cfg0.win 3).blk t).view.emb y = (ix2 ⟨t.val / 2 * 1024 + (y 0).val, by have := ptlt t; omega⟩
      ⟨t.val % 2 * 3072 + (y 1).val, by have := ptlt t; omega⟩ : S16384x6144.Idx) := funext fun b => Fin.ext (by
    match b with
    | ⟨0, _⟩ => show win0_3.index t (0 : Fin 2) * 1024 + 1 * (y 0).val = t.val / 2 * 1024 + (y 0).val; rw [(place t).2.2.2.2.2.2.1]; omega
    | ⟨1, _⟩ => show win0_3.index t (1 : Fin 2) * 3072 + 1 * (y 1).val = t.val % 2 * 3072 + (y 1).val; rw [(place t).2.2.2.2.2.2.2]; omega)
  show k0_pay2 (k0_pay1 (iblk m c 0 t) (iblk m c 1 t)) (iblk m c 2 t) y = proj m c (((cfg0.win 3).blk t).view.emb y)
  rw [e]
  refine (congrArg (k0_pay2 (k0_pay1 (iblk m c 0 t) (iblk m c 1 t)) (iblk m c 2 t)) (eq_ix2 y)).trans ?_
  refine (prod_apply _ _ (y 0) (y 1)).trans ?_
  refine Finset.sum_congr rfl fun k _ => congrArg₂ (· * ·) ?_ (iblk2_apply m c t k (y 1))
  refine (rows_apply _ _ (y 0) k).trans ?_
  exact congrArg₂ (fun a b => nrow a b k) (funext fun k => iblk0_apply m c t (y 0) k) (funext fun k => iblk1_apply m c t k)

/-- The result array ends holding the projection. -/
theorem final : (dats m 0 c).arrAt 3 cfg0.N = proj m c :=
  (dats m 0 c).arrAt_eq_of_cover 3 _ (fun t _ => flushed_eq m c t) fun (i : S16384x6144.Idx) => (covered_iff3 i).2 (by
    have h0 : (i 0).val < 16384 := (i 0).isLt
    have h1 : (i 1).val < 6144 := (i 1).isLt
    omega)

end Cert.InAIdeal.Proj

namespace Cert.InARefIdeal.Proj

open Idealize.ShloMosaic Idealize.ShloMosaic.ValueIdx Idealize.ShloMosaic.TcCoe
open Cert.InARefIdeal Cert.InARefIdeal.Gen Cert.InARefIdeal.Read Cert.Rows

variable (x0 : (⟨S16384x1024, .f32⟩ : BufTy).Contents (Elt Ideal)) (x1 : (⟨S1024, .f32⟩ : BufTy).Contents (Elt Ideal)) (x2 : (⟨S1024x7696, .f32⟩ : BufTy).Contents (Elt Ideal))

theorem zero_bits : (FloatOps.ofBits (F := Ideal) .f32 0x00000000#32 : EReal) = 0 := Cert.KernelIdeal.Attn.zero_f32

theorem rows_at (i : Fin 16384) (k : Fin 1024) :
    val_main_v12 (F := Ideal) x0 x1 (ix2 i k) = nrow (fun k => x0 (ix2 i k)) (fun k => x1 (ix1 k)) k := by
  have e1 : idx_main_v2 (idx_main_v8 (ix2 i k)) = ix1 i := eq_ix1 _
  have e2 : idx_main_v10 (idx_main_v11 (ix2 i k)) = ix1 k := eq_ix1 _
  have hs : val_main_v1 (F := Ideal) x0 (ix1 i) = ∑ k : Fin 1024, x0 (ix2 i k) * x0 (ix2 i k) := by
    rw [val_main_v1_apply, val_main_cst_apply]
    refine (congrArg (· + _) zero_bits).trans ((zero_add _).trans ?_)
    refine Finset.sum_congr rfl fun k _ => ?_
    have e : idx_main_v1 (ix1 i) k = ix2 i k := eq_ix2 _
    rw [val_main_v0_apply, e]
    rfl
  rw [val_main_v12_apply, val_main_v9_apply, val_main_v11_apply, val_main_v10_apply, e2, val_main_v8_apply, val_main_v7_apply, val_main_v6_apply,
    val_main_v4_apply, val_main_v2_apply, e1, hs, val_main_v3_apply, val_main_v5_apply, val_main_cst_0_apply, val_main_cst_1_apply]
  rfl

/-- The product of the scaled rows with the weights. -/
theorem prod_at (i : Fin 16384) (j : Fin 7696) :
    val_main_v13 (F := Ideal) x0 x1 x2 (ix2 i j) = ndot (fun k => x0 (ix2 i k)) (fun k => x1 (ix1 k)) (fun k => x2 (ix2 k j)) := by
  rw [val_main_v13_apply]
  refine Finset.sum_congr rfl fun k _ => ?_
  have el : lidx_main_v13 (ix2 i j) k = ix2 i k := eq_ix2 _
  have er : ridx_main_v13 (ix2 i j) k = ix2 k j := eq_ix2 _
  rw [el, er, rows_at]

theorem res_at (i : Fin 16384) (j : Fin 6144) :
    val_main_v16 (F := Ideal) x0 x1 x2 (ix2 i j) = ndot (fun k => x0 (ix2 i k)) (fun k => x1 (ix1 k)) (fun k => x2 (ix2 k (colA j))) := by
  unfold val_main_v16
  by_cases h : j.val < 1024
  · refine (concatenate_pair_apply_left (t := S16384x6144) (s₁ := S16384x1024) (s₂ := S16384x5120) 1 _ _ _ _ rfl (ix2 i ⟨j.val, h⟩) (fun b => by
      match b with
      | ⟨0, _⟩ => rfl
      | ⟨1, _⟩ => rfl)).trans ?_
    have e : idx_main_v14 (ix2 i ⟨j.val, h⟩) = ix2 i (colA j) := funext fun a => Fin.ext (by
      match a with
      | ⟨0, _⟩ => show _ = i.val; first | rfl | (dsimp only; simp)
      | ⟨1, _⟩ => show _ = (colA j).val; rw [colA_lo j h])
    rw [val_main_v14_apply, e, prod_at]
  · refine (concatenate_pair_apply_right (t := S16384x6144) (s₁ := S16384x1024) (s₂ := S16384x5120) 1 _ _ _ _ rfl rfl (ix2 i ⟨j.val - 1024, by omega⟩) (fun b hb => by
      match b with
      | ⟨0, _⟩ => rfl
      | ⟨1, _⟩ => exact absurd rfl hb) (by show j.val - 1024 + 1024 = j.val; omega)).trans ?_
    have e : idx_main_v15 (ix2 i ⟨j.val - 1024, by omega⟩) = ix2 i (colA j) := funext fun a => Fin.ext (by
      match a with
      | ⟨0, _⟩ => show _ = i.val; first | rfl | (dsimp only; simp)
      | ⟨1, _⟩ => show _ = (colA j).val; rw [colA_hi j h]; show 2576 + (j.val - 1024) = _; omega)
    rw [val_main_v15_apply, e, prod_at]

theorem val_eq : val_main_v16 (F := Ideal) x0 x1 x2 = fun (i : S16384x6144.Idx) =>
    ndot (fun k => x0 (ix2 (i 0) k)) (fun k => x1 (ix1 k)) (fun k => x2 (ix2 k (colA (i 1)))) :=
  funext fun (i : S16384x6144.Idx) => (congrArg _ (eq_ix2 i)).trans (res_at x0 x1 x2 (i 0) (i 1))

end Cert.InARefIdeal.Proj

end
-- ==== Proof.Proj.InS.lean ====
/-
The small projection of the even layers: the kernel's result array and the reference's.
-/
module

public import proofs.«01_k».proof.Proof.Proj.Rows
public import proofs.«01_k».proof.Proof.Gen.InSIdeal.Value
public import proofs.«01_k».proof.Proof.Gen.InSRefIdeal.Read

@[expose] public section

set_option maxRecDepth 16384
set_option maxHeartbeats 1000000

noncomputable section

namespace Cert.InSIdeal.Proj

open Idealize.ShloMosaic Idealize.ShloMosaic.ValueIdx Idealize.ShloMosaic.TcCoe
open Cert.InSIdeal Cert.InSIdeal.Gen Cert.InSIdeal.Value Cert.Rows
open Cert.KernelIdeal.Attn (rowMajor2 rowMajor3 matmul_plain rsqrt_apply)

variable (m : (ℓ : Loc nD τ sig) → Buf (Elt Ideal) ℓ) (c : Dev nD)

/-- A block's scaled rows. -/
theorem rows_apply (x : Vec Ideal S1024x1024 .f32) (g : Vec Ideal S1x1024 .f32) (r : Fin 1024) (k : Fin 1024) :
    k0_pay1 x g (ix2 r k) = nrow (fun k => x (ix2 r k)) (fun k => g (ix2 0 k)) k := by
  unfold k0_pay1
  dsimp only
  rw [shapeCast_self, truncf_apply, mulf_apply, mulf_apply,
    broadcastTo_apply _ _ _ (ix2 r 0) (fun a => by
      match a with
      | ⟨0, _⟩ => rfl
      | ⟨1, _⟩ => rfl),
    broadcastTo_apply _ _ _ (ix2 0 k) (fun a => by
      match a with
      | ⟨0, _⟩ => rfl
      | ⟨1, _⟩ => rfl),
    shapeCast_self, rsqrt_apply, addf_apply, divf_apply, broadcast_apply, broadcast_apply,
    shapeCast_apply _ _ _ (ix1 r) (by rw [rowMajor2, Shape.rowMajor_val_one]; simp)]
  exact congrArg (fun s : EReal => x (ix2 r k) * Ideal.rsqrt (Ideal.div s (Ideal.ofBits .f32 0x44800000#32) + Ideal.ofBits .f32 0x358637BD#32) * g (ix2 0 k))
    (rowsum (mulf x x) _ _ _ r)

/-- A block of scaled rows times a block of columns. -/
theorem prod_apply (h : Vec Ideal S1024x1024 .bf16) (w : Vec Ideal S1024x1664 .bf16) (r : Fin 1024) (j : Fin 1664) :
    k0_pay2 h w (ix2 r j) = ∑ k : Fin 1024, h (ix2 r k) * w (ix2 k j) := by
  unfold k0_pay2
  rw [shapeCast_self]
  exact matmul_plain dot_S1024x1024_S1024x1664_S1024x1664_1_0_0_1_n_n rfl rfl (fun _ _ _ => ⟨rfl, rfl⟩) (fun _ _ _ => ⟨rfl, rfl⟩) h w r j

/-! ## The blocks a point reads -/

/-- The rows of the first argument, the gains and the columns of the weights. -/
abbrev xOf (i : Fin 16384) (k : Fin 1024) : EReal := m ((c : Thread nD τ).loc main_arg0) (ix2 i k)
abbrev gOf (k : Fin 1024) : EReal := m ((c : Thread nD τ).loc main_arg1) (ix1 k)
abbrev wOf (k : Fin 1024) (j : Fin 1664) : EReal := colS (fun q => m ((c : Thread nD τ).loc main_arg2) (ix2 k q)) j

theorem place (t : Fin cfg0.N) : win0_0.index t (0 : Fin 2) = t.val / 1 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 1
    ∧ win0_3.index t (0 : Fin 2) = t.val / 1 ∧ win0_3.index t (1 : Fin 2) = t.val % 1 :=
  (by decide +kernel : ∀ t : Fin grid0.N, win0_0.index t (0 : Fin 2) = t.val / 1 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 1
    ∧ win0_3.index t (0 : Fin 2) = t.val / 1 ∧ win0_3.index t (1 : Fin 2) = t.val % 1) t

theorem ptlt (t : Fin cfg0.N) : t.val < 16 := lt_of_lt_of_eq t.isLt N_0

theorem iblk0_apply (t : Fin cfg0.N) (r : Fin 1024) (k : Fin 1024) :
    iblk m c 0 t (ix2 r k : S1024x1024.Idx) = xOf m c ⟨t.val / 1 * 1024 + r.val, by have := ptlt t; omega⟩ k := by
  have e : ((cfg0.win 0).blk t).view.emb (ix2 r k : S1024x1024.Idx) = (ix2 ⟨t.val / 1 * 1024 + r.val, by have := ptlt t; omega⟩ k : S16384x1024.Idx) :=
    funext fun b => Fin.ext (by
      match b with
      | ⟨0, _⟩ => show win0_0.index t (0 : Fin 2) * 1024 + 1 * r.val = t.val / 1 * 1024 + r.val; rw [(place t).1]; omega
      | ⟨1, _⟩ => show win0_0.index t (1 : Fin 2) * 1024 + 1 * k.val = k.val; rw [(place t).2.1]; omega)
  show V m c main_arg0 (((cfg0.win 0).blk t).view.emb (ix2 r k : S1024x1024.Idx)) = _
  rw [e, V_main_arg0]

theorem V_g : V m c main_v9 = shapeCast S1x1024 (m ((c : Thread nD τ).loc main_arg1)) shapeCasts_S1024_S1x1024 := rfl

theorem iblk1_apply (t : Fin cfg0.N) (k : Fin 1024) : iblk m c 1 t (ix2 0 k : S1x1024.Idx) = gOf m c k := by
  have e : ((cfg0.win 1).blk t).view.emb (ix2 0 k : S1x1024.Idx) = (ix2 0 k : S1x1024.Idx) := funext fun b => Fin.ext (by
    match b with
    | ⟨0, _⟩ => show win0_1.index t (0 : Fin 2) * 1 + 1 * 0 = 0; rw [(place t).2.2.1]
    | ⟨1, _⟩ => show win0_1.index t (1 : Fin 2) * 1024 + 1 * k.val = k.val; rw [(place t).2.2.2.1]; omega)
  show V m c main_v9 (((cfg0.win 1).blk t).view.emb (ix2 0 k : S1x1024.Idx)) = _
  rw [e, V_g]
  have e3 : (S1024.rowMajor (ix1 k : S1024.Idx)).val = (S1x1024.rowMajor (ix2 0 k : S1x1024.Idx)).val := by
    rw [rowMajor2, Shape.rowMajor_val_one]; simp
  exact shapeCast_apply _ _ _ (ix1 k : S1024.Idx) e3

theorem V_w8 : (V m c main_v8 : FVec Ideal S1024x1664 .bf16) = (truncf .bf16 (concatenate S1024x1664 1
    [⟨S1024x1536, extractStridedSlice S1024x1536 ![0, 1024] (m ((c : Thread nD τ).loc main_arg2) : FVec Ideal S1024x7696 .f32) slices_S1024x7696_S1024x1536_0_1024⟩,
     ⟨S1024x16, extractStridedSlice S1024x16 ![0, 2560] (m ((c : Thread nD τ).loc main_arg2) : FVec Ideal S1024x7696 .f32) slices_S1024x7696_S1024x16_0_2560⟩,
     ⟨S1024x112, (broadcastInDim S1024x112 ![] bcast_S_S1024x112 (constant S_ .f32 0x00000000#32) : FVec Ideal S1024x112 .f32)⟩]
    concatenates_S1024x1536_S1024x16_S1024x112_S1024x1664_d1 : FVec Ideal S1024x1664 .f32) bitsLt_bf16_f32 : FVec Ideal S1024x1664 .bf16) := rfl

theorem V_w (k : Fin 1024) (j : Fin 1664) : V m c main_v8 (ix2 k j : S1024x1664.Idx) = wOf m c k j := by
  have hj : j.val < 1664 := j.isLt
  rw [V_w8, truncf_apply]
  by_cases h : j.val < 1536
  · refine (concatenate_apply_piece (t := S1024x1664) 1 _ _ _ 0 (by simp) S1024x1536 _ rfl rfl 0 (by rfl) (ix2 k ⟨j.val - 0, by omega⟩) (fun b hb => by
      match b with
      | ⟨0, _⟩ => rfl
      | ⟨1, _⟩ => exact absurd rfl hb) (by show 0 + (j.val - 0) = j.val; omega)).trans ?_
    refine (extractStridedSlice_apply _ _ _ _ (ix2 k ⟨1024 + j.val, by omega⟩) fun b => ?_).trans (colS_lo (fun q => m ((c : Thread nD τ).loc main_arg2) (ix2 k q)) j (by omega)).symm
    match b with
    | ⟨0, _⟩ => exact (Nat.zero_add _).symm
    | ⟨1, _⟩ => rfl
  by_cases h2 : j.val < 1552
  · refine (concatenate_apply_piece (t := S1024x1664) 1 _ _ _ 1 (by simp) S1024x16 _ rfl rfl 1536 (by rfl) (ix2 k ⟨j.val - 1536, by omega⟩) (fun b hb => by
      match b with
      | ⟨0, _⟩ => rfl
      | ⟨1, _⟩ => exact absurd rfl hb) (by show 1536 + (j.val - 1536) = j.val; omega)).trans ?_
    refine (extractStridedSlice_apply _ _ _ _ (ix2 k ⟨1024 + j.val, by omega⟩) fun b => ?_).trans (colS_lo (fun q => m ((c : Thread nD τ).loc main_arg2) (ix2 k q)) j h2).symm
    match b with
    | ⟨0, _⟩ => exact (Nat.zero_add _).symm
    | ⟨1, _⟩ => show 1024 + j.val = 2560 + (j.val - 1536); omega
  · refine (concatenate_apply_piece (t := S1024x1664) 1 _ _ _ 2 (by simp) S1024x112 _ rfl rfl 1552 (by rfl) (ix2 k ⟨j.val - 1552, by omega⟩) (fun b hb => by
      match b with
      | ⟨0, _⟩ => rfl
      | ⟨1, _⟩ => exact absurd rfl hb) (by show 1552 + (j.val - 1552) = j.val; omega)).trans ?_
    refine (broadcastInDim_apply _ bcast_S_S1024x112 _ _ (fun a => a.elim0 : S_.Idx) (fun a => a.elim0)).trans ?_
    exact Cert.KernelIdeal.Attn.zero_f32.trans (colS_hi (fun q => m ((c : Thread nD τ).loc main_arg2) (ix2 k q)) j h2).symm

theorem iblk2_apply (t : Fin cfg0.N) (k : Fin 1024) (j : Fin 1664) :
    iblk m c 2 t (ix2 k j : S1024x1664.Idx) = wOf m c k ⟨t.val % 1 * 1664 + j.val, by have := ptlt t; omega⟩ := by
  have e : ((cfg0.win 2).blk t).view.emb (ix2 k j : S1024x1664.Idx) = (ix2 k ⟨t.val % 1 * 1664 + j.val, by have := ptlt t; omega⟩ : S1024x1664.Idx) :=
    funext fun b => Fin.ext (by
      match b with
      | ⟨0, _⟩ => show win0_2.index t (0 : Fin 2) * 1024 + 1 * k.val = k.val; rw [(place t).2.2.2.2.1]; omega
      | ⟨1, _⟩ => show win0_2.index t (1 : Fin 2) * 1664 + 1 * j.val = t.val % 1 * 1664 + j.val; rw [(place t).2.2.2.2.2.1]; omega)
  show V m c main_v8 (((cfg0.win 2).blk t).view.emb (ix2 k j : S1024x1664.Idx)) = _
  rw [e]
  exact V_w m c k _

/-- A point that begins a block of rows scales them, and keeps them for the points after it. -/
theorem out_first (i : grid0.Coords) (a2 : Memref sig .tc .vmem S1024x1024 .f32) (h2 : a2.IsWhole) (a3 : Memref sig .tc .vmem S1x1024 .f32) (h3 : a3.IsWhole)
    (a4 : Memref sig .tc .vmem S1024x1664 .bf16) (h4 : a4.IsWhole) (a5 : Memref sig .tc .vmem S1024x1664 .f32) (h5 : a5.IsWhole)
    (a6 : Memref sig .tc .vmem S1024x1024 .bf16) (h6 : a6.IsWhole) (hc : cond0_0 i)
    (x : Vec Ideal S1024x1024 .f32) (g : Vec Ideal S1x1024 .f32) (w : Vec Ideal S1024x1664 .bf16) :
    out0_A_3 c i a2 h2 a3 h3 a4 h4 a5 h5 a6 h6 hc x g w = k0_pay2 (k0_pay1 x g) w := by
  unfold out0_A_3
  rw [View.read_writes_junk_eq_canon]
  unfold kernelRun0_A
  dsimp only
  sl_unfold_words
  rw [View.canon_unit_zero off0, View.readCov_unit_zero (S := S1024x1024) _ off0]
  simp only [View.readAt_eq_ld, h2.read_unread, h3.read_unread, h4.read_unread, View.ld_unit_zero (S := S1024x1024) off0,
    View.ld_unit_zero (S := S1x1024) off0, View.ld_unit_zero (S := S1024x1664) off0]

theorem outs (t : Fin cfg0.N) : outsAt0 m c t = k0_pay2 (k0_pay1 (iblk m c 0 t) (iblk m c 1 t)) (iblk m c 2 t) := by
  unfold outsAt0
  exact out_first ..

/-- The projection: each row scaled, times each column. -/
def proj : Buf (Elt Ideal) ((c : Thread nD τ).loc main_v10) := fun (i : S16384x1664.Idx) =>
  ndot (xOf m c (i 0)) (gOf m c) (fun k => wOf m c k (i 1))

theorem flushed_eq (t : Fin cfg0.N) :
    (dats m 0 c).flushed 3 t = ((cfg0.win 3).blk t).view.read (Elt Ideal) (proj m c) := by
  rw [flushed3, outs]
  refine funext fun (y : S1024x1664.Idx) => ?_
  have hy0 : (y 0).val < 1024 := (y 0).isLt
  have hy1 : (y 1).val < 1664 := (y 1).isLt
  have e : ((cfg0.win 3).blk t).view.emb y = (ix2 ⟨t.val / 1 * 1024 + (y 0).val, by have := ptlt t; omega⟩
      ⟨t.val % 1 * 1664 + (y 1).val, by have := ptlt t; omega⟩ : S16384x1664.Idx) := funext fun b => Fin.ext (by
    match b with
    | ⟨0, _⟩ => show win0_3.index t (0 : Fin 2) * 1024 + 1 * (y 0).val = t.val / 1 * 1024 + (y 0).val; rw [(place t).2.2.2.2.2.2.1]; omega
    | ⟨1, _⟩ => show win0_3.index t (1 : Fin 2) * 1664 + 1 * (y 1).val = t.val % 1 * 1664 + (y 1).val; rw [(place t).2.2.2.2.2.2.2]; omega)
  show k0_pay2 (k0_pay1 (iblk m c 0 t) (iblk m c 1 t)) (iblk m c 2 t) y = proj m c (((cfg0.win 3).blk t).view.emb y)
  rw [e]
  refine (congrArg (k0_pay2 (k0_pay1 (iblk m c 0 t) (iblk m c 1 t)) (iblk m c 2 t)) (eq_ix2 y)).trans ?_
  refine (prod_apply _ _ (y 0) (y 1)).trans ?_
  refine Finset.sum_congr rfl fun k _ => congrArg₂ (· * ·) ?_ (iblk2_apply m c t k (y 1))
  refine (rows_apply _ _ (y 0) k).trans ?_
  exact congrArg₂ (fun a b => nrow a b k) (funext fun k => iblk0_apply m c t (y 0) k) (funext fun k => iblk1_apply m c t k)

theorem covered (i : S16384x1664.Idx) : ∃ t : Fin cfg0.N, (cfg0.win 3).flush t = true ∧ i ∈ ((cfg0.win 3).blk t).view.set := by
  have h0 : (i 0).val < 16384 := (i 0).isLt
  have h1 : (i 1).val < 1664 := (i 1).isLt
  obtain ⟨t, ht⟩ : ∃ t : Fin cfg0.N, t.val = (i 0).val / 1024 := ⟨⟨(i 0).val / 1024, lt_of_lt_of_eq (by omega : (i 0).val / 1024 < 16) N_0.symm⟩, rfl⟩
  refine ⟨t, (by decide +kernel : ∀ t : Fin grid0.N, win0_3.flush t = true) t, ?_⟩
  show i ∈ ((View.whole main_v10).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [(place t).2.2.2.2.2.2.1]; omega
  | ⟨1, _⟩ => show win0_3.index t (1 : Fin 2) * 1664 ≤ (i 1).val ∧ (i 1).val < win0_3.index t (1 : Fin 2) * 1664 + 1664; rw [(place t).2.2.2.2.2.2.2]; omega

/-- The result array ends holding the projection. -/
theorem final : (dats m 0 c).arrAt 3 cfg0.N = proj m c :=
  (dats m 0 c).arrAt_eq_of_cover 3 _ (fun t _ => flushed_eq m c t) fun (i : S16384x1664.Idx) => covered i

end Cert.InSIdeal.Proj

namespace Cert.InSRefIdeal.Proj

open Idealize.ShloMosaic Idealize.ShloMosaic.ValueIdx Idealize.ShloMosaic.TcCoe
open Cert.InSRefIdeal Cert.InSRefIdeal.Gen Cert.InSRefIdeal.Read Cert.Rows

variable (x0 : (⟨S16384x1024, .f32⟩ : BufTy).Contents (Elt Ideal)) (x1 : (⟨S1024, .f32⟩ : BufTy).Contents (Elt Ideal)) (x2 : (⟨S1024x7696, .f32⟩ : BufTy).Contents (Elt Ideal))

theorem zero_bits : (FloatOps.ofBits (F := Ideal) .f32 0x00000000#32 : EReal) = 0 := Cert.KernelIdeal.Attn.zero_f32

theorem rows_at (i : Fin 16384) (k : Fin 1024) :
    val_main_v12 (F := Ideal) x0 x1 (ix2 i k) = nrow (fun k => x0 (ix2 i k)) (fun k => x1 (ix1 k)) k := by
  have e1 : idx_main_v2 (idx_main_v8 (ix2 i k)) = ix1 i := eq_ix1 _
  have e2 : idx_main_v10 (idx_main_v11 (ix2 i k)) = ix1 k := eq_ix1 _
  have hs : val_main_v1 (F := Ideal) x0 (ix1 i) = ∑ k : Fin 1024, x0 (ix2 i k) * x0 (ix2 i k) := by
    rw [val_main_v1_apply, val_main_cst_apply]
    refine (congrArg (· + _) zero_bits).trans ((zero_add _).trans ?_)
    refine Finset.sum_congr rfl fun k _ => ?_
    have e : idx_main_v1 (ix1 i) k = ix2 i k := eq_ix2 _
    rw [val_main_v0_apply, e]
    rfl
  rw [val_main_v12_apply, val_main_v9_apply, val_main_v11_apply, val_main_v10_apply, e2, val_main_v8_apply, val_main_v7_apply, val_main_v6_apply,
    val_main_v4_apply, val_main_v2_apply, e1, hs, val_main_v3_apply, val_main_v5_apply, val_main_cst_0_apply, val_main_cst_1_apply]
  rfl

/-- The product of the scaled rows with the weights. -/
theorem prod_at (i : Fin 16384) (j : Fin 7696) :
    val_main_v13 (F := Ideal) x0 x1 x2 (ix2 i j) = ndot (fun k => x0 (ix2 i k)) (fun k => x1 (ix1 k)) (fun k => x2 (ix2 k j)) := by
  rw [val_main_v13_apply]
  refine Finset.sum_congr rfl fun k _ => ?_
  have el : lidx_main_v13 (ix2 i j) k = ix2 i k := eq_ix2 _
  have er : ridx_main_v13 (ix2 i j) k = ix2 k j := eq_ix2 _
  rw [el, er, rows_at]

theorem res_at (i : Fin 16384) (j : Fin 1664) :
    val_main_v16 (F := Ideal) x0 x1 x2 (ix2 i j) = ndot (fun k => x0 (ix2 i k)) (fun k => x1 (ix1 k)) (fun k => colS (fun q => x2 (ix2 k q)) j) := by
  unfold val_main_v16
  have hj : j.val < 1664 := j.isLt
  by_cases h : j.val < 1552
  · refine (concatenate_pair_apply_left (t := S16384x1664) (s₁ := S16384x1552) (s₂ := S16384x112) 1 _ _ _ _ rfl (ix2 i ⟨j.val, h⟩) (fun b => by
      match b with
      | ⟨0, _⟩ => rfl
      | ⟨1, _⟩ => rfl)).trans ?_
    have e : idx_main_v14 (ix2 i ⟨j.val, h⟩) = ix2 i ⟨1024 + j.val, by omega⟩ := eq_ix2 _
    rw [val_main_v14_apply, e, prod_at]
    exact congrArg _ (funext fun k => (colS_lo (fun q => x2 (ix2 k q)) j h).symm)
  · refine (concatenate_pair_apply_right (t := S16384x1664) (s₁ := S16384x1552) (s₂ := S16384x112) 1 _ _ _ _ rfl rfl (ix2 i ⟨j.val - 1552, by omega⟩) (fun b hb => by
      match b with
      | ⟨0, _⟩ => rfl
      | ⟨1, _⟩ => exact absurd rfl hb) (by show j.val - 1552 + 1552 = j.val; omega)).trans ?_
    rw [val_main_v15_apply, val_main_cst_2_apply]
    refine zero_bits.trans (Finset.sum_eq_zero fun k _ => ?_).symm
    dsimp only
    rw [colS_hi _ j h, mul_zero]

theorem val_eq : val_main_v16 (F := Ideal) x0 x1 x2 = fun (i : S16384x1664.Idx) =>
    ndot (fun k => x0 (ix2 (i 0) k)) (fun k => x1 (ix1 k)) (fun k => colS (fun q => x2 (ix2 k q)) (i 1)) :=
  funext fun (i : S16384x1664.Idx) => (congrArg _ (eq_ix2 i)).trans (res_at x0 x1 x2 (i 0) (i 1))

end Cert.InSRefIdeal.Proj

end
-- ==== Proof.Proj.MemKV.lean ====
/-
The memory's projection: the kernel's result array and the reference's.
-/
module

public import proofs.«01_k».proof.Proof.Proj.Rows
public import proofs.«01_k».proof.Proof.Gen.MemKVIdeal.Value
public import proofs.«01_k».proof.Proof.Gen.MemKVRefIdeal.Read

@[expose] public section

set_option maxRecDepth 16384
set_option maxHeartbeats 1000000

noncomputable section

namespace Cert.MemKVIdeal.Proj

open Idealize.ShloMosaic Idealize.ShloMosaic.ValueIdx Idealize.ShloMosaic.TcCoe
open Cert.MemKVIdeal Cert.MemKVIdeal.Gen Cert.MemKVIdeal.Value Cert.Rows
open Cert.KernelIdeal.Attn (rowMajor2 rowMajor3 matmul_plain rsqrt_apply)

variable (m : (ℓ : Loc nD τ sig) → Buf (Elt Ideal) ℓ) (c : Dev nD)

/-- A block's scaled rows. -/
theorem rows_apply (x : Vec Ideal S256x1024 .f32) (g : Vec Ideal S1x1024 .f32) (r : Fin 256) (k : Fin 1024) :
    k0_pay1 x g (ix2 r k) = nrow (fun k => x (ix2 r k)) (fun k => g (ix2 0 k)) k := by
  unfold k0_pay1
  dsimp only
  rw [shapeCast_self, truncf_apply, mulf_apply, mulf_apply,
    broadcastTo_apply _ _ _ (ix2 r 0) (fun a => by
      match a with
      | ⟨0, _⟩ => rfl
      | ⟨1, _⟩ => rfl),
    broadcastTo_apply _ _ _ (ix2 0 k) (fun a => by
      match a with
      | ⟨0, _⟩ => rfl
      | ⟨1, _⟩ => rfl),
    shapeCast_self, shapeCast_self, rsqrt_apply, addf_apply, divf_apply, broadcast_apply, broadcast_apply,
    shapeCast_apply _ _ _ (ix1 r) (by rw [rowMajor2, Shape.rowMajor_val_one]; simp)]
  exact congrArg (fun s : EReal => x (ix2 r k) * Ideal.rsqrt (Ideal.div s (Ideal.ofBits .f32 0x44800000#32) + Ideal.ofBits .f32 0x358637BD#32) * g (ix2 0 k))
    (rowsum (mulf x x) _ _ _ r)

/-- A block of scaled rows times a block of columns. -/
theorem prod_apply (h : Vec Ideal S256x1024 .bf16) (w : Vec Ideal S1024x1024 .bf16) (r : Fin 256) (j : Fin 1024) :
    k0_pay2 h w (ix2 r j) = ∑ k : Fin 1024, h (ix2 r k) * w (ix2 k j) := by
  unfold k0_pay2
  rw [shapeCast_self]
  exact matmul_plain dot_S256x1024_S1024x1024_S256x1024_1_0_0_1_n_n rfl rfl (fun _ _ _ => ⟨rfl, rfl⟩) (fun _ _ _ => ⟨rfl, rfl⟩) h w r j

/-- A layer's weights for the keys beside those for the values. -/
def pair (wk wv : S4x1024x512.Idx → EReal) (l : Fin 4) (k p : Fin 1024) : EReal :=
  if h : p.val < 512 then wk (ix3 l k ⟨p.val, h⟩) else wv (ix3 l k ⟨p.val - 512, by omega⟩)

/-- The layers' weights side by side. -/
def colM (wk wv : S4x1024x512.Idx → EReal) (k : Fin 1024) (j : Fin 4096) : EReal :=
  pair wk wv ⟨j.val / 1024, by omega⟩ k ⟨j.val % 1024, by omega⟩

/-- A layer's weights as the launch joins them. -/
def cat (l : Fin 4) (wk wv : FVec Ideal S4x1024x512 .f32) (h : S4x1024x512.Slices ![l.val, 0, 0] S1x1024x512) : FVec Ideal S1024x1024 .f32 :=
  concatenate S1024x1024 1
    [⟨S1024x512, shapeCast S1024x512 (extractStridedSlice S1x1024x512 ![l.val, 0, 0] wk h) shapeCasts_S1x1024x512_S1024x512⟩,
     ⟨S1024x512, shapeCast S1024x512 (extractStridedSlice S1x1024x512 ![l.val, 0, 0] wv h) shapeCasts_S1x1024x512_S1024x512⟩]
    concatenates_S1024x512_S1024x512_S1024x1024_d1

theorem one_layer (l : Fin 4) (w : FVec Ideal S4x1024x512 .f32) (h : S4x1024x512.Slices ![l.val, 0, 0] S1x1024x512) (k : Fin 1024) (p : Fin 512) :
    shapeCast S1024x512 (extractStridedSlice S1x1024x512 ![l.val, 0, 0] w h) shapeCasts_S1x1024x512_S1024x512 (ix2 k p) = w (ix3 l k p) := by
  rw [shapeCast_apply _ _ _ (ix3 0 k p) (by rw [rowMajor2, rowMajor3]; simp)]
  refine extractStridedSlice_apply _ _ _ _ (ix3 l k p) fun b => ?_
  match b with
  | ⟨0, _⟩ => rfl
  | ⟨1, _⟩ => exact (Nat.zero_add _).symm
  | ⟨2, _⟩ => exact (Nat.zero_add _).symm

theorem cat_apply (l : Fin 4) (wk wv : FVec Ideal S4x1024x512 .f32) (h : S4x1024x512.Slices ![l.val, 0, 0] S1x1024x512) (k p : Fin 1024) :
    cat l wk wv h (ix2 k p) = pair wk wv l k p := by
  unfold cat pair
  by_cases hp : p.val < 512
  · rw [dif_pos hp]
    refine (concatenate_pair_apply_left (t := S1024x1024) (s₁ := S1024x512) (s₂ := S1024x512) 1 _ _ _ _ rfl (ix2 k ⟨p.val, hp⟩) (fun b => by
      match b with
      | ⟨0, _⟩ => rfl
      | ⟨1, _⟩ => rfl)).trans (one_layer l wk h k _)
  · rw [dif_neg hp]
    refine (concatenate_pair_apply_right (t := S1024x1024) (s₁ := S1024x512) (s₂ := S1024x512) 1 _ _ _ _ rfl rfl (ix2 k ⟨p.val - 512, by omega⟩) (fun b hb => by
      match b with
      | ⟨0, _⟩ => rfl
      | ⟨1, _⟩ => exact absurd rfl hb) (by show p.val - 512 + 512 = p.val; omega)).trans (one_layer l wv h k _)

/-! ## The blocks a point reads -/

/-- The rows of the first argument, the gains and the columns of the weights. -/
abbrev xOf (i : Fin 512) (k : Fin 1024) : EReal := m ((c : Thread nD τ).loc main_arg0) (ix3 ⟨i.val / 256, by omega⟩ ⟨i.val % 256, by omega⟩ k : S2x256x1024.Idx)
abbrev gOf (k : Fin 1024) : EReal := m ((c : Thread nD τ).loc main_arg1) (ix1 k)
abbrev wOf (k : Fin 1024) (j : Fin 4096) : EReal := colM (m ((c : Thread nD τ).loc main_arg2)) (m ((c : Thread nD τ).loc main_arg3)) k j

theorem place (t : Fin cfg0.N) : win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4) t

theorem ptlt (t : Fin cfg0.N) : t.val < 8 := lt_of_lt_of_eq t.isLt N_0

theorem iblk0_apply (t : Fin cfg0.N) (r : Fin 256) (k : Fin 1024) :
    iblk m c 0 t (ix2 r k : S256x1024.Idx) = xOf m c ⟨t.val / 4 * 256 + r.val, by have := ptlt t; omega⟩ k := by
  have e : ((cfg0.win 0).blk t).view.emb (ix2 r k : S256x1024.Idx) = (ix2 ⟨t.val / 4 * 256 + r.val, by have := ptlt t; omega⟩ k : S512x1024.Idx) :=
    funext fun b => Fin.ext (by
      match b with
      | ⟨0, _⟩ => show win0_0.index t (0 : Fin 2) * 256 + 1 * r.val = t.val / 4 * 256 + r.val; rw [(place t).1]; omega
      | ⟨1, _⟩ => show win0_0.index t (1 : Fin 2) * 1024 + 1 * k.val = k.val; rw [(place t).2.1]; omega)
  have hV : (V m c main_v22 : FVec Ideal S512x1024 .f32) = shapeCast S512x1024 (m ((c : Thread nD τ).loc main_arg0) : FVec Ideal S2x256x1024 .f32) shapeCasts_S2x256x1024_S512x1024 := rfl
  show V m c main_v22 (((cfg0.win 0).blk t).view.emb (ix2 r k : S256x1024.Idx)) = _
  rw [e, hV]
  refine shapeCast_apply _ _ _ (ix3 _ _ k : S2x256x1024.Idx) ?_
  rw [rowMajor2, rowMajor3]
  have := ptlt t
  show ((t.val / 4 * 256 + r.val) / 256 * 256 + (t.val / 4 * 256 + r.val) % 256) * 1024 + k.val = (t.val / 4 * 256 + r.val) * 1024 + k.val
  omega

theorem V_g : V m c main_v23 = shapeCast S1x1024 (m ((c : Thread nD τ).loc main_arg1)) shapeCasts_S1024_S1x1024 := rfl

theorem iblk1_apply (t : Fin cfg0.N) (k : Fin 1024) : iblk m c 1 t (ix2 0 k : S1x1024.Idx) = gOf m c k := by
  have e : ((cfg0.win 1).blk t).view.emb (ix2 0 k : S1x1024.Idx) = (ix2 0 k : S1x1024.Idx) := funext fun b => Fin.ext (by
    match b with
    | ⟨0, _⟩ => show win0_1.index t (0 : Fin 2) * 1 + 1 * 0 = 0; rw [(place t).2.2.1]
    | ⟨1, _⟩ => show win0_1.index t (1 : Fin 2) * 1024 + 1 * k.val = k.val; rw [(place t).2.2.2.1]; omega)
  show V m c main_v23 (((cfg0.win 1).blk t).view.emb (ix2 0 k : S1x1024.Idx)) = _
  rw [e, V_g]
  have e3 : (S1024.rowMajor (ix1 k : S1024.Idx)).val = (S1x1024.rowMajor (ix2 0 k : S1x1024.Idx)).val := by
    rw [rowMajor2, Shape.rowMajor_val_one]; simp
  exact shapeCast_apply _ _ _ (ix1 k : S1024.Idx) e3

theorem V_w21 : (V m c main_v21 : FVec Ideal S1024x4096 .bf16) = truncf .bf16 (concatenate S1024x4096 1
    [⟨S1024x1024, cat 0 (m ((c : Thread nD τ).loc main_arg2)) (m ((c : Thread nD τ).loc main_arg3)) slices_S4x1024x512_S1x1024x512_0_0_0⟩,
     ⟨S1024x1024, cat 1 (m ((c : Thread nD τ).loc main_arg2)) (m ((c : Thread nD τ).loc main_arg3)) slices_S4x1024x512_S1x1024x512_1_0_0⟩,
     ⟨S1024x1024, cat 2 (m ((c : Thread nD τ).loc main_arg2)) (m ((c : Thread nD τ).loc main_arg3)) slices_S4x1024x512_S1x1024x512_2_0_0⟩,
     ⟨S1024x1024, cat 3 (m ((c : Thread nD τ).loc main_arg2)) (m ((c : Thread nD τ).loc main_arg3)) slices_S4x1024x512_S1x1024x512_3_0_0⟩]
    concatenates_S1024x1024_S1024x1024_S1024x1024_S1024x1024_S1024x4096_d1 : FVec Ideal S1024x4096 .f32) bitsLt_bf16_f32 := rfl

theorem V_w (k : Fin 1024) (j : Fin 4096) : V m c main_v21 (ix2 k j : S1024x4096.Idx) = wOf m c k j := by
  have hj : j.val < 4096 := j.isLt
  rw [V_w21, truncf_apply]
  obtain h | h | h | h : j.val < 1024 ∨ (1024 ≤ j.val ∧ j.val < 2048) ∨ (2048 ≤ j.val ∧ j.val < 3072) ∨ 3072 ≤ j.val := by omega
  · refine (concatenate_apply_piece (t := S1024x4096) 1 _ _ _ 0 (by simp) S1024x1024 _ rfl rfl 0 (by rfl) (ix2 k ⟨j.val - 0, by omega⟩) (fun b hb => by
      match b with
      | ⟨0, _⟩ => rfl
      | ⟨1, _⟩ => exact absurd rfl hb) (by show 0 + (j.val - 0) = j.val; omega)).trans ?_
    refine (cat_apply 0 _ _ _ k _).trans ?_
    exact congrArg₂ (fun a b => pair (m ((c : Thread nD τ).loc main_arg2)) (m ((c : Thread nD τ).loc main_arg3)) a k b) (Fin.ext (by show 0 = j.val / 1024; omega)) (Fin.ext (by show j.val - 0 = j.val % 1024; omega))
  · refine (concatenate_apply_piece (t := S1024x4096) 1 _ _ _ 1 (by simp) S1024x1024 _ rfl rfl 1024 (by rfl) (ix2 k ⟨j.val - 1024, by omega⟩) (fun b hb => by
      match b with
      | ⟨0, _⟩ => rfl
      | ⟨1, _⟩ => exact absurd rfl hb) (by show 1024 + (j.val - 1024) = j.val; omega)).trans ?_
    refine (cat_apply 1 _ _ _ k _).trans ?_
    exact congrArg₂ (fun a b => pair (m ((c : Thread nD τ).loc main_arg2)) (m ((c : Thread nD τ).loc main_arg3)) a k b) (Fin.ext (by show 1 = j.val / 1024; omega)) (Fin.ext (by show j.val - 1024 = j.val % 1024; omega))
  · refine (concatenate_apply_piece (t := S1024x4096) 1 _ _ _ 2 (by simp) S1024x1024 _ rfl rfl 2048 (by rfl) (ix2 k ⟨j.val - 2048, by omega⟩) (fun b hb => by
      match b with
      | ⟨0, _⟩ => rfl
      | ⟨1, _⟩ => exact absurd rfl hb) (by show 2048 + (j.val - 2048) = j.val; omega)).trans ?_
    refine (cat_apply 2 _ _ _ k _).trans ?_
    exact congrArg₂ (fun a b => pair (m ((c : Thread nD τ).loc main_arg2)) (m ((c : Thread nD τ).loc main_arg3)) a k b) (Fin.ext (by show 2 = j.val / 1024; omega)) (Fin.ext (by show j.val - 2048 = j.val % 1024; omega))
  · refine (concatenate_apply_piece (t := S1024x4096) 1 _ _ _ 3 (by simp) S1024x1024 _ rfl rfl 3072 (by rfl) (ix2 k ⟨j.val - 3072, by omega⟩) (fun b hb => by
      match b with
      | ⟨0, _⟩ => rfl
      | ⟨1, _⟩ => exact absurd rfl hb) (by show 3072 + (j.val - 3072) = j.val; omega)).trans ?_
    refine (cat_apply 3 _ _ _ k _).trans ?_
    exact congrArg₂ (fun a b => pair (m ((c : Thread nD τ).loc main_arg2)) (m ((c : Thread nD τ).loc main_arg3)) a k b) (Fin.ext (by show 3 = j.val / 1024; omega)) (Fin.ext (by show j.val - 3072 = j.val % 1024; omega))

theorem iblk2_apply (t : Fin cfg0.N) (k : Fin 1024) (j : Fin 1024) :
    iblk m c 2 t (ix2 k j : S1024x1024.Idx) = wOf m c k ⟨t.val % 4 * 1024 + j.val, by have := ptlt t; omega⟩ := by
  have e : ((cfg0.win 2).blk t).view.emb (ix2 k j : S1024x1024.Idx) = (ix2 k ⟨t.val % 4 * 1024 + j.val, by have := ptlt t; omega⟩ : S1024x4096.Idx) :=
    funext fun b => Fin.ext (by
      match b with
      | ⟨0, _⟩ => show win0_2.index t (0 : Fin 2) * 1024 + 1 * k.val = k.val; rw [(place t).2.2.2.2.1]; omega
      | ⟨1, _⟩ => show win0_2.index t (1 : Fin 2) * 1024 + 1 * j.val = t.val % 4 * 1024 + j.val; rw [(place t).2.2.2.2.2.1]; omega)
  show V m c main_v21 (((cfg0.win 2).blk t).view.emb (ix2 k j : S1024x1024.Idx)) = _
  rw [e]
  exact V_w m c k _

/-- A point that begins a block of rows scales them, and keeps them for the points after it. -/
theorem out_first (i : grid0.Coords) (a2 : Memref sig .tc .vmem S256x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S256x1024 .f32) (h5 : a5.IsWhole)
    (a6 : Memref sig .tc .vmem S256x1024 .bf16) (h6 : a6.IsWhole) (hc : cond0_0 i)
    (x : Vec Ideal S256x1024 .f32) (g : Vec Ideal S1x1024 .f32) (w : Vec Ideal S1024x1024 .bf16) :
    out0_A_3 c i a2 h2 a3 h3 a4 h4 a5 h5 a6 h6 hc x g w = k0_pay2 (k0_pay1 x g) w := by
  unfold out0_A_3
  rw [View.read_writes_junk_eq_canon]
  unfold kernelRun0_A
  dsimp only
  sl_unfold_words
  rw [View.canon_unit_zero off0, View.readCov_unit_zero (S := S256x1024) _ off0]
  simp only [View.readAt_eq_ld, h2.read_unread, h3.read_unread, h4.read_unread, View.ld_unit_zero (S := S256x1024) off0,
    View.ld_unit_zero (S := S1x1024) off0, View.ld_unit_zero (S := S1024x1024) off0]

theorem kept_first (i : grid0.Coords) (a2 : Memref sig .tc .vmem S256x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S256x1024 .f32) (h5 : a5.IsWhole)
    (a6 : Memref sig .tc .vmem S256x1024 .bf16) (h6 : a6.IsWhole) (hc : cond0_0 i)
    (x : Vec Ideal S256x1024 .f32) (g : Vec Ideal S1x1024 .f32) (w : Vec Ideal S1024x1024 .bf16) :
    sout0_A_0 c i a2 h2 a3 h3 a4 h4 a5 h5 a6 h6 hc x g w = k0_pay1 x g := by
  unfold sout0_A_0
  rw [View.read_writes_junk_eq_canon]
  unfold kernelRun0_A
  dsimp only
  sl_unfold_words
  rw [View.canon_unit_zero off0]
  simp only [View.readAt_eq_ld, h2.read_unread, h3.read_unread, View.ld_unit_zero (S := S256x1024) off0, View.ld_unit_zero (S := S1x1024) off0]

/-- Any other point multiplies the rows kept. -/
theorem out_next (i : grid0.Coords) (a2 : Memref sig .tc .vmem S256x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S256x1024 .f32) (h5 : a5.IsWhole)
    (a6 : Memref sig .tc .vmem S256x1024 .bf16) (h6 : a6.IsWhole) (hc : ¬cond0_0 i)
    (x : Vec Ideal S256x1024 .f32) (g : Vec Ideal S1x1024 .f32) (w : Vec Ideal S1024x1024 .bf16) (h : Vec Ideal S256x1024 .bf16) :
    out0_B_3 c i a2 h2 a3 h3 a4 h4 a5 h5 a6 h6 hc x g w h = k0_pay2 h w := by
  unfold out0_B_3
  rw [View.read_writes_junk_eq_canon]
  unfold kernelRun0_B
  dsimp only
  sl_unfold_words
  rw [View.canon_unit_zero off0]
  simp only [View.readAt_eq_ld, h4.read_unread, h6.read_unread, View.ld_unit_zero (S := S256x1024) off0, View.ld_unit_zero (S := S1024x1024) off0]

/-- The rows and the gains a point reads are those of the point before, unless it begins a block of rows. -/
theorem same_rows (n : ℕ) (h : n + 1 < cfg0.N) (h0 : ¬(n + 1) % 4 = 0) :
    iblk m c 0 ⟨n + 1, h⟩ = iblk m c 0 ⟨n, Nat.lt_of_succ_lt h⟩ ∧ iblk m c 1 ⟨n + 1, h⟩ = iblk m c 1 ⟨n, Nat.lt_of_succ_lt h⟩ := by
  have e : (n + 1) / 4 = n / 4 := by omega
  have hN : n + 1 < 8 := lt_of_lt_of_eq h N_0
  constructor
  · refine funext fun (y : S256x1024.Idx) => ?_
    obtain ⟨r, k, rfl⟩ : ∃ r k, y = ix2 r k := ⟨_, _, eq_ix2 y⟩
    refine (iblk0_apply m c ⟨n + 1, h⟩ r k).trans (Eq.trans ?_ (iblk0_apply m c ⟨n, Nat.lt_of_succ_lt h⟩ r k).symm)
    exact congrArg (fun i => xOf m c i k) (Fin.ext (by show (n + 1) / 4 * 256 + r.val = n / 4 * 256 + r.val; rw [e]))
  · refine funext fun (y : S1x1024.Idx) => ?_
    obtain ⟨r, k, rfl⟩ : ∃ r k, y = ix2 r k := ⟨_, _, eq_ix2 y⟩
    obtain rfl : r = 0 := Subsingleton.elim _ _
    exact (iblk1_apply m c ⟨n + 1, h⟩ k).trans (iblk1_apply m c ⟨n, Nat.lt_of_succ_lt h⟩ k).symm

/-- What each point leaves: its product, and its scaled rows. -/
theorem left : ∀ (n : ℕ) (h : n < cfg0.N), outsAt0 m c n h
    = (k0_pay2 (k0_pay1 (iblk m c 0 ⟨n, h⟩) (iblk m c 1 ⟨n, h⟩)) (iblk m c 2 ⟨n, h⟩), k0_pay1 (iblk m c 0 ⟨n, h⟩) (iblk m c 1 ⟨n, h⟩))
  | 0, h => (outsAt0_A m c ⟨0, h⟩ (Nat.zero_mod _)).trans (by rw [out_first, kept_first])
  | n + 1, h => by
    by_cases h0 : (n + 1) % 4 = 0
    · exact (outsAt0_A m c ⟨n + 1, h⟩ h0).trans (by rw [out_first, kept_first])
    · refine (outsAt0_B m c ⟨n + 1, h⟩ h0).trans ?_
      have ih : (outsAt0 m c n (Nat.lt_of_succ_lt h)).2 = k0_pay1 (iblk m c 0 ⟨n + 1, h⟩) (iblk m c 1 ⟨n + 1, h⟩) := by
        rw [left n (Nat.lt_of_succ_lt h), (same_rows m c n h h0).1, (same_rows m c n h h0).2]
      rw [out_next]
      exact congrArg (fun q => (k0_pay2 q (iblk m c 2 ⟨n + 1, h⟩), q)) ih

theorem outs (t : Fin cfg0.N) : (outsAt0 m c t.val t.isLt).1 = k0_pay2 (k0_pay1 (iblk m c 0 t) (iblk m c 1 t)) (iblk m c 2 t) := by
  rw [left]

/-- The projection: each row scaled, times each column. -/
def proj : Buf (Elt Ideal) ((c : Thread nD τ).loc main_v24) := fun (i : S512x4096.Idx) =>
  ndot (xOf m c (i 0)) (gOf m c) (fun k => wOf m c k (i 1))

theorem flushed_eq (t : Fin cfg0.N) :
    (dats m 0 c).flushed 3 t = ((cfg0.win 3).blk t).view.read (Elt Ideal) (proj m c) := by
  rw [flushed3, outs]
  refine funext fun (y : S256x1024.Idx) => ?_
  have hy0 : (y 0).val < 256 := (y 0).isLt
  have hy1 : (y 1).val < 1024 := (y 1).isLt
  have e : ((cfg0.win 3).blk t).view.emb y = (ix2 ⟨t.val / 4 * 256 + (y 0).val, by have := ptlt t; omega⟩
      ⟨t.val % 4 * 1024 + (y 1).val, by have := ptlt t; omega⟩ : S512x4096.Idx) := funext fun b => Fin.ext (by
    match b with
    | ⟨0, _⟩ => show win0_3.index t (0 : Fin 2) * 256 + 1 * (y 0).val = t.val / 4 * 256 + (y 0).val; rw [(place t).2.2.2.2.2.2.1]; omega
    | ⟨1, _⟩ => show win0_3.index t (1 : Fin 2) * 1024 + 1 * (y 1).val = t.val % 4 * 1024 + (y 1).val; rw [(place t).2.2.2.2.2.2.2]; omega)
  show k0_pay2 (k0_pay1 (iblk m c 0 t) (iblk m c 1 t)) (iblk m c 2 t) y = proj m c (((cfg0.win 3).blk t).view.emb y)
  rw [e]
  refine (congrArg (k0_pay2 (k0_pay1 (iblk m c 0 t) (iblk m c 1 t)) (iblk m c 2 t)) (eq_ix2 y)).trans ?_
  refine (prod_apply _ _ (y 0) (y 1)).trans ?_
  refine Finset.sum_congr rfl fun k _ => congrArg₂ (· * ·) ?_ (iblk2_apply m c t k (y 1))
  refine (rows_apply _ _ (y 0) k).trans ?_
  exact congrArg₂ (fun a b => nrow a b k) (funext fun k => iblk0_apply m c t (y 0) k) (funext fun k => iblk1_apply m c t k)

/-- The result array ends holding the projection. -/
theorem final : (dats m 0 c).arrAt 3 cfg0.N = proj m c :=
  (dats m 0 c).arrAt_eq_of_cover 3 _ (fun t _ => flushed_eq m c t) fun (i : S512x4096.Idx) => (covered_iff3 i).2 (by
    have h0 : (i 0).val < 512 := (i 0).isLt
    have h1 : (i 1).val < 4096 := (i 1).isLt
    omega)

end Cert.MemKVIdeal.Proj

namespace Cert.MemKVRefIdeal.Proj

open Idealize.ShloMosaic Idealize.ShloMosaic.ValueIdx Idealize.ShloMosaic.TcCoe
open Cert.MemKVRefIdeal Cert.MemKVRefIdeal.Gen Cert.MemKVRefIdeal.Read Cert.Rows
open Cert.MemKVIdeal.Proj (pair colM)

variable (x0 : (⟨S2x256x1024, .f32⟩ : BufTy).Contents (Elt Ideal)) (x1 : (⟨S1024, .f32⟩ : BufTy).Contents (Elt Ideal)) (x2 x3 : (⟨S4x1024x512, .f32⟩ : BufTy).Contents (Elt Ideal))

theorem zero_bits : (FloatOps.ofBits (F := Ideal) .f32 0x00000000#32 : EReal) = 0 := Cert.KernelIdeal.Attn.zero_f32

theorem rows_at (b : Fin 2) (r : Fin 256) (k : Fin 1024) :
    val_main_v12 (F := Ideal) x0 x1 (ix3 b r k) = nrow (fun k => x0 (ix3 b r k)) (fun k => x1 (ix1 k)) k := by
  have e1 : idx_main_v2 (idx_main_v8 (ix3 b r k)) = ix2 b r := eq_ix2 _
  have e2 : idx_main_v10 (idx_main_v11 (ix3 b r k)) = ix1 k := eq_ix1 _
  have hs : val_main_v1 (F := Ideal) x0 (ix2 b r) = ∑ k : Fin 1024, x0 (ix3 b r k) * x0 (ix3 b r k) := by
    rw [val_main_v1_apply, val_main_cst_apply]
    refine (congrArg (· + _) zero_bits).trans ((zero_add _).trans ?_)
    refine Finset.sum_congr rfl fun k _ => ?_
    have e : idx_main_v1 (ix2 b r) k = ix3 b r k := eq_ix3 _
    rw [val_main_v0_apply, e]
    rfl
  rw [val_main_v12_apply, val_main_v9_apply, val_main_v11_apply, val_main_v10_apply, e2, val_main_v8_apply, val_main_v7_apply, val_main_v6_apply,
    val_main_v4_apply, val_main_v2_apply, e1, hs, val_main_v3_apply, val_main_v5_apply, val_main_cst_0_apply, val_main_cst_1_apply]
  rfl

/-- The products of the scaled rows with a layer's weights. -/
theorem keys_at (b : Fin 2) (r : Fin 256) (l : Fin 4) (p : Fin 512) :
    val_main_v13 (F := Ideal) x0 x1 x2 (ix4 b r l p) = ndot (fun k => x0 (ix3 b r k)) (fun k => x1 (ix1 k)) (fun k => x2 (ix3 l k p)) := by
  rw [val_main_v13_apply]
  refine Finset.sum_congr rfl fun k _ => ?_
  have el : lidx_main_v13 (ix4 b r l p) k = ix3 b r k := eq_ix3 _
  have er : ridx_main_v13 (ix4 b r l p) k = ix3 l k p := eq_ix3 _
  rw [el, er, rows_at]

theorem vals_at (b : Fin 2) (r : Fin 256) (l : Fin 4) (p : Fin 512) :
    val_main_v14 (F := Ideal) x0 x1 x3 (ix4 b r l p) = ndot (fun k => x0 (ix3 b r k)) (fun k => x1 (ix1 k)) (fun k => x3 (ix3 l k p)) := by
  rw [val_main_v14_apply]
  refine Finset.sum_congr rfl fun k _ => ?_
  have el : lidx_main_v14 (ix4 b r l p) k = ix3 b r k := eq_ix3 _
  have er : ridx_main_v14 (ix4 b r l p) k = ix3 l k p := eq_ix3 _
  rw [el, er, rows_at]

/-- The place of an entry of the result among the products. -/
def at5 (i : Fin 512) (j : Fin 4096) : S2x256x4x1x512.Idx := fun a => match a with
  | ⟨0, _⟩ => (⟨i.val / 256, by omega⟩ : Fin 2)
  | ⟨1, _⟩ => (⟨i.val % 256, by omega⟩ : Fin 256)
  | ⟨2, _⟩ => (⟨j.val / 1024, by omega⟩ : Fin 4)
  | ⟨3, _⟩ => (0 : Fin 1)
  | ⟨4, _⟩ => (⟨j.val % 512, by omega⟩ : Fin 512)

theorem res_at (i : Fin 512) (j : Fin 4096) :
    val_main_v18 (F := Ideal) x0 x1 x2 x3 (ix2 i j)
      = ndot (fun k => x0 (ix3 ⟨i.val / 256, by omega⟩ ⟨i.val % 256, by omega⟩ k)) (fun k => x1 (ix1 k)) (fun k => colM x2 x3 k j) := by
  have hi : i.val < 512 := i.isLt
  have hj : j.val < 4096 := j.isLt
  rw [val_main_v18_apply]
  unfold val_main_v17
  by_cases h : j.val % 1024 < 512
  · refine (concatenate_pair_apply_left (t := S2x256x4x2x512) (s₁ := S2x256x4x1x512) (s₂ := S2x256x4x1x512) 3 _ _ _ _ rfl (at5 i j) (fun b => by
      match b with
      | ⟨0, _⟩ => show i.val / 256 = (i.val * 4096 + j.val) / 1048576; omega
      | ⟨1, _⟩ => show i.val % 256 = (i.val * 4096 + j.val) / 4096 % 256; omega
      | ⟨2, _⟩ => show j.val / 1024 = (i.val * 4096 + j.val) / 1024 % 4; omega
      | ⟨3, _⟩ => show 0 = (i.val * 4096 + j.val) / 512 % 2; omega
      | ⟨4, _⟩ => show j.val % 512 = (i.val * 4096 + j.val) % 512; omega)).trans ?_
    have e : idx_main_v15 (at5 i j) = ix4 ⟨i.val / 256, by omega⟩ ⟨i.val % 256, by omega⟩ ⟨j.val / 1024, by omega⟩ ⟨j.val % 512, by omega⟩ := eq_ix4 _
    rw [val_main_v15_apply, e, keys_at]
    refine congrArg _ (funext fun k => ?_)
    unfold colM pair
    rw [dif_pos h]
    exact congrArg (fun p => x2 (ix3 _ k p)) (Fin.ext (by show j.val % 512 = j.val % 1024; omega))
  · refine (concatenate_pair_apply_right (t := S2x256x4x2x512) (s₁ := S2x256x4x1x512) (s₂ := S2x256x4x1x512) 3 _ _ _ _ rfl rfl (at5 i j) (fun b hb => by
      match b with
      | ⟨0, _⟩ => show i.val / 256 = (i.val * 4096 + j.val) / 1048576; omega
      | ⟨1, _⟩ => show i.val % 256 = (i.val * 4096 + j.val) / 4096 % 256; omega
      | ⟨2, _⟩ => show j.val / 1024 = (i.val * 4096 + j.val) / 1024 % 4; omega
      | ⟨3, _⟩ => exact absurd rfl hb
      | ⟨4, _⟩ => show j.val % 512 = (i.val * 4096 + j.val) % 512; omega) (by show 0 + 1 = (i.val * 4096 + j.val) / 512 % 2; omega)).trans ?_
    have e : idx_main_v16 (at5 i j) = ix4 ⟨i.val / 256, by omega⟩ ⟨i.val % 256, by omega⟩ ⟨j.val / 1024, by omega⟩ ⟨j.val % 512, by omega⟩ := eq_ix4 _
    rw [val_main_v16_apply, e, vals_at]
    refine congrArg _ (funext fun k => ?_)
    unfold colM pair
    rw [dif_neg h]
    exact congrArg (fun p => x3 (ix3 _ k p)) (Fin.ext (by show j.val % 512 = j.val % 1024 - 512; omega))

theorem val_eq : val_main_v18 (F := Ideal) x0 x1 x2 x3 = fun (i : S512x4096.Idx) =>
    ndot (fun k => x0 (ix3 ⟨(i 0).val / 256, by have h : (i 0).val < 512 := (i 0).isLt; omega⟩ ⟨(i 0).val % 256, by omega⟩ k)) (fun k => x1 (ix1 k)) (fun k => colM x2 x3 k (i 1)) :=
  funext fun (i : S512x4096.Idx) => (congrArg _ (eq_ix2 i)).trans (res_at x0 x1 x2 x3 (i 0) (i 1))

end Cert.MemKVRefIdeal.Proj

end
-- ==== Proof.Proj.Sums.lean ====
/-
A sum over 2560 places, cut where the parts side by side meet, and the sums the last projections are.
-/
module

public import proofs.«01_k».proof.Proof.Proj.Rows

@[expose] public section

noncomputable section

namespace Cert.Rows

open Idealize.ShloMosaic

theorem sum_cut (f : Fin 2560 → EReal) : ∑ k, f k = (∑ k : Fin 2048, f ⟨k.val, by omega⟩) + ∑ k : Fin 512, f ⟨2048 + k.val, by omega⟩ :=
  Fin.sum_univ_add (a := 2048) (b := 512) f

theorem sum_half (f : Fin 2048 → EReal) : ∑ k, f k = (∑ k : Fin 1024, f ⟨k.val, by omega⟩) + ∑ k : Fin 1024, f ⟨1024 + k.val, by omega⟩ :=
  Fin.sum_univ_add (a := 1024) (b := 1024) f

/-- An entry and the product of two parts side by side with a column. -/
def two (x : EReal) (y : Fin 2048 → EReal) (z : Fin 512 → EReal) (w : Fin 2560 → EReal) : EReal :=
  x + ((∑ k : Fin 2048, y k * w ⟨k.val, by omega⟩) + ∑ k : Fin 512, z k * w ⟨2048 + k.val, by omega⟩)

/-- An entry and the product of three parts side by side with a column. -/
def three (x : EReal) (y y' : Fin 1024 → EReal) (z : Fin 512 → EReal) (w : Fin 2560 → EReal) : EReal :=
  x + (((∑ k : Fin 1024, y k * w ⟨k.val, by omega⟩) + ∑ k : Fin 1024, y' k * w ⟨1024 + k.val, by omega⟩) + ∑ k : Fin 512, z k * w ⟨2048 + k.val, by omega⟩)

end Cert.Rows

end
-- ==== Proof.Proj.OutA.lean ====
/-
The last projection of the even layers, with the layer's input added: the kernel's result array and the reference's.
-/
module

public import proofs.«01_k».proof.Proof.Proj.Sums
public import proofs.«01_k».proof.Proof.Gen.OutAIdeal.Value
public import proofs.«01_k».proof.Proof.Gen.OutARefIdeal.Read

@[expose] public section

set_option maxRecDepth 16384
set_option maxHeartbeats 1000000

noncomputable section

namespace Cert.OutAIdeal.Proj

open Idealize.ShloMosaic Idealize.ShloMosaic.ValueIdx Idealize.ShloMosaic.TcCoe
open Cert.OutAIdeal Cert.OutAIdeal.Gen Cert.OutAIdeal.Value Cert.Rows
open Cert.KernelIdeal.Attn (rowMajor2 matmul_plain rsqrt_apply)

variable (m : (ℓ : Loc nD τ sig) → Buf (Elt Ideal) ℓ) (c : Dev nD)

/-- The block a point stores, an entry at a time. -/
theorem pay_apply (x : Vec Ideal S512x1024 .f32) (a : Vec Ideal S512x1024 .bf16) (wa : Vec Ideal S1024x1024 .bf16) (b : Vec Ideal S512x1024 .bf16)
    (wb : Vec Ideal S1024x1024 .bf16) (d : Vec Ideal S512x512 .bf16) (wd : Vec Ideal S512x1024 .bf16) (r : Fin 512) (j : Fin 1024) :
    k0_pay1 x a wa b wb d wd (ix2 r j) = x (ix2 r j) + (((∑ k : Fin 1024, a (ix2 r k) * wa (ix2 k j)) + ∑ k : Fin 1024, b (ix2 r k) * wb (ix2 k j))
      + ∑ k : Fin 512, d (ix2 r k) * wd (ix2 k j)) := by
  unfold k0_pay1
  rw [shapeCast_self, shapeCast_self, shapeCast_self]
  refine Eq.trans (congrArg₂ (fun p q : EReal => p + q) (congrArg₂ (fun p q : EReal => p + q) (congrArg (fun q : EReal => x (ix2 r j) + q)
    (matmul_plain dot_S512x1024_S1024x1024_S512x1024_1_0_0_1_n_n rfl rfl (fun _ _ _ => ⟨rfl, rfl⟩) (fun _ _ _ => ⟨rfl, rfl⟩) a wa r j))
    (matmul_plain dot_S512x1024_S1024x1024_S512x1024_1_0_0_1_n_n rfl rfl (fun _ _ _ => ⟨rfl, rfl⟩) (fun _ _ _ => ⟨rfl, rfl⟩) b wb r j))
    (matmul_plain dot_S512x512_S512x1024_S512x1024_1_0_0_1_n_n rfl rfl (fun _ _ _ => ⟨rfl, rfl⟩) (fun _ _ _ => ⟨rfl, rfl⟩) d wd r j)) ?_
  simp only [add_assoc]

theorem out_eq (x0 : Vec Ideal S512x1024 .bf16) (x1 : Vec Ideal S512x1024 .bf16) (x2 : Vec Ideal S512x512 .bf16) (x3 : Vec Ideal S1024x1024 .bf16)
    (x4 : Vec Ideal S1024x1024 .bf16) (x5 : Vec Ideal S512x1024 .bf16) (x6 : Vec Ideal S512x1024 .f32) (x7 : Vec Ideal S1x1024 .f32) :
    out0_8 x0 x1 x2 x3 x4 x5 x6 x7 = k0_pay1 x6 x0 x3 x1 x4 x2 x5 := by
  unfold out0_8
  rw [View.canon_unit_zero off0]
  simp only [View.ld_unit_zero (S := S512x1024) off0, View.ld_unit_zero (S := S1024x1024) off0, View.ld_unit_zero (S := S512x512) off0]

theorem place0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

theorem place1 (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t

theorem place2 (t : Fin cfg0.N) : win0_2.index t (0 : Fin 2) = t.val ∧ win0_2.index t (1 : Fin 2) = 0 :=
  (by decide +kernel : ∀ t : Fin grid0.N, win0_2.index t (0 : Fin 2) = t.val ∧ win0_2.index t (1 : Fin 2) = 0) t

theorem place6 (t : Fin cfg0.N) : win0_6.index t (0 : Fin 2) = t.val ∧ win0_6.index t (1 : Fin 2) = 0 :=
  (by decide +kernel : ∀ t : Fin grid0.N, win0_6.index t (0 : Fin 2) = t.val ∧ win0_6.index t (1 : Fin 2) = 0) t

theorem place8 (t : Fin cfg0.N) : win0_8.index t (0 : Fin 2) = t.val ∧ win0_8.index t (1 : Fin 2) = 0 :=
  (by decide +kernel : ∀ t : Fin grid0.N, win0_8.index t (0 : Fin 2) = t.val ∧ win0_8.index t (1 : Fin 2) = 0) t

theorem place3 (t : Fin cfg0.N) : win0_3.index t (0 : Fin 2) = 0 ∧ win0_3.index t (1 : Fin 2) = 0 :=
  (by decide +kernel : ∀ t : Fin grid0.N, win0_3.index t (0 : Fin 2) = 0 ∧ win0_3.index t (1 : Fin 2) = 0) t

theorem place4 (t : Fin cfg0.N) : win0_4.index t (0 : Fin 2) = 0 ∧ win0_4.index t (1 : Fin 2) = 0 :=
  (by decide +kernel : ∀ t : Fin grid0.N, win0_4.index t (0 : Fin 2) = 0 ∧ win0_4.index t (1 : Fin 2) = 0) t

theorem place5 (t : Fin cfg0.N) : win0_5.index t (0 : Fin 2) = 0 ∧ win0_5.index t (1 : Fin 2) = 0 :=
  (by decide +kernel : ∀ t : Fin grid0.N, win0_5.index t (0 : Fin 2) = 0 ∧ win0_5.index t (1 : Fin 2) = 0) t

theorem flushes (t : Fin cfg0.N) : (cfg0.win 8).flush t = true :=
  (by decide +kernel : ∀ t : Fin grid0.N, win0_8.flush t = true) t

theorem ptlt (t : Fin cfg0.N) : t.val < 32 := lt_of_lt_of_eq t.isLt N_0

theorem iblk0_apply (t : Fin cfg0.N) (r : Fin 512) (k : Fin 1024) :
    iblk m c 0 t (ix2 r k : S512x1024.Idx) = m ((c : Thread nD τ).loc main_arg0) (ix2 ⟨t.val * 512 + r.val, by have := ptlt t; omega⟩ k : S16384x1024.Idx) := by
  have e : ((cfg0.win 0).blk t).view.emb (ix2 r k : S512x1024.Idx) = (ix2 ⟨t.val * 512 + r.val, by have := ptlt t; omega⟩ k : S16384x1024.Idx) :=
    funext fun b => Fin.ext (by
      match b with
      | ⟨0, _⟩ => show win0_0.index t (0 : Fin 2) * 512 + 1 * r.val = t.val * 512 + r.val; rw [(place0 t).1]; omega
      | ⟨1, _⟩ => show win0_0.index t (1 : Fin 2) * 1024 + 1 * k.val = k.val; rw [(place0 t).2]; omega)
  show V m c main_arg0 (((cfg0.win 0).blk t).view.emb (ix2 r k : S512x1024.Idx)) = _
  rw [e, V_main_arg0]

theorem iblk1_apply (t : Fin cfg0.N) (r : Fin 512) (k : Fin 1024) :
    iblk m c 1 t (ix2 r k : S512x1024.Idx) = m ((c : Thread nD τ).loc main_arg1) (ix2 ⟨t.val * 512 + r.val, by have := ptlt t; omega⟩ k : S16384x1024.Idx) := by
  have e : ((cfg0.win 1).blk t).view.emb (ix2 r k : S512x1024.Idx) = (ix2 ⟨t.val * 512 + r.val, by have := ptlt t; omega⟩ k : S16384x1024.Idx) :=
    funext fun b => Fin.ext (by
      match b with
      | ⟨0, _⟩ => show win0_1.index t (0 : Fin 2) * 512 + 1 * r.val = t.val * 512 + r.val; rw [(place1 t).1]; omega
      | ⟨1, _⟩ => show win0_1.index t (1 : Fin 2) * 1024 + 1 * k.val = k.val; rw [(place1 t).2]; omega)
  show V m c main_arg1 (((cfg0.win 1).blk t).view.emb (ix2 r k : S512x1024.Idx)) = _
  rw [e, V_main_arg1]

theorem iblk2_apply (t : Fin cfg0.N) (r : Fin 512) (k : Fin 512) :
    iblk m c 2 t (ix2 r k : S512x512.Idx) = m ((c : Thread nD τ).loc main_arg2) (ix2 ⟨t.val * 512 + r.val, by have := ptlt t; omega⟩ k : S16384x512.Idx) := by
  have e : ((cfg0.win 2).blk t).view.emb (ix2 r k : S512x512.Idx) = (ix2 ⟨t.val * 512 + r.val, by have := ptlt t; omega⟩ k : S16384x512.Idx) :=
    funext fun b => Fin.ext (by
      match b with
      | ⟨0, _⟩ => show win0_2.index t (0 : Fin 2) * 512 + 1 * r.val = t.val * 512 + r.val; rw [(place2 t).1]; omega
      | ⟨1, _⟩ => show win0_2.index t (1 : Fin 2) * 512 + 1 * k.val = k.val; rw [(place2 t).2]; omega)
  show V m c main_arg2 (((cfg0.win 2).blk t).view.emb (ix2 r k : S512x512.Idx)) = _
  rw [e, V_main_arg2]

theorem iblk6_apply (t : Fin cfg0.N) (r : Fin 512) (k : Fin 1024) :
    iblk m c 6 t (ix2 r k : S512x1024.Idx) = m ((c : Thread nD τ).loc main_arg4) (ix2 ⟨t.val * 512 + r.val, by have := ptlt t; omega⟩ k : S16384x1024.Idx) := by
  have e : ((cfg0.win 6).blk t).view.emb (ix2 r k : S512x1024.Idx) = (ix2 ⟨t.val * 512 + r.val, by have := ptlt t; omega⟩ k : S16384x1024.Idx) :=
    funext fun b => Fin.ext (by
      match b with
      | ⟨0, _⟩ => show win0_6.index t (0 : Fin 2) * 512 + 1 * r.val = t.val * 512 + r.val; rw [(place6 t).1]; omega
      | ⟨1, _⟩ => show win0_6.index t (1 : Fin 2) * 1024 + 1 * k.val = k.val; rw [(place6 t).2]; omega)
  show V m c main_arg4 (((cfg0.win 6).blk t).view.emb (ix2 r k : S512x1024.Idx)) = _
  rw [e, V_main_arg4]

theorem iblk3_apply (t : Fin cfg0.N) (k : Fin 1024) (j : Fin 1024) :
    iblk m c 3 t (ix2 k j : S1024x1024.Idx) = m ((c : Thread nD τ).loc main_arg3) (ix2 ⟨k.val, by omega⟩ j : S2560x1024.Idx) := by
  have e : ((cfg0.win 3).blk t).view.emb (ix2 k j : S1024x1024.Idx) = (ix2 k j : S1024x1024.Idx) :=
    funext fun b => Fin.ext (by
      match b with
      | ⟨0, _⟩ => show win0_3.index t (0 : Fin 2) * 1024 + 1 * k.val = k.val; rw [(place3 t).1]; omega
      | ⟨1, _⟩ => show win0_3.index t (1 : Fin 2) * 1024 + 1 * j.val = j.val; rw [(place3 t).2]; omega)
  have hV : (V m c main_v1 : FVec Ideal S1024x1024 .bf16) = (extractStridedSlice S1024x1024 ![0, 0] (truncf .bf16 (m ((c : Thread nD τ).loc main_arg3) : FVec Ideal S2560x1024 .f32) bitsLt_bf16_f32 : FVec Ideal S2560x1024 .bf16) slices_S2560x1024_S1024x1024_0_0 : FVec Ideal S1024x1024 .bf16) := rfl
  show V m c main_v1 (((cfg0.win 3).blk t).view.emb (ix2 k j : S1024x1024.Idx)) = _
  rw [e, hV]
  refine (extractStridedSlice_apply _ _ _ _ (ix2 ⟨k.val, by omega⟩ j) fun b => ?_).trans rfl
  match b with
  | ⟨0, _⟩ => show k.val = 0 + k.val; omega
  | ⟨1, _⟩ => exact (Nat.zero_add _).symm

theorem iblk4_apply (t : Fin cfg0.N) (k : Fin 1024) (j : Fin 1024) :
    iblk m c 4 t (ix2 k j : S1024x1024.Idx) = m ((c : Thread nD τ).loc main_arg3) (ix2 ⟨1024 + k.val, by omega⟩ j : S2560x1024.Idx) := by
  have e : ((cfg0.win 4).blk t).view.emb (ix2 k j : S1024x1024.Idx) = (ix2 k j : S1024x1024.Idx) :=
    funext fun b => Fin.ext (by
      match b with
      | ⟨0, _⟩ => show win0_4.index t (0 : Fin 2) * 1024 + 1 * k.val = k.val; rw [(place4 t).1]; omega
      | ⟨1, _⟩ => show win0_4.index t (1 : Fin 2) * 1024 + 1 * j.val = j.val; rw [(place4 t).2]; omega)
  have hV : (V m c main_v2 : FVec Ideal S1024x1024 .bf16) = (extractStridedSlice S1024x1024 ![1024, 0] (truncf .bf16 (m ((c : Thread nD τ).loc main_arg3) : FVec Ideal S2560x1024 .f32) bitsLt_bf16_f32 : FVec Ideal S2560x1024 .bf16) slices_S2560x1024_S1024x1024_1024_0 : FVec Ideal S1024x1024 .bf16) := rfl
  show V m c main_v2 (((cfg0.win 4).blk t).view.emb (ix2 k j : S1024x1024.Idx)) = _
  rw [e, hV]
  refine (extractStridedSlice_apply _ _ _ _ (ix2 ⟨1024 + k.val, by omega⟩ j) fun b => ?_).trans rfl
  match b with
  | ⟨0, _⟩ => show 1024 + k.val = 1024 + k.val; omega
  | ⟨1, _⟩ => exact (Nat.zero_add _).symm

theorem iblk5_apply (t : Fin cfg0.N) (k : Fin 512) (j : Fin 1024) :
    iblk m c 5 t (ix2 k j : S512x1024.Idx) = m ((c : Thread nD τ).loc main_arg3) (ix2 ⟨2048 + k.val, by omega⟩ j : S2560x1024.Idx) := by
  have e : ((cfg0.win 5).blk t).view.emb (ix2 k j : S512x1024.Idx) = (ix2 k j : S512x1024.Idx) :=
    funext fun b => Fin.ext (by
      match b with
      | ⟨0, _⟩ => show win0_5.index t (0 : Fin 2) * 512 + 1 * k.val = k.val; rw [(place5 t).1]; omega
      | ⟨1, _⟩ => show win0_5.index t (1 : Fin 2) * 1024 + 1 * j.val = j.val; rw [(place5 t).2]; omega)
  have hV : (V m c main_v3 : FVec Ideal S512x1024 .bf16) = (extractStridedSlice S512x1024 ![2048, 0] (truncf .bf16 (m ((c : Thread nD τ).loc main_arg3) : FVec Ideal S2560x1024 .f32) bitsLt_bf16_f32 : FVec Ideal S2560x1024 .bf16) slices_S2560x1024_S512x1024_2048_0 : FVec Ideal S512x1024 .bf16) := rfl
  show V m c main_v3 (((cfg0.win 5).blk t).view.emb (ix2 k j : S512x1024.Idx)) = _
  rw [e, hV]
  refine (extractStridedSlice_apply _ _ _ _ (ix2 ⟨2048 + k.val, by omega⟩ j) fun b => ?_).trans rfl
  match b with
  | ⟨0, _⟩ => show 2048 + k.val = 2048 + k.val; omega
  | ⟨1, _⟩ => exact (Nat.zero_add _).symm

/-- The result array as a function of the arguments. -/
def res : Buf (Elt Ideal) ((c : Thread nD τ).loc main_v5) := fun (i : S16384x1024.Idx) => three (m ((c : Thread nD τ).loc main_arg4) (ix2 (i 0) (i 1))) (fun k => m ((c : Thread nD τ).loc main_arg0) (ix2 (i 0) k)) (fun k => m ((c : Thread nD τ).loc main_arg1) (ix2 (i 0) k)) (fun k => m ((c : Thread nD τ).loc main_arg2) (ix2 (i 0) k)) (fun k => m ((c : Thread nD τ).loc main_arg3) (ix2 k (i 1)))

theorem flushed_eq (t : Fin cfg0.N) :
    (dats m 0 c).flushed 8 t = ((cfg0.win 8).blk t).view.read (Elt Ideal) (res m c) := by
  rw [flushed8, out_eq]
  refine funext fun (y : S512x1024.Idx) => ?_
  have hy0 : (y 0).val < 512 := (y 0).isLt
  have e : ((cfg0.win 8).blk t).view.emb y = (ix2 ⟨t.val * 512 + (y 0).val, by have := ptlt t; omega⟩ (y 1) : S16384x1024.Idx) := funext fun b => Fin.ext (by
    match b with
    | ⟨0, _⟩ => show win0_8.index t (0 : Fin 2) * 512 + 1 * (y 0).val = t.val * 512 + (y 0).val; rw [(place8 t).1]; omega
    | ⟨1, _⟩ => show win0_8.index t (1 : Fin 2) * 1024 + 1 * (y 1).val = (y 1).val; rw [(place8 t).2]; omega)
  show k0_pay1 (iblk m c 6 t) (iblk m c 0 t) (iblk m c 3 t) (iblk m c 1 t) (iblk m c 4 t) (iblk m c 2 t) (iblk m c 5 t) y = res m c (((cfg0.win 8).blk t).view.emb y)
  rw [e]
  refine (congrArg (k0_pay1 (iblk m c 6 t) (iblk m c 0 t) (iblk m c 3 t) (iblk m c 1 t) (iblk m c 4 t) (iblk m c 2 t) (iblk m c 5 t)) (eq_ix2 y)).trans ?_
  refine (pay_apply (iblk m c 6 t) (iblk m c 0 t) (iblk m c 3 t) (iblk m c 1 t) (iblk m c 4 t) (iblk m c 2 t) (iblk m c 5 t) (y 0) (y 1)).trans ?_
  exact congrArg₂ (fun p q : EReal => p + q) (iblk6_apply m c t (y 0) (y 1)) (congrArg₂ (fun p q : EReal => p + q) (congrArg₂ (fun p q : EReal => p + q)
    (Finset.sum_congr rfl fun k _ => congrArg₂ (fun p q : EReal => p * q) (iblk0_apply m c t (y 0) k) (iblk3_apply m c t k (y 1)))
    (Finset.sum_congr rfl fun k _ => congrArg₂ (fun p q : EReal => p * q) (iblk1_apply m c t (y 0) k) (iblk4_apply m c t k (y 1))))
    (Finset.sum_congr rfl fun k _ => congrArg₂ (fun p q : EReal => p * q) (iblk2_apply m c t (y 0) k) (iblk5_apply m c t k (y 1))))

theorem covered (i : S16384x1024.Idx) : ∃ t : Fin cfg0.N, (cfg0.win 8).flush t = true ∧ i ∈ ((cfg0.win 8).blk t).view.set := by
  have h0 : (i 0).val < 16384 := (i 0).isLt
  have h1 : (i 1).val < 1024 := (i 1).isLt
  obtain ⟨t, ht⟩ : ∃ t : Fin cfg0.N, t.val = (i 0).val / 512 := ⟨⟨(i 0).val / 512, lt_of_lt_of_eq (by omega : (i 0).val / 512 < 32) N_0.symm⟩, rfl⟩
  refine ⟨t, flushes t, ?_⟩
  show i ∈ ((View.whole main_v5).slice (win0_8.rect t)).set
  rw [View.set_slice_whole, Rect.mem_set_unit]
  intro a
  match a with
  | ⟨0, _⟩ => show win0_8.index t (0 : Fin 2) * 512 ≤ (i 0).val ∧ (i 0).val < win0_8.index t (0 : Fin 2) * 512 + 512; rw [(place8 t).1]; omega
  | ⟨1, _⟩ => show win0_8.index t (1 : Fin 2) * 1024 ≤ (i 1).val ∧ (i 1).val < win0_8.index t (1 : Fin 2) * 1024 + 1024; rw [(place8 t).2]; omega

/-- The result array ends holding it. -/
theorem final : (dats m 0 c).arrAt 8 cfg0.N = res m c :=
  (dats m 0 c).arrAt_eq_of_cover 8 _ (fun t _ => flushed_eq m c t) fun (i : S16384x1024.Idx) => covered i

end Cert.OutAIdeal.Proj

namespace Cert.OutARefIdeal.Proj

open Idealize.ShloMosaic Idealize.ShloMosaic.ValueIdx Idealize.ShloMosaic.TcCoe
open Cert.OutARefIdeal Cert.OutARefIdeal.Gen Cert.OutARefIdeal.Read Cert.Rows

variable (x0 x1 : (⟨S16384x1024, .bf16⟩ : BufTy).Contents (Elt Ideal)) (x2 : (⟨S16384x512, .bf16⟩ : BufTy).Contents (Elt Ideal))
  (x3 : (⟨S2560x1024, .f32⟩ : BufTy).Contents (Elt Ideal)) (x4 : (⟨S16384x1024, .f32⟩ : BufTy).Contents (Elt Ideal))

theorem part0 (i : Fin 16384) (k : Fin 1024) : val_main_v0 (F := Ideal) x0 x1 x2 (ix2 i ⟨k.val, by omega⟩ : S16384x2560.Idx) = x0 (ix2 i k) := by
  unfold val_main_v0
  exact concatenate_apply_piece (t := S16384x2560) 1 _ _ _ 0 (by simp) S16384x1024 _ rfl rfl 0 (by rfl) (ix2 i k) (fun b hb => by
    match b with
    | ⟨0, _⟩ => rfl
    | ⟨1, _⟩ => exact absurd rfl hb) (Nat.zero_add _)

theorem part1 (i : Fin 16384) (k : Fin 1024) : val_main_v0 (F := Ideal) x0 x1 x2 (ix2 i ⟨1024 + k.val, by omega⟩ : S16384x2560.Idx) = x1 (ix2 i k) := by
  unfold val_main_v0
  exact concatenate_apply_piece (t := S16384x2560) 1 _ _ _ 1 (by simp) S16384x1024 _ rfl rfl 1024 (by rfl) (ix2 i k) (fun b hb => by
    match b with
    | ⟨0, _⟩ => rfl
    | ⟨1, _⟩ => exact absurd rfl hb) rfl

theorem part2 (i : Fin 16384) (k : Fin 512) : val_main_v0 (F := Ideal) x0 x1 x2 (ix2 i ⟨2048 + k.val, by omega⟩ : S16384x2560.Idx) = x2 (ix2 i k) := by
  unfold val_main_v0
  exact concatenate_apply_piece (t := S16384x2560) 1 _ _ _ 2 (by simp) S16384x512 _ rfl rfl 2048 (by rfl) (ix2 i k) (fun b hb => by
    match b with
    | ⟨0, _⟩ => rfl
    | ⟨1, _⟩ => exact absurd rfl hb) rfl

theorem res_at (i : Fin 16384) (j : Fin 1024) :
    val_main_v3 (F := Ideal) x0 x1 x2 x3 x4 (ix2 i j)
      = three (x4 (ix2 i j)) (fun k => x0 (ix2 i k)) (fun k => x1 (ix2 i k)) (fun k => x2 (ix2 i k)) (fun k => x3 (ix2 k j)) := by
  have hd : val_main_v2 (F := Ideal) x0 x1 x2 x3 (ix2 i j) = ∑ k : Fin 2560, (val_main_v0 (F := Ideal) x0 x1 x2 (ix2 i k : S16384x2560.Idx) : EReal) * x3 (ix2 k j) := by
    rw [val_main_v2_apply]
    refine Finset.sum_congr rfl fun k _ => ?_
    have el : lidx_main_v2 (ix2 i j) k = ix2 i k := eq_ix2 _
    have er : ridx_main_v2 (ix2 i j) k = ix2 k j := eq_ix2 _
    rw [el, er]
    rfl
  rw [val_main_v3_apply, hd, sum_cut, sum_half]
  exact congrArg (fun q : EReal => x4 (ix2 i j) + q) (congrArg₂ (fun p q : EReal => p + q) (congrArg₂ (fun p q : EReal => p + q)
    (Finset.sum_congr rfl fun k _ => congrArg (fun q : EReal => q * _) (part0 x0 x1 x2 i k))
    (Finset.sum_congr rfl fun k _ => congrArg (fun q : EReal => q * _) (part1 x0 x1 x2 i k)))
    (Finset.sum_congr rfl fun k _ => congrArg (fun q : EReal => q * _) (part2 x0 x1 x2 i k)))

theorem val_eq : val_main_v3 (F := Ideal) x0 x1 x2 x3 x4 = fun (i : S16384x1024.Idx) =>
    three (x4 (ix2 (i 0) (i 1))) (fun k => x0 (ix2 (i 0) k)) (fun k => x1 (ix2 (i 0) k)) (fun k => x2 (ix2 (i 0) k)) (fun k => x3 (ix2 k (i 1))) :=
  funext fun (i : S16384x1024.Idx) => (congrArg _ (eq_ix2 i)).trans (res_at x0 x1 x2 x3 x4 (i 0) (i 1))

end Cert.OutARefIdeal.Proj

end
-- ==== Proof.Proj.OutC.lean ====
/-
The last projection of the odd layers, with the layer's input added: the kernel's result array and the reference's.
-/
module

public import proofs.«01_k».proof.Proof.Proj.Sums
public import proofs.«01_k».proof.Proof.Gen.OutCIdeal.Value
public import proofs.«01_k».proof.Proof.Gen.OutCRefIdeal.Read

@[expose] public section

set_option maxRecDepth 16384
set_option maxHeartbeats 1000000

noncomputable section

namespace Cert.OutCIdeal.Proj

open Idealize.ShloMosaic Idealize.ShloMosaic.ValueIdx Idealize.ShloMosaic.TcCoe
open Cert.OutCIdeal Cert.OutCIdeal.Gen Cert.OutCIdeal.Value Cert.Rows
open Cert.KernelIdeal.Attn (rowMajor2 matmul_plain rsqrt_apply)

variable (m : (ℓ : Loc nD τ sig) → Buf (Elt Ideal) ℓ) (c : Dev nD)

/-- The entry plus the products, as the body adds them. -/
theorem acc_apply (x : FVec Ideal S512x1024 .f32) (a : FVec Ideal S512x2048 .bf16) (wa : FVec Ideal S2048x1024 .bf16) (b : FVec Ideal S512x512 .bf16)
    (wb : FVec Ideal S512x1024 .bf16) (r : Fin 512) (j : Fin 1024) :
    (addf (addf x (matmul dot_S512x2048_S2048x1024_S512x1024_1_0_0_1_n_n none a wa (constant S512x1024 .f32 0x00000000#32)))
    (matmul dot_S512x512_S512x1024_S512x1024_1_0_0_1_n_n none b wb (constant S512x1024 .f32 0x00000000#32))) (ix2 r j)
      = x (ix2 r j) + ((∑ k : Fin 2048, a (ix2 r k) * wa (ix2 k j)) + ∑ k : Fin 512, b (ix2 r k) * wb (ix2 k j)) := by
  refine Eq.trans (congrArg₂ (fun p q : EReal => p + q) (congrArg (fun q : EReal => x (ix2 r j) + q)
    (matmul_plain dot_S512x2048_S2048x1024_S512x1024_1_0_0_1_n_n rfl rfl (fun _ _ _ => ⟨rfl, rfl⟩) (fun _ _ _ => ⟨rfl, rfl⟩) a wa r j))
    (matmul_plain dot_S512x512_S512x1024_S512x1024_1_0_0_1_n_n rfl rfl (fun _ _ _ => ⟨rfl, rfl⟩) (fun _ _ _ => ⟨rfl, rfl⟩) b wb r j)) ?_
  simp only [add_assoc]

/-- The block a point stores, an entry at a time. -/
theorem pay_apply (x : Vec Ideal S512x1024 .f32) (a : Vec Ideal S512x2048 .bf16) (wa : Vec Ideal S2048x1024 .bf16) (b : Vec Ideal S512x512 .bf16)
    (wb : Vec Ideal S512x1024 .bf16) (r : Fin 512) (j : Fin 1024) :
    k0_pay1 x a wa b wb (ix2 r j) = x (ix2 r j) + ((∑ k : Fin 2048, a (ix2 r k) * wa (ix2 k j)) + ∑ k : Fin 512, b (ix2 r k) * wb (ix2 k j)) := by
  unfold k0_pay1
  rw [shapeCast_self, shapeCast_self]
  exact acc_apply x a wa b wb r j

theorem out_eq
    (x0 : Vec Ideal S512x2048 .bf16) (x1 : Vec Ideal S512x512 .bf16) (x2 : Vec Ideal S2048x1024 .bf16)
    (x3 : Vec Ideal S512x1024 .bf16) (x4 : Vec Ideal S512x1024 .f32) (x5 : Vec Ideal S1x1024 .f32) :
    out0_6 x0 x1 x2 x3 x4 x5 = k0_pay1 x4 x0 x2 x1 x3 := by
  unfold out0_6
  rw [View.canon_unit_zero off0]
  simp only [View.ld_unit_zero (S := S512x1024) off0, View.ld_unit_zero (S := S512x2048) off0, View.ld_unit_zero (S := S2048x1024) off0,
    View.ld_unit_zero (S := S512x512) off0]

theorem place0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

theorem place1 (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t

theorem place4 (t : Fin cfg0.N) : win0_4.index t (0 : Fin 2) = t.val ∧ win0_4.index t (1 : Fin 2) = 0 :=
  (by decide +kernel : ∀ t : Fin grid0.N, win0_4.index t (0 : Fin 2) = t.val ∧ win0_4.index t (1 : Fin 2) = 0) t

theorem place6 (t : Fin cfg0.N) : win0_6.index t (0 : Fin 2) = t.val ∧ win0_6.index t (1 : Fin 2) = 0 :=
  (by decide +kernel : ∀ t : Fin grid0.N, win0_6.index t (0 : Fin 2) = t.val ∧ win0_6.index t (1 : Fin 2) = 0) t

theorem place2 (t : Fin cfg0.N) : win0_2.index t (0 : Fin 2) = 0 ∧ win0_2.index t (1 : Fin 2) = 0 :=
  (by decide +kernel : ∀ t : Fin grid0.N, win0_2.index t (0 : Fin 2) = 0 ∧ win0_2.index t (1 : Fin 2) = 0) t

theorem place3 (t : Fin cfg0.N) : win0_3.index t (0 : Fin 2) = 0 ∧ win0_3.index t (1 : Fin 2) = 0 :=
  (by decide +kernel : ∀ t : Fin grid0.N, win0_3.index t (0 : Fin 2) = 0 ∧ win0_3.index t (1 : Fin 2) = 0) t

theorem flushes (t : Fin cfg0.N) : (cfg0.win 6).flush t = true :=
  (by decide +kernel : ∀ t : Fin grid0.N, win0_6.flush t = true) t

theorem ptlt (t : Fin cfg0.N) : t.val < 32 := lt_of_lt_of_eq t.isLt N_0

theorem iblk0_apply (t : Fin cfg0.N) (r : Fin 512) (k : Fin 2048) :
    iblk m c 0 t (ix2 r k : S512x2048.Idx) = m ((c : Thread nD τ).loc main_arg0) (ix2 ⟨t.val * 512 + r.val, by have := ptlt t; omega⟩ k : S16384x2048.Idx) := by
  have e : ((cfg0.win 0).blk t).view.emb (ix2 r k : S512x2048.Idx) = (ix2 ⟨t.val * 512 + r.val, by have := ptlt t; omega⟩ k : S16384x2048.Idx) :=
    funext fun b => Fin.ext (by
      match b with
      | ⟨0, _⟩ => show win0_0.index t (0 : Fin 2) * 512 + 1 * r.val = t.val * 512 + r.val; rw [(place0 t).1]; omega
      | ⟨1, _⟩ => show win0_0.index t (1 : Fin 2) * 2048 + 1 * k.val = k.val; rw [(place0 t).2]; omega)
  show V m c main_arg0 (((cfg0.win 0).blk t).view.emb (ix2 r k : S512x2048.Idx)) = _
  rw [e, V_main_arg0]

theorem iblk1_apply (t : Fin cfg0.N) (r : Fin 512) (k : Fin 512) :
    iblk m c 1 t (ix2 r k : S512x512.Idx) = m ((c : Thread nD τ).loc main_arg1) (ix2 ⟨t.val * 512 + r.val, by have := ptlt t; omega⟩ k : S16384x512.Idx) := by
  have e : ((cfg0.win 1).blk t).view.emb (ix2 r k : S512x512.Idx) = (ix2 ⟨t.val * 512 + r.val, by have := ptlt t; omega⟩ k : S16384x512.Idx) :=
    funext fun b => Fin.ext (by
      match b with
      | ⟨0, _⟩ => show win0_1.index t (0 : Fin 2) * 512 + 1 * r.val = t.val * 512 + r.val; rw [(place1 t).1]; omega
      | ⟨1, _⟩ => show win0_1.index t (1 : Fin 2) * 512 + 1 * k.val = k.val; rw [(place1 t).2]; omega)
  show V m c main_arg1 (((cfg0.win 1).blk t).view.emb (ix2 r k : S512x512.Idx)) = _
  rw [e, V_main_arg1]

theorem iblk4_apply (t : Fin cfg0.N) (r : Fin 512) (k : Fin 1024) :
    iblk m c 4 t (ix2 r k : S512x1024.Idx) = m ((c : Thread nD τ).loc main_arg3) (ix2 ⟨t.val * 512 + r.val, by have := ptlt t; omega⟩ k : S16384x1024.Idx) := by
  have e : ((cfg0.win 4).blk t).view.emb (ix2 r k : S512x1024.Idx) = (ix2 ⟨t.val * 512 + r.val, by have := ptlt t; omega⟩ k : S16384x1024.Idx) :=
    funext fun b => Fin.ext (by
      match b with
      | ⟨0, _⟩ => show win0_4.index t (0 : Fin 2) * 512 + 1 * r.val = t.val * 512 + r.val; rw [(place4 t).1]; omega
      | ⟨1, _⟩ => show win0_4.index t (1 : Fin 2) * 1024 + 1 * k.val = k.val; rw [(place4 t).2]; omega)
  show V m c main_arg3 (((cfg0.win 4).blk t).view.emb (ix2 r k : S512x1024.Idx)) = _
  rw [e, V_main_arg3]

theorem iblk2_apply (t : Fin cfg0.N) (k : Fin 2048) (j : Fin 1024) :
    iblk m c 2 t (ix2 k j : S2048x1024.Idx) = m ((c : Thread nD τ).loc main_arg2) (ix2 ⟨k.val, by omega⟩ j : S2560x1024.Idx) := by
  have e : ((cfg0.win 2).blk t).view.emb (ix2 k j : S2048x1024.Idx) = (ix2 k j : S2048x1024.Idx) :=
    funext fun b => Fin.ext (by
      match b with
      | ⟨0, _⟩ => show win0_2.index t (0 : Fin 2) * 2048 + 1 * k.val = k.val; rw [(place2 t).1]; omega
      | ⟨1, _⟩ => show win0_2.index t (1 : Fin 2) * 1024 + 1 * j.val = j.val; rw [(place2 t).2]; omega)
  have hV : (V m c main_v1 : FVec Ideal S2048x1024 .bf16) = (extractStridedSlice S2048x1024 ![0, 0] (truncf .bf16 (m ((c : Thread nD τ).loc main_arg2) : FVec Ideal S2560x1024 .f32) bitsLt_bf16_f32 : FVec Ideal S2560x1024 .bf16) slices_S2560x1024_S2048x1024_0_0 : FVec Ideal S2048x1024 .bf16) := rfl
  show V m c main_v1 (((cfg0.win 2).blk t).view.emb (ix2 k j : S2048x1024.Idx)) = _
  rw [e, hV]
  refine (extractStridedSlice_apply _ _ _ _ (ix2 ⟨k.val, by omega⟩ j) fun b => ?_).trans rfl
  match b with
  | ⟨0, _⟩ => show k.val = 0 + k.val; omega
  | ⟨1, _⟩ => exact (Nat.zero_add _).symm

theorem iblk3_apply (t : Fin cfg0.N) (k : Fin 512) (j : Fin 1024) :
    iblk m c 3 t (ix2 k j : S512x1024.Idx) = m ((c : Thread nD τ).loc main_arg2) (ix2 ⟨2048 + k.val, by omega⟩ j : S2560x1024.Idx) := by
  have e : ((cfg0.win 3).blk t).view.emb (ix2 k j : S512x1024.Idx) = (ix2 k j : S512x1024.Idx) :=
    funext fun b => Fin.ext (by
      match b with
      | ⟨0, _⟩ => show win0_3.index t (0 : Fin 2) * 512 + 1 * k.val = k.val; rw [(place3 t).1]; omega
      | ⟨1, _⟩ => show win0_3.index t (1 : Fin 2) * 1024 + 1 * j.val = j.val; rw [(place3 t).2]; omega)
  have hV : (V m c main_v2 : FVec Ideal S512x1024 .bf16) = (extractStridedSlice S512x1024 ![2048, 0] (truncf .bf16 (m ((c : Thread nD τ).loc main_arg2) : FVec Ideal S2560x1024 .f32) bitsLt_bf16_f32 : FVec Ideal S2560x1024 .bf16) slices_S2560x1024_S512x1024_2048_0 : FVec Ideal S512x1024 .bf16) := rfl
  show V m c main_v2 (((cfg0.win 3).blk t).view.emb (ix2 k j : S512x1024.Idx)) = _
  rw [e, hV]
  refine (extractStridedSlice_apply _ _ _ _ (ix2 ⟨2048 + k.val, by omega⟩ j) fun b => ?_).trans rfl
  match b with
  | ⟨0, _⟩ => show 2048 + k.val = 2048 + k.val; omega
  | ⟨1, _⟩ => exact (Nat.zero_add _).symm

/-- The result array as a function of the arguments. -/
def res : Buf (Elt Ideal) ((c : Thread nD τ).loc main_v4) := fun (i : S16384x1024.Idx) => two (m ((c : Thread nD τ).loc main_arg3) (ix2 (i 0) (i 1))) (fun k => m ((c : Thread nD τ).loc main_arg0) (ix2 (i 0) k)) (fun k => m ((c : Thread nD τ).loc main_arg1) (ix2 (i 0) k)) (fun k => m ((c : Thread nD τ).loc main_arg2) (ix2 k (i 1)))

theorem flushed_eq (t : Fin cfg0.N) :
    (dats m 0 c).flushed 6 t = ((cfg0.win 6).blk t).view.read (Elt Ideal) (res m c) := by
  rw [flushed6, out_eq]
  refine funext fun (y : S512x1024.Idx) => ?_
  have hy0 : (y 0).val < 512 := (y 0).isLt
  have e : ((cfg0.win 6).blk t).view.emb y = (ix2 ⟨t.val * 512 + (y 0).val, by have := ptlt t; omega⟩ (y 1) : S16384x1024.Idx) := funext fun b => Fin.ext (by
    match b with
    | ⟨0, _⟩ => show win0_6.index t (0 : Fin 2) * 512 + 1 * (y 0).val = t.val * 512 + (y 0).val; rw [(place6 t).1]; omega
    | ⟨1, _⟩ => show win0_6.index t (1 : Fin 2) * 1024 + 1 * (y 1).val = (y 1).val; rw [(place6 t).2]; omega)
  show k0_pay1 (iblk m c 4 t) (iblk m c 0 t) (iblk m c 2 t) (iblk m c 1 t) (iblk m c 3 t) y = res m c (((cfg0.win 6).blk t).view.emb y)
  rw [e]
  refine (congrArg (k0_pay1 (iblk m c 4 t) (iblk m c 0 t) (iblk m c 2 t) (iblk m c 1 t) (iblk m c 3 t)) (eq_ix2 y)).trans ?_
  refine (pay_apply (iblk m c 4 t) (iblk m c 0 t) (iblk m c 2 t) (iblk m c 1 t) (iblk m c 3 t) (y 0) (y 1)).trans ?_
  exact congrArg₂ (fun p q : EReal => p + q) (iblk4_apply m c t (y 0) (y 1)) (congrArg₂ (fun p q : EReal => p + q)
    (Finset.sum_congr rfl fun k _ => congrArg₂ (fun p q : EReal => p * q) (iblk0_apply m c t (y 0) k) (iblk2_apply m c t k (y 1)))
    (Finset.sum_congr rfl fun k _ => congrArg₂ (fun p q : EReal => p * q) (iblk1_apply m c t (y 0) k) (iblk3_apply m c t k (y 1))))

theorem covered (i : S16384x1024.Idx) : ∃ t : Fin cfg0.N, (cfg0.win 6).flush t = true ∧ i ∈ ((cfg0.win 6).blk t).view.set := by
  have h0 : (i 0).val < 16384 := (i 0).isLt
  have h1 : (i 1).val < 1024 := (i 1).isLt
  obtain ⟨t, ht⟩ : ∃ t : Fin cfg0.N, t.val = (i 0).val / 512 := ⟨⟨(i 0).val / 512, lt_of_lt_of_eq (by omega : (i 0).val / 512 < 32) N_0.symm⟩, rfl⟩
  refine ⟨t, flushes t, ?_⟩
  show i ∈ ((View.whole main_v4).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; rw [(place6 t).1]; omega
  | ⟨1, _⟩ => show win0_6.index t (1 : Fin 2) * 1024 ≤ (i 1).val ∧ (i 1).val < win0_6.index t (1 : Fin 2) * 1024 + 1024; rw [(place6 t).2]; omega

/-- The result array ends holding it. -/
theorem final : (dats m 0 c).arrAt 6 cfg0.N = res m c :=
  (dats m 0 c).arrAt_eq_of_cover 6 _ (fun t _ => flushed_eq m c t) fun (i : S16384x1024.Idx) => covered i

end Cert.OutCIdeal.Proj

namespace Cert.OutCRefIdeal.Proj

open Idealize.ShloMosaic Idealize.ShloMosaic.ValueIdx Idealize.ShloMosaic.TcCoe
open Cert.OutCRefIdeal Cert.OutCRefIdeal.Gen Cert.OutCRefIdeal.Read Cert.Rows

variable (x0 : (⟨S16384x2048, .bf16⟩ : BufTy).Contents (Elt Ideal)) (x1 : (⟨S16384x512, .bf16⟩ : BufTy).Contents (Elt Ideal))
  (x2 : (⟨S2560x1024, .f32⟩ : BufTy).Contents (Elt Ideal)) (x3 : (⟨S16384x1024, .f32⟩ : BufTy).Contents (Elt Ideal))

theorem part0 (i : Fin 16384) (k : Fin 2048) : val_main_v0 (F := Ideal) x0 x1 (ix2 i ⟨k.val, by omega⟩ : S16384x2560.Idx) = x0 (ix2 i k) := by
  unfold val_main_v0
  exact concatenate_apply_piece (t := S16384x2560) 1 _ _ _ 0 (by simp) S16384x2048 _ rfl rfl 0 (by rfl) (ix2 i k) (fun b hb => by
    match b with
    | ⟨0, _⟩ => rfl
    | ⟨1, _⟩ => exact absurd rfl hb) (Nat.zero_add _)

theorem part1 (i : Fin 16384) (k : Fin 512) : val_main_v0 (F := Ideal) x0 x1 (ix2 i ⟨2048 + k.val, by omega⟩ : S16384x2560.Idx) = x1 (ix2 i k) := by
  unfold val_main_v0
  exact concatenate_apply_piece (t := S16384x2560) 1 _ _ _ 1 (by simp) S16384x512 _ rfl rfl 2048 (by rfl) (ix2 i k) (fun b hb => by
    match b with
    | ⟨0, _⟩ => rfl
    | ⟨1, _⟩ => exact absurd rfl hb) rfl

theorem sum_at (i : Fin 16384) (j : Fin 1024) :
    val_main_v3 (F := Ideal) x0 x1 x2 x3 (ix2 i j)
      = two (x3 (ix2 i j)) (fun k => x0 (ix2 i k)) (fun k => x1 (ix2 i k)) (fun k => x2 (ix2 k j)) := by
  have hd : val_main_v2 (F := Ideal) x0 x1 x2 (ix2 i j) = ∑ k : Fin 2560, (val_main_v0 (F := Ideal) x0 x1 (ix2 i k : S16384x2560.Idx) : EReal) * x2 (ix2 k j) := by
    rw [val_main_v2_apply]
    refine Finset.sum_congr rfl fun k _ => ?_
    have el : lidx_main_v2 (ix2 i j) k = ix2 i k := eq_ix2 _
    have er : ridx_main_v2 (ix2 i j) k = ix2 k j := eq_ix2 _
    rw [el, er]
    rfl
  rw [val_main_v3_apply, hd, sum_cut]
  exact congrArg (fun q : EReal => x3 (ix2 i j) + q) (congrArg₂ (fun p q : EReal => p + q)
    (Finset.sum_congr rfl fun k _ => congrArg (fun q : EReal => q * _) (part0 x0 x1 i k))
    (Finset.sum_congr rfl fun k _ => congrArg (fun q : EReal => q * _) (part1 x0 x1 i k)))

theorem val_eq : val_main_v3 (F := Ideal) x0 x1 x2 x3 = fun (i : S16384x1024.Idx) =>
    two (x3 (ix2 (i 0) (i 1))) (fun k => x0 (ix2 (i 0) k)) (fun k => x1 (ix2 (i 0) k)) (fun k => x2 (ix2 k (i 1))) :=
  funext fun (i : S16384x1024.Idx) => (congrArg _ (eq_ix2 i)).trans (sum_at x0 x1 x2 x3 (i 0) (i 1))

end Cert.OutCRefIdeal.Proj

end
-- ==== Proof.Proj.OutF.lean ====
/-
The last projection of the last layer, with the layer's input added and the rows scaled: the kernel's result array and the reference's.
-/
module

public import proofs.«01_k».proof.Proof.Proj.Sums
public import proofs.«01_k».proof.Proof.Gen.OutFIdeal.Value
public import proofs.«01_k».proof.Proof.Gen.OutFRefIdeal.Read

@[expose] public section

set_option maxRecDepth 16384
set_option maxHeartbeats 1000000

noncomputable section

namespace Cert.OutFIdeal.Proj

open Idealize.ShloMosaic Idealize.ShloMosaic.ValueIdx Idealize.ShloMosaic.TcCoe
open Cert.OutFIdeal Cert.OutFIdeal.Gen Cert.OutFIdeal.Value Cert.Rows
open Cert.KernelIdeal.Attn (rowMajor2 matmul_plain rsqrt_apply)

variable (m : (ℓ : Loc nD τ sig) → Buf (Elt Ideal) ℓ) (c : Dev nD)

/-- The entry plus the products, as the body adds them. -/
theorem acc_apply (x : FVec Ideal S512x1024 .f32) (a : FVec Ideal S512x2048 .bf16) (wa : FVec Ideal S2048x1024 .bf16) (b : FVec Ideal S512x512 .bf16)
    (wb : FVec Ideal S512x1024 .bf16) (r : Fin 512) (j : Fin 1024) :
    (addf (addf x (matmul dot_S512x2048_S2048x1024_S512x1024_1_0_0_1_n_n none a wa (constant S512x1024 .f32 0x00000000#32)))
    (matmul dot_S512x512_S512x1024_S512x1024_1_0_0_1_n_n none b wb (constant S512x1024 .f32 0x00000000#32))) (ix2 r j)
      = x (ix2 r j) + ((∑ k : Fin 2048, a (ix2 r k) * wa (ix2 k j)) + ∑ k : Fin 512, b (ix2 r k) * wb (ix2 k j)) := by
  refine Eq.trans (congrArg₂ (fun p q : EReal => p + q) (congrArg (fun q : EReal => x (ix2 r j) + q)
    (matmul_plain dot_S512x2048_S2048x1024_S512x1024_1_0_0_1_n_n rfl rfl (fun _ _ _ => ⟨rfl, rfl⟩) (fun _ _ _ => ⟨rfl, rfl⟩) a wa r j))
    (matmul_plain dot_S512x512_S512x1024_S512x1024_1_0_0_1_n_n rfl rfl (fun _ _ _ => ⟨rfl, rfl⟩) (fun _ _ _ => ⟨rfl, rfl⟩) b wb r j)) ?_
  simp only [add_assoc]

/-- The block a point stores, an entry at a time: the sums' rows, scaled. -/
theorem pay_apply (x : Vec Ideal S512x1024 .f32) (a : Vec Ideal S512x2048 .bf16) (wa : Vec Ideal S2048x1024 .bf16) (b : Vec Ideal S512x512 .bf16)
    (wb : Vec Ideal S512x1024 .bf16) (g : Vec Ideal S1x1024 .f32) (r : Fin 512) (j : Fin 1024) :
    k0_pay1 x a wa b wb g (ix2 r j) = nrow (fun j => x (ix2 r j) + ((∑ k : Fin 2048, a (ix2 r k) * wa (ix2 k j)) + ∑ k : Fin 512, b (ix2 r k) * wb (ix2 k j))) (fun j => g (ix2 0 j)) j := by
  unfold k0_pay1
  dsimp only
  rw [shapeCast_self, shapeCast_self, shapeCast_self]
  generalize hs : (addf (addf x (matmul (F := Ideal) (φ₁ := .bf16) (φ₂ := .bf16) dot_S512x2048_S2048x1024_S512x1024_1_0_0_1_n_n none a wa (constant S512x1024 .f32 0x00000000#32)))
    (matmul (F := Ideal) (φ₁ := .bf16) (φ₂ := .bf16) dot_S512x512_S512x1024_S512x1024_1_0_0_1_n_n none b wb (constant S512x1024 .f32 0x00000000#32))) = s
  have hr : (fun j => s (ix2 r j)) = fun j => x (ix2 r j) + ((∑ k : Fin 2048, a (ix2 r k) * wa (ix2 k j)) + ∑ k : Fin 512, b (ix2 r k) * wb (ix2 k j)) := by
    subst hs
    exact funext fun j => acc_apply x a wa b wb r j
  rw [← hr, mulf_apply, mulf_apply,
    broadcastTo_apply _ _ _ (ix2 r 0) (fun a => by
      match a with
      | ⟨0, _⟩ => rfl
      | ⟨1, _⟩ => rfl),
    broadcastTo_apply _ _ _ (ix2 0 j) (fun a => by
      match a with
      | ⟨0, _⟩ => rfl
      | ⟨1, _⟩ => rfl),
    rsqrt_apply, addf_apply, divf_apply, broadcast_apply, broadcast_apply,
    shapeCast_apply _ _ _ (ix1 r) (by rw [rowMajor2, Shape.rowMajor_val_one]; simp)]
  exact congrArg (fun q : EReal => s (ix2 r j) * Ideal.rsqrt (Ideal.div q (Ideal.ofBits .f32 0x44800000#32) + Ideal.ofBits .f32 0x358637BD#32) * g (ix2 0 j))
    (rowsum (mulf s s) _ _ _ r)

theorem out_eq
    (x0 : Vec Ideal S512x2048 .bf16) (x1 : Vec Ideal S512x512 .bf16) (x2 : Vec Ideal S2048x1024 .bf16)
    (x3 : Vec Ideal S512x1024 .bf16) (x4 : Vec Ideal S512x1024 .f32) (x5 : Vec Ideal S1x1024 .f32) :
    out0_6 x0 x1 x2 x3 x4 x5 = k0_pay1 x4 x0 x2 x1 x3 x5 := by
  unfold out0_6
  rw [View.canon_unit_zero off0]
  simp only [View.ld_unit_zero (S := S512x1024) off0, View.ld_unit_zero (S := S512x2048) off0, View.ld_unit_zero (S := S2048x1024) off0,
    View.ld_unit_zero (S := S512x512) off0, View.ld_unit_zero (S := S1x1024) off0]

theorem place0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

theorem place1 (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t

theorem place4 (t : Fin cfg0.N) : win0_4.index t (0 : Fin 2) = t.val ∧ win0_4.index t (1 : Fin 2) = 0 :=
  (by decide +kernel : ∀ t : Fin grid0.N, win0_4.index t (0 : Fin 2) = t.val ∧ win0_4.index t (1 : Fin 2) = 0) t

theorem place6 (t : Fin cfg0.N) : win0_6.index t (0 : Fin 2) = t.val ∧ win0_6.index t (1 : Fin 2) = 0 :=
  (by decide +kernel : ∀ t : Fin grid0.N, win0_6.index t (0 : Fin 2) = t.val ∧ win0_6.index t (1 : Fin 2) = 0) t

theorem place2 (t : Fin cfg0.N) : win0_2.index t (0 : Fin 2) = 0 ∧ win0_2.index t (1 : Fin 2) = 0 :=
  (by decide +kernel : ∀ t : Fin grid0.N, win0_2.index t (0 : Fin 2) = 0 ∧ win0_2.index t (1 : Fin 2) = 0) t

theorem place3 (t : Fin cfg0.N) : win0_3.index t (0 : Fin 2) = 0 ∧ win0_3.index t (1 : Fin 2) = 0 :=
  (by decide +kernel : ∀ t : Fin grid0.N, win0_3.index t (0 : Fin 2) = 0 ∧ win0_3.index t (1 : Fin 2) = 0) t

theorem place5 (t : Fin cfg0.N) : win0_5.index t (0 : Fin 2) = 0 ∧ win0_5.index t (1 : Fin 2) = 0 :=
  (by decide +kernel : ∀ t : Fin grid0.N, win0_5.index t (0 : Fin 2) = 0 ∧ win0_5.index t (1 : Fin 2) = 0) t

theorem flushes (t : Fin cfg0.N) : (cfg0.win 6).flush t = true :=
  (by decide +kernel : ∀ t : Fin grid0.N, win0_6.flush t = true) t

theorem ptlt (t : Fin cfg0.N) : t.val < 32 := lt_of_lt_of_eq t.isLt N_0

theorem iblk0_apply (t : Fin cfg0.N) (r : Fin 512) (k : Fin 2048) :
    iblk m c 0 t (ix2 r k : S512x2048.Idx) = m ((c : Thread nD τ).loc main_arg0) (ix2 ⟨t.val * 512 + r.val, by have := ptlt t; omega⟩ k : S16384x2048.Idx) := by
  have e : ((cfg0.win 0).blk t).view.emb (ix2 r k : S512x2048.Idx) = (ix2 ⟨t.val * 512 + r.val, by have := ptlt t; omega⟩ k : S16384x2048.Idx) :=
    funext fun b => Fin.ext (by
      match b with
      | ⟨0, _⟩ => show win0_0.index t (0 : Fin 2) * 512 + 1 * r.val = t.val * 512 + r.val; rw [(place0 t).1]; omega
      | ⟨1, _⟩ => show win0_0.index t (1 : Fin 2) * 2048 + 1 * k.val = k.val; rw [(place0 t).2]; omega)
  show V m c main_arg0 (((cfg0.win 0).blk t).view.emb (ix2 r k : S512x2048.Idx)) = _
  rw [e, V_main_arg0]

theorem iblk1_apply (t : Fin cfg0.N) (r : Fin 512) (k : Fin 512) :
    iblk m c 1 t (ix2 r k : S512x512.Idx) = m ((c : Thread nD τ).loc main_arg1) (ix2 ⟨t.val * 512 + r.val, by have := ptlt t; omega⟩ k : S16384x512.Idx) := by
  have e : ((cfg0.win 1).blk t).view.emb (ix2 r k : S512x512.Idx) = (ix2 ⟨t.val * 512 + r.val, by have := ptlt t; omega⟩ k : S16384x512.Idx) :=
    funext fun b => Fin.ext (by
      match b with
      | ⟨0, _⟩ => show win0_1.index t (0 : Fin 2) * 512 + 1 * r.val = t.val * 512 + r.val; rw [(place1 t).1]; omega
      | ⟨1, _⟩ => show win0_1.index t (1 : Fin 2) * 512 + 1 * k.val = k.val; rw [(place1 t).2]; omega)
  show V m c main_arg1 (((cfg0.win 1).blk t).view.emb (ix2 r k : S512x512.Idx)) = _
  rw [e, V_main_arg1]

theorem iblk4_apply (t : Fin cfg0.N) (r : Fin 512) (k : Fin 1024) :
    iblk m c 4 t (ix2 r k : S512x1024.Idx) = m ((c : Thread nD τ).loc main_arg3) (ix2 ⟨t.val * 512 + r.val, by have := ptlt t; omega⟩ k : S16384x1024.Idx) := by
  have e : ((cfg0.win 4).blk t).view.emb (ix2 r k : S512x1024.Idx) = (ix2 ⟨t.val * 512 + r.val, by have := ptlt t; omega⟩ k : S16384x1024.Idx) :=
    funext fun b => Fin.ext (by
      match b with
      | ⟨0, _⟩ => show win0_4.index t (0 : Fin 2) * 512 + 1 * r.val = t.val * 512 + r.val; rw [(place4 t).1]; omega
      | ⟨1, _⟩ => show win0_4.index t (1 : Fin 2) * 1024 + 1 * k.val = k.val; rw [(place4 t).2]; omega)
  show V m c main_arg3 (((cfg0.win 4).blk t).view.emb (ix2 r k : S512x1024.Idx)) = _
  rw [e, V_main_arg3]

theorem iblk2_apply (t : Fin cfg0.N) (k : Fin 2048) (j : Fin 1024) :
    iblk m c 2 t (ix2 k j : S2048x1024.Idx) = m ((c : Thread nD τ).loc main_arg2) (ix2 ⟨k.val, by omega⟩ j : S2560x1024.Idx) := by
  have e : ((cfg0.win 2).blk t).view.emb (ix2 k j : S2048x1024.Idx) = (ix2 k j : S2048x1024.Idx) :=
    funext fun b => Fin.ext (by
      match b with
      | ⟨0, _⟩ => show win0_2.index t (0 : Fin 2) * 2048 + 1 * k.val = k.val; rw [(place2 t).1]; omega
      | ⟨1, _⟩ => show win0_2.index t (1 : Fin 2) * 1024 + 1 * j.val = j.val; rw [(place2 t).2]; omega)
  have hV : (V m c main_v1 : FVec Ideal S2048x1024 .bf16) = (extractStridedSlice S2048x1024 ![0, 0] (truncf .bf16 (m ((c : Thread nD τ).loc main_arg2) : FVec Ideal S2560x1024 .f32) bitsLt_bf16_f32 : FVec Ideal S2560x1024 .bf16) slices_S2560x1024_S2048x1024_0_0 : FVec Ideal S2048x1024 .bf16) := rfl
  show V m c main_v1 (((cfg0.win 2).blk t).view.emb (ix2 k j : S2048x1024.Idx)) = _
  rw [e, hV]
  refine (extractStridedSlice_apply _ _ _ _ (ix2 ⟨k.val, by omega⟩ j) fun b => ?_).trans rfl
  match b with
  | ⟨0, _⟩ => show k.val = 0 + k.val; omega
  | ⟨1, _⟩ => exact (Nat.zero_add _).symm

theorem iblk3_apply (t : Fin cfg0.N) (k : Fin 512) (j : Fin 1024) :
    iblk m c 3 t (ix2 k j : S512x1024.Idx) = m ((c : Thread nD τ).loc main_arg2) (ix2 ⟨2048 + k.val, by omega⟩ j : S2560x1024.Idx) := by
  have e : ((cfg0.win 3).blk t).view.emb (ix2 k j : S512x1024.Idx) = (ix2 k j : S512x1024.Idx) :=
    funext fun b => Fin.ext (by
      match b with
      | ⟨0, _⟩ => show win0_3.index t (0 : Fin 2) * 512 + 1 * k.val = k.val; rw [(place3 t).1]; omega
      | ⟨1, _⟩ => show win0_3.index t (1 : Fin 2) * 1024 + 1 * j.val = j.val; rw [(place3 t).2]; omega)
  have hV : (V m c main_v2 : FVec Ideal S512x1024 .bf16) = (extractStridedSlice S512x1024 ![2048, 0] (truncf .bf16 (m ((c : Thread nD τ).loc main_arg2) : FVec Ideal S2560x1024 .f32) bitsLt_bf16_f32 : FVec Ideal S2560x1024 .bf16) slices_S2560x1024_S512x1024_2048_0 : FVec Ideal S512x1024 .bf16) := rfl
  show V m c main_v2 (((cfg0.win 3).blk t).view.emb (ix2 k j : S512x1024.Idx)) = _
  rw [e, hV]
  refine (extractStridedSlice_apply _ _ _ _ (ix2 ⟨2048 + k.val, by omega⟩ j) fun b => ?_).trans rfl
  match b with
  | ⟨0, _⟩ => show 2048 + k.val = 2048 + k.val; omega
  | ⟨1, _⟩ => exact (Nat.zero_add _).symm

theorem V_g : V m c main_v3 = shapeCast S1x1024 (m ((c : Thread nD τ).loc main_arg4)) shapeCasts_S1024_S1x1024 := rfl

theorem iblk5_apply (t : Fin cfg0.N) (k : Fin 1024) : iblk m c 5 t (ix2 0 k : S1x1024.Idx) = m ((c : Thread nD τ).loc main_arg4) (ix1 k : S1024.Idx) := by
  have e : ((cfg0.win 5).blk t).view.emb (ix2 0 k : S1x1024.Idx) = (ix2 0 k : S1x1024.Idx) := funext fun b => Fin.ext (by
    match b with
    | ⟨0, _⟩ => show win0_5.index t (0 : Fin 2) * 1 + 1 * 0 = 0; rw [(place5 t).1]
    | ⟨1, _⟩ => show win0_5.index t (1 : Fin 2) * 1024 + 1 * k.val = k.val; rw [(place5 t).2]; omega)
  show V m c main_v3 (((cfg0.win 5).blk t).view.emb (ix2 0 k : S1x1024.Idx)) = _
  rw [e, V_g]
  have e3 : (S1024.rowMajor (ix1 k : S1024.Idx)).val = (S1x1024.rowMajor (ix2 0 k : S1x1024.Idx)).val := by
    rw [rowMajor2, Shape.rowMajor_val_one]; simp
  exact shapeCast_apply _ _ _ (ix1 k : S1024.Idx) e3

/-- The result array as a function of the arguments. -/
def res : Buf (Elt Ideal) ((c : Thread nD τ).loc main_v4) := fun (i : S16384x1024.Idx) => nrow (fun j => two (m ((c : Thread nD τ).loc main_arg3) (ix2 (i 0) j)) (fun k => m ((c : Thread nD τ).loc main_arg0) (ix2 (i 0) k)) (fun k => m ((c : Thread nD τ).loc main_arg1) (ix2 (i 0) k)) (fun k => m ((c : Thread nD τ).loc main_arg2) (ix2 k j))) (fun j => m ((c : Thread nD τ).loc main_arg4) (ix1 j)) (i 1)

theorem flushed_eq (t : Fin cfg0.N) :
    (dats m 0 c).flushed 6 t = ((cfg0.win 6).blk t).view.read (Elt Ideal) (res m c) := by
  rw [flushed6, out_eq]
  refine funext fun (y : S512x1024.Idx) => ?_
  have hy0 : (y 0).val < 512 := (y 0).isLt
  have e : ((cfg0.win 6).blk t).view.emb y = (ix2 ⟨t.val * 512 + (y 0).val, by have := ptlt t; omega⟩ (y 1) : S16384x1024.Idx) := funext fun b => Fin.ext (by
    match b with
    | ⟨0, _⟩ => show win0_6.index t (0 : Fin 2) * 512 + 1 * (y 0).val = t.val * 512 + (y 0).val; rw [(place6 t).1]; omega
    | ⟨1, _⟩ => show win0_6.index t (1 : Fin 2) * 1024 + 1 * (y 1).val = (y 1).val; rw [(place6 t).2]; omega)
  show k0_pay1 (iblk m c 4 t) (iblk m c 0 t) (iblk m c 2 t) (iblk m c 1 t) (iblk m c 3 t) (iblk m c 5 t) y = res m c (((cfg0.win 6).blk t).view.emb y)
  rw [e]
  refine (congrArg (k0_pay1 (iblk m c 4 t) (iblk m c 0 t) (iblk m c 2 t) (iblk m c 1 t) (iblk m c 3 t) (iblk m c 5 t)) (eq_ix2 y)).trans ?_
  refine (pay_apply (iblk m c 4 t) (iblk m c 0 t) (iblk m c 2 t) (iblk m c 1 t) (iblk m c 3 t) (iblk m c 5 t) (y 0) (y 1)).trans ?_
  exact congrArg₂ (fun p q => nrow p q (y 1)) (funext fun j => congrArg₂ (fun p q : EReal => p + q) (iblk4_apply m c t (y 0) j) (congrArg₂ (fun p q : EReal => p + q)
    (Finset.sum_congr rfl fun k _ => congrArg₂ (fun p q : EReal => p * q) (iblk0_apply m c t (y 0) k) (iblk2_apply m c t k j))
    (Finset.sum_congr rfl fun k _ => congrArg₂ (fun p q : EReal => p * q) (iblk1_apply m c t (y 0) k) (iblk3_apply m c t k j)))) (funext fun j => iblk5_apply m c t j)

theorem covered (i : S16384x1024.Idx) : ∃ t : Fin cfg0.N, (cfg0.win 6).flush t = true ∧ i ∈ ((cfg0.win 6).blk t).view.set := by
  have h0 : (i 0).val < 16384 := (i 0).isLt
  have h1 : (i 1).val < 1024 := (i 1).isLt
  obtain ⟨t, ht⟩ : ∃ t : Fin cfg0.N, t.val = (i 0).val / 512 := ⟨⟨(i 0).val / 512, lt_of_lt_of_eq (by omega : (i 0).val / 512 < 32) N_0.symm⟩, rfl⟩
  refine ⟨t, flushes t, ?_⟩
  show i ∈ ((View.whole main_v4).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; rw [(place6 t).1]; omega
  | ⟨1, _⟩ => show win0_6.index t (1 : Fin 2) * 1024 ≤ (i 1).val ∧ (i 1).val < win0_6.index t (1 : Fin 2) * 1024 + 1024; rw [(place6 t).2]; omega

/-- The result array ends holding it. -/
theorem final : (dats m 0 c).arrAt 6 cfg0.N = res m c :=
  (dats m 0 c).arrAt_eq_of_cover 6 _ (fun t _ => flushed_eq m c t) fun (i : S16384x1024.Idx) => covered i

end Cert.OutFIdeal.Proj

namespace Cert.OutFRefIdeal.Proj

open Idealize.ShloMosaic Idealize.ShloMosaic.ValueIdx Idealize.ShloMosaic.TcCoe
open Cert.OutFRefIdeal Cert.OutFRefIdeal.Gen Cert.OutFRefIdeal.Read Cert.Rows

variable (x0 : (⟨S16384x2048, .bf16⟩ : BufTy).Contents (Elt Ideal)) (x1 : (⟨S16384x512, .bf16⟩ : BufTy).Contents (Elt Ideal))
  (x2 : (⟨S2560x1024, .f32⟩ : BufTy).Contents (Elt Ideal)) (x3 : (⟨S16384x1024, .f32⟩ : BufTy).Contents (Elt Ideal)) (x4 : (⟨S1024, .f32⟩ : BufTy).Contents (Elt Ideal))

theorem part0 (i : Fin 16384) (k : Fin 2048) : val_main_v0 (F := Ideal) x0 x1 (ix2 i ⟨k.val, by omega⟩ : S16384x2560.Idx) = x0 (ix2 i k) := by
  unfold val_main_v0
  exact concatenate_apply_piece (t := S16384x2560) 1 _ _ _ 0 (by simp) S16384x2048 _ rfl rfl 0 (by rfl) (ix2 i k) (fun b hb => by
    match b with
    | ⟨0, _⟩ => rfl
    | ⟨1, _⟩ => exact absurd rfl hb) (Nat.zero_add _)

theorem part1 (i : Fin 16384) (k : Fin 512) : val_main_v0 (F := Ideal) x0 x1 (ix2 i ⟨2048 + k.val, by omega⟩ : S16384x2560.Idx) = x1 (ix2 i k) := by
  unfold val_main_v0
  exact concatenate_apply_piece (t := S16384x2560) 1 _ _ _ 1 (by simp) S16384x512 _ rfl rfl 2048 (by rfl) (ix2 i k) (fun b hb => by
    match b with
    | ⟨0, _⟩ => rfl
    | ⟨1, _⟩ => exact absurd rfl hb) rfl

theorem sum_at (i : Fin 16384) (j : Fin 1024) :
    val_main_v3 (F := Ideal) x0 x1 x2 x3 (ix2 i j)
      = two (x3 (ix2 i j)) (fun k => x0 (ix2 i k)) (fun k => x1 (ix2 i k)) (fun k => x2 (ix2 k j)) := by
  have hd : val_main_v2 (F := Ideal) x0 x1 x2 (ix2 i j) = ∑ k : Fin 2560, (val_main_v0 (F := Ideal) x0 x1 (ix2 i k : S16384x2560.Idx) : EReal) * x2 (ix2 k j) := by
    rw [val_main_v2_apply]
    refine Finset.sum_congr rfl fun k _ => ?_
    have el : lidx_main_v2 (ix2 i j) k = ix2 i k := eq_ix2 _
    have er : ridx_main_v2 (ix2 i j) k = ix2 k j := eq_ix2 _
    rw [el, er]
    rfl
  rw [val_main_v3_apply, hd, sum_cut]
  exact congrArg (fun q : EReal => x3 (ix2 i j) + q) (congrArg₂ (fun p q : EReal => p + q)
    (Finset.sum_congr rfl fun k _ => congrArg (fun q : EReal => q * _) (part0 x0 x1 i k))
    (Finset.sum_congr rfl fun k _ => congrArg (fun q : EReal => q * _) (part1 x0 x1 i k)))

theorem zero_bits : (FloatOps.ofBits (F := Ideal) .f32 0x00000000#32 : EReal) = 0 := Cert.KernelIdeal.Attn.zero_f32

theorem res_at (i : Fin 16384) (k : Fin 1024) :
    val_main_v16 (F := Ideal) x0 x1 x2 x3 x4 (ix2 i k)
      = nrow (fun j => two (x3 (ix2 i j)) (fun k => x0 (ix2 i k)) (fun k => x1 (ix2 i k)) (fun k => x2 (ix2 k j))) (fun k => x4 (ix1 k)) k := by
  have hr : (fun j => two (x3 (ix2 i j)) (fun k => x0 (ix2 i k)) (fun k => x1 (ix2 i k)) (fun k => x2 (ix2 k j)))
      = fun j => (val_main_v3 (F := Ideal) x0 x1 x2 x3 (ix2 i j) : EReal) := funext fun j => (sum_at x0 x1 x2 x3 i j).symm
  have e1 : idx_main_v6 (idx_main_v12 (ix2 i k)) = ix1 i := eq_ix1 _
  have e2 : idx_main_v14 (idx_main_v15 (ix2 i k)) = ix1 k := eq_ix1 _
  have hs : val_main_v5 (F := Ideal) x0 x1 x2 x3 (ix1 i)
      = ∑ k : Fin 1024, (val_main_v3 (F := Ideal) x0 x1 x2 x3 (ix2 i k) : EReal) * val_main_v3 (F := Ideal) x0 x1 x2 x3 (ix2 i k) := by
    rw [val_main_v5_apply, val_main_cst_apply]
    refine (congrArg (· + _) zero_bits).trans ((zero_add _).trans ?_)
    refine Finset.sum_congr rfl fun k _ => ?_
    have e : idx_main_v5 (ix1 i) k = ix2 i k := eq_ix2 _
    rw [val_main_v4_apply, e]
    rfl
  rw [hr, val_main_v16_apply, val_main_v13_apply, val_main_v15_apply, val_main_v14_apply, e2, val_main_v12_apply, val_main_v11_apply, val_main_v10_apply,
    val_main_v8_apply, val_main_v6_apply, e1, hs, val_main_v7_apply, val_main_v9_apply, val_main_cst_0_apply, val_main_cst_1_apply]
  rfl

theorem val_eq : val_main_v16 (F := Ideal) x0 x1 x2 x3 x4 = fun (i : S16384x1024.Idx) =>
    nrow (fun j => two (x3 (ix2 (i 0) j)) (fun k => x0 (ix2 (i 0) k)) (fun k => x1 (ix2 (i 0) k)) (fun k => x2 (ix2 k j))) (fun k => x4 (ix1 k)) (i 1) :=
  funext fun (i : S16384x1024.Idx) => (congrArg _ (eq_ix2 i)).trans (res_at x0 x1 x2 x3 x4 (i 0) (i 1))

end Cert.OutFRefIdeal.Proj

end
-- ==== Proof.Proj.SmpA.lean ====
/-
The main projection of the sample's even layers: the kernel's result array and the reference's.
-/
module

public import proofs.«01_k».proof.Proof.Proj.Rows
public import proofs.«01_k».proof.Proof.Gen.SmpAIdeal.Value
public import proofs.«01_k».proof.Proof.Gen.SmpARefIdeal.Read

@[expose] public section

set_option maxRecDepth 16384
set_option maxHeartbeats 1000000

noncomputable section

namespace Cert.SmpAIdeal.Proj

open Idealize.ShloMosaic Idealize.ShloMosaic.ValueIdx Idealize.ShloMosaic.TcCoe
open Cert.SmpAIdeal Cert.SmpAIdeal.Gen Cert.SmpAIdeal.Value Cert.Rows
open Cert.KernelIdeal.Attn (rowMajor2 rowMajor3 matmul_plain rsqrt_apply)

variable (m : (ℓ : Loc nD τ sig) → Buf (Elt Ideal) ℓ) (c : Dev nD)

/-- A block's scaled rows. -/
theorem rows_apply (x : Vec Ideal S128x1024 .f32) (g : Vec Ideal S1x1024 .f32) (r : Fin 128) (k : Fin 1024) :
    k0_pay1 x g (ix2 r k) = nrow (fun k => x (ix2 r k)) (fun k => g (ix2 0 k)) k := by
  unfold k0_pay1
  dsimp only
  rw [shapeCast_self, truncf_apply, mulf_apply, mulf_apply,
    broadcastTo_apply _ _ _ (ix2 r 0) (fun a => by
      match a with
      | ⟨0, _⟩ => rfl
      | ⟨1, _⟩ => rfl),
    broadcastTo_apply _ _ _ (ix2 0 k) (fun a => by
      match a with
      | ⟨0, _⟩ => rfl
      | ⟨1, _⟩ => rfl),
    shapeCast_self, rsqrt_apply, addf_apply, divf_apply, broadcast_apply, broadcast_apply,
    shapeCast_apply _ _ _ (ix1 r) (by rw [rowMajor2, Shape.rowMajor_val_one]; simp)]
  exact congrArg (fun s : EReal => x (ix2 r k) * Ideal.rsqrt (Ideal.div s (Ideal.ofBits .f32 0x44800000#32) + Ideal.ofBits .f32 0x358637BD#32) * g (ix2 0 k))
    (rowsum (mulf x x) _ _ _ r)

/-- A block of scaled rows times a block of columns. -/
theorem prod_apply (h : Vec Ideal S128x1024 .bf16) (w : Vec Ideal S1024x1024 .bf16) (r : Fin 128) (j : Fin 1024) :
    k0_pay2 h w (ix2 r j) = ∑ k : Fin 1024, h (ix2 r k) * w (ix2 k j) := by
  unfold k0_pay2
  rw [shapeCast_self]
  exact matmul_plain dot_S128x1024_S1024x1024_S128x1024_1_0_0_1_n_n rfl rfl (fun _ _ _ => ⟨rfl, rfl⟩) (fun _ _ _ => ⟨rfl, rfl⟩) h w r j

/-! ## The blocks a point reads -/

/-- The rows of the first argument, the gains and the columns of the weights. -/
abbrev xOf (i : Fin 128) (k : Fin 1024) : EReal := m ((c : Thread nD τ).loc main_arg0) (ix2 i k)
abbrev gOf (k : Fin 1024) : EReal := m ((c : Thread nD τ).loc main_arg1) (ix1 k)
abbrev wOf (k : Fin 1024) (j : Fin 6144) : EReal := m ((c : Thread nD τ).loc main_arg2) (ix2 k (colA j))

theorem place (t : Fin cfg0.N) : win0_0.index t (0 : Fin 2) = t.val / 6 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 6
    ∧ win0_3.index t (0 : Fin 2) = t.val / 6 ∧ win0_3.index t (1 : Fin 2) = t.val % 6 :=
  (by decide +kernel : ∀ t : Fin grid0.N, win0_0.index t (0 : Fin 2) = t.val / 6 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 6
    ∧ win0_3.index t (0 : Fin 2) = t.val / 6 ∧ win0_3.index t (1 : Fin 2) = t.val % 6) t

theorem ptlt (t : Fin cfg0.N) : t.val < 6 := lt_of_lt_of_eq t.isLt N_0

theorem iblk0_apply (t : Fin cfg0.N) (r : Fin 128) (k : Fin 1024) :
    iblk m c 0 t (ix2 r k : S128x1024.Idx) = xOf m c ⟨t.val / 6 * 128 + r.val, by have := ptlt t; omega⟩ k := by
  have e : ((cfg0.win 0).blk t).view.emb (ix2 r k : S128x1024.Idx) = (ix2 ⟨t.val / 6 * 128 + r.val, by have := ptlt t; omega⟩ k : S128x1024.Idx) :=
    funext fun b => Fin.ext (by
      match b with
      | ⟨0, _⟩ => show win0_0.index t (0 : Fin 2) * 128 + 1 * r.val = t.val / 6 * 128 + r.val; rw [(place t).1]; omega
      | ⟨1, _⟩ => show win0_0.index t (1 : Fin 2) * 1024 + 1 * k.val = k.val; rw [(place t).2.1]; omega)
  show V m c main_arg0 (((cfg0.win 0).blk t).view.emb (ix2 r k : S128x1024.Idx)) = _
  rw [e, V_main_arg0]

theorem V_g : V m c main_v9 = shapeCast S1x1024 (m ((c : Thread nD τ).loc main_arg1)) shapeCasts_S1024_S1x1024 := rfl

theorem iblk1_apply (t : Fin cfg0.N) (k : Fin 1024) : iblk m c 1 t (ix2 0 k : S1x1024.Idx) = gOf m c k := by
  have e : ((cfg0.win 1).blk t).view.emb (ix2 0 k : S1x1024.Idx) = (ix2 0 k : S1x1024.Idx) := funext fun b => Fin.ext (by
    match b with
    | ⟨0, _⟩ => show win0_1.index t (0 : Fin 2) * 1 + 1 * 0 = 0; rw [(place t).2.2.1]
    | ⟨1, _⟩ => show win0_1.index t (1 : Fin 2) * 1024 + 1 * k.val = k.val; rw [(place t).2.2.2.1]; omega)
  show V m c main_v9 (((cfg0.win 1).blk t).view.emb (ix2 0 k : S1x1024.Idx)) = _
  rw [e, V_g]
  have e3 : (S1024.rowMajor (ix1 k : S1024.Idx)).val = (S1x1024.rowMajor (ix2 0 k : S1x1024.Idx)).val := by
    rw [rowMajor2, Shape.rowMajor_val_one]; simp
  exact shapeCast_apply _ _ _ (ix1 k : S1024.Idx) e3

theorem V_w5 : (V m c main_v5 : FVec Ideal S1024x6144 .bf16) = (truncf .bf16 (concatenate S1024x6144 1
    [⟨S1024x1024, extractStridedSlice S1024x1024 ![0, 0] (m ((c : Thread nD τ).loc main_arg2) : FVec Ideal S1024x7696 .f32) slices_S1024x7696_S1024x1024_0_0⟩,
     ⟨S1024x5120, extractStridedSlice S1024x5120 ![0, 2576] (m ((c : Thread nD τ).loc main_arg2) : FVec Ideal S1024x7696 .f32) slices_S1024x7696_S1024x5120_0_2576⟩]
    concatenates_S1024x1024_S1024x5120_S1024x6144_d1 : FVec Ideal S1024x6144 .f32) bitsLt_bf16_f32 : FVec Ideal S1024x6144 .bf16) := rfl

theorem V_w (k : Fin 1024) (j : Fin 6144) : V m c main_v5 (ix2 k j : S1024x6144.Idx) = wOf m c k j := by
  rw [V_w5, truncf_apply]
  by_cases h : j.val < 1024
  · refine (concatenate_pair_apply_left (t := S1024x6144) (s₁ := S1024x1024) (s₂ := S1024x5120) 1 _ _ _ _ rfl (ix2 k ⟨j.val, h⟩) (fun b => by
      match b with
      | ⟨0, _⟩ => rfl
      | ⟨1, _⟩ => rfl)).trans ?_
    refine extractStridedSlice_apply _ _ _ _ (ix2 k (colA j)) fun b => ?_
    match b with
    | ⟨0, _⟩ => exact (Nat.zero_add _).symm
    | ⟨1, _⟩ => exact (colA_lo j h).trans (Nat.zero_add _).symm
  · refine (concatenate_pair_apply_right (t := S1024x6144) (s₁ := S1024x1024) (s₂ := S1024x5120) 1 _ _ _ _ rfl rfl (ix2 k ⟨j.val - 1024, by omega⟩) (fun b hb => by
      match b with
      | ⟨0, _⟩ => rfl
      | ⟨1, _⟩ => exact absurd rfl hb) (by show j.val - 1024 + 1024 = j.val; omega)).trans ?_
    refine extractStridedSlice_apply _ _ _ _ (ix2 k (colA j)) fun b => ?_
    match b with
    | ⟨0, _⟩ => exact (Nat.zero_add _).symm
    | ⟨1, _⟩ => exact (colA_hi j h).trans (by show j.val + 1552 = 2576 + (j.val - 1024); omega)

theorem iblk2_apply (t : Fin cfg0.N) (k : Fin 1024) (j : Fin 1024) :
    iblk m c 2 t (ix2 k j : S1024x1024.Idx) = wOf m c k ⟨t.val % 6 * 1024 + j.val, by have := ptlt t; omega⟩ := by
  have e : ((cfg0.win 2).blk t).view.emb (ix2 k j : S1024x1024.Idx) = (ix2 k ⟨t.val % 6 * 1024 + j.val, by have := ptlt t; omega⟩ : S1024x6144.Idx) :=
    funext fun b => Fin.ext (by
      match b with
      | ⟨0, _⟩ => show win0_2.index t (0 : Fin 2) * 1024 + 1 * k.val = k.val; rw [(place t).2.2.2.2.1]; omega
      | ⟨1, _⟩ => show win0_2.index t (1 : Fin 2) * 1024 + 1 * j.val = t.val % 6 * 1024 + j.val; rw [(place t).2.2.2.2.2.1]; omega)
  show V m c main_v5 (((cfg0.win 2).blk t).view.emb (ix2 k j : S1024x1024.Idx)) = _
  rw [e]
  exact V_w m c k _

/-- A point that begins a block of rows scales them, and keeps them for the points after it. -/
theorem out_first (i : grid0.Coords) (a2 : Memref sig .tc .vmem S128x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S128x1024 .f32) (h5 : a5.IsWhole)
    (a6 : Memref sig .tc .vmem S128x1024 .bf16) (h6 : a6.IsWhole) (hc : cond0_0 i)
    (x : Vec Ideal S128x1024 .f32) (g : Vec Ideal S1x1024 .f32) (w : Vec Ideal S1024x1024 .bf16) :
    out0_A_3 c i a2 h2 a3 h3 a4 h4 a5 h5 a6 h6 hc x g w = k0_pay2 (k0_pay1 x g) w := by
  unfold out0_A_3
  rw [View.read_writes_junk_eq_canon]
  unfold kernelRun0_A
  dsimp only
  sl_unfold_words
  rw [View.canon_unit_zero off0, View.readCov_unit_zero (S := S128x1024) _ off0]
  simp only [View.readAt_eq_ld, h2.read_unread, h3.read_unread, h4.read_unread, View.ld_unit_zero (S := S128x1024) off0,
    View.ld_unit_zero (S := S1x1024) off0, View.ld_unit_zero (S := S1024x1024) off0]

theorem kept_first (i : grid0.Coords) (a2 : Memref sig .tc .vmem S128x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S128x1024 .f32) (h5 : a5.IsWhole)
    (a6 : Memref sig .tc .vmem S128x1024 .bf16) (h6 : a6.IsWhole) (hc : cond0_0 i)
    (x : Vec Ideal S128x1024 .f32) (g : Vec Ideal S1x1024 .f32) (w : Vec Ideal S1024x1024 .bf16) :
    sout0_A_0 c i a2 h2 a3 h3 a4 h4 a5 h5 a6 h6 hc x g w = k0_pay1 x g := by
  unfold sout0_A_0
  rw [View.read_writes_junk_eq_canon]
  unfold kernelRun0_A
  dsimp only
  sl_unfold_words
  rw [View.canon_unit_zero off0]
  simp only [View.readAt_eq_ld, h2.read_unread, h3.read_unread, View.ld_unit_zero (S := S128x1024) off0, View.ld_unit_zero (S := S1x1024) off0]

/-- Any other point multiplies the rows kept. -/
theorem out_next (i : grid0.Coords) (a2 : Memref sig .tc .vmem S128x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S128x1024 .f32) (h5 : a5.IsWhole)
    (a6 : Memref sig .tc .vmem S128x1024 .bf16) (h6 : a6.IsWhole) (hc : ¬cond0_0 i)
    (x : Vec Ideal S128x1024 .f32) (g : Vec Ideal S1x1024 .f32) (w : Vec Ideal S1024x1024 .bf16) (h : Vec Ideal S128x1024 .bf16) :
    out0_B_3 c i a2 h2 a3 h3 a4 h4 a5 h5 a6 h6 hc x g w h = k0_pay2 h w := by
  unfold out0_B_3
  rw [View.read_writes_junk_eq_canon]
  unfold kernelRun0_B
  dsimp only
  sl_unfold_words
  rw [View.canon_unit_zero off0]
  simp only [View.readAt_eq_ld, h4.read_unread, h6.read_unread, View.ld_unit_zero (S := S128x1024) off0, View.ld_unit_zero (S := S1024x1024) off0]

/-- The rows and the gains a point reads are those of the point before, unless it begins a block of rows. -/
theorem same_rows (n : ℕ) (h : n + 1 < cfg0.N) (h0 : ¬(n + 1) % 6 = 0) :
    iblk m c 0 ⟨n + 1, h⟩ = iblk m c 0 ⟨n, Nat.lt_of_succ_lt h⟩ ∧ iblk m c 1 ⟨n + 1, h⟩ = iblk m c 1 ⟨n, Nat.lt_of_succ_lt h⟩ := by
  have e : (n + 1) / 6 = n / 6 := by omega
  have hN : n + 1 < 6 := lt_of_lt_of_eq h N_0
  constructor
  · refine funext fun (y : S128x1024.Idx) => ?_
    obtain ⟨r, k, rfl⟩ : ∃ r k, y = ix2 r k := ⟨_, _, eq_ix2 y⟩
    refine (iblk0_apply m c ⟨n + 1, h⟩ r k).trans (Eq.trans ?_ (iblk0_apply m c ⟨n, Nat.lt_of_succ_lt h⟩ r k).symm)
    exact congrArg (fun i => xOf m c i k) (Fin.ext (by show (n + 1) / 6 * 128 + r.val = n / 6 * 128 + r.val; rw [e]))
  · refine funext fun (y : S1x1024.Idx) => ?_
    obtain ⟨r, k, rfl⟩ : ∃ r k, y = ix2 r k := ⟨_, _, eq_ix2 y⟩
    obtain rfl : r = 0 := Subsingleton.elim _ _
    exact (iblk1_apply m c ⟨n + 1, h⟩ k).trans (iblk1_apply m c ⟨n, Nat.lt_of_succ_lt h⟩ k).symm

/-- What each point leaves: its product, and its scaled rows. -/
theorem left : ∀ (n : ℕ) (h : n < cfg0.N), outsAt0 m c n h
    = (k0_pay2 (k0_pay1 (iblk m c 0 ⟨n, h⟩) (iblk m c 1 ⟨n, h⟩)) (iblk m c 2 ⟨n, h⟩), k0_pay1 (iblk m c 0 ⟨n, h⟩) (iblk m c 1 ⟨n, h⟩))
  | 0, h => (outsAt0_A m c ⟨0, h⟩ (Nat.zero_mod _)).trans (by rw [out_first, kept_first])
  | n + 1, h => by
    by_cases h0 : (n + 1) % 6 = 0
    · exact (outsAt0_A m c ⟨n + 1, h⟩ h0).trans (by rw [out_first, kept_first])
    · refine (outsAt0_B m c ⟨n + 1, h⟩ h0).trans ?_
      have ih : (outsAt0 m c n (Nat.lt_of_succ_lt h)).2 = k0_pay1 (iblk m c 0 ⟨n + 1, h⟩) (iblk m c 1 ⟨n + 1, h⟩) := by
        rw [left n (Nat.lt_of_succ_lt h), (same_rows m c n h h0).1, (same_rows m c n h h0).2]
      rw [out_next]
      exact congrArg (fun q => (k0_pay2 q (iblk m c 2 ⟨n + 1, h⟩), q)) ih

theorem outs (t : Fin cfg0.N) : (outsAt0 m c t.val t.isLt).1 = k0_pay2 (k0_pay1 (iblk m c 0 t) (iblk m c 1 t)) (iblk m c 2 t) := by
  rw [left]

/-- The projection: each row scaled, times each column. -/
def proj : Buf (Elt Ideal) ((c : Thread nD τ).loc main_v10) := fun (i : S128x6144.Idx) =>
  ndot (xOf m c (i 0)) (gOf m c) (fun k => wOf m c k (i 1))

theorem flushed_eq (t : Fin cfg0.N) :
    (dats m 0 c).flushed 3 t = ((cfg0.win 3).blk t).view.read (Elt Ideal) (proj m c) := by
  rw [flushed3, outs]
  refine funext fun (y : S128x1024.Idx) => ?_
  have hy0 : (y 0).val < 128 := (y 0).isLt
  have hy1 : (y 1).val < 1024 := (y 1).isLt
  have e : ((cfg0.win 3).blk t).view.emb y = (ix2 ⟨t.val / 6 * 128 + (y 0).val, by have := ptlt t; omega⟩
      ⟨t.val % 6 * 1024 + (y 1).val, by have := ptlt t; omega⟩ : S128x6144.Idx) := funext fun b => Fin.ext (by
    match b with
    | ⟨0, _⟩ => show win0_3.index t (0 : Fin 2) * 128 + 1 * (y 0).val = t.val / 6 * 128 + (y 0).val; rw [(place t).2.2.2.2.2.2.1]; omega
    | ⟨1, _⟩ => show win0_3.index t (1 : Fin 2) * 1024 + 1 * (y 1).val = t.val % 6 * 1024 + (y 1).val; rw [(place t).2.2.2.2.2.2.2]; omega)
  show k0_pay2 (k0_pay1 (iblk m c 0 t) (iblk m c 1 t)) (iblk m c 2 t) y = proj m c (((cfg0.win 3).blk t).view.emb y)
  rw [e]
  refine (congrArg (k0_pay2 (k0_pay1 (iblk m c 0 t) (iblk m c 1 t)) (iblk m c 2 t)) (eq_ix2 y)).trans ?_
  refine (prod_apply _ _ (y 0) (y 1)).trans ?_
  refine Finset.sum_congr rfl fun k _ => congrArg₂ (· * ·) ?_ (iblk2_apply m c t k (y 1))
  refine (rows_apply _ _ (y 0) k).trans ?_
  exact congrArg₂ (fun a b => nrow a b k) (funext fun k => iblk0_apply m c t (y 0) k) (funext fun k => iblk1_apply m c t k)

/-- The result array ends holding the projection. -/
theorem final : (dats m 0 c).arrAt 3 cfg0.N = proj m c :=
  (dats m 0 c).arrAt_eq_of_cover 3 _ (fun t _ => flushed_eq m c t) fun (i : S128x6144.Idx) => (covered_iff3 i).2 (by
    have h0 : (i 0).val < 128 := (i 0).isLt
    have h1 : (i 1).val < 6144 := (i 1).isLt
    omega)

end Cert.SmpAIdeal.Proj

namespace Cert.SmpARefIdeal.Proj

open Idealize.ShloMosaic Idealize.ShloMosaic.ValueIdx Idealize.ShloMosaic.TcCoe
open Cert.SmpARefIdeal Cert.SmpARefIdeal.Gen Cert.SmpARefIdeal.Read Cert.Rows

variable (x0 : (⟨S128x1024, .f32⟩ : BufTy).Contents (Elt Ideal)) (x1 : (⟨S1024, .f32⟩ : BufTy).Contents (Elt Ideal)) (x2 : (⟨S1024x7696, .f32⟩ : BufTy).Contents (Elt Ideal))

theorem zero_bits : (FloatOps.ofBits (F := Ideal) .f32 0x00000000#32 : EReal) = 0 := Cert.KernelIdeal.Attn.zero_f32

theorem rows_at (i : Fin 128) (k : Fin 1024) :
    val_main_v12 (F := Ideal) x0 x1 (ix2 i k) = nrow (fun k => x0 (ix2 i k)) (fun k => x1 (ix1 k)) k := by
  have e1 : idx_main_v2 (idx_main_v8 (ix2 i k)) = ix1 i := eq_ix1 _
  have e2 : idx_main_v10 (idx_main_v11 (ix2 i k)) = ix1 k := eq_ix1 _
  have hs : val_main_v1 (F := Ideal) x0 (ix1 i) = ∑ k : Fin 1024, x0 (ix2 i k) * x0 (ix2 i k) := by
    rw [val_main_v1_apply, val_main_cst_apply]
    refine (congrArg (· + _) zero_bits).trans ((zero_add _).trans ?_)
    refine Finset.sum_congr rfl fun k _ => ?_
    have e : idx_main_v1 (ix1 i) k = ix2 i k := eq_ix2 _
    rw [val_main_v0_apply, e]
    rfl
  rw [val_main_v12_apply, val_main_v9_apply, val_main_v11_apply, val_main_v10_apply, e2, val_main_v8_apply, val_main_v7_apply, val_main_v6_apply,
    val_main_v4_apply, val_main_v2_apply, e1, hs, val_main_v3_apply, val_main_v5_apply, val_main_cst_0_apply, val_main_cst_1_apply]
  rfl

/-- The product of the scaled rows with the weights. -/
theorem prod_at (i : Fin 128) (j : Fin 7696) :
    val_main_v13 (F := Ideal) x0 x1 x2 (ix2 i j) = ndot (fun k => x0 (ix2 i k)) (fun k => x1 (ix1 k)) (fun k => x2 (ix2 k j)) := by
  rw [val_main_v13_apply]
  refine Finset.sum_congr rfl fun k _ => ?_
  have el : lidx_main_v13 (ix2 i j) k = ix2 i k := eq_ix2 _
  have er : ridx_main_v13 (ix2 i j) k = ix2 k j := eq_ix2 _
  rw [el, er, rows_at]

theorem res_at (i : Fin 128) (j : Fin 6144) :
    val_main_v16 (F := Ideal) x0 x1 x2 (ix2 i j) = ndot (fun k => x0 (ix2 i k)) (fun k => x1 (ix1 k)) (fun k => x2 (ix2 k (colA j))) := by
  unfold val_main_v16
  by_cases h : j.val < 1024
  · refine (concatenate_pair_apply_left (t := S128x6144) (s₁ := S128x1024) (s₂ := S128x5120) 1 _ _ _ _ rfl (ix2 i ⟨j.val, h⟩) (fun b => by
      match b with
      | ⟨0, _⟩ => rfl
      | ⟨1, _⟩ => rfl)).trans ?_
    have e : idx_main_v14 (ix2 i ⟨j.val, h⟩) = ix2 i (colA j) := funext fun a => Fin.ext (by
      match a with
      | ⟨0, _⟩ => show _ = i.val; first | rfl | (dsimp only; simp)
      | ⟨1, _⟩ => show _ = (colA j).val; rw [colA_lo j h])
    rw [val_main_v14_apply, e, prod_at]
  · refine (concatenate_pair_apply_right (t := S128x6144) (s₁ := S128x1024) (s₂ := S128x5120) 1 _ _ _ _ rfl rfl (ix2 i ⟨j.val - 1024, by omega⟩) (fun b hb => by
      match b with
      | ⟨0, _⟩ => rfl
      | ⟨1, _⟩ => exact absurd rfl hb) (by show j.val - 1024 + 1024 = j.val; omega)).trans ?_
    have e : idx_main_v15 (ix2 i ⟨j.val - 1024, by omega⟩) = ix2 i (colA j) := funext fun a => Fin.ext (by
      match a with
      | ⟨0, _⟩ => show _ = i.val; first | rfl | (dsimp only; simp)
      | ⟨1, _⟩ => show _ = (colA j).val; rw [colA_hi j h]; show 2576 + (j.val - 1024) = _; omega)
    rw [val_main_v15_apply, e, prod_at]

theorem val_eq : val_main_v16 (F := Ideal) x0 x1 x2 = fun (i : S128x6144.Idx) =>
    ndot (fun k => x0 (ix2 (i 0) k)) (fun k => x1 (ix1 k)) (fun k => x2 (ix2 k (colA (i 1)))) :=
  funext fun (i : S128x6144.Idx) => (congrArg _ (eq_ix2 i)).trans (res_at x0 x1 x2 (i 0) (i 1))

end Cert.SmpARefIdeal.Proj

end
-- ==== Proof.Proj.SmpS.lean ====
/-
The small projection of the sample's even layers: the kernel's result array and the reference's.
-/
module

public import proofs.«01_k».proof.Proof.Proj.Rows
public import proofs.«01_k».proof.Proof.Gen.SmpSIdeal.Value
public import proofs.«01_k».proof.Proof.Gen.SmpSRefIdeal.Read

@[expose] public section

set_option maxRecDepth 16384
set_option maxHeartbeats 1000000

noncomputable section

namespace Cert.SmpSIdeal.Proj

open Idealize.ShloMosaic Idealize.ShloMosaic.ValueIdx Idealize.ShloMosaic.TcCoe
open Cert.SmpSIdeal Cert.SmpSIdeal.Gen Cert.SmpSIdeal.Value Cert.Rows
open Cert.KernelIdeal.Attn (rowMajor2 rowMajor3 matmul_plain rsqrt_apply)

variable (m : (ℓ : Loc nD τ sig) → Buf (Elt Ideal) ℓ) (c : Dev nD)

/-- A block's scaled rows. -/
theorem rows_apply (x : Vec Ideal S128x1024 .f32) (g : Vec Ideal S1x1024 .f32) (r : Fin 128) (k : Fin 1024) :
    k0_pay1 x g (ix2 r k) = nrow (fun k => x (ix2 r k)) (fun k => g (ix2 0 k)) k := by
  unfold k0_pay1
  dsimp only
  rw [shapeCast_self, truncf_apply, mulf_apply, mulf_apply,
    broadcastTo_apply _ _ _ (ix2 r 0) (fun a => by
      match a with
      | ⟨0, _⟩ => rfl
      | ⟨1, _⟩ => rfl),
    broadcastTo_apply _ _ _ (ix2 0 k) (fun a => by
      match a with
      | ⟨0, _⟩ => rfl
      | ⟨1, _⟩ => rfl),
    shapeCast_self, rsqrt_apply, addf_apply, divf_apply, broadcast_apply, broadcast_apply,
    shapeCast_apply _ _ _ (ix1 r) (by rw [rowMajor2, Shape.rowMajor_val_one]; simp)]
  exact congrArg (fun s : EReal => x (ix2 r k) * Ideal.rsqrt (Ideal.div s (Ideal.ofBits .f32 0x44800000#32) + Ideal.ofBits .f32 0x358637BD#32) * g (ix2 0 k))
    (rowsum (mulf x x) _ _ _ r)

/-- A block of scaled rows times a block of columns. -/
theorem prod_apply (h : Vec Ideal S128x1024 .bf16) (w : Vec Ideal S1024x1664 .bf16) (r : Fin 128) (j : Fin 1664) :
    k0_pay2 h w (ix2 r j) = ∑ k : Fin 1024, h (ix2 r k) * w (ix2 k j) := by
  unfold k0_pay2
  rw [shapeCast_self]
  exact matmul_plain dot_S128x1024_S1024x1664_S128x1664_1_0_0_1_n_n rfl rfl (fun _ _ _ => ⟨rfl, rfl⟩) (fun _ _ _ => ⟨rfl, rfl⟩) h w r j

/-! ## The blocks a point reads -/

/-- The rows of the first argument, the gains and the columns of the weights. -/
abbrev xOf (i : Fin 128) (k : Fin 1024) : EReal := m ((c : Thread nD τ).loc main_arg0) (ix2 i k)
abbrev gOf (k : Fin 1024) : EReal := m ((c : Thread nD τ).loc main_arg1) (ix1 k)
abbrev wOf (k : Fin 1024) (j : Fin 1664) : EReal := colS (fun q => m ((c : Thread nD τ).loc main_arg2) (ix2 k q)) j

theorem place (t : Fin cfg0.N) : win0_0.index t (0 : Fin 2) = t.val / 1 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 1
    ∧ win0_3.index t (0 : Fin 2) = t.val / 1 ∧ win0_3.index t (1 : Fin 2) = t.val % 1 :=
  (by decide +kernel : ∀ t : Fin grid0.N, win0_0.index t (0 : Fin 2) = t.val / 1 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 1
    ∧ win0_3.index t (0 : Fin 2) = t.val / 1 ∧ win0_3.index t (1 : Fin 2) = t.val % 1) t

theorem ptlt (t : Fin cfg0.N) : t.val < 1 := lt_of_lt_of_eq t.isLt N_0

theorem iblk0_apply (t : Fin cfg0.N) (r : Fin 128) (k : Fin 1024) :
    iblk m c 0 t (ix2 r k : S128x1024.Idx) = xOf m c ⟨t.val / 1 * 128 + r.val, by have := ptlt t; omega⟩ k := by
  have e : ((cfg0.win 0).blk t).view.emb (ix2 r k : S128x1024.Idx) = (ix2 ⟨t.val / 1 * 128 + r.val, by have := ptlt t; omega⟩ k : S128x1024.Idx) :=
    funext fun b => Fin.ext (by
      match b with
      | ⟨0, _⟩ => show win0_0.index t (0 : Fin 2) * 128 + 1 * r.val = t.val / 1 * 128 + r.val; rw [(place t).1]; omega
      | ⟨1, _⟩ => show win0_0.index t (1 : Fin 2) * 1024 + 1 * k.val = k.val; rw [(place t).2.1]; omega)
  show V m c main_arg0 (((cfg0.win 0).blk t).view.emb (ix2 r k : S128x1024.Idx)) = _
  rw [e, V_main_arg0]

theorem V_g : V m c main_v9 = shapeCast S1x1024 (m ((c : Thread nD τ).loc main_arg1)) shapeCasts_S1024_S1x1024 := rfl

theorem iblk1_apply (t : Fin cfg0.N) (k : Fin 1024) : iblk m c 1 t (ix2 0 k : S1x1024.Idx) = gOf m c k := by
  have e : ((cfg0.win 1).blk t).view.emb (ix2 0 k : S1x1024.Idx) = (ix2 0 k : S1x1024.Idx) := funext fun b => Fin.ext (by
    match b with
    | ⟨0, _⟩ => show win0_1.index t (0 : Fin 2) * 1 + 1 * 0 = 0; rw [(place t).2.2.1]
    | ⟨1, _⟩ => show win0_1.index t (1 : Fin 2) * 1024 + 1 * k.val = k.val; rw [(place t).2.2.2.1]; omega)
  show V m c main_v9 (((cfg0.win 1).blk t).view.emb (ix2 0 k : S1x1024.Idx)) = _
  rw [e, V_g]
  have e3 : (S1024.rowMajor (ix1 k : S1024.Idx)).val = (S1x1024.rowMajor (ix2 0 k : S1x1024.Idx)).val := by
    rw [rowMajor2, Shape.rowMajor_val_one]; simp
  exact shapeCast_apply _ _ _ (ix1 k : S1024.Idx) e3

theorem V_w8 : (V m c main_v8 : FVec Ideal S1024x1664 .bf16) = (truncf .bf16 (concatenate S1024x1664 1
    [⟨S1024x1536, extractStridedSlice S1024x1536 ![0, 1024] (m ((c : Thread nD τ).loc main_arg2) : FVec Ideal S1024x7696 .f32) slices_S1024x7696_S1024x1536_0_1024⟩,
     ⟨S1024x16, extractStridedSlice S1024x16 ![0, 2560] (m ((c : Thread nD τ).loc main_arg2) : FVec Ideal S1024x7696 .f32) slices_S1024x7696_S1024x16_0_2560⟩,
     ⟨S1024x112, (broadcastInDim S1024x112 ![] bcast_S_S1024x112 (constant S_ .f32 0x00000000#32) : FVec Ideal S1024x112 .f32)⟩]
    concatenates_S1024x1536_S1024x16_S1024x112_S1024x1664_d1 : FVec Ideal S1024x1664 .f32) bitsLt_bf16_f32 : FVec Ideal S1024x1664 .bf16) := rfl

theorem V_w (k : Fin 1024) (j : Fin 1664) : V m c main_v8 (ix2 k j : S1024x1664.Idx) = wOf m c k j := by
  have hj : j.val < 1664 := j.isLt
  rw [V_w8, truncf_apply]
  by_cases h : j.val < 1536
  · refine (concatenate_apply_piece (t := S1024x1664) 1 _ _ _ 0 (by simp) S1024x1536 _ rfl rfl 0 (by rfl) (ix2 k ⟨j.val - 0, by omega⟩) (fun b hb => by
      match b with
      | ⟨0, _⟩ => rfl
      | ⟨1, _⟩ => exact absurd rfl hb) (by show 0 + (j.val - 0) = j.val; omega)).trans ?_
    refine (extractStridedSlice_apply _ _ _ _ (ix2 k ⟨1024 + j.val, by omega⟩) fun b => ?_).trans (colS_lo (fun q => m ((c : Thread nD τ).loc main_arg2) (ix2 k q)) j (by omega)).symm
    match b with
    | ⟨0, _⟩ => exact (Nat.zero_add _).symm
    | ⟨1, _⟩ => rfl
  by_cases h2 : j.val < 1552
  · refine (concatenate_apply_piece (t := S1024x1664) 1 _ _ _ 1 (by simp) S1024x16 _ rfl rfl 1536 (by rfl) (ix2 k ⟨j.val - 1536, by omega⟩) (fun b hb => by
      match b with
      | ⟨0, _⟩ => rfl
      | ⟨1, _⟩ => exact absurd rfl hb) (by show 1536 + (j.val - 1536) = j.val; omega)).trans ?_
    refine (extractStridedSlice_apply _ _ _ _ (ix2 k ⟨1024 + j.val, by omega⟩) fun b => ?_).trans (colS_lo (fun q => m ((c : Thread nD τ).loc main_arg2) (ix2 k q)) j h2).symm
    match b with
    | ⟨0, _⟩ => exact (Nat.zero_add _).symm
    | ⟨1, _⟩ => show 1024 + j.val = 2560 + (j.val - 1536); omega
  · refine (concatenate_apply_piece (t := S1024x1664) 1 _ _ _ 2 (by simp) S1024x112 _ rfl rfl 1552 (by rfl) (ix2 k ⟨j.val - 1552, by omega⟩) (fun b hb => by
      match b with
      | ⟨0, _⟩ => rfl
      | ⟨1, _⟩ => exact absurd rfl hb) (by show 1552 + (j.val - 1552) = j.val; omega)).trans ?_
    refine (broadcastInDim_apply _ bcast_S_S1024x112 _ _ (fun a => a.elim0 : S_.Idx) (fun a => a.elim0)).trans ?_
    exact Cert.KernelIdeal.Attn.zero_f32.trans (colS_hi (fun q => m ((c : Thread nD τ).loc main_arg2) (ix2 k q)) j h2).symm

theorem iblk2_apply (t : Fin cfg0.N) (k : Fin 1024) (j : Fin 1664) :
    iblk m c 2 t (ix2 k j : S1024x1664.Idx) = wOf m c k ⟨t.val % 1 * 1664 + j.val, by have := ptlt t; omega⟩ := by
  have e : ((cfg0.win 2).blk t).view.emb (ix2 k j : S1024x1664.Idx) = (ix2 k ⟨t.val % 1 * 1664 + j.val, by have := ptlt t; omega⟩ : S1024x1664.Idx) :=
    funext fun b => Fin.ext (by
      match b with
      | ⟨0, _⟩ => show win0_2.index t (0 : Fin 2) * 1024 + 1 * k.val = k.val; rw [(place t).2.2.2.2.1]; omega
      | ⟨1, _⟩ => show win0_2.index t (1 : Fin 2) * 1664 + 1 * j.val = t.val % 1 * 1664 + j.val; rw [(place t).2.2.2.2.2.1]; omega)
  show V m c main_v8 (((cfg0.win 2).blk t).view.emb (ix2 k j : S1024x1664.Idx)) = _
  rw [e]
  exact V_w m c k _

/-- A point that begins a block of rows scales them, and keeps them for the points after it. -/
theorem out_first (i : grid0.Coords) (a2 : Memref sig .tc .vmem S128x1024 .f32) (h2 : a2.IsWhole) (a3 : Memref sig .tc .vmem S1x1024 .f32) (h3 : a3.IsWhole)
    (a4 : Memref sig .tc .vmem S1024x1664 .bf16) (h4 : a4.IsWhole) (a5 : Memref sig .tc .vmem S128x1664 .f32) (h5 : a5.IsWhole)
    (a6 : Memref sig .tc .vmem S128x1024 .bf16) (h6 : a6.IsWhole) (hc : cond0_0 i)
    (x : Vec Ideal S128x1024 .f32) (g : Vec Ideal S1x1024 .f32) (w : Vec Ideal S1024x1664 .bf16) :
    out0_A_3 c i a2 h2 a3 h3 a4 h4 a5 h5 a6 h6 hc x g w = k0_pay2 (k0_pay1 x g) w := by
  unfold out0_A_3
  rw [View.read_writes_junk_eq_canon]
  unfold kernelRun0_A
  dsimp only
  sl_unfold_words
  rw [View.canon_unit_zero off0, View.readCov_unit_zero (S := S128x1024) _ off0]
  simp only [View.readAt_eq_ld, h2.read_unread, h3.read_unread, h4.read_unread, View.ld_unit_zero (S := S128x1024) off0,
    View.ld_unit_zero (S := S1x1024) off0, View.ld_unit_zero (S := S1024x1664) off0]

theorem outs (t : Fin cfg0.N) : outsAt0 m c t = k0_pay2 (k0_pay1 (iblk m c 0 t) (iblk m c 1 t)) (iblk m c 2 t) := by
  unfold outsAt0
  exact out_first ..

/-- The projection: each row scaled, times each column. -/
def proj : Buf (Elt Ideal) ((c : Thread nD τ).loc main_v10) := fun (i : S128x1664.Idx) =>
  ndot (xOf m c (i 0)) (gOf m c) (fun k => wOf m c k (i 1))

theorem flushed_eq (t : Fin cfg0.N) :
    (dats m 0 c).flushed 3 t = ((cfg0.win 3).blk t).view.read (Elt Ideal) (proj m c) := by
  rw [flushed3, outs]
  refine funext fun (y : S128x1664.Idx) => ?_
  have hy0 : (y 0).val < 128 := (y 0).isLt
  have hy1 : (y 1).val < 1664 := (y 1).isLt
  have e : ((cfg0.win 3).blk t).view.emb y = (ix2 ⟨t.val / 1 * 128 + (y 0).val, by have := ptlt t; omega⟩
      ⟨t.val % 1 * 1664 + (y 1).val, by have := ptlt t; omega⟩ : S128x1664.Idx) := funext fun b => Fin.ext (by
    match b with
    | ⟨0, _⟩ => show win0_3.index t (0 : Fin 2) * 128 + 1 * (y 0).val = t.val / 1 * 128 + (y 0).val; rw [(place t).2.2.2.2.2.2.1]; omega
    | ⟨1, _⟩ => show win0_3.index t (1 : Fin 2) * 1664 + 1 * (y 1).val = t.val % 1 * 1664 + (y 1).val; rw [(place t).2.2.2.2.2.2.2]; omega)
  show k0_pay2 (k0_pay1 (iblk m c 0 t) (iblk m c 1 t)) (iblk m c 2 t) y = proj m c (((cfg0.win 3).blk t).view.emb y)
  rw [e]
  refine (congrArg (k0_pay2 (k0_pay1 (iblk m c 0 t) (iblk m c 1 t)) (iblk m c 2 t)) (eq_ix2 y)).trans ?_
  refine (prod_apply _ _ (y 0) (y 1)).trans ?_
  refine Finset.sum_congr rfl fun k _ => congrArg₂ (· * ·) ?_ (iblk2_apply m c t k (y 1))
  refine (rows_apply _ _ (y 0) k).trans ?_
  exact congrArg₂ (fun a b => nrow a b k) (funext fun k => iblk0_apply m c t (y 0) k) (funext fun k => iblk1_apply m c t k)

theorem covered (i : S128x1664.Idx) : ∃ t : Fin cfg0.N, (cfg0.win 3).flush t = true ∧ i ∈ ((cfg0.win 3).blk t).view.set := by
  have h0 : (i 0).val < 128 := (i 0).isLt
  have h1 : (i 1).val < 1664 := (i 1).isLt
  obtain ⟨t, ht⟩ : ∃ t : Fin cfg0.N, t.val = (i 0).val / 128 := ⟨⟨(i 0).val / 128, lt_of_lt_of_eq (by omega : (i 0).val / 128 < 1) N_0.symm⟩, rfl⟩
  refine ⟨t, (by decide +kernel : ∀ t : Fin grid0.N, win0_3.flush t = true) t, ?_⟩
  show i ∈ ((View.whole main_v10).slice (win0_3.rect t)).set
  rw [View.set_slice_whole, Rect.mem_set_unit]
  intro a
  match a with
  | ⟨0, _⟩ => show win0_3.index t (0 : Fin 2) * 128 ≤ (i 0).val ∧ (i 0).val < win0_3.index t (0 : Fin 2) * 128 + 128; rw [(place t).2.2.2.2.2.2.1]; omega
  | ⟨1, _⟩ => show win0_3.index t (1 : Fin 2) * 1664 ≤ (i 1).val ∧ (i 1).val < win0_3.index t (1 : Fin 2) * 1664 + 1664; rw [(place t).2.2.2.2.2.2.2]; omega

/-- The result array ends holding the projection. -/
theorem final : (dats m 0 c).arrAt 3 cfg0.N = proj m c :=
  (dats m 0 c).arrAt_eq_of_cover 3 _ (fun t _ => flushed_eq m c t) fun (i : S128x1664.Idx) => covered i

end Cert.SmpSIdeal.Proj

namespace Cert.SmpSRefIdeal.Proj

open Idealize.ShloMosaic Idealize.ShloMosaic.ValueIdx Idealize.ShloMosaic.TcCoe
open Cert.SmpSRefIdeal Cert.SmpSRefIdeal.Gen Cert.SmpSRefIdeal.Read Cert.Rows

variable (x0 : (⟨S128x1024, .f32⟩ : BufTy).Contents (Elt Ideal)) (x1 : (⟨S1024, .f32⟩ : BufTy).Contents (Elt Ideal)) (x2 : (⟨S1024x7696, .f32⟩ : BufTy).Contents (Elt Ideal))

theorem zero_bits : (FloatOps.ofBits (F := Ideal) .f32 0x00000000#32 : EReal) = 0 := Cert.KernelIdeal.Attn.zero_f32

theorem rows_at (i : Fin 128) (k : Fin 1024) :
    val_main_v12 (F := Ideal) x0 x1 (ix2 i k) = nrow (fun k => x0 (ix2 i k)) (fun k => x1 (ix1 k)) k := by
  have e1 : idx_main_v2 (idx_main_v8 (ix2 i k)) = ix1 i := eq_ix1 _
  have e2 : idx_main_v10 (idx_main_v11 (ix2 i k)) = ix1 k := eq_ix1 _
  have hs : val_main_v1 (F := Ideal) x0 (ix1 i) = ∑ k : Fin 1024, x0 (ix2 i k) * x0 (ix2 i k) := by
    rw [val_main_v1_apply, val_main_cst_apply]
    refine (congrArg (· + _) zero_bits).trans ((zero_add _).trans ?_)
    refine Finset.sum_congr rfl fun k _ => ?_
    have e : idx_main_v1 (ix1 i) k = ix2 i k := eq_ix2 _
    rw [val_main_v0_apply, e]
    rfl
  rw [val_main_v12_apply, val_main_v9_apply, val_main_v11_apply, val_main_v10_apply, e2, val_main_v8_apply, val_main_v7_apply, val_main_v6_apply,
    val_main_v4_apply, val_main_v2_apply, e1, hs, val_main_v3_apply, val_main_v5_apply, val_main_cst_0_apply, val_main_cst_1_apply]
  rfl

/-- The product of the scaled rows with the weights. -/
theorem prod_at (i : Fin 128) (j : Fin 7696) :
    val_main_v13 (F := Ideal) x0 x1 x2 (ix2 i j) = ndot (fun k => x0 (ix2 i k)) (fun k => x1 (ix1 k)) (fun k => x2 (ix2 k j)) := by
  rw [val_main_v13_apply]
  refine Finset.sum_congr rfl fun k _ => ?_
  have el : lidx_main_v13 (ix2 i j) k = ix2 i k := eq_ix2 _
  have er : ridx_main_v13 (ix2 i j) k = ix2 k j := eq_ix2 _
  rw [el, er, rows_at]

theorem res_at (i : Fin 128) (j : Fin 1664) :
    val_main_v16 (F := Ideal) x0 x1 x2 (ix2 i j) = ndot (fun k => x0 (ix2 i k)) (fun k => x1 (ix1 k)) (fun k => colS (fun q => x2 (ix2 k q)) j) := by
  unfold val_main_v16
  have hj : j.val < 1664 := j.isLt
  by_cases h : j.val < 1552
  · refine (concatenate_pair_apply_left (t := S128x1664) (s₁ := S128x1552) (s₂ := S128x112) 1 _ _ _ _ rfl (ix2 i ⟨j.val, h⟩) (fun b => by
      match b with
      | ⟨0, _⟩ => rfl
      | ⟨1, _⟩ => rfl)).trans ?_
    have e : idx_main_v14 (ix2 i ⟨j.val, h⟩) = ix2 i ⟨1024 + j.val, by omega⟩ := eq_ix2 _
    rw [val_main_v14_apply, e, prod_at]
    exact congrArg _ (funext fun k => (colS_lo (fun q => x2 (ix2 k q)) j h).symm)
  · refine (concatenate_pair_apply_right (t := S128x1664) (s₁ := S128x1552) (s₂ := S128x112) 1 _ _ _ _ rfl rfl (ix2 i ⟨j.val - 1552, by omega⟩) (fun b hb => by
      match b with
      | ⟨0, _⟩ => rfl
      | ⟨1, _⟩ => exact absurd rfl hb) (by show j.val - 1552 + 1552 = j.val; omega)).trans ?_
    rw [val_main_v15_apply, val_main_cst_2_apply]
    refine zero_bits.trans (Finset.sum_eq_zero fun k _ => ?_).symm
    dsimp only
    rw [colS_hi _ j h, mul_zero]

theorem val_eq : val_main_v16 (F := Ideal) x0 x1 x2 = fun (i : S128x1664.Idx) =>
    ndot (fun k => x0 (ix2 (i 0) k)) (fun k => x1 (ix1 k)) (fun k => colS (fun q => x2 (ix2 k q)) (i 1)) :=
  funext fun (i : S128x1664.Idx) => (congrArg _ (eq_ix2 i)).trans (res_at x0 x1 x2 (i 0) (i 1))

end Cert.SmpSRefIdeal.Proj

end
-- ==== Proof.Proj.SmpF.lean ====
/-
The sample's last projection of the last layer, with the layer's input added and the rows scaled: the kernel's result array and the reference's.
-/
module

public import proofs.«01_k».proof.Proof.Proj.Sums
public import proofs.«01_k».proof.Proof.Gen.SmpFIdeal.Value
public import proofs.«01_k».proof.Proof.Gen.SmpFRefIdeal.Read

@[expose] public section

set_option maxRecDepth 16384
set_option maxHeartbeats 1000000

noncomputable section

namespace Cert.SmpFIdeal.Proj

open Idealize.ShloMosaic Idealize.ShloMosaic.ValueIdx Idealize.ShloMosaic.TcCoe
open Cert.SmpFIdeal Cert.SmpFIdeal.Gen Cert.SmpFIdeal.Value Cert.Rows
open Cert.KernelIdeal.Attn (rowMajor2 matmul_plain rsqrt_apply)

variable (m : (ℓ : Loc nD τ sig) → Buf (Elt Ideal) ℓ) (c : Dev nD)

/-- The entry plus the products, as the body adds them. -/
theorem acc_apply (x : FVec Ideal S128x1024 .f32) (a : FVec Ideal S128x2048 .bf16) (wa : FVec Ideal S2048x1024 .bf16) (b : FVec Ideal S128x512 .bf16)
    (wb : FVec Ideal S512x1024 .bf16) (r : Fin 128) (j : Fin 1024) :
    (addf (addf x (matmul dot_S128x2048_S2048x1024_S128x1024_1_0_0_1_n_n none a wa (constant S128x1024 .f32 0x00000000#32)))
    (matmul dot_S128x512_S512x1024_S128x1024_1_0_0_1_n_n none b wb (constant S128x1024 .f32 0x00000000#32))) (ix2 r j)
      = x (ix2 r j) + ((∑ k : Fin 2048, a (ix2 r k) * wa (ix2 k j)) + ∑ k : Fin 512, b (ix2 r k) * wb (ix2 k j)) := by
  refine Eq.trans (congrArg₂ (fun p q : EReal => p + q) (congrArg (fun q : EReal => x (ix2 r j) + q)
    (matmul_plain dot_S128x2048_S2048x1024_S128x1024_1_0_0_1_n_n rfl rfl (fun _ _ _ => ⟨rfl, rfl⟩) (fun _ _ _ => ⟨rfl, rfl⟩) a wa r j))
    (matmul_plain dot_S128x512_S512x1024_S128x1024_1_0_0_1_n_n rfl rfl (fun _ _ _ => ⟨rfl, rfl⟩) (fun _ _ _ => ⟨rfl, rfl⟩) b wb r j)) ?_
  simp only [add_assoc]

/-- The block a point stores, an entry at a time: the sums' rows, scaled. -/
theorem pay_apply (x : Vec Ideal S128x1024 .f32) (a : Vec Ideal S128x2048 .bf16) (wa : Vec Ideal S2048x1024 .bf16) (b : Vec Ideal S128x512 .bf16)
    (wb : Vec Ideal S512x1024 .bf16) (g : Vec Ideal S1x1024 .f32) (r : Fin 128) (j : Fin 1024) :
    k0_pay1 x a wa b wb g (ix2 r j) = nrow (fun j => x (ix2 r j) + ((∑ k : Fin 2048, a (ix2 r k) * wa (ix2 k j)) + ∑ k : Fin 512, b (ix2 r k) * wb (ix2 k j))) (fun j => g (ix2 0 j)) j := by
  unfold k0_pay1
  dsimp only
  rw [shapeCast_self, shapeCast_self, shapeCast_self]
  generalize hs : (addf (addf x (matmul (F := Ideal) (φ₁ := .bf16) (φ₂ := .bf16) dot_S128x2048_S2048x1024_S128x1024_1_0_0_1_n_n none a wa (constant S128x1024 .f32 0x00000000#32)))
    (matmul (F := Ideal) (φ₁ := .bf16) (φ₂ := .bf16) dot_S128x512_S512x1024_S128x1024_1_0_0_1_n_n none b wb (constant S128x1024 .f32 0x00000000#32))) = s
  have hr : (fun j => s (ix2 r j)) = fun j => x (ix2 r j) + ((∑ k : Fin 2048, a (ix2 r k) * wa (ix2 k j)) + ∑ k : Fin 512, b (ix2 r k) * wb (ix2 k j)) := by
    subst hs
    exact funext fun j => acc_apply x a wa b wb r j
  rw [← hr, mulf_apply, mulf_apply,
    broadcastTo_apply _ _ _ (ix2 r 0) (fun a => by
      match a with
      | ⟨0, _⟩ => rfl
      | ⟨1, _⟩ => rfl),
    broadcastTo_apply _ _ _ (ix2 0 j) (fun a => by
      match a with
      | ⟨0, _⟩ => rfl
      | ⟨1, _⟩ => rfl),
    rsqrt_apply, addf_apply, divf_apply, broadcast_apply, broadcast_apply,
    shapeCast_apply _ _ _ (ix1 r) (by rw [rowMajor2, Shape.rowMajor_val_one]; simp)]
  exact congrArg (fun q : EReal => s (ix2 r j) * Ideal.rsqrt (Ideal.div q (Ideal.ofBits .f32 0x44800000#32) + Ideal.ofBits .f32 0x358637BD#32) * g (ix2 0 j))
    (rowsum (mulf s s) _ _ _ r)

theorem out_eq
    (x0 : Vec Ideal S128x2048 .bf16) (x1 : Vec Ideal S128x512 .bf16) (x2 : Vec Ideal S2048x1024 .bf16)
    (x3 : Vec Ideal S512x1024 .bf16) (x4 : Vec Ideal S128x1024 .f32) (x5 : Vec Ideal S1x1024 .f32) :
    out0_6 x0 x1 x2 x3 x4 x5 = k0_pay1 x4 x0 x2 x1 x3 x5 := by
  unfold out0_6
  rw [View.canon_unit_zero off0]
  simp only [View.ld_unit_zero (S := S128x1024) off0, View.ld_unit_zero (S := S512x1024) off0, View.ld_unit_zero (S := S128x2048) off0, View.ld_unit_zero (S := S2048x1024) off0,
    View.ld_unit_zero (S := S128x512) off0, View.ld_unit_zero (S := S1x1024) off0]

theorem place0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

theorem place1 (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t

theorem place4 (t : Fin cfg0.N) : win0_4.index t (0 : Fin 2) = t.val ∧ win0_4.index t (1 : Fin 2) = 0 :=
  (by decide +kernel : ∀ t : Fin grid0.N, win0_4.index t (0 : Fin 2) = t.val ∧ win0_4.index t (1 : Fin 2) = 0) t

theorem place6 (t : Fin cfg0.N) : win0_6.index t (0 : Fin 2) = t.val ∧ win0_6.index t (1 : Fin 2) = 0 :=
  (by decide +kernel : ∀ t : Fin grid0.N, win0_6.index t (0 : Fin 2) = t.val ∧ win0_6.index t (1 : Fin 2) = 0) t

theorem place2 (t : Fin cfg0.N) : win0_2.index t (0 : Fin 2) = 0 ∧ win0_2.index t (1 : Fin 2) = 0 :=
  (by decide +kernel : ∀ t : Fin grid0.N, win0_2.index t (0 : Fin 2) = 0 ∧ win0_2.index t (1 : Fin 2) = 0) t

theorem place3 (t : Fin cfg0.N) : win0_3.index t (0 : Fin 2) = 0 ∧ win0_3.index t (1 : Fin 2) = 0 :=
  (by decide +kernel : ∀ t : Fin grid0.N, win0_3.index t (0 : Fin 2) = 0 ∧ win0_3.index t (1 : Fin 2) = 0) t

theorem place5 (t : Fin cfg0.N) : win0_5.index t (0 : Fin 2) = 0 ∧ win0_5.index t (1 : Fin 2) = 0 :=
  (by decide +kernel : ∀ t : Fin grid0.N, win0_5.index t (0 : Fin 2) = 0 ∧ win0_5.index t (1 : Fin 2) = 0) t

theorem flushes (t : Fin cfg0.N) : (cfg0.win 6).flush t = true :=
  (by decide +kernel : ∀ t : Fin grid0.N, win0_6.flush t = true) t

theorem ptlt (t : Fin cfg0.N) : t.val < 1 := lt_of_lt_of_eq t.isLt N_0

theorem iblk0_apply (t : Fin cfg0.N) (r : Fin 128) (k : Fin 2048) :
    iblk m c 0 t (ix2 r k : S128x2048.Idx) = m ((c : Thread nD τ).loc main_arg0) (ix2 ⟨t.val * 128 + r.val, by have := ptlt t; omega⟩ k : S128x2048.Idx) := by
  have e : ((cfg0.win 0).blk t).view.emb (ix2 r k : S128x2048.Idx) = (ix2 ⟨t.val * 128 + r.val, by have := ptlt t; omega⟩ k : S128x2048.Idx) :=
    funext fun b => Fin.ext (by
      match b with
      | ⟨0, _⟩ => show win0_0.index t (0 : Fin 2) * 128 + 1 * r.val = t.val * 128 + r.val; rw [(place0 t).1]; omega
      | ⟨1, _⟩ => show win0_0.index t (1 : Fin 2) * 2048 + 1 * k.val = k.val; rw [(place0 t).2]; omega)
  show V m c main_arg0 (((cfg0.win 0).blk t).view.emb (ix2 r k : S128x2048.Idx)) = _
  rw [e, V_main_arg0]

theorem iblk1_apply (t : Fin cfg0.N) (r : Fin 128) (k : Fin 512) :
    iblk m c 1 t (ix2 r k : S128x512.Idx) = m ((c : Thread nD τ).loc main_arg1) (ix2 ⟨t.val * 128 + r.val, by have := ptlt t; omega⟩ k : S128x512.Idx) := by
  have e : ((cfg0.win 1).blk t).view.emb (ix2 r k : S128x512.Idx) = (ix2 ⟨t.val * 128 + r.val, by have := ptlt t; omega⟩ k : S128x512.Idx) :=
    funext fun b => Fin.ext (by
      match b with
      | ⟨0, _⟩ => show win0_1.index t (0 : Fin 2) * 128 + 1 * r.val = t.val * 128 + r.val; rw [(place1 t).1]; omega
      | ⟨1, _⟩ => show win0_1.index t (1 : Fin 2) * 512 + 1 * k.val = k.val; rw [(place1 t).2]; omega)
  show V m c main_arg1 (((cfg0.win 1).blk t).view.emb (ix2 r k : S128x512.Idx)) = _
  rw [e, V_main_arg1]

theorem iblk4_apply (t : Fin cfg0.N) (r : Fin 128) (k : Fin 1024) :
    iblk m c 4 t (ix2 r k : S128x1024.Idx) = m ((c : Thread nD τ).loc main_arg3) (ix2 ⟨t.val * 128 + r.val, by have := ptlt t; omega⟩ k : S128x1024.Idx) := by
  have e : ((cfg0.win 4).blk t).view.emb (ix2 r k : S128x1024.Idx) = (ix2 ⟨t.val * 128 + r.val, by have := ptlt t; omega⟩ k : S128x1024.Idx) :=
    funext fun b => Fin.ext (by
      match b with
      | ⟨0, _⟩ => show win0_4.index t (0 : Fin 2) * 128 + 1 * r.val = t.val * 128 + r.val; rw [(place4 t).1]; omega
      | ⟨1, _⟩ => show win0_4.index t (1 : Fin 2) * 1024 + 1 * k.val = k.val; rw [(place4 t).2]; omega)
  show V m c main_arg3 (((cfg0.win 4).blk t).view.emb (ix2 r k : S128x1024.Idx)) = _
  rw [e, V_main_arg3]

theorem iblk2_apply (t : Fin cfg0.N) (k : Fin 2048) (j : Fin 1024) :
    iblk m c 2 t (ix2 k j : S2048x1024.Idx) = m ((c : Thread nD τ).loc main_arg2) (ix2 ⟨k.val, by omega⟩ j : S2560x1024.Idx) := by
  have e : ((cfg0.win 2).blk t).view.emb (ix2 k j : S2048x1024.Idx) = (ix2 k j : S2048x1024.Idx) :=
    funext fun b => Fin.ext (by
      match b with
      | ⟨0, _⟩ => show win0_2.index t (0 : Fin 2) * 2048 + 1 * k.val = k.val; rw [(place2 t).1]; omega
      | ⟨1, _⟩ => show win0_2.index t (1 : Fin 2) * 1024 + 1 * j.val = j.val; rw [(place2 t).2]; omega)
  have hV : (V m c main_v1 : FVec Ideal S2048x1024 .bf16) = (extractStridedSlice S2048x1024 ![0, 0] (truncf .bf16 (m ((c : Thread nD τ).loc main_arg2) : FVec Ideal S2560x1024 .f32) bitsLt_bf16_f32 : FVec Ideal S2560x1024 .bf16) slices_S2560x1024_S2048x1024_0_0 : FVec Ideal S2048x1024 .bf16) := rfl
  show V m c main_v1 (((cfg0.win 2).blk t).view.emb (ix2 k j : S2048x1024.Idx)) = _
  rw [e, hV]
  refine (extractStridedSlice_apply _ _ _ _ (ix2 ⟨k.val, by omega⟩ j) fun b => ?_).trans rfl
  match b with
  | ⟨0, _⟩ => show k.val = 0 + k.val; omega
  | ⟨1, _⟩ => exact (Nat.zero_add _).symm

theorem iblk3_apply (t : Fin cfg0.N) (k : Fin 512) (j : Fin 1024) :
    iblk m c 3 t (ix2 k j : S512x1024.Idx) = m ((c : Thread nD τ).loc main_arg2) (ix2 ⟨2048 + k.val, by omega⟩ j : S2560x1024.Idx) := by
  have e : ((cfg0.win 3).blk t).view.emb (ix2 k j : S512x1024.Idx) = (ix2 k j : S512x1024.Idx) :=
    funext fun b => Fin.ext (by
      match b with
      | ⟨0, _⟩ => show win0_3.index t (0 : Fin 2) * 512 + 1 * k.val = k.val; rw [(place3 t).1]; omega
      | ⟨1, _⟩ => show win0_3.index t (1 : Fin 2) * 1024 + 1 * j.val = j.val; rw [(place3 t).2]; omega)
  have hV : (V m c main_v2 : FVec Ideal S512x1024 .bf16) = (extractStridedSlice S512x1024 ![2048, 0] (truncf .bf16 (m ((c : Thread nD τ).loc main_arg2) : FVec Ideal S2560x1024 .f32) bitsLt_bf16_f32 : FVec Ideal S2560x1024 .bf16) slices_S2560x1024_S512x1024_2048_0 : FVec Ideal S512x1024 .bf16) := rfl
  show V m c main_v2 (((cfg0.win 3).blk t).view.emb (ix2 k j : S512x1024.Idx)) = _
  rw [e, hV]
  refine (extractStridedSlice_apply _ _ _ _ (ix2 ⟨2048 + k.val, by omega⟩ j) fun b => ?_).trans rfl
  match b with
  | ⟨0, _⟩ => show 2048 + k.val = 2048 + k.val; omega
  | ⟨1, _⟩ => exact (Nat.zero_add _).symm

theorem V_g : V m c main_v3 = shapeCast S1x1024 (m ((c : Thread nD τ).loc main_arg4)) shapeCasts_S1024_S1x1024 := rfl

theorem iblk5_apply (t : Fin cfg0.N) (k : Fin 1024) : iblk m c 5 t (ix2 0 k : S1x1024.Idx) = m ((c : Thread nD τ).loc main_arg4) (ix1 k : S1024.Idx) := by
  have e : ((cfg0.win 5).blk t).view.emb (ix2 0 k : S1x1024.Idx) = (ix2 0 k : S1x1024.Idx) := funext fun b => Fin.ext (by
    match b with
    | ⟨0, _⟩ => show win0_5.index t (0 : Fin 2) * 1 + 1 * 0 = 0; rw [(place5 t).1]
    | ⟨1, _⟩ => show win0_5.index t (1 : Fin 2) * 1024 + 1 * k.val = k.val; rw [(place5 t).2]; omega)
  show V m c main_v3 (((cfg0.win 5).blk t).view.emb (ix2 0 k : S1x1024.Idx)) = _
  rw [e, V_g]
  have e3 : (S1024.rowMajor (ix1 k : S1024.Idx)).val = (S1x1024.rowMajor (ix2 0 k : S1x1024.Idx)).val := by
    rw [rowMajor2, Shape.rowMajor_val_one]; simp
  exact shapeCast_apply _ _ _ (ix1 k : S1024.Idx) e3

/-- The result array as a function of the arguments. -/
def res : Buf (Elt Ideal) ((c : Thread nD τ).loc main_v4) := fun (i : S128x1024.Idx) => nrow (fun j => two (m ((c : Thread nD τ).loc main_arg3) (ix2 (i 0) j)) (fun k => m ((c : Thread nD τ).loc main_arg0) (ix2 (i 0) k)) (fun k => m ((c : Thread nD τ).loc main_arg1) (ix2 (i 0) k)) (fun k => m ((c : Thread nD τ).loc main_arg2) (ix2 k j))) (fun j => m ((c : Thread nD τ).loc main_arg4) (ix1 j)) (i 1)

theorem flushed_eq (t : Fin cfg0.N) :
    (dats m 0 c).flushed 6 t = ((cfg0.win 6).blk t).view.read (Elt Ideal) (res m c) := by
  rw [flushed6, out_eq]
  refine funext fun (y : S128x1024.Idx) => ?_
  have hy0 : (y 0).val < 128 := (y 0).isLt
  have e : ((cfg0.win 6).blk t).view.emb y = (ix2 ⟨t.val * 128 + (y 0).val, by have := ptlt t; omega⟩ (y 1) : S128x1024.Idx) := funext fun b => Fin.ext (by
    match b with
    | ⟨0, _⟩ => show win0_6.index t (0 : Fin 2) * 128 + 1 * (y 0).val = t.val * 128 + (y 0).val; rw [(place6 t).1]; omega
    | ⟨1, _⟩ => show win0_6.index t (1 : Fin 2) * 1024 + 1 * (y 1).val = (y 1).val; rw [(place6 t).2]; omega)
  show k0_pay1 (iblk m c 4 t) (iblk m c 0 t) (iblk m c 2 t) (iblk m c 1 t) (iblk m c 3 t) (iblk m c 5 t) y = res m c (((cfg0.win 6).blk t).view.emb y)
  rw [e]
  refine (congrArg (k0_pay1 (iblk m c 4 t) (iblk m c 0 t) (iblk m c 2 t) (iblk m c 1 t) (iblk m c 3 t) (iblk m c 5 t)) (eq_ix2 y)).trans ?_
  refine (pay_apply (iblk m c 4 t) (iblk m c 0 t) (iblk m c 2 t) (iblk m c 1 t) (iblk m c 3 t) (iblk m c 5 t) (y 0) (y 1)).trans ?_
  exact congrArg₂ (fun p q => nrow p q (y 1)) (funext fun j => congrArg₂ (fun p q : EReal => p + q) (iblk4_apply m c t (y 0) j) (congrArg₂ (fun p q : EReal => p + q)
    (Finset.sum_congr rfl fun k _ => congrArg₂ (fun p q : EReal => p * q) (iblk0_apply m c t (y 0) k) (iblk2_apply m c t k j))
    (Finset.sum_congr rfl fun k _ => congrArg₂ (fun p q : EReal => p * q) (iblk1_apply m c t (y 0) k) (iblk3_apply m c t k j)))) (funext fun j => iblk5_apply m c t j)

theorem covered (i : S128x1024.Idx) : ∃ t : Fin cfg0.N, (cfg0.win 6).flush t = true ∧ i ∈ ((cfg0.win 6).blk t).view.set := by
  have h0 : (i 0).val < 128 := (i 0).isLt
  have h1 : (i 1).val < 1024 := (i 1).isLt
  obtain ⟨t, ht⟩ : ∃ t : Fin cfg0.N, t.val = (i 0).val / 128 := ⟨⟨(i 0).val / 128, lt_of_lt_of_eq (by omega : (i 0).val / 128 < 1) N_0.symm⟩, rfl⟩
  refine ⟨t, flushes t, ?_⟩
  show i ∈ ((View.whole main_v4).slice (win0_6.rect t)).set
  rw [View.set_slice_whole, Rect.mem_set_unit]
  intro a
  match a with
  | ⟨0, _⟩ => show win0_6.index t (0 : Fin 2) * 128 ≤ (i 0).val ∧ (i 0).val < win0_6.index t (0 : Fin 2) * 128 + 128; rw [(place6 t).1]; omega
  | ⟨1, _⟩ => show win0_6.index t (1 : Fin 2) * 1024 ≤ (i 1).val ∧ (i 1).val < win0_6.index t (1 : Fin 2) * 1024 + 1024; rw [(place6 t).2]; omega

/-- The result array ends holding it. -/
theorem final : (dats m 0 c).arrAt 6 cfg0.N = res m c :=
  (dats m 0 c).arrAt_eq_of_cover 6 _ (fun t _ => flushed_eq m c t) fun (i : S128x1024.Idx) => covered i

end Cert.SmpFIdeal.Proj

namespace Cert.SmpFRefIdeal.Proj

open Idealize.ShloMosaic Idealize.ShloMosaic.ValueIdx Idealize.ShloMosaic.TcCoe
open Cert.SmpFRefIdeal Cert.SmpFRefIdeal.Gen Cert.SmpFRefIdeal.Read Cert.Rows

variable (x0 : (⟨S128x2048, .bf16⟩ : BufTy).Contents (Elt Ideal)) (x1 : (⟨S128x512, .bf16⟩ : BufTy).Contents (Elt Ideal))
  (x2 : (⟨S2560x1024, .f32⟩ : BufTy).Contents (Elt Ideal)) (x3 : (⟨S128x1024, .f32⟩ : BufTy).Contents (Elt Ideal)) (x4 : (⟨S1024, .f32⟩ : BufTy).Contents (Elt Ideal))

theorem part0 (i : Fin 128) (k : Fin 2048) : val_main_v0 (F := Ideal) x0 x1 (ix2 i ⟨k.val, by omega⟩ : S128x2560.Idx) = x0 (ix2 i k) := by
  unfold val_main_v0
  exact concatenate_apply_piece (t := S128x2560) 1 _ _ _ 0 (by simp) S128x2048 _ rfl rfl 0 (by rfl) (ix2 i k) (fun b hb => by
    match b with
    | ⟨0, _⟩ => rfl
    | ⟨1, _⟩ => exact absurd rfl hb) (Nat.zero_add _)

theorem part1 (i : Fin 128) (k : Fin 512) : val_main_v0 (F := Ideal) x0 x1 (ix2 i ⟨2048 + k.val, by omega⟩ : S128x2560.Idx) = x1 (ix2 i k) := by
  unfold val_main_v0
  exact concatenate_apply_piece (t := S128x2560) 1 _ _ _ 1 (by simp) S128x512 _ rfl rfl 2048 (by rfl) (ix2 i k) (fun b hb => by
    match b with
    | ⟨0, _⟩ => rfl
    | ⟨1, _⟩ => exact absurd rfl hb) rfl

theorem sum_at (i : Fin 128) (j : Fin 1024) :
    val_main_v3 (F := Ideal) x0 x1 x2 x3 (ix2 i j)
      = two (x3 (ix2 i j)) (fun k => x0 (ix2 i k)) (fun k => x1 (ix2 i k)) (fun k => x2 (ix2 k j)) := by
  have hd : val_main_v2 (F := Ideal) x0 x1 x2 (ix2 i j) = ∑ k : Fin 2560, (val_main_v0 (F := Ideal) x0 x1 (ix2 i k : S128x2560.Idx) : EReal) * x2 (ix2 k j) := by
    rw [val_main_v2_apply]
    refine Finset.sum_congr rfl fun k _ => ?_
    have el : lidx_main_v2 (ix2 i j) k = ix2 i k := eq_ix2 _
    have er : ridx_main_v2 (ix2 i j) k = ix2 k j := eq_ix2 _
    rw [el, er]
    rfl
  rw [val_main_v3_apply, hd, sum_cut]
  exact congrArg (fun q : EReal => x3 (ix2 i j) + q) (congrArg₂ (fun p q : EReal => p + q)
    (Finset.sum_congr rfl fun k _ => congrArg (fun q : EReal => q * _) (part0 x0 x1 i k))
    (Finset.sum_congr rfl fun k _ => congrArg (fun q : EReal => q * _) (part1 x0 x1 i k)))

theorem zero_bits : (FloatOps.ofBits (F := Ideal) .f32 0x00000000#32 : EReal) = 0 := Cert.KernelIdeal.Attn.zero_f32

theorem res_at (i : Fin 128) (k : Fin 1024) :
    val_main_v16 (F := Ideal) x0 x1 x2 x3 x4 (ix2 i k)
      = nrow (fun j => two (x3 (ix2 i j)) (fun k => x0 (ix2 i k)) (fun k => x1 (ix2 i k)) (fun k => x2 (ix2 k j))) (fun k => x4 (ix1 k)) k := by
  have hr : (fun j => two (x3 (ix2 i j)) (fun k => x0 (ix2 i k)) (fun k => x1 (ix2 i k)) (fun k => x2 (ix2 k j)))
      = fun j => (val_main_v3 (F := Ideal) x0 x1 x2 x3 (ix2 i j) : EReal) := funext fun j => (sum_at x0 x1 x2 x3 i j).symm
  have e1 : idx_main_v6 (idx_main_v12 (ix2 i k)) = ix1 i := eq_ix1 _
  have e2 : idx_main_v14 (idx_main_v15 (ix2 i k)) = ix1 k := eq_ix1 _
  have hs : val_main_v5 (F := Ideal) x0 x1 x2 x3 (ix1 i)
      = ∑ k : Fin 1024, (val_main_v3 (F := Ideal) x0 x1 x2 x3 (ix2 i k) : EReal) * val_main_v3 (F := Ideal) x0 x1 x2 x3 (ix2 i k) := by
    rw [val_main_v5_apply, val_main_cst_apply]
    refine (congrArg (· + _) zero_bits).trans ((zero_add _).trans ?_)
    refine Finset.sum_congr rfl fun k _ => ?_
    have e : idx_main_v5 (ix1 i) k = ix2 i k := eq_ix2 _
    rw [val_main_v4_apply, e]
    rfl
  rw [hr, val_main_v16_apply, val_main_v13_apply, val_main_v15_apply, val_main_v14_apply, e2, val_main_v12_apply, val_main_v11_apply, val_main_v10_apply,
    val_main_v8_apply, val_main_v6_apply, e1, hs, val_main_v7_apply, val_main_v9_apply, val_main_cst_0_apply, val_main_cst_1_apply]
  rfl

theorem val_eq : val_main_v16 (F := Ideal) x0 x1 x2 x3 x4 = fun (i : S128x1024.Idx) =>
    nrow (fun j => two (x3 (ix2 (i 0) j)) (fun k => x0 (ix2 (i 0) k)) (fun k => x1 (ix2 (i 0) k)) (fun k => x2 (ix2 k j))) (fun k => x4 (ix1 k)) (i 1) :=
  funext fun (i : S128x1024.Idx) => (congrArg _ (eq_ix2 i)).trans (res_at x0 x1 x2 x3 x4 (i 0) (i 1))

end Cert.SmpFRefIdeal.Proj

end
-- ==== Proof.Proj.RopeRow.lean ====
/-
The rotation of a row of sixteen heads by a position's angles, over the extended reals, and the same by three factors per lane.
-/
module

public import proofs.«01_k».proof.Proof.Attn.Fin

@[expose] public section

noncomputable section

namespace Cert.Turn

open Idealize.ShloMosaic Idealize.ShloMosaic.ValueIdx

/-- A row of sixteen heads of 64 entries, turned: in each head the first eight entries and the next eight are the two
    coordinates of eight points of the plane, each turned by its angle, whose cosine and sine are given; the other
    48 entries are kept. -/
def turn (x : Fin 1024 → EReal) (C S : Fin 8 → EReal) (j : Fin 1024) : EReal :=
  if h : j.val % 64 < 8 then x j * C ⟨j.val % 64, h⟩ - x ⟨j.val + 8, by omega⟩ * S ⟨j.val % 64, h⟩
  else if h' : j.val % 64 < 16 then x j * C ⟨j.val % 64 - 8, by omega⟩ + x ⟨j.val - 8, by omega⟩ * S ⟨j.val % 64 - 8, by omega⟩
  else x j

/-- The factor of an entry itself, of the entry eight after it, and of the entry eight before it. -/
def fac (C : Fin 8 → EReal) (e : ℕ) : EReal := if h : e < 8 then C ⟨e, h⟩ else if h' : e < 16 then C ⟨e - 8, by omega⟩ else 1
def facA (S : Fin 8 → EReal) (e : ℕ) : EReal := if h : e < 8 then -S ⟨e, h⟩ else 0
def facB (S : Fin 8 → EReal) (e : ℕ) : EReal := if h : ¬e < 8 ∧ e < 16 then S ⟨e - 8, by omega⟩ else 0

/-- Each entry of a row times its factor, plus the entries eight after and eight before it, around the end of its
    group of 128, times theirs. -/
def lane (x : Fin 1024 → EReal) (c a b : Fin 128 → EReal) (j : Fin 1024) : EReal :=
  x j * c ⟨j.val % 128, by omega⟩
    + x ⟨j.val / 128 * 128 + (j.val % 128 + 8) % 128, by omega⟩ * a ⟨j.val % 128, by omega⟩
    + x ⟨j.val / 128 * 128 + (j.val % 128 + 120) % 128, by omega⟩ * b ⟨j.val % 128, by omega⟩

theorem lane_eq (x : Fin 1024 → EReal) (C S : Fin 8 → EReal) (c a b : Fin 128 → EReal)
    (hc : ∀ l, c l = fac C (l.val % 64)) (ha : ∀ l, a l = facA S (l.val % 64)) (hb : ∀ l, b l = facB S (l.val % 64)) (j : Fin 1024) :
    lane x c a b j = turn x C S j := by
  have e : j.val % 128 % 64 = j.val % 64 := by omega
  unfold lane turn
  rw [hc, ha, hb]
  dsimp only
  rw [e]
  unfold fac facA facB
  by_cases h : j.val % 64 < 8
  · rw [dif_pos h, dif_pos h, dif_neg (fun g => g.1 h), dif_pos h, mul_zero, add_zero, mul_neg, ← sub_eq_add_neg]
    refine congrArg (fun k => x j * C ⟨j.val % 64, h⟩ - x k * S ⟨j.val % 64, h⟩) (Fin.ext ?_)
    show j.val / 128 * 128 + (j.val % 128 + 8) % 128 = j.val + 8
    omega
  · by_cases h' : j.val % 64 < 16
    · rw [dif_neg h, dif_pos h', dif_neg h, dif_pos ⟨h, h'⟩, dif_neg h, dif_pos h', mul_zero, add_zero]
      refine congrArg (fun k => x j * C ⟨j.val % 64 - 8, _⟩ + x k * S ⟨j.val % 64 - 8, _⟩) (Fin.ext ?_)
      show j.val / 128 * 128 + (j.val % 128 + 120) % 128 = j.val - 8
      omega
    · rw [dif_neg h, dif_neg h', dif_neg h, dif_neg (fun g => h' g.2), dif_neg h, dif_neg h', mul_zero, mul_zero, add_zero, add_zero, mul_one]

end Cert.Turn

end
-- ==== Proof.Proj.RopeBlk.lean ====
/-
What a point of the rotation kernel leaves in its four output blocks.
-/
module

public import proofs.«01_k».proof.Proof.Proj.RopeRow
public import proofs.«01_k».proof.Proof.Gen.RopeIdeal.Value
public import Idealize.ShloMosaic.Lib.ValueLayout
public import Idealize.ShloMosaic.Lib.Pipeline.ReadBack
public import Idealize.ShloMosaic.Lib.Pipeline.ValueKit.Tiles

@[expose] public section

set_option maxRecDepth 16384
set_option maxHeartbeats 1000000

noncomputable section

namespace Cert.RopeIdeal.Proj

open Idealize.ShloMosaic Idealize.ShloMosaic.ValueIdx Idealize.ShloMosaic.TcCoe
open Cert.RopeIdeal Cert.RopeIdeal.Gen Cert.RopeIdeal.Value Cert.Turn
open Cert.KernelIdeal.Attn (rowMajor2 rowMajor3)

/-- A block of 128 lanes times its factors, plus the block moved eight lanes each way times theirs. -/
def pair (c a b : FVec Ideal S512x128 .f32) (x : Vec Ideal S512x128 .f32) : FVec Ideal S512x128 .f32 :=
  addf (addf (mulf x c) (mulf (dynamicRotate 1 120#32 none x rotates_S512x128_d1 : FVec Ideal S512x128 .f32) a))
    (mulf (dynamicRotate 1 8#32 none x rotates_S512x128_d1 : FVec Ideal S512x128 .f32) b)

theorem rot_lane (n : BitVec 32) (x : FVec Ideal S512x128 .f32) (r : Fin 512) (l : Fin 128) :
    dynamicRotate 1 n none x rotates_S512x128_d1 (ix2 r l) = x (ix2 r ⟨(l.val + 128 - n.toNat % 128) % 128, Nat.mod_lt _ (by decide)⟩) := by
  unfold dynamicRotate
  refine congrArg x (funext fun b => ?_)
  match b with
  | ⟨0, _⟩ => rfl
  | ⟨1, _⟩ => rfl

/-- Lane by lane, from the rows of the block of 1024 lanes it is loaded from. -/
theorem pair_ld (X : Vec Ideal S512x1024 .f32) (c a b : FVec Ideal S512x128 .f32) (o : ℕ) (ho : o % 128 = 0)
    (inb : ∀ a, (![0, o] : Fin 2 → ℕ) a + S512x128.size a ≤ S512x1024.size a) (r : Fin 512) (l : Fin 128) (j : Fin 1024) (hj : j.val = o + l.val) :
    pair c a b (View.ld X (Rect.unit (s := S512x1024) ![0, o] S512x128.size inb)) (ix2 r l)
      = lane (fun k => X (ix2 r k)) (fun l => c (ix2 r l)) (fun l => a (ix2 r l)) (fun l => b (ix2 r l)) j := by
  have hld : ∀ (l : Fin 128) (k : Fin 1024), k.val = o + l.val → View.ld X (Rect.unit (s := S512x1024) ![0, o] S512x128.size inb) (ix2 r l) = X (ix2 r k) :=
    fun l k hk => View.ld_unit_apply_of X _ _ inb _ (ix2 r k) fun a => by
      match a with
      | ⟨0, _⟩ => exact (Nat.zero_add _).symm
      | ⟨1, _⟩ => exact hk
  have el : (⟨j.val % 128, by omega⟩ : Fin 128) = l := Fin.ext (by show j.val % 128 = l.val; omega)
  unfold pair lane
  rw [addf_apply, addf_apply, mulf_apply, mulf_apply, mulf_apply, rot_lane, rot_lane, el, hld l j hj,
    hld ⟨(l.val + 128 - (120#32).toNat % 128) % 128, Nat.mod_lt _ (by decide)⟩ ⟨j.val / 128 * 128 + (j.val % 128 + 8) % 128, by omega⟩ (by
      show j.val / 128 * 128 + (j.val % 128 + 8) % 128 = o + (l.val + 128 - 120) % 128; omega),
    hld ⟨(l.val + 128 - (8#32).toNat % 128) % 128, Nat.mod_lt _ (by decide)⟩ ⟨j.val / 128 * 128 + (j.val % 128 + 120) % 128, by omega⟩ (by
      show j.val / 128 * 128 + (j.val % 128 + 120) % 128 = o + (l.val + 128 - 8) % 128; omega)]

/-- The row `r` of a block, its entries' lanes turned by the factors of that row. -/
def laneAt (X : Vec Ideal S512x1024 .f32) (c a b : FVec Ideal S512x128 .f32) (r : Fin 512) (j : Fin 1024) : EReal :=
  lane (fun k => X (ix2 r k)) (fun l => c (ix2 r l)) (fun l => a (ix2 r l)) (fun l => b (ix2 r l)) j

/-- The four blocks. -/
def B6 (X : Vec Ideal S512x1024 .f32) (c a b : FVec Ideal S512x128 .f32) : Vec Ideal S1024x512 .bf16 := fun (y : S1024x512.Idx) =>
  laneAt X c a b (y 1) (y 0) * Ideal.ofBits .f32 0x3E000000#32
def B7 (X : Vec Ideal S512x1024 .f32) (c a b : FVec Ideal S512x128 .f32) : Vec Ideal S512x1024 .bf16 := fun (y : S512x1024.Idx) => laneAt X c a b (y 0) (y 1)
def B8 (X : Vec Ideal S512x1024 .f32) (c a b : FVec Ideal S512x128 .f32) : Vec Ideal S1x1024x512 .f32 := fun (y : S1x1024x512.Idx) => laneAt X c a b (y 2) (y 1)
def B9 (X : Vec Ideal S512x1024 .f32) : Vec Ideal S1024x512 .bf16 := fun (y : S1024x512.Idx) => X (ix2 (y 1) (y 0))

variable (X : Vec Ideal S512x1024 .f32) (c a b : FVec Ideal S512x128 .f32)

theorem piece6 (o : ℕ) (ho : o % 128 = 0) (inb : ∀ a, (![0, o] : Fin 2 → ℕ) a + S512x128.size a ≤ S512x1024.size a)
    (inb' : ∀ a, (![o, 0] : Fin 2 → ℕ) a + S128x512.size a ≤ S1024x512.size a) (x : S128x512.Idx) :
    (truncf .bf16 (transpose S128x512 [1, 0] (mulf (pair c a b (View.ld X (Rect.unit (s := S512x1024) ![0, o] S512x128.size inb)))
      (broadcast S512x128 (Scalar.ofBits .f32 0x3E000000#32 : Ideal .f32))) transposes_S512x128_p1_0_S128x512 : FVec Ideal S128x512 .f32) bitsLt_bf16_f32 : FVec Ideal S128x512 .bf16) x
      = B6 X c a b ((Rect.unit (s := S1024x512) ![o, 0] S128x512.size inb').emb x) := by
  obtain ⟨l, r, rfl⟩ : ∃ l r, x = ix2 l r := ⟨_, _, eq_ix2 x⟩
  have hj : o + l.val < 1024 := lt_of_lt_of_le (Nat.add_lt_add_left l.isLt o) (inb' 0)
  have e : (Rect.unit (s := S1024x512) ![o, 0] S128x512.size inb').emb (ix2 l r) = (ix2 ⟨o + l.val, hj⟩ r : S1024x512.Idx) := funext fun a => Fin.ext (by
    match a with
    | ⟨0, _⟩ => show o + 1 * l.val = o + l.val; omega
    | ⟨1, _⟩ => show 0 + 1 * r.val = r.val; omega)
  rw [e, truncf_apply]
  refine (transpose_ix2_apply _ _ l r).trans ?_
  exact congrArg (fun z : EReal => z * Ideal.ofBits .f32 0x3E000000#32) (pair_ld X c a b o ho inb r l ⟨o + l.val, hj⟩ rfl)

theorem piece7 (o : ℕ) (ho : o % 128 = 0) (inb : ∀ a, (![0, o] : Fin 2 → ℕ) a + S512x128.size a ≤ S512x1024.size a) (x : S512x128.Idx) :
    (truncf .bf16 (pair c a b (View.ld X (Rect.unit (s := S512x1024) ![0, o] S512x128.size inb))) bitsLt_bf16_f32 : FVec Ideal S512x128 .bf16) x
      = B7 X c a b ((Rect.unit (s := S512x1024) ![0, o] S512x128.size inb).emb x) := by
  obtain ⟨r, l, rfl⟩ : ∃ r l, x = ix2 r l := ⟨_, _, eq_ix2 x⟩
  have hj : o + l.val < 1024 := lt_of_lt_of_le (Nat.add_lt_add_left l.isLt o) (inb 1)
  have e : (Rect.unit (s := S512x1024) ![0, o] S512x128.size inb).emb (ix2 r l) = (ix2 r ⟨o + l.val, hj⟩ : S512x1024.Idx) := funext fun a => Fin.ext (by
    match a with
    | ⟨0, _⟩ => show 0 + 1 * r.val = r.val; omega
    | ⟨1, _⟩ => show o + 1 * l.val = o + l.val; omega)
  rw [e]
  exact pair_ld X c a b o ho inb r l ⟨o + l.val, hj⟩ rfl

theorem piece8 (o : ℕ) (ho : o % 128 = 0) (inb : ∀ a, (![0, o] : Fin 2 → ℕ) a + S512x128.size a ≤ S512x1024.size a)
    (inb' : ∀ a, (![0, o, 0] : Fin 3 → ℕ) a + S1x128x512.size a ≤ S1x1024x512.size a) (x : S1x128x512.Idx) :
    (shapeCast S1x128x512 (transpose S128x512 [1, 0] (pair c a b (View.ld X (Rect.unit (s := S512x1024) ![0, o] S512x128.size inb)))
      transposes_S512x128_p1_0_S128x512 : FVec Ideal S128x512 .f32) shapeCasts_S128x512_S1x128x512 : FVec Ideal S1x128x512 .f32) x
      = B8 X c a b ((Rect.unit (s := S1x1024x512) ![0, o, 0] S1x128x512.size inb').emb x) := by
  obtain ⟨z, l, r, rfl⟩ : ∃ z l r, x = ix3 z l r := ⟨_, _, _, eq_ix3 x⟩
  obtain rfl : z = 0 := Subsingleton.elim _ _
  have hj : o + l.val < 1024 := lt_of_lt_of_le (Nat.add_lt_add_left l.isLt o) (inb' 1)
  have e : (Rect.unit (s := S1x1024x512) ![0, o, 0] S1x128x512.size inb').emb (ix3 0 l r) = (ix3 0 ⟨o + l.val, hj⟩ r : S1x1024x512.Idx) := funext fun a => Fin.ext (by
    match a with
    | ⟨0, _⟩ => rfl
    | ⟨1, _⟩ => show o + 1 * l.val = o + l.val; omega
    | ⟨2, _⟩ => show 0 + 1 * r.val = r.val; omega)
  rw [e]
  refine (shapeCast_apply _ _ _ (ix2 l r : S128x512.Idx) (by rw [rowMajor2, rowMajor3]; simp)).trans ?_
  refine (transpose_ix2_apply _ _ l r).trans ?_
  exact pair_ld X c a b o ho inb r l ⟨o + l.val, hj⟩ rfl

theorem piece9 (o : ℕ) (inb : ∀ a, (![0, o] : Fin 2 → ℕ) a + S512x128.size a ≤ S512x1024.size a)
    (inb' : ∀ a, (![o, 0] : Fin 2 → ℕ) a + S128x512.size a ≤ S1024x512.size a) (x : S128x512.Idx) :
    (truncf .bf16 (transpose S128x512 [1, 0] (View.ld X (Rect.unit (s := S512x1024) ![0, o] S512x128.size inb) : FVec Ideal S512x128 .f32)
      transposes_S512x128_p1_0_S128x512 : FVec Ideal S128x512 .f32) bitsLt_bf16_f32 : FVec Ideal S128x512 .bf16) x
      = B9 X ((Rect.unit (s := S1024x512) ![o, 0] S128x512.size inb').emb x) := by
  obtain ⟨l, r, rfl⟩ : ∃ l r, x = ix2 l r := ⟨_, _, eq_ix2 x⟩
  have hj : o + l.val < 1024 := lt_of_lt_of_le (Nat.add_lt_add_left l.isLt o) (inb' 0)
  have e : (Rect.unit (s := S1024x512) ![o, 0] S128x512.size inb').emb (ix2 l r) = (ix2 ⟨o + l.val, hj⟩ r : S1024x512.Idx) := funext fun a => Fin.ext (by
    match a with
    | ⟨0, _⟩ => show o + 1 * l.val = o + l.val; omega
    | ⟨1, _⟩ => show 0 + 1 * r.val = r.val; omega)
  rw [e, truncf_apply]
  refine (transpose_ix2_apply _ _ l r).trans ?_
  exact View.ld_unit_apply_of X _ _ inb _ (ix2 r ⟨o + l.val, hj⟩) fun a => by
    match a with
    | ⟨0, _⟩ => exact (Nat.zero_add _).symm
    | ⟨1, _⟩ => rfl

variable (x0 x1 x2 : Vec Ideal S512x1024 .f32) (x3 x4 x5 : Vec Ideal S512x128 .f32)

theorem fac0 (x : Vec Ideal S512x128 .f32) : k0_pay4 (View.ld x r0_0) = x ∧ k0_pay5 (View.ld x r0_0) = x ∧ k0_pay6 (View.ld x r0_0) = x := by
  have h0 : (![0, 0] : Fin 2 → ℕ) = fun _ => 0 := funext fun a => by fin_cases a <;> rfl
  unfold k0_pay4 k0_pay5 k0_pay6
  dsimp only
  rw [shapeCast_self, View.ld_unit_zero h0]
  exact ⟨rfl, rfl, rfl⟩

theorem out7_eq : out0_7 x0 x1 x2 x3 x4 x5 = B7 x1 x3 x4 x5 := by
  have e : B7 x1 x3 x4 x5 = B7 x1 (k0_pay4 (View.ld x3 r0_0)) (k0_pay5 (View.ld x4 r0_0)) (k0_pay6 (View.ld x5 r0_0)) := by
    rw [(fac0 x3).1, (fac0 x4).2.1, (fac0 x5).2.2]
  rw [e]
  funext y
  unfold out0_7
  refine View.canon_append_of_piecesOf _ [] _ ?_ y (cover0_7 _ _ _ _ _ _ _ _ y)
  exact ⟨piece7 x1 _ _ _ 896 rfl inb_S512x1024_S512x128_0_896,
    piece7 x1 _ _ _ 768 rfl inb_S512x1024_S512x128_0_768,
    piece7 x1 _ _ _ 640 rfl inb_S512x1024_S512x128_0_640,
    piece7 x1 _ _ _ 512 rfl inb_S512x1024_S512x128_0_512,
    piece7 x1 _ _ _ 384 rfl inb_S512x1024_S512x128_0_384,
    piece7 x1 _ _ _ 256 rfl inb_S512x1024_S512x128_0_256,
    piece7 x1 _ _ _ 128 rfl inb_S512x1024_S512x128_0_128,
    piece7 x1 _ _ _ 0 rfl inb_S512x1024_S512x128_0_0, trivial⟩

theorem out6_eq : out0_6 x0 x1 x2 x3 x4 x5 = B6 x0 x3 x4 x5 := by
  have e : B6 x0 x3 x4 x5 = B6 x0 (k0_pay4 (View.ld x3 r0_0)) (k0_pay5 (View.ld x4 r0_0)) (k0_pay6 (View.ld x5 r0_0)) := by
    rw [(fac0 x3).1, (fac0 x4).2.1, (fac0 x5).2.2]
  rw [e]
  funext y
  unfold out0_6
  refine View.canon_append_of_piecesOf _ [] _ ?_ y (cover0_6 _ _ _ _ _ _ _ _ y)
  exact ⟨piece6 x0 _ _ _ 896 rfl inb_S512x1024_S512x128_0_896 inb_S1024x512_S128x512_896_0,
    piece6 x0 _ _ _ 768 rfl inb_S512x1024_S512x128_0_768 inb_S1024x512_S128x512_768_0,
    piece6 x0 _ _ _ 640 rfl inb_S512x1024_S512x128_0_640 inb_S1024x512_S128x512_640_0,
    piece6 x0 _ _ _ 512 rfl inb_S512x1024_S512x128_0_512 inb_S1024x512_S128x512_512_0,
    piece6 x0 _ _ _ 384 rfl inb_S512x1024_S512x128_0_384 inb_S1024x512_S128x512_384_0,
    piece6 x0 _ _ _ 256 rfl inb_S512x1024_S512x128_0_256 inb_S1024x512_S128x512_256_0,
    piece6 x0 _ _ _ 128 rfl inb_S512x1024_S512x128_0_128 inb_S1024x512_S128x512_128_0,
    piece6 x0 _ _ _ 0 rfl inb_S512x1024_S512x128_0_0 inb_S1024x512_S128x512_0_0, trivial⟩

theorem out8_eq : out0_8 x0 x1 x2 x3 x4 x5 = B8 x1 x3 x4 x5 := by
  have e : B8 x1 x3 x4 x5 = B8 x1 (k0_pay4 (View.ld x3 r0_0)) (k0_pay5 (View.ld x4 r0_0)) (k0_pay6 (View.ld x5 r0_0)) := by
    rw [(fac0 x3).1, (fac0 x4).2.1, (fac0 x5).2.2]
  rw [e]
  funext y
  unfold out0_8
  refine View.canon_append_of_piecesOf _ [] _ ?_ y (cover0_8 _ _ _ _ _ _ _ _ y)
  exact ⟨piece8 x1 _ _ _ 896 rfl inb_S512x1024_S512x128_0_896 inb_S1x1024x512_S1x128x512_0_896_0,
    piece8 x1 _ _ _ 768 rfl inb_S512x1024_S512x128_0_768 inb_S1x1024x512_S1x128x512_0_768_0,
    piece8 x1 _ _ _ 640 rfl inb_S512x1024_S512x128_0_640 inb_S1x1024x512_S1x128x512_0_640_0,
    piece8 x1 _ _ _ 512 rfl inb_S512x1024_S512x128_0_512 inb_S1x1024x512_S1x128x512_0_512_0,
    piece8 x1 _ _ _ 384 rfl inb_S512x1024_S512x128_0_384 inb_S1x1024x512_S1x128x512_0_384_0,
    piece8 x1 _ _ _ 256 rfl inb_S512x1024_S512x128_0_256 inb_S1x1024x512_S1x128x512_0_256_0,
    piece8 x1 _ _ _ 128 rfl inb_S512x1024_S512x128_0_128 inb_S1x1024x512_S1x128x512_0_128_0,
    piece8 x1 _ _ _ 0 rfl inb_S512x1024_S512x128_0_0 inb_S1x1024x512_S1x128x512_0_0_0, trivial⟩

theorem out9_eq : out0_9 x0 x1 x2 x3 x4 x5 = B9 x2 := by
  funext y
  unfold out0_9
  refine View.canon_append_of_piecesOf _ [] _ ?_ y (cover0_9 _ _ _ _ _ _ _ _ y)
  exact ⟨piece9 x2 896 inb_S512x1024_S512x128_0_896 inb_S1024x512_S128x512_896_0,
    piece9 x2 768 inb_S512x1024_S512x128_0_768 inb_S1024x512_S128x512_768_0,
    piece9 x2 640 inb_S512x1024_S512x128_0_640 inb_S1024x512_S128x512_640_0,
    piece9 x2 512 inb_S512x1024_S512x128_0_512 inb_S1024x512_S128x512_512_0,
    piece9 x2 384 inb_S512x1024_S512x128_0_384 inb_S1024x512_S128x512_384_0,
    piece9 x2 256 inb_S512x1024_S512x128_0_256 inb_S1024x512_S128x512_256_0,
    piece9 x2 128 inb_S512x1024_S512x128_0_128 inb_S1024x512_S128x512_128_0,
    piece9 x2 0 inb_S512x1024_S512x128_0_0 inb_S1024x512_S128x512_0_0, trivial⟩

end Cert.RopeIdeal.Proj

end
-- ==== Proof.Proj.RopeRef.lean ====
/-
The reference's rotation, read at an index.
-/
module

public import proofs.«01_k».proof.Proof.Proj.RopeRow
public import proofs.«01_k».proof.Proof.Gen.RopeRefIdeal.Read

@[expose] public section

set_option maxRecDepth 16384
set_option maxHeartbeats 1000000

noncomputable section

namespace Cert.RopeRefIdeal.Proj

open Idealize.ShloMosaic Idealize.ShloMosaic.ValueIdx Idealize.ShloMosaic.TcCoe
open Cert.RopeRefIdeal Cert.RopeRefIdeal.Gen Cert.RopeRefIdeal.Read Cert.Turn

variable (x0 : (⟨S16384x6144, .f32⟩ : BufTy).Contents (Elt Ideal))

/-- The cosines and the sines of the angles of a position. -/
def cosAt (p : Fin 8192) (j : Fin 8) : EReal := val_main_v17 (F := Ideal) (ix2 p j)
def sinAt (p : Fin 8192) (j : Fin 8) : EReal := val_main_v19 (F := Ideal) (ix2 p j)

/-- The queries, keys and values of a row: 1024 entries each. -/
def qRow (i : Fin 16384) (k : Fin 1024) : EReal := x0 (ix2 i ⟨1024 + k.val, by omega⟩)
def kRow (i : Fin 16384) (k : Fin 1024) : EReal := x0 (ix2 i ⟨2048 + k.val, by omega⟩)
def vRow (i : Fin 16384) (k : Fin 1024) : EReal := x0 (ix2 i ⟨3072 + k.val, by omega⟩)

/-- A position of a batch, and the row it has. -/
abbrev rowOf (b : Fin 2) (p : Fin 8192) : Fin 16384 := ⟨b.val * 8192 + p.val, by omega⟩
abbrev colOf (h : Fin 16) (e : Fin 64) : Fin 1024 := ⟨h.val * 64 + e.val, by omega⟩

theorem q_at (b : Fin 2) (p : Fin 8192) (h : Fin 16) (e : Fin 64) :
    val_main_v22 (F := Ideal) x0 (ix4 b p h e) = qRow x0 (rowOf b p) (colOf h e) := by
  rw [val_main_v22_apply, val_main_v21_apply]
  refine congrArg x0 (funext fun a => Fin.ext ?_)
  match a with
  | ⟨0, _⟩ => show (((b.val * 8192 + p.val) * 16 + h.val) * 64 + e.val) / 1024 = b.val * 8192 + p.val; omega
  | ⟨1, _⟩ => show 1024 + (((b.val * 8192 + p.val) * 16 + h.val) * 64 + e.val) % 1024 = 1024 + (h.val * 64 + e.val); omega

theorem k_at (b : Fin 2) (p : Fin 8192) (h : Fin 16) (e : Fin 64) :
    val_main_v42 (F := Ideal) x0 (ix4 b p h e) = kRow x0 (rowOf b p) (colOf h e) := by
  rw [val_main_v42_apply, val_main_v41_apply]
  refine congrArg x0 (funext fun a => Fin.ext ?_)
  match a with
  | ⟨0, _⟩ => show (((b.val * 8192 + p.val) * 16 + h.val) * 64 + e.val) / 1024 = b.val * 8192 + p.val; omega
  | ⟨1, _⟩ => show 2048 + (((b.val * 8192 + p.val) * 16 + h.val) * 64 + e.val) % 1024 = 2048 + (h.val * 64 + e.val); omega

theorem cos_at (p : Fin 8192) (j : Fin 8) : val_main_v18 (F := Ideal) (ix4 0 p 0 j) = cosAt p j := by
  rw [val_main_v18_apply]
  exact congrArg (val_main_v17 (F := Ideal)) (eq_ix2 _)

theorem sin_at (p : Fin 8192) (j : Fin 8) : val_main_v20 (F := Ideal) (ix4 0 p 0 j) = sinAt p j := by
  rw [val_main_v20_apply]
  exact congrArg (val_main_v19 (F := Ideal)) (eq_ix2 _)

/-- The three parts of the turned queries. -/
theorem qlo (b : Fin 2) (p : Fin 8192) (h : Fin 16) (j : Fin 8) :
    val_main_v29 (F := Ideal) x0 (ix4 b p h j)
      = qRow x0 (rowOf b p) (colOf h ⟨j.val, by omega⟩) * cosAt p j - qRow x0 (rowOf b p) (colOf h ⟨8 + j.val, by omega⟩) * sinAt p j := by
  have e1 : idx_main_v23 (ix4 b p h j) = ix4 b p h ⟨j.val, by omega⟩ := eq_ix4 _
  have e2 : idx_main_v24 (ix4 b p h j) = ix4 b p h ⟨8 + j.val, by omega⟩ := eq_ix4 _
  have e3 : idx_main_v25 (ix4 b p h j) = ix4 0 p 0 j := eq_ix4 _
  have e4 : idx_main_v27 (ix4 b p h j) = ix4 0 p 0 j := eq_ix4 _
  rw [val_main_v29_apply, val_main_v26_apply, val_main_v28_apply, val_main_v23_apply, val_main_v24_apply, val_main_v25_apply, val_main_v27_apply,
    e1, e2, e3, e4, q_at, q_at, cos_at, sin_at]
  rfl

theorem qmid (b : Fin 2) (p : Fin 8192) (h : Fin 16) (j : Fin 8) :
    val_main_v34 (F := Ideal) x0 (ix4 b p h j)
      = qRow x0 (rowOf b p) (colOf h ⟨8 + j.val, by omega⟩) * cosAt p j + qRow x0 (rowOf b p) (colOf h ⟨j.val, by omega⟩) * sinAt p j := by
  have e1 : idx_main_v23 (ix4 b p h j) = ix4 b p h ⟨j.val, by omega⟩ := eq_ix4 _
  have e2 : idx_main_v24 (ix4 b p h j) = ix4 b p h ⟨8 + j.val, by omega⟩ := eq_ix4 _
  have e3 : idx_main_v30 (ix4 b p h j) = ix4 0 p 0 j := eq_ix4 _
  have e4 : idx_main_v32 (ix4 b p h j) = ix4 0 p 0 j := eq_ix4 _
  rw [val_main_v34_apply, val_main_v31_apply, val_main_v33_apply, val_main_v23_apply, val_main_v24_apply, val_main_v30_apply, val_main_v32_apply,
    e1, e2, e3, e4, q_at, q_at, cos_at, sin_at]
  rfl

theorem qhi (b : Fin 2) (p : Fin 8192) (h : Fin 16) (j : Fin 48) :
    val_main_v35 (F := Ideal) x0 (ix4 b p h j) = qRow x0 (rowOf b p) (colOf h ⟨16 + j.val, by omega⟩) := by
  have e1 : idx_main_v35 (ix4 b p h j) = ix4 b p h ⟨16 + j.val, by omega⟩ := eq_ix4 _
  rw [val_main_v35_apply, e1, q_at]

/-- The three parts of the turned keys. -/
theorem klo (b : Fin 2) (p : Fin 8192) (h : Fin 16) (j : Fin 8) :
    val_main_v49 (F := Ideal) x0 (ix4 b p h j)
      = kRow x0 (rowOf b p) (colOf h ⟨j.val, by omega⟩) * cosAt p j - kRow x0 (rowOf b p) (colOf h ⟨8 + j.val, by omega⟩) * sinAt p j := by
  have e1 : idx_main_v43 (ix4 b p h j) = ix4 b p h ⟨j.val, by omega⟩ := eq_ix4 _
  have e2 : idx_main_v44 (ix4 b p h j) = ix4 b p h ⟨8 + j.val, by omega⟩ := eq_ix4 _
  have e3 : idx_main_v45 (ix4 b p h j) = ix4 0 p 0 j := eq_ix4 _
  have e4 : idx_main_v47 (ix4 b p h j) = ix4 0 p 0 j := eq_ix4 _
  rw [val_main_v49_apply, val_main_v46_apply, val_main_v48_apply, val_main_v43_apply, val_main_v44_apply, val_main_v45_apply, val_main_v47_apply,
    e1, e2, e3, e4, k_at, k_at, cos_at, sin_at]
  rfl

theorem kmid (b : Fin 2) (p : Fin 8192) (h : Fin 16) (j : Fin 8) :
    val_main_v54 (F := Ideal) x0 (ix4 b p h j)
      = kRow x0 (rowOf b p) (colOf h ⟨8 + j.val, by omega⟩) * cosAt p j + kRow x0 (rowOf b p) (colOf h ⟨j.val, by omega⟩) * sinAt p j := by
  have e1 : idx_main_v43 (ix4 b p h j) = ix4 b p h ⟨j.val, by omega⟩ := eq_ix4 _
  have e2 : idx_main_v44 (ix4 b p h j) = ix4 b p h ⟨8 + j.val, by omega⟩ := eq_ix4 _
  have e3 : idx_main_v50 (ix4 b p h j) = ix4 0 p 0 j := eq_ix4 _
  have e4 : idx_main_v52 (ix4 b p h j) = ix4 0 p 0 j := eq_ix4 _
  rw [val_main_v54_apply, val_main_v51_apply, val_main_v53_apply, val_main_v43_apply, val_main_v44_apply, val_main_v50_apply, val_main_v52_apply,
    e1, e2, e3, e4, k_at, k_at, cos_at, sin_at]
  rfl

theorem khi (b : Fin 2) (p : Fin 8192) (h : Fin 16) (j : Fin 48) :
    val_main_v55 (F := Ideal) x0 (ix4 b p h j) = kRow x0 (rowOf b p) (colOf h ⟨16 + j.val, by omega⟩) := by
  have e1 : idx_main_v55 (ix4 b p h j) = ix4 b p h ⟨16 + j.val, by omega⟩ := eq_ix4 _
  rw [val_main_v55_apply, e1, k_at]

/-- Three parts of each head joined. -/
theorem join (u v : (⟨S2x8192x16x8, .f32⟩ : BufTy).Contents (Elt Ideal)) (w : (⟨S2x8192x16x48, .f32⟩ : BufTy).Contents (Elt Ideal))
    (x : Fin 1024 → EReal) (C S : Fin 8 → EReal) (b : Fin 2) (p : Fin 8192) (h : Fin 16) (e : Fin 64)
    (hu : ∀ j : Fin 8, u (ix4 b p h j) = x (colOf h ⟨j.val, by omega⟩) * C j - x (colOf h ⟨8 + j.val, by omega⟩) * S j)
    (hv : ∀ j : Fin 8, v (ix4 b p h j) = x (colOf h ⟨8 + j.val, by omega⟩) * C j + x (colOf h ⟨j.val, by omega⟩) * S j)
    (hw : ∀ j : Fin 48, w (ix4 b p h j) = x (colOf h ⟨16 + j.val, by omega⟩)) :
    (concatenate S2x8192x16x64 3 [⟨S2x8192x16x8, u⟩, ⟨S2x8192x16x8, v⟩, ⟨S2x8192x16x48, w⟩]
      concatenates_S2x8192x16x8_S2x8192x16x8_S2x8192x16x48_S2x8192x16x64_d3 : (⟨S2x8192x16x64, .f32⟩ : BufTy).Contents (Elt Ideal)) (ix4 b p h e)
      = turn x C S (colOf h e) := by
  have hm : (colOf h e).val % 64 = e.val := by show (h.val * 64 + e.val) % 64 = e.val; omega
  unfold turn
  by_cases h1 : e.val < 8
  · rw [dif_pos (by rw [hm]; exact h1)]
    refine (concatenate_apply_piece (t := S2x8192x16x64) 3 _ _ _ 0 (by simp) S2x8192x16x8 _ rfl rfl 0 (by rfl) (ix4 b p h ⟨e.val, h1⟩) (fun a ha => by
      match a with
      | ⟨0, _⟩ => rfl
      | ⟨1, _⟩ => rfl
      | ⟨2, _⟩ => rfl
      | ⟨3, _⟩ => exact absurd rfl ha) (Nat.zero_add _)).trans ?_
    rw [hu]
    have ej : (⟨(colOf h e).val % 64, by rw [hm]; exact h1⟩ : Fin 8) = ⟨e.val, h1⟩ := Fin.ext hm
    rw [ej]
    refine congrArg (fun k => x (colOf h e) * C ⟨e.val, h1⟩ - x k * S ⟨e.val, h1⟩) (Fin.ext ?_)
    show h.val * 64 + (8 + e.val) = h.val * 64 + e.val + 8
    omega
  · rw [dif_neg (by rw [hm]; exact h1)]
    by_cases h2 : e.val < 16
    · rw [dif_pos (by rw [hm]; exact h2)]
      refine (concatenate_apply_piece (t := S2x8192x16x64) 3 _ _ _ 1 (by simp) S2x8192x16x8 _ rfl rfl 8 (by rfl) (ix4 b p h ⟨e.val - 8, by omega⟩) (fun a ha => by
        match a with
        | ⟨0, _⟩ => rfl
        | ⟨1, _⟩ => rfl
        | ⟨2, _⟩ => rfl
        | ⟨3, _⟩ => exact absurd rfl ha) (by show 8 + (e.val - 8) = e.val; omega)).trans ?_
      rw [hv]
      have ej : (⟨(colOf h e).val % 64 - 8, by rw [hm]; omega⟩ : Fin 8) = ⟨e.val - 8, by omega⟩ := Fin.ext (by show (colOf h e).val % 64 - 8 = e.val - 8; rw [hm])
      rw [ej]
      have e1 : colOf h ⟨8 + (e.val - 8), by omega⟩ = colOf h e := Fin.ext (by show h.val * 64 + (8 + (e.val - 8)) = h.val * 64 + e.val; omega)
      have e2 : colOf h ⟨e.val - 8, by omega⟩ = ⟨(colOf h e).val - 8, by omega⟩ := Fin.ext (by show h.val * 64 + (e.val - 8) = h.val * 64 + e.val - 8; omega)
      exact congrArg₂ (fun k k' => x k * C ⟨e.val - 8, by omega⟩ + x k' * S ⟨e.val - 8, by omega⟩) e1 e2
    · rw [dif_neg (by rw [hm]; exact h2)]
      refine (concatenate_apply_piece (t := S2x8192x16x64) 3 _ _ _ 2 (by simp) S2x8192x16x48 _ rfl rfl 16 (by rfl) (ix4 b p h ⟨e.val - 16, by omega⟩) (fun a ha => by
        match a with
        | ⟨0, _⟩ => rfl
        | ⟨1, _⟩ => rfl
        | ⟨2, _⟩ => rfl
        | ⟨3, _⟩ => exact absurd rfl ha) (by show 16 + (e.val - 16) = e.val; omega)).trans ?_
      rw [hw]
      exact congrArg x (Fin.ext (by show h.val * 64 + (16 + (e.val - 16)) = h.val * 64 + e.val; omega))

theorem q_turned (b : Fin 2) (p : Fin 8192) (j : Fin 1024) :
    val_main_v37 (F := Ideal) x0 (ix3 b p j) = turn (qRow x0 (rowOf b p)) (cosAt p) (sinAt p) j := by
  have ei : idx_main_v37 (ix3 b p j) = ix4 b p ⟨j.val / 64, by omega⟩ ⟨j.val % 64, by omega⟩ := funext fun a => Fin.ext (by
    match a with
    | ⟨0, _⟩ => show ((b.val * 8192 + p.val) * 1024 + j.val) / 8388608 = b.val; omega
    | ⟨1, _⟩ => show ((b.val * 8192 + p.val) * 1024 + j.val) / 1024 % 8192 = p.val; omega
    | ⟨2, _⟩ => show ((b.val * 8192 + p.val) * 1024 + j.val) / 64 % 16 = j.val / 64; omega
    | ⟨3, _⟩ => show ((b.val * 8192 + p.val) * 1024 + j.val) % 64 = j.val % 64; omega)
  rw [val_main_v37_apply, ei]
  unfold val_main_v36
  rw [join _ _ _ _ _ _ b p _ _ (qlo x0 b p _) (qmid x0 b p _) (qhi x0 b p _)]
  exact congrArg _ (Fin.ext (by show j.val / 64 * 64 + j.val % 64 = j.val; omega))

theorem k_turned (b : Fin 2) (p : Fin 8192) (j : Fin 1024) :
    val_main_v57 (F := Ideal) x0 (ix3 b p j) = turn (kRow x0 (rowOf b p)) (cosAt p) (sinAt p) j := by
  have ei : idx_main_v57 (ix3 b p j) = ix4 b p ⟨j.val / 64, by omega⟩ ⟨j.val % 64, by omega⟩ := funext fun a => Fin.ext (by
    match a with
    | ⟨0, _⟩ => show ((b.val * 8192 + p.val) * 1024 + j.val) / 8388608 = b.val; omega
    | ⟨1, _⟩ => show ((b.val * 8192 + p.val) * 1024 + j.val) / 1024 % 8192 = p.val; omega
    | ⟨2, _⟩ => show ((b.val * 8192 + p.val) * 1024 + j.val) / 64 % 16 = j.val / 64; omega
    | ⟨3, _⟩ => show ((b.val * 8192 + p.val) * 1024 + j.val) % 64 = j.val % 64; omega)
  rw [val_main_v57_apply, ei]
  unfold val_main_v56
  rw [join _ _ _ _ _ _ b p _ _ (klo x0 b p _) (kmid x0 b p _) (khi x0 b p _)]
  exact congrArg _ (Fin.ext (by show j.val / 64 * 64 + j.val % 64 = j.val; omega))

/-- The position of a row. -/
abbrev posOf (i : Fin 16384) : Fin 8192 := ⟨i.val % 8192, by omega⟩

/-- The four results: the queries turned and scaled, column by column; the keys turned, row by row and batch by
    batch; the values, column by column. -/
def qRes : (⟨S1024x16384, .bf16⟩ : BufTy).Contents (Elt Ideal) := fun (i : S1024x16384.Idx) =>
  turn (qRow x0 (i 1)) (cosAt (posOf (i 1))) (sinAt (posOf (i 1))) (i 0) * Ideal.ofBits .f32 0x3E000000#32
def kRes : (⟨S16384x1024, .bf16⟩ : BufTy).Contents (Elt Ideal) := fun (i : S16384x1024.Idx) =>
  turn (kRow x0 (i 0)) (cosAt (posOf (i 0))) (sinAt (posOf (i 0))) (i 1)
def tRes : (⟨S2x1024x8192, .f32⟩ : BufTy).Contents (Elt Ideal) := fun (i : S2x1024x8192.Idx) =>
  turn (kRow x0 (rowOf (i 0) (i 2))) (cosAt (i 2)) (sinAt (i 2)) (i 1)
def vRes : (⟨S1024x16384, .bf16⟩ : BufTy).Contents (Elt Ideal) := fun (i : S1024x16384.Idx) => vRow x0 (i 1) (i 0)

theorem row_pos (i : Fin 16384) : rowOf ⟨i.val / 8192, by omega⟩ (posOf i) = i := Fin.ext (by show i.val / 8192 * 8192 + i.val % 8192 = i.val; omega)

theorem q_eq : val_main_v60 (F := Ideal) x0 = qRes x0 := funext fun (i : S1024x16384.Idx) => by
  obtain ⟨j, r, rfl⟩ : ∃ j r, i = ix2 j r := ⟨_, _, eq_ix2 i⟩
  have e1 : idx_main_v59 (ix2 j r) = ix2 r j := eq_ix2 _
  have e2 : idx_main_v38 (ix2 r j) = ix3 ⟨r.val / 8192, by omega⟩ (posOf r) j := funext fun a => Fin.ext (by
    match a with
    | ⟨0, _⟩ => show (r.val * 1024 + j.val) / 8388608 = r.val / 8192; omega
    | ⟨1, _⟩ => show (r.val * 1024 + j.val) / 1024 % 8192 = r.val % 8192; omega
    | ⟨2, _⟩ => show (r.val * 1024 + j.val) % 1024 = j.val; omega)
  rw [val_main_v60_apply, val_main_v59_apply, e1, val_main_v40_apply, val_main_v38_apply, e2, q_turned, row_pos, val_main_v39_apply, val_main_cst_3_apply]
  rfl

theorem k_eq : val_main_v62 (F := Ideal) x0 = kRes x0 := funext fun (i : S16384x1024.Idx) => by
  obtain ⟨r, j, rfl⟩ : ∃ r j, i = ix2 r j := ⟨_, _, eq_ix2 i⟩
  have e2 : idx_main_v61 (ix2 r j) = ix3 ⟨r.val / 8192, by omega⟩ (posOf r) j := funext fun a => Fin.ext (by
    match a with
    | ⟨0, _⟩ => show (r.val * 1024 + j.val) / 8388608 = r.val / 8192; omega
    | ⟨1, _⟩ => show (r.val * 1024 + j.val) / 1024 % 8192 = r.val % 8192; omega
    | ⟨2, _⟩ => show (r.val * 1024 + j.val) % 1024 = j.val; omega)
  rw [val_main_v62_apply, val_main_v61_apply, e2, k_turned, row_pos]
  rfl

theorem t_eq : val_main_v63 (F := Ideal) x0 = tRes x0 := funext fun (i : S2x1024x8192.Idx) => by
  obtain ⟨b, j, p, rfl⟩ : ∃ b j p, i = ix3 b j p := ⟨_, _, _, eq_ix3 i⟩
  have e2 : idx_main_v63 (ix3 b j p) = ix3 b p j := eq_ix3 _
  rw [val_main_v63_apply, e2, k_turned]
  rfl

theorem v_eq : val_main_v65 (F := Ideal) x0 = vRes x0 := funext fun (i : S1024x16384.Idx) => by
  obtain ⟨j, r, rfl⟩ : ∃ j r, i = ix2 j r := ⟨_, _, eq_ix2 i⟩
  have e1 : idx_main_v64 (ix2 j r) = ix2 r j := eq_ix2 _
  have e2 : idx_main_v58 (ix2 r j) = ix2 r ⟨3072 + j.val, by omega⟩ := eq_ix2 _
  rw [val_main_v65_apply, val_main_v64_apply, e1, val_main_v58_apply, e2]
  rfl

end Cert.RopeRefIdeal.Proj

end
-- ==== Proof.Proj.RopeFin.lean ====
/-
The rotation kernel's four result arrays.
-/
module

public import proofs.«01_k».proof.Proof.Proj.RopeBlk
public import proofs.«01_k».proof.Proof.Proj.RopeRef

@[expose] public section

set_option maxRecDepth 16384
set_option maxHeartbeats 1000000

noncomputable section

namespace Cert.RopeIdeal.Proj

open Idealize.ShloMosaic Idealize.ShloMosaic.ValueIdx Idealize.ShloMosaic.TcCoe
open Cert.RopeIdeal Cert.RopeIdeal.Gen Cert.RopeIdeal.Value Cert.Turn
open Cert.RopeRefIdeal.Proj (cosAt sinAt qRow kRow vRow posOf rowOf qRes kRes tRes vRes)

/-! ## The tables of factors -/

/-- Three tables side by side: 8, 8 and 48 columns. -/
theorem cat3 (u v : (⟨S8192x8, .f32⟩ : BufTy).Contents (Elt Ideal)) (w : (⟨S8192x48, .f32⟩ : BufTy).Contents (Elt Ideal)) (p : Fin 8192) (e : Fin 64) :
    (concatenate S8192x64 1 [⟨S8192x8, u⟩, ⟨S8192x8, v⟩, ⟨S8192x48, w⟩] concatenates_S8192x8_S8192x8_S8192x48_S8192x64_d1 :
      (⟨S8192x64, .f32⟩ : BufTy).Contents (Elt Ideal)) (ix2 p e)
      = if h : e.val < 8 then u (ix2 p ⟨e.val, h⟩) else if h' : e.val < 16 then v (ix2 p ⟨e.val - 8, by omega⟩) else w (ix2 p ⟨e.val - 16, by omega⟩) := by
  by_cases h : e.val < 8
  · rw [dif_pos h]
    exact concatenate_apply_piece (t := S8192x64) 1 _ _ _ 0 (by simp) S8192x8 _ rfl rfl 0 (by rfl) (ix2 p ⟨e.val, h⟩) (fun b hb => by
      match b with
      | ⟨0, _⟩ => rfl
      | ⟨1, _⟩ => exact absurd rfl hb) (Nat.zero_add _)
  · rw [dif_neg h]
    by_cases h' : e.val < 16
    · rw [dif_pos h']
      exact concatenate_apply_piece (t := S8192x64) 1 _ _ _ 1 (by simp) S8192x8 _ rfl rfl 8 (by rfl) (ix2 p ⟨e.val - 8, by omega⟩) (fun b hb => by
        match b with
        | ⟨0, _⟩ => rfl
        | ⟨1, _⟩ => exact absurd rfl hb) (by show 8 + (e.val - 8) = e.val; omega)
    · rw [dif_neg h']
      exact concatenate_apply_piece (t := S8192x64) 1 _ _ _ 2 (by simp) S8192x48 _ rfl rfl 16 (by rfl) (ix2 p ⟨e.val - 16, by omega⟩) (fun b hb => by
        match b with
        | ⟨0, _⟩ => rfl
        | ⟨1, _⟩ => exact absurd rfl hb) (by show 16 + (e.val - 16) = e.val; omega)

/-- A table of 64 columns, twice. -/
theorem cat2 (x : (⟨S8192x64, .f32⟩ : BufTy).Contents (Elt Ideal)) (p : Fin 8192) (l : Fin 128) :
    (concatenate S8192x128 1 [⟨S8192x64, x⟩, ⟨S8192x64, x⟩] concatenates_S8192x64_S8192x64_S8192x128_d1 :
      (⟨S8192x128, .f32⟩ : BufTy).Contents (Elt Ideal)) (ix2 p l) = x (ix2 p ⟨l.val % 64, Nat.mod_lt _ (by decide)⟩) := by
  by_cases h : l.val < 64
  · exact concatenate_apply_piece (t := S8192x128) 1 _ _ _ 0 (by simp) S8192x64 _ rfl rfl 0 (by rfl) (ix2 p ⟨l.val % 64, Nat.mod_lt _ (by decide)⟩) (fun b hb => by
      match b with
      | ⟨0, _⟩ => rfl
      | ⟨1, _⟩ => exact absurd rfl hb) (by show 0 + l.val % 64 = l.val; omega)
  · exact concatenate_apply_piece (t := S8192x128) 1 _ _ _ 1 (by simp) S8192x64 _ rfl rfl 64 (by rfl) (ix2 p ⟨l.val % 64, Nat.mod_lt _ (by decide)⟩) (fun b hb => by
      match b with
      | ⟨0, _⟩ => rfl
      | ⟨1, _⟩ => exact absurd rfl hb) (by show 64 + l.val % 64 = l.val; omega)

/-- The tables the factors are made of. -/
def cosT : (⟨S8192x8, .f32⟩ : BufTy).Contents (Elt Ideal) := Cert.RopeRefIdeal.Read.val_main_v17 (F := Ideal)
def sinT : (⟨S8192x8, .f32⟩ : BufTy).Contents (Elt Ideal) := Cert.RopeRefIdeal.Read.val_main_v19 (F := Ideal)
def nilT : (⟨S8192x8, .f32⟩ : BufTy).Contents (Elt Ideal) := broadcastInDim S8192x8 ![] bcast_S_S8192x8 (constant (F := Ideal) S_ .f32 0x00000000#32)
def nilW : (⟨S8192x48, .f32⟩ : BufTy).Contents (Elt Ideal) := broadcastInDim S8192x48 ![] bcast_S_S8192x48 (constant (F := Ideal) S_ .f32 0x00000000#32)
def oneW : (⟨S8192x48, .f32⟩ : BufTy).Contents (Elt Ideal) := addf (nilW : FVec Ideal S8192x48 .f32) (broadcastInDim S8192x48 ![] bcast_S_S8192x48 (constant (F := Ideal) S_ .f32 0x3F800000#32) : FVec Ideal S8192x48 .f32)

theorem nilT_apply (i : S8192x8.Idx) : nilT i = (0 : EReal) := Cert.KernelIdeal.Attn.zero_f32
theorem nilW_apply (i : S8192x48.Idx) : nilW i = (0 : EReal) := Cert.KernelIdeal.Attn.zero_f32
theorem oneW_apply (i : S8192x48.Idx) : oneW i = (1 : EReal) := by
  show (nilW i : EReal) + (Scalar.ofBits (F := Ideal) .f32 0x3F800000#32 : EReal) = 1
  rw [nilW_apply, Cert.KernelIdeal.Attn.one_f32, zero_add]

variable (m : (ℓ : Loc nD τ sig) → Buf (Elt Ideal) ℓ) (c : Dev nD)

theorem V_c : V m c main_v27 = (concatenate S8192x128 1
    [⟨S8192x64, (concatenate S8192x64 1 [⟨S8192x8, cosT⟩, ⟨S8192x8, cosT⟩, ⟨S8192x48, oneW⟩] concatenates_S8192x8_S8192x8_S8192x48_S8192x64_d1 : (⟨S8192x64, .f32⟩ : BufTy).Contents (Elt Ideal))⟩,
     ⟨S8192x64, (concatenate S8192x64 1 [⟨S8192x8, cosT⟩, ⟨S8192x8, cosT⟩, ⟨S8192x48, oneW⟩] concatenates_S8192x8_S8192x8_S8192x48_S8192x64_d1 : (⟨S8192x64, .f32⟩ : BufTy).Contents (Elt Ideal))⟩]
    concatenates_S8192x64_S8192x64_S8192x128_d1 : (⟨S8192x128, .f32⟩ : BufTy).Contents (Elt Ideal)) := rfl

theorem V_a : V m c main_v28 = (concatenate S8192x128 1
    [⟨S8192x64, (concatenate S8192x64 1 [⟨S8192x8, (Host.negf (sinT : FVec Ideal S8192x8 .f32) : FVec Ideal S8192x8 .f32)⟩, ⟨S8192x8, nilT⟩, ⟨S8192x48, nilW⟩] concatenates_S8192x8_S8192x8_S8192x48_S8192x64_d1 : (⟨S8192x64, .f32⟩ : BufTy).Contents (Elt Ideal))⟩,
     ⟨S8192x64, (concatenate S8192x64 1 [⟨S8192x8, (Host.negf (sinT : FVec Ideal S8192x8 .f32) : FVec Ideal S8192x8 .f32)⟩, ⟨S8192x8, nilT⟩, ⟨S8192x48, nilW⟩] concatenates_S8192x8_S8192x8_S8192x48_S8192x64_d1 : (⟨S8192x64, .f32⟩ : BufTy).Contents (Elt Ideal))⟩]
    concatenates_S8192x64_S8192x64_S8192x128_d1 : (⟨S8192x128, .f32⟩ : BufTy).Contents (Elt Ideal)) := rfl

theorem V_b : V m c main_v29 = (concatenate S8192x128 1
    [⟨S8192x64, (concatenate S8192x64 1 [⟨S8192x8, nilT⟩, ⟨S8192x8, sinT⟩, ⟨S8192x48, nilW⟩] concatenates_S8192x8_S8192x8_S8192x48_S8192x64_d1 : (⟨S8192x64, .f32⟩ : BufTy).Contents (Elt Ideal))⟩,
     ⟨S8192x64, (concatenate S8192x64 1 [⟨S8192x8, nilT⟩, ⟨S8192x8, sinT⟩, ⟨S8192x48, nilW⟩] concatenates_S8192x8_S8192x8_S8192x48_S8192x64_d1 : (⟨S8192x64, .f32⟩ : BufTy).Contents (Elt Ideal))⟩]
    concatenates_S8192x64_S8192x64_S8192x128_d1 : (⟨S8192x128, .f32⟩ : BufTy).Contents (Elt Ideal)) := rfl

theorem tab_c (p : Fin 8192) (l : Fin 128) : V m c main_v27 (ix2 p l : S8192x128.Idx) = fac (cosAt p) (l.val % 64) := by
  rw [V_c]
  refine (cat2 _ p l).trans ((cat3 _ _ _ p _).trans ?_)
  unfold fac
  dsimp only
  by_cases h : l.val % 64 < 8
  · rw [dif_pos h, dif_pos h]
    rfl
  · rw [dif_neg h, dif_neg h]
    by_cases h' : l.val % 64 < 16
    · rw [dif_pos h', dif_pos h']
      rfl
    · rw [dif_neg h', dif_neg h']
      exact oneW_apply _

theorem tab_a (p : Fin 8192) (l : Fin 128) : V m c main_v28 (ix2 p l : S8192x128.Idx) = facA (sinAt p) (l.val % 64) := by
  rw [V_a]
  refine (cat2 _ p l).trans ((cat3 _ _ _ p _).trans ?_)
  unfold facA
  dsimp only
  by_cases h : l.val % 64 < 8
  · rw [dif_pos h, dif_pos h]
    rfl
  · rw [dif_neg h, dif_neg h]
    by_cases h' : l.val % 64 < 16
    · rw [dif_pos h']
      exact nilT_apply _
    · rw [dif_neg h']
      exact nilW_apply _

theorem tab_b (p : Fin 8192) (l : Fin 128) : V m c main_v29 (ix2 p l : S8192x128.Idx) = facB (sinAt p) (l.val % 64) := by
  rw [V_b]
  refine (cat2 _ p l).trans ((cat3 _ _ _ p _).trans ?_)
  unfold facB
  dsimp only
  by_cases h : l.val % 64 < 8
  · rw [dif_pos h, dif_neg (fun g => g.1 h)]
    exact nilT_apply _
  · rw [dif_neg h]
    by_cases h' : l.val % 64 < 16
    · rw [dif_pos h', dif_pos ⟨h, h'⟩]
      rfl
    · rw [dif_neg h', dif_neg (fun g => h' g.2)]
      exact nilW_apply _

/-! ## The blocks a point reads -/

theorem place (t : Fin cfg0.N) : win0_0.index t (0 : Fin 2) = t.val ∧ win0_0.index t (1 : Fin 2) = 1
    ∧ win0_1.index t (0 : Fin 2) = t.val ∧ win0_1.index t (1 : Fin 2) = 2
    ∧ win0_2.index t (0 : Fin 2) = t.val ∧ win0_2.index t (1 : Fin 2) = 3
    ∧ win0_3.index t (0 : Fin 2) = t.val % 16 ∧ win0_3.index t (1 : Fin 2) = 0
    ∧ win0_4.index t (0 : Fin 2) = t.val % 16 ∧ win0_4.index t (1 : Fin 2) = 0
    ∧ win0_5.index t (0 : Fin 2) = t.val % 16 ∧ win0_5.index t (1 : Fin 2) = 0 :=
  (by decide +kernel : ∀ t : Fin grid0.N, win0_0.index t (0 : Fin 2) = t.val ∧ win0_0.index t (1 : Fin 2) = 1
    ∧ win0_1.index t (0 : Fin 2) = t.val ∧ win0_1.index t (1 : Fin 2) = 2
    ∧ win0_2.index t (0 : Fin 2) = t.val ∧ win0_2.index t (1 : Fin 2) = 3
    ∧ win0_3.index t (0 : Fin 2) = t.val % 16 ∧ win0_3.index t (1 : Fin 2) = 0
    ∧ win0_4.index t (0 : Fin 2) = t.val % 16 ∧ win0_4.index t (1 : Fin 2) = 0
    ∧ win0_5.index t (0 : Fin 2) = t.val % 16 ∧ win0_5.index t (1 : Fin 2) = 0) t

/-- Where a point writes. -/
theorem put (t : Fin cfg0.N) : win0_6.index t (0 : Fin 2) = 0 ∧ win0_6.index t (1 : Fin 2) = t.val
    ∧ win0_7.index t (0 : Fin 2) = t.val ∧ win0_7.index t (1 : Fin 2) = 0
    ∧ win0_8.index t (0 : Fin 3) = t.val / 16 ∧ win0_8.index t (1 : Fin 3) = 0 ∧ win0_8.index t (2 : Fin 3) = t.val % 16
    ∧ win0_9.index t (0 : Fin 2) = 0 ∧ win0_9.index t (1 : Fin 2) = t.val :=
  (by decide +kernel : ∀ t : Fin grid0.N, win0_6.index t (0 : Fin 2) = 0 ∧ win0_6.index t (1 : Fin 2) = t.val
    ∧ win0_7.index t (0 : Fin 2) = t.val ∧ win0_7.index t (1 : Fin 2) = 0
    ∧ win0_8.index t (0 : Fin 3) = t.val / 16 ∧ win0_8.index t (1 : Fin 3) = 0 ∧ win0_8.index t (2 : Fin 3) = t.val % 16
    ∧ win0_9.index t (0 : Fin 2) = 0 ∧ win0_9.index t (1 : Fin 2) = t.val) t

theorem ptlt (t : Fin cfg0.N) : t.val < 32 := lt_of_lt_of_eq t.isLt N_0

/-- The rows of the argument. -/
abbrev xOf : (⟨S16384x6144, .f32⟩ : BufTy).Contents (Elt Ideal) := m ((c : Thread nD τ).loc main_arg0)

/-- The row of the argument that row `r` of a point's blocks is. -/
abbrev rw' (t : Fin cfg0.N) (r : Fin 512) : Fin 16384 := ⟨t.val * 512 + r.val, by have := ptlt t; omega⟩

theorem iblk0_apply (t : Fin cfg0.N) (r : Fin 512) (k : Fin 1024) : iblk m c 0 t (ix2 r k : S512x1024.Idx) = qRow (xOf m c) (rw' t r) k := by
  have e : ((cfg0.win 0).blk t).view.emb (ix2 r k : S512x1024.Idx) = (ix2 (rw' t r) ⟨1024 + k.val, by omega⟩ : S16384x6144.Idx) :=
    funext fun b => Fin.ext (by
      match b with
      | ⟨0, _⟩ => show win0_0.index t (0 : Fin 2) * 512 + 1 * r.val = t.val * 512 + r.val; rw [(place t).1]; omega
      | ⟨1, _⟩ => show win0_0.index t (1 : Fin 2) * 1024 + 1 * k.val = 1024 + k.val; rw [(place t).2.1]; omega)
  show V m c main_arg0 (((cfg0.win 0).blk t).view.emb (ix2 r k : S512x1024.Idx)) = _
  rw [e, V_main_arg0]
  rfl

theorem iblk1_apply (t : Fin cfg0.N) (r : Fin 512) (k : Fin 1024) : iblk m c 1 t (ix2 r k : S512x1024.Idx) = kRow (xOf m c) (rw' t r) k := by
  have e : ((cfg0.win 1).blk t).view.emb (ix2 r k : S512x1024.Idx) = (ix2 (rw' t r) ⟨2048 + k.val, by omega⟩ : S16384x6144.Idx) :=
    funext fun b => Fin.ext (by
      match b with
      | ⟨0, _⟩ => show win0_1.index t (0 : Fin 2) * 512 + 1 * r.val = t.val * 512 + r.val; rw [(place t).2.2.1]; omega
      | ⟨1, _⟩ => show win0_1.index t (1 : Fin 2) * 1024 + 1 * k.val = 2048 + k.val; rw [(place t).2.2.2.1]; omega)
  show V m c main_arg0 (((cfg0.win 1).blk t).view.emb (ix2 r k : S512x1024.Idx)) = _
  rw [e, V_main_arg0]
  rfl

theorem iblk2_apply (t : Fin cfg0.N) (r : Fin 512) (k : Fin 1024) : iblk m c 2 t (ix2 r k : S512x1024.Idx) = vRow (xOf m c) (rw' t r) k := by
  have e : ((cfg0.win 2).blk t).view.emb (ix2 r k : S512x1024.Idx) = (ix2 (rw' t r) ⟨3072 + k.val, by omega⟩ : S16384x6144.Idx) :=
    funext fun b => Fin.ext (by
      match b with
      | ⟨0, _⟩ => show win0_2.index t (0 : Fin 2) * 512 + 1 * r.val = t.val * 512 + r.val; rw [(place t).2.2.2.2.1]; omega
      | ⟨1, _⟩ => show win0_2.index t (1 : Fin 2) * 1024 + 1 * k.val = 3072 + k.val; rw [(place t).2.2.2.2.2.1]; omega)
  show V m c main_arg0 (((cfg0.win 2).blk t).view.emb (ix2 r k : S512x1024.Idx)) = _
  rw [e, V_main_arg0]
  rfl

/-- The position in its batch that row `r` of a point's blocks has. -/
theorem pos_eq (t : Fin cfg0.N) (r : Fin 512) : (⟨t.val % 16 * 512 + r.val, by omega⟩ : Fin 8192) = posOf (rw' t r) :=
  Fin.ext (by show t.val % 16 * 512 + r.val = (t.val * 512 + r.val) % 8192; omega)

theorem iblk3_apply (t : Fin cfg0.N) (r : Fin 512) (l : Fin 128) : iblk m c 3 t (ix2 r l : S512x128.Idx) = fac (cosAt (posOf (rw' t r))) (l.val % 64) := by
  have e : ((cfg0.win 3).blk t).view.emb (ix2 r l : S512x128.Idx) = (ix2 ⟨t.val % 16 * 512 + r.val, by omega⟩ l : S8192x128.Idx) :=
    funext fun b => Fin.ext (by
      match b with
      | ⟨0, _⟩ => show win0_3.index t (0 : Fin 2) * 512 + 1 * r.val = t.val % 16 * 512 + r.val; rw [(place t).2.2.2.2.2.2.1]; omega
      | ⟨1, _⟩ => show win0_3.index t (1 : Fin 2) * 128 + 1 * l.val = l.val; rw [(place t).2.2.2.2.2.2.2.1]; omega)
  show V m c main_v27 (((cfg0.win 3).blk t).view.emb (ix2 r l : S512x128.Idx)) = _
  rw [e, pos_eq]
  exact tab_c m c _ l

theorem iblk4_apply (t : Fin cfg0.N) (r : Fin 512) (l : Fin 128) : iblk m c 4 t (ix2 r l : S512x128.Idx) = facA (sinAt (posOf (rw' t r))) (l.val % 64) := by
  have e : ((cfg0.win 4).blk t).view.emb (ix2 r l : S512x128.Idx) = (ix2 ⟨t.val % 16 * 512 + r.val, by omega⟩ l : S8192x128.Idx) :=
    funext fun b => Fin.ext (by
      match b with
      | ⟨0, _⟩ => show win0_4.index t (0 : Fin 2) * 512 + 1 * r.val = t.val % 16 * 512 + r.val; rw [(place t).2.2.2.2.2.2.2.2.1]; omega
      | ⟨1, _⟩ => show win0_4.index t (1 : Fin 2) * 128 + 1 * l.val = l.val; rw [(place t).2.2.2.2.2.2.2.2.2.1]; omega)
  show V m c main_v28 (((cfg0.win 4).blk t).view.emb (ix2 r l : S512x128.Idx)) = _
  rw [e, pos_eq]
  exact tab_a m c _ l

theorem iblk5_apply (t : Fin cfg0.N) (r : Fin 512) (l : Fin 128) : iblk m c 5 t (ix2 r l : S512x128.Idx) = facB (sinAt (posOf (rw' t r))) (l.val % 64) := by
  have e : ((cfg0.win 5).blk t).view.emb (ix2 r l : S512x128.Idx) = (ix2 ⟨t.val % 16 * 512 + r.val, by omega⟩ l : S8192x128.Idx) :=
    funext fun b => Fin.ext (by
      match b with
      | ⟨0, _⟩ => show win0_5.index t (0 : Fin 2) * 512 + 1 * r.val = t.val % 16 * 512 + r.val; rw [(place t).2.2.2.2.2.2.2.2.2.2.1]; omega
      | ⟨1, _⟩ => show win0_5.index t (1 : Fin 2) * 128 + 1 * l.val = l.val; rw [(place t).2.2.2.2.2.2.2.2.2.2.2]; omega)
  show V m c main_v29 (((cfg0.win 5).blk t).view.emb (ix2 r l : S512x128.Idx)) = _
  rw [e, pos_eq]
  exact tab_b m c _ l

/-- A point's rows of queries and of keys are turned by their position's angles. -/
theorem turned_q (t : Fin cfg0.N) (r : Fin 512) (j : Fin 1024) :
    laneAt (iblk m c 0 t) (iblk m c 3 t) (iblk m c 4 t) (iblk m c 5 t) r j
      = turn (qRow (xOf m c) (rw' t r)) (cosAt (posOf (rw' t r))) (sinAt (posOf (rw' t r))) j :=
  (lane_eq _ _ _ _ _ _ (fun l => iblk3_apply m c t r l) (fun l => iblk4_apply m c t r l) (fun l => iblk5_apply m c t r l) j).trans
    (congrArg (fun x => turn x _ _ j) (funext fun k => iblk0_apply m c t r k))

theorem turned_k (t : Fin cfg0.N) (r : Fin 512) (j : Fin 1024) :
    laneAt (iblk m c 1 t) (iblk m c 3 t) (iblk m c 4 t) (iblk m c 5 t) r j
      = turn (kRow (xOf m c) (rw' t r)) (cosAt (posOf (rw' t r))) (sinAt (posOf (rw' t r))) j :=
  (lane_eq _ _ _ _ _ _ (fun l => iblk3_apply m c t r l) (fun l => iblk4_apply m c t r l) (fun l => iblk5_apply m c t r l) j).trans
    (congrArg (fun x => turn x _ _ j) (funext fun k => iblk1_apply m c t r k))

/-! ## The four results -/

theorem flushed6_eq (t : Fin cfg0.N) :
    (dats m 0 c).flushed 6 t = ((cfg0.win 6).blk t).view.read (Elt Ideal) (qRes (xOf m c)) := by
  rw [flushed6, out6_eq]
  refine funext fun (y : S1024x512.Idx) => ?_
  obtain ⟨j, r, rfl⟩ : ∃ j r, y = ix2 j r := ⟨_, _, eq_ix2 y⟩
  have e : ((cfg0.win 6).blk t).view.emb (ix2 j r : S1024x512.Idx) = (ix2 j (rw' t r) : S1024x16384.Idx) := funext fun b => Fin.ext (by
    match b with
    | ⟨0, _⟩ => show win0_6.index t (0 : Fin 2) * 1024 + 1 * j.val = j.val; rw [(put t).1]; omega
    | ⟨1, _⟩ => show win0_6.index t (1 : Fin 2) * 512 + 1 * r.val = t.val * 512 + r.val; rw [(put t).2.1]; omega)
  show laneAt (iblk m c 0 t) (iblk m c 3 t) (iblk m c 4 t) (iblk m c 5 t) r j * Ideal.ofBits .f32 0x3E000000#32 = qRes (xOf m c) (((cfg0.win 6).blk t).view.emb (ix2 j r : S1024x512.Idx))
  rw [e, turned_q]
  rfl

theorem flushed7_eq (t : Fin cfg0.N) :
    (dats m 0 c).flushed 7 t = ((cfg0.win 7).blk t).view.read (Elt Ideal) (kRes (xOf m c)) := by
  rw [flushed7, out7_eq]
  refine funext fun (y : S512x1024.Idx) => ?_
  obtain ⟨r, j, rfl⟩ : ∃ r j, y = ix2 r j := ⟨_, _, eq_ix2 y⟩
  have e : ((cfg0.win 7).blk t).view.emb (ix2 r j : S512x1024.Idx) = (ix2 (rw' t r) j : S16384x1024.Idx) := funext fun b => Fin.ext (by
    match b with
    | ⟨0, _⟩ => show win0_7.index t (0 : Fin 2) * 512 + 1 * r.val = t.val * 512 + r.val; rw [(put t).2.2.1]; omega
    | ⟨1, _⟩ => show win0_7.index t (1 : Fin 2) * 1024 + 1 * j.val = j.val; rw [(put t).2.2.2.1]; omega)
  show laneAt (iblk m c 1 t) (iblk m c 3 t) (iblk m c 4 t) (iblk m c 5 t) r j = kRes (xOf m c) (((cfg0.win 7).blk t).view.emb (ix2 r j : S512x1024.Idx))
  rw [e, turned_k]
  rfl

theorem flushed8_eq (t : Fin cfg0.N) :
    (dats m 0 c).flushed 8 t = ((cfg0.win 8).blk t).view.read (Elt Ideal) (tRes (xOf m c)) := by
  rw [flushed8, out8_eq]
  refine funext fun (y : S1x1024x512.Idx) => ?_
  obtain ⟨z, j, r, rfl⟩ : ∃ z j r, y = ix3 z j r := ⟨_, _, _, eq_ix3 y⟩
  obtain rfl : z = 0 := Subsingleton.elim _ _
  have hb : t.val / 16 < 2 := by have := ptlt t; omega
  have e : ((cfg0.win 8).blk t).view.emb (ix3 0 j r : S1x1024x512.Idx) = (ix3 ⟨t.val / 16, hb⟩ j (posOf (rw' t r)) : S2x1024x8192.Idx) := funext fun b => Fin.ext (by
    match b with
    | ⟨0, _⟩ => show win0_8.index t (0 : Fin 3) * 1 + 1 * 0 = t.val / 16; rw [(put t).2.2.2.2.1]; omega
    | ⟨1, _⟩ => show win0_8.index t (1 : Fin 3) * 1024 + 1 * j.val = j.val; rw [(put t).2.2.2.2.2.1]; omega
    | ⟨2, _⟩ => show win0_8.index t (2 : Fin 3) * 512 + 1 * r.val = (t.val * 512 + r.val) % 8192; rw [(put t).2.2.2.2.2.2.1]; omega)
  have er : rowOf ⟨t.val / 16, hb⟩ (posOf (rw' t r)) = rw' t r := Fin.ext (by
    show t.val / 16 * 8192 + (t.val * 512 + r.val) % 8192 = t.val * 512 + r.val; omega)
  show laneAt (iblk m c 1 t) (iblk m c 3 t) (iblk m c 4 t) (iblk m c 5 t) r j = tRes (xOf m c) (((cfg0.win 8).blk t).view.emb (ix3 0 j r : S1x1024x512.Idx))
  rw [e, turned_k]
  exact congrArg (fun i => turn (kRow (xOf m c) i) (cosAt (posOf (rw' t r))) (sinAt (posOf (rw' t r))) j) er.symm

theorem flushed9_eq (t : Fin cfg0.N) :
    (dats m 0 c).flushed 9 t = ((cfg0.win 9).blk t).view.read (Elt Ideal) (vRes (xOf m c)) := by
  rw [flushed9, out9_eq]
  refine funext fun (y : S1024x512.Idx) => ?_
  obtain ⟨j, r, rfl⟩ : ∃ j r, y = ix2 j r := ⟨_, _, eq_ix2 y⟩
  have e : ((cfg0.win 9).blk t).view.emb (ix2 j r : S1024x512.Idx) = (ix2 j (rw' t r) : S1024x16384.Idx) := funext fun b => Fin.ext (by
    match b with
    | ⟨0, _⟩ => show win0_9.index t (0 : Fin 2) * 1024 + 1 * j.val = j.val; rw [(put t).2.2.2.2.2.2.2.1]; omega
    | ⟨1, _⟩ => show win0_9.index t (1 : Fin 2) * 512 + 1 * r.val = t.val * 512 + r.val; rw [(put t).2.2.2.2.2.2.2.2]; omega)
  show iblk m c 2 t (ix2 r j : S512x1024.Idx) = vRes (xOf m c) (((cfg0.win 9).blk t).view.emb (ix2 j r : S1024x512.Idx))
  rw [e, iblk2_apply]
  rfl

theorem in6 (t : Fin cfg0.N) (i : S1024x16384.Idx) (h : (i 1).val / 512 = t.val) : i ∈ ((cfg0.win 6).blk t).view.set := by
  show i ∈ ((View.whole main_v30_0).slice ((cfg0.win 6).rect t)).set
  rw [View.set_slice_whole, Rect.mem_set_unit]
  have h0 : (i 0).val < 1024 := (i 0).isLt
  intro a
  match a with
  | ⟨0, _⟩ => show win0_6.index t (0 : Fin 2) * 1024 ≤ (i 0).val ∧ (i 0).val < win0_6.index t (0 : Fin 2) * 1024 + 1024; rw [(put t).1]; omega
  | ⟨1, _⟩ => show win0_6.index t (1 : Fin 2) * 512 ≤ (i 1).val ∧ (i 1).val < win0_6.index t (1 : Fin 2) * 512 + 512; rw [(put t).2.1]; omega

theorem in7 (t : Fin cfg0.N) (i : S16384x1024.Idx) (h : (i 0).val / 512 = t.val) : i ∈ ((cfg0.win 7).blk t).view.set := by
  show i ∈ ((View.whole main_v30_1).slice ((cfg0.win 7).rect t)).set
  rw [View.set_slice_whole, Rect.mem_set_unit]
  have h1 : (i 1).val < 1024 := (i 1).isLt
  intro a
  match a with
  | ⟨0, _⟩ => show win0_7.index t (0 : Fin 2) * 512 ≤ (i 0).val ∧ (i 0).val < win0_7.index t (0 : Fin 2) * 512 + 512; rw [(put t).2.2.1]; omega
  | ⟨1, _⟩ => show win0_7.index t (1 : Fin 2) * 1024 ≤ (i 1).val ∧ (i 1).val < win0_7.index t (1 : Fin 2) * 1024 + 1024; rw [(put t).2.2.2.1]; omega

theorem in8 (t : Fin cfg0.N) (i : S2x1024x8192.Idx) (h : (i 0).val * 16 + (i 2).val / 512 = t.val) : i ∈ ((cfg0.win 8).blk t).view.set := by
  show i ∈ ((View.whole main_v30_2).slice ((cfg0.win 8).rect t)).set
  rw [View.set_slice_whole, Rect.mem_set_unit]
  have h0 : (i 0).val < 2 := (i 0).isLt
  have h1 : (i 1).val < 1024 := (i 1).isLt
  have h2 : (i 2).val < 8192 := (i 2).isLt
  intro a
  match a with
  | ⟨0, _⟩ => show win0_8.index t (0 : Fin 3) * 1 ≤ (i 0).val ∧ (i 0).val < win0_8.index t (0 : Fin 3) * 1 + 1; rw [(put t).2.2.2.2.1]; omega
  | ⟨1, _⟩ => show win0_8.index t (1 : Fin 3) * 1024 ≤ (i 1).val ∧ (i 1).val < win0_8.index t (1 : Fin 3) * 1024 + 1024; rw [(put t).2.2.2.2.2.1]; omega
  | ⟨2, _⟩ => show win0_8.index t (2 : Fin 3) * 512 ≤ (i 2).val ∧ (i 2).val < win0_8.index t (2 : Fin 3) * 512 + 512; rw [(put t).2.2.2.2.2.2.1]; omega

theorem in9 (t : Fin cfg0.N) (i : S1024x16384.Idx) (h : (i 1).val / 512 = t.val) : i ∈ ((cfg0.win 9).blk t).view.set := by
  show i ∈ ((View.whole main_v30_3).slice ((cfg0.win 9).rect t)).set
  rw [View.set_slice_whole, Rect.mem_set_unit]
  have h0 : (i 0).val < 1024 := (i 0).isLt
  intro a
  match a with
  | ⟨0, _⟩ => show win0_9.index t (0 : Fin 2) * 1024 ≤ (i 0).val ∧ (i 0).val < win0_9.index t (0 : Fin 2) * 1024 + 1024; rw [(put t).2.2.2.2.2.2.2.1]; omega
  | ⟨1, _⟩ => show win0_9.index t (1 : Fin 2) * 512 ≤ (i 1).val ∧ (i 1).val < win0_9.index t (1 : Fin 2) * 512 + 512; rw [(put t).2.2.2.2.2.2.2.2]; omega

/-- Each result array ends holding its rows' queries, keys and values. -/
theorem final6 : (dats m 0 c).arrAt 6 cfg0.N = qRes (xOf m c) :=
  (dats m 0 c).arrAt_eq_of_cover 6 _ (fun t _ => flushed6_eq m c t) fun (i : S1024x16384.Idx) => by
    have h1 : (i 1).val < 16384 := (i 1).isLt
    have hN : (i 1).val / 512 < cfg0.N := lt_of_lt_of_eq (by omega) N_0.symm
    exact ⟨⟨_, hN⟩, flush0_6 _, in6 _ i rfl⟩

theorem final7 : (dats m 0 c).arrAt 7 cfg0.N = kRes (xOf m c) :=
  (dats m 0 c).arrAt_eq_of_cover 7 _ (fun t _ => flushed7_eq m c t) fun (i : S16384x1024.Idx) => by
    have h0 : (i 0).val < 16384 := (i 0).isLt
    have hN : (i 0).val / 512 < cfg0.N := lt_of_lt_of_eq (by omega) N_0.symm
    exact ⟨⟨_, hN⟩, flush0_7 _, in7 _ i rfl⟩

theorem final8 : (dats m 0 c).arrAt 8 cfg0.N = tRes (xOf m c) :=
  (dats m 0 c).arrAt_eq_of_cover 8 _ (fun t _ => flushed8_eq m c t) fun (i : S2x1024x8192.Idx) => by
    have h0 : (i 0).val < 2 := (i 0).isLt
    have h2 : (i 2).val < 8192 := (i 2).isLt
    have hN : (i 0).val * 16 + (i 2).val / 512 < cfg0.N := lt_of_lt_of_eq (by omega) N_0.symm
    exact ⟨⟨_, hN⟩, flush0_8 _, in8 _ i rfl⟩

theorem final9 : (dats m 0 c).arrAt 9 cfg0.N = vRes (xOf m c) :=
  (dats m 0 c).arrAt_eq_of_cover 9 _ (fun t _ => flushed9_eq m c t) fun (i : S1024x16384.Idx) => by
    have h1 : (i 1).val < 16384 := (i 1).isLt
    have hN : (i 1).val / 512 < cfg0.N := lt_of_lt_of_eq (by omega) N_0.symm
    exact ⟨⟨_, hN⟩, flush0_9 _, in9 _ i rfl⟩

end Cert.RopeIdeal.Proj

end
-- ==== Proof.lean ====
/- The proof of the claims about the attention call of the prompt and about the projections before and after it. -/
module

public import proofs.«01_k».proof.Defs
public import proofs.«01_k».proof.Proof.Attn.Kernel.Frame
public import proofs.«01_k».proof.Proof.Attn.KernelIdeal.Frame
public import proofs.«01_k».proof.Proof.Gen.ReferenceIdeal.Read
public import proofs.«01_k».proof.Proof.Attn.Result
public import proofs.«01_k».proof.Proof.Attn.RefRead
public import proofs.«01_k».proof.Proof.Attn.Pre
public import proofs.«01_k».proof.Proof.Gen.InC.Frame
public import proofs.«01_k».proof.Proof.Gen.InCIdeal.Value
public import proofs.«01_k».proof.Proof.Gen.InCRefIdeal.Read
public import proofs.«01_k».proof.Proof.Gen.InA.Frame
public import proofs.«01_k».proof.Proof.Gen.InAIdeal.Value
public import proofs.«01_k».proof.Proof.Gen.InARefIdeal.Read
public import proofs.«01_k».proof.Proof.Gen.InS.Frame
public import proofs.«01_k».proof.Proof.Gen.InSIdeal.Value
public import proofs.«01_k».proof.Proof.Gen.InSRefIdeal.Read
public import proofs.«01_k».proof.Proof.Gen.MemKV.Frame
public import proofs.«01_k».proof.Proof.Gen.MemKVIdeal.Value
public import proofs.«01_k».proof.Proof.Gen.MemKVRefIdeal.Read
public import proofs.«01_k».proof.Proof.Gen.OutA.Frame
public import proofs.«01_k».proof.Proof.Gen.OutAIdeal.Value
public import proofs.«01_k».proof.Proof.Gen.OutARefIdeal.Read
public import proofs.«01_k».proof.Proof.Gen.OutC.Frame
public import proofs.«01_k».proof.Proof.Gen.OutCIdeal.Value
public import proofs.«01_k».proof.Proof.Gen.OutCRefIdeal.Read
public import proofs.«01_k».proof.Proof.Gen.OutF.Frame
public import proofs.«01_k».proof.Proof.Gen.OutFIdeal.Value
public import proofs.«01_k».proof.Proof.Gen.OutFRefIdeal.Read
public import proofs.«01_k».proof.Proof.Gen.SmpA.Frame
public import proofs.«01_k».proof.Proof.Gen.SmpAIdeal.Value
public import proofs.«01_k».proof.Proof.Gen.SmpARefIdeal.Read
public import proofs.«01_k».proof.Proof.Gen.SmpS.Frame
public import proofs.«01_k».proof.Proof.Gen.SmpSIdeal.Value
public import proofs.«01_k».proof.Proof.Gen.SmpSRefIdeal.Read
public import proofs.«01_k».proof.Proof.Gen.SmpF.Frame
public import proofs.«01_k».proof.Proof.Gen.SmpFIdeal.Value
public import proofs.«01_k».proof.Proof.Gen.SmpFRefIdeal.Read
public import proofs.«01_k».proof.Proof.Gen.Rope.Frame
public import proofs.«01_k».proof.Proof.Gen.RopeIdeal.Value
public import proofs.«01_k».proof.Proof.Gen.RopeRefIdeal.Read
public import proofs.«01_k».proof.Proof.Proj.InC
public import proofs.«01_k».proof.Proof.Proj.InA
public import proofs.«01_k».proof.Proof.Proj.InS
public import proofs.«01_k».proof.Proof.Proj.MemKV
public import proofs.«01_k».proof.Proof.Proj.OutA
public import proofs.«01_k».proof.Proof.Proj.OutC
public import proofs.«01_k».proof.Proof.Proj.OutF
public import proofs.«01_k».proof.Proof.Proj.SmpA
public import proofs.«01_k».proof.Proof.Proj.SmpS
public import proofs.«01_k».proof.Proof.Proj.SmpF
public import proofs.«01_k».proof.Proof.Proj.RopeFin
public import Idealize.ShloMosaic.Adequacy
public import Idealize.ShloMosaic.Init

@[expose] public section

set_option maxHeartbeats 4000000

noncomputable section

namespace Cert.Proof

open Idealize.ShloMosaic Idealize.SL.Sem

/-- The frame of the kernel on floats. -/
theorem frame_K : Cert.quiescent_Kernel := fun m ρ _ =>
  (θ_run Cert.Kernel.defs _ _).mono (fun r h => ⟨fun c => h.args m c, h.2⟩) (Cert.Kernel.Attn.run_post m ρ)

/-- The frame of the idealized kernel. -/
theorem frame_KI : Cert.quiescent_KernelIdeal := fun m ρ _ =>
  (θ_run Cert.KernelIdeal.defs _ _).mono (fun r h => ⟨fun c => h.args m c, h.2⟩) (Cert.KernelIdeal.Attn.run_post m ρ)

/-- The frame of the reference: host operations only, and no semaphore. -/
theorem frame_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant: the mask's word stands for minus infinity. -/
theorem keeps : Cert.preserves_Kernel_KernelIdeal :=
  IdealRules.named_const.statement Cert.KernelIdeal.κ "mask" .f32 0xF149F2CA#32 ⊥ rfl

/-- The side conditions of the precondition. -/
instance preFacts : Cert.Pre_finite_values.Facts := Cert.Pre_finite_values.Attn.facts

/-- From the same arguments, with the values and the lambda vectors finite, both programs end with the attention. -/
theorem same : Cert.algebraic_KernelIdeal_ReferenceIdeal_pre_finite_values := fun m g m' g' hpre harg =>
  ⟨fun c => Cert.KernelIdeal.Attn.attAll (Cert.KernelIdeal.Attn.aQ m c) (Cert.KernelIdeal.Attn.aK m c) (Cert.KernelIdeal.Attn.aV m c)
      (Cert.KernelIdeal.Attn.aP m c) (Cert.KernelIdeal.Attn.aL m c) (Cert.KernelIdeal.Attn.aG m c),
    (θ_run Cert.KernelIdeal.defs _ _).mono (fun r h c => ⟨((h.1 c).1 (6 : Fin 7)).trans
        (Cert.KernelIdeal.Attn.final_o m c (Cert.Pre_finite_values.Attn.finite _ _ _ _ _ _ (hpre c)).1
          (Cert.Pre_finite_values.Attn.lam_real _ fun a k => (Cert.Pre_finite_values.Attn.finite _ _ _ _ _ _ (hpre c)).2 (ValueIdx.ix2 a k))),
        h.args m c⟩) (Cert.KernelIdeal.Attn.run_post m g),
    (θ_run Cert.ReferenceIdeal.defs _ _).mono (fun r h c => ⟨(h c).1.trans ((Cert.ReferenceIdeal.Read.val_main_v71_eq m' c).trans
        ((Cert.ReferenceIdeal.Attn.val_eq _ _ _ _ _ _).trans (by
          obtain ⟨e0, e1, e2, e3, e4, e5⟩ := harg c
          rw [e0, e1, e2, e3, e4, e5]))), (h c).2⟩)
      (Cert.ReferenceIdeal.Value.run (F := Ideal) m' g')⟩

/-- The frame of the reference of `InC`: host operations only, and no semaphore. -/
theorem frame_InCR : Cert.quiescent_InCRefIdeal := fun m ρ _ =>
  (θ_run Cert.InCRefIdeal.defs _ _).mono (fun r h => ⟨fun c => (h c).2, sem_eq_zero_of_no_sems (by decide) r.2⟩)
    (Cert.InCRefIdeal.Value.run (F := Ideal) m ρ)

/-- From the same arguments `InC` and its reference end with the same result. -/
theorem same_InC : Cert.algebraic_InCIdeal_InCRefIdeal := fun m g m' g' _ harg =>
  ⟨fun c => Cert.InCIdeal.Proj.proj m c,
    (θ_run Cert.InCIdeal.defs _ _).mono (fun r h c => ⟨(h c).1.trans (Cert.InCIdeal.Proj.final m c), (h c).2⟩)
      (Cert.InCIdeal.Value.run_blocks (F := Ideal) m g),
    (θ_run Cert.InCRefIdeal.defs _ _).mono (fun r h c => ⟨(h c).1.trans ((Cert.InCRefIdeal.Read.val_main_v13_eq _ _ _).trans
        ((Cert.InCRefIdeal.Proj.val_eq _ _ _).trans (by
          obtain ⟨e0, e1, e2⟩ := harg c
          rw [e0, e1, e2]
          rfl))), (h c).2⟩)
      (Cert.InCRefIdeal.Value.run (F := Ideal) m' g')⟩

/-- The frame of the reference of `InA`: host operations only, and no semaphore. -/
theorem frame_InAR : Cert.quiescent_InARefIdeal := fun m ρ _ =>
  (θ_run Cert.InARefIdeal.defs _ _).mono (fun r h => ⟨fun c => (h c).2, sem_eq_zero_of_no_sems (by decide) r.2⟩)
    (Cert.InARefIdeal.Value.run (F := Ideal) m ρ)

/-- From the same arguments `InA` and its reference end with the same result. -/
theorem same_InA : Cert.algebraic_InAIdeal_InARefIdeal := fun m g m' g' _ harg =>
  ⟨fun c => Cert.InAIdeal.Proj.proj m c,
    (θ_run Cert.InAIdeal.defs _ _).mono (fun r h c => ⟨(h c).1.trans (Cert.InAIdeal.Proj.final m c), (h c).2⟩)
      (Cert.InAIdeal.Value.run_blocks (F := Ideal) m g),
    (θ_run Cert.InARefIdeal.defs _ _).mono (fun r h c => ⟨(h c).1.trans ((Cert.InARefIdeal.Read.val_main_v16_eq _ _ _).trans
        ((Cert.InARefIdeal.Proj.val_eq _ _ _).trans (by
          obtain ⟨e0, e1, e2⟩ := harg c
          rw [e0, e1, e2]
          rfl))), (h c).2⟩)
      (Cert.InARefIdeal.Value.run (F := Ideal) m' g')⟩

/-- The frame of the reference of `InS`: host operations only, and no semaphore. -/
theorem frame_InSR : Cert.quiescent_InSRefIdeal := fun m ρ _ =>
  (θ_run Cert.InSRefIdeal.defs _ _).mono (fun r h => ⟨fun c => (h c).2, sem_eq_zero_of_no_sems (by decide) r.2⟩)
    (Cert.InSRefIdeal.Value.run (F := Ideal) m ρ)

/-- From the same arguments `InS` and its reference end with the same result. -/
theorem same_InS : Cert.algebraic_InSIdeal_InSRefIdeal := fun m g m' g' _ harg =>
  ⟨fun c => Cert.InSIdeal.Proj.proj m c,
    (θ_run Cert.InSIdeal.defs _ _).mono (fun r h c => ⟨(h c).1.trans (Cert.InSIdeal.Proj.final m c), (h c).2⟩)
      (Cert.InSIdeal.Value.run_blocks (F := Ideal) m g),
    (θ_run Cert.InSRefIdeal.defs _ _).mono (fun r h c => ⟨(h c).1.trans ((Cert.InSRefIdeal.Read.val_main_v16_eq _ _ _).trans
        ((Cert.InSRefIdeal.Proj.val_eq _ _ _).trans (by
          obtain ⟨e0, e1, e2⟩ := harg c
          rw [e0, e1, e2]
          rfl))), (h c).2⟩)
      (Cert.InSRefIdeal.Value.run (F := Ideal) m' g')⟩

/-- The frame of the reference of `MemKV`: host operations only, and no semaphore. -/
theorem frame_MemKVR : Cert.quiescent_MemKVRefIdeal := fun m ρ _ =>
  (θ_run Cert.MemKVRefIdeal.defs _ _).mono (fun r h => ⟨fun c => (h c).2, sem_eq_zero_of_no_sems (by decide) r.2⟩)
    (Cert.MemKVRefIdeal.Value.run (F := Ideal) m ρ)

/-- From the same arguments `MemKV` and its reference end with the same result. -/
theorem same_MemKV : Cert.algebraic_MemKVIdeal_MemKVRefIdeal := fun m g m' g' _ harg =>
  ⟨fun c => Cert.MemKVIdeal.Proj.proj m c,
    (θ_run Cert.MemKVIdeal.defs _ _).mono (fun r h c => ⟨(h c).1.trans (Cert.MemKVIdeal.Proj.final m c), (h c).2⟩)
      (Cert.MemKVIdeal.Value.run_blocks (F := Ideal) m g),
    (θ_run Cert.MemKVRefIdeal.defs _ _).mono (fun r h c => ⟨(h c).1.trans ((Cert.MemKVRefIdeal.Read.val_main_v18_eq _ _ _ _).trans
        ((Cert.MemKVRefIdeal.Proj.val_eq _ _ _ _).trans (by
          obtain ⟨e0, e1, e2, e3⟩ := harg c
          rw [e0, e1, e2, e3]
          rfl))), (h c).2⟩)
      (Cert.MemKVRefIdeal.Value.run (F := Ideal) m' g')⟩

/-- The frame of the reference of `OutA`: host operations only, and no semaphore. -/
theorem frame_OutAR : Cert.quiescent_OutARefIdeal := fun m ρ _ =>
  (θ_run Cert.OutARefIdeal.defs _ _).mono (fun r h => ⟨fun c => (h c).2, sem_eq_zero_of_no_sems (by decide) r.2⟩)
    (Cert.OutARefIdeal.Value.run (F := Ideal) m ρ)

/-- From the same arguments `OutA` and its reference end with the same result. -/
theorem same_OutA : Cert.algebraic_OutAIdeal_OutARefIdeal := fun m g m' g' _ harg =>
  ⟨fun c => Cert.OutAIdeal.Proj.res m c,
    (θ_run Cert.OutAIdeal.defs _ _).mono (fun r h c => ⟨(h c).1.trans (Cert.OutAIdeal.Proj.final m c), (h c).2⟩)
      (Cert.OutAIdeal.Value.run_blocks (F := Ideal) m g),
    (θ_run Cert.OutARefIdeal.defs _ _).mono (fun r h c => ⟨(h c).1.trans ((Cert.OutARefIdeal.Read.val_main_v3_eq _ _ _ _ _).trans
        ((Cert.OutARefIdeal.Proj.val_eq _ _ _ _ _).trans (by
          obtain ⟨e0, e1, e2, e3, e4, e5⟩ := harg c
          rw [e0, e1, e2, e3, e4]
          rfl))), (h c).2⟩)
      (Cert.OutARefIdeal.Value.run (F := Ideal) m' g')⟩

/-- The frame of the reference of `OutC`: host operations only, and no semaphore. -/
theorem frame_OutCR : Cert.quiescent_OutCRefIdeal := fun m ρ _ =>
  (θ_run Cert.OutCRefIdeal.defs _ _).mono (fun r h => ⟨fun c => (h c).2, sem_eq_zero_of_no_sems (by decide) r.2⟩)
    (Cert.OutCRefIdeal.Value.run (F := Ideal) m ρ)

/-- From the same arguments `OutC` and its reference end with the same result. -/
theorem same_OutC : Cert.algebraic_OutCIdeal_OutCRefIdeal := fun m g m' g' _ harg =>
  ⟨fun c => Cert.OutCIdeal.Proj.res m c,
    (θ_run Cert.OutCIdeal.defs _ _).mono (fun r h c => ⟨(h c).1.trans (Cert.OutCIdeal.Proj.final m c), (h c).2⟩)
      (Cert.OutCIdeal.Value.run_blocks (F := Ideal) m g),
    (θ_run Cert.OutCRefIdeal.defs _ _).mono (fun r h c => ⟨(h c).1.trans ((Cert.OutCRefIdeal.Read.val_main_v3_eq _ _ _ _).trans
        ((Cert.OutCRefIdeal.Proj.val_eq _ _ _ _).trans (by
          obtain ⟨e0, e1, e2, e3, e4⟩ := harg c
          rw [e0, e1, e2, e3]
          rfl))), (h c).2⟩)
      (Cert.OutCRefIdeal.Value.run (F := Ideal) m' g')⟩

/-- The frame of the reference of `OutF`: host operations only, and no semaphore. -/
theorem frame_OutFR : Cert.quiescent_OutFRefIdeal := fun m ρ _ =>
  (θ_run Cert.OutFRefIdeal.defs _ _).mono (fun r h => ⟨fun c => (h c).2, sem_eq_zero_of_no_sems (by decide) r.2⟩)
    (Cert.OutFRefIdeal.Value.run (F := Ideal) m ρ)

/-- From the same arguments `OutF` and its reference end with the same result. -/
theorem same_OutF : Cert.algebraic_OutFIdeal_OutFRefIdeal := fun m g m' g' _ harg =>
  ⟨fun c => Cert.OutFIdeal.Proj.res m c,
    (θ_run Cert.OutFIdeal.defs _ _).mono (fun r h c => ⟨(h c).1.trans (Cert.OutFIdeal.Proj.final m c), (h c).2⟩)
      (Cert.OutFIdeal.Value.run_blocks (F := Ideal) m g),
    (θ_run Cert.OutFRefIdeal.defs _ _).mono (fun r h c => ⟨(h c).1.trans ((Cert.OutFRefIdeal.Read.val_main_v16_eq _ _ _ _ _).trans
        ((Cert.OutFRefIdeal.Proj.val_eq _ _ _ _ _).trans (by
          obtain ⟨e0, e1, e2, e3, e4⟩ := harg c
          rw [e0, e1, e2, e3, e4]
          rfl))), (h c).2⟩)
      (Cert.OutFRefIdeal.Value.run (F := Ideal) m' g')⟩

/-- The frame of the reference of `SmpA`: host operations only, and no semaphore. -/
theorem frame_SmpAR : Cert.quiescent_SmpARefIdeal := fun m ρ _ =>
  (θ_run Cert.SmpARefIdeal.defs _ _).mono (fun r h => ⟨fun c => (h c).2, sem_eq_zero_of_no_sems (by decide) r.2⟩)
    (Cert.SmpARefIdeal.Value.run (F := Ideal) m ρ)

/-- From the same arguments `SmpA` and its reference end with the same result. -/
theorem same_SmpA : Cert.algebraic_SmpAIdeal_SmpARefIdeal := fun m g m' g' _ harg =>
  ⟨fun c => Cert.SmpAIdeal.Proj.proj m c,
    (θ_run Cert.SmpAIdeal.defs _ _).mono (fun r h c => ⟨(h c).1.trans (Cert.SmpAIdeal.Proj.final m c), (h c).2⟩)
      (Cert.SmpAIdeal.Value.run_blocks (F := Ideal) m g),
    (θ_run Cert.SmpARefIdeal.defs _ _).mono (fun r h c => ⟨(h c).1.trans ((Cert.SmpARefIdeal.Read.val_main_v16_eq _ _ _).trans
        ((Cert.SmpARefIdeal.Proj.val_eq _ _ _).trans (by
          obtain ⟨e0, e1, e2⟩ := harg c
          rw [e0, e1, e2]
          rfl))), (h c).2⟩)
      (Cert.SmpARefIdeal.Value.run (F := Ideal) m' g')⟩

/-- The frame of the reference of `SmpS`: host operations only, and no semaphore. -/
theorem frame_SmpSR : Cert.quiescent_SmpSRefIdeal := fun m ρ _ =>
  (θ_run Cert.SmpSRefIdeal.defs _ _).mono (fun r h => ⟨fun c => (h c).2, sem_eq_zero_of_no_sems (by decide) r.2⟩)
    (Cert.SmpSRefIdeal.Value.run (F := Ideal) m ρ)

/-- From the same arguments `SmpS` and its reference end with the same result. -/
theorem same_SmpS : Cert.algebraic_SmpSIdeal_SmpSRefIdeal := fun m g m' g' _ harg =>
  ⟨fun c => Cert.SmpSIdeal.Proj.proj m c,
    (θ_run Cert.SmpSIdeal.defs _ _).mono (fun r h c => ⟨(h c).1.trans (Cert.SmpSIdeal.Proj.final m c), (h c).2⟩)
      (Cert.SmpSIdeal.Value.run_blocks (F := Ideal) m g),
    (θ_run Cert.SmpSRefIdeal.defs _ _).mono (fun r h c => ⟨(h c).1.trans ((Cert.SmpSRefIdeal.Read.val_main_v16_eq _ _ _).trans
        ((Cert.SmpSRefIdeal.Proj.val_eq _ _ _).trans (by
          obtain ⟨e0, e1, e2⟩ := harg c
          rw [e0, e1, e2]
          rfl))), (h c).2⟩)
      (Cert.SmpSRefIdeal.Value.run (F := Ideal) m' g')⟩

/-- The frame of the reference of `SmpF`: host operations only, and no semaphore. -/
theorem frame_SmpFR : Cert.quiescent_SmpFRefIdeal := fun m ρ _ =>
  (θ_run Cert.SmpFRefIdeal.defs _ _).mono (fun r h => ⟨fun c => (h c).2, sem_eq_zero_of_no_sems (by decide) r.2⟩)
    (Cert.SmpFRefIdeal.Value.run (F := Ideal) m ρ)

/-- From the same arguments `SmpF` and its reference end with the same result. -/
theorem same_SmpF : Cert.algebraic_SmpFIdeal_SmpFRefIdeal := fun m g m' g' _ harg =>
  ⟨fun c => Cert.SmpFIdeal.Proj.res m c,
    (θ_run Cert.SmpFIdeal.defs _ _).mono (fun r h c => ⟨(h c).1.trans (Cert.SmpFIdeal.Proj.final m c), (h c).2⟩)
      (Cert.SmpFIdeal.Value.run_blocks (F := Ideal) m g),
    (θ_run Cert.SmpFRefIdeal.defs _ _).mono (fun r h c => ⟨(h c).1.trans ((Cert.SmpFRefIdeal.Read.val_main_v16_eq _ _ _ _ _).trans
        ((Cert.SmpFRefIdeal.Proj.val_eq _ _ _ _ _).trans (by
          obtain ⟨e0, e1, e2, e3, e4⟩ := harg c
          rw [e0, e1, e2, e3, e4]
          rfl))), (h c).2⟩)
      (Cert.SmpFRefIdeal.Value.run (F := Ideal) m' g')⟩

/-- The frame of the reference of `Rope`: host operations only, and no semaphore. -/
theorem frame_RopeR : Cert.quiescent_RopeRefIdeal := fun m ρ _ =>
  (θ_run Cert.RopeRefIdeal.defs _ _).mono (fun r h => ⟨fun c => (h c).2.2.2.2, sem_eq_zero_of_no_sems (by decide) r.2⟩)
    (Cert.RopeRefIdeal.Value.run (F := Ideal) m ρ)

/-- From the same argument `Rope` and its reference end with the same four results. -/
theorem same_Rope : Cert.algebraic_RopeIdeal_RopeRefIdeal := fun m g m' g' _ harg =>
  ⟨fun c => Cert.RopeRefIdeal.Proj.qRes (Cert.RopeIdeal.Proj.xOf m c), fun c => Cert.RopeRefIdeal.Proj.kRes (Cert.RopeIdeal.Proj.xOf m c),
    fun c => Cert.RopeRefIdeal.Proj.tRes (Cert.RopeIdeal.Proj.xOf m c), fun c => Cert.RopeRefIdeal.Proj.vRes (Cert.RopeIdeal.Proj.xOf m c),
    (θ_run Cert.RopeIdeal.defs _ _).mono (fun r h c => ⟨(h c).1.trans (Cert.RopeIdeal.Proj.final6 m c), (h c).2.1.trans (Cert.RopeIdeal.Proj.final7 m c),
        (h c).2.2.1.trans (Cert.RopeIdeal.Proj.final8 m c), (h c).2.2.2.1.trans (Cert.RopeIdeal.Proj.final9 m c), (h c).2.2.2.2⟩)
      (Cert.RopeIdeal.Value.run_blocks (F := Ideal) m g),
    (θ_run Cert.RopeRefIdeal.defs _ _).mono (fun r h c =>
      ⟨(h c).1.trans ((Cert.RopeRefIdeal.Read.val_main_v60_eq _ _).trans ((Cert.RopeRefIdeal.Proj.q_eq _).trans (congrArg Cert.RopeRefIdeal.Proj.qRes (harg c)))),
        (h c).2.1.trans ((Cert.RopeRefIdeal.Read.val_main_v62_eq _ _).trans ((Cert.RopeRefIdeal.Proj.k_eq _).trans (congrArg Cert.RopeRefIdeal.Proj.kRes (harg c)))),
        (h c).2.2.1.trans ((Cert.RopeRefIdeal.Read.val_main_v63_eq _ _).trans ((Cert.RopeRefIdeal.Proj.t_eq _).trans (congrArg Cert.RopeRefIdeal.Proj.tRes (harg c)))),
        (h c).2.2.2.1.trans ((Cert.RopeRefIdeal.Read.val_main_v65_eq _).trans ((Cert.RopeRefIdeal.Proj.v_eq _).trans (congrArg Cert.RopeRefIdeal.Proj.vRes (harg c)))),
        (h c).2.2.2.2⟩)
      (Cert.RopeRefIdeal.Value.run (F := Ideal) m' g')⟩

theorem claim : Cert.Claim := ⟨Cert.Kernel.Gen.facts, Cert.KernelIdeal.Gen.facts, Cert.ReferenceIdeal.Gen.facts,
  Cert.InC.Gen.facts, Cert.InCIdeal.Gen.facts, Cert.InCRefIdeal.Gen.facts,
  Cert.InA.Gen.facts, Cert.InAIdeal.Gen.facts, Cert.InARefIdeal.Gen.facts,
  Cert.InS.Gen.facts, Cert.InSIdeal.Gen.facts, Cert.InSRefIdeal.Gen.facts,
  Cert.MemKV.Gen.facts, Cert.MemKVIdeal.Gen.facts, Cert.MemKVRefIdeal.Gen.facts,
  Cert.OutA.Gen.facts, Cert.OutAIdeal.Gen.facts, Cert.OutARefIdeal.Gen.facts,
  Cert.OutC.Gen.facts, Cert.OutCIdeal.Gen.facts, Cert.OutCRefIdeal.Gen.facts,
  Cert.OutF.Gen.facts, Cert.OutFIdeal.Gen.facts, Cert.OutFRefIdeal.Gen.facts,
  Cert.SmpA.Gen.facts, Cert.SmpAIdeal.Gen.facts, Cert.SmpARefIdeal.Gen.facts,
  Cert.SmpS.Gen.facts, Cert.SmpSIdeal.Gen.facts, Cert.SmpSRefIdeal.Gen.facts,
  Cert.SmpF.Gen.facts, Cert.SmpFIdeal.Gen.facts, Cert.SmpFRefIdeal.Gen.facts,
  Cert.Rope.Gen.facts, Cert.RopeIdeal.Gen.facts, Cert.RopeRefIdeal.Gen.facts,
  preFacts,
  frame_K, frame_KI, fun m g _ => frame_KI m g trivial, frame_RI, fun m g _ => frame_RI m g trivial,
  fun m ρ _ => Cert.InC.Gen.frame m ρ, fun m ρ _ => Cert.InCIdeal.Gen.frame m ρ, frame_InCR,
  fun m ρ _ => Cert.InA.Gen.frame m ρ, fun m ρ _ => Cert.InAIdeal.Gen.frame m ρ, frame_InAR,
  fun m ρ _ => Cert.InS.Gen.frame m ρ, fun m ρ _ => Cert.InSIdeal.Gen.frame m ρ, frame_InSR,
  fun m ρ _ => Cert.MemKV.Gen.frame m ρ, fun m ρ _ => Cert.MemKVIdeal.Gen.frame m ρ, frame_MemKVR,
  fun m ρ _ => Cert.OutA.Gen.frame m ρ, fun m ρ _ => Cert.OutAIdeal.Gen.frame m ρ, frame_OutAR,
  fun m ρ _ => Cert.OutC.Gen.frame m ρ, fun m ρ _ => Cert.OutCIdeal.Gen.frame m ρ, frame_OutCR,
  fun m ρ _ => Cert.OutF.Gen.frame m ρ, fun m ρ _ => Cert.OutFIdeal.Gen.frame m ρ, frame_OutFR,
  fun m ρ _ => Cert.SmpA.Gen.frame m ρ, fun m ρ _ => Cert.SmpAIdeal.Gen.frame m ρ, frame_SmpAR,
  fun m ρ _ => Cert.SmpS.Gen.frame m ρ, fun m ρ _ => Cert.SmpSIdeal.Gen.frame m ρ, frame_SmpSR,
  fun m ρ _ => Cert.SmpF.Gen.frame m ρ, fun m ρ _ => Cert.SmpFIdeal.Gen.frame m ρ, frame_SmpFR,
  fun m ρ _ => Cert.Rope.Gen.frame m ρ, fun m ρ _ => Cert.RopeIdeal.Gen.frame m ρ, frame_RopeR,
  keeps, same,
  trivial, same_InC,
  trivial, same_InA,
  trivial, same_InS,
  trivial, same_MemKV,
  trivial, same_OutA,
  trivial, same_OutC,
  trivial, same_OutF,
  trivial, same_SmpA,
  trivial, same_SmpS,
  trivial, same_SmpF,
  trivial, same_Rope⟩

end Cert.Proof

end
